-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11)
      ∧ r.2.mem ((c.tc : Thread Cert.Kernel12.nD Cert.Kernel12.τ).loc Cert.Kernel12.main_arg12) = m ((c.tc : Thread Cert.Kernel12.nD Cert.Kernel12.τ).loc Cert.Kernel12.main_arg12)
      ∧ r.2.mem ((c.tc : Thread Cert.Kernel12.nD Cert.Kernel12.τ).loc Cert.Kernel12.main_arg13) = m ((c.tc : Thread Cert.Kernel12.nD Cert.Kernel12.τ).loc Cert.Kernel12.main_arg13)
      ∧ r.2.mem ((c.tc : Thread Cert.Kernel12.nD Cert.Kernel12.τ).loc Cert.Kernel12.main_arg14) = m ((c.tc : Thread Cert.Kernel12.nD Cert.Kernel12.τ).loc Cert.Kernel12.main_arg14)
      ∧ r.2.mem ((c.tc : Thread Cert.Kernel12.nD Cert.Kernel12.τ).loc Cert.Kernel12.main_arg15) = m ((c.tc : Thread Cert.Kernel12.nD Cert.Kernel12.τ).loc Cert.Kernel12.main_arg15)
      ∧ r.2.mem ((c.tc : Thread Cert.Kernel12.nD Cert.Kernel12.τ).loc Cert.Kernel12.main_arg16) = m ((c.tc : Thread Cert.Kernel12.nD Cert.Kernel12.τ).loc Cert.Kernel12.main_arg16)
      ∧ r.2.mem ((c.tc : Thread Cert.Kernel12.nD Cert.Kernel12.τ).loc Cert.Kernel12.main_arg17) = m ((c.tc : Thread Cert.Kernel12.nD Cert.Kernel12.τ).loc Cert.Kernel12.main_arg17)
      ∧ r.2.mem ((c.tc : Thread Cert.Kernel12.nD Cert.Kernel12.τ).loc Cert.Kernel12.main_arg18) = m ((c.tc : Thread Cert.Kernel12.nD Cert.Kernel12.τ).loc Cert.Kernel12.main_arg18)
      ∧ r.2.mem ((c.tc : Thread Cert.Kernel12.nD Cert.Kernel12.τ).loc Cert.Kernel12.main_arg19) = m ((c.tc : Thread Cert.Kernel12.nD Cert.Kernel12.τ).loc Cert.Kernel12.main_arg19)
      ∧ r.2.mem ((c.tc : Thread Cert.Kernel12.nD Cert.Kernel12.τ).loc Cert.Kernel12.main_arg20) = m ((c.tc : Thread Cert.Kernel12.nD Cert.Kernel12.τ).loc Cert.Kernel12.main_arg20)
      ∧ r.2.mem ((c.tc : Thread Cert.Kernel12.nD Cert.Kernel12.τ).loc Cert.Kernel12.main_arg21) = m ((c.tc : Thread Cert.Kernel12.nD Cert.Kernel12.τ).loc Cert.Kernel12.main_arg21)
      ∧ r.2.mem ((c.tc : Thread Cert.Kernel12.nD Cert.Kernel12.τ).loc Cert.Kernel12.main_arg22) = m ((c.tc : Thread Cert.Kernel12.nD Cert.Kernel12.τ).loc Cert.Kernel12.main_arg22)
      ∧ r.2.mem ((c.tc : Thread Cert.Kernel12.nD Cert.Kernel12.τ).loc Cert.Kernel12.main_arg23) = m ((c.tc : Thread Cert.Kernel12.nD Cert.Kernel12.τ).loc Cert.Kernel12.main_arg23))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
      ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
      ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
      ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
      ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
      ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
      ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
      ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19)
      ∧ r.2.mem ((c.tc : Thread Cert.Kernel12Ideal.nD Cert.Kernel12Ideal.τ).loc Cert.Kernel12Ideal.main_arg20) = m ((c.tc : Thread Cert.Kernel12Ideal.nD Cert.Kernel12Ideal.τ).loc Cert.Kernel12Ideal.main_arg20)
      ∧ r.2.mem ((c.tc : Thread Cert.Kernel12Ideal.nD Cert.Kernel12Ideal.τ).loc Cert.Kernel12Ideal.main_arg21) = m ((c.tc : Thread Cert.Kernel12Ideal.nD Cert.Kernel12Ideal.τ).loc Cert.Kernel12Ideal.main_arg21)
      ∧ r.2.mem ((c.tc : Thread Cert.Kernel12Ideal.nD Cert.Kernel12Ideal.τ).loc Cert.Kernel12Ideal.main_arg22) = m ((c.tc : Thread Cert.Kernel12Ideal.nD Cert.Kernel12Ideal.τ).loc Cert.Kernel12Ideal.main_arg22)
      ∧ r.2.mem ((c.tc : Thread Cert.Kernel12Ideal.nD Cert.Kernel12Ideal.τ).loc Cert.Kernel12Ideal.main_arg23) = m ((c.tc : Thread Cert.Kernel12Ideal.nD Cert.Kernel12Ideal.τ).loc Cert.Kernel12Ideal.main_arg23))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11)
      ∧ r.2.mem ((c.tc : Thread Cert.Reference12Ideal.nD Cert.Reference12Ideal.τ).loc Cert.Reference12Ideal.main_arg12) = m ((c.tc : Thread Cert.Reference12Ideal.nD Cert.Reference12Ideal.τ).loc Cert.Reference12Ideal.main_arg12)
      ∧ r.2.mem ((c.tc : Thread Cert.Reference12Ideal.nD Cert.Reference12Ideal.τ).loc Cert.Reference12Ideal.main_arg13) = m ((c.tc : Thread Cert.Reference12Ideal.nD Cert.Reference12Ideal.τ).loc Cert.Reference12Ideal.main_arg13)
      ∧ r.2.mem ((c.tc : Thread Cert.Reference12Ideal.nD Cert.Reference12Ideal.τ).loc Cert.Reference12Ideal.main_arg14) = m ((c.tc : Thread Cert.Reference12Ideal.nD Cert.Reference12Ideal.τ).loc Cert.Reference12Ideal.main_arg14)
      ∧ r.2.mem ((c.tc : Thread Cert.Reference12Ideal.nD Cert.Reference12Ideal.τ).loc Cert.Reference12Ideal.main_arg15) = m ((c.tc : Thread Cert.Reference12Ideal.nD Cert.Reference12Ideal.τ).loc Cert.Reference12Ideal.main_arg15)
      ∧ r.2.mem ((c.tc : Thread Cert.Reference12Ideal.nD Cert.Reference12Ideal.τ).loc Cert.Reference12Ideal.main_arg16) = m ((c.tc : Thread Cert.Reference12Ideal.nD Cert.Reference12Ideal.τ).loc Cert.Reference12Ideal.main_arg16)
      ∧ r.2.mem ((c.tc : Thread Cert.Reference12Ideal.nD Cert.Reference12Ideal.τ).loc Cert.Reference12Ideal.main_arg17) = m ((c.tc : Thread Cert.Reference12Ideal.nD Cert.Reference12Ideal.τ).loc Cert.Reference12Ideal.main_arg17)
      ∧ r.2.mem ((c.tc : Thread Cert.Reference12Ideal.nD Cert.Reference12Ideal.τ).loc Cert.Reference12Ideal.main_arg18) = m ((c.tc : Thread Cert.Reference12Ideal.nD Cert.Reference12Ideal.τ).loc Cert.Reference12Ideal.main_arg18)
      ∧ r.2.mem ((c.tc : Thread Cert.Reference12Ideal.nD Cert.Reference12Ideal.τ).loc Cert.Reference12Ideal.main_arg19) = m ((c.tc : Thread Cert.Reference12Ideal.nD Cert.Reference12Ideal.τ).loc Cert.Reference12Ideal.main_arg19)
      ∧ r.2.mem ((c.tc : Thread Cert.Reference12Ideal.nD Cert.Reference12Ideal.τ).loc Cert.Reference12Ideal.main_arg20) = m ((c.tc : Thread Cert.Reference12Ideal.nD Cert.Reference12Ideal.τ).loc Cert.Reference12Ideal.main_arg20)
      ∧ r.2.mem ((c.tc : Thread Cert.Reference12Ideal.nD Cert.Reference12Ideal.τ).loc Cert.Reference12Ideal.main_arg21) = m ((c.tc : Thread Cert.Reference12Ideal.nD Cert.Reference12Ideal.τ).loc Cert.Reference12Ideal.main_arg21)
      ∧ r.2.mem ((c.tc : Thread Cert.Reference12Ideal.nD Cert.Reference12Ideal.τ).loc Cert.Reference12Ideal.main_arg22) = m ((c.tc : Thread Cert.Reference12Ideal.nD Cert.Reference12Ideal.τ).loc Cert.Reference12Ideal.main_arg22)
      ∧ r.2.mem ((c.tc : Thread Cert.Reference12Ideal.nD Cert.Reference12Ideal.τ).loc Cert.Reference12Ideal.main_arg23) = m ((c.tc : Thread Cert.Reference12Ideal.nD Cert.Reference12Ideal.τ).loc Cert.Reference12Ideal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v42) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v40_0)) (v1 : (c : Dev Cert.Kernel2Ideal.nD) → Buf (Elt Ideal) ((c.tc : Thread Cert.Kernel2Ideal.nD Cert.Kernel2Ideal.τ).loc Cert.Kernel2Ideal.main_v40_1)) (v2 : (c : Dev Cert.Kernel2Ideal.nD) → Buf (Elt Ideal) ((c.tc : Thread Cert.Kernel2Ideal.nD Cert.Kernel2Ideal.τ).loc Cert.Kernel2Ideal.main_v40_2)) (v3 : (c : Dev Cert.Kernel2Ideal.nD) → Buf (Elt Ideal) ((c.tc : Thread Cert.Kernel2Ideal.nD Cert.Kernel2Ideal.τ).loc Cert.Kernel2Ideal.main_v40_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40_0) = v0 c
          ∧ r.2.mem ((c.tc : Thread Cert.Kernel2Ideal.nD Cert.Kernel2Ideal.τ).loc Cert.Kernel2Ideal.main_v40_1) = v1 c
          ∧ r.2.mem ((c.tc : Thread Cert.Kernel2Ideal.nD Cert.Kernel2Ideal.τ).loc Cert.Kernel2Ideal.main_v40_2) = v2 c
          ∧ r.2.mem ((c.tc : Thread Cert.Kernel2Ideal.nD Cert.Kernel2Ideal.τ).loc Cert.Kernel2Ideal.main_v40_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v55) = v2 c
          ∧ r.2.mem ((c.tc : Thread Cert.Reference2Ideal.nD Cert.Reference2Ideal.τ).loc Cert.Reference2Ideal.main_v33) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)) →
    ∃ (v0 : (c : Dev Cert.Kernel8Ideal.nD) → Buf (Elt Ideal) ((c.tc : Thread Cert.Kernel8Ideal.nD Cert.Kernel8Ideal.τ).loc Cert.Kernel8Ideal.main_v23_0)) (v1 : (c : Dev Cert.Kernel8Ideal.nD) → Buf (Elt Ideal) ((c.tc : Thread Cert.Kernel8Ideal.nD Cert.Kernel8Ideal.τ).loc Cert.Kernel8Ideal.main_v23_1)) (v2 : (c : Dev Cert.Kernel8Ideal.nD) → Buf (Elt Ideal) ((c.tc : Thread Cert.Kernel8Ideal.nD Cert.Kernel8Ideal.τ).loc Cert.Kernel8Ideal.main_v23_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v23_0) = v0 c
          ∧ r.2.mem ((c.tc : Thread Cert.Kernel8Ideal.nD Cert.Kernel8Ideal.τ).loc Cert.Kernel8Ideal.main_v23_1) = v1 c
          ∧ r.2.mem ((c.tc : Thread Cert.Kernel8Ideal.nD Cert.Kernel8Ideal.τ).loc Cert.Kernel8Ideal.main_v23_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v122) = v0 c
          ∧ r.2.mem ((c.tc : Thread Cert.Reference8Ideal.nD Cert.Reference8Ideal.τ).loc Cert.Reference8Ideal.main_v123) = v1 c
          ∧ r.2.mem ((c.tc : Thread Cert.Reference8Ideal.nD Cert.Reference8Ideal.τ).loc Cert.Reference8Ideal.main_v98) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v23_0)) (v1 : (c : Dev Cert.Kernel10Ideal.nD) → Buf (Elt Ideal) ((c.tc : Thread Cert.Kernel10Ideal.nD Cert.Kernel10Ideal.τ).loc Cert.Kernel10Ideal.main_v23_1)) (v2 : (c : Dev Cert.Kernel10Ideal.nD) → Buf (Elt Ideal) ((c.tc : Thread Cert.Kernel10Ideal.nD Cert.Kernel10Ideal.τ).loc Cert.Kernel10Ideal.main_v23_2)) (v3 : (c : Dev Cert.Kernel10Ideal.nD) → Buf (Elt Ideal) ((c.tc : Thread Cert.Kernel10Ideal.nD Cert.Kernel10Ideal.τ).loc Cert.Kernel10Ideal.main_v23_3)) (v4 : (c : Dev Cert.Kernel10Ideal.nD) → Buf (Elt Ideal) ((c.tc : Thread Cert.Kernel10Ideal.nD Cert.Kernel10Ideal.τ).loc Cert.Kernel10Ideal.main_v23_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v23_0) = v0 c
          ∧ r.2.mem ((c.tc : Thread Cert.Kernel10Ideal.nD Cert.Kernel10Ideal.τ).loc Cert.Kernel10Ideal.main_v23_1) = v1 c
          ∧ r.2.mem ((c.tc : Thread Cert.Kernel10Ideal.nD Cert.Kernel10Ideal.τ).loc Cert.Kernel10Ideal.main_v23_2) = v2 c
          ∧ r.2.mem ((c.tc : Thread Cert.Kernel10Ideal.nD Cert.Kernel10Ideal.τ).loc Cert.Kernel10Ideal.main_v23_3) = v3 c
          ∧ r.2.mem ((c.tc : Thread Cert.Kernel10Ideal.nD Cert.Kernel10Ideal.τ).loc Cert.Kernel10Ideal.main_v23_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v55) = v0 c
          ∧ r.2.mem ((c.tc : Thread Cert.Reference10Ideal.nD Cert.Reference10Ideal.τ).loc Cert.Reference10Ideal.main_v56) = v1 c
          ∧ r.2.mem ((c.tc : Thread Cert.Reference10Ideal.nD Cert.Reference10Ideal.τ).loc Cert.Reference10Ideal.main_v57) = v2 c
          ∧ r.2.mem ((c.tc : Thread Cert.Reference10Ideal.nD Cert.Reference10Ideal.τ).loc Cert.Reference10Ideal.main_v58) = v3 c
          ∧ r.2.mem ((c.tc : Thread Cert.Reference10Ideal.nD Cert.Reference10Ideal.τ).loc Cert.Reference10Ideal.main_v17) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)) (v2 : (c : Dev Cert.Kernel11Ideal.nD) → Buf (Elt Ideal) ((c.tc : Thread Cert.Kernel11Ideal.nD Cert.Kernel11Ideal.τ).loc Cert.Kernel11Ideal.main_v8_2)) (v3 : (c : Dev Cert.Kernel11Ideal.nD) → Buf (Elt Ideal) ((c.tc : Thread Cert.Kernel11Ideal.nD Cert.Kernel11Ideal.τ).loc Cert.Kernel11Ideal.main_v8_3)) (v4 : (c : Dev Cert.Kernel11Ideal.nD) → Buf (Elt Ideal) ((c.tc : Thread Cert.Kernel11Ideal.nD Cert.Kernel11Ideal.τ).loc Cert.Kernel11Ideal.main_v8_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_v8_2) = v2 c
          ∧ r.2.mem ((c.tc : Thread Cert.Kernel11Ideal.nD Cert.Kernel11Ideal.τ).loc Cert.Kernel11Ideal.main_v8_3) = v3 c
          ∧ r.2.mem ((c.tc : Thread Cert.Kernel11Ideal.nD Cert.Kernel11Ideal.τ).loc Cert.Kernel11Ideal.main_v8_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_v33) = v1 c
          ∧ r.2.mem ((c.tc : Thread Cert.Reference11Ideal.nD Cert.Reference11Ideal.τ).loc Cert.Reference11Ideal.main_v22) = v2 c
          ∧ r.2.mem ((c.tc : Thread Cert.Reference11Ideal.nD Cert.Reference11Ideal.τ).loc Cert.Reference11Ideal.main_v25) = v3 c
          ∧ r.2.mem ((c.tc : Thread Cert.Reference11Ideal.nD Cert.Reference11Ideal.τ).loc Cert.Reference11Ideal.main_v28) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)
      ∧ m' ((c.tc : Thread Cert.Reference12Ideal.nD Cert.Reference12Ideal.τ).loc Cert.Reference12Ideal.main_arg12) = m ((c.tc : Thread Cert.Kernel12Ideal.nD Cert.Kernel12Ideal.τ).loc Cert.Kernel12Ideal.main_arg12)
      ∧ m' ((c.tc : Thread Cert.Reference12Ideal.nD Cert.Reference12Ideal.τ).loc Cert.Reference12Ideal.main_arg13) = m ((c.tc : Thread Cert.Kernel12Ideal.nD Cert.Kernel12Ideal.τ).loc Cert.Kernel12Ideal.main_arg13)
      ∧ m' ((c.tc : Thread Cert.Reference12Ideal.nD Cert.Reference12Ideal.τ).loc Cert.Reference12Ideal.main_arg14) = m ((c.tc : Thread Cert.Kernel12Ideal.nD Cert.Kernel12Ideal.τ).loc Cert.Kernel12Ideal.main_arg14)
      ∧ m' ((c.tc : Thread Cert.Reference12Ideal.nD Cert.Reference12Ideal.τ).loc Cert.Reference12Ideal.main_arg15) = m ((c.tc : Thread Cert.Kernel12Ideal.nD Cert.Kernel12Ideal.τ).loc Cert.Kernel12Ideal.main_arg15)
      ∧ m' ((c.tc : Thread Cert.Reference12Ideal.nD Cert.Reference12Ideal.τ).loc Cert.Reference12Ideal.main_arg16) = m ((c.tc : Thread Cert.Kernel12Ideal.nD Cert.Kernel12Ideal.τ).loc Cert.Kernel12Ideal.main_arg16)
      ∧ m' ((c.tc : Thread Cert.Reference12Ideal.nD Cert.Reference12Ideal.τ).loc Cert.Reference12Ideal.main_arg17) = m ((c.tc : Thread Cert.Kernel12Ideal.nD Cert.Kernel12Ideal.τ).loc Cert.Kernel12Ideal.main_arg17)
      ∧ m' ((c.tc : Thread Cert.Reference12Ideal.nD Cert.Reference12Ideal.τ).loc Cert.Reference12Ideal.main_arg18) = m ((c.tc : Thread Cert.Kernel12Ideal.nD Cert.Kernel12Ideal.τ).loc Cert.Kernel12Ideal.main_arg18)
      ∧ m' ((c.tc : Thread Cert.Reference12Ideal.nD Cert.Reference12Ideal.τ).loc Cert.Reference12Ideal.main_arg19) = m ((c.tc : Thread Cert.Kernel12Ideal.nD Cert.Kernel12Ideal.τ).loc Cert.Kernel12Ideal.main_arg19)
      ∧ m' ((c.tc : Thread Cert.Reference12Ideal.nD Cert.Reference12Ideal.τ).loc Cert.Reference12Ideal.main_arg20) = m ((c.tc : Thread Cert.Kernel12Ideal.nD Cert.Kernel12Ideal.τ).loc Cert.Kernel12Ideal.main_arg20)
      ∧ m' ((c.tc : Thread Cert.Reference12Ideal.nD Cert.Reference12Ideal.τ).loc Cert.Reference12Ideal.main_arg21) = m ((c.tc : Thread Cert.Kernel12Ideal.nD Cert.Kernel12Ideal.τ).loc Cert.Kernel12Ideal.main_arg21)
      ∧ m' ((c.tc : Thread Cert.Reference12Ideal.nD Cert.Reference12Ideal.τ).loc Cert.Reference12Ideal.main_arg22) = m ((c.tc : Thread Cert.Kernel12Ideal.nD Cert.Kernel12Ideal.τ).loc Cert.Kernel12Ideal.main_arg22)
      ∧ m' ((c.tc : Thread Cert.Reference12Ideal.nD Cert.Reference12Ideal.τ).loc Cert.Reference12Ideal.main_arg23) = m ((c.tc : Thread Cert.Kernel12Ideal.nD Cert.Kernel12Ideal.τ).loc Cert.Kernel12Ideal.main_arg23)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v8_1)) (v2 : (c : Dev Cert.Kernel12Ideal.nD) → Buf (Elt Ideal) ((c.tc : Thread Cert.Kernel12Ideal.nD Cert.Kernel12Ideal.τ).loc Cert.Kernel12Ideal.main_v8_2)) (v3 : (c : Dev Cert.Kernel12Ideal.nD) → Buf (Elt Ideal) ((c.tc : Thread Cert.Kernel12Ideal.nD Cert.Kernel12Ideal.τ).loc Cert.Kernel12Ideal.main_v8_3)) (v4 : (c : Dev Cert.Kernel12Ideal.nD) → Buf (Elt Ideal) ((c.tc : Thread Cert.Kernel12Ideal.nD Cert.Kernel12Ideal.τ).loc Cert.Kernel12Ideal.main_v8_4)) (v5 : (c : Dev Cert.Kernel12Ideal.nD) → Buf (Elt Ideal) ((c.tc : Thread Cert.Kernel12Ideal.nD Cert.Kernel12Ideal.τ).loc Cert.Kernel12Ideal.main_v8_5)) (v6 : (c : Dev Cert.Kernel12Ideal.nD) → Buf (Elt Ideal) ((c.tc : Thread Cert.Kernel12Ideal.nD Cert.Kernel12Ideal.τ).loc Cert.Kernel12Ideal.main_v8_6)) (v7 : (c : Dev Cert.Kernel12Ideal.nD) → Buf (Elt Ideal) ((c.tc : Thread Cert.Kernel12Ideal.nD Cert.Kernel12Ideal.τ).loc Cert.Kernel12Ideal.main_v8_7)) (v8 : (c : Dev Cert.Kernel12Ideal.nD) → Buf (Elt Ideal) ((c.tc : Thread Cert.Kernel12Ideal.nD Cert.Kernel12Ideal.τ).loc Cert.Kernel12Ideal.main_v8_8)) (v9 : (c : Dev Cert.Kernel12Ideal.nD) → Buf (Elt Ideal) ((c.tc : Thread Cert.Kernel12Ideal.nD Cert.Kernel12Ideal.τ).loc Cert.Kernel12Ideal.main_v8_9)) (v10 : (c : Dev Cert.Kernel12Ideal.nD) → Buf (Elt Ideal) ((c.tc : Thread Cert.Kernel12Ideal.nD Cert.Kernel12Ideal.τ).loc Cert.Kernel12Ideal.main_v8_10)) (v11 : (c : Dev Cert.Kernel12Ideal.nD) → Buf (Elt Ideal) ((c.tc : Thread Cert.Kernel12Ideal.nD Cert.Kernel12Ideal.τ).loc Cert.Kernel12Ideal.main_v8_11)) (v12 : (c : Dev Cert.Kernel12Ideal.nD) → Buf (Elt Ideal) ((c.tc : Thread Cert.Kernel12Ideal.nD Cert.Kernel12Ideal.τ).loc Cert.Kernel12Ideal.main_v8_12)) (v13 : (c : Dev Cert.Kernel12Ideal.nD) → Buf (Elt Ideal) ((c.tc : Thread Cert.Kernel12Ideal.nD Cert.Kernel12Ideal.τ).loc Cert.Kernel12Ideal.main_v8_13)) (v14 : (c : Dev Cert.Kernel12Ideal.nD) → Buf (Elt Ideal) ((c.tc : Thread Cert.Kernel12Ideal.nD Cert.Kernel12Ideal.τ).loc Cert.Kernel12Ideal.main_v8_14)) (v15 : (c : Dev Cert.Kernel12Ideal.nD) → Buf (Elt Ideal) ((c.tc : Thread Cert.Kernel12Ideal.nD Cert.Kernel12Ideal.τ).loc Cert.Kernel12Ideal.main_v8_15)) (v16 : (c : Dev Cert.Kernel12Ideal.nD) → Buf (Elt Ideal) ((c.tc : Thread Cert.Kernel12Ideal.nD Cert.Kernel12Ideal.τ).loc Cert.Kernel12Ideal.main_v8_16)) (v17 : (c : Dev Cert.Kernel12Ideal.nD) → Buf (Elt Ideal) ((c.tc : Thread Cert.Kernel12Ideal.nD Cert.Kernel12Ideal.τ).loc Cert.Kernel12Ideal.main_v8_17)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v8_1) = v1 c
          ∧ r.2.mem ((c.tc : Thread Cert.Kernel12Ideal.nD Cert.Kernel12Ideal.τ).loc Cert.Kernel12Ideal.main_v8_2) = v2 c
          ∧ r.2.mem ((c.tc : Thread Cert.Kernel12Ideal.nD Cert.Kernel12Ideal.τ).loc Cert.Kernel12Ideal.main_v8_3) = v3 c
          ∧ r.2.mem ((c.tc : Thread Cert.Kernel12Ideal.nD Cert.Kernel12Ideal.τ).loc Cert.Kernel12Ideal.main_v8_4) = v4 c
          ∧ r.2.mem ((c.tc : Thread Cert.Kernel12Ideal.nD Cert.Kernel12Ideal.τ).loc Cert.Kernel12Ideal.main_v8_5) = v5 c
          ∧ r.2.mem ((c.tc : Thread Cert.Kernel12Ideal.nD Cert.Kernel12Ideal.τ).loc Cert.Kernel12Ideal.main_v8_6) = v6 c
          ∧ r.2.mem ((c.tc : Thread Cert.Kernel12Ideal.nD Cert.Kernel12Ideal.τ).loc Cert.Kernel12Ideal.main_v8_7) = v7 c
          ∧ r.2.mem ((c.tc : Thread Cert.Kernel12Ideal.nD Cert.Kernel12Ideal.τ).loc Cert.Kernel12Ideal.main_v8_8) = v8 c
          ∧ r.2.mem ((c.tc : Thread Cert.Kernel12Ideal.nD Cert.Kernel12Ideal.τ).loc Cert.Kernel12Ideal.main_v8_9) = v9 c
          ∧ r.2.mem ((c.tc : Thread Cert.Kernel12Ideal.nD Cert.Kernel12Ideal.τ).loc Cert.Kernel12Ideal.main_v8_10) = v10 c
          ∧ r.2.mem ((c.tc : Thread Cert.Kernel12Ideal.nD Cert.Kernel12Ideal.τ).loc Cert.Kernel12Ideal.main_v8_11) = v11 c
          ∧ r.2.mem ((c.tc : Thread Cert.Kernel12Ideal.nD Cert.Kernel12Ideal.τ).loc Cert.Kernel12Ideal.main_v8_12) = v12 c
          ∧ r.2.mem ((c.tc : Thread Cert.Kernel12Ideal.nD Cert.Kernel12Ideal.τ).loc Cert.Kernel12Ideal.main_v8_13) = v13 c
          ∧ r.2.mem ((c.tc : Thread Cert.Kernel12Ideal.nD Cert.Kernel12Ideal.τ).loc Cert.Kernel12Ideal.main_v8_14) = v14 c
          ∧ r.2.mem ((c.tc : Thread Cert.Kernel12Ideal.nD Cert.Kernel12Ideal.τ).loc Cert.Kernel12Ideal.main_v8_15) = v15 c
          ∧ r.2.mem ((c.tc : Thread Cert.Kernel12Ideal.nD Cert.Kernel12Ideal.τ).loc Cert.Kernel12Ideal.main_v8_16) = v16 c
          ∧ r.2.mem ((c.tc : Thread Cert.Kernel12Ideal.nD Cert.Kernel12Ideal.τ).loc Cert.Kernel12Ideal.main_v8_17) = v17 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
          ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
          ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
          ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
          ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
          ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
          ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
          ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
          ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19)
          ∧ r.2.mem ((c.tc : Thread Cert.Kernel12Ideal.nD Cert.Kernel12Ideal.τ).loc Cert.Kernel12Ideal.main_arg20) = m ((c.tc : Thread Cert.Kernel12Ideal.nD Cert.Kernel12Ideal.τ).loc Cert.Kernel12Ideal.main_arg20)
          ∧ r.2.mem ((c.tc : Thread Cert.Kernel12Ideal.nD Cert.Kernel12Ideal.τ).loc Cert.Kernel12Ideal.main_arg21) = m ((c.tc : Thread Cert.Kernel12Ideal.nD Cert.Kernel12Ideal.τ).loc Cert.Kernel12Ideal.main_arg21)
          ∧ r.2.mem ((c.tc : Thread Cert.Kernel12Ideal.nD Cert.Kernel12Ideal.τ).loc Cert.Kernel12Ideal.main_arg22) = m ((c.tc : Thread Cert.Kernel12Ideal.nD Cert.Kernel12Ideal.τ).loc Cert.Kernel12Ideal.main_arg22)
          ∧ r.2.mem ((c.tc : Thread Cert.Kernel12Ideal.nD Cert.Kernel12Ideal.τ).loc Cert.Kernel12Ideal.main_arg23) = m ((c.tc : Thread Cert.Kernel12Ideal.nD Cert.Kernel12Ideal.τ).loc Cert.Kernel12Ideal.main_arg23))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v47) = v1 c
          ∧ r.2.mem ((c.tc : Thread Cert.Reference12Ideal.nD Cert.Reference12Ideal.τ).loc Cert.Reference12Ideal.main_v144) = v2 c
          ∧ r.2.mem ((c.tc : Thread Cert.Reference12Ideal.nD Cert.Reference12Ideal.τ).loc Cert.Reference12Ideal.main_v95) = v3 c
          ∧ r.2.mem ((c.tc : Thread Cert.Reference12Ideal.nD Cert.Reference12Ideal.τ).loc Cert.Reference12Ideal.main_v119) = v4 c
          ∧ r.2.mem ((c.tc : Thread Cert.Reference12Ideal.nD Cert.Reference12Ideal.τ).loc Cert.Reference12Ideal.main_v145) = v5 c
          ∧ r.2.mem ((c.tc : Thread Cert.Reference12Ideal.nD Cert.Reference12Ideal.τ).loc Cert.Reference12Ideal.main_v4) = v6 c
          ∧ r.2.mem ((c.tc : Thread Cert.Reference12Ideal.nD Cert.Reference12Ideal.τ).loc Cert.Reference12Ideal.main_v28) = v7 c
          ∧ r.2.mem ((c.tc : Thread Cert.Reference12Ideal.nD Cert.Reference12Ideal.τ).loc Cert.Reference12Ideal.main_v146) = v8 c
          ∧ r.2.mem ((c.tc : Thread Cert.Reference12Ideal.nD Cert.Reference12Ideal.τ).loc Cert.Reference12Ideal.main_v76) = v9 c
          ∧ r.2.mem ((c.tc : Thread Cert.Reference12Ideal.nD Cert.Reference12Ideal.τ).loc Cert.Reference12Ideal.main_v100) = v10 c
          ∧ r.2.mem ((c.tc : Thread Cert.Reference12Ideal.nD Cert.Reference12Ideal.τ).loc Cert.Reference12Ideal.main_v147) = v11 c
          ∧ r.2.mem ((c.tc : Thread Cert.Reference12Ideal.nD Cert.Reference12Ideal.τ).loc Cert.Reference12Ideal.main_v10) = v12 c
          ∧ r.2.mem ((c.tc : Thread Cert.Reference12Ideal.nD Cert.Reference12Ideal.τ).loc Cert.Reference12Ideal.main_v34) = v13 c
          ∧ r.2.mem ((c.tc : Thread Cert.Reference12Ideal.nD Cert.Reference12Ideal.τ).loc Cert.Reference12Ideal.main_v148) = v14 c
          ∧ r.2.mem ((c.tc : Thread Cert.Reference12Ideal.nD Cert.Reference12Ideal.τ).loc Cert.Reference12Ideal.main_v82) = v15 c
          ∧ r.2.mem ((c.tc : Thread Cert.Reference12Ideal.nD Cert.Reference12Ideal.τ).loc Cert.Reference12Ideal.main_v106) = v16 c
          ∧ r.2.mem ((c.tc : Thread Cert.Reference12Ideal.nD Cert.Reference12Ideal.τ).loc Cert.Reference12Ideal.main_v149) = v17 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11)
          ∧ r.2.mem ((c.tc : Thread Cert.Reference12Ideal.nD Cert.Reference12Ideal.τ).loc Cert.Reference12Ideal.main_arg12) = m' ((c.tc : Thread Cert.Reference12Ideal.nD Cert.Reference12Ideal.τ).loc Cert.Reference12Ideal.main_arg12)
          ∧ r.2.mem ((c.tc : Thread Cert.Reference12Ideal.nD Cert.Reference12Ideal.τ).loc Cert.Reference12Ideal.main_arg13) = m' ((c.tc : Thread Cert.Reference12Ideal.nD Cert.Reference12Ideal.τ).loc Cert.Reference12Ideal.main_arg13)
          ∧ r.2.mem ((c.tc : Thread Cert.Reference12Ideal.nD Cert.Reference12Ideal.τ).loc Cert.Reference12Ideal.main_arg14) = m' ((c.tc : Thread Cert.Reference12Ideal.nD Cert.Reference12Ideal.τ).loc Cert.Reference12Ideal.main_arg14)
          ∧ r.2.mem ((c.tc : Thread Cert.Reference12Ideal.nD Cert.Reference12Ideal.τ).loc Cert.Reference12Ideal.main_arg15) = m' ((c.tc : Thread Cert.Reference12Ideal.nD Cert.Reference12Ideal.τ).loc Cert.Reference12Ideal.main_arg15)
          ∧ r.2.mem ((c.tc : Thread Cert.Reference12Ideal.nD Cert.Reference12Ideal.τ).loc Cert.Reference12Ideal.main_arg16) = m' ((c.tc : Thread Cert.Reference12Ideal.nD Cert.Reference12Ideal.τ).loc Cert.Reference12Ideal.main_arg16)
          ∧ r.2.mem ((c.tc : Thread Cert.Reference12Ideal.nD Cert.Reference12Ideal.τ).loc Cert.Reference12Ideal.main_arg17) = m' ((c.tc : Thread Cert.Reference12Ideal.nD Cert.Reference12Ideal.τ).loc Cert.Reference12Ideal.main_arg17)
          ∧ r.2.mem ((c.tc : Thread Cert.Reference12Ideal.nD Cert.Reference12Ideal.τ).loc Cert.Reference12Ideal.main_arg18) = m' ((c.tc : Thread Cert.Reference12Ideal.nD Cert.Reference12Ideal.τ).loc Cert.Reference12Ideal.main_arg18)
          ∧ r.2.mem ((c.tc : Thread Cert.Reference12Ideal.nD Cert.Reference12Ideal.τ).loc Cert.Reference12Ideal.main_arg19) = m' ((c.tc : Thread Cert.Reference12Ideal.nD Cert.Reference12Ideal.τ).loc Cert.Reference12Ideal.main_arg19)
          ∧ r.2.mem ((c.tc : Thread Cert.Reference12Ideal.nD Cert.Reference12Ideal.τ).loc Cert.Reference12Ideal.main_arg20) = m' ((c.tc : Thread Cert.Reference12Ideal.nD Cert.Reference12Ideal.τ).loc Cert.Reference12Ideal.main_arg20)
          ∧ r.2.mem ((c.tc : Thread Cert.Reference12Ideal.nD Cert.Reference12Ideal.τ).loc Cert.Reference12Ideal.main_arg21) = m' ((c.tc : Thread Cert.Reference12Ideal.nD Cert.Reference12Ideal.τ).loc Cert.Reference12Ideal.main_arg21)
          ∧ r.2.mem ((c.tc : Thread Cert.Reference12Ideal.nD Cert.Reference12Ideal.τ).loc Cert.Reference12Ideal.main_arg22) = m' ((c.tc : Thread Cert.Reference12Ideal.nD Cert.Reference12Ideal.τ).loc Cert.Reference12Ideal.main_arg22)
          ∧ r.2.mem ((c.tc : Thread Cert.Reference12Ideal.nD Cert.Reference12Ideal.τ).loc Cert.Reference12Ideal.main_arg23) = m' ((c.tc : Thread Cert.Reference12Ideal.nD Cert.Reference12Ideal.τ).loc Cert.Reference12Ideal.main_arg23))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite2 : Cert.Pre_finite2.Facts) (hPre_finite11 : Cert.Pre_finite11.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
-- ==== Pre_finite11.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) : IVec S8192x1024 1 × IVec S1x1024 1 × IVec S1024x2816 1 × IVec S1024x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite2.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1x1024 .f32) (main_arg3 : FVec F S1024x2816 .f32) (main_arg4 : FVec F S1024x2816 .f32) (main_arg5 : FVec F S2816x1024 .f32) : IVec S8192x1024 1 × IVec S8192x1024 1 × IVec S1x1024 1 × IVec S1024x2816 1 × IVec S1024x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Kernel.lean ====
abbrev S8192x1024 : Shape := ⟨2, ![8192, 1024]⟩
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S512x512 : Shape := ⟨2, ![512, 512]⟩
abbrev S512x2048 : Shape := ⟨2, ![512, 2048]⟩

abbrev nBuf : Space → Nat
  | .hbm => 15
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S8192x512, .bf16⟩
  | .hbm, ⟨11, _⟩ => ⟨S8192x512, .bf16⟩
  | .hbm, ⟨12, _⟩ => ⟨S8192x1024, .bf16⟩
  | .hbm, ⟨13, _⟩ => ⟨S8192x1024, .bf16⟩
  | .hbm, ⟨14, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | .local _ .vmem, ⟨20, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8192x1024 : Shape := ⟨2, ![8192, 1024]⟩
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x2048, .f32⟩
  | .hbm, ⟨49, _⟩ => ⟨S8192x512, .f32⟩
  | .hbm, ⟨50, _⟩ => ⟨S8192x512, .f32⟩
  | .hbm, ⟨51, _⟩ => ⟨S8192x512, .bf16⟩
  | .hbm, ⟨52, _⟩ => ⟨S8192x512, .bf16⟩
  | .hbm, ⟨53, _⟩ => ⟨S8192x1024, .bf16⟩
  | .hbm, ⟨54, _⟩ => ⟨S8192x1024, .bf16⟩
  | .hbm, ⟨55, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S4x704x1024 : Shape := ⟨3, ![4, 704, 1024]⟩
abbrev S8192x4x704 : Shape := ⟨3, ![8192, 4, 704]⟩
abbrev S4x8192x704 : Shape := ⟨3, ![4, 8192, 704]⟩
abbrev S1024x1024 : Shape := ⟨2, ![1024, 1024]⟩
abbrev S1x1024x704 : Shape := ⟨3, ![1, 1024, 704]⟩
abbrev S1x704x1024 : Shape := ⟨3, ![1, 704, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S1024 : Shape := ⟨1, ![1024]⟩
abbrev S1024x1 : Shape := ⟨2, ![1024, 1]⟩

abbrev nBuf : Space → Nat
  | .hbm => 56
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .bf16⟩
  | .hbm, ⟨39, _⟩ => ⟨S8192x2816, .bf16⟩
  | .hbm, ⟨40, _⟩ => ⟨S2816x1024, .f32⟩
  | .hbm, ⟨41, _⟩ => ⟨S4x704x1024, .f32⟩
  | .hbm, ⟨42, _⟩ => ⟨S4x704x1024, .bf16⟩
  | .hbm, ⟨43, _⟩ => ⟨S2816x1024, .f32⟩
  | .hbm, ⟨44, _⟩ => ⟨S4x704x1024, .f32⟩
  | .hbm, ⟨45, _⟩ => ⟨S4x704x1024, .bf16⟩
  | .hbm, ⟨46, _⟩ => ⟨S4x704x1024, .f32⟩
  | .hbm, ⟨47, _⟩ => ⟨S4x704x1024, .bf16⟩
  | .hbm, ⟨48, _⟩ => ⟨S8192x4x704, .bf16⟩
  | .hbm, ⟨49, _⟩ => ⟨S4x8192x704, .bf16⟩
  | .hbm, ⟨50, _⟩ => ⟨S8192x4x704, .bf16⟩
  | .hbm, ⟨51, _⟩ => ⟨S4x8192x704, .bf16⟩
  | .hbm, ⟨52, _⟩ => ⟨S8192x1024, .f32⟩
  | .hbm, ⟨53, _⟩ => ⟨S4x8192x704, .bf16⟩
  | .hbm, ⟨54, _⟩ => ⟨S4x8192x704, .bf16⟩
  | .hbm, ⟨55, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1024x1024, .f32⟩
  | .local _ .vmem, ⟨16, _⟩ => ⟨S1024x1024, .f32⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev main_v40_2 : Ref sig .tc := ⟨.hbm, 54, rfl⟩
abbrev main_v40_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c3_i32 : BitVec 32 := 3#32
  let v144 : BitVec 1 := Scalar.cmpi .eq arg1 c3_i32
  let v145 : BitVec 32 := Scalar.extui v144
  let c0_i32_123 : BitVec 32 := 0#32
  let v146 : BitVec 1 := Scalar.cmpi .ne v145 c0_i32_123
  v146

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference2Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S8192x4x704 : Shape := ⟨3, ![8192, 4, 704]⟩
abbrev S4x8192x704 : Shape := ⟨3, ![4, 8192, 704]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x4x704, .f32⟩
  | .hbm, ⟨82, _⟩ => ⟨S4x8192x704, .f32⟩
  | .hbm, ⟨83, _⟩ => ⟨S4x8192x704, .bf16⟩
  | .hbm, ⟨84, _⟩ => ⟨S8192x4x704, .f32⟩
  | .hbm, ⟨85, _⟩ => ⟨S4x8192x704, .f32⟩
  | .hbm, ⟨86, _⟩ => ⟨S4x8192x704, .bf16⟩
  | .hbm, ⟨87, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Kernel3.lean ====
abbrev S4x8192x704 : Shape := ⟨3, ![4, 8192, 704]⟩
abbrev S8192x1024 : Shape := ⟨2, ![8192, 1024]⟩
abbrev S4x704x1024 : Shape := ⟨3, ![4, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .f32⟩
  | .local _ .vmem, ⟨5, _⟩ => ⟨S1x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4x8192x704 : Shape := ⟨3, ![4, 8192, 704]⟩
abbrev S8192x1024 : Shape := ⟨2, ![8192, 1024]⟩
abbrev S8192x4x704 : Shape := ⟨3, ![8192, 4, 704]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S8192x1024, .f32⟩
  | .hbm, ⟨3, _⟩ => ⟨S8192x4x704, .bf16⟩
  | .hbm, ⟨4, _⟩ => ⟨S8192x2816, .bf16⟩
  | .hbm, ⟨5, _⟩ => ⟨S8192x2816, .f32⟩
  | .hbm, ⟨6, _⟩ => ⟨S_, .f32⟩
  | .hbm, ⟨7, _⟩ => ⟨S1024x2816, .f32⟩
  | .hbm, ⟨8, _⟩ => ⟨S8192x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .f32⟩
  | .hbm, ⟨2, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .f32⟩
  | .local _ .vmem, ⟨5, _⟩ => ⟨S1x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4x8192x704 : Shape := ⟨3, ![4, 8192, 704]⟩
abbrev S8192x1024 : Shape := ⟨2, ![8192, 1024]⟩
abbrev S8192x4x704 : Shape := ⟨3, ![8192, 4, 704]⟩
abbrev S8192x2816 : Shape := ⟨2, ![8192, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .f32⟩
  | .hbm, ⟨2, _⟩ => ⟨S8192x4x704, .bf16⟩
  | .hbm, ⟨3, _⟩ => ⟨S8192x2816, .bf16⟩
  | .hbm, ⟨4, _⟩ => ⟨S8192x2816, .f32⟩
  | .hbm, ⟨5, _⟩ => ⟨S_, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S1024x2816, .f32⟩
  | .hbm, ⟨15, _⟩ => ⟨S2816x1024, .f32⟩
  | .hbm, ⟨16, _⟩ => ⟨S4x704x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S8192x4352 : Shape := ⟨2, ![8192, 4352]⟩
abbrev S8192x1024 : Shape := ⟨2, ![8192, 1024]⟩
abbrev S2x2176x1024 : Shape := ⟨3, ![2, 2176, 1024]⟩
abbrev S2048x2176 : Shape := ⟨2, ![2048, 2176]⟩
abbrev S2048x1024 : Shape := ⟨2, ![2048, 1024]⟩
abbrev S1x2176x1024 : Shape := ⟨3, ![1, 2176, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4352, .bf16⟩
  | .hbm, ⟨1, _⟩ => ⟨S8192x1024, .bf16⟩
  | .hbm, ⟨2, _⟩ => ⟨S2x2176x1024, .f32⟩
  | .local _ .vmem, ⟨0, _⟩ => ⟨S2048x2176, .bf16⟩
  | .local _ .vmem, ⟨1, _⟩ => ⟨S2048x2176, .bf16⟩
  | .local _ .vmem, ⟨2, _⟩ => ⟨S2048x1024, .bf16⟩
  | .local _ .vmem, ⟨3, _⟩ => ⟨S2048x1024, .bf16⟩
  | .local _ .vmem, ⟨4, _⟩ => ⟨S1x2176x1024, .f32⟩
  | .local _ .vmem, ⟨5, _⟩ => ⟨S1x2176x1024, .f32⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x4352 : Shape := ⟨2, ![8192, 4352]⟩
abbrev S8192x1024 : Shape := ⟨2, ![8192, 1024]⟩
abbrev S_ : Shape := ⟨0, ![]⟩
abbrev S1024x4352 : Shape := ⟨2, ![1024, 4352]⟩
abbrev S4352x1024 : Shape := ⟨2, ![4352, 1024]⟩
abbrev S2x2176x1024 : Shape := ⟨3, ![2, 2176, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x4352, .f32⟩
  | .hbm, ⟨5, _⟩ => ⟨S8192x4352, .f32⟩
  | .hbm, ⟨6, _⟩ => ⟨S8192x4352, .f32⟩
  | .hbm, ⟨7, _⟩ => ⟨S4352x1024, .f32⟩
  | .hbm, ⟨8, _⟩ => ⟨S1024x4352, .f32⟩
  | .hbm, ⟨9, _⟩ => ⟨S4352x1024, .f32⟩
  | .hbm, ⟨10, _⟩ => ⟨S2x2176x1024, .f32⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x512 : Shape := ⟨2, ![8192, 512]⟩
abbrev S8192x1024 : Shape := ⟨2, ![8192, 1024]⟩
abbrev S4x512x256 : Shape := ⟨3, ![4, 512, 256]⟩
abbrev S2048x512 : Shape := ⟨2, ![2048, 512]⟩
abbrev S2048x1024 : Shape := ⟨2, ![2048, 1024]⟩
abbrev S512x1024 : Shape := ⟨2, ![512, 1024]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S4x512x256, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S4x512x256, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference7Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S_, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x512 : Shape := ⟨2, ![8192, 512]⟩
abbrev S8192x128 : Shape := ⟨2, ![8192, 128]⟩
abbrev S8192x2048 : Shape := ⟨2, ![8192, 2048]⟩
abbrev S8192x1024 : Shape := ⟨2, ![8192, 1024]⟩
abbrev S1x1024 : Shape := ⟨2, ![1, 1024]⟩
abbrev S1024x4352 : Shape := ⟨2, ![1024, 4352]⟩
abbrev S8192x32 : Shape := ⟨2, ![8192, 32]⟩
abbrev S4352x1024 : Shape := ⟨2, ![4352, 1024]⟩
abbrev S1536x1024 : Shape := ⟨2, ![1536, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S2304x1024 : Shape := ⟨2, ![2304, 1024]⟩
abbrev S_ : Shape := ⟨0, ![]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x4352 : Shape := ⟨2, ![8192, 4352]⟩
abbrev S512x512 : Shape := ⟨2, ![512, 512]⟩
abbrev S512x128 : Shape := ⟨2, ![512, 128]⟩
abbrev S512x2048 : Shape := ⟨2, ![512, 2048]⟩
abbrev S512x4352 : Shape := ⟨2, ![512, 4352]⟩
abbrev S512 : Shape := ⟨1, ![512]⟩
abbrev S512x1 : Shape := ⟨2, ![512, 1]⟩
abbrev S1024 : Shape := ⟨1, ![1024]⟩

abbrev nBuf : Space → Nat
  | .hbm => 40
  | .vmem => 31
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x128, .f32⟩
  | .hbm, ⟨5, _⟩ => ⟨S8192x128, .f32⟩
  | .hbm, ⟨6, _⟩ => ⟨S8192x2048, .bf16⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S1024x4352, .f32⟩
  | .hbm, ⟨11, _⟩ => ⟨S8192x32, .f32⟩
  | .hbm, ⟨12, _⟩ => ⟨S8192x32, .f32⟩
  | .hbm, ⟨13, _⟩ => ⟨S1024x4352, .bf16⟩
  | .hbm, ⟨14, _⟩ => ⟨S4352x1024, .bf16⟩
  | .hbm, ⟨15, _⟩ => ⟨S1536x1024, .bf16⟩
  | .hbm, ⟨16, _⟩ => ⟨S512x1024, .bf16⟩
  | .hbm, ⟨17, _⟩ => ⟨S2x4x64x1024, .bf16⟩
  | .hbm, ⟨18, _⟩ => ⟨S4x2x64x1024, .bf16⟩
  | .hbm, ⟨19, _⟩ => ⟨S512x1024, .bf16⟩
  | .hbm, ⟨20, _⟩ => ⟨S2304x1024, .bf16⟩
  | .hbm, ⟨21, _⟩ => ⟨S4352x1024, .bf16⟩
  | .hbm, ⟨22, _⟩ => ⟨S_, .f32⟩
  | .hbm, ⟨23, _⟩ => ⟨S8192x32, .f32⟩
  | .hbm, ⟨24, _⟩ => ⟨S8192x64, .f32⟩
  | .hbm, ⟨25, _⟩ => ⟨S1x8192x1x64, .f32⟩
  | .hbm, ⟨26, _⟩ => ⟨S1x8192x2x64, .f32⟩
  | .hbm, ⟨27, _⟩ => ⟨S8192x128, .f32⟩
  | .hbm, ⟨28, _⟩ => ⟨S8192x32, .f32⟩
  | .hbm, ⟨29, _⟩ => ⟨S8192x64, .f32⟩
  | .hbm, ⟨30, _⟩ => ⟨S1x8192x1x64, .f32⟩
  | .hbm, ⟨31, _⟩ => ⟨S1x8192x2x64, .f32⟩
  | .hbm, ⟨32, _⟩ => ⟨S8192x128, .f32⟩
  | .hbm, ⟨33, _⟩ => ⟨S8192x64, .f32⟩
  | .hbm, ⟨34, _⟩ => ⟨S1x8192x1x64, .f32⟩
  | .hbm, ⟨35, _⟩ => ⟨S1x8192x2x64, .f32⟩
  | .hbm, ⟨36, _⟩ => ⟨S8192x128, .f32⟩
  | .hbm, ⟨37, _⟩ => ⟨S8192x4352, .bf16⟩
  | .hbm, ⟨38, _⟩ => ⟨S8192x1024, .f32⟩
  | .hbm, ⟨39, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | .local _ .vmem, ⟨13, _⟩ => ⟨S512x2048, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S4352x1024, .bf16⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x4352, .bf16⟩
  | .local _ .vmem, ⟨27, _⟩ => ⟨S512x4352, .bf16⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4352x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x4352 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference8Ideal.lean ====
abbrev S8192x512 : Shape := ⟨2, ![8192, 512]⟩
abbrev S8192x128 : Shape := ⟨2, ![8192, 128]⟩
abbrev S8192x2048 : Shape := ⟨2, ![8192, 2048]⟩
abbrev S8192x1024 : Shape := ⟨2, ![8192, 1024]⟩
abbrev S1x1024 : Shape := ⟨2, ![1, 1024]⟩
abbrev S1024x4352 : Shape := ⟨2, ![1024, 4352]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x4352 : Shape := ⟨2, ![8192, 4352]⟩
abbrev S8192x1536 : Shape := ⟨2, ![8192, 1536]⟩
abbrev S8192x4x2x64 : Shape := ⟨4, ![8192, 4, 2, 64]⟩
abbrev S8192x2x4x64 : Shape := ⟨4, ![8192, 2, 4, 64]⟩
abbrev S8192x8x64 : Shape := ⟨3, ![8192, 8, 64]⟩
abbrev S8192x8x32 : Shape := ⟨3, ![8192, 8, 32]⟩
abbrev S8192x1x32 : Shape := ⟨3, ![8192, 1, 32]⟩
abbrev S8192x2x64 : Shape := ⟨3, ![8192, 2, 64]⟩
abbrev S8192x2x32 : Shape := ⟨3, ![8192, 2, 32]⟩
abbrev S1024 : Shape := ⟨1, ![1024]⟩
abbrev S8192x2304 : Shape := ⟨2, ![8192, 2304]⟩

abbrev nBuf : Space → Nat
  | .hbm => 149
  | .vmem => 0
  | .smem => 0
  | _ => 0

abbrev hbmTy0_0 (i : Nat) : BufTy := match i % 128 with
  | 0 => ⟨S8192x512, .bf16⟩
  | 1 => ⟨S8192x512, .f32⟩
  | 2 => ⟨S8192x512, .f32⟩
  | 3 => ⟨S8192x512, .f32⟩
  | 4 => ⟨S8192x128, .f32⟩
  | 5 => ⟨S8192x128, .f32⟩
  | 6 => ⟨S8192x2048, .bf16⟩
  | 7 => ⟨S8192x1024, .f32⟩
  | 8 => ⟨S1x1024, .f32⟩
  | 9 => ⟨S8192x1024, .f32⟩
  | 10 => ⟨S1024x4352, .f32⟩
  | 11 => ⟨S8192x32, .f32⟩
  | 12 => ⟨S8192x32, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S8192x1024, .f32⟩
  | 32 => ⟨S8192x4352, .f32⟩
  | 33 => ⟨S8192x512, .f32⟩
  | 34 => ⟨S8192x1536, .f32⟩
  | 35 => ⟨S8192x4x2x64, .f32⟩
  | 36 => ⟨S8192x2x4x64, .f32⟩
  | 37 => ⟨S8192x8x64, .f32⟩
  | 38 => ⟨S8192x1536, .f32⟩
  | 39 => ⟨S8192x512, .f32⟩
  | 40 => ⟨S8192x128, .f32⟩
  | 41 => ⟨S8192x128, .f32⟩
  | 42 => ⟨S8192x2048, .f32⟩
  | 43 => ⟨S8192x8x64, .f32⟩
  | 44 => ⟨S8192x8x32, .f32⟩
  | 45 => ⟨S8192x8x32, .f32⟩
  | 46 => ⟨S8192x1x32, .f32⟩
  | 47 => ⟨S8192x1x32, .f32⟩
  | 48 => ⟨S8192x8x32, .f32⟩
  | 49 => ⟨S8192x8x32, .f32⟩
  | 50 => ⟨S8192x8x32, .f32⟩
  | 51 => ⟨S8192x8x32, .f32⟩
  | 52 => ⟨S8192x8x32, .f32⟩
  | 53 => ⟨S8192x8x32, .f32⟩
  | 54 => ⟨S8192x8x32, .f32⟩
  | 55 => ⟨S8192x8x32, .f32⟩
  | 56 => ⟨S8192x8x32, .f32⟩
  | 57 => ⟨S8192x8x32, .f32⟩
  | 58 => ⟨S8192x8x64, .f32⟩
  | 59 => ⟨S8192x2x64, .f32⟩
  | 60 => ⟨S8192x2x32, .f32⟩
  | 61 => ⟨S8192x2x32, .f32⟩
  | 62 => ⟨S8192x1x32, .f32⟩
  | 63 => ⟨S8192x1x32, .f32⟩
  | 64 => ⟨S8192x2x32, .f32⟩
  | 65 => ⟨S8192x2x32, .f32⟩
  | 66 => ⟨S8192x2x32, .f32⟩
  | 67 => ⟨S8192x2x32, .f32⟩
  | 68 => ⟨S8192x2x32, .f32⟩
  | 69 => ⟨S8192x2x32, .f32⟩
  | 70 => ⟨S8192x2x32, .f32⟩
  | 71 => ⟨S8192x2x32, .f32⟩
  | 72 => ⟨S8192x2x32, .f32⟩
  | 73 => ⟨S8192x2x32, .f32⟩
  | 74 => ⟨S8192x2x64, .f32⟩
  | 75 => ⟨S8192x2x64, .f32⟩
  | 76 => ⟨S8192x2048, .f32⟩
  | 77 => ⟨S8192x2x32, .f32⟩
  | 78 => ⟨S8192x2x32, .f32⟩
  | 79 => ⟨S8192x2x32, .f32⟩
  | 80 => ⟨S8192x2x32, .f32⟩
  | 81 => ⟨S8192x2x32, .f32⟩
  | 82 => ⟨S8192x2x32, .f32⟩
  | 83 => ⟨S8192x2x32, .f32⟩
  | 84 => ⟨S8192x2x32, .f32⟩
  | 85 => ⟨S8192x2x32, .f32⟩
  | 86 => ⟨S8192x2x32, .f32⟩
  | 87 => ⟨S8192x2x32, .f32⟩
  | 88 => ⟨S8192x2x32, .f32⟩
  | 89 => ⟨S8192x2x32, .f32⟩
  | 90 => ⟨S_, .f32⟩
  | 91 => ⟨S8192x2x64, .f32⟩
  | 92 => ⟨S_, .f32⟩
  | 93 => ⟨S8192x2x64, .f32⟩
  | 94 => ⟨S8192x2x64, .f32⟩
  | 95 => ⟨S8192x128, .f32⟩
  | 96 => ⟨S8192x8x32, .f32⟩
  | 97 => ⟨S8192x8x32, .f32⟩
  | 98 => ⟨S8192x8x32, .f32⟩
  | 99 => ⟨S8192x8x32, .f32⟩
  | 100 => ⟨S8192x8x32, .f32⟩
  | 101 => ⟨S8192x8x32, .f32⟩
  | 102 => ⟨S8192x8x32, .f32⟩
  | 103 => ⟨S8192x8x32, .f32⟩
  | 104 => ⟨S8192x8x32, .f32⟩
  | 105 => ⟨S8192x8x32, .f32⟩
  | 106 => ⟨S8192x8x32, .f32⟩
  | 107 => ⟨S8192x8x32, .f32⟩
  | 108 => ⟨S8192x8x32, .f32⟩
  | 109 => ⟨S_, .f32⟩
  | 110 => ⟨S8192x8x64, .f32⟩
  | 111 => ⟨S_, .f32⟩
  | 112 => ⟨S8192x8x64, .f32⟩
  | 113 => ⟨S8192x8x64, .f32⟩
  | 114 => ⟨S8192x512, .f32⟩
  | 115 => ⟨S8192x4352, .f32⟩
  | 116 => ⟨S8192x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S8192x1024, .f32⟩
  | 124 => ⟨S_, .f32⟩
  | 125 => ⟨S8192, .f32⟩
  | 126 => ⟨S8192x1, .f32⟩
  | 127 => ⟨S8192x1024, .f32⟩
  | _ => ⟨S8192x512, .bf16⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1536, .f32⟩
  | 13 => ⟨S8192x512, .f32⟩
  | 14 => ⟨S8192x2x4x64, .f32⟩
  | 15 => ⟨S8192x4x2x64, .f32⟩
  | 16 => ⟨S8192x512, .f32⟩
  | 17 => ⟨S8192x2304, .f32⟩
  | 18 => ⟨S8192x4352, .f32⟩
  | 19 => ⟨S8192x4352, .bf16⟩
  | 20 => ⟨S8192x1024, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_3 : Ref sig .tc := ⟨.hbm, 90, rfl⟩
abbrev main_v73 : Ref sig .tc := ⟨.hbm, 91, rfl⟩
abbrev main_cst_4 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_5 : Ref sig .tc := ⟨.hbm, 109, rfl⟩
abbrev main_v90 : Ref sig .tc := ⟨.hbm, 110, rfl⟩
abbrev main_cst_6 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_7 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_8 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_9 : Ref sig .tc := ⟨.hbm, 130, rfl⟩
abbrev main_v107 : Ref sig .tc := ⟨.hbm, 131, rfl⟩
abbrev main_v108 : Ref sig .tc := ⟨.hbm, 132, rfl⟩
abbrev main_cst_10 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩

abbrev nD : Nat := 1
abbrev τ : Topo := Topo.v7x

variable {F : FTy → Type} [FloatOps F]
-- ==== Kernel9.lean ====
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S8192x1024 : Shape := ⟨2, ![8192, 1024]⟩
abbrev S2x4x64x1024 : Shape := ⟨4, ![2, 4, 64, 1024]⟩
abbrev S4x2x64x1024 : Shape := ⟨4, ![4, 2, 64, 1024]⟩
abbrev S512x512 : Shape := ⟨2, ![512, 512]⟩
abbrev S512x2048 : Shape := ⟨2, ![512, 2048]⟩

abbrev nBuf : Space → Nat
  | .hbm => 15
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x2048, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S8192x1024, .f32⟩
  | .hbm, ⟨7, _⟩ => ⟨S512x1024, .bf16⟩
  | .hbm, ⟨8, _⟩ => ⟨S512x1024, .bf16⟩
  | .hbm, ⟨9, _⟩ => ⟨S2x4x64x1024, .bf16⟩
  | .hbm, ⟨10, _⟩ => ⟨S4x2x64x1024, .bf16⟩
  | .hbm, ⟨11, _⟩ => ⟨S512x1024, .bf16⟩
  | .hbm, ⟨12, _⟩ => ⟨S1024x1024, .bf16⟩
  | .hbm, ⟨13, _⟩ => ⟨S8192x1024, .f32⟩
  | .hbm, ⟨14, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S8192x1024 : Shape := ⟨2, ![8192, 1024]⟩
abbrev S8192x4x2x64 : Shape := ⟨4, ![8192, 4, 2, 64]⟩
abbrev S8192x2x4x64 : Shape := ⟨4, ![8192, 2, 4, 64]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x2048, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S8192x1024, .f32⟩
  | .hbm, ⟨7, _⟩ => ⟨S8192x4x2x64, .bf16⟩
  | .hbm, ⟨8, _⟩ => ⟨S8192x2x4x64, .bf16⟩
  | .hbm, ⟨9, _⟩ => ⟨S8192x512, .bf16⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x512, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x512, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x4352 : Shape := ⟨2, ![1024, 4352]⟩
abbrev S8192x32 : Shape := ⟨2, ![8192, 32]⟩
abbrev S4352x1024 : Shape := ⟨2, ![4352, 1024]⟩
abbrev S1536x1024 : Shape := ⟨2, ![1536, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S2304x1024 : Shape := ⟨2, ![2304, 1024]⟩
abbrev S_ : Shape := ⟨0, ![]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x1536 : Shape := ⟨2, ![8192, 1536]⟩
abbrev S8192x512 : Shape := ⟨2, ![8192, 512]⟩
abbrev S8192x256 : Shape := ⟨2, ![8192, 256]⟩
abbrev S8192x2048 : Shape := ⟨2, ![8192, 2048]⟩
abbrev S512x128 : Shape := ⟨2, ![512, 128]⟩
abbrev S512x1536 : Shape := ⟨2, ![512, 1536]⟩
abbrev S512x512 : Shape := ⟨2, ![512, 512]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S640x1024 : Shape := ⟨2, ![640, 1024]⟩
abbrev S512x640 : Shape := ⟨2, ![512, 640]⟩
abbrev S128x1024 : Shape := ⟨2, ![128, 1024]⟩
abbrev S2048x1024 : Shape := ⟨2, ![2048, 1024]⟩

abbrev nBuf : Space → Nat
  | .hbm => 34
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4352, .f32⟩
  | .hbm, ⟨3, _⟩ => ⟨S8192x32, .f32⟩
  | .hbm, ⟨4, _⟩ => ⟨S8192x32, .f32⟩
  | .hbm, ⟨5, _⟩ => ⟨S1024x4352, .bf16⟩
  | .hbm, ⟨6, _⟩ => ⟨S4352x1024, .bf16⟩
  | .hbm, ⟨7, _⟩ => ⟨S1536x1024, .bf16⟩
  | .hbm, ⟨8, _⟩ => ⟨S512x1024, .bf16⟩
  | .hbm, ⟨9, _⟩ => ⟨S2x4x64x1024, .bf16⟩
  | .hbm, ⟨10, _⟩ => ⟨S4x2x64x1024, .bf16⟩
  | .hbm, ⟨11, _⟩ => ⟨S512x1024, .bf16⟩
  | .hbm, ⟨12, _⟩ => ⟨S2304x1024, .bf16⟩
  | .hbm, ⟨13, _⟩ => ⟨S4352x1024, .bf16⟩
  | .hbm, ⟨14, _⟩ => ⟨S_, .f32⟩
  | .hbm, ⟨15, _⟩ => ⟨S8192x32, .f32⟩
  | .hbm, ⟨16, _⟩ => ⟨S8192x64, .f32⟩
  | .hbm, ⟨17, _⟩ => ⟨S1x8192x1x64, .f32⟩
  | .hbm, ⟨18, _⟩ => ⟨S1x8192x2x64, .f32⟩
  | .hbm, ⟨19, _⟩ => ⟨S8192x128, .f32⟩
  | .hbm, ⟨20, _⟩ => ⟨S8192x32, .f32⟩
  | .hbm, ⟨21, _⟩ => ⟨S8192x64, .f32⟩
  | .hbm, ⟨22, _⟩ => ⟨S1x8192x1x64, .f32⟩
  | .hbm, ⟨23, _⟩ => ⟨S1x8192x2x64, .f32⟩
  | .hbm, ⟨24, _⟩ => ⟨S8192x128, .f32⟩
  | .hbm, ⟨25, _⟩ => ⟨S8192x64, .f32⟩
  | .hbm, ⟨26, _⟩ => ⟨S1x8192x1x64, .f32⟩
  | .hbm, ⟨27, _⟩ => ⟨S1x8192x2x64, .f32⟩
  | .hbm, ⟨28, _⟩ => ⟨S8192x128, .f32⟩
  | .hbm, ⟨29, _⟩ => ⟨S8192x1024, .bf16⟩
  | .hbm, ⟨30, _⟩ => ⟨S8192x1536, .bf16⟩
  | .hbm, ⟨31, _⟩ => ⟨S8192x512, .bf16⟩
  | .hbm, ⟨32, _⟩ => ⟨S8192x256, .bf16⟩
  | .hbm, ⟨33, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x1536, .bf16⟩
  | .local _ .vmem, ⟨13, _⟩ => ⟨S512x1536, .bf16⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S512x2048, .f32⟩
  | .local _ .vmem, ⟨19, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v23_2 : Ref sig .tc := ⟨.hbm, 31, rfl⟩
abbrev main_v23_3 : Ref sig .tc := ⟨.hbm, 32, rfl⟩
abbrev main_v23_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S8192x1024 : Shape := ⟨2, ![8192, 1024]⟩
abbrev S1x1024 : Shape := ⟨2, ![1, 1024]⟩
abbrev S1024x4352 : Shape := ⟨2, ![1024, 4352]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x4352 : Shape := ⟨2, ![8192, 4352]⟩
abbrev S8192x1536 : Shape := ⟨2, ![8192, 1536]⟩
abbrev S8192x512 : Shape := ⟨2, ![8192, 512]⟩
abbrev S8192x128 : Shape := ⟨2, ![8192, 128]⟩
abbrev S8192x2048 : Shape := ⟨2, ![8192, 2048]⟩
abbrev S8192x8x64 : Shape := ⟨3, ![8192, 8, 64]⟩
abbrev S8192x8x32 : Shape := ⟨3, ![8192, 8, 32]⟩
abbrev S8192x1x32 : Shape := ⟨3, ![8192, 1, 32]⟩
abbrev S8192x2x64 : Shape := ⟨3, ![8192, 2, 64]⟩
abbrev S8192x2x32 : Shape := ⟨3, ![8192, 2, 32]⟩
abbrev S8192x2x4x64 : Shape := ⟨4, ![8192, 2, 4, 64]⟩
abbrev S8192x4x2x64 : Shape := ⟨4, ![8192, 4, 2, 64]⟩
abbrev S8192x256 : Shape := ⟨2, ![8192, 256]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4352, .f32⟩
  | .hbm, ⟨3, _⟩ => ⟨S8192x32, .f32⟩
  | .hbm, ⟨4, _⟩ => ⟨S8192x32, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4352, .f32⟩
  | .hbm, ⟨21, _⟩ => ⟨S8192x1536, .f32⟩
  | .hbm, ⟨22, _⟩ => ⟨S8192x512, .f32⟩
  | .hbm, ⟨23, _⟩ => ⟨S8192x128, .f32⟩
  | .hbm, ⟨24, _⟩ => ⟨S8192x128, .f32⟩
  | .hbm, ⟨25, _⟩ => ⟨S8192x2048, .f32⟩
  | .hbm, ⟨26, _⟩ => ⟨S8192x8x64, .f32⟩
  | .hbm, ⟨27, _⟩ => ⟨S8192x8x32, .f32⟩
  | .hbm, ⟨28, _⟩ => ⟨S8192x8x32, .f32⟩
  | .hbm, ⟨29, _⟩ => ⟨S8192x1x32, .f32⟩
  | .hbm, ⟨30, _⟩ => ⟨S8192x1x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x32, .f32⟩
  | .hbm, ⟨36, _⟩ => ⟨S8192x8x32, .f32⟩
  | .hbm, ⟨37, _⟩ => ⟨S8192x8x32, .f32⟩
  | .hbm, ⟨38, _⟩ => ⟨S8192x8x32, .f32⟩
  | .hbm, ⟨39, _⟩ => ⟨S8192x8x32, .f32⟩
  | .hbm, ⟨40, _⟩ => ⟨S8192x8x32, .f32⟩
  | .hbm, ⟨41, _⟩ => ⟨S8192x8x64, .f32⟩
  | .hbm, ⟨42, _⟩ => ⟨S8192x2x64, .f32⟩
  | .hbm, ⟨43, _⟩ => ⟨S8192x2x32, .f32⟩
  | .hbm, ⟨44, _⟩ => ⟨S8192x2x32, .f32⟩
  | .hbm, ⟨45, _⟩ => ⟨S8192x1x32, .f32⟩
  | .hbm, ⟨46, _⟩ => ⟨S8192x1x32, .f32⟩
  | .hbm, ⟨47, _⟩ => ⟨S8192x2x32, .f32⟩
  | .hbm, ⟨48, _⟩ => ⟨S8192x2x32, .f32⟩
  | .hbm, ⟨49, _⟩ => ⟨S8192x2x32, .f32⟩
  | .hbm, ⟨50, _⟩ => ⟨S8192x2x32, .f32⟩
  | .hbm, ⟨51, _⟩ => ⟨S8192x2x32, .f32⟩
  | .hbm, ⟨52, _⟩ => ⟨S8192x2x32, .f32⟩
  | .hbm, ⟨53, _⟩ => ⟨S8192x2x32, .f32⟩
  | .hbm, ⟨54, _⟩ => ⟨S8192x2x32, .f32⟩
  | .hbm, ⟨55, _⟩ => ⟨S8192x2x32, .f32⟩
  | .hbm, ⟨56, _⟩ => ⟨S8192x2x32, .f32⟩
  | .hbm, ⟨57, _⟩ => ⟨S8192x2x64, .f32⟩
  | .hbm, ⟨58, _⟩ => ⟨S8192x128, .f32⟩
  | .hbm, ⟨59, _⟩ => ⟨S8192x2x4x64, .f32⟩
  | .hbm, ⟨60, _⟩ => ⟨S8192x4x2x64, .f32⟩
  | .hbm, ⟨61, _⟩ => ⟨S8192x512, .f32⟩
  | .hbm, ⟨62, _⟩ => ⟨S8192x256, .f32⟩
  | .hbm, ⟨63, _⟩ => ⟨S8192x1024, .bf16⟩
  | .hbm, ⟨64, _⟩ => ⟨S8192x1536, .bf16⟩
  | .hbm, ⟨65, _⟩ => ⟨S8192x512, .bf16⟩
  | .hbm, ⟨66, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x8192x704 : Shape := ⟨3, ![4, 8192, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S512x1024 : Shape := ⟨2, ![512, 1024]⟩
abbrev S1x256x1024 : Shape := ⟨3, ![1, 256, 1024]⟩
abbrev S256x1024 : Shape := ⟨2, ![256, 1024]⟩
abbrev S512x256 : Shape := ⟨2, ![512, 256]⟩
abbrev S1x192x1024 : Shape := ⟨3, ![1, 192, 1024]⟩
abbrev S192x1024 : Shape := ⟨2, ![192, 1024]⟩
abbrev S512x192 : Shape := ⟨2, ![512, 192]⟩
abbrev S1x512x256 : Shape := ⟨3, ![1, 512, 256]⟩
abbrev S1x512x192 : Shape := ⟨3, ![1, 512, 192]⟩

abbrev nBuf : Space → Nat
  | .hbm => 18
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S4x704x1024, .f32⟩
  | .hbm, ⟨12, _⟩ => ⟨S4x704x1024, .bf16⟩
  | .hbm, ⟨13, _⟩ => ⟨S8192x1024, .f32⟩
  | .hbm, ⟨14, _⟩ => ⟨S8192x1024, .bf16⟩
  | .hbm, ⟨15, _⟩ => ⟨S4x8192x704, .bf16⟩
  | .hbm, ⟨16, _⟩ => ⟨S4x8192x704, .bf16⟩
  | .hbm, ⟨17, _⟩ => ⟨S4x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference11Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x4x704, .f32⟩
  | .hbm, ⟨45, _⟩ => ⟨S4x8192x704, .f32⟩
  | .hbm, ⟨46, _⟩ => ⟨S4x8192x704, .bf16⟩
  | .hbm, ⟨47, _⟩ => ⟨S8192x4x704, .f32⟩
  | .hbm, ⟨48, _⟩ => ⟨S4x8192x704, .f32⟩
  | .hbm, ⟨49, _⟩ => ⟨S4x8192x704, .bf16⟩
  | .hbm, ⟨50, _⟩ => ⟨S8192x4x704, .f32⟩
  | .hbm, ⟨51, _⟩ => ⟨S4x8192x704, .f32⟩
  | .hbm, ⟨52, _⟩ => ⟨S4x8192x704, .bf16⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v14_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v14_1 : Ref sig .tc := ⟨.hbm, 33, rfl⟩
abbrev main_v14_0 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩

abbrev nD : Nat := 1
abbrev τ : Topo := Topo.v7x

variable {F : FTy → Type} [FloatOps F]
-- ==== Kernel12.lean ====
abbrev S1x1024 : Shape := ⟨2, ![1, 1024]⟩
abbrev S1x8x15x31 : Shape := ⟨4, ![1, 8, 15, 31]⟩
abbrev S1x8 : Shape := ⟨2, ![1, 8]⟩
abbrev S1024 : Shape := ⟨1, ![1024]⟩
abbrev S8x465 : Shape := ⟨2, ![8, 465]⟩

abbrev nBuf : Space → Nat
  | .hbm => 50
  | .vmem => 42
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x8x15x31, .f32⟩
  | .hbm, ⟨3, _⟩ => ⟨S1x8, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x8x15x31, .f32⟩
  | .hbm, ⟨9, _⟩ => ⟨S1x8, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1x8x15x31, .f32⟩
  | .hbm, ⟨15, _⟩ => ⟨S1x8, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x8x15x31, .f32⟩
  | .hbm, ⟨21, _⟩ => ⟨S1x8, .f32⟩
  | .hbm, ⟨22, _⟩ => ⟨S1x1024, .f32⟩
  | .hbm, ⟨23, _⟩ => ⟨S1024, .f32⟩
  | .hbm, ⟨24, _⟩ => ⟨S8x465, .f32⟩
  | .hbm, ⟨25, _⟩ => ⟨S1x1024, .f32⟩
  | .hbm, ⟨26, _⟩ => ⟨S8x465, .f32⟩
  | .hbm, ⟨27, _⟩ => ⟨S1x1024, .f32⟩
  | .hbm, ⟨28, _⟩ => ⟨S8x465, .f32⟩
  | .hbm, ⟨29, _⟩ => ⟨S1x1024, .f32⟩
  | .hbm, ⟨30, _⟩ => ⟨S8x465, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S8x465, .f32⟩
  | .hbm, ⟨35, _⟩ => ⟨S1x8, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S8x465, .f32⟩
  | .hbm, ⟨41, _⟩ => ⟨S1x8, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S8x465, .f32⟩
  | .hbm, ⟨47, _⟩ => ⟨S1x8, .f32⟩
  | .hbm, ⟨48, _⟩ => ⟨S1x1024, .f32⟩
  | .hbm, ⟨49, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S8x465, .f32⟩
  | .local _ .vmem, ⟨3, _⟩ => ⟨S1x8, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S8x465, .f32⟩
  | .local _ .vmem, ⟨9, _⟩ => ⟨S1x8, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S8x465, .f32⟩
  | .local _ .vmem, ⟨15, _⟩ => ⟨S1x8, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S8x465, .f32⟩
  | .local _ .vmem, ⟨21, _⟩ => ⟨S1x8, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S8x465, .f32⟩
  | .local _ .vmem, ⟨27, _⟩ => ⟨S1x8, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S8x465, .f32⟩
  | .local _ .vmem, ⟨33, _⟩ => ⟨S1x8, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S8x465, .f32⟩
  | .local _ .vmem, ⟨39, _⟩ => ⟨S1x8, .f32⟩
  | .local _ .vmem, ⟨40, _⟩ => ⟨S1x1024, .f32⟩
  | .local _ .vmem, ⟨41, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8_0 : Ref sig .tc := ⟨.hbm, 32, rfl⟩
abbrev main_v8_1 : Ref sig .tc := ⟨.hbm, 33, rfl⟩
abbrev main_v8_2 : Ref sig .tc := ⟨.hbm, 34, rfl⟩
abbrev main_v8_3 : Ref sig .tc := ⟨.hbm, 35, rfl⟩
abbrev main_v8_4 : Ref sig .tc := ⟨.hbm, 36, rfl⟩
abbrev main_v8_5 : Ref sig .tc := ⟨.hbm, 37, rfl⟩
abbrev main_v8_6 : Ref sig .tc := ⟨.hbm, 38, rfl⟩
abbrev main_v8_7 : Ref sig .tc := ⟨.hbm, 39, rfl⟩
abbrev main_v8_8 : Ref sig .tc := ⟨.hbm, 40, rfl⟩
abbrev main_v8_9 : Ref sig .tc := ⟨.hbm, 41, rfl⟩
abbrev main_v8_10 : Ref sig .tc := ⟨.hbm, 42, rfl⟩
abbrev main_v8_11 : Ref sig .tc := ⟨.hbm, 43, rfl⟩
abbrev main_v8_12 : Ref sig .tc := ⟨.hbm, 44, rfl⟩
abbrev main_v8_13 : Ref sig .tc := ⟨.hbm, 45, rfl⟩
abbrev main_v8_14 : Ref sig .tc := ⟨.hbm, 46, rfl⟩
abbrev main_v8_15 : Ref sig .tc := ⟨.hbm, 47, rfl⟩
abbrev main_v8_16 : Ref sig .tc := ⟨.hbm, 48, rfl⟩
abbrev main_v8_17 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x465 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x465 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x465 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x465 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x8 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S8x465 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x8 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S8x465 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x8 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S8x465 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x8 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
-- ==== Reference12Ideal.lean ====
abbrev S1x1024 : Shape := ⟨2, ![1, 1024]⟩
abbrev S1x8x15x31 : Shape := ⟨4, ![1, 8, 15, 31]⟩
abbrev S1x8 : Shape := ⟨2, ![1, 8]⟩
abbrev S1024 : Shape := ⟨1, ![1024]⟩
abbrev S_ : Shape := ⟨0, ![]⟩
abbrev S8x465 : Shape := ⟨2, ![8, 465]⟩

abbrev nBuf : Space → Nat
  | .hbm => 228
  | .vmem => 0
  | .smem => 0
  | _ => 0

abbrev hbmTy0_0 (i : Nat) : BufTy := match i % 128 with
  | 0 => ⟨S1x1024, .f32⟩
  | 1 => ⟨S1x1024, .f32⟩
  | 2 => ⟨S1x8x15x31, .f32⟩
  | 3 => ⟨S1x8, .f32⟩
  | 4 => ⟨S1x1024, .f32⟩
  | 5 => ⟨S1024, .f32⟩
  | 6 => ⟨S1x1024, .f32⟩
  | 7 => ⟨S1x1024, .f32⟩
  | 8 => ⟨S1x8x15x31, .f32⟩
  | 9 => ⟨S1x8, .f32⟩
  | 10 => ⟨S1x1024, .f32⟩
  | 11 => ⟨S1024, .f32⟩
  | 12 => ⟨S1x1024, .f32⟩
  | 13 => ⟨S1x1024, .f32⟩
  | 14 => ⟨S1x8x15x31, .f32⟩
  | 15 => ⟨S1x8, .f32⟩
  | 16 => ⟨S1x1024, .f32⟩
  | 17 => ⟨S1024, .f32⟩
  | 18 => ⟨S1x1024, .f32⟩
  | 19 => ⟨S1x1024, .f32⟩
  | 20 => ⟨S1x8x15x31, .f32⟩
  | 21 => ⟨S1x8, .f32⟩
  | 22 => ⟨S1x1024, .f32⟩
  | 23 => ⟨S1024, .f32⟩
  | 24 => ⟨S_, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S_, .f32⟩
  | 91 => ⟨S1x8x15x31, .f32⟩
  | 92 => ⟨S1x8x15x31, .f32⟩
  | 93 => ⟨S_, .f32⟩
  | 94 => ⟨S1x8x15x31, .f32⟩
  | 95 => ⟨S1x8x15x31, .f32⟩
  | 96 => ⟨S1x8x15x31, .f32⟩
  | 97 => ⟨S_, .f32⟩
  | 98 => ⟨S1x8x15x31, .f32⟩
  | 99 => ⟨S1x8x15x31, .f32⟩
  | 100 => ⟨S1x8x15x31, .f32⟩
  | 101 => ⟨S_, .f32⟩
  | 102 => ⟨S1x8x15x31, .f32⟩
  | 103 => ⟨S1x8x15x31, .f32⟩
  | 104 => ⟨S1x8x15x31, .f32⟩
  | 105 => ⟨S_, .f32⟩
  | 106 => ⟨S1x8x15x31, .f32⟩
  | 107 => ⟨S1x8x15x31, .f32⟩
  | 108 => ⟨S_, .f32⟩
  | 109 => ⟨S1x8x15x31, .f32⟩
  | 110 => ⟨S1x8x15x31, .f32⟩
  | 111 => ⟨S1x8x15x31, .f32⟩
  | 112 => ⟨S_, .f32⟩
  | 113 => ⟨S1x8x15x31, .f32⟩
  | 114 => ⟨S1x8x15x31, .f32⟩
  | 115 => ⟨S1x8x15x31, .f32⟩
  | 116 => ⟨S_, .f32⟩
  | 117 => ⟨S1x8x15x31, .f32⟩
  | 118 => ⟨S1x8x15x31, .f32⟩
  | 119 => ⟨S1x8x15x31, .f32⟩
  | 120 => ⟨S_, .f32⟩
  | 121 => ⟨S1x8x15x31, .f32⟩
  | 122 => ⟨S1x8x15x31, .f32⟩
  | 123 => ⟨S_, .f32⟩
  | 124 => ⟨S1x8, .f32⟩
  | 125 => ⟨S1x8, .f32⟩
  | 126 => ⟨S_, .f32⟩
  | 127 => ⟨S1x8, .f32⟩
  | _ => ⟨S1x1024, .f32⟩

abbrev hbmTy0_1 (i : Nat) : BufTy := match i % 128 with
  | 0 => ⟨S1x8, .f32⟩
  | 1 => ⟨S1x8, .f32⟩
  | 2 => ⟨S_, .f32⟩
  | 3 => ⟨S1x8, .f32⟩
  | 4 => ⟨S1x8, .f32⟩
  | 5 => ⟨S1x8, .f32⟩
  | 6 => ⟨S_, .f32⟩
  | 7 => ⟨S1x8, .f32⟩
  | 8 => ⟨S1x8, .f32⟩
  | 9 => ⟨S1x8, .f32⟩
  | 10 => ⟨S_, .f32⟩
  | 11 => ⟨S1x8, .f32⟩
  | 12 => ⟨S1x8, .f32⟩
  | 13 => ⟨S_, .f32⟩
  | 14 => ⟨S1x8, .f32⟩
  | 15 => ⟨S1x8, .f32⟩
  | 16 => ⟨S1x8, .f32⟩
  | 17 => ⟨S_, .f32⟩
  | 18 => ⟨S1x8, .f32⟩
  | 19 => ⟨S1x8, .f32⟩
  | 20 => ⟨S1x8, .f32⟩
  | 21 => ⟨S_, .f32⟩
  | 22 => ⟨S1x8, .f32⟩
  | 23 => ⟨S1x8, .f32⟩
  | 24 => ⟨S1x8, .f32⟩
  | 25 => ⟨S_, .f32⟩
  | 26 => ⟨S1x8, .f32⟩
  | 27 => ⟨S1x8, .f32⟩
  | 28 => ⟨S_, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1024, .f32⟩
  | 63 => ⟨S1024, .f32⟩
  | 64 => ⟨S_, .f32⟩
  | 65 => ⟨S1024, .f32⟩
  | 66 => ⟨S1024, .f32⟩
  | 67 => ⟨S1024, .f32⟩
  | 68 => ⟨S_, .f32⟩
  | 69 => ⟨S1024, .f32⟩
  | 70 => ⟨S1024, .f32⟩
  | 71 => ⟨S1024, .f32⟩
  | 72 => ⟨S_, .f32⟩
  | 73 => ⟨S1024, .f32⟩
  | 74 => ⟨S1024, .f32⟩
  | 75 => ⟨S1024, .f32⟩
  | 76 => ⟨S_, .f32⟩
  | 77 => ⟨S1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S_, .f32⟩
  | 84 => ⟨S1024, .f32⟩
  | 85 => ⟨S1024, .f32⟩
  | 86 => ⟨S1024, .f32⟩
  | 87 => ⟨S_, .f32⟩
  | 88 => ⟨S1024, .f32⟩
  | 89 => ⟨S1024, .f32⟩
  | 90 => ⟨S1024, .f32⟩
  | 91 => ⟨S_, .f32⟩
  | 92 => ⟨S1024, .f32⟩
  | 93 => ⟨S1024, .f32⟩
  | 94 => ⟨S8x465, .f32⟩
  | 95 => ⟨S1x1024, .f32⟩
  | 96 => ⟨S8x465, .f32⟩
  | 97 => ⟨S1x1024, .f32⟩
  | 98 => ⟨S8x465, .f32⟩
  | 99 => ⟨S1x1024, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩

abbrev nD : Nat := 1
abbrev τ : Topo := Topo.v7x

variable {F : FTy → Type} [FloatOps F]
-- ==== Proof.Basics.lean ====
/-
  Small facts about the ideal instance that the value proofs share: the literals, the two matrix products with a zero
  accumulator read at an index, the zero offsets.
-/
module

public import Idealize.ShloMosaic.Lib.Pipeline.Value
public import Idealize.ShloMosaic.Lib.ValueIdx
public import Idealize.ShloMosaic.Lib.MatmulPlain
public import Idealize.ShloMosaic.Lib.ValueLayout
public import Idealize.ShloMosaic.PureOps.Ideal.Laws

@[expose] public section

noncomputable section

open Idealize.ShloMosaic Idealize.ShloMosaic.ValueIdx
open scoped BigOperators

namespace Cert.Basics

/-- The word of the literal one. -/
theorem ofBits_one : Ideal.ofBits .f32 0x3F800000#32 = 1 := by
  simp [Ideal.ofBits, Ideal.ieee, -EReal.coe_mul]; norm_num

/-- The word of the literal zero. -/
theorem ofBits_zero : Ideal.ofBits .f32 0x00000000#32 = 0 := by simp [Ideal.ofBits, Ideal.ieee]

/-- Two zero offsets, however they are written. -/
theorem hz : (![0, 0] : Fin 2 → Nat) = fun _ => 0 := funext fun a => by fin_cases a <;> rfl

/-- A product `[M,K] × [K,N]` with a zero accumulator, at an index. -/
theorem dot_plain {M K N : ℕ} {φ₁ φ₂ : FTy} (prec : Option ContractPrecision) (x : FVec Ideal ⟨2, ![M, K]⟩ φ₁)
    (w : FVec Ideal ⟨2, ![K, N]⟩ φ₂) (r : Fin M) (c : Fin N) :
    FloatOps.matmul (DotDims.plain M K N) prec x w (constant ⟨2, ![M, N]⟩ .f32 0x00000000#32) (ix2 r c)
      = ∑ k : Fin K, x (ix2 r k) * w (ix2 k c) := by
  rw [Ideal.matmul_plain_apply, constant_apply, ofBits_zero, zero_add]

/-- A product `[M,K] × [N,K]ᵀ` with a zero accumulator, at an index. -/
theorem dot_transposed {M K N : ℕ} {φ₁ φ₂ : FTy} (prec : Option ContractPrecision) (x : FVec Ideal ⟨2, ![M, K]⟩ φ₁)
    (w : FVec Ideal ⟨2, ![N, K]⟩ φ₂) (r : Fin M) (c : Fin N) :
    FloatOps.matmul (DotDims.transposedRhs M K N) prec x w (constant ⟨2, ![M, N]⟩ .f32 0x00000000#32) (ix2 r c)
      = ∑ k : Fin K, x (ix2 r k) * w (ix2 c k) := by
  rw [Ideal.matmul_transposedRhs_apply, constant_apply, ofBits_zero, zero_add]

/-- The sum over the columns of a row. -/
theorem sum_cols {M N : ℕ} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (r : Fin M) :
    multiReduction .add [1] ⟨1, ![M]⟩ src acc h hφ hacc (ix1 r) = ∑ k : Fin N, src (ix2 r k) :=
  (Ideal.multiReduction_add_single src acc h hφ hacc (ix1 r)).trans
    (Finset.sum_congr rfl fun k _ => congrArg src (Shape.idx_ext₂ rfl rfl))

/-- The sum over the rows of a column. -/
theorem sum_rows {M N : ℕ} {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.add.neutral φ hφ) (c : Fin N) :
    multiReduction .add [0] ⟨1, ![N]⟩ src acc h hφ hacc (ix1 c) = ∑ r : Fin M, src (ix2 r c) :=
  (Ideal.multiReduction_add_single src acc h hφ hacc (ix1 c)).trans
    (Finset.sum_congr rfl fun k _ => congrArg src (Shape.idx_ext₂ rfl rfl))

/-- A column copied along the rows. -/
theorem bcast_col {α : Type} {M N : ℕ} (v : (⟨2, ![M, 1]⟩ : Shape).Idx → α) (h : (⟨2, ![M, 1]⟩ : Shape).Broadcasts ⟨2, ![M, N]⟩)
    (r : Fin M) (c : Fin N) : broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

end Cert.Basics

end
-- ==== Proof.Merge.lean ====
/-
  The gradient of the gated merge, index by index.

  The forward lines are `merged = sigmoid(ga) * (ya @ wa) + sigmoid(gb) * (yb @ wb)` and `h + merged @ wout`. This module states
  the gradient of these lines with respect to `ya`, `yb`, the two branch projections and the gates as sums over one
  coordinate (`Spec`), shows that the kernel's five output arrays hold it (`KernelIdeal`), and that the reference's five results
  hold it (`ReferenceIdeal`).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Basics
public import Idealize.ShloMosaic.Lib.Quiescent

@[expose] public section

noncomputable section

open Idealize.ShloMosaic Idealize.ShloMosaic.TcCoe Idealize.SL.Sem Idealize.ShloMosaic.ValueIdx
open Idealize.ShloMosaic.Pipeline (Dat)
open scoped BigOperators

/-! ## The gradient as sums -/

namespace Cert.MergeSpec

variable {M : ℕ}

/-- The cotangent of the merged row: `dh @ woutᵀ`. -/
def dmerged (dh : Fin M → Fin 1024 → EReal) (wout : Fin 1024 → Fin 1024 → EReal) (r : Fin M) (c : Fin 1024) : EReal :=
  ∑ k, dh r k * wout c k

/-- A branch's projection: `y @ w`. -/
def proj (y : Fin M → Fin 512 → EReal) (w : Fin 512 → Fin 1024 → EReal) (r : Fin M) (c : Fin 1024) : EReal :=
  ∑ k, y r k * w k c

/-- The gradient with respect to a branch's projection: the merged row's cotangent times the branch's gate. -/
def dproj (dh : Fin M → Fin 1024 → EReal) (wout : Fin 1024 → Fin 1024 → EReal) (g : Fin M → Fin 1024 → EReal)
    (r : Fin M) (c : Fin 1024) : EReal :=
  dmerged dh wout r c * Ideal.logistic (g r c)

/-- The gradient with respect to a branch: the projection's gradient times the transposed weight. -/
def dbranch (dh : Fin M → Fin 1024 → EReal) (wout : Fin 1024 → Fin 1024 → EReal) (g : Fin M → Fin 1024 → EReal)
    (w : Fin 512 → Fin 1024 → EReal) (r : Fin M) (c : Fin 512) : EReal :=
  ∑ k, dproj dh wout g r k * w c k

/-- The gradient with respect to a branch's gate logits: cotangent times projection times the derivative of the sigmoid. -/
def dgate (dh : Fin M → Fin 1024 → EReal) (wout : Fin 1024 → Fin 1024 → EReal) (g : Fin M → Fin 1024 → EReal)
    (y : Fin M → Fin 512 → EReal) (w : Fin 512 → Fin 1024 → EReal) (r : Fin M) (c : Fin 1024) : EReal :=
  dmerged dh wout r c * proj y w r c * (Ideal.logistic (g r c) * (1 - Ideal.logistic (g r c)))

/-- The gates' array holds branch a's logits in its first 1024 columns. -/
def gateA (g : Fin M → Fin 2048 → EReal) (r : Fin M) (c : Fin 1024) : EReal := g r ⟨c.val, by omega⟩
/-- The gates' array holds branch b's logits in its last 1024 columns. -/
def gateB (g : Fin M → Fin 2048 → EReal) (r : Fin M) (c : Fin 1024) : EReal := g r ⟨1024 + c.val, by omega⟩

/-- The gradient with respect to the gates' array: branch a's in the first 1024 columns, branch b's in the last. -/
def dgates (dh : Fin M → Fin 1024 → EReal) (wout : Fin 1024 → Fin 1024 → EReal) (g : Fin M → Fin 2048 → EReal)
    (ya yb : Fin M → Fin 512 → EReal) (wa wb : Fin 512 → Fin 1024 → EReal) (r : Fin M) (c : Fin 2048) : EReal :=
  if h : c.val < 1024 then dgate dh wout (gateA g) ya wa r ⟨c.val, h⟩ else dgate dh wout (gateB g) yb wb r ⟨c.val - 1024, by omega⟩

/-- An array of rank two read by its two coordinates. -/
abbrev cur {R N : ℕ} (x : (⟨2, ![R, N]⟩ : Shape).Idx → EReal) (r : Fin R) (c : Fin N) : EReal := x (ix2 r c)

end Cert.MergeSpec

/-! ## The kernel -/

namespace Cert.KernelIdeal.MergeValue

open Cert.KernelIdeal Cert.KernelIdeal.Gen Cert.MergeSpec Cert.Basics

/-! ### The body's values at an index, over its blocks -/

section Pay

variable (x0 : Vec Ideal S512x1024 .f32) (x1 x2 : Vec Ideal S512x512 .bf16) (x3 : Vec Ideal S512x2048 .f32)
  (x4 x5 : Vec Ideal S512x1024 .bf16) (x6 : Vec Ideal S1024x1024 .bf16)

/-- The block's product `dh @ woutᵀ`. -/
theorem pay3_apply (r : Fin 512) (c : Fin 1024) : k0_pay3 (F := Ideal) x0 x6 (ix2 r c) = dmerged (cur x0) (cur x6) r c := by
  unfold k0_pay3
  rw [shapeCast_self]
  exact dot_transposed (M := 512) (K := 1024) (N := 1024) (φ₁ := .bf16) (φ₂ := .bf16) none _ _ r c

/-- A branch's projection gradient, from the branch's half `v` of the gates. -/
theorem pay5_apply (v : Vec Ideal S512x1024 .f32) (r : Fin 512) (c : Fin 1024) :
    k0_pay5 (F := Ideal) x0 x6 v (ix2 r c) = dproj (cur x0) (cur x6) (cur v) r c :=
  congrArg (· * Ideal.logistic (v (ix2 r c))) (pay3_apply x0 x6 r c)
/-- The second branch's is the same expression. -/
theorem pay9_eq (v : Vec Ideal S512x1024 .f32) : k0_pay9 (F := Ideal) x0 x6 v = k0_pay5 (F := Ideal) x0 x6 v := rfl

/-- A branch's gradient: the projection gradient times the transposed weight. -/
theorem pay7_apply (v : Vec Ideal S512x1024 .f32) (w : Vec Ideal S512x1024 .bf16) (r c : Fin 512) :
    k0_pay7 (F := Ideal) x0 x6 v w (ix2 r c) = dbranch (cur x0) (cur x6) (cur v) (cur w) r c := by
  unfold k0_pay7
  rw [shapeCast_self]
  refine (dot_transposed (M := 512) (K := 1024) (N := 512) (φ₁ := .bf16) (φ₂ := .bf16) none _ _ r c).trans ?_
  exact Finset.sum_congr rfl fun k _ => congrArg (· * w (ix2 c k)) (pay5_apply x0 x6 v r k)
/-- The second branch's is the same expression. -/
theorem pay2_eq (v : Vec Ideal S512x1024 .f32) (w : Vec Ideal S512x1024 .bf16) :
    k0_pay2 (F := Ideal) (k0_pay9 (F := Ideal) x0 x6 v) w = k0_pay7 (F := Ideal) x0 x6 v w := rfl

/-- A gate gradient. -/
theorem pay6_apply (v : Vec Ideal S512x1024 .f32) (y : Vec Ideal S512x512 .bf16) (w : Vec Ideal S512x1024 .bf16) (r : Fin 512) (c : Fin 1024) :
    k0_pay6 (F := Ideal) x0 x6 v y w (ix2 r c) = dgate (cur x0) (cur x6) (cur v) (cur y) (cur w) r c := by
  unfold k0_pay6
  rw [shapeCast_self]
  have e := dot_plain (M := 512) (K := 512) (N := 1024) (φ₁ := .bf16) (φ₂ := .bf16) none y w r c
  show k0_pay3 (F := Ideal) x0 x6 (ix2 r c) * (FloatOps.matmul (F := Ideal) (DotDims.plain 512 512 1024) none y w _ (ix2 r c))
    * (Ideal.logistic (v (ix2 r c)) * (Ideal.ofBits .f32 0x3F800000#32 - Ideal.logistic (v (ix2 r c)))) = _
  rw [e, ofBits_one, pay3_apply]
  rfl
/-- The second branch's is the same expression. -/
theorem pay1_eq (v : Vec Ideal S512x1024 .f32) (y : Vec Ideal S512x512 .bf16) (w : Vec Ideal S512x1024 .bf16) :
    k0_pay1 (F := Ideal) (k0_pay3 (F := Ideal) x0 x6) (k0_pay8 (F := Ideal) v) y w = k0_pay6 (F := Ideal) x0 x6 v y w := rfl

/-- The first half of the gates' block. -/
theorem ld_gateA : cur (View.ld x3 r0_2) = gateA (cur x3) := by
  funext r c
  exact congrArg x3 (Shape.idx_ext₂ (by show 0 + 1 * r.val = r.val; omega) (by show 0 + 1 * c.val = c.val; omega))
/-- The second half of the gates' block. -/
theorem ld_gateB : cur (View.ld x3 r0_4) = gateB (cur x3) := by
  funext r c
  exact congrArg x3 (Shape.idx_ext₂ (by show 0 + 1 * r.val = r.val; omega) (by show 1024 + 1 * c.val = 1024 + c.val; omega))

/-! What the body leaves in the five output buffers. -/

theorem out7_apply (r c : Fin 512) :
    out0_7 (F := Ideal) x0 x1 x2 x3 x4 x5 x6 (ix2 r c) = dbranch (cur x0) (cur x6) (gateA (cur x3)) (cur x4) r c := by
  unfold out0_7
  rw [View.canon_unit_zero hz, View.ld_unit_zero (S := S512x1024) hz _ x0, View.ld_unit_zero (S := S512x1024) hz _ x4,
    View.ld_unit_zero (S := S1024x1024) hz _ x6, pay7_apply, ld_gateA]

theorem out8_apply (r c : Fin 512) :
    out0_8 (F := Ideal) x0 x1 x2 x3 x4 x5 x6 (ix2 r c) = dbranch (cur x0) (cur x6) (gateB (cur x3)) (cur x5) r c := by
  unfold out0_8 k0_pay10
  rw [View.canon_unit_zero hz, View.ld_unit_zero (S := S512x1024) hz _ x0, View.ld_unit_zero (S := S512x1024) hz _ x5,
    View.ld_unit_zero (S := S1024x1024) hz _ x6, pay2_eq, pay7_apply, ld_gateB]

theorem out9_apply (r : Fin 512) (c : Fin 1024) :
    out0_9 (F := Ideal) x0 x1 x2 x3 x4 x5 x6 (ix2 r c) = dproj (cur x0) (cur x6) (gateA (cur x3)) r c := by
  unfold out0_9
  rw [View.canon_unit_zero hz, View.ld_unit_zero (S := S512x1024) hz _ x0,
    View.ld_unit_zero (S := S1024x1024) hz _ x6, pay5_apply, ld_gateA]

theorem out10_apply (r : Fin 512) (c : Fin 1024) :
    out0_10 (F := Ideal) x0 x1 x2 x3 x4 x5 x6 (ix2 r c) = dproj (cur x0) (cur x6) (gateB (cur x3)) r c := by
  unfold out0_10 k0_pay10
  rw [View.canon_unit_zero hz, View.ld_unit_zero (S := S512x1024) hz _ x0,
    View.ld_unit_zero (S := S1024x1024) hz _ x6, pay9_eq, pay5_apply, ld_gateB]

theorem out11_apply (r : Fin 512) (c : Fin 2048) :
    out0_11 (F := Ideal) x0 x1 x2 x3 x4 x5 x6 (ix2 r c)
      = dgates (cur x0) (cur x6) (cur x3) (cur x1) (cur x2) (cur x4) (cur x5) r c := by
  unfold out0_11
  rw [View.ld_unit_zero (S := S512x1024) hz _ x0, View.ld_unit_zero (S := S512x1024) hz _ x4, View.ld_unit_zero (S := S512x1024) hz _ x5,
    View.ld_unit_zero (S := S1024x1024) hz _ x6, View.ld_unit_zero (S := S512x512) hz _ x1, View.ld_unit_zero (S := S512x512) hz _ x2, pay1_eq]
  refine View.canon_apply_of_pieces (Val := Elt Ideal) (e := .bf16)
    (fun y : S512x2048.Idx => dgates (cur x0) (cur x6) (cur x3) (cur x1) (cur x2) (cur x4) (cur x5) (y 0) (y 1)) _ ?_ (ix2 r c) (cover0_11 _ _ _)
  intro p hp x
  rcases List.mem_cons.mp hp with rfl | hp
  · obtain ⟨r, k, rfl⟩ : ∃ (r : Fin 512) (k : Fin 1024), x = ix2 r k := ⟨x 0, x 1, eq_ix2 x⟩
    rw [show (r0_4.emb (ix2 r k) : S512x2048.Idx) = ix2 r ⟨1024 + k.val, by omega⟩ from
      Shape.idx_ext₂ (by show 0 + 1 * r.val = r.val; omega) (by show 1024 + 1 * k.val = 1024 + k.val; omega)]
    show k0_pay6 (F := Ideal) x0 x6 _ x2 x5 (ix2 r k) = dgates _ _ _ _ _ _ _ r ⟨1024 + k.val, by omega⟩
    rw [pay6_apply, ld_gateB, dgates, dif_neg (by show ¬ (1024 + k.val < 1024); omega)]
    exact congrArg (dgate _ _ _ _ _ r) (Fin.ext (by show k.val = 1024 + k.val - 1024; omega))
  · rcases List.mem_singleton.mp hp with rfl
    obtain ⟨r, k, rfl⟩ : ∃ (r : Fin 512) (k : Fin 1024), x = ix2 r k := ⟨x 0, x 1, eq_ix2 x⟩
    rw [show (r0_2.emb (ix2 r k) : S512x2048.Idx) = ix2 r ⟨k.val, by omega⟩ from
      Shape.idx_ext₂ (by show 0 + 1 * r.val = r.val; omega) (by show 0 + 1 * k.val = k.val; omega)]
    show k0_pay6 (F := Ideal) x0 x6 _ x1 x4 (ix2 r k) = dgates _ _ _ _ _ _ _ r ⟨k.val, by omega⟩
    rw [pay6_apply, ld_gateA, dgates, dif_pos (by show k.val < 1024; omega)]

end Pay

variable (m : (ℓ : Loc nD τ sig) → Buf (Elt Ideal) ℓ) (ρ : Dev nD → PrngReg)

/-! ### The windows' blocks at an index -/

theorem idx_facts : ∀ t : Fin cfg0.N,
    (win0_0.index t = ![t.val, 0] ∧ win0_1.index t = ![t.val, 0] ∧ win0_2.index t = ![t.val, 0] ∧ win0_3.index t = ![t.val, 0])
    ∧ (win0_4.index t = ![0, 0] ∧ win0_5.index t = ![0, 0] ∧ win0_6.index t = ![0, 0])
    ∧ (win0_7.index t = ![t.val, 0] ∧ win0_8.index t = ![t.val, 0] ∧ win0_9.index t = ![t.val, 0] ∧ win0_10.index t = ![t.val, 0]
      ∧ win0_11.index t = ![t.val, 0]) :=
  (by decide +kernel : ∀ t : Fin grid0.N, _)

/-- Row `r` of point `t`'s blocks is row `512 t + r` of the arrays. -/
abbrev row (t : Fin cfg0.N) (r : Fin 512) : Fin 8192 := ⟨t.val * 512 + r.val, by have h : t.val < 16 := t.isLt; omega⟩

/-! Where an element of a point's block lies in its array: `512 t` rows below, or, for the weights, at the same place. -/

theorem emb0 (t : Fin cfg0.N) (r : Fin 512) (k : Fin 1024) : (win0_0.rect t).emb (ix2 r k) = ix2 (row t r) k := by
  refine Shape.idx_ext₂ ?_ ?_
  · rw [Pipeline.Window.rect_emb_val win0_0, (idx_facts t).1.1]; rfl
  · rw [Pipeline.Window.rect_emb_val win0_0, (idx_facts t).1.1]; show 0 * _ + k.val = k.val; omega
theorem emb1 (t : Fin cfg0.N) (r : Fin 512) (k : Fin 512) : (win0_1.rect t).emb (ix2 r k) = ix2 (row t r) k := by
  refine Shape.idx_ext₂ ?_ ?_
  · rw [Pipeline.Window.rect_emb_val win0_1, (idx_facts t).1.2.1]; rfl
  · rw [Pipeline.Window.rect_emb_val win0_1, (idx_facts t).1.2.1]; show 0 * _ + k.val = k.val; omega
theorem emb2 (t : Fin cfg0.N) (r : Fin 512) (k : Fin 512) : (win0_2.rect t).emb (ix2 r k) = ix2 (row t r) k := by
  refine Shape.idx_ext₂ ?_ ?_
  · rw [Pipeline.Window.rect_emb_val win0_2, (idx_facts t).1.2.2.1]; rfl
  · rw [Pipeline.Window.rect_emb_val win0_2, (idx_facts t).1.2.2.1]; show 0 * _ + k.val = k.val; omega
theorem emb3 (t : Fin cfg0.N) (r : Fin 512) (k : Fin 2048) : (win0_3.rect t).emb (ix2 r k) = ix2 (row t r) k := by
  refine Shape.idx_ext₂ ?_ ?_
  · rw [Pipeline.Window.rect_emb_val win0_3, (idx_facts t).1.2.2.2]; rfl
  · rw [Pipeline.Window.rect_emb_val win0_3, (idx_facts t).1.2.2.2]; show 0 * _ + k.val = k.val; omega
theorem emb4 (t : Fin cfg0.N) (r : Fin 512) (k : Fin 1024) : (win0_4.rect t).emb (ix2 r k) = ix2 r k := by
  refine Shape.idx_ext₂ ?_ ?_
  · rw [Pipeline.Window.rect_emb_val win0_4, (idx_facts t).2.1.1]; show 0 * _ + r.val = r.val; omega
  · rw [Pipeline.Window.rect_emb_val win0_4, (idx_facts t).2.1.1]; show 0 * _ + k.val = k.val; omega
theorem emb5 (t : Fin cfg0.N) (r : Fin 512) (k : Fin 1024) : (win0_5.rect t).emb (ix2 r k) = ix2 r k := by
  refine Shape.idx_ext₂ ?_ ?_
  · rw [Pipeline.Window.rect_emb_val win0_5, (idx_facts t).2.1.2.1]; show 0 * _ + r.val = r.val; omega
  · rw [Pipeline.Window.rect_emb_val win0_5, (idx_facts t).2.1.2.1]; show 0 * _ + k.val = k.val; omega
theorem emb6 (t : Fin cfg0.N) (r : Fin 1024) (k : Fin 1024) : (win0_6.rect t).emb (ix2 r k) = ix2 r k := by
  refine Shape.idx_ext₂ ?_ ?_
  · rw [Pipeline.Window.rect_emb_val win0_6, (idx_facts t).2.1.2.2]; show 0 * _ + r.val = r.val; omega
  · rw [Pipeline.Window.rect_emb_val win0_6, (idx_facts t).2.1.2.2]; show 0 * _ + k.val = k.val; omega
theorem emb7 (t : Fin cfg0.N) (r : Fin 512) (k : Fin 512) : (win0_7.rect t).emb (ix2 r k) = ix2 (row t r) k := by
  refine Shape.idx_ext₂ ?_ ?_
  · rw [Pipeline.Window.rect_emb_val win0_7, (idx_facts t).2.2.1]; rfl
  · rw [Pipeline.Window.rect_emb_val win0_7, (idx_facts t).2.2.1]; show 0 * _ + k.val = k.val; omega
theorem emb8 (t : Fin cfg0.N) (r : Fin 512) (k : Fin 512) : (win0_8.rect t).emb (ix2 r k) = ix2 (row t r) k := by
  refine Shape.idx_ext₂ ?_ ?_
  · rw [Pipeline.Window.rect_emb_val win0_8, (idx_facts t).2.2.2.1]; rfl
  · rw [Pipeline.Window.rect_emb_val win0_8, (idx_facts t).2.2.2.1]; show 0 * _ + k.val = k.val; omega
theorem emb9 (t : Fin cfg0.N) (r : Fin 512) (k : Fin 1024) : (win0_9.rect t).emb (ix2 r k) = ix2 (row t r) k := by
  refine Shape.idx_ext₂ ?_ ?_
  · rw [Pipeline.Window.rect_emb_val win0_9, (idx_facts t).2.2.2.2.1]; rfl
  · rw [Pipeline.Window.rect_emb_val win0_9, (idx_facts t).2.2.2.2.1]; show 0 * _ + k.val = k.val; omega
theorem emb10 (t : Fin cfg0.N) (r : Fin 512) (k : Fin 1024) : (win0_10.rect t).emb (ix2 r k) = ix2 (row t r) k := by
  refine Shape.idx_ext₂ ?_ ?_
  · rw [Pipeline.Window.rect_emb_val win0_10, (idx_facts t).2.2.2.2.2.1]; rfl
  · rw [Pipeline.Window.rect_emb_val win0_10, (idx_facts t).2.2.2.2.2.1]; show 0 * _ + k.val = k.val; omega
theorem emb11 (t : Fin cfg0.N) (r : Fin 512) (k : Fin 2048) : (win0_11.rect t).emb (ix2 r k) = ix2 (row t r) k := by
  refine Shape.idx_ext₂ ?_ ?_
  · rw [Pipeline.Window.rect_emb_val win0_11, (idx_facts t).2.2.2.2.2.2]; rfl
  · rw [Pipeline.Window.rect_emb_val win0_11, (idx_facts t).2.2.2.2.2.2]; show 0 * _ + k.val = k.val; omega

/-- The host's narrowed copy of a weight is the weight. -/
theorem V_v0 (c : Dev nD) : V m c main_v0 = (m ((c : Thread nD τ).loc main_arg4) : S512x1024.Idx → EReal) := by
  unfold V hostOps0; after_results; rfl
theorem V_v1 (c : Dev nD) : V m c main_v1 = (m ((c : Thread nD τ).loc main_arg5) : S512x1024.Idx → EReal) := by
  unfold V hostOps0; after_results; rfl
theorem V_v2 (c : Dev nD) : V m c main_v2 = (m ((c : Thread nD τ).loc main_arg6) : S1024x1024.Idx → EReal) := by
  unfold V hostOps0; after_results; rfl

/-! ### The arguments by their coordinates, and a point's blocks as rows of them -/

abbrev dh (c : Dev nD) : Fin 8192 → Fin 1024 → EReal := cur (m ((c : Thread nD τ).loc main_arg0) : S8192x1024.Idx → EReal)
abbrev ya (c : Dev nD) : Fin 8192 → Fin 512 → EReal := cur (m ((c : Thread nD τ).loc main_arg1) : S8192x512.Idx → EReal)
abbrev yb (c : Dev nD) : Fin 8192 → Fin 512 → EReal := cur (m ((c : Thread nD τ).loc main_arg2) : S8192x512.Idx → EReal)
abbrev gates (c : Dev nD) : Fin 8192 → Fin 2048 → EReal := cur (m ((c : Thread nD τ).loc main_arg3) : S8192x2048.Idx → EReal)
abbrev wa (c : Dev nD) : Fin 512 → Fin 1024 → EReal := cur (m ((c : Thread nD τ).loc main_arg4) : S512x1024.Idx → EReal)
abbrev wb (c : Dev nD) : Fin 512 → Fin 1024 → EReal := cur (m ((c : Thread nD τ).loc main_arg5) : S512x1024.Idx → EReal)
abbrev wout (c : Dev nD) : Fin 1024 → Fin 1024 → EReal := cur (m ((c : Thread nD τ).loc main_arg6) : S1024x1024.Idx → EReal)

theorem blk0 (c : Dev nD) (t : Fin cfg0.N) : cur (iblk m c 0 t : Vec Ideal S512x1024 .f32) = fun r => dh m c (row t r) := by
  funext r k
  exact (congrArg (V m c main_arg0) (emb0 t r k)).trans (congrFun (V_main_arg0 m c) _)
theorem blk1 (c : Dev nD) (t : Fin cfg0.N) : cur (iblk m c 1 t : Vec Ideal S512x512 .bf16) = fun r => ya m c (row t r) := by
  funext r k
  exact (congrArg (V m c main_arg1) (emb1 t r k)).trans (congrFun (V_main_arg1 m c) _)
theorem blk2 (c : Dev nD) (t : Fin cfg0.N) : cur (iblk m c 2 t : Vec Ideal S512x512 .bf16) = fun r => yb m c (row t r) := by
  funext r k
  exact (congrArg (V m c main_arg2) (emb2 t r k)).trans (congrFun (V_main_arg2 m c) _)
theorem blk3 (c : Dev nD) (t : Fin cfg0.N) : cur (iblk m c 3 t : Vec Ideal S512x2048 .f32) = fun r => gates m c (row t r) := by
  funext r k
  exact (congrArg (V m c main_arg3) (emb3 t r k)).trans (congrFun (V_main_arg3 m c) _)
theorem blk4 (c : Dev nD) (t : Fin cfg0.N) : cur (iblk m c 4 t : Vec Ideal S512x1024 .bf16) = wa m c := by
  funext r k
  exact (congrArg (V m c main_v0) (emb4 t r k)).trans (congrFun (V_v0 m c) _)
theorem blk5 (c : Dev nD) (t : Fin cfg0.N) : cur (iblk m c 5 t : Vec Ideal S512x1024 .bf16) = wb m c := by
  funext r k
  exact (congrArg (V m c main_v1) (emb5 t r k)).trans (congrFun (V_v1 m c) _)
theorem blk6 (c : Dev nD) (t : Fin cfg0.N) : cur (iblk m c 6 t : Vec Ideal S1024x1024 .bf16) = wout m c := by
  funext r k
  exact (congrArg (V m c main_v2) (emb6 t r k)).trans (congrFun (V_v2 m c) _)

/-! ### The output arrays after the run -/

/-- The first result: the gradient with respect to `ya`. -/
abbrev G7 (c : Dev nD) : S8192x512.Idx → EReal := fun i => dbranch (dh m c) (wout m c) (gateA (gates m c)) (wa m c) (i 0) (i 1)
/-- The second result: the gradient with respect to `yb`. -/
abbrev G8 (c : Dev nD) : S8192x512.Idx → EReal := fun i => dbranch (dh m c) (wout m c) (gateB (gates m c)) (wb m c) (i 0) (i 1)
/-- The third result: the gradient with respect to `ya @ wa`. -/
abbrev G9 (c : Dev nD) : S8192x1024.Idx → EReal := fun i => dproj (dh m c) (wout m c) (gateA (gates m c)) (i 0) (i 1)
/-- The fourth result: the gradient with respect to `yb @ wb`. -/
abbrev G10 (c : Dev nD) : S8192x1024.Idx → EReal := fun i => dproj (dh m c) (wout m c) (gateB (gates m c)) (i 0) (i 1)
/-- The fifth result: the gradient with respect to the gates. -/
abbrev G11 (c : Dev nD) : S8192x2048.Idx → EReal := fun i =>
  dgates (dh m c) (wout m c) (gates m c) (ya m c) (yb m c) (wa m c) (wb m c) (i 0) (i 1)

theorem flushed7 (c : Dev nD) (t : Fin cfg0.N) :
    (dats m 0 c).flushed 7 t = ((cfg0.win 7).blk t).view.read (Elt Ideal) (G7 m c) := by
  rw [Value.flushed7]
  funext y
  obtain ⟨r, k, rfl⟩ : ∃ (r : Fin 512) (k : Fin 512), y = ix2 r k := ⟨y 0, y 1, eq_ix2 y⟩
  refine (out7_apply _ _ _ _ _ _ _ r k).trans ?_
  rw [blk0, blk6, blk3, blk4]
  exact (congrArg (G7 m c) (emb7 t r k)).symm

theorem flushed8 (c : Dev nD) (t : Fin cfg0.N) :
    (dats m 0 c).flushed 8 t = ((cfg0.win 8).blk t).view.read (Elt Ideal) (G8 m c) := by
  rw [Value.flushed8]
  funext y
  obtain ⟨r, k, rfl⟩ : ∃ (r : Fin 512) (k : Fin 512), y = ix2 r k := ⟨y 0, y 1, eq_ix2 y⟩
  refine (out8_apply _ _ _ _ _ _ _ r k).trans ?_
  rw [blk0, blk6, blk3, blk5]
  exact (congrArg (G8 m c) (emb8 t r k)).symm

theorem flushed9 (c : Dev nD) (t : Fin cfg0.N) :
    (dats m 0 c).flushed 9 t = ((cfg0.win 9).blk t).view.read (Elt Ideal) (G9 m c) := by
  rw [Value.flushed9]
  funext y
  obtain ⟨r, k, rfl⟩ : ∃ (r : Fin 512) (k : Fin 1024), y = ix2 r k := ⟨y 0, y 1, eq_ix2 y⟩
  refine (out9_apply _ _ _ _ _ _ _ r k).trans ?_
  rw [blk0, blk6, blk3]
  exact (congrArg (G9 m c) (emb9 t r k)).symm

theorem flushed10 (c : Dev nD) (t : Fin cfg0.N) :
    (dats m 0 c).flushed 10 t = ((cfg0.win 10).blk t).view.read (Elt Ideal) (G10 m c) := by
  rw [Value.flushed10]
  funext y
  obtain ⟨r, k, rfl⟩ : ∃ (r : Fin 512) (k : Fin 1024), y = ix2 r k := ⟨y 0, y 1, eq_ix2 y⟩
  refine (out10_apply _ _ _ _ _ _ _ r k).trans ?_
  rw [blk0, blk6, blk3]
  exact (congrArg (G10 m c) (emb10 t r k)).symm

theorem flushed11 (c : Dev nD) (t : Fin cfg0.N) :
    (dats m 0 c).flushed 11 t = ((cfg0.win 11).blk t).view.read (Elt Ideal) (G11 m c) := by
  rw [Value.flushed11]
  funext y
  obtain ⟨r, k, rfl⟩ : ∃ (r : Fin 512) (k : Fin 2048), y = ix2 r k := ⟨y 0, y 1, eq_ix2 y⟩
  refine (out11_apply _ _ _ _ _ _ _ r k).trans ?_
  rw [blk0, blk6, blk3, blk1, blk2, blk4, blk5]
  exact (congrArg (G11 m c) (emb11 t r k)).symm

/-- The point whose blocks hold row `a`. -/
abbrev pt (a : Fin 8192) : Fin cfg0.N := ⟨a.val / 512, by have := a.isLt; show a.val / 512 < 16; omega⟩
/-- Row `a`'s place in them. -/
abbrev sub (a : Fin 8192) : Fin 512 := ⟨a.val % 512, Nat.mod_lt _ (by omega)⟩
theorem row_pt (a : Fin 8192) : row (pt a) (sub a) = a := Fin.ext (by show a.val / 512 * 512 + a.val % 512 = a.val; omega)

theorem final7 (c : Dev nD) : (dats m 0 c).arrAt 7 cfg0.N = G7 m c :=
  (dats m 0 c).arrAt_eq_of_cover 7 (G7 m c) (fun t _ => flushed7 m c t) fun i => by
    obtain ⟨a, b, rfl⟩ : ∃ (a : Fin 8192) (b : Fin 512), i = ix2 a b := ⟨i 0, i 1, eq_ix2 i⟩
    have h : ((cfg0.win 7).blk (pt a)).view.emb (ix2 (sub a) b) = ix2 a b := (emb7 (pt a) (sub a) b).trans (by rw [row_pt])
    exact ⟨pt a, flush0_7 _, h ▸ ((cfg0.win 7).blk (pt a)).view.emb_mem_set (ix2 (sub a) b)⟩

theorem final8 (c : Dev nD) : (dats m 0 c).arrAt 8 cfg0.N = G8 m c :=
  (dats m 0 c).arrAt_eq_of_cover 8 (G8 m c) (fun t _ => flushed8 m c t) fun i => by
    obtain ⟨a, b, rfl⟩ : ∃ (a : Fin 8192) (b : Fin 512), i = ix2 a b := ⟨i 0, i 1, eq_ix2 i⟩
    have h : ((cfg0.win 8).blk (pt a)).view.emb (ix2 (sub a) b) = ix2 a b := (emb8 (pt a) (sub a) b).trans (by rw [row_pt])
    exact ⟨pt a, flush0_8 _, h ▸ ((cfg0.win 8).blk (pt a)).view.emb_mem_set (ix2 (sub a) b)⟩

theorem final9 (c : Dev nD) : (dats m 0 c).arrAt 9 cfg0.N = G9 m c :=
  (dats m 0 c).arrAt_eq_of_cover 9 (G9 m c) (fun t _ => flushed9 m c t) fun i => by
    obtain ⟨a, b, rfl⟩ : ∃ (a : Fin 8192) (b : Fin 1024), i = ix2 a b := ⟨i 0, i 1, eq_ix2 i⟩
    have h : ((cfg0.win 9).blk (pt a)).view.emb (ix2 (sub a) b) = ix2 a b := (emb9 (pt a) (sub a) b).trans (by rw [row_pt])
    exact ⟨pt a, flush0_9 _, h ▸ ((cfg0.win 9).blk (pt a)).view.emb_mem_set (ix2 (sub a) b)⟩

theorem final10 (c : Dev nD) : (dats m 0 c).arrAt 10 cfg0.N = G10 m c :=
  (dats m 0 c).arrAt_eq_of_cover 10 (G10 m c) (fun t _ => flushed10 m c t) fun i => by
    obtain ⟨a, b, rfl⟩ : ∃ (a : Fin 8192) (b : Fin 1024), i = ix2 a b := ⟨i 0, i 1, eq_ix2 i⟩
    have h : ((cfg0.win 10).blk (pt a)).view.emb (ix2 (sub a) b) = ix2 a b := (emb10 (pt a) (sub a) b).trans (by rw [row_pt])
    exact ⟨pt a, flush0_10 _, h ▸ ((cfg0.win 10).blk (pt a)).view.emb_mem_set (ix2 (sub a) b)⟩

theorem final11 (c : Dev nD) : (dats m 0 c).arrAt 11 cfg0.N = G11 m c :=
  (dats m 0 c).arrAt_eq_of_cover 11 (G11 m c) (fun t _ => flushed11 m c t) fun i => by
    obtain ⟨a, b, rfl⟩ : ∃ (a : Fin 8192) (b : Fin 2048), i = ix2 a b := ⟨i 0, i 1, eq_ix2 i⟩
    have h : ((cfg0.win 11).blk (pt a)).view.emb (ix2 (sub a) b) = ix2 a b := (emb11 (pt a) (sub a) b).trans (by rw [row_pt])
    exact ⟨pt a, flush0_11 _, h ▸ ((cfg0.win 11).blk (pt a)).view.emb_mem_set (ix2 (sub a) b)⟩

end Cert.KernelIdeal.MergeValue

/-! ## The reference -/

namespace Cert.ReferenceIdeal.MergeValue

open Cert.ReferenceIdeal Cert.ReferenceIdeal.Read Cert.MergeSpec Cert.Basics

variable (x0 : Vec Ideal S8192x1024 .f32) (x1 x2 : Vec Ideal S8192x512 .bf16) (x3 : Vec Ideal S8192x2048 .f32)
  (x4 x5 : Vec Ideal S512x1024 .f32) (x6 : Vec Ideal S1024x1024 .f32)

theorem sigmoidA (r : Fin 8192) (c : Fin 1024) : val_main_v11 (F := Ideal) x3 (ix2 r c) = Ideal.logistic (gateA (cur x3) r c) := by
  have e : val_main_v4 (F := Ideal) x3 (ix2 r c) = gateA (cur x3) r c := by
    rw [val_main_v4_apply]
    exact congrArg x3 (Shape.idx_ext₂ (by simp [idx_main_v4]) (by simp [idx_main_v4]))
  show Ideal.div (Ideal.ofBits .f32 0x3F800000#32) (Ideal.ofBits .f32 0x3F800000#32 + Ideal.exp (-(val_main_v4 (F := Ideal) x3 (ix2 r c)))) = _
  rw [e, ofBits_one]
  rfl

theorem sigmoidB (r : Fin 8192) (c : Fin 1024) : val_main_v21 (F := Ideal) x3 (ix2 r c) = Ideal.logistic (gateB (cur x3) r c) := by
  have e : val_main_v5 (F := Ideal) x3 (ix2 r c) = gateB (cur x3) r c := by
    rw [val_main_v5_apply]
    exact congrArg x3 (Shape.idx_ext₂ (by simp [idx_main_v5]) (by simp [idx_main_v5]))
  show Ideal.div (Ideal.ofBits .f32 0x3F800000#32) (Ideal.ofBits .f32 0x3F800000#32 + Ideal.exp (-(val_main_v5 (F := Ideal) x3 (ix2 r c)))) = _
  rw [e, ofBits_one]
  rfl

theorem v28_eq (r : Fin 8192) (c : Fin 1024) : val_main_v28 (F := Ideal) x0 x6 (ix2 r c) = dmerged (cur x0) (cur x6) r c := by
  rw [val_main_v28_apply]
  exact Finset.sum_congr rfl fun k _ => congrArg₂ (· * ·) (congrArg x0 (Shape.idx_ext₂ rfl rfl)) (congrArg x6 (Shape.idx_ext₂ rfl rfl))

theorem v2_eq (r : Fin 8192) (c : Fin 1024) : val_main_v2 (F := Ideal) x1 x4 (ix2 r c) = proj (cur x1) (cur x4) r c := by
  rw [val_main_v2_apply]
  exact Finset.sum_congr rfl fun k _ => congrArg₂ (· * ·) (congrArg x1 (Shape.idx_ext₂ rfl rfl)) (congrArg x4 (Shape.idx_ext₂ rfl rfl))

theorem v3_eq (r : Fin 8192) (c : Fin 1024) : val_main_v3 (F := Ideal) x2 x5 (ix2 r c) = proj (cur x2) (cur x5) r c := by
  rw [val_main_v3_apply]
  exact Finset.sum_congr rfl fun k _ => congrArg₂ (· * ·) (congrArg x2 (Shape.idx_ext₂ rfl rfl)) (congrArg x5 (Shape.idx_ext₂ rfl rfl))

theorem v32_eq (r : Fin 8192) (c : Fin 1024) :
    val_main_v32 (F := Ideal) x0 x3 x6 (ix2 r c) = dproj (cur x0) (cur x6) (gateA (cur x3)) r c := by
  show val_main_v11 (F := Ideal) x3 (ix2 r c) * val_main_v28 (F := Ideal) x0 x6 (ix2 r c) = _
  rw [sigmoidA, v28_eq, mul_comm]
  rfl

theorem v29_eq (r : Fin 8192) (c : Fin 1024) :
    val_main_v29 (F := Ideal) x0 x3 x6 (ix2 r c) = dproj (cur x0) (cur x6) (gateB (cur x3)) r c := by
  show val_main_v21 (F := Ideal) x3 (ix2 r c) * val_main_v28 (F := Ideal) x0 x6 (ix2 r c) = _
  rw [sigmoidB, v28_eq, mul_comm]
  rfl

theorem v37_eq (r : Fin 8192) (c : Fin 512) :
    val_main_v37 (F := Ideal) x0 x3 x4 x6 (ix2 r c) = dbranch (cur x0) (cur x6) (gateA (cur x3)) (cur x4) r c := by
  rw [val_main_v37_apply]
  exact Finset.sum_congr rfl fun k _ => congrArg₂ (· * ·)
    ((congrArg (val_main_v32 (F := Ideal) x0 x3 x6) (show lidx_main_v37 (ix2 r c) k = ix2 r k from Shape.idx_ext₂ rfl rfl)).trans (v32_eq x0 x3 x6 r k)) (congrArg x4 (Shape.idx_ext₂ rfl rfl))

theorem v36_eq (r : Fin 8192) (c : Fin 512) :
    val_main_v36 (F := Ideal) x0 x3 x5 x6 (ix2 r c) = dbranch (cur x0) (cur x6) (gateB (cur x3)) (cur x5) r c := by
  rw [val_main_v36_apply]
  exact Finset.sum_congr rfl fun k _ => congrArg₂ (· * ·)
    ((congrArg (val_main_v29 (F := Ideal) x0 x3 x6) (show lidx_main_v36 (ix2 r c) k = ix2 r k from Shape.idx_ext₂ rfl rfl)).trans (v29_eq x0 x3 x6 r k)) (congrArg x5 (Shape.idx_ext₂ rfl rfl))

theorem v34_eq (r : Fin 8192) (c : Fin 1024) :
    val_main_v34 (F := Ideal) x0 x1 x3 x4 x6 (ix2 r c) = dgate (cur x0) (cur x6) (gateA (cur x3)) (cur x1) (cur x4) r c := by
  show val_main_v28 (F := Ideal) x0 x6 (ix2 r c) * val_main_v2 (F := Ideal) x1 x4 (ix2 r c)
    * (val_main_v11 (F := Ideal) x3 (ix2 r c) * (Ideal.ofBits .f32 0x3F800000#32 - val_main_v11 (F := Ideal) x3 (ix2 r c))) = _
  rw [sigmoidA, v28_eq, v2_eq, ofBits_one]
  rfl

theorem v31_eq (r : Fin 8192) (c : Fin 1024) :
    val_main_v31 (F := Ideal) x0 x2 x3 x5 x6 (ix2 r c) = dgate (cur x0) (cur x6) (gateB (cur x3)) (cur x2) (cur x5) r c := by
  show val_main_v28 (F := Ideal) x0 x6 (ix2 r c) * val_main_v3 (F := Ideal) x2 x5 (ix2 r c)
    * (val_main_v21 (F := Ideal) x3 (ix2 r c) * (Ideal.ofBits .f32 0x3F800000#32 - val_main_v21 (F := Ideal) x3 (ix2 r c))) = _
  rw [sigmoidB, v28_eq, v3_eq, ofBits_one]
  rfl

theorem v35_eq (r : Fin 8192) (c : Fin 2048) :
    val_main_v35 (F := Ideal) x0 x1 x2 x3 x4 x5 x6 (ix2 r c)
      = dgates (cur x0) (cur x6) (cur x3) (cur x1) (cur x2) (cur x4) (cur x5) r c := by
  unfold val_main_v35 dgates
  by_cases h : c.val < 1024
  · rw [dif_pos h, ← v34_eq]
    exact concatenate_pair_apply_left (t := S8192x2048) (s₁ := S8192x1024) (s₂ := S8192x1024) 1 _ _ _ (ix2 r c) rfl (ix2 r ⟨c.val, h⟩)
      (fun b => by match b with | ⟨0, _⟩ => rfl | ⟨1, _⟩ => rfl)
  · rw [dif_neg h, ← v31_eq]
    exact concatenate_pair_apply_right (t := S8192x2048) (s₁ := S8192x1024) (s₂ := S8192x1024) 1 _ _ _ (ix2 r c) rfl rfl (ix2 r ⟨c.val - 1024, by omega⟩)
      (fun b hb => by match b with | ⟨0, _⟩ => rfl | ⟨1, _⟩ => exact absurd rfl hb)
      (by show c.val - 1024 + 1024 = c.val; omega)

variable (m : (ℓ : Loc nD τ sig) → Buf (Elt Ideal) ℓ) (ρ : Dev nD → PrngReg)

/-- The reference's run: its five results are the same sums of the arguments, and the arguments hold what they held. -/
theorem run_eq : θ_run (defs (F := Ideal)) (onTc (τ := τ) (main (F := Ideal))) ⟨m, fun _ => 0, ρ⟩ fun r => ∀ c : Dev nD,
    (r.2.mem ((c.tc : Thread nD τ).loc main_v38) = fun i : S8192x512.Idx => dbranch (cur (m ((c.tc : Thread nD τ).loc main_arg0) : S8192x1024.Idx → EReal)) (cur (m ((c.tc : Thread nD τ).loc main_arg6) : S1024x1024.Idx → EReal)) (gateA (cur (m ((c.tc : Thread nD τ).loc main_arg3) : S8192x2048.Idx → EReal))) (cur (m ((c.tc : Thread nD τ).loc main_arg4) : S512x1024.Idx → EReal)) (i 0) (i 1))
    ∧ (r.2.mem ((c.tc : Thread nD τ).loc main_v39) = fun i : S8192x512.Idx => dbranch (cur (m ((c.tc : Thread nD τ).loc main_arg0) : S8192x1024.Idx → EReal)) (cur (m ((c.tc : Thread nD τ).loc main_arg6) : S1024x1024.Idx → EReal)) (gateB (cur (m ((c.tc : Thread nD τ).loc main_arg3) : S8192x2048.Idx → EReal))) (cur (m ((c.tc : Thread nD τ).loc main_arg5) : S512x1024.Idx → EReal)) (i 0) (i 1))
    ∧ (r.2.mem ((c.tc : Thread nD τ).loc main_v40) = fun i : S8192x1024.Idx => dproj (cur (m ((c.tc : Thread nD τ).loc main_arg0) : S8192x1024.Idx → EReal)) (cur (m ((c.tc : Thread nD τ).loc main_arg6) : S1024x1024.Idx → EReal)) (gateA (cur (m ((c.tc : Thread nD τ).loc main_arg3) : S8192x2048.Idx → EReal))) (i 0) (i 1))
    ∧ (r.2.mem ((c.tc : Thread nD τ).loc main_v41) = fun i : S8192x1024.Idx => dproj (cur (m ((c.tc : Thread nD τ).loc main_arg0) : S8192x1024.Idx → EReal)) (cur (m ((c.tc : Thread nD τ).loc main_arg6) : S1024x1024.Idx → EReal)) (gateB (cur (m ((c.tc : Thread nD τ).loc main_arg3) : S8192x2048.Idx → EReal))) (i 0) (i 1))
    ∧ (r.2.mem ((c.tc : Thread nD τ).loc main_v42) = fun i : S8192x2048.Idx => dgates (cur (m ((c.tc : Thread nD τ).loc main_arg0) : S8192x1024.Idx → EReal)) (cur (m ((c.tc : Thread nD τ).loc main_arg6) : S1024x1024.Idx → EReal)) (cur (m ((c.tc : Thread nD τ).loc main_arg3) : S8192x2048.Idx → EReal)) (cur (m ((c.tc : Thread nD τ).loc main_arg1) : S8192x512.Idx → EReal)) (cur (m ((c.tc : Thread nD τ).loc main_arg2) : S8192x512.Idx → EReal)) (cur (m ((c.tc : Thread nD τ).loc main_arg4) : S512x1024.Idx → EReal)) (cur (m ((c.tc : Thread nD τ).loc main_arg5) : S512x1024.Idx → EReal)) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun r h c => by
    obtain ⟨h0, h1, h2, h3, h4, hargs⟩ := h c
    refine ⟨h0.trans ((val_main_v38_eq _ _ _ _).trans (funext fun i => ?_)), h1.trans ((val_main_v39_eq _ _ _ _).trans (funext fun i => ?_)),
      h2.trans ((val_main_v40_eq _ _ _).trans (funext fun i => ?_)), h3.trans ((val_main_v41_eq _ _ _).trans (funext fun i => ?_)),
      h4.trans ((val_main_v42_eq _ _ _ _ _ _ _).trans (funext fun i => ?_)), hargs⟩
    · rw [eq_ix2 i]; exact v37_eq _ _ _ _ (i 0) (i 1)
    · rw [eq_ix2 i]; exact v36_eq _ _ _ _ (i 0) (i 1)
    · rw [eq_ix2 i]; exact v32_eq _ _ _ (i 0) (i 1)
    · rw [eq_ix2 i]; exact v29_eq _ _ _ (i 0) (i 1)
    · rw [eq_ix2 i]; exact v35_eq _ _ _ _ _ _ _ (i 0) (i 1))
    (Cert.ReferenceIdeal.Value.run (F := Ideal) m ρ)

end Cert.ReferenceIdeal.MergeValue

/-! ## The kernel's run -/

namespace Cert.KernelIdeal.MergeValue

open Cert.KernelIdeal Cert.KernelIdeal.Gen

variable (m : (ℓ : Loc nD τ sig) → Buf (Elt Ideal) ℓ) (ρ : Dev nD → PrngReg)

/-- The kernel's run: its five results are the sums of `G7` … `G11`, and the arguments hold what they held. -/
theorem run_eq : θ_run (defs (F := Ideal)) (onTc (τ := τ) (main (F := Ideal))) ⟨m, fun _ => 0, ρ⟩ fun r => ∀ c : Dev nD,
    r.2.mem ((c.tc : Thread nD τ).loc main_v3_0) = G7 m c
    ∧ r.2.mem ((c.tc : Thread nD τ).loc main_v3_1) = G8 m c
    ∧ r.2.mem ((c.tc : Thread nD τ).loc main_v3_2) = G9 m c
    ∧ r.2.mem ((c.tc : Thread nD τ).loc main_v3_3) = G10 m c
    ∧ r.2.mem ((c.tc : Thread nD τ).loc main_v3_4) = G11 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun r h c => by
    obtain ⟨h0, h1, h2, h3, h4, hargs⟩ := h c
    exact ⟨h0.trans (final7 m c), h1.trans (final8 m c), h2.trans (final9 m c), h3.trans (final10 m c), h4.trans (final11 m c), hargs⟩)
    (Value.run_blocks (F := Ideal) m ρ)

end Cert.KernelIdeal.MergeValue

/-! ## The claims -/

namespace Cert.MergeClaims

open Cert.KernelIdeal.MergeValue

theorem frame_kernel : Cert.quiescent_Kernel := fun m ρ _ => Cert.Kernel.Gen.frame m ρ
theorem frame_ideal : Cert.quiescent_KernelIdeal := fun m ρ _ => Cert.KernelIdeal.Gen.frame m ρ
/-- The reference's run read at the arguments; it declares no semaphore. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The kernel's five results and the reference's are equal as extended reals, on every memory. -/
theorem algebraic : Cert.algebraic_KernelIdeal_ReferenceIdeal := fun m g m' g' _ hm =>
  ⟨fun c => G7 m c, fun c => G8 m c, fun c => G9 m c, fun c => G10 m c, fun c => G11 m c, run_eq m g,
    (θ_run Cert.ReferenceIdeal.defs _ _).mono (fun r h c => by
      obtain ⟨h0, h1, h2, h3, h4, hargs⟩ := h c
      obtain ⟨e0, e1, e2, e3, e4, e5, e6⟩ := hm c
      refine ⟨h0.trans ?_, h1.trans ?_, h2.trans ?_, h3.trans ?_, h4.trans ?_, hargs⟩
      · rw [e0, e3, e4, e6]
      · rw [e0, e3, e5, e6]
      · rw [e0, e3, e6]
      · rw [e0, e3, e6]
      · rw [e0, e1, e2, e3, e4, e5, e6])
      (Cert.ReferenceIdeal.MergeValue.run_eq m' g')⟩

end Cert.MergeClaims

end
-- ==== Proof.FfnSpec.lean ====
/-
  The gradient of the gated feed-forward lines, over the real numbers.

  The forward lines are `n = x * rsqrt(mean(x²) + eps) * g`, `mid = silu(n @ wg) * (n @ wu)` and `h + ½ (mid @ wd)`. This module
  states the gradient of these lines with respect to `x`, `g` and the two projections as real sums over one coordinate, and
  the few facts about extended reals that carry an expression of finite values to the real one.
-/
module

public import proofs.«01_k».proof.Proof.Basics

@[expose] public section

noncomputable section

open Idealize.ShloMosaic Idealize.ShloMosaic.ValueIdx
open scoped BigOperators

namespace Cert.FfnSpec

/-! ## Finite values -/

/-- A finite sum of reals, taken in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The same over a finite type, with the terms given up to an equation. -/
theorem sum_eq_coe {ι : Type*} [Fintype ι] {F : ι → EReal} {f : ι → ℝ} (h : ∀ i, F i = (f i : EReal)) :
    ∑ i, F i = ((∑ i, f i : ℝ) : EReal) := by
  rw [Finset.sum_congr rfl fun i _ => h i, coe_sum]

/-- The small constant under the root, `8796093 / 2^43`. -/
def eps : ℝ := 8796093 / 8796093022208
theorem eps_pos : 0 < eps := by unfold eps; norm_num

theorem ofBits_eps : Ideal.ofBits .f32 0x358637BD#32 = (eps : EReal) := by
  rw [eps]; simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num

/-- Division of a real by a real other than zero. -/
theorem div_real (a b : ℝ) (h : b ≠ 0) : Ideal.div (a : EReal) (b : EReal) = ((a / b : ℝ) : EReal) := by
  rw [Ideal.div_coe h, ← EReal.coe_mul, mul_one_div]

/-- The reciprocal root of a positive real. -/
theorem rsqrt_real (a : ℝ) (h : 0 < a) : Ideal.rsqrt (a : EReal) = (((√a)⁻¹ : ℝ) : EReal) := by
  rw [Ideal.rsqrt_coe, if_neg (not_lt.mpr h.le), if_neg h.ne']

/-! ## The gradient -/

variable {M : ℕ}

/-- The mean of a row's squares with the small constant added. -/
def meanSq (x : Fin M → Fin 1024 → ℝ) (r : Fin M) : ℝ := (∑ k, x r k * x r k) / 1024 + eps
theorem meanSq_pos (x : Fin M → Fin 1024 → ℝ) (r : Fin M) : 0 < meanSq x r :=
  add_pos_of_nonneg_of_pos (div_nonneg (Finset.sum_nonneg fun k _ => mul_self_nonneg _) (by norm_num)) eps_pos
/-- A row's scale, the reciprocal root of that mean. -/
def scale (x : Fin M → Fin 1024 → ℝ) (r : Fin M) : ℝ := (√(meanSq x r))⁻¹
/-- The scaled row. -/
def hat (x : Fin M → Fin 1024 → ℝ) (r : Fin M) (c : Fin 1024) : ℝ := x r c * scale x r
/-- The normalised row. -/
def norm (x : Fin M → Fin 1024 → ℝ) (g : Fin 1024 → ℝ) (r : Fin M) (c : Fin 1024) : ℝ := hat x r c * g c
/-- A projection of the normalised row. -/
def proj (x : Fin M → Fin 1024 → ℝ) (g : Fin 1024 → ℝ) (w : Fin 1024 → Fin 2816 → ℝ) (r : Fin M) (j : Fin 2816) : ℝ :=
  ∑ k, norm x g r k * w k j
/-- The logistic function. -/
def sig (a : ℝ) : ℝ := 1 / (1 + Real.exp (-a))
/-- What the gate's cotangent is multiplied by: `b` times the derivative of `silu` at `a`. -/
def gateFactor (a b : ℝ) : ℝ := b * (sig a + a * sig a * (1 - sig a))
/-- What the other projection's cotangent is multiplied by: `silu a`. -/
def upFactor (a : ℝ) : ℝ := a * sig a
/-- The cotangent of the gated row: half of `dh @ wdᵀ`. -/
def dmid (dh : Fin M → Fin 1024 → ℝ) (wd : Fin 2816 → Fin 1024 → ℝ) (r : Fin M) (j : Fin 2816) : ℝ := ∑ k, (1 / 2 * dh r k) * wd j k
/-- The gradient with respect to the gate's projection. -/
def dgate (dh x : Fin M → Fin 1024 → ℝ) (g : Fin 1024 → ℝ) (wg wu : Fin 1024 → Fin 2816 → ℝ) (wd : Fin 2816 → Fin 1024 → ℝ)
    (r : Fin M) (j : Fin 2816) : ℝ := dmid dh wd r j * gateFactor (proj x g wg r j) (proj x g wu r j)
/-- The gradient with respect to the other projection. -/
def dup (dh x : Fin M → Fin 1024 → ℝ) (g : Fin 1024 → ℝ) (wg : Fin 1024 → Fin 2816 → ℝ) (wd : Fin 2816 → Fin 1024 → ℝ)
    (r : Fin M) (j : Fin 2816) : ℝ := dmid dh wd r j * upFactor (proj x g wg r j)
/-- The gradient with respect to the normalised row. -/
def dnorm (dh x : Fin M → Fin 1024 → ℝ) (g : Fin 1024 → ℝ) (wg wu : Fin 1024 → Fin 2816 → ℝ) (wd : Fin 2816 → Fin 1024 → ℝ)
    (r : Fin M) (c : Fin 1024) : ℝ := ∑ j, (dgate dh x g wg wu wd r j * wg c j + dup dh x g wg wd r j * wu c j)

/-- The gradient with respect to the row, from the gradient `D` with respect to the normalised row; `dh` is the cotangent that
    goes past. -/
def dxOf (D x dh : Fin M → Fin 1024 → ℝ) (g : Fin 1024 → ℝ) (r : Fin M) (c : Fin 1024) : ℝ :=
  dh r c + scale x r * (D r c * g c - hat x r c * ((∑ k, D r k * g k * hat x r k) / 1024))
/-- The gradient with respect to the gain, from the gradient with respect to the normalised row. -/
def dgOf (D x : Fin M → Fin 1024 → ℝ) (c : Fin 1024) : ℝ := ∑ r, D r c * hat x r c

/-- The square of the scale undoes the mean. -/
theorem scale_sq (x : Fin M → Fin 1024 → ℝ) (r : Fin M) : scale x r * scale x r * meanSq x r = 1 := by
  have h := meanSq_pos x r
  rw [scale, ← mul_inv, Real.mul_self_sqrt h.le, inv_mul_cancel₀ h.ne']

end Cert.FfnSpec

end
-- ==== Proof.FfnPay.lean ====
/-
  What one point of the feed-forward gradient's kernel computes from its blocks, index by index.
-/
module

public import proofs.«01_k».proof.Defs
public import proofs.«01_k».proof.Proof.Gen.Kernel2Ideal.Value
public import proofs.«01_k».proof.Proof.FfnSpec
public import Idealize.ShloMosaic.Lib.Pipeline.ValueKit
public import Idealize.ShloMosaic.Lib.ValueLayoutCasts

@[expose] public section

noncomputable section

open Idealize.ShloMosaic hiding ix1 ix2 ix3 eq_ix2 eq_ix3
open Idealize.ShloMosaic.TcCoe Idealize.SL.Sem Idealize.ShloMosaic.ValueIdx
open Idealize.ShloMosaic.Pipeline (Dat)
open scoped BigOperators

namespace Cert.Kernel2Ideal.FfnValue

open Cert.Kernel2Ideal Cert.Kernel2Ideal.Gen Cert.FfnSpec Cert.Basics

/-! ## The payloads of one quarter of the rows -/

section Quarter

variable (v : Vec Ideal S256x1024 .f32) (w wg wu : Vec Ideal S1x704x1024 .bf16) (s : FVec Ideal S256x704 .f32)
  (p : Vec Ideal S1x256x704 .bf16) (a b : FVec Ideal S256x704 .bf16)

/-- The cotangent of the gated rows: half the rows times the transposed weight. -/
theorem pay10_apply (r : Fin 256) (j : Fin 704) :
    k0_pay10 (F := Ideal) v w (ix2 r j) = ∑ k : Fin 1024, (Ideal.ofBits .f32 0x3F000000#32 * v (ix2 r k)) * w (ix3 0 j k) := by
  unfold k0_pay10
  refine (dot_transposed (M := 256) (K := 1024) (N := 704) (φ₁ := .bf16) (φ₂ := .bf16) none _ _ r j).trans ?_
  refine Finset.sum_congr rfl fun k _ => ?_
  rw [shapeCast_1ab_ab_apply]
  rfl
theorem pay11_eq : k0_pay11 (F := Ideal) v w = k0_pay10 (F := Ideal) v w := rfl
theorem pay12_eq : k0_pay12 (F := Ideal) v w = k0_pay10 (F := Ideal) v w := rfl
theorem pay13_eq : k0_pay13 (F := Ideal) v w = k0_pay10 (F := Ideal) v w := rfl

/-- That cotangent times a saved factor. -/
theorem pay14_apply (r : Fin 256) (j : Fin 704) : k0_pay14 (F := Ideal) s p (ix2 r j) = s (ix2 r j) * p (ix3 0 r j) := by
  unfold k0_pay14
  show s (ix2 r j) * (shapeCast S256x704 p _ (ix2 r j) : EReal) = _
  rw [shapeCast_1ab_ab_apply]
theorem pay15_eq : k0_pay15 (F := Ideal) s p = k0_pay14 (F := Ideal) s p := rfl
theorem pay18_eq : k0_pay18 (F := Ideal) s p = k0_pay14 (F := Ideal) s p := rfl
theorem pay19_eq : k0_pay19 (F := Ideal) s p = k0_pay14 (F := Ideal) s p := rfl
theorem pay22_eq : k0_pay22 (F := Ideal) s p = k0_pay14 (F := Ideal) s p := rfl
theorem pay23_eq : k0_pay23 (F := Ideal) s p = k0_pay14 (F := Ideal) s p := rfl
theorem pay26_eq : k0_pay26 (F := Ideal) s p = k0_pay14 (F := Ideal) s p := rfl
theorem pay27_eq : k0_pay27 (F := Ideal) s p = k0_pay14 (F := Ideal) s p := rfl

/-- The stored block is that product with a unit axis in front. -/
theorem pay20_apply (u : Fin 1) (r : Fin 256) (j : Fin 704) : k0_pay20 (F := Ideal) a (ix3 u r j) = a (ix2 r j) := by
  unfold k0_pay20
  exact shapeCast_ab_1ab_apply a _ u r j
theorem pay21_eq : k0_pay21 (F := Ideal) a = k0_pay20 (F := Ideal) a := rfl
theorem pay28_eq : k0_pay28 (F := Ideal) a = k0_pay20 (F := Ideal) a := rfl
theorem pay29_eq : k0_pay29 (F := Ideal) a = k0_pay20 (F := Ideal) a := rfl
theorem pay16_eq : k0_pay16 (F := Ideal) s p = k0_pay20 (F := Ideal) (k0_pay14 (F := Ideal) s p) := rfl
theorem pay17_eq : k0_pay17 (F := Ideal) s p = k0_pay20 (F := Ideal) (k0_pay14 (F := Ideal) s p) := rfl
theorem pay24_eq : k0_pay24 (F := Ideal) s p = k0_pay20 (F := Ideal) (k0_pay14 (F := Ideal) s p) := rfl
theorem pay25_eq : k0_pay25 (F := Ideal) s p = k0_pay20 (F := Ideal) (k0_pay14 (F := Ideal) s p) := rfl

/-- One step of the accumulation over the column blocks. -/
theorem pay30_apply (r : Fin 256) (c : Fin 1024) :
    k0_pay30 (F := Ideal) a b v wg wu (ix2 r c)
      = v (ix2 r c) + ((∑ j : Fin 704, a (ix2 r j) * wg (ix3 0 j c)) + ∑ j : Fin 704, b (ix2 r j) * wu (ix3 0 j c)) := by
  unfold k0_pay30
  rw [shapeCast_self]
  refine congrArg (v (ix2 r c) + ·) (congrArg₂ (· + ·) ?_ ?_)
  · refine (dot_plain (M := 256) (K := 704) (N := 1024) (φ₁ := .bf16) (φ₂ := .bf16) none _ _ r c).trans ?_
    exact Finset.sum_congr rfl fun j _ => congrArg (a (ix2 r j) * ·) (shapeCast_1ab_ab_apply wg _ j c)
  · refine (dot_plain (M := 256) (K := 704) (N := 1024) (φ₁ := .bf16) (φ₂ := .bf16) none _ _ r c).trans ?_
    exact Finset.sum_congr rfl fun j _ => congrArg (b (ix2 r j) * ·) (shapeCast_1ab_ab_apply wu _ j c)
theorem pay31_eq : k0_pay31 (F := Ideal) a b v wg wu = k0_pay30 (F := Ideal) a b v wg wu := rfl
theorem pay1_eq : k0_pay1 (F := Ideal) a b v wg wu = k0_pay30 (F := Ideal) a b v wg wu := rfl
theorem pay2_eq : k0_pay2 (F := Ideal) a b v wg wu = k0_pay30 (F := Ideal) a b v wg wu := rfl

end Quarter

/-! ## The payloads of the last step, on finite blocks -/

section Last

variable (x0 x1 x8 : Vec Ideal S1024x1024 .f32) (x2 x11 : Vec Ideal S1x1024 .f32)
  (dh x D : Fin 1024 → Fin 1024 → ℝ) (g d : Fin 1024 → ℝ)

variable {x1 x} in
theorem pay4_apply (hx : ∀ r c, x1 (ix2 r c) = (x r c : EReal)) (r : Fin 1024) (u : Fin 1) :
    k0_pay4 (F := Ideal) x1 (ix2 r u) = (scale x r : EReal) := by
  have e : multiReduction (F := Ideal) .add [1] S1024 (mulf x1 x1) 0x00000000#32 reduces_S1024x1024_S1024 (.inl rfl) rfl (ix1 r)
      = ((∑ k, x r k * x r k : ℝ) : EReal) :=
    (sum_cols _ _ _ _ _ r).trans (sum_eq_coe fun k => by
      show x1 _ * x1 _ = _
      rw [EReal.coe_mul, ← hx])
  unfold k0_pay4
  refine (congrArg (fun q => Ideal.rsqrt (Ideal.div q (Ideal.ofBits .f32 0x44800000#32) + Ideal.ofBits .f32 0x358637BD#32))
    ((shapeCast_a_a1_apply _ _ r u).trans e)).trans ?_
  rw [ofBits_1024, ofBits_eps, div_real _ _ (by norm_num), ← EReal.coe_add]
  exact rsqrt_real _ (meanSq_pos x r)

variable {x1 x} in
theorem pay5_apply (hx : ∀ r c, x1 (ix2 r c) = (x r c : EReal)) (r c : Fin 1024) :
    k0_pay5 (F := Ideal) x1 (ix2 r c) = (hat x r c : EReal) := by
  unfold k0_pay5
  show x1 (ix2 r c) * (broadcastTo S1024x1024 (k0_pay4 (F := Ideal) x1) _ (ix2 r c) : EReal) = _
  rw [bcast_col, hx, hat, EReal.coe_mul, pay4_apply hx]

variable {x1 x8 x D} in
/-- The gain's gradient grows by this point's rows. -/
theorem pay6_apply (hx : ∀ r c, x1 (ix2 r c) = (x r c : EReal)) (hD : ∀ r c, x8 (ix2 r c) = (D r c : EReal)) (u : Fin 1) (c : Fin 1024) :
    k0_pay6 (F := Ideal) x1 x8 x11 (ix2 u c) = x11 (ix2 u c) + ((∑ r, D r c * hat x r c : ℝ) : EReal) := by
  unfold k0_pay6 k0_pay3
  rw [shapeCast_self, shapeCast_self]
  refine congrArg (x11 (ix2 u c) + ·) ((shapeCast_a_1a_apply _ _ u c).trans ((sum_rows _ _ _ _ _ c).trans (sum_eq_coe fun r => ?_)))
  rw [EReal.coe_mul, ← hD, ← pay5_apply hx]
  rfl

variable {x0 x1 x8 x2 dh x D g} in
/-- The rows' gradient. -/
theorem pay7_apply (hh : ∀ r c, x0 (ix2 r c) = (dh r c : EReal)) (hx : ∀ r c, x1 (ix2 r c) = (x r c : EReal))
    (hD : ∀ r c, x8 (ix2 r c) = (D r c : EReal)) (hg : ∀ c, x2 (ix2 0 c) = (g c : EReal)) (r c : Fin 1024) :
    k0_pay7 (F := Ideal) x1 x8 x2 x0 (ix2 r c) = (dxOf D x dh g r c : EReal) := by
  have e : ∀ r c : Fin 1024, mulf (F := Ideal) (k0_pay3 (F := Ideal) x8) (broadcastTo S1024x1024 x2 broadcasts_S1x1024_S1024x1024) (ix2 r c)
      = ((D r c * g c : ℝ) : EReal) := fun r c => by
    unfold k0_pay3
    rw [shapeCast_self]
    show x8 (ix2 r c) * (broadcastTo S1024x1024 x2 _ (ix2 r c) : EReal) = _
    rw [broadcastTo_1b_ab_apply, hD, hg, EReal.coe_mul]
  unfold k0_pay7
  show x0 (ix2 r c) + (broadcastTo S1024x1024 (k0_pay4 (F := Ideal) x1) _ (ix2 r c)) *
    (mulf (F := Ideal) (k0_pay3 (F := Ideal) x8) (broadcastTo S1024x1024 x2 broadcasts_S1x1024_S1024x1024) (ix2 r c)
      - k0_pay5 (F := Ideal) x1 (ix2 r c) * (broadcastTo S1024x1024 (divf (F := Ideal) (shapeCast S1024x1
          (multiReduction (F := Ideal) .add [1] S1024 (mulf (F := Ideal) (mulf (F := Ideal) (k0_pay3 (F := Ideal) x8) (broadcastTo S1024x1024 x2 broadcasts_S1x1024_S1024x1024)) (k0_pay5 (F := Ideal) x1))
            0x00000000#32 reduces_S1024x1024_S1024 (.inl rfl) rfl) shapeCasts_S1024_S1024x1)
          (broadcast S1024x1 (Scalar.ofBits (F := Ideal) .f32 0x44800000#32))) broadcasts_S1024x1_S1024x1024 (ix2 r c))) = _
  rw [bcast_col, bcast_col, e, pay5_apply hx, hh]
  have e4 : k0_pay4 (F := Ideal) x1 (ix2 r 0) = (scale x r : EReal) := pay4_apply hx r 0
  have e5 : divf (F := Ideal) (shapeCast S1024x1
          (multiReduction (F := Ideal) .add [1] S1024 (mulf (F := Ideal) (mulf (F := Ideal) (k0_pay3 (F := Ideal) x8) (broadcastTo S1024x1024 x2 broadcasts_S1x1024_S1024x1024)) (k0_pay5 (F := Ideal) x1))
            0x00000000#32 reduces_S1024x1024_S1024 (.inl rfl) rfl) shapeCasts_S1024_S1024x1)
          (broadcast S1024x1 (Scalar.ofBits (F := Ideal) .f32 0x44800000#32)) (ix2 r 0)
      = (((∑ k, D r k * g k * hat x r k) / 1024 : ℝ) : EReal) := by
    refine (congrArg (fun q => Ideal.div q (Ideal.ofBits .f32 0x44800000#32)) ((shapeCast_a_a1_apply _ _ r 0).trans
      ((sum_cols _ _ _ _ _ r).trans (sum_eq_coe (f := fun k : Fin 1024 => D r k * g k * hat x r k) fun k => ?_)))).trans ?_
    · rw [EReal.coe_mul, ← e, ← pay5_apply hx]
      rfl
    rw [ofBits_1024]
    exact div_real _ _ (by norm_num)
  refine (congrArg₂ (fun p q : EReal => (dh r c : EReal) + p * (((D r c * g c : ℝ) : EReal) - (hat x r c : EReal) * q)) e4 e5).trans ?_
  rw [← EReal.coe_mul, ← EReal.coe_sub, ← EReal.coe_mul, ← EReal.coe_add]
  rfl

end Last

end Cert.Kernel2Ideal.FfnValue

end
-- ==== Proof.FfnPoint.lean ====
/-
  What one point of the feed-forward gradient's kernel leaves in its output buffers, for finite blocks: the point goes over its
  1024 rows in four quarters of 256.
-/
module

public import proofs.«01_k».proof.Proof.FfnPay
public import Idealize.ShloMosaic.Lib.Pipeline.ReadBack

@[expose] public section

noncomputable section

open Idealize.ShloMosaic hiding ix1 ix2 ix3 eq_ix2 eq_ix3
open Idealize.ShloMosaic.TcCoe Idealize.SL.Sem Idealize.ShloMosaic.ValueIdx
open Idealize.ShloMosaic.Pipeline (Dat)
open scoped BigOperators

namespace Cert.Kernel2Ideal.FfnValue

open Cert.Kernel2Ideal Cert.Kernel2Ideal.Gen Cert.FfnSpec Cert.Basics

/-- Row `r` of the quarter that begins at row `o`. -/
abbrev qrow (o : ℕ) (ho : o + 256 ≤ 1024) (r : Fin 256) : Fin 1024 := ⟨o + r.val, by have := r.isLt; omega⟩

/-- A load of a quarter's rows. -/
theorem ld_rows (x : Vec Ideal S1024x1024 .f32) (o : ℕ) (ho : o + 256 ≤ 1024) (inb) (r : Fin 256) (c : Fin 1024) :
    View.ld x (Rect.unit (s := S1024x1024) ![o, 0] ![256, 1024] inb) (ix2 r c) = x (ix2 (qrow o ho r) c) :=
  congrArg x (Shape.idx_ext₂ (by show o + 1 * r.val = o + r.val; omega) (by show 0 + 1 * c.val = c.val; omega))

/-- The same of a block with a unit axis in front. -/
theorem ld_rows3 (x : Vec Ideal S1x1024x704 .bf16) (o : ℕ) (ho : o + 256 ≤ 1024) (inb) (r : Fin 256) (j : Fin 704) :
    View.ld x (Rect.unit (s := S1x1024x704) ![0, o, 0] ![1, 256, 704] inb) (ix3 0 r j) = x (ix3 0 (qrow o ho r) j) :=
  congrArg x (funext fun a => Fin.ext (match a with
    | 0 => rfl
    | 1 => by show o + 1 * r.val = o + r.val; omega
    | 2 => by show 0 + 1 * j.val = j.val; omega))

/-- Where a quarter's row lies in the buffer. -/
theorem emb_rows (o : ℕ) (ho : o + 256 ≤ 1024) (inb) (r : Fin 256) (c : Fin 1024) :
    (Rect.unit (s := S1024x1024) ![o, 0] ![256, 1024] inb).emb (ix2 r c) = ix2 (qrow o ho r) c :=
  Shape.idx_ext₂ (by show o + 1 * r.val = o + r.val; omega) (by show 0 + 1 * c.val = c.val; omega)
theorem emb_rows3 (o : ℕ) (ho : o + 256 ≤ 1024) (inb) (r : Fin 256) (j : Fin 704) :
    (Rect.unit (s := S1x1024x704) ![0, o, 0] ![1, 256, 704] inb).emb (ix3 0 r j) = ix3 0 (qrow o ho r) j :=
  funext fun a => Fin.ext (match a with
    | 0 => rfl
    | 1 => by show o + 1 * r.val = o + r.val; omega
    | 2 => by show 0 + 1 * j.val = j.val; omega)

/-- A quarter stored over `L` leaves `G` if the quarter is one of `G`'s and `L` leaves `G` at the other rows. -/
theorem canon_step (G : S1024x1024.Idx → EReal) (o : ℕ) (ho : o + 256 ≤ 1024) (inb) (w : Vec Ideal S256x1024 .f32)
    (L : List (View.Piece (Elt Ideal) S1024x1024 .f32)) (h : ∀ r c, w (ix2 r c) = G (ix2 (qrow o ho r) c)) (a b : Fin 1024)
    (hL : a.val < o ∨ o + 256 ≤ a.val → View.canon (Val := Elt Ideal) L (ix2 a b) = G (ix2 a b)) :
    View.canon (Val := Elt Ideal) (⟨Rect.unit ![o, 0] ![256, 1024] inb, w⟩ :: L) (ix2 a b) = G (ix2 a b) := by
  by_cases hy : o ≤ a.val ∧ a.val < o + 256
  · obtain ⟨r, rfl⟩ : ∃ r : Fin 256, a = qrow o ho r := ⟨⟨a.val - o, by omega⟩, Fin.ext (by show a.val = o + (a.val - o); omega)⟩
    have e := View.canon_cons_emb (Val := Elt Ideal) (e := .f32) (Rect.unit (s := S1024x1024) ![o, 0] ![256, 1024] inb) w L (ix2 r b)
    rw [emb_rows o ho inb r b] at e
    exact e.trans (h r b)
  · refine (View.canon_cons_of_not_mem (Val := Elt Ideal) (e := .f32) ⟨Rect.unit (s := S1024x1024) ![o, 0] ![256, 1024] inb, w⟩ L fun hm => hy ?_).trans (hL (by omega))
    obtain ⟨k, hk, e⟩ := (LoadRect.mem_set _).mp hm 0
    have hk : k < 256 := hk
    have e : a.val = o + 1 * k := e
    omega

/-- Four quarters stored over anything leave the buffer they are quarters of. -/
theorem canon_rows (G : S1024x1024.Idx → EReal) (w3 w2 w1 w0 : Vec Ideal S256x1024 .f32) (L : List (View.Piece (Elt Ideal) S1024x1024 .f32))
    (h3 : ∀ r c, w3 (ix2 r c) = G (ix2 (qrow 768 (by omega) r) c)) (h2 : ∀ r c, w2 (ix2 r c) = G (ix2 (qrow 512 (by omega) r) c))
    (h1 : ∀ r c, w1 (ix2 r c) = G (ix2 (qrow 256 (by omega) r) c)) (h0 : ∀ r c, w0 (ix2 r c) = G (ix2 (qrow 0 (by omega) r) c)) :
    View.canon (Val := Elt Ideal) (⟨Rect.unit ![768, 0] ![256, 1024] inb_S1024x1024_S256x1024_768_0, w3⟩
      :: ⟨Rect.unit ![512, 0] ![256, 1024] inb_S1024x1024_S256x1024_512_0, w2⟩
      :: ⟨Rect.unit ![256, 0] ![256, 1024] inb_S1024x1024_S256x1024_256_0, w1⟩
      :: ⟨Rect.unit ![0, 0] ![256, 1024] inb_S1024x1024_S256x1024_0_0, w0⟩ :: L) = G := by
  funext y
  obtain ⟨a, b, rfl⟩ : ∃ (a b : Fin 1024), y = ix2 a b := ⟨y 0, y 1, eq_ix2 y⟩
  exact canon_step G 768 _ _ w3 _ h3 a b fun c3 => canon_step G 512 _ _ w2 _ h2 a b fun c2 => canon_step G 256 _ _ w1 _ h1 a b fun c1 =>
    canon_step G 0 _ _ w0 _ h0 a b fun c0 => absurd c0 (by omega)

/-- The same of a buffer with a unit axis in front. -/
theorem canon_step3 (G : S1x1024x704.Idx → EReal) (o : ℕ) (ho : o + 256 ≤ 1024) (inb) (w : Vec Ideal S1x256x704 .bf16)
    (L : List (View.Piece (Elt Ideal) S1x1024x704 .bf16)) (h : ∀ r c, w (ix3 0 r c) = G (ix3 0 (qrow o ho r) c)) (a : Fin 1024) (b : Fin 704)
    (hL : a.val < o ∨ o + 256 ≤ a.val → View.canon (Val := Elt Ideal) L (ix3 0 a b) = G (ix3 0 a b)) :
    View.canon (Val := Elt Ideal) (⟨Rect.unit ![0, o, 0] ![1, 256, 704] inb, w⟩ :: L) (ix3 0 a b) = G (ix3 0 a b) := by
  by_cases hy : o ≤ a.val ∧ a.val < o + 256
  · obtain ⟨r, rfl⟩ : ∃ r : Fin 256, a = qrow o ho r := ⟨⟨a.val - o, by omega⟩, Fin.ext (by show a.val = o + (a.val - o); omega)⟩
    have e := View.canon_cons_emb (Val := Elt Ideal) (e := .bf16) (Rect.unit (s := S1x1024x704) ![0, o, 0] ![1, 256, 704] inb) w L (ix3 0 r b)
    rw [emb_rows3 o ho inb r b] at e
    exact e.trans (h r b)
  · refine (View.canon_cons_of_not_mem (Val := Elt Ideal) (e := .bf16) ⟨Rect.unit (s := S1x1024x704) ![0, o, 0] ![1, 256, 704] inb, w⟩ L fun hm => hy ?_).trans (hL (by omega))
    obtain ⟨k, hk, e⟩ := (LoadRect.mem_set _).mp hm 1
    have hk : k < 256 := hk
    have e : a.val = o + 1 * k := e
    omega

theorem canon_rows3 (G : S1x1024x704.Idx → EReal) (w3 w2 w1 w0 : Vec Ideal S1x256x704 .bf16)
    (h3 : ∀ r c, w3 (ix3 0 r c) = G (ix3 0 (qrow 768 (by omega) r) c)) (h2 : ∀ r c, w2 (ix3 0 r c) = G (ix3 0 (qrow 512 (by omega) r) c))
    (h1 : ∀ r c, w1 (ix3 0 r c) = G (ix3 0 (qrow 256 (by omega) r) c)) (h0 : ∀ r c, w0 (ix3 0 r c) = G (ix3 0 (qrow 0 (by omega) r) c)) :
    View.canon (Val := Elt Ideal) (e := .bf16) [⟨Rect.unit ![0, 768, 0] ![1, 256, 704] inb_S1x1024x704_S1x256x704_0_768_0, w3⟩,
      ⟨Rect.unit ![0, 512, 0] ![1, 256, 704] inb_S1x1024x704_S1x256x704_0_512_0, w2⟩,
      ⟨Rect.unit ![0, 256, 0] ![1, 256, 704] inb_S1x1024x704_S1x256x704_0_256_0, w1⟩,
      ⟨Rect.unit ![0, 0, 0] ![1, 256, 704] inb_S1x1024x704_S1x256x704_0_0_0, w0⟩] = G := by
  funext y
  obtain ⟨u, a, b, rfl⟩ : ∃ (u : Fin 1) (a : Fin 1024) (b : Fin 704), y = ix3 u a b := ⟨y 0, y 1, y 2, eq_ix3 y⟩
  obtain rfl : u = 0 := Subsingleton.elim _ _
  exact canon_step3 G 768 _ _ w3 _ h3 a b fun c3 => canon_step3 G 512 _ _ w2 _ h2 a b fun c2 => canon_step3 G 256 _ _ w1 _ h1 a b fun c1 =>
    canon_step3 G 0 _ _ w0 _ h0 a b fun c0 => absurd c0 (by omega)

/-! ## Finite blocks -/

/-- A point's blocks are finite: what they hold. -/
structure Blocks (x0 x1 : Vec Ideal S1024x1024 .f32) (x2 : Vec Ideal S1x1024 .f32) (x3 x4 : Vec Ideal S1x1024x704 .bf16)
    (x5 x6 x7 : Vec Ideal S1x704x1024 .bf16) (dh x : Fin 1024 → Fin 1024 → ℝ) (g : Fin 1024 → ℝ) (p q : Fin 1024 → Fin 704 → ℝ)
    (wg wu wd : Fin 704 → Fin 1024 → ℝ) : Prop where
  h0 : ∀ r c, x0 (ix2 r c) = (dh r c : EReal)
  h1 : ∀ r c, x1 (ix2 r c) = (x r c : EReal)
  h2 : ∀ c, x2 (ix2 0 c) = (g c : EReal)
  h3 : ∀ r c, x3 (ix3 0 r c) = (p r c : EReal)
  h4 : ∀ r c, x4 (ix3 0 r c) = (q r c : EReal)
  h5 : ∀ r c, x5 (ix3 0 r c) = (wg r c : EReal)
  h6 : ∀ r c, x6 (ix3 0 r c) = (wu r c : EReal)
  h7 : ∀ r c, x7 (ix3 0 r c) = (wd r c : EReal)

/-- The cotangent of the gated rows on a block of columns. -/
def bmid (dh : Fin 1024 → Fin 1024 → ℝ) (wd : Fin 704 → Fin 1024 → ℝ) (r : Fin 1024) (j : Fin 704) : ℝ := ∑ k, (1 / 2 * dh r k) * wd j k
/-- What a block of columns adds to the gradient with respect to the normalised rows. -/
def bstep (dh : Fin 1024 → Fin 1024 → ℝ) (p q : Fin 1024 → Fin 704 → ℝ) (wg wu wd : Fin 704 → Fin 1024 → ℝ) (r c : Fin 1024) : ℝ :=
  ∑ j, (bmid dh wd r j * p r j * wg j c + bmid dh wd r j * q r j * wu j c)

section

variable {x0 x1 : Vec Ideal S1024x1024 .f32} {x2 : Vec Ideal S1x1024 .f32} {x3 x4 : Vec Ideal S1x1024x704 .bf16}
    {x5 x6 x7 : Vec Ideal S1x704x1024 .bf16} {dh x : Fin 1024 → Fin 1024 → ℝ} {g : Fin 1024 → ℝ} {p q : Fin 1024 → Fin 704 → ℝ}
    {wg wu wd : Fin 704 → Fin 1024 → ℝ} (H : Blocks x0 x1 x2 x3 x4 x5 x6 x7 dh x g p q wg wu wd)

include H

theorem mid_apply (o : ℕ) (ho : o + 256 ≤ 1024) (inb) (r : Fin 256) (j : Fin 704) :
    k0_pay10 (F := Ideal) (View.ld x0 (Rect.unit (s := S1024x1024) ![o, 0] ![256, 1024] inb)) x7 (ix2 r j) = (bmid dh wd (qrow o ho r) j : EReal) := by
  rw [pay10_apply, bmid]
  refine sum_eq_coe fun k => ?_
  rw [ld_rows x0 o ho inb r k, ofBits_half, H.h0, H.h7, ← EReal.coe_mul, ← EReal.coe_mul]

theorem gate_apply (o : ℕ) (ho : o + 256 ≤ 1024) (inb inb') (r : Fin 256) (j : Fin 704) :
    k0_pay14 (F := Ideal) (k0_pay10 (F := Ideal) (View.ld x0 (Rect.unit (s := S1024x1024) ![o, 0] ![256, 1024] inb)) x7)
      (View.ld x3 (Rect.unit (s := S1x1024x704) ![0, o, 0] ![1, 256, 704] inb')) (ix2 r j)
      = ((bmid dh wd (qrow o ho r) j * p (qrow o ho r) j : ℝ) : EReal) := by
  rw [pay14_apply, mid_apply H o ho, ld_rows3 x3 o ho inb' r j, H.h3, ← EReal.coe_mul]

theorem up_apply (o : ℕ) (ho : o + 256 ≤ 1024) (inb inb') (r : Fin 256) (j : Fin 704) :
    k0_pay14 (F := Ideal) (k0_pay10 (F := Ideal) (View.ld x0 (Rect.unit (s := S1024x1024) ![o, 0] ![256, 1024] inb)) x7)
      (View.ld x4 (Rect.unit (s := S1x1024x704) ![0, o, 0] ![1, 256, 704] inb')) (ix2 r j)
      = ((bmid dh wd (qrow o ho r) j * q (qrow o ho r) j : ℝ) : EReal) := by
  rw [pay14_apply, mid_apply H o ho, ld_rows3 x4 o ho inb' r j, H.h4, ← EReal.coe_mul]

/-- A quarter of the accumulation. -/
theorem quarter (o : ℕ) (ho : o + 256 ≤ 1024) (inb inb') (A : Vec Ideal S256x1024 .f32) (P : Fin 1024 → Fin 1024 → ℝ)
    (hA : ∀ r c, A (ix2 r c) = (P (qrow o ho r) c : EReal)) (r : Fin 256) (c : Fin 1024) :
    k0_pay30 (F := Ideal)
      (k0_pay14 (F := Ideal) (k0_pay10 (F := Ideal) (View.ld x0 (Rect.unit (s := S1024x1024) ![o, 0] ![256, 1024] inb)) x7)
        (View.ld x3 (Rect.unit (s := S1x1024x704) ![0, o, 0] ![1, 256, 704] inb')))
      (k0_pay14 (F := Ideal) (k0_pay10 (F := Ideal) (View.ld x0 (Rect.unit (s := S1024x1024) ![o, 0] ![256, 1024] inb)) x7)
        (View.ld x4 (Rect.unit (s := S1x1024x704) ![0, o, 0] ![1, 256, 704] inb'))) A x5 x6 (ix2 r c)
      = ((P (qrow o ho r) c + bstep dh p q wg wu wd (qrow o ho r) c : ℝ) : EReal) := by
  rw [pay30_apply, hA, EReal.coe_add, bstep, Finset.sum_add_distrib, EReal.coe_add]
  refine congrArg (_ + ·) (congrArg₂ (· + ·) (sum_eq_coe fun j => ?_) (sum_eq_coe fun j => ?_))
  · rw [gate_apply H o ho, H.h5, ← EReal.coe_mul]
  · rw [up_apply H o ho, H.h6, ← EReal.coe_mul]

end

end Cert.Kernel2Ideal.FfnValue

end
-- ==== Proof.FfnCases.lean ====
/-
  The four kinds of grid points of the feed-forward gradient's kernel: the first point of all, the first point of a block of
  rows, a point inside, and the last point of a block of rows.
-/
module

public import proofs.«01_k».proof.Proof.FfnPoint

@[expose] public section

noncomputable section

open Idealize.ShloMosaic hiding ix1 ix2 ix3 eq_ix2 eq_ix3
open Idealize.ShloMosaic.TcCoe Idealize.SL.Sem Idealize.ShloMosaic.ValueIdx
open Idealize.ShloMosaic.Pipeline (Dat)
open scoped BigOperators

namespace Cert.Kernel2Ideal.FfnValue

open Cert.Kernel2Ideal Cert.Kernel2Ideal.Gen Cert.FfnSpec Cert.Basics

variable (m : (ℓ : Loc nD τ sig) → Buf (Elt Ideal) ℓ)

/-- What the point before `t` left. -/
abbrev prev (c : Dev nD) (t : Fin cfg0.N) := outsAt0 m c (t.val - 1) (Nat.lt_of_le_of_lt (Nat.sub_le _ _) t.isLt)

/-- The blocks of point `t`. -/
abbrev BlocksAt (c : Dev nD) (t : Fin cfg0.N) (dh x : Fin 1024 → Fin 1024 → ℝ) (g : Fin 1024 → ℝ) (p q : Fin 1024 → Fin 704 → ℝ)
    (wg wu wd : Fin 704 → Fin 1024 → ℝ) : Prop :=
  Blocks (iblk m c 0 t) (iblk m c 1 t) (iblk m c 2 t) (iblk m c 3 t) (iblk m c 4 t) (iblk m c 5 t) (iblk m c 6 t) (iblk m c 7 t)
    dh x g p q wg wu wd

variable {m} {c : Dev nD} {t : Fin cfg0.N} {dh x : Fin 1024 → Fin 1024 → ℝ} {g : Fin 1024 → ℝ} {p q : Fin 1024 → Fin 704 → ℝ}
  {wg wu wd : Fin 704 → Fin 1024 → ℝ} (H : BlocksAt m c t dh x g p q wg wu wd) (P : Fin 1024 → Fin 1024 → ℝ)

theorem idx_whole (inb) (r c : Fin 1024) :
    (Rect.unit (s := S1024x1024) ![0, 0] ![1024, 1024] inb).toLoadRect.idx (ix2 r c) = ix2 r c :=
  Shape.idx_ext₂ (by show 0 + 1 * r.val = r.val; omega) (by show 0 + 1 * c.val = c.val; omega)

/-- The accumulator's block after a step over the blocks `P`. -/
abbrev Acc (dh : Fin 1024 → Fin 1024 → ℝ) (p q : Fin 1024 → Fin 704 → ℝ) (wg wu wd : Fin 704 → Fin 1024 → ℝ) (P : Fin 1024 → Fin 1024 → ℝ) :
    S1024x1024.Idx → EReal := fun y => ((P (y 0) (y 1) + bstep dh p q wg wu wd (y 0) (y 1) : ℝ) : EReal)

theorem pay9_apply (y : S1024x1024.Idx) : k0_pay9 (F := Ideal) y = ((0 : ℝ) : EReal) := ofBits_zero.trans EReal.coe_zero.symm
theorem pay8_apply (y : S1x1024.Idx) : k0_pay8 (F := Ideal) y = ((0 : ℝ) : EReal) := ofBits_zero.trans EReal.coe_zero.symm

/-- A load of rows after the whole buffer has been filled with zeros. -/
theorem ld_zero (o : ℕ) (inb inb') (r : Fin 256) (k : Fin 1024) :
    (ms0_8 t).view.readCov (Val := Elt Ideal) [⟨Rect.unit ![0, 0] ![1024, 1024] inb', k0_pay9 (F := Ideal)⟩]
      (Rect.unit (s := S1024x1024) ![o, 0] ![256, 1024] inb).toLoadRect (ix2 r k) = ((0 : ℝ) : EReal) := by
  rw [View.readCov_fill _ inb' _ _ _ (fun a => by fin_cases a <;> rfl)]
  exact pay9_apply _

include H

theorem rows_C (h0 : ¬t.val % 32 = 0) (h1 : ¬t.val % 4 = 0) (h2 : t.val % 4 = 3) (hP : ∀ r k, (prev m c t).1 (ix2 r k) = (P r k : EReal))
    (r k : Fin 1024) :
    (outsAt0 m c t.val t.isLt).1 (ix2 r k) = (dxOf (fun r k => P r k + bstep dh p q wg wu wd r k) x dh g r k : EReal) := by
  rw [outsAt0_C m c t h0 h1 h2]
  frame_out
  refine pay7_apply H.h0 H.h1 (fun r k => ?_) H.h2 r k
  refine (congrFun (View.readCov_eq_canon' _ _ _) _).trans ((congrArg _ (idx_whole _ r k)).trans ?_)
  refine (congrFun (canon_rows (Acc dh p q wg wu wd P) _ _ _ _ [] ?_ ?_ ?_ ?_) (ix2 r k)).trans rfl
  · exact quarter H 768 (by omega) _ _ _ P (fun r c => (ld_rows _ 768 (by omega) _ r c).trans (hP _ _))
  · exact quarter H 512 (by omega) _ _ _ P (fun r c => (ld_rows _ 512 (by omega) _ r c).trans (hP _ _))
  · exact quarter H 256 (by omega) _ _ _ P (fun r c => (ld_rows _ 256 (by omega) _ r c).trans (hP _ _))
  · exact quarter H 0 (by omega) _ _ _ P (fun r c => (ld_rows _ 0 (by omega) _ r c).trans (hP _ _))

theorem gain_C (h0 : ¬t.val % 32 = 0) (h1 : ¬t.val % 4 = 0) (h2 : t.val % 4 = 3) (hP : ∀ r k, (prev m c t).1 (ix2 r k) = (P r k : EReal))
    (k : Fin 1024) :
    (outsAt0 m c t.val t.isLt).2.2.2 (ix2 0 k)
      = (prev m c t).2.2.2 (ix2 0 k) + ((∑ r, (P r k + bstep dh p q wg wu wd r k) * hat x r k : ℝ) : EReal) := by
  rw [outsAt0_C m c t h0 h1 h2]
  frame_out
  refine pay6_apply _ (D := fun r k => P r k + bstep dh p q wg wu wd r k) H.h1 (fun r k => ?_) 0 k
  refine (congrFun (View.readCov_eq_canon' _ _ _) _).trans ((congrArg _ (idx_whole _ r k)).trans ?_)
  refine (congrFun (canon_rows (Acc dh p q wg wu wd P) _ _ _ _ [] ?_ ?_ ?_ ?_) (ix2 r k)).trans rfl
  · exact quarter H 768 (by omega) _ _ _ P (fun r c => (ld_rows _ 768 (by omega) _ r c).trans (hP _ _))
  · exact quarter H 512 (by omega) _ _ _ P (fun r c => (ld_rows _ 512 (by omega) _ r c).trans (hP _ _))
  · exact quarter H 256 (by omega) _ _ _ P (fun r c => (ld_rows _ 256 (by omega) _ r c).trans (hP _ _))
  · exact quarter H 0 (by omega) _ _ _ P (fun r c => (ld_rows _ 0 (by omega) _ r c).trans (hP _ _))

theorem rows_B (h0 : ¬t.val % 32 = 0) (h1 : ¬t.val % 4 = 0) (h2 : ¬t.val % 4 = 3) (hP : ∀ r k, (prev m c t).1 (ix2 r k) = (P r k : EReal))
    (r k : Fin 1024) :
    (outsAt0 m c t.val t.isLt).1 (ix2 r k) = ((P r k + bstep dh p q wg wu wd r k : ℝ) : EReal) := by
  rw [outsAt0_B m c t h0 h1 h2]
  frame_out
  refine (congrFun (canon_rows (Acc dh p q wg wu wd P) _ _ _ _ [] ?_ ?_ ?_ ?_) (ix2 r k)).trans rfl
  · exact quarter H 768 (by omega) _ _ _ P (fun r c => (ld_rows _ 768 (by omega) _ r c).trans (hP _ _))
  · exact quarter H 512 (by omega) _ _ _ P (fun r c => (ld_rows _ 512 (by omega) _ r c).trans (hP _ _))
  · exact quarter H 256 (by omega) _ _ _ P (fun r c => (ld_rows _ 256 (by omega) _ r c).trans (hP _ _))
  · exact quarter H 0 (by omega) _ _ _ P (fun r c => (ld_rows _ 0 (by omega) _ r c).trans (hP _ _))

omit H in
theorem gain_B (h0 : ¬t.val % 32 = 0) (h1 : ¬t.val % 4 = 0) (h2 : ¬t.val % 4 = 3) :
    (outsAt0 m c t.val t.isLt).2.2.2 = (prev m c t).2.2.2 := by
  rw [outsAt0_B m c t h0 h1 h2]
  exact rfl

theorem rows_A (h0 : t.val % 32 = 0) (h1 : t.val % 4 = 0) (h2 : ¬t.val % 4 = 3) (r k : Fin 1024) :
    (outsAt0 m c t.val t.isLt).1 (ix2 r k) = ((bstep dh p q wg wu wd r k : ℝ) : EReal) := by
  rw [outsAt0_A m c t h0 h1 h2]
  frame_out
  refine (congrFun (canon_rows (Acc dh p q wg wu wd fun _ _ => 0) _ _ _ _ _ ?_ ?_ ?_ ?_) (ix2 r k)).trans
    (by show (((0 : ℝ) + _ : ℝ) : EReal) = _; rw [zero_add])
  · refine quarter H 768 (by omega) _ _ _ (fun _ _ => 0) fun r c => ?_
    rw [View.readCov_skip _ _ _ _ _ (by decide), View.readCov_skip _ _ _ _ _ (by decide), View.readCov_skip _ _ _ _ _ (by decide)]
    exact ld_zero 768 _ _ r c
  · refine quarter H 512 (by omega) _ _ _ (fun _ _ => 0) fun r c => ?_
    rw [View.readCov_skip _ _ _ _ _ (by decide), View.readCov_skip _ _ _ _ _ (by decide)]
    exact ld_zero 512 _ _ r c
  · refine quarter H 256 (by omega) _ _ _ (fun _ _ => 0) fun r c => ?_
    rw [View.readCov_skip _ _ _ _ _ (by decide)]
    exact ld_zero 256 _ _ r c
  · exact quarter H 0 (by omega) _ _ _ (fun _ _ => 0) fun r c => ld_zero 0 _ _ r c

theorem rows_D (h0 : ¬t.val % 32 = 0) (h1 : t.val % 4 = 0) (h2 : ¬t.val % 4 = 3) (r k : Fin 1024) :
    (outsAt0 m c t.val t.isLt).1 (ix2 r k) = ((bstep dh p q wg wu wd r k : ℝ) : EReal) := by
  rw [outsAt0_D m c t h0 h1 h2]
  frame_out
  refine (congrFun (canon_rows (Acc dh p q wg wu wd fun _ _ => 0) _ _ _ _ _ ?_ ?_ ?_ ?_) (ix2 r k)).trans
    (by show (((0 : ℝ) + _ : ℝ) : EReal) = _; rw [zero_add])
  · refine quarter H 768 (by omega) _ _ _ (fun _ _ => 0) fun r c => ?_
    rw [View.readCov_skip _ _ _ _ _ (by decide), View.readCov_skip _ _ _ _ _ (by decide), View.readCov_skip _ _ _ _ _ (by decide)]
    exact ld_zero 768 _ _ r c
  · refine quarter H 512 (by omega) _ _ _ (fun _ _ => 0) fun r c => ?_
    rw [View.readCov_skip _ _ _ _ _ (by decide), View.readCov_skip _ _ _ _ _ (by decide)]
    exact ld_zero 512 _ _ r c
  · refine quarter H 256 (by omega) _ _ _ (fun _ _ => 0) fun r c => ?_
    rw [View.readCov_skip _ _ _ _ _ (by decide)]
    exact ld_zero 256 _ _ r c
  · exact quarter H 0 (by omega) _ _ _ (fun _ _ => 0) fun r c => ld_zero 0 _ _ r c

omit H in
theorem gain_D (h0 : ¬t.val % 32 = 0) (h1 : t.val % 4 = 0) (h2 : ¬t.val % 4 = 3) :
    (outsAt0 m c t.val t.isLt).2.2.2 = (prev m c t).2.2.2 := by
  rw [outsAt0_D m c t h0 h1 h2]
  exact rfl

omit H in
theorem gain_A (h0 : t.val % 32 = 0) (h1 : t.val % 4 = 0) (h2 : ¬t.val % 4 = 3) (k : Fin 1024) :
    (outsAt0 m c t.val t.isLt).2.2.2 (ix2 0 k) = ((0 : ℝ) : EReal) := by
  rw [outsAt0_A m c t h0 h1 h2]
  frame_out
  exact pay8_apply _

theorem gate_A (h0 : t.val % 32 = 0) (h1 : t.val % 4 = 0) (h2 : ¬t.val % 4 = 3) (r : Fin 1024) (j : Fin 704) :
    (outsAt0 m c t.val t.isLt).2.1 (ix3 0 r j) = ((bmid dh wd r j * p r j : ℝ) : EReal) := by
  rw [outsAt0_A m c t h0 h1 h2]
  frame_out
  refine (congrFun (canon_rows3 (fun y => ((bmid dh wd (y 1) (y 2) * p (y 1) (y 2) : ℝ) : EReal)) _ _ _ _ ?_ ?_ ?_ ?_) (ix3 0 r j)).trans rfl
  · exact fun r j => (pay20_apply _ 0 r j).trans (gate_apply H 768 (by omega) _ _ r j)
  · exact fun r j => (pay20_apply _ 0 r j).trans (gate_apply H 512 (by omega) _ _ r j)
  · exact fun r j => (pay20_apply _ 0 r j).trans (gate_apply H 256 (by omega) _ _ r j)
  · exact fun r j => (pay20_apply _ 0 r j).trans (gate_apply H 0 (by omega) _ _ r j)

theorem gate_B (h0 : ¬t.val % 32 = 0) (h1 : ¬t.val % 4 = 0) (h2 : ¬t.val % 4 = 3) (r : Fin 1024) (j : Fin 704) :
    (outsAt0 m c t.val t.isLt).2.1 (ix3 0 r j) = ((bmid dh wd r j * p r j : ℝ) : EReal) := by
  rw [outsAt0_B m c t h0 h1 h2]
  frame_out
  refine (congrFun (canon_rows3 (fun y => ((bmid dh wd (y 1) (y 2) * p (y 1) (y 2) : ℝ) : EReal)) _ _ _ _ ?_ ?_ ?_ ?_) (ix3 0 r j)).trans rfl
  · exact fun r j => (pay20_apply _ 0 r j).trans (gate_apply H 768 (by omega) _ _ r j)
  · exact fun r j => (pay20_apply _ 0 r j).trans (gate_apply H 512 (by omega) _ _ r j)
  · exact fun r j => (pay20_apply _ 0 r j).trans (gate_apply H 256 (by omega) _ _ r j)
  · exact fun r j => (pay20_apply _ 0 r j).trans (gate_apply H 0 (by omega) _ _ r j)

theorem gate_C (h0 : ¬t.val % 32 = 0) (h1 : ¬t.val % 4 = 0) (h2 : t.val % 4 = 3) (r : Fin 1024) (j : Fin 704) :
    (outsAt0 m c t.val t.isLt).2.1 (ix3 0 r j) = ((bmid dh wd r j * p r j : ℝ) : EReal) := by
  rw [outsAt0_C m c t h0 h1 h2]
  frame_out
  refine (congrFun (canon_rows3 (fun y => ((bmid dh wd (y 1) (y 2) * p (y 1) (y 2) : ℝ) : EReal)) _ _ _ _ ?_ ?_ ?_ ?_) (ix3 0 r j)).trans rfl
  · exact fun r j => (pay20_apply _ 0 r j).trans (gate_apply H 768 (by omega) _ _ r j)
  · exact fun r j => (pay20_apply _ 0 r j).trans (gate_apply H 512 (by omega) _ _ r j)
  · exact fun r j => (pay20_apply _ 0 r j).trans (gate_apply H 256 (by omega) _ _ r j)
  · exact fun r j => (pay20_apply _ 0 r j).trans (gate_apply H 0 (by omega) _ _ r j)

theorem gate_D (h0 : ¬t.val % 32 = 0) (h1 : t.val % 4 = 0) (h2 : ¬t.val % 4 = 3) (r : Fin 1024) (j : Fin 704) :
    (outsAt0 m c t.val t.isLt).2.1 (ix3 0 r j) = ((bmid dh wd r j * p r j : ℝ) : EReal) := by
  rw [outsAt0_D m c t h0 h1 h2]
  frame_out
  refine (congrFun (canon_rows3 (fun y => ((bmid dh wd (y 1) (y 2) * p (y 1) (y 2) : ℝ) : EReal)) _ _ _ _ ?_ ?_ ?_ ?_) (ix3 0 r j)).trans rfl
  · exact fun r j => (pay20_apply _ 0 r j).trans (gate_apply H 768 (by omega) _ _ r j)
  · exact fun r j => (pay20_apply _ 0 r j).trans (gate_apply H 512 (by omega) _ _ r j)
  · exact fun r j => (pay20_apply _ 0 r j).trans (gate_apply H 256 (by omega) _ _ r j)
  · exact fun r j => (pay20_apply _ 0 r j).trans (gate_apply H 0 (by omega) _ _ r j)

/-- At every point. -/
theorem gate_at (r : Fin 1024) (j : Fin 704) :
    (outsAt0 m c t.val t.isLt).2.1 (ix3 0 r j) = ((bmid dh wd r j * p r j : ℝ) : EReal) := by
  have ht : t.val < 32 := t.isLt
  by_cases h2 : t.val % 4 = 3
  · exact gate_C H (by omega) (by omega) h2 r j
  by_cases h1 : t.val % 4 = 0
  · by_cases h0 : t.val % 32 = 0
    · exact gate_A H h0 h1 h2 r j
    · exact gate_D H h0 h1 h2 r j
  · exact gate_B H (by omega) h1 h2 r j

theorem up_A (h0 : t.val % 32 = 0) (h1 : t.val % 4 = 0) (h2 : ¬t.val % 4 = 3) (r : Fin 1024) (j : Fin 704) :
    (outsAt0 m c t.val t.isLt).2.2.1 (ix3 0 r j) = ((bmid dh wd r j * q r j : ℝ) : EReal) := by
  rw [outsAt0_A m c t h0 h1 h2]
  frame_out
  refine (congrFun (canon_rows3 (fun y => ((bmid dh wd (y 1) (y 2) * q (y 1) (y 2) : ℝ) : EReal)) _ _ _ _ ?_ ?_ ?_ ?_) (ix3 0 r j)).trans rfl
  · exact fun r j => (pay20_apply _ 0 r j).trans (up_apply H 768 (by omega) _ _ r j)
  · exact fun r j => (pay20_apply _ 0 r j).trans (up_apply H 512 (by omega) _ _ r j)
  · exact fun r j => (pay20_apply _ 0 r j).trans (up_apply H 256 (by omega) _ _ r j)
  · exact fun r j => (pay20_apply _ 0 r j).trans (up_apply H 0 (by omega) _ _ r j)

theorem up_B (h0 : ¬t.val % 32 = 0) (h1 : ¬t.val % 4 = 0) (h2 : ¬t.val % 4 = 3) (r : Fin 1024) (j : Fin 704) :
    (outsAt0 m c t.val t.isLt).2.2.1 (ix3 0 r j) = ((bmid dh wd r j * q r j : ℝ) : EReal) := by
  rw [outsAt0_B m c t h0 h1 h2]
  frame_out
  refine (congrFun (canon_rows3 (fun y => ((bmid dh wd (y 1) (y 2) * q (y 1) (y 2) : ℝ) : EReal)) _ _ _ _ ?_ ?_ ?_ ?_) (ix3 0 r j)).trans rfl
  · exact fun r j => (pay20_apply _ 0 r j).trans (up_apply H 768 (by omega) _ _ r j)
  · exact fun r j => (pay20_apply _ 0 r j).trans (up_apply H 512 (by omega) _ _ r j)
  · exact fun r j => (pay20_apply _ 0 r j).trans (up_apply H 256 (by omega) _ _ r j)
  · exact fun r j => (pay20_apply _ 0 r j).trans (up_apply H 0 (by omega) _ _ r j)

theorem up_C (h0 : ¬t.val % 32 = 0) (h1 : ¬t.val % 4 = 0) (h2 : t.val % 4 = 3) (r : Fin 1024) (j : Fin 704) :
    (outsAt0 m c t.val t.isLt).2.2.1 (ix3 0 r j) = ((bmid dh wd r j * q r j : ℝ) : EReal) := by
  rw [outsAt0_C m c t h0 h1 h2]
  frame_out
  refine (congrFun (canon_rows3 (fun y => ((bmid dh wd (y 1) (y 2) * q (y 1) (y 2) : ℝ) : EReal)) _ _ _ _ ?_ ?_ ?_ ?_) (ix3 0 r j)).trans rfl
  · exact fun r j => (pay20_apply _ 0 r j).trans (up_apply H 768 (by omega) _ _ r j)
  · exact fun r j => (pay20_apply _ 0 r j).trans (up_apply H 512 (by omega) _ _ r j)
  · exact fun r j => (pay20_apply _ 0 r j).trans (up_apply H 256 (by omega) _ _ r j)
  · exact fun r j => (pay20_apply _ 0 r j).trans (up_apply H 0 (by omega) _ _ r j)

theorem up_D (h0 : ¬t.val % 32 = 0) (h1 : t.val % 4 = 0) (h2 : ¬t.val % 4 = 3) (r : Fin 1024) (j : Fin 704) :
    (outsAt0 m c t.val t.isLt).2.2.1 (ix3 0 r j) = ((bmid dh wd r j * q r j : ℝ) : EReal) := by
  rw [outsAt0_D m c t h0 h1 h2]
  frame_out
  refine (congrFun (canon_rows3 (fun y => ((bmid dh wd (y 1) (y 2) * q (y 1) (y 2) : ℝ) : EReal)) _ _ _ _ ?_ ?_ ?_ ?_) (ix3 0 r j)).trans rfl
  · exact fun r j => (pay20_apply _ 0 r j).trans (up_apply H 768 (by omega) _ _ r j)
  · exact fun r j => (pay20_apply _ 0 r j).trans (up_apply H 512 (by omega) _ _ r j)
  · exact fun r j => (pay20_apply _ 0 r j).trans (up_apply H 256 (by omega) _ _ r j)
  · exact fun r j => (pay20_apply _ 0 r j).trans (up_apply H 0 (by omega) _ _ r j)

/-- At every point. -/
theorem up_at (r : Fin 1024) (j : Fin 704) :
    (outsAt0 m c t.val t.isLt).2.2.1 (ix3 0 r j) = ((bmid dh wd r j * q r j : ℝ) : EReal) := by
  have ht : t.val < 32 := t.isLt
  by_cases h2 : t.val % 4 = 3
  · exact up_C H (by omega) (by omega) h2 r j
  by_cases h1 : t.val % 4 = 0
  · by_cases h0 : t.val % 32 = 0
    · exact up_A H h0 h1 h2 r j
    · exact up_D H h0 h1 h2 r j
  · exact up_B H (by omega) h1 h2 r j

end Cert.Kernel2Ideal.FfnValue

end
-- ==== Proof.FfnReference.lean ====
/-
  The reference of the feed-forward gradient, read step by step at finite arguments: every step is a finite value, the one of the
  real expressions of `FfnSpec`.
-/
module

public import proofs.«01_k».proof.Proof.FfnSpec
public import proofs.«01_k».proof.Proof.Gen.Reference2Ideal.Read

@[expose] public section

noncomputable section

open Idealize.ShloMosaic Idealize.ShloMosaic.TcCoe Idealize.SL.Sem Idealize.ShloMosaic.ValueIdx
open scoped BigOperators

namespace Cert.Reference2Ideal.FfnValue

open Cert.Reference2Ideal Cert.Reference2Ideal.Gen Cert.Reference2Ideal.Read Cert.FfnSpec Cert.Basics

/-- The column `j` of the shard `s` of the hidden features. -/
abbrev shardCol (s : Fin 4) (j : Fin 704) : Fin 2816 := ⟨s.val * 704 + j.val, by have := s.isLt; have := j.isLt; omega⟩

/-- The six arguments hold the coercions of six real arrays. -/
structure ArgsAt (x0 x1 : Vec Ideal S8192x1024 .f32) (x2 : Vec Ideal S1x1024 .f32) (x3 x4 : Vec Ideal S1024x2816 .f32)
    (x5 : Vec Ideal S2816x1024 .f32) (dh x : Fin 8192 → Fin 1024 → ℝ) (g : Fin 1024 → ℝ) (wg wu : Fin 1024 → Fin 2816 → ℝ)
    (wd : Fin 2816 → Fin 1024 → ℝ) : Prop where
  h0 : ∀ r c, x0 (ix2 r c) = (dh r c : EReal)
  h1 : ∀ r c, x1 (ix2 r c) = (x r c : EReal)
  h2 : ∀ c, x2 (ix2 0 c) = (g c : EReal)
  h3 : ∀ c j, x3 (ix2 c j) = (wg c j : EReal)
  h4 : ∀ c j, x4 (ix2 c j) = (wu c j : EReal)
  h5 : ∀ j c, x5 (ix2 j c) = (wd j c : EReal)

variable {x0 x1 : Vec Ideal S8192x1024 .f32} {x2 : Vec Ideal S1x1024 .f32} {x3 x4 : Vec Ideal S1024x2816 .f32}
  {x5 : Vec Ideal S2816x1024 .f32} {dh x : Fin 8192 → Fin 1024 → ℝ} {g : Fin 1024 → ℝ} {wg wu : Fin 1024 → Fin 2816 → ℝ}
  {wd : Fin 2816 → Fin 1024 → ℝ} (H : ArgsAt x0 x1 x2 x3 x4 x5 dh x g wg wu wd)

include H

/-! ## The forward lines -/

/-- The row's sum of squares. -/
theorem squares_at (r : Fin 8192) : val_main_v1 (F := Ideal) x1 (ix1 r) = ((∑ k, x r k * x r k : ℝ) : EReal) := by
  rw [val_main_v1_apply]
  refine (congrArg₂ (· + ·) ofBits_zero (sum_eq_coe fun k => ?_)).trans (zero_add _)
  refine (congrArg (val_main_v0 (F := Ideal) x1) (show idx_main_v1 (ix1 r) k = ix2 r k from Shape.idx_ext₂ rfl rfl)).trans ?_
  show x1 (ix2 r k) * x1 (ix2 r k) = _
  rw [H.h1, ← EReal.coe_mul]

/-- The row's mean of squares, with the epsilon. -/
theorem mean_at (r : Fin 8192) (u : Fin 1) : val_main_v6 (F := Ideal) x1 (ix2 r u) = (meanSq x r : EReal) := by
  show Ideal.div (val_main_v2 (F := Ideal) x1 (ix2 r u)) (Ideal.ofBits .f32 0x44800000#32) + Ideal.ofBits .f32 0x358637BD#32 = _
  rw [val_main_v2_apply, show idx_main_v2 (ix2 r u) = ix1 r from funext fun a => by fin_cases a; rfl, squares_at H, ofBits_1024, ofBits_eps,
    div_real _ _ (by norm_num), ← EReal.coe_add]
  rfl

/-- The row's scale. -/
theorem scale_at (r : Fin 8192) (u : Fin 1) : val_main_v7 (F := Ideal) x1 (ix2 r u) = (scale x r : EReal) := by
  show Ideal.rsqrt (val_main_v6 (F := Ideal) x1 (ix2 r u)) = _
  rw [mean_at H]
  exact rsqrt_real _ (meanSq_pos x r)

/-- The derivative of the row's scale. -/
theorem slope_at (r : Fin 8192) (u : Fin 1) : val_main_v10 (F := Ideal) x1 (ix2 r u) = ((-(1 / 2) * (scale x r / meanSq x r) : ℝ) : EReal) := by
  show Ideal.ofBits .f32 0xBF000000#32 * Ideal.div (val_main_v7 (F := Ideal) x1 (ix2 r u)) (val_main_v6 (F := Ideal) x1 (ix2 r u)) = _
  rw [mean_at H, scale_at H, ofBits_neg_half, div_real _ _ (meanSq_pos x r).ne', ← EReal.coe_mul]

/-- The normalised row without the gain. -/
theorem hat_at (r : Fin 8192) (c : Fin 1024) : val_main_v12 (F := Ideal) x1 (ix2 r c) = (hat x r c : EReal) := by
  show x1 (ix2 r c) * val_main_v11 (F := Ideal) x1 (ix2 r c) = _
  rw [val_main_v11_apply, show idx_main_v11 (ix2 r c) = ix2 r 0 from Shape.idx_ext₂ rfl rfl, scale_at H, H.h1, ← EReal.coe_mul]
  rfl

/-- The normalised row. -/
theorem norm_at (r : Fin 8192) (c : Fin 1024) : val_main_v14 (F := Ideal) x1 x2 (ix2 r c) = (norm x g r c : EReal) := by
  show val_main_v12 (F := Ideal) x1 (ix2 r c) * val_main_v13 (F := Ideal) x2 (ix2 r c) = _
  rw [val_main_v13_apply, show idx_main_v13 (ix2 r c) = ix2 0 c from Shape.idx_ext₂ rfl rfl, hat_at H, H.h2, ← EReal.coe_mul]
  rfl

/-- The gate's projection. -/
theorem gateProj_at (r : Fin 8192) (j : Fin 2816) : val_main_v15 (F := Ideal) x1 x2 x3 (ix2 r j) = (proj x g wg r j : EReal) := by
  rw [val_main_v15_apply]
  refine sum_eq_coe fun k => ?_
  rw [show lidx_main_v15 (ix2 r j) k = ix2 r k from Shape.idx_ext₂ rfl rfl, show ridx_main_v15 (ix2 r j) k = ix2 k j from Shape.idx_ext₂ rfl rfl,
    norm_at H, H.h3, ← EReal.coe_mul]

/-- The other projection. -/
theorem upProj_at (r : Fin 8192) (j : Fin 2816) : val_main_v16 (F := Ideal) x1 x2 x4 (ix2 r j) = (proj x g wu r j : EReal) := by
  rw [val_main_v16_apply]
  refine sum_eq_coe fun k => ?_
  rw [show lidx_main_v16 (ix2 r j) k = ix2 r k from Shape.idx_ext₂ rfl rfl, show ridx_main_v16 (ix2 r j) k = ix2 k j from Shape.idx_ext₂ rfl rfl,
    norm_at H, H.h4, ← EReal.coe_mul]

omit H in
/-- The logistic function of a finite value. -/
theorem sig_real (a : ℝ) : Ideal.div (Ideal.ofBits .f32 0x3F800000#32) (Ideal.ofBits .f32 0x3F800000#32 + Ideal.exp (-(a : EReal))) = (Cert.FfnSpec.sig a : EReal) := by
  rw [ofBits_one, ← EReal.coe_neg, Ideal.exp_coe, ← EReal.coe_one, ← EReal.coe_add, div_real _ _ (by positivity)]
  rfl

/-- The logistic function of the gate's projection. -/
theorem sig_at (r : Fin 8192) (j : Fin 2816) : val_main_v17_2 (F := Ideal) x1 x2 x3 (ix2 r j) = (Cert.FfnSpec.sig (proj x g wg r j) : EReal) := by
  show Ideal.div (Ideal.ofBits .f32 0x3F800000#32) (Ideal.ofBits .f32 0x3F800000#32 + Ideal.exp (-(val_main_v15 (F := Ideal) x1 x2 x3 (ix2 r j)))) = _
  rw [gateProj_at H, sig_real]

/-! ## The hidden features' gradients -/

/-- The gradient of the hidden features. -/
theorem mid_at (r : Fin 8192) (j : Fin 2816) : val_main_v24 (F := Ideal) x0 x5 (ix2 r j) = (dmid dh wd r j : EReal) := by
  rw [val_main_v24_apply]
  refine sum_eq_coe fun k => ?_
  rw [show lidx_main_v24 (ix2 r j) k = ix2 r k from Shape.idx_ext₂ rfl rfl, show ridx_main_v24 (ix2 r j) k = ix2 j k from Shape.idx_ext₂ rfl rfl, H.h5]
  show Ideal.ofBits .f32 0x3F000000#32 * x0 (ix2 r k) * _ = _
  rw [H.h0, ofBits_half, ← EReal.coe_mul, ← EReal.coe_mul]

/-- The gradient of the projection that is not the gate's. -/
theorem up_at (r : Fin 8192) (j : Fin 2816) : val_main_v25 (F := Ideal) x0 x1 x2 x3 x5 (ix2 r j) = (dup dh x g wg wd r j : EReal) := by
  show val_main_v15 (F := Ideal) x1 x2 x3 (ix2 r j) * val_main_v17_2 (F := Ideal) x1 x2 x3 (ix2 r j) * val_main_v24 (F := Ideal) x0 x5 (ix2 r j) = _
  rw [gateProj_at H, sig_at H, mid_at H, ← EReal.coe_mul, ← EReal.coe_mul, mul_comm]
  rfl

/-- The gradient of the gate's projection. -/
theorem gate_at (r : Fin 8192) (j : Fin 2816) :
    val_main_v27 (F := Ideal) x0 x1 x2 x3 x4 x5 (ix2 r j) = (dgate dh x g wg wu wd r j : EReal) := by
  show val_main_v24 (F := Ideal) x0 x5 (ix2 r j) * val_main_v16 (F := Ideal) x1 x2 x4 (ix2 r j) * val_main_v17_2 (F := Ideal) x1 x2 x3 (ix2 r j)
    + val_main_v15 (F := Ideal) x1 x2 x3 (ix2 r j) * (val_main_v24 (F := Ideal) x0 x5 (ix2 r j) * val_main_v16 (F := Ideal) x1 x2 x4 (ix2 r j))
      * (val_main_v17_2 (F := Ideal) x1 x2 x3 (ix2 r j) * (Ideal.ofBits .f32 0x3F800000#32 - val_main_v17_2 (F := Ideal) x1 x2 x3 (ix2 r j))) = _
  rw [gateProj_at H, upProj_at H, sig_at H, mid_at H, ofBits_one, ← EReal.coe_one]
  simp only [← EReal.coe_mul, ← EReal.coe_sub, ← EReal.coe_add]
  refine congrArg _ ?_
  unfold dgate gateFactor
  ring

/-- The gradient of the normalised row. -/
theorem normGrad_at (r : Fin 8192) (c : Fin 1024) :
    val_main_v30 (F := Ideal) x0 x1 x2 x3 x4 x5 (ix2 r c) = (dnorm dh x g wg wu wd r c : EReal) := by
  show val_main_v28 (F := Ideal) x0 x1 x2 x3 x4 x5 (ix2 r c) + val_main_v29 (F := Ideal) x0 x1 x2 x3 x4 x5 (ix2 r c) = _
  have e28 : val_main_v28 (F := Ideal) x0 x1 x2 x3 x4 x5 (ix2 r c) = ((∑ j, dup dh x g wg wd r j * wu c j : ℝ) : EReal) := by
    rw [val_main_v28_apply]
    refine sum_eq_coe fun k => ?_
    rw [show lidx_main_v28 (ix2 r c) k = ix2 r k from Shape.idx_ext₂ rfl rfl, show ridx_main_v28 (ix2 r c) k = ix2 c k from Shape.idx_ext₂ rfl rfl,
      up_at H, H.h4, ← EReal.coe_mul]
  have e29 : val_main_v29 (F := Ideal) x0 x1 x2 x3 x4 x5 (ix2 r c) = ((∑ j, dgate dh x g wg wu wd r j * wg c j : ℝ) : EReal) := by
    rw [val_main_v29_apply]
    refine sum_eq_coe fun k => ?_
    rw [show lidx_main_v29 (ix2 r c) k = ix2 r k from Shape.idx_ext₂ rfl rfl, show ridx_main_v29 (ix2 r c) k = ix2 c k from Shape.idx_ext₂ rfl rfl,
      gate_at H, H.h3, ← EReal.coe_mul]
  rw [e28, e29, ← EReal.coe_add, add_comm, ← Finset.sum_add_distrib]
  rfl

/-! ## The results -/

/-- The gradient of the gain. -/
theorem gain_at (u : Fin 1) (c : Fin 1024) :
    val_main_v33 (F := Ideal) x0 x1 x2 x3 x4 x5 (ix2 u c) = (dgOf (dnorm dh x g wg wu wd) x c : EReal) := by
  rw [val_main_v33_apply, show idx_main_v33 (ix2 u c) = ix1 c from funext fun a => by
      fin_cases a; exact Fin.ext (show u.val * 1024 + c.val = c.val by have := u.isLt; omega), val_main_v32_apply]
  refine (congrArg₂ (· + ·) ofBits_zero (sum_eq_coe fun k => ?_)).trans (zero_add _)
  rw [show idx_main_v32 (ix1 c) k = ix2 k c from Shape.idx_ext₂ rfl rfl]
  show val_main_v12 (F := Ideal) x1 (ix2 k c) * val_main_v30 (F := Ideal) x0 x1 x2 x3 x4 x5 (ix2 k c) = _
  rw [hat_at H, normGrad_at H, ← EReal.coe_mul, mul_comm]

/-- The gradient of the normalised row, times the gain. -/
theorem gained_at (r : Fin 8192) (c : Fin 1024) :
    val_main_v35 (F := Ideal) x0 x1 x2 x3 x4 x5 (ix2 r c) = ((dnorm dh x g wg wu wd r c * g c : ℝ) : EReal) := by
  show val_main_v30 (F := Ideal) x0 x1 x2 x3 x4 x5 (ix2 r c) * val_main_v34 (F := Ideal) x2 (ix2 r c) = _
  rw [val_main_v34_apply, show idx_main_v34 (ix2 r c) = ix2 0 c from Shape.idx_ext₂ rfl rfl, normGrad_at H, H.h2, ← EReal.coe_mul]

/-- The row's inner product with its gradient. -/
theorem inner_at (r : Fin 8192) :
    val_main_v37 (F := Ideal) x0 x1 x2 x3 x4 x5 (ix1 r) = ((∑ k, x r k * (dnorm dh x g wg wu wd r k * g k) : ℝ) : EReal) := by
  rw [val_main_v37_apply]
  refine (congrArg₂ (· + ·) ofBits_zero (sum_eq_coe fun k => ?_)).trans (zero_add _)
  rw [show idx_main_v37 (ix1 r) k = ix2 r k from Shape.idx_ext₂ rfl rfl]
  show x1 (ix2 r k) * val_main_v35 (F := Ideal) x0 x1 x2 x3 x4 x5 (ix2 r k) = _
  rw [gained_at H, H.h1, ← EReal.coe_mul]

/-- The gradient through the mean of squares, of one row. -/
theorem meanGrad_at (r : Fin 8192) : val_main_v44 (F := Ideal) x0 x1 x2 x3 x4 x5 (ix1 r)
    = (((∑ k, x r k * (dnorm dh x g wg wu wd r k * g k)) * (-(1 / 2) * (scale x r / meanSq x r)) / 1024 : ℝ) : EReal) := by
  rw [val_main_v44_apply]
  refine (congrArg₂ (· + ·) ofBits_zero (Fin.sum_univ_one _)).trans ((zero_add _).trans ?_)
  rw [show idx_main_v44 (ix1 r) 0 = ix2 r 0 from Shape.idx_ext₂ rfl rfl]
  show Ideal.div (val_main_v38 (F := Ideal) x0 x1 x2 x3 x4 x5 (ix2 r 0) * val_main_v10 (F := Ideal) x1 (ix2 r 0)) (Ideal.ofBits .f32 0x44800000#32) = _
  rw [val_main_v38_apply, show idx_main_v38 (ix2 r 0) = ix1 r from funext fun a => by
      fin_cases a; exact Fin.ext (show r.val * 1 + 0 = r.val by omega), inner_at H, slope_at H, ofBits_1024, ← EReal.coe_mul, div_real _ _ (by norm_num)]

/-- The gradient of the row. -/
theorem rowGrad_at (r : Fin 8192) (c : Fin 1024) :
    val_main_v56 (F := Ideal) x0 x1 x2 x3 x4 x5 (ix2 r c) = (dxOf (dnorm dh x g wg wu wd) x dh g r c : EReal) := by
  show x0 (ix2 r c) + (val_main_v35 (F := Ideal) x0 x1 x2 x3 x4 x5 (ix2 r c) * val_main_v39 (F := Ideal) x1 (ix2 r c)
    + x1 (ix2 r c) * val_main_v45 (F := Ideal) x0 x1 x2 x3 x4 x5 (ix2 r c)
    + val_main_v45 (F := Ideal) x0 x1 x2 x3 x4 x5 (ix2 r c) * x1 (ix2 r c)) = _
  rw [val_main_v39_apply, show idx_main_v39 (ix2 r c) = ix2 r 0 from Shape.idx_ext₂ rfl rfl, val_main_v45_apply,
    show idx_main_v45 (ix2 r c) = ix1 r from funext fun a => by fin_cases a; rfl, gained_at H, scale_at H, meanGrad_at H, H.h0, H.h1]
  simp only [← EReal.coe_mul, ← EReal.coe_add]
  refine congrArg _ ?_
  have hm := (meanSq_pos x r).ne'
  have hs : scale x r / meanSq x r = scale x r * (scale x r * scale x r) := by
    rw [div_eq_iff hm, mul_assoc, scale_sq, mul_one]
  have hsum : ∑ k, dnorm dh x g wg wu wd r k * g k * hat x r k = (∑ k, x r k * (dnorm dh x g wg wu wd r k * g k)) * scale x r := by
    rw [Finset.sum_mul]
    exact Finset.sum_congr rfl fun k _ => by unfold hat; ring
  unfold dxOf
  rw [hsum, hs]
  unfold hat
  ring

/-- The gate's gradient, laid out by shards of the hidden features. -/
theorem gateShard_at (s : Fin 4) (r : Fin 8192) (j : Fin 704) :
    val_main_v52 (F := Ideal) x0 x1 x2 x3 x4 x5 (ix3 s r j) = (dgate dh x g wg wu wd r (shardCol s j) : EReal) := by
  show val_main_v51 (F := Ideal) x0 x1 x2 x3 x4 x5 (ix3 s r j) = _
  rw [val_main_v51_apply, val_main_v50_apply, ← gate_at H]
  refine congrArg _ (Shape.idx_ext₂ ?_ ?_)
  · show ((r.val * 4 + s.val) * 704 + j.val) / 2816 = r.val
    have := s.isLt; have := j.isLt; omega
  · show ((r.val * 4 + s.val) * 704 + j.val) % 2816 = s.val * 704 + j.val
    have := s.isLt; have := j.isLt; omega

/-- The other projection's gradient, laid out by shards of the hidden features. -/
theorem upShard_at (s : Fin 4) (r : Fin 8192) (j : Fin 704) :
    val_main_v55 (F := Ideal) x0 x1 x2 x3 x5 (ix3 s r j) = (dup dh x g wg wd r (shardCol s j) : EReal) := by
  show val_main_v54 (F := Ideal) x0 x1 x2 x3 x5 (ix3 s r j) = _
  rw [val_main_v54_apply, val_main_v53_apply, ← up_at H]
  refine congrArg _ (Shape.idx_ext₂ ?_ ?_)
  · show ((r.val * 4 + s.val) * 704 + j.val) / 2816 = r.val
    have := s.isLt; have := j.isLt; omega
  · show ((r.val * 4 + s.val) * 704 + j.val) % 2816 = s.val * 704 + j.val
    have := s.isLt; have := j.isLt; omega

end Cert.Reference2Ideal.FfnValue

end
-- ==== Proof.FfnArrays.lean ====
/-
  The four results of the feed-forward gradient's kernel as whole arrays, for finite arguments: what the host prepares, where a
  point's blocks lie in the arrays, what the points of one block of rows leave, and the sums over the points.
-/
module

public import proofs.«01_k».proof.Proof.FfnCases
public import proofs.«01_k».proof.Proof.FfnReference

@[expose] public section

noncomputable section

open Idealize.ShloMosaic hiding ix1 ix2 ix3 eq_ix2 eq_ix3
open Idealize.ShloMosaic.TcCoe Idealize.SL.Sem Idealize.ShloMosaic.ValueIdx
open Idealize.ShloMosaic.Pipeline (Dat)
open scoped BigOperators

namespace Cert.Kernel2Ideal.FfnValue

open Cert.Kernel2Ideal Cert.Kernel2Ideal.Gen Cert.FfnSpec Cert.Basics
open Cert.Reference2Ideal.FfnValue (shardCol ArgsAt)
open Cert.Reference2Ideal.Read (val_main_v15 val_main_v16 val_main_v17_2 val_main_v17_0)

variable (m : (ℓ : Loc nD τ sig) → Buf (Elt Ideal) ℓ)

/-- Two indices of a rank-three array agree when their coordinates do. -/
theorem idx_ext3 {a b d : ℕ} {i j : (⟨3, ![a, b, d]⟩ : Shape).Idx} (h0 : (i 0).val = (j 0).val) (h1 : (i 1).val = (j 1).val)
    (h2 : (i 2).val = (j 2).val) : i = j := by
  funext k
  fin_cases k
  · exact Fin.ext h0
  · exact Fin.ext h1
  · exact Fin.ext h2

/-! ## The points and where their blocks lie -/

/-- The point of the block of rows `i` and the shard `s`. -/
abbrev pt (i : Fin 8) (s : Fin 4) : Fin cfg0.N := ⟨4 * i.val + s.val, by have := i.isLt; have := s.isLt; show _ < 32; omega⟩
/-- Every point is one of these. -/
theorem exists_pt (t : Fin cfg0.N) : ∃ i s, t = pt i s := by
  have h : t.val < 32 := t.isLt
  exact ⟨⟨t.val / 4, by omega⟩, ⟨t.val % 4, by omega⟩, Fin.ext (by show t.val = 4 * (t.val / 4) + t.val % 4; omega)⟩

theorem idx_facts : ∀ (i : Fin 8) (s : Fin 4),
    (win0_0.index (pt i s) = ![i.val, 0] ∧ win0_1.index (pt i s) = ![i.val, 0] ∧ win0_2.index (pt i s) = ![0, 0])
    ∧ (win0_3.index (pt i s) = ![s.val, i.val, 0] ∧ win0_4.index (pt i s) = ![s.val, i.val, 0])
    ∧ (win0_5.index (pt i s) = ![s.val, 0, 0] ∧ win0_6.index (pt i s) = ![s.val, 0, 0] ∧ win0_7.index (pt i s) = ![s.val, 0, 0])
    ∧ (win0_8.index (pt i s) = ![i.val, 0] ∧ win0_9.index (pt i s) = ![s.val, i.val, 0] ∧ win0_10.index (pt i s) = ![s.val, i.val, 0]
      ∧ win0_11.index (pt i s) = ![0, 0]) :=
  (by decide +kernel)

/-- Row `r` of the block of rows `i`. -/
abbrev row (i : Fin 8) (r : Fin 1024) : Fin 8192 := ⟨i.val * 1024 + r.val, by have := i.isLt; have := r.isLt; omega⟩

/-! Where an element of a point's block lies in its array. -/

theorem emb0 (i : Fin 8) (s : Fin 4) (r k : Fin 1024) : (win0_0.rect (pt i s)).emb (ix2 r k) = ix2 (row i r) k := by
  refine Shape.idx_ext₂ ?_ ?_
  · rw [Pipeline.Window.rect_emb_val win0_0, (idx_facts i s).1.1]; rfl
  · rw [Pipeline.Window.rect_emb_val win0_0, (idx_facts i s).1.1]; show 0 * _ + k.val = k.val; omega
theorem emb1 (i : Fin 8) (s : Fin 4) (r k : Fin 1024) : (win0_1.rect (pt i s)).emb (ix2 r k) = ix2 (row i r) k := by
  refine Shape.idx_ext₂ ?_ ?_
  · rw [Pipeline.Window.rect_emb_val win0_1, (idx_facts i s).1.2.1]; rfl
  · rw [Pipeline.Window.rect_emb_val win0_1, (idx_facts i s).1.2.1]; show 0 * _ + k.val = k.val; omega
theorem emb2 (i : Fin 8) (s : Fin 4) (u : Fin 1) (k : Fin 1024) : (win0_2.rect (pt i s)).emb (ix2 u k) = ix2 u k := by
  refine Shape.idx_ext₂ ?_ ?_
  · rw [Pipeline.Window.rect_emb_val win0_2, (idx_facts i s).1.2.2]; show 0 * _ + u.val = u.val; omega
  · rw [Pipeline.Window.rect_emb_val win0_2, (idx_facts i s).1.2.2]; show 0 * _ + k.val = k.val; omega
theorem emb3 (i : Fin 8) (s : Fin 4) (r : Fin 1024) (j : Fin 704) : (win0_3.rect (pt i s)).emb (ix3 0 r j) = ix3 s (row i r) j := by
  refine idx_ext3 ?_ ?_ ?_
  · rw [Pipeline.Window.rect_emb_val win0_3, (idx_facts i s).2.1.1]; show s.val * 1 + 0 = s.val; omega
  · rw [Pipeline.Window.rect_emb_val win0_3, (idx_facts i s).2.1.1]; rfl
  · rw [Pipeline.Window.rect_emb_val win0_3, (idx_facts i s).2.1.1]; show 0 * _ + j.val = j.val; omega
theorem emb4 (i : Fin 8) (s : Fin 4) (r : Fin 1024) (j : Fin 704) : (win0_4.rect (pt i s)).emb (ix3 0 r j) = ix3 s (row i r) j := by
  refine idx_ext3 ?_ ?_ ?_
  · rw [Pipeline.Window.rect_emb_val win0_4, (idx_facts i s).2.1.2]; show s.val * 1 + 0 = s.val; omega
  · rw [Pipeline.Window.rect_emb_val win0_4, (idx_facts i s).2.1.2]; rfl
  · rw [Pipeline.Window.rect_emb_val win0_4, (idx_facts i s).2.1.2]; show 0 * _ + j.val = j.val; omega
theorem emb5 (i : Fin 8) (s : Fin 4) (j : Fin 704) (k : Fin 1024) : (win0_5.rect (pt i s)).emb (ix3 0 j k) = ix3 s j k := by
  refine idx_ext3 ?_ ?_ ?_
  · rw [Pipeline.Window.rect_emb_val win0_5, (idx_facts i s).2.2.1.1]; show s.val * 1 + 0 = s.val; omega
  · rw [Pipeline.Window.rect_emb_val win0_5, (idx_facts i s).2.2.1.1]; show 0 * _ + j.val = j.val; omega
  · rw [Pipeline.Window.rect_emb_val win0_5, (idx_facts i s).2.2.1.1]; show 0 * _ + k.val = k.val; omega
theorem emb6 (i : Fin 8) (s : Fin 4) (j : Fin 704) (k : Fin 1024) : (win0_6.rect (pt i s)).emb (ix3 0 j k) = ix3 s j k := by
  refine idx_ext3 ?_ ?_ ?_
  · rw [Pipeline.Window.rect_emb_val win0_6, (idx_facts i s).2.2.1.2.1]; show s.val * 1 + 0 = s.val; omega
  · rw [Pipeline.Window.rect_emb_val win0_6, (idx_facts i s).2.2.1.2.1]; show 0 * _ + j.val = j.val; omega
  · rw [Pipeline.Window.rect_emb_val win0_6, (idx_facts i s).2.2.1.2.1]; show 0 * _ + k.val = k.val; omega
theorem emb7 (i : Fin 8) (s : Fin 4) (j : Fin 704) (k : Fin 1024) : (win0_7.rect (pt i s)).emb (ix3 0 j k) = ix3 s j k := by
  refine idx_ext3 ?_ ?_ ?_
  · rw [Pipeline.Window.rect_emb_val win0_7, (idx_facts i s).2.2.1.2.2]; show s.val * 1 + 0 = s.val; omega
  · rw [Pipeline.Window.rect_emb_val win0_7, (idx_facts i s).2.2.1.2.2]; show 0 * _ + j.val = j.val; omega
  · rw [Pipeline.Window.rect_emb_val win0_7, (idx_facts i s).2.2.1.2.2]; show 0 * _ + k.val = k.val; omega
theorem emb8 (i : Fin 8) (s : Fin 4) (r k : Fin 1024) : (win0_8.rect (pt i s)).emb (ix2 r k) = ix2 (row i r) k := by
  refine Shape.idx_ext₂ ?_ ?_
  · rw [Pipeline.Window.rect_emb_val win0_8, (idx_facts i s).2.2.2.1]; rfl
  · rw [Pipeline.Window.rect_emb_val win0_8, (idx_facts i s).2.2.2.1]; show 0 * _ + k.val = k.val; omega
theorem emb9 (i : Fin 8) (s : Fin 4) (r : Fin 1024) (j : Fin 704) : (win0_9.rect (pt i s)).emb (ix3 0 r j) = ix3 s (row i r) j := by
  refine idx_ext3 ?_ ?_ ?_
  · rw [Pipeline.Window.rect_emb_val win0_9, (idx_facts i s).2.2.2.2.1]; show s.val * 1 + 0 = s.val; omega
  · rw [Pipeline.Window.rect_emb_val win0_9, (idx_facts i s).2.2.2.2.1]; rfl
  · rw [Pipeline.Window.rect_emb_val win0_9, (idx_facts i s).2.2.2.2.1]; show 0 * _ + j.val = j.val; omega
theorem emb10 (i : Fin 8) (s : Fin 4) (r : Fin 1024) (j : Fin 704) : (win0_10.rect (pt i s)).emb (ix3 0 r j) = ix3 s (row i r) j := by
  refine idx_ext3 ?_ ?_ ?_
  · rw [Pipeline.Window.rect_emb_val win0_10, (idx_facts i s).2.2.2.2.2.1]; show s.val * 1 + 0 = s.val; omega
  · rw [Pipeline.Window.rect_emb_val win0_10, (idx_facts i s).2.2.2.2.2.1]; rfl
  · rw [Pipeline.Window.rect_emb_val win0_10, (idx_facts i s).2.2.2.2.2.1]; show 0 * _ + j.val = j.val; omega
theorem emb11 (i : Fin 8) (s : Fin 4) (u : Fin 1) (k : Fin 1024) : (win0_11.rect (pt i s)).emb (ix2 u k) = ix2 u k := by
  refine Shape.idx_ext₂ ?_ ?_
  · rw [Pipeline.Window.rect_emb_val win0_11, (idx_facts i s).2.2.2.2.2.2]; show 0 * _ + u.val = u.val; omega
  · rw [Pipeline.Window.rect_emb_val win0_11, (idx_facts i s).2.2.2.2.2.2]; show 0 * _ + k.val = k.val; omega

/-! ## What the host prepares -/

/-- Columns of the hidden features laid out by shards. -/
theorem shards_apply {α : Type} (y : S8192x2816.Idx → α) (s : Fin 4) (r : Fin 8192) (j : Fin 704) :
    transpose S4x8192x704 [1, 0, 2] (shapeCast S8192x4x704 y shapeCasts_S8192x2816_S8192x4x704) transposes_S8192x4x704_S4x8192x704_1_0_2 (ix3 s r j)
      = y (ix2 r (shardCol s j)) := by
  rw [transpose_apply [1, 0, 2] _ transposes_S8192x4x704_S4x8192x704_1_0_2 (ix3 s r j) (ix3 r s j) (fun b => match b with
    | ⟨0, _⟩ => rfl
    | ⟨1, _⟩ => rfl
    | ⟨2, _⟩ => rfl)]
  refine shapeCast_apply y shapeCasts_S8192x2816_S8192x4x704 (ix3 r s j) (ix2 r (shardCol s j)) ?_
  rewrite [Shape.rowMajor_val_two, Shape.rowMajor_val_three]
  show r.val * 2816 + (s.val * 704 + j.val) = (r.val * 4 + s.val) * 704 + j.val
  omega

/-- Rows of the hidden features laid out by shards. -/
theorem shardRows_apply {α : Type} (y : S2816x1024.Idx → α) (s : Fin 4) (j : Fin 704) (k : Fin 1024) :
    shapeCast S4x704x1024 y shapeCasts_S2816x1024_S4x704x1024 (ix3 s j k) = y (ix2 (shardCol s j) k) := by
  refine shapeCast_apply y shapeCasts_S2816x1024_S4x704x1024 (ix3 s j k) (ix2 (shardCol s j) k) ?_
  rewrite [Shape.rowMajor_val_two, Shape.rowMajor_val_three]
  rfl

/-- A transposed weight at an index. -/
theorem flip_apply {α : Type} (y : S1024x2816.Idx → α) (j : Fin 2816) (k : Fin 1024) :
    transpose S2816x1024 [1, 0] y transposes_S1024x2816_S2816x1024_1_0 (ix2 j k) = y (ix2 k j) :=
  transpose_apply [1, 0] y transposes_S1024x2816_S2816x1024_1_0 (ix2 j k) (ix2 k j) (fun b => match b with
    | ⟨0, _⟩ => rfl
    | ⟨1, _⟩ => rfl)

section Args

abbrev a0 (c : Dev nD) : Vec Ideal S8192x1024 .f32 := m ((c : Thread nD τ).loc main_arg0)
abbrev a1 (c : Dev nD) : Vec Ideal S8192x1024 .f32 := m ((c : Thread nD τ).loc main_arg1)
abbrev a2 (c : Dev nD) : Vec Ideal S1x1024 .f32 := m ((c : Thread nD τ).loc main_arg2)
abbrev a3 (c : Dev nD) : Vec Ideal S1024x2816 .f32 := m ((c : Thread nD τ).loc main_arg3)
abbrev a4 (c : Dev nD) : Vec Ideal S1024x2816 .f32 := m ((c : Thread nD τ).loc main_arg4)
abbrev a5 (c : Dev nD) : Vec Ideal S2816x1024 .f32 := m ((c : Thread nD τ).loc main_arg5)

/-- The gate's factor as the host computes it. -/
abbrev factorP (c : Dev nD) : S8192x2816.Idx → EReal := fun i =>
  val_main_v16 (F := Ideal) (a1 m c) (a2 m c) (a4 m c) i
    * (val_main_v17_2 (F := Ideal) (a1 m c) (a2 m c) (a3 m c) i
      + val_main_v15 (F := Ideal) (a1 m c) (a2 m c) (a3 m c) i * val_main_v17_2 (F := Ideal) (a1 m c) (a2 m c) (a3 m c) i
        * (Ideal.ofBits .f32 0x3F800000#32 - val_main_v17_2 (F := Ideal) (a1 m c) (a2 m c) (a3 m c) i))
/-- The other factor as the host computes it. -/
abbrev factorQ (c : Dev nD) : S8192x2816.Idx → EReal := fun i =>
  val_main_v15 (F := Ideal) (a1 m c) (a2 m c) (a3 m c) i * val_main_v17_2 (F := Ideal) (a1 m c) (a2 m c) (a3 m c) i

theorem V_v30 (c : Dev nD) : V m c main_v30
    = shapeCast S4x704x1024 (transpose S2816x1024 [1, 0] (a3 m c) transposes_S1024x2816_S2816x1024_1_0) shapeCasts_S2816x1024_S4x704x1024 := by
  unfold V hostOps0; after_results; rfl
theorem V_v33 (c : Dev nD) : V m c main_v33
    = shapeCast S4x704x1024 (transpose S2816x1024 [1, 0] (a4 m c) transposes_S1024x2816_S2816x1024_1_0) shapeCasts_S2816x1024_S4x704x1024 := by
  unfold V hostOps0; after_results; rfl
theorem V_v35 (c : Dev nD) : V m c main_v35 = shapeCast S4x704x1024 (a5 m c) shapeCasts_S2816x1024_S4x704x1024 := by
  unfold V hostOps0; after_results; rfl
theorem V_v37 (c : Dev nD) : V m c main_v37
    = transpose S4x8192x704 [1, 0, 2] (shapeCast S8192x4x704 (factorP m c) shapeCasts_S8192x2816_S8192x4x704) transposes_S8192x4x704_S4x8192x704_1_0_2 := by
  unfold V hostOps0; after_results; rfl
theorem V_v39 (c : Dev nD) : V m c main_v39
    = transpose S4x8192x704 [1, 0, 2] (shapeCast S8192x4x704 (factorQ m c) shapeCasts_S8192x2816_S8192x4x704) transposes_S8192x4x704_S4x8192x704_1_0_2 := by
  unfold V hostOps0; after_results; rfl

end Args

/-! ## The points at finite arguments -/

section Finite

variable {m} {c : Dev nD} {dh x : Fin 8192 → Fin 1024 → ℝ} {g : Fin 1024 → ℝ} {wg wu : Fin 1024 → Fin 2816 → ℝ}
  {wd : Fin 2816 → Fin 1024 → ℝ} (H : ArgsAt (a0 m c) (a1 m c) (a2 m c) (a3 m c) (a4 m c) (a5 m c) dh x g wg wu wd)

include H

theorem factorP_at (r : Fin 8192) (j : Fin 2816) : factorP m c (ix2 r j) = (gateFactor (proj x g wg r j) (proj x g wu r j) : EReal) := by
  unfold factorP
  rw [Cert.Reference2Ideal.FfnValue.gateProj_at H, Cert.Reference2Ideal.FfnValue.upProj_at H, Cert.Reference2Ideal.FfnValue.sig_at H,
    ofBits_one, ← EReal.coe_one]
  simp only [← EReal.coe_mul, ← EReal.coe_sub, ← EReal.coe_add]
  rfl

theorem factorQ_at (r : Fin 8192) (j : Fin 2816) : factorQ m c (ix2 r j) = (upFactor (proj x g wg r j) : EReal) := by
  unfold factorQ
  rw [Cert.Reference2Ideal.FfnValue.gateProj_at H, Cert.Reference2Ideal.FfnValue.sig_at H, ← EReal.coe_mul]
  rfl

/-! The eight blocks a point reads. -/

theorem blk0 (i : Fin 8) (s : Fin 4) (r k : Fin 1024) : iblk m c 0 (pt i s) (ix2 r k) = (dh (row i r) k : EReal) :=
  ((congrArg (V m c main_arg0) (emb0 i s r k)).trans (congrFun (V_main_arg0 m c) _)).trans (H.h0 _ _)
theorem blk1 (i : Fin 8) (s : Fin 4) (r k : Fin 1024) : iblk m c 1 (pt i s) (ix2 r k) = (x (row i r) k : EReal) :=
  ((congrArg (V m c main_arg1) (emb1 i s r k)).trans (congrFun (V_main_arg1 m c) _)).trans (H.h1 _ _)
theorem blk2 (i : Fin 8) (s : Fin 4) (k : Fin 1024) : iblk m c 2 (pt i s) (ix2 0 k) = (g k : EReal) :=
  ((congrArg (V m c main_arg2) (emb2 i s 0 k)).trans (congrFun (V_main_arg2 m c) _)).trans (H.h2 _)
theorem blk3 (i : Fin 8) (s : Fin 4) (r : Fin 1024) (j : Fin 704) : iblk m c 3 (pt i s) (ix3 0 r j)
    = (gateFactor (proj x g wg (row i r) (shardCol s j)) (proj x g wu (row i r) (shardCol s j)) : EReal) :=
  ((congrArg (V m c main_v37) (emb3 i s r j)).trans (congrFun (V_v37 m c) _)).trans ((shards_apply _ _ _ _).trans (factorP_at H _ _))
theorem blk4 (i : Fin 8) (s : Fin 4) (r : Fin 1024) (j : Fin 704) : iblk m c 4 (pt i s) (ix3 0 r j)
    = (upFactor (proj x g wg (row i r) (shardCol s j)) : EReal) :=
  ((congrArg (V m c main_v39) (emb4 i s r j)).trans (congrFun (V_v39 m c) _)).trans ((shards_apply _ _ _ _).trans (factorQ_at H _ _))
theorem blk5 (i : Fin 8) (s : Fin 4) (j : Fin 704) (k : Fin 1024) : iblk m c 5 (pt i s) (ix3 0 j k) = (wg k (shardCol s j) : EReal) :=
  ((congrArg (V m c main_v30) (emb5 i s j k)).trans (congrFun (V_v30 m c) _)).trans
    ((shardRows_apply _ _ _ _).trans ((flip_apply _ _ _).trans (H.h3 _ _)))
theorem blk6 (i : Fin 8) (s : Fin 4) (j : Fin 704) (k : Fin 1024) : iblk m c 6 (pt i s) (ix3 0 j k) = (wu k (shardCol s j) : EReal) :=
  ((congrArg (V m c main_v33) (emb6 i s j k)).trans (congrFun (V_v33 m c) _)).trans
    ((shardRows_apply _ _ _ _).trans ((flip_apply _ _ _).trans (H.h4 _ _)))
theorem blk7 (i : Fin 8) (s : Fin 4) (j : Fin 704) (k : Fin 1024) : iblk m c 7 (pt i s) (ix3 0 j k) = (wd (shardCol s j) k : EReal) :=
  ((congrArg (V m c main_v35) (emb7 i s j k)).trans (congrFun (V_v35 m c) _)).trans ((shardRows_apply _ _ _ _).trans (H.h5 _ _))

theorem blocks_at (i : Fin 8) (s : Fin 4) : BlocksAt m c (pt i s) (fun r => dh (row i r)) (fun r => x (row i r)) g
    (fun r j => gateFactor (proj x g wg (row i r) (shardCol s j)) (proj x g wu (row i r) (shardCol s j)))
    (fun r j => upFactor (proj x g wg (row i r) (shardCol s j)))
    (fun j k => wg k (shardCol s j)) (fun j k => wu k (shardCol s j)) (fun j k => wd (shardCol s j) k) :=
  ⟨blk0 H i s, blk1 H i s, blk2 H i s, blk3 H i s, blk4 H i s, blk5 H i s, blk6 H i s, blk7 H i s⟩

omit H in
/-- What the shard `s` adds to the gradient with respect to the normalised row. -/
def share (dh x : Fin 8192 → Fin 1024 → ℝ) (g : Fin 1024 → ℝ) (wg wu : Fin 1024 → Fin 2816 → ℝ) (wd : Fin 2816 → Fin 1024 → ℝ)
    (s : Fin 4) (r : Fin 8192) (k : Fin 1024) : ℝ :=
  ∑ j : Fin 704, (dgate dh x g wg wu wd r (shardCol s j) * wg k (shardCol s j) + dup dh x g wg wd r (shardCol s j) * wu k (shardCol s j))

omit H in
/-- The four shards together. -/
theorem share_sum (r : Fin 8192) (k : Fin 1024) :
    share dh x g wg wu wd 0 r k + share dh x g wg wu wd 1 r k + share dh x g wg wu wd 2 r k + share dh x g wg wu wd 3 r k
      = dnorm dh x g wg wu wd r k := by
  rw [← Fin.sum_univ_four (fun s => share dh x g wg wu wd s r k)]
  exact Fin.sum_mul_add_fin 4 704 (fun J : Fin 2816 => dgate dh x g wg wu wd r J * wg k J + dup dh x g wg wd r J * wu k J) rfl

/-- After the first point of a block of rows the buffer holds the first shard's share. -/
theorem rows0 (i : Fin 8) (r k : Fin 1024) :
    (outsAt0 m c (pt i 0).val (pt i 0).isLt).1 (ix2 r k) = (share dh x g wg wu wd 0 (row i r) k : EReal) := by
  have hi := i.isLt
  by_cases h : i.val = 0
  · exact rows_A (blocks_at H i 0) (by show (4 * i.val + 0) % 32 = 0; omega) (by show (4 * i.val + 0) % 4 = 0; omega)
      (by show ¬(4 * i.val + 0) % 4 = 3; omega) r k
  · exact rows_D (blocks_at H i 0) (by show ¬(4 * i.val + 0) % 32 = 0; omega) (by show (4 * i.val + 0) % 4 = 0; omega)
      (by show ¬(4 * i.val + 0) % 4 = 3; omega) r k

/-- After the second point it holds two shards' shares. -/
theorem rows1 (i : Fin 8) (r k : Fin 1024) :
    (outsAt0 m c (pt i 1).val (pt i 1).isLt).1 (ix2 r k)
      = ((share dh x g wg wu wd 0 (row i r) k + share dh x g wg wu wd 1 (row i r) k : ℝ) : EReal) := by
  have hi := i.isLt
  exact rows_B (blocks_at H i 1) _ (by show ¬(4 * i.val + 1) % 32 = 0; omega) (by show ¬(4 * i.val + 1) % 4 = 0; omega)
    (by show ¬(4 * i.val + 1) % 4 = 3; omega) (fun r k => rows0 H i r k) r k

/-- After the third point it holds three shards' shares. -/
theorem rows2 (i : Fin 8) (r k : Fin 1024) :
    (outsAt0 m c (pt i 2).val (pt i 2).isLt).1 (ix2 r k)
      = ((share dh x g wg wu wd 0 (row i r) k + share dh x g wg wu wd 1 (row i r) k + share dh x g wg wu wd 2 (row i r) k : ℝ) : EReal) := by
  have hi := i.isLt
  exact rows_B (blocks_at H i 2) _ (by show ¬(4 * i.val + 2) % 32 = 0; omega) (by show ¬(4 * i.val + 2) % 4 = 0; omega)
    (by show ¬(4 * i.val + 2) % 4 = 3; omega) (fun r k => rows1 H i r k) r k

/-- After the last point it holds the gradient of the rows. -/
theorem rows3 (i : Fin 8) (r k : Fin 1024) :
    (outsAt0 m c (pt i 3).val (pt i 3).isLt).1 (ix2 r k) = (dxOf (dnorm dh x g wg wu wd) x dh g (row i r) k : EReal) := by
  have hi := i.isLt
  refine (rows_C (blocks_at H i 3) _ (by show ¬(4 * i.val + 3) % 32 = 0; omega) (by show ¬(4 * i.val + 3) % 4 = 0; omega)
    (by show (4 * i.val + 3) % 4 = 3; omega) (fun r k => rows2 H i r k) r k).trans ?_
  refine congrArg _ ((congrArg (fun D => dxOf D (fun r => x (row i r)) (fun r => dh (row i r)) g r k)
    (funext fun r => funext fun k => (show _ = dnorm dh x g wg wu wd (row i r) k from share_sum (row i r) k))).trans rfl)

omit H in
/-- What the block of rows `n` adds to the gain's gradient. -/
def gainShare (dh x : Fin 8192 → Fin 1024 → ℝ) (g : Fin 1024 → ℝ) (wg wu : Fin 1024 → Fin 2816 → ℝ) (wd : Fin 2816 → Fin 1024 → ℝ)
    (k : Fin 1024) (n : ℕ) : ℝ :=
  if h : n < 8 then ∑ r, dnorm dh x g wg wu wd (row ⟨n, h⟩ r) k * hat x (row ⟨n, h⟩ r) k else 0

/-- The last point of a block of rows adds the block's share to what the first three left. -/
theorem gain_step (i : Fin 8) (k : Fin 1024) (G : ℝ) (hG : (outsAt0 m c (pt i 0).val (pt i 0).isLt).2.2.2 (ix2 0 k) = (G : EReal)) :
    (outsAt0 m c (pt i 3).val (pt i 3).isLt).2.2.2 (ix2 0 k) = ((G + gainShare dh x g wg wu wd k i.val : ℝ) : EReal) := by
  have hi := i.isLt
  have e1 : (outsAt0 m c (pt i 1).val (pt i 1).isLt).2.2.2 = (outsAt0 m c (pt i 0).val (pt i 0).isLt).2.2.2 :=
    gain_B (t := pt i 1) (by show ¬(4 * i.val + 1) % 32 = 0; omega) (by show ¬(4 * i.val + 1) % 4 = 0; omega)
      (by show ¬(4 * i.val + 1) % 4 = 3; omega)
  have e2 : (outsAt0 m c (pt i 2).val (pt i 2).isLt).2.2.2 = (outsAt0 m c (pt i 1).val (pt i 1).isLt).2.2.2 :=
    gain_B (t := pt i 2) (by show ¬(4 * i.val + 2) % 32 = 0; omega) (by show ¬(4 * i.val + 2) % 4 = 0; omega)
      (by show ¬(4 * i.val + 2) % 4 = 3; omega)
  refine (gain_C (blocks_at H i 3) _ (by show ¬(4 * i.val + 3) % 32 = 0; omega) (by show ¬(4 * i.val + 3) % 4 = 0; omega)
    (by show (4 * i.val + 3) % 4 = 3; omega) (fun r k => rows2 H i r k) k).trans ?_
  rw [show (prev m c (pt i 3)).2.2.2 (ix2 0 k) = (G : EReal) from
    (congrFun (show (prev m c (pt i 3)).2.2.2 = (outsAt0 m c (pt i 0).val (pt i 0).isLt).2.2.2 from e2.trans e1) _).trans hG, ← EReal.coe_add]
  refine congrArg (fun q : ℝ => ((G + q : ℝ) : EReal)) ?_
  rw [gainShare, dif_pos hi]
  refine Finset.sum_congr rfl fun r _ => congrArg (· * _) ?_
  exact share_sum (row i r) k

/-- After the last point of a block of rows the gain's buffer holds the shares of the blocks so far. -/
theorem gains (k : Fin 1024) (n : ℕ) : ∀ hn : n < 8,
    (outsAt0 m c (pt ⟨n, hn⟩ 3).val (pt ⟨n, hn⟩ 3).isLt).2.2.2 (ix2 0 k)
      = ((∑ l ∈ Finset.range (n + 1), gainShare dh x g wg wu wd k l : ℝ) : EReal) := by
  induction n with
  | zero =>
    intro hn
    refine (gain_step H ⟨0, hn⟩ k 0 (gain_A (t := pt ⟨0, hn⟩ 0) (by show (4 * 0 + 0) % 32 = 0; omega) (by show (4 * 0 + 0) % 4 = 0; omega)
      (by show ¬(4 * 0 + 0) % 4 = 3; omega) k)).trans ?_
    rw [Finset.sum_range_one, zero_add]
  | succ n ih =>
    intro hn
    refine (gain_step H ⟨n + 1, hn⟩ k _ ((congrFun (gain_D (t := pt ⟨n + 1, hn⟩ 0) (by show ¬(4 * (n + 1) + 0) % 32 = 0; omega)
      (by show (4 * (n + 1) + 0) % 4 = 0; omega) (by show ¬(4 * (n + 1) + 0) % 4 = 3; omega)) _).trans (ih (by omega)))).trans ?_
    rw [Finset.sum_range_succ _ (n + 1)]

/-- After the last point of all it holds the gradient of the gain. -/
theorem gain_last (k : Fin 1024) :
    (outsAt0 m c (pt 7 3).val (pt 7 3).isLt).2.2.2 (ix2 0 k) = (dgOf (dnorm dh x g wg wu wd) x k : EReal) := by
  refine (gains H k 7 (by omega)).trans (congrArg _ ?_)
  rw [Finset.sum_range]
  refine (Finset.sum_congr rfl fun i _ => ?_).trans
    (Fin.sum_mul_add_fin 8 1024 (fun R : Fin 8192 => dnorm dh x g wg wu wd R k * hat x R k) rfl)
  exact dif_pos i.isLt

/-! ## The output arrays -/

abbrev G8 (dh x : Fin 8192 → Fin 1024 → ℝ) (g : Fin 1024 → ℝ) (wg wu : Fin 1024 → Fin 2816 → ℝ) (wd : Fin 2816 → Fin 1024 → ℝ) :
    S8192x1024.Idx → EReal := fun i => (dxOf (dnorm dh x g wg wu wd) x dh g (i 0) (i 1) : EReal)
abbrev G9 (dh x : Fin 8192 → Fin 1024 → ℝ) (g : Fin 1024 → ℝ) (wg wu : Fin 1024 → Fin 2816 → ℝ) (wd : Fin 2816 → Fin 1024 → ℝ) :
    S4x8192x704.Idx → EReal := fun i => (dgate dh x g wg wu wd (i 1) (shardCol (i 0) (i 2)) : EReal)
abbrev G10 (dh x : Fin 8192 → Fin 1024 → ℝ) (g : Fin 1024 → ℝ) (wg : Fin 1024 → Fin 2816 → ℝ) (wd : Fin 2816 → Fin 1024 → ℝ) :
    S4x8192x704.Idx → EReal := fun i => (dup dh x g wg wd (i 1) (shardCol (i 0) (i 2)) : EReal)
abbrev G11 (dh x : Fin 8192 → Fin 1024 → ℝ) (g : Fin 1024 → ℝ) (wg wu : Fin 1024 → Fin 2816 → ℝ) (wd : Fin 2816 → Fin 1024 → ℝ) :
    S1x1024.Idx → EReal := fun i => (dgOf (dnorm dh x g wg wu wd) x (i 1) : EReal)

/-- The block of rows of a row, and its place in it. -/
theorem exists_row (a : Fin 8192) : ∃ i r, a = row i r := by
  have h := a.isLt
  exact ⟨⟨a.val / 1024, by omega⟩, ⟨a.val % 1024, by omega⟩, Fin.ext (by show a.val = a.val / 1024 * 1024 + a.val % 1024; omega)⟩

/-- The gradient of the rows. -/
theorem final8 : (dats m 0 c).arrAt 8 cfg0.N = G8 dh x g wg wu wd := by
  refine (dats m 0 c).arrAt_eq_of_cover 8 (G8 dh x g wg wu wd) (fun t ht => ?_) fun i => ?_
  · obtain ⟨i, s, rfl⟩ := exists_pt t
    have hs : s = 3 := Fin.ext (by have h : (4 * i.val + s.val) % 4 = 3 := (flush0_8 _).mp ht; have := s.isLt; show s.val = 3; omega)
    subst hs
    rw [Value.flushed8]
    funext y
    obtain ⟨r, k, rfl⟩ : ∃ (r k : Fin 1024), y = ix2 r k := ⟨y 0, y 1, eq_ix2 y⟩
    exact (rows3 H i r k).trans (congrArg (G8 dh x g wg wu wd) (emb8 i 3 r k)).symm
  · obtain ⟨a, b, rfl⟩ : ∃ (a : Fin 8192) (b : Fin 1024), i = ix2 a b := ⟨i 0, i 1, eq_ix2 i⟩
    obtain ⟨i, r, rfl⟩ := exists_row H a
    have h : ((cfg0.win 8).blk (pt i 3)).view.emb (ix2 r b) = ix2 (row i r) b := emb8 i 3 r b
    exact ⟨pt i 3, (flush0_8 _).mpr (by show (4 * i.val + 3) % 4 = 3; omega), h ▸ ((cfg0.win 8).blk (pt i 3)).view.emb_mem_set (ix2 r b)⟩

/-- The gradient of the gate's projection. -/
theorem final9 : (dats m 0 c).arrAt 9 cfg0.N = G9 dh x g wg wu wd := by
  refine (dats m 0 c).arrAt_eq_of_cover 9 (G9 dh x g wg wu wd) (fun t ht => ?_) fun i => ?_
  · obtain ⟨i, s, rfl⟩ := exists_pt t
    rw [Value.flushed9]
    funext y
    obtain ⟨u, r, k, rfl⟩ : ∃ (u : Fin 1) (r : Fin 1024) (k : Fin 704), y = ix3 u r k := ⟨y 0, y 1, y 2, eq_ix3 y⟩
    obtain rfl : u = 0 := Subsingleton.elim _ _
    exact (gate_at (blocks_at H i s) r k).trans (congrArg (G9 dh x g wg wu wd) (emb9 i s r k)).symm
  · obtain ⟨s, a, b, rfl⟩ : ∃ (s : Fin 4) (a : Fin 8192) (b : Fin 704), i = ix3 s a b := ⟨i 0, i 1, i 2, eq_ix3 i⟩
    obtain ⟨i, r, rfl⟩ := exists_row H a
    have h : ((cfg0.win 9).blk (pt i s)).view.emb (ix3 0 r b) = ix3 s (row i r) b := emb9 i s r b
    exact ⟨pt i s, flush0_9 _, h ▸ ((cfg0.win 9).blk (pt i s)).view.emb_mem_set (ix3 0 r b)⟩

/-- The gradient of the other projection. -/
theorem final10 : (dats m 0 c).arrAt 10 cfg0.N = G10 dh x g wg wd := by
  refine (dats m 0 c).arrAt_eq_of_cover 10 (G10 dh x g wg wd) (fun t ht => ?_) fun i => ?_
  · obtain ⟨i, s, rfl⟩ := exists_pt t
    rw [Value.flushed10]
    funext y
    obtain ⟨u, r, k, rfl⟩ : ∃ (u : Fin 1) (r : Fin 1024) (k : Fin 704), y = ix3 u r k := ⟨y 0, y 1, y 2, eq_ix3 y⟩
    obtain rfl : u = 0 := Subsingleton.elim _ _
    exact (up_at (blocks_at H i s) r k).trans (congrArg (G10 dh x g wg wd) (emb10 i s r k)).symm
  · obtain ⟨s, a, b, rfl⟩ : ∃ (s : Fin 4) (a : Fin 8192) (b : Fin 704), i = ix3 s a b := ⟨i 0, i 1, i 2, eq_ix3 i⟩
    obtain ⟨i, r, rfl⟩ := exists_row H a
    have h : ((cfg0.win 10).blk (pt i s)).view.emb (ix3 0 r b) = ix3 s (row i r) b := emb10 i s r b
    exact ⟨pt i s, flush0_10 _, h ▸ ((cfg0.win 10).blk (pt i s)).view.emb_mem_set (ix3 0 r b)⟩

/-- The gradient of the gain. -/
theorem final11 : (dats m 0 c).arrAt 11 cfg0.N = G11 dh x g wg wu wd := by
  refine (dats m 0 c).arrAt_eq_of_cover 11 (G11 dh x g wg wu wd) (fun t ht => ?_) fun i => ?_
  · obtain ⟨i, s, rfl⟩ := exists_pt t
    have hv : (4 * i.val + s.val) % 32 = 31 := (flush0_11 _).mp ht
    obtain rfl : i = 7 := Fin.ext (by have := s.isLt; have := i.isLt; show i.val = 7; omega)
    obtain rfl : s = 3 := Fin.ext (by have := s.isLt; show s.val = 3; have hv : (4 * 7 + s.val) % 32 = 31 := hv; omega)
    rw [Value.flushed11]
    funext y
    obtain ⟨u, k, rfl⟩ : ∃ (u : Fin 1) (k : Fin 1024), y = ix2 u k := ⟨y 0, y 1, eq_ix2 y⟩
    obtain rfl : u = 0 := Subsingleton.elim _ _
    exact (gain_last H k).trans (congrArg (G11 dh x g wg wu wd) (emb11 7 3 0 k)).symm
  · obtain ⟨a, b, rfl⟩ : ∃ (a : Fin 1) (b : Fin 1024), i = ix2 a b := ⟨i 0, i 1, eq_ix2 i⟩
    have h : ((cfg0.win 11).blk (pt 7 3)).view.emb (ix2 a b) = ix2 a b := emb11 7 3 a b
    exact ⟨pt 7 3, (flush0_11 _).mpr (by decide), h ▸ ((cfg0.win 11).blk (pt 7 3)).view.emb_mem_set (ix2 a b)⟩

end Finite

end Cert.Kernel2Ideal.FfnValue

end
-- ==== Proof.FfnClaims.lean ====
/-
  The claims of the feed-forward gradient: the frames, and the equality of the kernel's four results with the reference's on
  finite arguments.
-/
module

public import proofs.«01_k».proof.Proof.FfnArrays
public import proofs.«01_k».proof.Proof.Gen.Kernel2.Frame
public import proofs.«01_k».proof.Proof.Gen.Pre_finite2

@[expose] public section

noncomputable section

open Idealize.ShloMosaic hiding ix1 ix2 ix3 eq_ix2 eq_ix3
open Idealize.ShloMosaic.TcCoe Idealize.SL.Sem Idealize.ShloMosaic.ValueIdx
open scoped BigOperators

namespace Cert.FfnClaims

open Cert.Kernel2Ideal.FfnValue Cert.Reference2Ideal.FfnValue Cert.FfnSpec

/-! ## The kernel's run and the reference's, at finite arguments -/

section Runs

open Cert.Kernel2Ideal Cert.Kernel2Ideal.Gen

variable (m : (ℓ : Loc nD τ sig) → Buf (Elt Ideal) ℓ) (ρ : Dev nD → PrngReg)

/-- The kernel's run on finite arguments: the four results are the real gradients, and the arguments hold what they held. -/
theorem kernel_run (dh x : Dev nD → Fin 8192 → Fin 1024 → ℝ) (g : Dev nD → Fin 1024 → ℝ) (wg wu : Dev nD → Fin 1024 → Fin 2816 → ℝ)
    (wd : Dev nD → Fin 2816 → Fin 1024 → ℝ)
    (H : ∀ c, ArgsAt (a0 m c) (a1 m c) (a2 m c) (a3 m c) (a4 m c) (a5 m c) (dh c) (x c) (g c) (wg c) (wu c) (wd c)) :
    θ_run (defs (F := Ideal)) (onTc (τ := τ) (main (F := Ideal))) ⟨m, fun _ => 0, ρ⟩ fun r => ∀ c : Dev nD,
      r.2.mem ((c.tc : Thread nD τ).loc main_v40_0) = G8 (dh c) (x c) (g c) (wg c) (wu c) (wd c)
      ∧ r.2.mem ((c.tc : Thread nD τ).loc main_v40_1) = G9 (dh c) (x c) (g c) (wg c) (wu c) (wd c)
      ∧ r.2.mem ((c.tc : Thread nD τ).loc main_v40_2) = G10 (dh c) (x c) (g c) (wg c) (wd c)
      ∧ r.2.mem ((c.tc : Thread nD τ).loc main_v40_3) = G11 (dh c) (x c) (g c) (wg c) (wu c) (wd c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, hargs⟩ := h c
    exact ⟨h0.trans (final8 (H c)), h1.trans (final9 (H c)), h2.trans (final10 (H c)), h3.trans (final11 (H c)), hargs⟩)
    (Value.run_blocks (F := Ideal) m ρ)

end Runs

section Arrays

open Cert.Reference2Ideal Cert.Reference2Ideal.Read

variable {x0 x1 : Vec Ideal S8192x1024 .f32} {x2 : Vec Ideal S1x1024 .f32} {x3 x4 : Vec Ideal S1024x2816 .f32}
  {x5 : Vec Ideal S2816x1024 .f32} {dh x : Fin 8192 → Fin 1024 → ℝ} {g : Fin 1024 → ℝ} {wg wu : Fin 1024 → Fin 2816 → ℝ}
  {wd : Fin 2816 → Fin 1024 → ℝ} (H : ArgsAt x0 x1 x2 x3 x4 x5 dh x g wg wu wd)

include H

theorem reference8 : val_main_v56 (F := Ideal) x0 x1 x2 x3 x4 x5 = G8 dh x g wg wu wd := by
  funext i
  obtain ⟨a, b, rfl⟩ : ∃ (a : Fin 8192) (b : Fin 1024), i = ix2 a b := ⟨i 0, i 1, eq_ix2 i⟩
  exact rowGrad_at H a b
theorem reference9 : val_main_v52 (F := Ideal) x0 x1 x2 x3 x4 x5 = G9 dh x g wg wu wd := by
  funext i
  obtain ⟨s, a, b, rfl⟩ : ∃ (s : Fin 4) (a : Fin 8192) (b : Fin 704), i = ix3 s a b := ⟨i 0, i 1, i 2, eq_ix3 i⟩
  exact gateShard_at H s a b
theorem reference10 : val_main_v55 (F := Ideal) x0 x1 x2 x3 x5 = G10 dh x g wg wd := by
  funext i
  obtain ⟨s, a, b, rfl⟩ : ∃ (s : Fin 4) (a : Fin 8192) (b : Fin 704), i = ix3 s a b := ⟨i 0, i 1, i 2, eq_ix3 i⟩
  exact upShard_at H s a b
theorem reference11 : val_main_v33 (F := Ideal) x0 x1 x2 x3 x4 x5 = G11 dh x g wg wu wd := by
  funext i
  obtain ⟨u, b, rfl⟩ : ∃ (u : Fin 1) (b : Fin 1024), i = ix2 u b := ⟨i 0, i 1, eq_ix2 i⟩
  exact gain_at H u b

end Arrays

/-! ## The precondition -/

/-- An element whose absolute value is below the largest extended real is a real. -/
theorem real_of_lt {s : Shape} (x top : FVec Ideal s .f32) (htop : ∀ i, top i = (⊤ : EReal))
    (h : cmpf .olt (Host.absf x) top = fun _ => 1#1) (i : s.Idx) : x i = ((x i).toReal : EReal) := by
  have e := congrFun h i
  have hlt : max (x i) (-(x i)) < (⊤ : EReal) := by
    by_contra hn
    have e' : BitVec.ofBool (decide (max (x i) (-(x i)) < top i)) = 1#1 := e
    rw [htop, decide_eq_false hn] at e'
    exact absurd e' (by decide)
  have h1 : x i ≠ ⊤ := fun hx => by rw [hx] at hlt; simp at hlt
  have h2 : x i ≠ ⊥ := fun hx => by rw [hx] at hlt; simp at hlt
  exact (EReal.coe_toReal h1 h2).symm

/-- The word of positive infinity. -/
theorem ofBits_top : Ideal.ofBits .f32 0x7F800000#32 = (⊤ : EReal) := by
  simp [Ideal.ofBits, Ideal.ieee]

/-- The precondition gives finite arguments: each holds the reals it is read as. -/
theorem args_at (x0 x1 : Vec Ideal Cert.Reference2Ideal.S8192x1024 .f32) (x2 : Vec Ideal Cert.Reference2Ideal.S1x1024 .f32)
    (x3 x4 : Vec Ideal Cert.Reference2Ideal.S1024x2816 .f32) (x5 : Vec Ideal Cert.Reference2Ideal.S2816x1024 .f32)
    (h : (Cert.Pre_finite2.fn (F := Ideal) x0 x1 x2 x3 x4 x5).1 = (fun _ => 1#1)
      ∧ (Cert.Pre_finite2.fn (F := Ideal) x0 x1 x2 x3 x4 x5).2.1 = (fun _ => 1#1)
      ∧ (Cert.Pre_finite2.fn (F := Ideal) x0 x1 x2 x3 x4 x5).2.2.1 = (fun _ => 1#1)
      ∧ (Cert.Pre_finite2.fn (F := Ideal) x0 x1 x2 x3 x4 x5).2.2.2.1 = (fun _ => 1#1)
      ∧ (Cert.Pre_finite2.fn (F := Ideal) x0 x1 x2 x3 x4 x5).2.2.2.2.1 = (fun _ => 1#1)
      ∧ (Cert.Pre_finite2.fn (F := Ideal) x0 x1 x2 x3 x4 x5).2.2.2.2.2 = (fun _ => 1#1)) :
    ArgsAt x0 x1 x2 x3 x4 x5 (fun r c => (x0 (ix2 r c)).toReal) (fun r c => (x1 (ix2 r c)).toReal) (fun c => (x2 (ix2 0 c)).toReal)
      (fun c j => (x3 (ix2 c j)).toReal) (fun c j => (x4 (ix2 c j)).toReal) (fun j c => (x5 (ix2 j c)).toReal) := by
  obtain ⟨h0, h1, h2, h3, h4, h5⟩ := h
  exact ⟨fun r c => real_of_lt x0 _ (fun _ => ofBits_top) h0 (ix2 r c), fun r c => real_of_lt x1 _ (fun _ => ofBits_top) h1 (ix2 r c),
    fun c => real_of_lt x2 _ (fun _ => ofBits_top) h2 (ix2 0 c), fun c j => real_of_lt x3 _ (fun _ => ofBits_top) h3 (ix2 c j),
    fun c j => real_of_lt x4 _ (fun _ => ofBits_top) h4 (ix2 c j), fun j c => real_of_lt x5 _ (fun _ => ofBits_top) h5 (ix2 j c)⟩

/-! ## The claims -/

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_ideal_pre : Cert.quiescent_Kernel2Ideal_pre_finite2 := fun m ρ _ => Cert.Kernel2Ideal.Gen.frame m ρ
/-- The reference's run read at the arguments; it declares no semaphore. -/
theorem frame_reference : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)
theorem frame_reference_pre : Cert.quiescent_Reference2Ideal_pre_finite2 := fun m ρ _ => frame_reference m ρ trivial

/-- The kernel's four results and the reference's are equal as extended reals, on every memory of finite arguments. -/
theorem algebraic : Cert.algebraic_Kernel2Ideal_Reference2Ideal_pre_finite2 := fun m g m' g' hpre hm =>
  have H := fun c => args_at (a0 m c) (a1 m c) (a2 m c) (a3 m c) (a4 m c) (a5 m c) (hpre c)
  ⟨_, _, _, _, kernel_run m g _ _ _ _ _ _ H,
    (θ_run Cert.Reference2Ideal.defs _ _).mono (fun r h c => by
      obtain ⟨h0, h1, h2, h3, hargs⟩ := h c
      obtain ⟨e0, e1, e2, e3, e4, e5⟩ := hm c
      refine ⟨h0.trans ((Cert.Reference2Ideal.Read.val_main_v56_eq m' c).trans ?_), h1.trans ((Cert.Reference2Ideal.Read.val_main_v52_eq m' c).trans ?_),
        h2.trans ((Cert.Reference2Ideal.Read.val_main_v55_eq _ _ _ _ _).trans ?_), h3.trans ((Cert.Reference2Ideal.Read.val_main_v33_eq m' c).trans ?_), hargs⟩
      · rw [e0, e1, e2, e3, e4, e5]; exact reference8 (H c)
      · rw [e0, e1, e2, e3, e4, e5]; exact reference9 (H c)
      · rw [e0, e1, e2, e3, e5]; exact reference10 (H c)
      · rw [e0, e1, e2, e3, e4, e5]; exact reference11 (H c))
      (Cert.Reference2Ideal.Value.run (F := Ideal) m' g')⟩

end Cert.FfnClaims

end
-- ==== Proof.Products.lean ====
/-
  What the weight gradients share: a product whose left operand is transposed, indices of rank-three arrays, and a fold over the
  blocks of tokens read as one sum over all of them.
-/
module

public import Idealize.ShloMosaic.Lib.Pipeline.ValueKit
public import proofs.«01_k».proof.Proof.Basics

@[expose] public section

noncomputable section

open Idealize.ShloMosaic hiding ix1 ix2 ix3 eq_ix2 eq_ix3
open Idealize.ShloMosaic.ValueIdx
open scoped BigOperators

namespace Cert.Products

open Cert.Basics

/-- Two indices of a rank-three array agree when their coordinates do. -/
theorem idx_ext3 {a b d : ℕ} {i j : (⟨3, ![a, b, d]⟩ : Shape).Idx} (h0 : (i 0).val = (j 0).val) (h1 : (i 1).val = (j 1).val)
    (h2 : (i 2).val = (j 2).val) : i = j := by
  funext k
  fin_cases k
  · exact Fin.ext h0
  · exact Fin.ext h1
  · exact Fin.ext h2

/-- The dimension numbers of `[K,M]ᵀ × [K,N]`. -/
abbrev tnDims (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ :=
  { lhsContracting := [0], rhsContracting := [0], lhsNonContracting := [1], rhsNonContracting := [1], lhsBatch := [], rhsBatch := [], wf := wf }

/-- A product `[K,M]ᵀ × [K,N]` with a zero accumulator, at an index. -/
theorem dot_tn {K M N : ℕ} {φ₁ φ₂ : FTy} (wf) (prec : Option ContractPrecision) (x : FVec Ideal ⟨2, ![K, M]⟩ φ₁)
    (w : FVec Ideal ⟨2, ![K, N]⟩ φ₂) (r : Fin M) (c : Fin N) :
    FloatOps.matmul (tnDims K M N wf) prec x w (constant ⟨2, ![M, N]⟩ .f32 0x00000000#32) (ix2 r c)
      = ∑ k : Fin K, x (ix2 k r) * w (ix2 k c) := by
  rw [Ideal.matmul_apply, constant_apply, ofBits_zero, zero_add, ← Equiv.sum_comp (contrEquiv1 (tnDims K M N wf) K rfl rfl).symm]
  refine Finset.sum_congr rfl fun k _ => ?_
  have hk := contrEquiv1_symm_val (tnDims K M N wf) K rfl rfl k
  refine congrArg₂ (· * ·) (congrArg x ?_) (congrArg w ?_)
  · funext a; apply Fin.ext
    match a with
    | ⟨0, _⟩ => exact hk
    | ⟨1, _⟩ => rfl
  · funext a; apply Fin.ext
    match a with
    | ⟨0, _⟩ => exact hk
    | ⟨1, _⟩ => rfl

/-- A fold that starts at a run's first point with that point's block of a sum and adds the next points' blocks is the whole sum. -/
theorem fold_sum {N L Q n : ℕ} {ι : Type*} (reset : (t : ℕ) → t < N → ι → EReal) (step : (t : ℕ) → t < N → (ι → EReal) → ι → EReal)
    (part : (t : ℕ) → t < N → ι → EReal) (f : ι → Fin L → EReal)
    (hreset : ∀ t h i, reset t h i = part t h i) (hstep : ∀ t h acc i, step t h acc i = acc i + part t h i)
    (b : ℕ) (hb : b + Q < N) (hL : L = (Q + 1) * n) (i : ι)
    (hpart : ∀ (q : Fin (Q + 1)) (h : b + q.val < N), part (b + q.val) h i
      = ∑ r : Fin n, f i ⟨q.val * n + r.val, Fin.mul_add_lt_of_eq_mul hL q r⟩) :
    Pipeline.accAt reset step b Q hb i = ∑ R : Fin L, f i R := by
  refine (Pipeline.accAt_add_apply reset step (fun _ => 0) (fun t i => if h : t < N then part t h i else 0) b Q
    (fun h i => ?_) (fun t h acc i _ _ => ?_) Q le_rfl hb i).trans ?_
  · rw [dif_pos h, hreset, zero_add]
  · rw [dif_pos h, hstep]
  · rw [zero_add, Finset.sum_range, ← Fin.sum_mul_add_fin (Q + 1) n (f i) hL]
    refine Finset.sum_congr rfl fun q _ => ?_
    have h : b + q.val < N := by have := q.isLt; omega
    rw [dif_pos h, hpart q h]

end Cert.Products

end
-- ==== Proof.WgradGate.lean ====
/-
  The gradient of a weight of the gate's (or the other) projection: the kernel's result is the product of the projection's gradient,
  transposed, with the normalised rows, summed over all tokens; so is the reference's.
-/
module

public import proofs.«01_k».proof.Proof.Products
public import proofs.«01_k».proof.Defs
public import proofs.«01_k».proof.Proof.Gen.Kernel3.Frame
public import proofs.«01_k».proof.Proof.Gen.Kernel3Ideal.Value
public import proofs.«01_k».proof.Proof.Gen.Reference3Ideal.Read

@[expose] public section

noncomputable section

open Idealize.ShloMosaic hiding ix1 ix2 ix3 eq_ix2 eq_ix3
open Idealize.ShloMosaic.TcCoe Idealize.SL.Sem Idealize.ShloMosaic.ValueIdx
open scoped BigOperators

namespace Cert.WgradGate

open Cert.Basics Cert.Products

/-- The gradient of the weight, shard by shard: the sum over the tokens. -/
def grad (a : (⟨3, ![4, 8192, 704]⟩ : Shape).Idx → EReal) (b : (⟨2, ![8192, 1024]⟩ : Shape).Idx → EReal) :
    (⟨3, ![4, 704, 1024]⟩ : Shape).Idx → EReal :=
  fun i => ∑ R : Fin 8192, a (ix3 (i 0) R (i 1)) * b (ix2 R (i 2))

section Kernel

open Cert.Kernel3Ideal Cert.Kernel3Ideal.Gen Cert.Kernel3Ideal.Value

variable (m : (ℓ : Loc nD τ sig) → Buf (Elt Ideal) ℓ) (c : Dev nD)

/-- The first operand. -/
abbrev a0 : Vec Ideal S4x8192x704 .bf16 := m ((c : Thread nD τ).loc main_arg0)
/-- The second operand. -/
abbrev a1 : Vec Ideal S8192x1024 .bf16 := m ((c : Thread nD τ).loc main_arg1)
/-- The first operand's block at a point. -/
abbrev b0 (t : Fin cfg0.N) : Vec Ideal S1x4096x704 .bf16 := iblk m c 0 t
/-- The second operand's block at a point. -/
abbrev b1 (t : Fin cfg0.N) : Vec Ideal S4096x1024 .bf16 := iblk m c 1 t

/-- The point of the shard `s` and the block of tokens `q`. -/
abbrev pt (s : Fin 4) (q : Fin 2) : Fin cfg0.N := ⟨2 * s.val + q.val, by have := s.isLt; have := q.isLt; show _ < 8; omega⟩
/-- Token `r` of the block `q`. -/
abbrev tok (q : Fin 2) (r : Fin 4096) : Fin 8192 := ⟨q.val * 4096 + r.val, by have := q.isLt; have := r.isLt; omega⟩

theorem idx_facts : ∀ (s : Fin 4) (q : Fin 2), win0_0.index (pt s q) = ![s.val, q.val, 0] ∧ win0_1.index (pt s q) = ![q.val, 0] :=
  (by decide +kernel)

/-- The first operand's block at a point. -/
theorem blk0 (s : Fin 4) (q : Fin 2) (r : Fin 4096) (j : Fin 704) :
    b0 m c (pt s q) (ix3 0 r j) = a0 m c (ix3 s (tok q r) j) := by
  refine congrArg (a0 m c) (show (win0_0.rect (pt s q)).emb (ix3 0 r j) = _ from idx_ext3 ?_ ?_ ?_)
  · rw [Pipeline.Window.rect_emb_val win0_0, (idx_facts s q).1]; show s.val * 1 + 0 = s.val; omega
  · rw [Pipeline.Window.rect_emb_val win0_0, (idx_facts s q).1]; rfl
  · rw [Pipeline.Window.rect_emb_val win0_0, (idx_facts s q).1]; show 0 * _ + j.val = j.val; omega

/-- The second operand's block at a point. -/
theorem blk1 (s : Fin 4) (q : Fin 2) (r : Fin 4096) (k : Fin 1024) :
    b1 m c (pt s q) (ix2 r k) = a1 m c (ix2 (tok q r) k) := by
  refine congrArg (a1 m c) (show (win0_1.rect (pt s q)).emb (ix2 r k) = _ from Shape.idx_ext₂ ?_ ?_)
  · rw [Pipeline.Window.rect_emb_val win0_1, (idx_facts s q).2]; rfl
  · rw [Pipeline.Window.rect_emb_val win0_1, (idx_facts s q).2]; show 0 * _ + k.val = k.val; omega

/-- What a point adds: the product over its block of tokens. -/
theorem pay_apply (x0 : Vec Ideal S1x4096x704 .bf16) (x1 : Vec Ideal S4096x1024 .bf16) (acc : Vec Ideal S1x704x1024 .f32)
    (j : Fin 704) (k : Fin 1024) :
    k0_pay2 x0 x1 acc (ix3 0 j k) = acc (ix3 0 j k) + ∑ r : Fin 4096, x0 (ix3 0 r j) * x1 (ix2 r k) := by
  unfold k0_pay2
  rw [shapeCast_self]
  refine congrArg (fun v : EReal => acc (ix3 0 j k) + v) ((shapeCast_ab_1ab_apply _ _ _ _ _).trans
    ((dot_tn (φ₁ := .bf16) (φ₂ := .bf16) _ none _ _ j k).trans (Finset.sum_congr rfl fun r _ => ?_)))
  exact congrArg (fun v : EReal => v * x1 (ix2 r k)) (shapeCast_1ab_ab_apply x0 _ r j)

/-- The product over the block of tokens of point `t`. -/
def part (t : ℕ) (h : t < cfg0.N) (i : S1x704x1024.Idx) : EReal :=
  ∑ r : Fin 4096, b0 m c ⟨t, h⟩ (ix3 0 r (i 1)) * b1 m c ⟨t, h⟩ (ix2 r (i 2))

theorem eq_ix3_one (i : S1x704x1024.Idx) : ∃ (j : Fin 704) (k : Fin 1024), i = ix3 0 j k :=
  ⟨i 1, i 2, idx_ext3 (by have h : (i 0).val < 1 := (i 0).isLt; show (i 0).val = 0; omega) rfl rfl⟩

/-- The kernel's result is the gradient. -/
theorem kernel_value : G2 m c = grad (a0 m c) (a1 m c) := by
  funext i
  obtain ⟨s, j, k, rfl⟩ : ∃ (s : Fin 4) (j : Fin 704) (k : Fin 1024), i = ix3 s j k := ⟨i 0, i 1, i 2, eq_ix3 i⟩
  have hrun : run2Of (ix3 s j k) = s.val := by
    have := j.isLt; have := k.isLt
    show 1 * (s.val / 1 - 0) + 1 * (j.val / 704 - 0) + 1 * (k.val / 1024 - 0) = s.val
    omega
  have hloc : loc2Of (ix3 s j k) = ix3 0 j k :=
    idx_ext3 (Nat.mod_one _) (Nat.mod_eq_of_lt j.isLt) (Nat.mod_eq_of_lt k.isLt)
  have hb : 2 * run2Of (ix3 s j k) + 1 < cfg0.N := by rw [hrun]; have := s.isLt; show _ < 8; omega
  unfold G2
  rw [dif_pos hb, hloc]
  refine fold_sum (Q := 1) (n := 4096) (reset2 m c) (step2 m c) (part m c)
    (fun i R => a0 m c (ix3 s R (i 1)) * a1 m c (ix2 R (i 2)))
    (fun t h i => ?_) (fun t h acc i => ?_) _ hb rfl (ix3 0 j k) (fun q h => ?_)
  · obtain ⟨j, k, rfl⟩ := eq_ix3_one i
    exact (pay_apply _ _ _ j k).trans ((congrArg (· + _) ofBits_zero).trans (zero_add _))
  · obtain ⟨j, k, rfl⟩ := eq_ix3_one i
    exact pay_apply _ _ _ j k
  · have e : (⟨2 * run2Of (ix3 s j k) + q.val, h⟩ : Fin cfg0.N) = pt s q := Fin.ext (congrArg (fun z => 2 * z + q.val) hrun)
    unfold part
    rw [e]
    exact Finset.sum_congr rfl fun r _ => congrArg₂ (· * ·) (blk0 m c s q r j) (blk1 m c s q r k)

end Kernel

section Reference

open Cert.Reference3Ideal Cert.Reference3Ideal.Read

/-- The reference's result is the gradient. -/
theorem reference_value (x0 : Vec Ideal S4x8192x704 .bf16) (x1 : Vec Ideal S8192x1024 .bf16) :
    val_main_v9 (F := Ideal) x0 x1 = grad x0 x1 := by
  funext i
  obtain ⟨s, j, k, rfl⟩ : ∃ (s : Fin 4) (j : Fin 704) (k : Fin 1024), i = ix3 s j k := ⟨i 0, i 1, i 2, eq_ix3 i⟩
  have hs := s.isLt; have hj := j.isLt; have hk := k.isLt
  rw [val_main_v9_apply, val_main_v8_apply, val_main_v7_apply, val_main_v6_apply]
  refine Finset.sum_congr rfl fun R _ => congrArg₂ (· * ·) ?_ ?_
  · show val_main_v2 (F := Ideal) x0 _ = _
    have hR := R.isLt
    rw [val_main_v2_apply, val_main_v1_apply]
    refine congrArg x0 (idx_ext3 ?_ ?_ ?_)
    · show (R.val * 2816 + ((s.val * 704 + j.val) * 1024 + k.val) / 1024) / 704 % 4 = s.val
      omega
    · show (R.val * 2816 + ((s.val * 704 + j.val) * 1024 + k.val) / 1024) / 2816 = R.val
      omega
    · show (R.val * 2816 + ((s.val * 704 + j.val) * 1024 + k.val) / 1024) % 704 = j.val
      omega
  · show x1 _ = _
    refine congrArg x1 (Shape.idx_ext₂ rfl ?_)
    show ((s.val * 704 + j.val) * 1024 + k.val) % 1024 = k.val
    omega

end Reference

/-! ## The claims -/

theorem frame_kernel : Cert.quiescent_Kernel3 := fun m ρ _ => Cert.Kernel3.Gen.frame m ρ
theorem frame_ideal : Cert.quiescent_Kernel3Ideal := fun m ρ _ => Cert.Kernel3Ideal.Gen.frame m ρ
/-- The reference's run read at the arguments; it declares no semaphore. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result and the reference's are equal as extended reals, on every memory. -/
theorem algebraic : Cert.algebraic_Kernel3Ideal_Reference3Ideal := fun m g m' g' _ hm =>
  ⟨_, (θ_run Cert.Kernel3Ideal.defs _ _).mono (fun r h c => ⟨(h c).1.trans (kernel_value m c), (h c).2⟩)
      (Cert.Kernel3Ideal.Value.run (F := Ideal) m g),
    (θ_run Cert.Reference3Ideal.defs _ _).mono (fun r h c => by
      obtain ⟨h0, hargs⟩ := h c
      obtain ⟨e0, e1⟩ := hm c
      refine ⟨h0.trans ((Cert.Reference3Ideal.Read.val_main_v9_eq _ _).trans ?_), hargs⟩
      rw [e0, e1]; exact reference_value _ _)
      (Cert.Reference3Ideal.Value.run (F := Ideal) m' g')⟩

end Cert.WgradGate

end
-- ==== Proof.WgradDown.lean ====
/-
  The gradient of the weight that projects the hidden features back: the kernel's result is the product of the hidden features,
  transposed, with half the incoming gradient, summed over all tokens; so is the reference's.
-/
module

public import proofs.«01_k».proof.Proof.Products
public import proofs.«01_k».proof.Defs
public import proofs.«01_k».proof.Proof.Gen.Kernel4.Frame
public import proofs.«01_k».proof.Proof.Gen.Kernel4Ideal.Value
public import proofs.«01_k».proof.Proof.Gen.Reference4Ideal.Read

@[expose] public section

noncomputable section

open Idealize.ShloMosaic hiding ix1 ix2 ix3 eq_ix2 eq_ix3
open Idealize.ShloMosaic.TcCoe Idealize.SL.Sem Idealize.ShloMosaic.ValueIdx
open scoped BigOperators

namespace Cert.WgradDown

open Cert.Basics Cert.Products

/-- The gradient of the weight, shard by shard: the sum over the tokens. -/
def grad (a : (⟨3, ![4, 8192, 704]⟩ : Shape).Idx → EReal) (b : (⟨2, ![8192, 1024]⟩ : Shape).Idx → EReal) :
    (⟨3, ![4, 704, 1024]⟩ : Shape).Idx → EReal :=
  fun i => ∑ R : Fin 8192, a (ix3 (i 0) R (i 1)) * (Ideal.ofBits .f32 0x3F000000#32 * b (ix2 R (i 2)))

section Kernel

open Cert.Kernel4Ideal Cert.Kernel4Ideal.Gen Cert.Kernel4Ideal.Value

variable (m : (ℓ : Loc nD τ sig) → Buf (Elt Ideal) ℓ) (c : Dev nD)

/-- The first operand. -/
abbrev a0 : Vec Ideal S4x8192x704 .bf16 := m ((c : Thread nD τ).loc main_arg0)
/-- The second operand. -/
abbrev a1 : Vec Ideal S8192x1024 .f32 := m ((c : Thread nD τ).loc main_arg1)
/-- The first operand's block at a point. -/
abbrev b0 (t : Fin cfg0.N) : Vec Ideal S1x2048x704 .bf16 := iblk m c 0 t
/-- The second operand's block at a point. -/
abbrev b1 (t : Fin cfg0.N) : Vec Ideal S2048x1024 .f32 := iblk m c 1 t

/-- The point of the shard `s` and the block of tokens `q`. -/
abbrev pt (s : Fin 4) (q : Fin 4) : Fin cfg0.N := ⟨4 * s.val + q.val, by have := s.isLt; have := q.isLt; show _ < 16; omega⟩
/-- Token `r` of the block `q`. -/
abbrev tok (q : Fin 4) (r : Fin 2048) : Fin 8192 := ⟨q.val * 2048 + r.val, by have := q.isLt; have := r.isLt; omega⟩

theorem idx_facts : ∀ (s : Fin 4) (q : Fin 4), win0_0.index (pt s q) = ![s.val, q.val, 0] ∧ win0_1.index (pt s q) = ![q.val, 0] :=
  (by decide +kernel)

/-- The first operand's block at a point. -/
theorem blk0 (s : Fin 4) (q : Fin 4) (r : Fin 2048) (j : Fin 704) :
    b0 m c (pt s q) (ix3 0 r j) = a0 m c (ix3 s (tok q r) j) := by
  refine congrArg (a0 m c) (show (win0_0.rect (pt s q)).emb (ix3 0 r j) = _ from idx_ext3 ?_ ?_ ?_)
  · rw [Pipeline.Window.rect_emb_val win0_0, (idx_facts s q).1]; show s.val * 1 + 0 = s.val; omega
  · rw [Pipeline.Window.rect_emb_val win0_0, (idx_facts s q).1]; rfl
  · rw [Pipeline.Window.rect_emb_val win0_0, (idx_facts s q).1]; show 0 * _ + j.val = j.val; omega

/-- The second operand's block at a point. -/
theorem blk1 (s : Fin 4) (q : Fin 4) (r : Fin 2048) (k : Fin 1024) :
    b1 m c (pt s q) (ix2 r k) = a1 m c (ix2 (tok q r) k) := by
  refine congrArg (a1 m c) (show (win0_1.rect (pt s q)).emb (ix2 r k) = _ from Shape.idx_ext₂ ?_ ?_)
  · rw [Pipeline.Window.rect_emb_val win0_1, (idx_facts s q).2]; rfl
  · rw [Pipeline.Window.rect_emb_val win0_1, (idx_facts s q).2]; show 0 * _ + k.val = k.val; omega

/-- What a point adds: the product over its block of tokens. -/
theorem pay_apply (x0 : Vec Ideal S1x2048x704 .bf16) (x1 : Vec Ideal S2048x1024 .f32) (acc : Vec Ideal S1x704x1024 .f32)
    (j : Fin 704) (k : Fin 1024) :
    k0_pay2 x0 x1 acc (ix3 0 j k) = acc (ix3 0 j k) + ∑ r : Fin 2048, x0 (ix3 0 r j) * (Ideal.ofBits .f32 0x3F000000#32 * x1 (ix2 r k)) := by
  unfold k0_pay2
  rw [shapeCast_self]
  refine congrArg (fun v : EReal => acc (ix3 0 j k) + v) ((shapeCast_ab_1ab_apply _ _ _ _ _).trans
    ((dot_tn (φ₁ := .bf16) (φ₂ := .bf16) _ none _ _ j k).trans (Finset.sum_congr rfl fun r _ => ?_)))
  exact congrArg (fun v : EReal => v * (Ideal.ofBits .f32 0x3F000000#32 * x1 (ix2 r k))) (shapeCast_1ab_ab_apply x0 _ r j)

/-- The product over the block of tokens of point `t`. -/
def part (t : ℕ) (h : t < cfg0.N) (i : S1x704x1024.Idx) : EReal :=
  ∑ r : Fin 2048, b0 m c ⟨t, h⟩ (ix3 0 r (i 1)) * (Ideal.ofBits .f32 0x3F000000#32 * b1 m c ⟨t, h⟩ (ix2 r (i 2)))

theorem eq_ix3_one (i : S1x704x1024.Idx) : ∃ (j : Fin 704) (k : Fin 1024), i = ix3 0 j k :=
  ⟨i 1, i 2, idx_ext3 (by have h : (i 0).val < 1 := (i 0).isLt; show (i 0).val = 0; omega) rfl rfl⟩

/-- The kernel's result is the gradient. -/
theorem kernel_value : G2 m c = grad (a0 m c) (a1 m c) := by
  funext i
  obtain ⟨s, j, k, rfl⟩ : ∃ (s : Fin 4) (j : Fin 704) (k : Fin 1024), i = ix3 s j k := ⟨i 0, i 1, i 2, eq_ix3 i⟩
  have hrun : run2Of (ix3 s j k) = s.val := by
    have := j.isLt; have := k.isLt
    show 1 * (s.val / 1 - 0) + 1 * (j.val / 704 - 0) + 1 * (k.val / 1024 - 0) = s.val
    omega
  have hloc : loc2Of (ix3 s j k) = ix3 0 j k :=
    idx_ext3 (Nat.mod_one _) (Nat.mod_eq_of_lt j.isLt) (Nat.mod_eq_of_lt k.isLt)
  have hb : 4 * run2Of (ix3 s j k) + 3 < cfg0.N := by rw [hrun]; have := s.isLt; show _ < 16; omega
  unfold G2
  rw [dif_pos hb, hloc]
  refine fold_sum (Q := 3) (n := 2048) (reset2 m c) (step2 m c) (part m c)
    (fun i R => a0 m c (ix3 s R (i 1)) * (Ideal.ofBits .f32 0x3F000000#32 * a1 m c (ix2 R (i 2))))
    (fun t h i => ?_) (fun t h acc i => ?_) _ hb rfl (ix3 0 j k) (fun q h => ?_)
  · obtain ⟨j, k, rfl⟩ := eq_ix3_one i
    exact (pay_apply _ _ _ j k).trans ((congrArg (· + _) ofBits_zero).trans (zero_add _))
  · obtain ⟨j, k, rfl⟩ := eq_ix3_one i
    exact pay_apply _ _ _ j k
  · have e : (⟨4 * run2Of (ix3 s j k) + q.val, h⟩ : Fin cfg0.N) = pt s q := Fin.ext (congrArg (fun z => 4 * z + q.val) hrun)
    unfold part
    rw [e]
    exact Finset.sum_congr rfl fun r _ => congrArg₂ (fun u v : EReal => u * (Ideal.ofBits .f32 0x3F000000#32 * v)) (blk0 m c s q r j) (blk1 m c s q r k)

end Kernel

section Reference

open Cert.Reference4Ideal Cert.Reference4Ideal.Read

/-- The reference's result is the gradient. -/
theorem reference_value (x0 : Vec Ideal S4x8192x704 .bf16) (x1 : Vec Ideal S8192x1024 .f32) :
    val_main_v11 (F := Ideal) x0 x1 = grad x0 x1 := by
  funext i
  obtain ⟨s, j, k, rfl⟩ : ∃ (s : Fin 4) (j : Fin 704) (k : Fin 1024), i = ix3 s j k := ⟨i 0, i 1, i 2, eq_ix3 i⟩
  have hs := s.isLt; have hj := j.isLt; have hk := k.isLt
  rw [val_main_v11_apply, val_main_v10_apply, val_main_v9_apply]
  refine Finset.sum_congr rfl fun R _ => (mul_comm _ _).trans (congrArg₂ (· * ·) ?_ ?_)
  · show val_main_v1 (F := Ideal) x0 _ = _
    have hR := R.isLt
    rw [val_main_v1_apply, val_main_v0_apply]
    refine congrArg x0 (idx_ext3 ?_ ?_ ?_)
    · show (R.val * 2816 + ((s.val * 704 + j.val) * 1024 + k.val) / 1024) / 704 % 4 = s.val
      omega
    · show (R.val * 2816 + ((s.val * 704 + j.val) * 1024 + k.val) / 1024) / 2816 = R.val
      omega
    · show (R.val * 2816 + ((s.val * 704 + j.val) * 1024 + k.val) / 1024) % 704 = j.val
      omega
  · show val_main_v7 (F := Ideal) _ * x1 _ = _
    rw [val_main_v7_apply]
    refine congrArg (fun v : EReal => Ideal.ofBits .f32 0x3F000000#32 * v) (congrArg x1 (Shape.idx_ext₂ rfl ?_))
    show ((s.val * 704 + j.val) * 1024 + k.val) % 1024 = k.val
    omega

end Reference

/-! ## The claims -/

theorem frame_kernel : Cert.quiescent_Kernel4 := fun m ρ _ => Cert.Kernel4.Gen.frame m ρ
theorem frame_ideal : Cert.quiescent_Kernel4Ideal := fun m ρ _ => Cert.Kernel4Ideal.Gen.frame m ρ
/-- The reference's run read at the arguments; it declares no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result and the reference's are equal as extended reals, on every memory. -/
theorem algebraic : Cert.algebraic_Kernel4Ideal_Reference4Ideal := fun m g m' g' _ hm =>
  ⟨_, (θ_run Cert.Kernel4Ideal.defs _ _).mono (fun r h c => ⟨(h c).1.trans (kernel_value m c), (h c).2⟩)
      (Cert.Kernel4Ideal.Value.run (F := Ideal) m g),
    (θ_run Cert.Reference4Ideal.defs _ _).mono (fun r h c => by
      obtain ⟨h0, hargs⟩ := h c
      obtain ⟨e0, e1⟩ := hm c
      refine ⟨h0.trans ((Cert.Reference4Ideal.Read.val_main_v11_eq _ _).trans ?_), hargs⟩
      rw [e0, e1]; exact reference_value _ _)
      (Cert.Reference4Ideal.Value.run (F := Ideal) m' g')⟩

end Cert.WgradDown

end
-- ==== Proof.WgradIn.lean ====
/-
  The gradient of the weight of the mixing input's projection: the kernel's result is the product of the projection's gradient,
  transposed, with the normalised rows, summed over all tokens; so is the reference's.
-/
module

public import proofs.«01_k».proof.Proof.Products
public import proofs.«01_k».proof.Defs
public import proofs.«01_k».proof.Proof.Gen.Kernel5.Frame
public import proofs.«01_k».proof.Proof.Gen.Kernel5Ideal.Value
public import proofs.«01_k».proof.Proof.Gen.Reference5Ideal.Read

@[expose] public section

noncomputable section

open Idealize.ShloMosaic hiding ix1 ix2 ix3 eq_ix2 eq_ix3
open Idealize.ShloMosaic.TcCoe Idealize.SL.Sem Idealize.ShloMosaic.ValueIdx
open scoped BigOperators

namespace Cert.WgradIn

open Cert.Basics Cert.Products

/-- Column `j` of the block `s`. -/
abbrev col (s : Fin 2) (j : Fin 2176) : Fin 4352 := ⟨s.val * 2176 + j.val, by have := s.isLt; have := j.isLt; omega⟩

/-- The gradient of the weight, in two blocks of its columns: the sum over the tokens. -/
def grad (a : (⟨2, ![8192, 4352]⟩ : Shape).Idx → EReal) (b : (⟨2, ![8192, 1024]⟩ : Shape).Idx → EReal) :
    (⟨3, ![2, 2176, 1024]⟩ : Shape).Idx → EReal :=
  fun i => ∑ R : Fin 8192, a (ix2 R (col (i 0) (i 1))) * b (ix2 R (i 2))

section Kernel

open Cert.Kernel5Ideal Cert.Kernel5Ideal.Gen Cert.Kernel5Ideal.Value

variable (m : (ℓ : Loc nD τ sig) → Buf (Elt Ideal) ℓ) (c : Dev nD)

/-- The first operand. -/
abbrev a0 : Vec Ideal S8192x4352 .bf16 := m ((c : Thread nD τ).loc main_arg0)
/-- The second operand. -/
abbrev a1 : Vec Ideal S8192x1024 .bf16 := m ((c : Thread nD τ).loc main_arg1)
/-- The first operand's block at a point. -/
abbrev b0 (t : Fin cfg0.N) : Vec Ideal S2048x2176 .bf16 := iblk m c 0 t
/-- The second operand's block at a point. -/
abbrev b1 (t : Fin cfg0.N) : Vec Ideal S2048x1024 .bf16 := iblk m c 1 t

/-- The point of the shard `s` and the block of tokens `q`. -/
abbrev pt (s : Fin 2) (q : Fin 4) : Fin cfg0.N := ⟨4 * s.val + q.val, by have := s.isLt; have := q.isLt; show _ < 8; omega⟩
/-- Token `r` of the block `q`. -/
abbrev tok (q : Fin 4) (r : Fin 2048) : Fin 8192 := ⟨q.val * 2048 + r.val, by have := q.isLt; have := r.isLt; omega⟩

theorem idx_facts : ∀ (s : Fin 2) (q : Fin 4), win0_0.index (pt s q) = ![q.val, s.val] ∧ win0_1.index (pt s q) = ![q.val, 0] :=
  (by decide +kernel)

/-- The first operand's block at a point. -/
theorem blk0 (s : Fin 2) (q : Fin 4) (r : Fin 2048) (j : Fin 2176) :
    b0 m c (pt s q) (ix2 r j) = a0 m c (ix2 (tok q r) (col s j)) := by
  refine congrArg (a0 m c) (show (win0_0.rect (pt s q)).emb (ix2 r j) = _ from Shape.idx_ext₂ ?_ ?_)
  · rw [Pipeline.Window.rect_emb_val win0_0, (idx_facts s q).1]; rfl
  · rw [Pipeline.Window.rect_emb_val win0_0, (idx_facts s q).1]; rfl

/-- The second operand's block at a point. -/
theorem blk1 (s : Fin 2) (q : Fin 4) (r : Fin 2048) (k : Fin 1024) :
    b1 m c (pt s q) (ix2 r k) = a1 m c (ix2 (tok q r) k) := by
  refine congrArg (a1 m c) (show (win0_1.rect (pt s q)).emb (ix2 r k) = _ from Shape.idx_ext₂ ?_ ?_)
  · rw [Pipeline.Window.rect_emb_val win0_1, (idx_facts s q).2]; rfl
  · rw [Pipeline.Window.rect_emb_val win0_1, (idx_facts s q).2]; show 0 * _ + k.val = k.val; omega

/-- What a point adds: the product over its block of tokens. -/
theorem pay_apply (x0 : Vec Ideal S2048x2176 .bf16) (x1 : Vec Ideal S2048x1024 .bf16) (acc : Vec Ideal S1x2176x1024 .f32)
    (j : Fin 2176) (k : Fin 1024) :
    k0_pay2 x0 x1 acc (ix3 0 j k) = acc (ix3 0 j k) + ∑ r : Fin 2048, x0 (ix2 r j) * x1 (ix2 r k) := by
  unfold k0_pay2
  rw [shapeCast_self]
  refine congrArg (fun v : EReal => acc (ix3 0 j k) + v) ((shapeCast_ab_1ab_apply _ _ _ _ _).trans
    (dot_tn (φ₁ := .bf16) (φ₂ := .bf16) _ none x0 x1 j k))

/-- The product over the block of tokens of point `t`. -/
def part (t : ℕ) (h : t < cfg0.N) (i : S1x2176x1024.Idx) : EReal :=
  ∑ r : Fin 2048, b0 m c ⟨t, h⟩ (ix2 r (i 1)) * b1 m c ⟨t, h⟩ (ix2 r (i 2))

theorem eq_ix3_one (i : S1x2176x1024.Idx) : ∃ (j : Fin 2176) (k : Fin 1024), i = ix3 0 j k :=
  ⟨i 1, i 2, idx_ext3 (by have h : (i 0).val < 1 := (i 0).isLt; show (i 0).val = 0; omega) rfl rfl⟩

/-- The kernel's result is the gradient. -/
theorem kernel_value : G2 m c = grad (a0 m c) (a1 m c) := by
  funext i
  obtain ⟨s, j, k, rfl⟩ : ∃ (s : Fin 2) (j : Fin 2176) (k : Fin 1024), i = ix3 s j k := ⟨i 0, i 1, i 2, eq_ix3 i⟩
  have hrun : run2Of (ix3 s j k) = s.val := by
    have := j.isLt; have := k.isLt
    show 1 * (s.val / 1 - 0) + 1 * (j.val / 2176 - 0) + 1 * (k.val / 1024 - 0) = s.val
    omega
  have hloc : loc2Of (ix3 s j k) = ix3 0 j k :=
    idx_ext3 (Nat.mod_one _) (Nat.mod_eq_of_lt j.isLt) (Nat.mod_eq_of_lt k.isLt)
  have hb : 4 * run2Of (ix3 s j k) + 3 < cfg0.N := by rw [hrun]; have := s.isLt; show _ < 8; omega
  unfold G2
  rw [dif_pos hb, hloc]
  refine fold_sum (Q := 3) (n := 2048) (reset2 m c) (step2 m c) (part m c)
    (fun i R => a0 m c (ix2 R (col s (i 1))) * a1 m c (ix2 R (i 2)))
    (fun t h i => ?_) (fun t h acc i => ?_) _ hb rfl (ix3 0 j k) (fun q h => ?_)
  · obtain ⟨j, k, rfl⟩ := eq_ix3_one i
    exact (pay_apply _ _ _ j k).trans ((congrArg (· + _) ofBits_zero).trans (zero_add _))
  · obtain ⟨j, k, rfl⟩ := eq_ix3_one i
    exact pay_apply _ _ _ j k
  · have e : (⟨4 * run2Of (ix3 s j k) + q.val, h⟩ : Fin cfg0.N) = pt s q := Fin.ext (congrArg (fun z => 4 * z + q.val) hrun)
    unfold part
    rw [e]
    exact Finset.sum_congr rfl fun r _ => congrArg₂ (· * ·) (blk0 m c s q r j) (blk1 m c s q r k)

end Kernel

section Reference

open Cert.Reference5Ideal Cert.Reference5Ideal.Read

/-- The reference's result is the gradient. -/
theorem reference_value (x0 : Vec Ideal S8192x4352 .bf16) (x1 : Vec Ideal S8192x1024 .bf16) :
    val_main_v7 (F := Ideal) x0 x1 = grad x0 x1 := by
  funext i
  obtain ⟨s, j, k, rfl⟩ : ∃ (s : Fin 2) (j : Fin 2176) (k : Fin 1024), i = ix3 s j k := ⟨i 0, i 1, i 2, eq_ix3 i⟩
  have hs := s.isLt; have hj := j.isLt; have hk := k.isLt
  rw [val_main_v7_apply, val_main_v6_apply, val_main_v5_apply, val_main_v4_apply]
  refine Finset.sum_congr rfl fun R _ => congrArg₂ (· * ·) ?_ ?_
  · show x0 _ = _
    refine congrArg x0 (Shape.idx_ext₂ rfl ?_)
    show ((s.val * 2176 + j.val) * 1024 + k.val) / 1024 = s.val * 2176 + j.val
    omega
  · show x1 _ = _
    refine congrArg x1 (Shape.idx_ext₂ rfl ?_)
    show ((s.val * 2176 + j.val) * 1024 + k.val) % 1024 = k.val
    omega

end Reference

/-! ## The claims -/

theorem frame_kernel : Cert.quiescent_Kernel5 := fun m ρ _ => Cert.Kernel5.Gen.frame m ρ
theorem frame_ideal : Cert.quiescent_Kernel5Ideal := fun m ρ _ => Cert.Kernel5Ideal.Gen.frame m ρ
/-- The reference's run read at the arguments; it declares no semaphore. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's result and the reference's are equal as extended reals, on every memory. -/
theorem algebraic : Cert.algebraic_Kernel5Ideal_Reference5Ideal := fun m g m' g' _ hm =>
  ⟨_, (θ_run Cert.Kernel5Ideal.defs _ _).mono (fun r h c => ⟨(h c).1.trans (kernel_value m c), (h c).2⟩)
      (Cert.Kernel5Ideal.Value.run (F := Ideal) m g),
    (θ_run Cert.Reference5Ideal.defs _ _).mono (fun r h c => by
      obtain ⟨h0, hargs⟩ := h c
      obtain ⟨e0, e1⟩ := hm c
      refine ⟨h0.trans ((Cert.Reference5Ideal.Read.val_main_v7_eq _ _).trans ?_), hargs⟩
      rw [e0, e1]; exact reference_value _ _)
      (Cert.Reference5Ideal.Value.run (F := Ideal) m' g')⟩

end Cert.WgradIn

end
-- ==== Proof.WgradOut.lean ====
/-
  The gradient of the merge's output weight: the kernel's result is the product of the merged branches, transposed, with the incoming
  gradient, summed over all tokens; so is the reference's.
-/
module

public import proofs.«01_k».proof.Proof.Products
public import proofs.«01_k».proof.Defs
public import proofs.«01_k».proof.Proof.Gen.Kernel6.Frame
public import proofs.«01_k».proof.Proof.Gen.Kernel6Ideal.Value
public import proofs.«01_k».proof.Proof.Gen.Reference6Ideal.Read

@[expose] public section

noncomputable section

open Idealize.ShloMosaic hiding ix1 ix2 ix3 eq_ix2 eq_ix3
open Idealize.ShloMosaic.TcCoe Idealize.SL.Sem Idealize.ShloMosaic.ValueIdx
open scoped BigOperators

namespace Cert.WgradOut

open Cert.Basics Cert.Products

/-- The gradient of the weight: the sum over the tokens. -/
def grad (a : (⟨2, ![8192, 1024]⟩ : Shape).Idx → EReal) (b : (⟨2, ![8192, 1024]⟩ : Shape).Idx → EReal) :
    (⟨3, ![1, 1024, 1024]⟩ : Shape).Idx → EReal :=
  fun i => ∑ R : Fin 8192, a (ix2 R (i 1)) * b (ix2 R (i 2))

section Kernel

open Cert.Kernel6Ideal Cert.Kernel6Ideal.Gen Cert.Kernel6Ideal.Value

variable (m : (ℓ : Loc nD τ sig) → Buf (Elt Ideal) ℓ) (c : Dev nD)

/-- The first operand. -/
abbrev a0 : Vec Ideal S8192x1024 .bf16 := m ((c : Thread nD τ).loc main_arg0)
/-- The second operand. -/
abbrev a1 : Vec Ideal S8192x1024 .f32 := m ((c : Thread nD τ).loc main_arg1)
/-- The first operand's block at a point. -/
abbrev b0 (t : Fin cfg0.N) : Vec Ideal S2048x1024 .bf16 := iblk m c 0 t
/-- The second operand's block at a point. -/
abbrev b1 (t : Fin cfg0.N) : Vec Ideal S2048x1024 .f32 := iblk m c 1 t

/-- The point of the block of tokens `q`. -/
abbrev pt (q : Fin 4) : Fin cfg0.N := ⟨q.val, by have := q.isLt; show _ < 4; omega⟩
/-- Token `r` of the block `q`. -/
abbrev tok (q : Fin 4) (r : Fin 2048) : Fin 8192 := ⟨q.val * 2048 + r.val, by have := q.isLt; have := r.isLt; omega⟩

theorem idx_facts : ∀ (q : Fin 4), win0_0.index (pt q) = ![q.val, 0] ∧ win0_1.index (pt q) = ![q.val, 0] :=
  (by decide +kernel)

/-- The first operand's block at a point. -/
theorem blk0 (q : Fin 4) (r : Fin 2048) (j : Fin 1024) :
    b0 m c (pt q) (ix2 r j) = a0 m c (ix2 (tok q r) j) := by
  refine congrArg (a0 m c) (show (win0_0.rect (pt q)).emb (ix2 r j) = _ from Shape.idx_ext₂ ?_ ?_)
  · rw [Pipeline.Window.rect_emb_val win0_0, (idx_facts q).1]; rfl
  · rw [Pipeline.Window.rect_emb_val win0_0, (idx_facts q).1]; show 0 * _ + j.val = j.val; omega

/-- The second operand's block at a point. -/
theorem blk1 (q : Fin 4) (r : Fin 2048) (k : Fin 1024) :
    b1 m c (pt q) (ix2 r k) = a1 m c (ix2 (tok q r) k) := by
  refine congrArg (a1 m c) (show (win0_1.rect (pt q)).emb (ix2 r k) = _ from Shape.idx_ext₂ ?_ ?_)
  · rw [Pipeline.Window.rect_emb_val win0_1, (idx_facts q).2]; rfl
  · rw [Pipeline.Window.rect_emb_val win0_1, (idx_facts q).2]; show 0 * _ + k.val = k.val; omega

/-- What a point adds: the product over its block of tokens. -/
theorem pay_apply (x0 : Vec Ideal S2048x1024 .bf16) (x1 : Vec Ideal S2048x1024 .f32) (acc : Vec Ideal S1x1024x1024 .f32)
    (j : Fin 1024) (k : Fin 1024) :
    k0_pay2 x0 x1 acc (ix3 0 j k) = acc (ix3 0 j k) + ∑ r : Fin 2048, x0 (ix2 r j) * x1 (ix2 r k) := by
  unfold k0_pay2
  refine (shapeCast_ab_1ab_apply _ _ _ _ _).trans ?_
  refine congrArg₂ (fun u v : EReal => u + v) (shapeCast_1ab_ab_apply acc _ j k) ?_
  exact dot_tn (φ₁ := .bf16) (φ₂ := .bf16) _ none x0 x1 j k

/-- The product over the block of tokens of point `t`. -/
def part (t : ℕ) (h : t < cfg0.N) (i : S1x1024x1024.Idx) : EReal :=
  ∑ r : Fin 2048, b0 m c ⟨t, h⟩ (ix2 r (i 1)) * b1 m c ⟨t, h⟩ (ix2 r (i 2))

theorem eq_ix3_one (i : S1x1024x1024.Idx) : ∃ (j : Fin 1024) (k : Fin 1024), i = ix3 0 j k :=
  ⟨i 1, i 2, idx_ext3 (by have h : (i 0).val < 1 := (i 0).isLt; show (i 0).val = 0; omega) rfl rfl⟩

/-- The kernel's result is the gradient. -/
theorem kernel_value : G2 m c = grad (a0 m c) (a1 m c) := by
  funext i
  obtain ⟨j, k, rfl⟩ := eq_ix3_one i
  have hrun : run2Of (ix3 0 j k) = 0 := by
    have := j.isLt; have := k.isLt
    show 1 * (0 / 1 - 0) + 1 * (j.val / 1024 - 0) + 1 * (k.val / 1024 - 0) = 0
    omega
  have hloc : loc2Of (ix3 0 j k) = ix3 0 j k :=
    idx_ext3 (Nat.mod_one _) (Nat.mod_eq_of_lt j.isLt) (Nat.mod_eq_of_lt k.isLt)
  have hb : 4 * run2Of (ix3 0 j k) + 3 < cfg0.N := by rw [hrun]; show _ < 4; omega
  unfold G2
  rw [dif_pos hb, hloc]
  refine fold_sum (Q := 3) (n := 2048) (reset2 m c) (step2 m c) (part m c)
    (fun i R => a0 m c (ix2 R (i 1)) * a1 m c (ix2 R (i 2)))
    (fun t h i => ?_) (fun t h acc i => ?_) _ hb rfl (ix3 0 j k) (fun q h => ?_)
  · obtain ⟨j, k, rfl⟩ := eq_ix3_one i
    exact (pay_apply _ _ _ j k).trans ((congrArg (· + _) ofBits_zero).trans (zero_add _))
  · obtain ⟨j, k, rfl⟩ := eq_ix3_one i
    exact pay_apply _ _ _ j k
  · have e : (⟨4 * run2Of (ix3 0 j k) + q.val, h⟩ : Fin cfg0.N) = pt q := Fin.ext ((congrArg (fun z => 4 * z + q.val) hrun).trans (by show 4 * 0 + q.val = q.val; omega))
    unfold part
    rw [e]
    exact Finset.sum_congr rfl fun r _ => congrArg₂ (· * ·) (blk0 m c q r j) (blk1 m c q r k)

end Kernel

section Reference

open Cert.Reference6Ideal Cert.Reference6Ideal.Read

/-- The reference's result is the gradient. -/
theorem reference_value (x0 : Vec Ideal S8192x1024 .bf16) (x1 : Vec Ideal S8192x1024 .f32) :
    val_main_v5 (F := Ideal) x0 x1 = grad x0 x1 := by
  funext i
  obtain ⟨j, k, rfl⟩ : ∃ (j : Fin 1024) (k : Fin 1024), i = ix3 0 j k :=
    ⟨i 1, i 2, idx_ext3 (by have h : (i 0).val < 1 := (i 0).isLt; show (i 0).val = 0; omega) rfl rfl⟩
  have hj := j.isLt; have hk := k.isLt
  rw [val_main_v5_apply, val_main_v4_apply, val_main_v3_apply]
  refine Finset.sum_congr rfl fun R _ => (mul_comm _ _).trans (congrArg₂ (· * ·) ?_ ?_)
  · show x0 _ = _
    refine congrArg x0 (Shape.idx_ext₂ rfl ?_)
    show ((0 * 1024 + j.val) * 1024 + k.val) / 1024 = j.val
    omega
  · show x1 _ = _
    refine congrArg x1 (Shape.idx_ext₂ rfl ?_)
    show ((0 * 1024 + j.val) * 1024 + k.val) % 1024 = k.val
    omega

end Reference

/-! ## The claims -/

theorem frame_kernel : Cert.quiescent_Kernel6 := fun m ρ _ => Cert.Kernel6.Gen.frame m ρ
theorem frame_ideal : Cert.quiescent_Kernel6Ideal := fun m ρ _ => Cert.Kernel6Ideal.Gen.frame m ρ
/-- The reference's run read at the arguments; it declares no semaphore. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's result and the reference's are equal as extended reals, on every memory. -/
theorem algebraic : Cert.algebraic_Kernel6Ideal_Reference6Ideal := fun m g m' g' _ hm =>
  ⟨_, (θ_run Cert.Kernel6Ideal.defs _ _).mono (fun r h c => ⟨(h c).1.trans (kernel_value m c), (h c).2⟩)
      (Cert.Kernel6Ideal.Value.run (F := Ideal) m g),
    (θ_run Cert.Reference6Ideal.defs _ _).mono (fun r h c => by
      obtain ⟨h0, hargs⟩ := h c
      obtain ⟨e0, e1⟩ := hm c
      refine ⟨h0.trans ((Cert.Reference6Ideal.Read.val_main_v5_eq _ _).trans ?_), hargs⟩
      rw [e0, e1]; exact reference_value _ _)
      (Cert.Reference6Ideal.Value.run (F := Ideal) m' g')⟩

end Cert.WgradOut

end
-- ==== Proof.WgradBranch.lean ====
/-
  The gradient of a branch's output weight, its columns in four blocks: the kernel's result is the product of the branch's output,
  transposed, with the gradient of the branch's projection, summed over all tokens; so is the reference's.
-/
module

public import Idealize.ShloMosaic.Lib.Pipeline.ReadBack
public import proofs.«01_k».proof.Proof.Products
public import proofs.«01_k».proof.Defs
public import proofs.«01_k».proof.Proof.Gen.Kernel7.Frame
public import proofs.«01_k».proof.Proof.Gen.Kernel7Ideal.Value
public import proofs.«01_k».proof.Proof.Gen.Reference7Ideal.Read

@[expose] public section

noncomputable section

open Idealize.ShloMosaic hiding ix1 ix2 ix3 eq_ix2 eq_ix3
open Idealize.ShloMosaic.TcCoe Idealize.SL.Sem Idealize.ShloMosaic.ValueIdx
open scoped BigOperators

namespace Cert.WgradBranch

open Cert.Basics Cert.Products

/-- Column `k` of block `s`. -/
abbrev col (s : Fin 4) (k : Fin 256) : Fin 1024 := ⟨256 * s.val + k.val, by have := s.isLt; have := k.isLt; omega⟩

/-- The gradient: the product of the branch's output, transposed, with the gradient of its projection, column `k` of block `s` being
    column `256 s + k` of the product. -/
def grad (a : Vec Ideal ⟨2, ![8192, 512]⟩ .bf16) (b : Vec Ideal ⟨2, ![8192, 1024]⟩ .bf16) : Vec Ideal ⟨3, ![4, 512, 256]⟩ .f32 :=
  fun i => ∑ R : Fin 8192, a (ix2 R (i 1)) * b (ix2 R (col (i 0) (i 2)))

section Kernel

open Cert.Kernel7Ideal Cert.Kernel7Ideal.Gen Cert.Kernel7Ideal.Value

/-! ## The four stores of a point -/

theorem emb_slab (o : Fin 4) (inb) (j : Fin 512) (k : Fin 256) :
    (Rect.unit (s := S4x512x256) ![o.val, 0, 0] ![1, 512, 256] inb).emb (ix3 0 j k) = ix3 o j k := by
  refine idx_ext3 ?_ ?_ ?_
  · show o.val + 1 * 0 = o.val; omega
  · show 0 + 1 * j.val = j.val; omega
  · show 0 + 1 * k.val = k.val; omega

/-- A store of a slab, read at an index: the slab there, or the earlier stores. -/
theorem canon_slab (G : S4x512x256.Idx → EReal) (o : Fin 4) (inb) (w : Vec Ideal S1x512x256 .f32)
    (L : List (View.Piece (Elt Ideal) S4x512x256 .f32)) (h : ∀ j k, w (ix3 0 j k) = G (ix3 o j k)) (s : Fin 4) (j : Fin 512) (k : Fin 256)
    (hL : s ≠ o → View.canon (Val := Elt Ideal) L (ix3 s j k) = G (ix3 s j k)) :
    View.canon (Val := Elt Ideal) (⟨Rect.unit ![o.val, 0, 0] ![1, 512, 256] inb, w⟩ :: L) (ix3 s j k) = G (ix3 s j k) := by
  by_cases hy : s = o
  · subst hy
    have e := View.canon_cons_emb (Val := Elt Ideal) (e := .f32) (Rect.unit (s := S4x512x256) ![s.val, 0, 0] ![1, 512, 256] inb) w L (ix3 0 j k)
    rw [emb_slab s inb j k] at e
    exact e.trans (h j k)
  · refine (View.canon_cons_of_not_mem (Val := Elt Ideal) (e := .f32) ⟨Rect.unit (s := S4x512x256) ![o.val, 0, 0] ![1, 512, 256] inb, w⟩ L fun hm => hy ?_).trans (hL hy)
    obtain ⟨k, hk, e⟩ := (LoadRect.mem_set _).mp hm 0
    have hk : k < 1 := hk
    have e : s.val = o.val + 1 * k := e
    exact Fin.ext (by omega)

/-- What a point adds, at block `s`: the product over its block of tokens. -/
def term (x0 : Vec Ideal S2048x512 .bf16) (x1 : Vec Ideal S2048x1024 .bf16) (i : S4x512x256.Idx) : EReal :=
  ∑ r : Fin 2048, x0 (ix2 r (i 1)) * x1 (ix2 r (col (i 0) (i 2)))

section Payloads

variable (x0 : Vec Ideal S2048x512 .bf16) (x1 : Vec Ideal S2048x1024 .bf16) (v : Vec Ideal S1x512x256 .f32) (j : Fin 512) (k : Fin 256)

/-- The point's product, at a column of block `s`. -/
theorem product_apply (s : Fin 4) : k0_pay3 x0 x1 (ix2 j (col s k)) = term x0 x1 (ix3 s j k) :=
  dot_tn (φ₁ := .bf16) (φ₂ := .bf16) _ none x0 x1 j (col s k)

/-- The columns of block `s` of a product. -/
theorem columns (s : Fin 4) (off : ℕ) (hoff : off = 256 * s.val) (y : Vec Ideal S512x1024 .f32) (h) :
    extractStridedSlice S512x256 ![0, off] y h (ix2 j k) = y (ix2 j (col s k)) := by
  subst hoff
  refine congrArg y (Shape.idx_ext₂ ?_ rfl)
  show 0 + j.val = j.val
  omega

theorem pay0 : k0_pay4 x0 x1 v (ix3 0 j k) = v (ix3 0 j k) + term x0 x1 (ix3 0 j k) := by
  unfold k0_pay4
  refine (shapeCast_ab_1ab_apply _ _ _ _ _).trans ?_
  exact congrArg₂ (fun u v : EReal => u + v) (shapeCast_1ab_ab_apply v _ j k) ((columns j k 0 0 rfl _ _).trans (product_apply x0 x1 j k 0))

theorem pay1 : k0_pay5 x0 x1 v (ix3 0 j k) = v (ix3 0 j k) + term x0 x1 (ix3 1 j k) := by
  unfold k0_pay5
  refine (shapeCast_ab_1ab_apply _ _ _ _ _).trans ?_
  exact congrArg₂ (fun u v : EReal => u + v) (shapeCast_1ab_ab_apply v _ j k) ((columns j k 1 256 rfl _ _).trans (product_apply x0 x1 j k 1))

theorem pay2 : k0_pay6 x0 x1 v (ix3 0 j k) = v (ix3 0 j k) + term x0 x1 (ix3 2 j k) := by
  unfold k0_pay6
  refine (shapeCast_ab_1ab_apply _ _ _ _ _).trans ?_
  exact congrArg₂ (fun u v : EReal => u + v) (shapeCast_1ab_ab_apply v _ j k) ((columns j k 2 512 rfl _ _).trans (product_apply x0 x1 j k 2))

theorem pay3 : k0_pay1 (k0_pay3 x0 x1) v (ix3 0 j k) = v (ix3 0 j k) + term x0 x1 (ix3 3 j k) := by
  unfold k0_pay1
  refine (shapeCast_ab_1ab_apply _ _ _ _ _).trans ?_
  exact congrArg₂ (fun u v : EReal => u + v) (shapeCast_1ab_ab_apply v _ j k) ((columns j k 3 768 rfl _ _).trans (product_apply x0 x1 j k 3))

end Payloads

/-- The four stores of a point over the block `Z` leave `Z` plus the point's product. -/
theorem slabs (x0 : Vec Ideal S2048x512 .bf16) (x1 : Vec Ideal S2048x1024 .bf16) (Z : Vec Ideal S4x512x256 .f32)
    (L : List (View.Piece (Elt Ideal) S4x512x256 .f32)) (i : S4x512x256.Idx) :
    View.canon (Val := Elt Ideal) (⟨Rect.unit ![3, 0, 0] ![1, 512, 256] inb_S4x512x256_S1x512x256_3_0_0,
          k0_pay1 (k0_pay3 x0 x1) (View.ld Z (Rect.unit ![3, 0, 0] ![1, 512, 256] inb_S4x512x256_S1x512x256_3_0_0))⟩
        :: ⟨Rect.unit ![2, 0, 0] ![1, 512, 256] inb_S4x512x256_S1x512x256_2_0_0,
          k0_pay6 x0 x1 (View.ld Z (Rect.unit ![2, 0, 0] ![1, 512, 256] inb_S4x512x256_S1x512x256_2_0_0))⟩
        :: ⟨Rect.unit ![1, 0, 0] ![1, 512, 256] inb_S4x512x256_S1x512x256_1_0_0,
          k0_pay5 x0 x1 (View.ld Z (Rect.unit ![1, 0, 0] ![1, 512, 256] inb_S4x512x256_S1x512x256_1_0_0))⟩
        :: ⟨Rect.unit ![0, 0, 0] ![1, 512, 256] inb_S4x512x256_S1x512x256_0_0_0,
          k0_pay4 x0 x1 (View.ld Z (Rect.unit ![0, 0, 0] ![1, 512, 256] inb_S4x512x256_S1x512x256_0_0_0))⟩ :: L) i
      = Z i + term x0 x1 i := by
  obtain ⟨s, j, k, rfl⟩ : ∃ (s : Fin 4) (j : Fin 512) (k : Fin 256), i = ix3 s j k := ⟨i 0, i 1, i 2, eq_ix3 i⟩
  have hld : ∀ (o : Fin 4) (inb) (j : Fin 512) (k : Fin 256),
      View.ld Z (Rect.unit (s := S4x512x256) ![o.val, 0, 0] ![1, 512, 256] inb) (ix3 0 j k) = Z (ix3 o j k) :=
    fun o inb j k => congrArg Z (emb_slab o inb j k)
  refine canon_slab (fun i => Z i + term x0 x1 i) 3 _ _ _ (fun j k => (pay3 x0 x1 _ j k).trans (congrArg (fun z : EReal => z + term x0 x1 (ix3 3 j k)) (hld 3 _ j k))) s j k fun c3 => ?_
  refine canon_slab (fun i => Z i + term x0 x1 i) 2 _ _ _ (fun j k => (pay2 x0 x1 _ j k).trans (congrArg (fun z : EReal => z + term x0 x1 (ix3 2 j k)) (hld 2 _ j k))) s j k fun c2 => ?_
  refine canon_slab (fun i => Z i + term x0 x1 i) 1 _ _ _ (fun j k => (pay1 x0 x1 _ j k).trans (congrArg (fun z : EReal => z + term x0 x1 (ix3 1 j k)) (hld 1 _ j k))) s j k fun c1 => ?_
  refine canon_slab (fun i => Z i + term x0 x1 i) 0 _ _ _ (fun j k => (pay0 x0 x1 _ j k).trans (congrArg (fun z : EReal => z + term x0 x1 (ix3 0 j k)) (hld 0 _ j k))) s j k fun c0 => ?_
  revert c0 c1 c2 c3
  fin_cases s <;> simp

variable (m : (ℓ : Loc nD τ sig) → Buf (Elt Ideal) ℓ) (c : Dev nD)

/-- The first operand. -/
abbrev a0 : Vec Ideal S8192x512 .bf16 := m ((c : Thread nD τ).loc main_arg0)
/-- The second operand. -/
abbrev a1 : Vec Ideal S8192x1024 .bf16 := m ((c : Thread nD τ).loc main_arg1)
/-- The first operand's block at a point. -/
abbrev b0 (t : Fin cfg0.N) : Vec Ideal S2048x512 .bf16 := iblk m c 0 t
/-- The second operand's block at a point. -/
abbrev b1 (t : Fin cfg0.N) : Vec Ideal S2048x1024 .bf16 := iblk m c 1 t

/-- The point of the block of tokens `q`. -/
abbrev pt (q : Fin 4) : Fin cfg0.N := ⟨q.val, by have := q.isLt; show _ < 4; omega⟩
/-- Token `r` of the block `q`. -/
abbrev tok (q : Fin 4) (r : Fin 2048) : Fin 8192 := ⟨q.val * 2048 + r.val, by have := q.isLt; have := r.isLt; omega⟩

theorem idx_facts : ∀ (q : Fin 4), win0_0.index (pt q) = ![q.val, 0] ∧ win0_1.index (pt q) = ![q.val, 0] :=
  (by decide +kernel)

theorem idx_fact2 : ∀ (t : Fin cfg0.N), win0_2.index t = ![0, 0, 0] := (by decide +kernel)

/-- The first operand's block at a point. -/
theorem blk0 (q : Fin 4) (r : Fin 2048) (j : Fin 512) :
    b0 m c (pt q) (ix2 r j) = a0 m c (ix2 (tok q r) j) := by
  refine congrArg (a0 m c) (show (win0_0.rect (pt q)).emb (ix2 r j) = _ from Shape.idx_ext₂ ?_ ?_)
  · rw [Pipeline.Window.rect_emb_val win0_0, (idx_facts q).1]; rfl
  · rw [Pipeline.Window.rect_emb_val win0_0, (idx_facts q).1]; show 0 * _ + j.val = j.val; omega

/-- The second operand's block at a point. -/
theorem blk1 (q : Fin 4) (r : Fin 2048) (k : Fin 1024) :
    b1 m c (pt q) (ix2 r k) = a1 m c (ix2 (tok q r) k) := by
  refine congrArg (a1 m c) (show (win0_1.rect (pt q)).emb (ix2 r k) = _ from Shape.idx_ext₂ ?_ ?_)
  · rw [Pipeline.Window.rect_emb_val win0_1, (idx_facts q).2]; rfl
  · rw [Pipeline.Window.rect_emb_val win0_1, (idx_facts q).2]; show 0 * _ + k.val = k.val; omega

/-- The result's block is the whole result. -/
theorem emb2 (t : Fin cfg0.N) (s : Fin 4) (j : Fin 512) (k : Fin 256) : ((cfg0.win 2).blk t).view.emb (ix3 s j k) = ix3 s j k := by
  show (win0_2.rect t).emb (ix3 s j k) = _
  refine idx_ext3 ?_ ?_ ?_
  · rw [Pipeline.Window.rect_emb_val win0_2, idx_fact2 t]; show 0 * _ + s.val = s.val; omega
  · rw [Pipeline.Window.rect_emb_val win0_2, idx_fact2 t]; show 0 * _ + j.val = j.val; omega
  · rw [Pipeline.Window.rect_emb_val win0_2, idx_fact2 t]; show 0 * _ + k.val = k.val; omega

theorem zeros_apply (i : S4x512x256.Idx) : k0_pay2 (F := Ideal) i = (0 : EReal) := ofBits_zero

/-- The first point starts from zero. -/
theorem out_A (t : Fin cfg0.N) (h0 : t.val % 4 = 0) (i : S4x512x256.Idx) :
    outsAt0 m c t.val t.isLt i = (0 : EReal) + term (b0 m c t) (b1 m c t) i := by
  rw [outsAt0_A m c t h0]; frame_out
  simp (disch := decide) only [View.readCov_skip, View.readCov_fill]
  refine (slabs (b0 m c t) (b1 m c t) (k0_pay2 (F := Ideal)) _ i).trans ?_
  rw [zeros_apply]

/-- A later point adds to what the point before left. -/
theorem out_B (t : Fin cfg0.N) (h0 : ¬t.val % 4 = 0) (i : S4x512x256.Idx) :
    outsAt0 m c t.val t.isLt i
      = (outsAt0 m c (t.val - 1) (Nat.lt_of_le_of_lt (Nat.sub_le _ _) t.isLt) i : EReal) + term (b0 m c t) (b1 m c t) i := by
  refine (congrFun (outsAt0_B m c t h0) i).trans ?_
  frame_out
  exact slabs (b0 m c t) (b1 m c t) _ [] i

/-- After the last point: the product over all tokens. -/
theorem out_last (t : Fin cfg0.N) (h3 : t.val % 4 = 3) (i : S4x512x256.Idx) : outsAt0 m c t.val t.isLt i = grad (a0 m c) (a1 m c) i := by
  have e := Pipeline.eq_sum_of_reset_step_of_mod (M := EReal) (fun n h => outsAt0 m c n h i) 4 0
    (fun n => if h : n < cfg0.N then term (b0 m c ⟨n, h⟩) (b1 m c ⟨n, h⟩) i else 0)
    (fun t h0 => by rw [dif_pos t.isLt]; exact out_A m c t h0 i)
    (fun t h0 => by rw [dif_pos t.isLt]; exact out_B m c t h0 i) t h3
  refine e.trans ((zero_add _).trans ?_)
  rw [Finset.sum_range]
  unfold grad
  rw [← Fin.sum_mul_add_fin 4 2048 (fun R => a0 m c (ix2 R (i 1)) * a1 m c (ix2 R (col (i 0) (i 2)))) (by norm_num : 8192 = 4 * 2048)]
  refine Finset.sum_congr rfl fun q _ => ?_
  have hq : 4 * (t.val / 4) + q.val = q.val := by have ht : t.val < 4 := t.isLt; omega
  simp only [hq]
  rw [dif_pos (pt q).isLt]
  exact Finset.sum_congr rfl fun r _ => congrArg₂ (fun u v : EReal => u * v) (blk0 m c q r _) (blk1 m c q r _)

/-- The result is what the last point leaves. -/
theorem final (G : Vec Ideal S4x512x256 .f32) (hG : ∀ (t : Fin cfg0.N), t.val % 4 = 3 → ∀ i, outsAt0 m c t.val t.isLt i = G i) :
    (dats m 0 c).arrAt 2 cfg0.N = G := by
  refine (dats m 0 c).arrAt_eq_of_cover 2 G (fun t ht => ?_) fun i => ?_
  · have h3 : t.val % 4 = 3 := (flush0_2 _).mp ht
    rw [flushed2]
    funext y
    obtain ⟨s, j, k, rfl⟩ : ∃ (s : Fin 4) (j : Fin 512) (k : Fin 256), y = ix3 s j k := ⟨y 0, y 1, y 2, eq_ix3 y⟩
    exact (hG t h3 (ix3 s j k)).trans (congrArg G (emb2 t s j k)).symm
  · obtain ⟨s, j, k, rfl⟩ : ∃ (s : Fin 4) (j : Fin 512) (k : Fin 256), i = ix3 s j k := ⟨i 0, i 1, i 2, eq_ix3 i⟩
    have h : ((cfg0.win 2).blk (pt 3)).view.emb (ix3 s j k) = ix3 s j k := emb2 (pt 3) s j k
    exact ⟨pt 3, (flush0_2 _).mpr (by show 3 % 4 = 3; omega), h ▸ ((cfg0.win 2).blk (pt 3)).view.emb_mem_set (ix3 s j k)⟩

/-- The kernel's result is the gradient. -/
theorem kernel_value : (dats m 0 c).arrAt 2 cfg0.N = grad (a0 m c) (a1 m c) := final m c _ fun t h3 i => out_last m c t h3 i

end Kernel

section Reference

open Cert.Reference7Ideal Cert.Reference7Ideal.Read

/-- The reference's result is the gradient. -/
theorem reference_value (x0 : Vec Ideal S8192x512 .bf16) (x1 : Vec Ideal S8192x1024 .bf16) :
    val_main_v7 (F := Ideal) x0 x1 = grad x0 x1 := by
  funext i
  obtain ⟨s, j, k, rfl⟩ : ∃ (s : Fin 4) (j : Fin 512) (k : Fin 256), i = ix3 s j k := ⟨i 0, i 1, i 2, eq_ix3 i⟩
  have hs := s.isLt; have hj := j.isLt; have hk := k.isLt
  rw [val_main_v7_apply, val_main_v6_apply, val_main_v5_apply, val_main_v4_apply]
  refine Finset.sum_congr rfl fun R _ => (mul_comm _ _).trans (congrArg₂ (fun u v : EReal => u * v) ?_ ?_)
  · show x0 _ = _
    refine congrArg x0 (Shape.idx_ext₂ rfl ?_)
    show ((j.val * 4 + s.val) * 256 + k.val) / 1024 = j.val
    omega
  · show x1 _ = _
    refine congrArg x1 (Shape.idx_ext₂ rfl ?_)
    show ((j.val * 4 + s.val) * 256 + k.val) % 1024 = 256 * s.val + k.val
    omega

end Reference

/-! ## The claims -/

theorem frame_kernel : Cert.quiescent_Kernel7 := fun m ρ _ => Cert.Kernel7.Gen.frame m ρ
theorem frame_ideal : Cert.quiescent_Kernel7Ideal := fun m ρ _ => Cert.Kernel7Ideal.Gen.frame m ρ
/-- The reference's run read at the arguments; it declares no semaphore. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Kernel and reference compute the same gradient. -/
theorem algebraic : Cert.algebraic_Kernel7Ideal_Reference7Ideal := fun m g m' g' _ hm =>
  ⟨_, (θ_run Cert.Kernel7Ideal.defs _ _).mono (fun r h c => ⟨(h c).1.trans (kernel_value m c), (h c).2⟩)
      (Cert.Kernel7Ideal.Value.run_blocks (F := Ideal) m g),
    (θ_run Cert.Reference7Ideal.defs _ _).mono (fun r h c => by
      obtain ⟨h0, hargs⟩ := h c
      obtain ⟨e0, e1⟩ := hm c
      refine ⟨h0.trans ((Cert.Reference7Ideal.Read.val_main_v7_eq _ _).trans ?_), hargs⟩
      rw [e0, e1]
      exact reference_value _ _) (Cert.Reference7Ideal.Value.run (F := Ideal) m' g')⟩

end Cert.WgradBranch

end
-- ==== Proof.Heads.lean ====
/-
  The order in which the kernels hold mixer B's heads, and the rotation they apply to them.

  The eight query heads lie in pairs: head `p` beside head `4 + p`. The combined input weight's columns are permuted to match.
  The rotation of a head's two halves by an angle is written over a block of 128 lanes, two heads side by side, from three
  tables that the host tiles out of the angles' cosines and sines.
-/
module

public import proofs.«01_k».proof.Proof.Basics

@[expose] public section

noncomputable section

open Idealize.ShloMosaic Idealize.ShloMosaic.ValueIdx
open scoped BigOperators

namespace Cert.Heads

/-! ## The order of the heads -/

/-- The place in head order of place `k` in pair order. -/
def nat (k : Fin 512) : Fin 512 := ⟨k.val / 64 % 2 * 256 + k.val / 128 * 64 + k.val % 64, by omega⟩
/-- The place in pair order of place `k` in head order. -/
def pos (k : Fin 512) : Fin 512 := ⟨k.val / 64 % 4 * 128 + k.val / 256 * 64 + k.val % 64, by omega⟩

theorem nat_pos : ∀ k, nat (pos k) = k := by decide +kernel
theorem pos_nat : ∀ k, pos (nat k) = k := by decide +kernel

/-- The two orders are a permutation of the 512 places. -/
def order : Fin 512 ≃ Fin 512 := ⟨nat, pos, pos_nat, nat_pos⟩

/-- A sum over the places in head order, taken in pair order. -/
theorem sum_pairs (f g : Fin 512 → EReal) (h : ∀ k, f (nat k) = g k) : ∑ k, f k = ∑ k, g k := by
  rw [← Equiv.sum_comp order f]
  exact Finset.sum_congr rfl fun k _ => h k

/-- The column of the combined input weight that the kernels hold at row `k`: queries of mixer B in pair order, the rest as
    they are. -/
def col (k : Fin 4352) : Fin 4352 :=
  if h : 1536 ≤ k.val ∧ k.val < 2048 then ⟨1536 + (nat ⟨k.val - 1536, by omega⟩).val, by omega⟩ else k
/-- The other way. -/
def row (k : Fin 4352) : Fin 4352 :=
  if h : 1536 ≤ k.val ∧ k.val < 2048 then ⟨1536 + (pos ⟨k.val - 1536, by omega⟩).val, by omega⟩ else k

theorem col_of_in {k : Fin 4352} (j : Fin 512) (h : k.val = 1536 + j.val) : col k = ⟨1536 + (nat j).val, by omega⟩ := by
  have hj := j.isLt
  unfold col
  rw [dif_pos (by omega)]
  have e : (⟨k.val - 1536, by omega⟩ : Fin 512) = j := by apply Fin.ext; dsimp only; omega
  exact Fin.ext (congrArg (fun x : Fin 512 => 1536 + (nat x).val) e)
theorem row_of_in {k : Fin 4352} (j : Fin 512) (h : k.val = 1536 + j.val) : row k = ⟨1536 + (pos j).val, by omega⟩ := by
  have hj := j.isLt
  unfold row
  rw [dif_pos (by omega)]
  have e : (⟨k.val - 1536, by omega⟩ : Fin 512) = j := by apply Fin.ext; dsimp only; omega
  exact Fin.ext (congrArg (fun x : Fin 512 => 1536 + (pos x).val) e)
theorem col_of_out {k : Fin 4352} (h : ¬(1536 ≤ k.val ∧ k.val < 2048)) : col k = k := by unfold col; rw [dif_neg h]
theorem row_of_out {k : Fin 4352} (h : ¬(1536 ≤ k.val ∧ k.val < 2048)) : row k = k := by unfold row; rw [dif_neg h]

theorem row_col (k : Fin 4352) : row (col k) = k := by
  by_cases h : 1536 ≤ k.val ∧ k.val < 2048
  · rw [col_of_in (k := k) ⟨k.val - 1536, by omega⟩ (by show k.val = 1536 + (k.val - 1536); omega), row_of_in (k := ⟨1536 + (nat ⟨k.val - 1536, by omega⟩).val, by omega⟩) (nat ⟨k.val - 1536, by omega⟩) rfl]
    exact Fin.ext (by show 1536 + (pos (nat _)).val = k.val; rw [pos_nat]; show 1536 + (k.val - 1536) = k.val; omega)
  · rw [col_of_out h, row_of_out h]
theorem col_row (k : Fin 4352) : col (row k) = k := by
  by_cases h : 1536 ≤ k.val ∧ k.val < 2048
  · rw [row_of_in (k := k) ⟨k.val - 1536, by omega⟩ (by show k.val = 1536 + (k.val - 1536); omega), col_of_in (k := ⟨1536 + (pos ⟨k.val - 1536, by omega⟩).val, by omega⟩) (pos ⟨k.val - 1536, by omega⟩) rfl]
    exact Fin.ext (by show 1536 + (nat (pos _)).val = k.val; rw [nat_pos]; show 1536 + (k.val - 1536) = k.val; omega)
  · rw [row_of_out h, col_of_out h]

/-- The two orders of the 4352 columns. -/
def columns : Fin 4352 ≃ Fin 4352 := ⟨col, row, row_col, col_row⟩

/-- A sum over the columns, taken in the kernels' order. -/
theorem sum_columns (f g : Fin 4352 → EReal) (h : ∀ k, f (col k) = g k) : ∑ k, f k = ∑ k, g k := by
  rw [← Equiv.sum_comp columns f]
  exact Finset.sum_congr rfl fun k _ => h k

/-- 512 rows put in pair order: place `k` holds what stood at `nat k`. -/
theorem pair_rows (w : (⟨2, ![512, 1024]⟩ : Shape).Idx → EReal) (h₁ : (⟨2, ![512, 1024]⟩ : Shape).ShapeCasts ⟨4, ![2, 4, 64, 1024]⟩)
    (ht : (⟨4, ![2, 4, 64, 1024]⟩ : Shape).Transposes [1, 0, 2, 3] ⟨4, ![4, 2, 64, 1024]⟩)
    (h₂ : (⟨4, ![4, 2, 64, 1024]⟩ : Shape).ShapeCasts ⟨2, ![512, 1024]⟩) (k : Fin 512) (c : Fin 1024) :
    shapeCast ⟨2, ![512, 1024]⟩ (transpose ⟨4, ![4, 2, 64, 1024]⟩ [1, 0, 2, 3] (shapeCast ⟨4, ![2, 4, 64, 1024]⟩ w h₁) ht) h₂ (ix2 k c)
      = w (ix2 (nat k) c) := by
  have hk := k.isLt
  have hc := c.isLt
  refine (shapeCast_apply _ h₂ (ix2 k c) (ix4 ⟨k.val / 128, by omega⟩ ⟨k.val / 64 % 2, by omega⟩ ⟨k.val % 64, by omega⟩ c) (by
    rewrite [Shape.rowMajor_val_two, Shape.rowMajor_val_four]
    show ((k.val / 128 * 2 + k.val / 64 % 2) * 64 + k.val % 64) * 1024 + c.val = k.val * 1024 + c.val
    omega)).trans ?_
  refine (transpose_apply [1, 0, 2, 3] _ ht _ (ix4 ⟨k.val / 64 % 2, by omega⟩ ⟨k.val / 128, by omega⟩ ⟨k.val % 64, by omega⟩ c) (fun b => match b with
    | ⟨0, _⟩ => rfl
    | ⟨1, _⟩ => rfl
    | ⟨2, _⟩ => rfl
    | ⟨3, _⟩ => rfl)).trans ?_
  exact shapeCast_apply w h₁ _ (ix2 (nat k) c) (by
    rewrite [Shape.rowMajor_val_two, Shape.rowMajor_val_four]
    show (k.val / 64 % 2 * 256 + k.val / 128 * 64 + k.val % 64) * 1024 + c.val = ((k.val / 64 % 2 * 4 + k.val / 128) * 64 + k.val % 64) * 1024 + c.val
    omega)

end Cert.Heads

end
-- ==== Proof.MergeFwd.lean ====
/-
  The gated merge of the two mixers, index by index.

  The forward lines are `merged = sigmoid(ga) * (ya @ wa) + sigmoid(gb) * (yb @ wb)` and `h + merged @ wout`. This module states
  both as sums over one coordinate (`Cert.MergeFwdSpec`) and shows that the kernel's two output arrays and the reference's two
  results hold them. The kernel takes the heads of `yb` in pair order, and permutes the rows of `wb` to match.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Basics
public import proofs.«01_k».proof.Proof.Heads
public import Idealize.ShloMosaic.Lib.Quiescent

@[expose] public section

noncomputable section

open Idealize.ShloMosaic Idealize.ShloMosaic.TcCoe Idealize.SL.Sem Idealize.ShloMosaic.ValueIdx
open Idealize.ShloMosaic.Pipeline (Dat)
open scoped BigOperators

/-! ## The merge as sums -/

namespace Cert.MergeFwdSpec

variable {M : ℕ}

/-- A branch's projection: `y @ w`. -/
def proj (y : Fin M → Fin 512 → EReal) (w : Fin 512 → Fin 1024 → EReal) (r : Fin M) (c : Fin 1024) : EReal :=
  ∑ k, y r k * w k c

/-- The merged row: each branch's projection times the sigmoid of its gate; branch a's gates are the first 1024 columns. -/
def merged (ya yb : Fin M → Fin 512 → EReal) (g : Fin M → Fin 2048 → EReal) (wa wb : Fin 512 → Fin 1024 → EReal)
    (r : Fin M) (c : Fin 1024) : EReal :=
  Ideal.logistic (g r ⟨c.val, by omega⟩) * proj ya wa r c + Ideal.logistic (g r ⟨1024 + c.val, by omega⟩) * proj yb wb r c

/-- The residual row plus the merged row's product with the output weight. -/
def hout (ya yb : Fin M → Fin 512 → EReal) (g : Fin M → Fin 2048 → EReal) (wa wb : Fin 512 → Fin 1024 → EReal)
    (wout : Fin 1024 → Fin 1024 → EReal) (h : Fin M → Fin 1024 → EReal) (r : Fin M) (c : Fin 1024) : EReal :=
  h r c + ∑ k, merged ya yb g wa wb r k * wout k c

/-- An array of rank two read by its two coordinates. -/
abbrev cur {R N : ℕ} (x : (⟨2, ![R, N]⟩ : Shape).Idx → EReal) (r : Fin R) (c : Fin N) : EReal := x (ix2 r c)

/-- The rows of a weight in pair order. -/
abbrev paired (w : Fin 512 → Fin 1024 → EReal) (k : Fin 512) : Fin 1024 → EReal := w (Cert.Heads.nat k)

end Cert.MergeFwdSpec

/-! ## The kernel -/

namespace Cert.Kernel9Ideal.MergeFwd

open Cert.Kernel9Ideal Cert.Kernel9Ideal.Gen Cert.MergeFwdSpec Cert.Basics

section Pay

variable (x0 x1 : Vec Ideal S512x512 .bf16) (x2 : Vec Ideal S512x2048 .f32) (x3 x4 : Vec Ideal S512x1024 .bf16)
  (x5 : Vec Ideal S1024x1024 .bf16) (x6 : Vec Ideal S512x1024 .f32)

/-- The merged block. -/
theorem pay1_apply (r : Fin 512) (c : Fin 1024) :
    k0_pay1 (F := Ideal) x0 x3 x1 x4 (View.ld x2 r0_2) (View.ld x2 r0_3) (ix2 r c)
      = merged (cur x0) (cur x1) (cur x2) (cur x3) (cur x4) r c := by
  unfold k0_pay1
  rw [shapeCast_self, shapeCast_self]
  have ea := dot_plain (M := 512) (K := 512) (N := 1024) (φ₁ := .bf16) (φ₂ := .bf16) none x0 x3 r c
  have eb := dot_plain (M := 512) (K := 512) (N := 1024) (φ₁ := .bf16) (φ₂ := .bf16) none x1 x4 r c
  show Ideal.logistic (View.ld x2 r0_2 (ix2 r c)) * (FloatOps.matmul (F := Ideal) (DotDims.plain 512 512 1024) none x0 x3 _ (ix2 r c))
    + Ideal.logistic (View.ld x2 r0_3 (ix2 r c)) * (FloatOps.matmul (F := Ideal) (DotDims.plain 512 512 1024) none x1 x4 _ (ix2 r c)) = _
  rw [ea, eb, show View.ld x2 r0_2 (ix2 r c) = cur x2 r ⟨c.val, by omega⟩ from
    congrArg x2 (Shape.idx_ext₂ (by show 0 + 1 * r.val = r.val; omega) (by show 0 + 1 * c.val = c.val; omega)),
    show View.ld x2 r0_3 (ix2 r c) = cur x2 r ⟨1024 + c.val, by omega⟩ from
    congrArg x2 (Shape.idx_ext₂ (by show 0 + 1 * r.val = r.val; omega) (by show 1024 + 1 * c.val = 1024 + c.val; omega))]
  rfl

/-- The block of the residual stream. -/
theorem pay2_apply (r : Fin 512) (c : Fin 1024) :
    k0_pay2 (F := Ideal) x0 x3 x1 x4 (View.ld x2 r0_2) (View.ld x2 r0_3) x6 x5 (ix2 r c)
      = hout (cur x0) (cur x1) (cur x2) (cur x3) (cur x4) (cur x5) (cur x6) r c := by
  unfold k0_pay2
  rw [shapeCast_self]
  refine congrArg (fun v : EReal => x6 (ix2 r c) + v) ((dot_plain (M := 512) (K := 1024) (N := 1024) (φ₁ := .bf16) (φ₂ := .bf16) none _ x5 r c).trans ?_)
  exact Finset.sum_congr rfl fun k _ => congrArg (fun v : EReal => v * x5 (ix2 k c)) (pay1_apply x0 x1 x2 x3 x4 r k)

theorem out8_apply (r : Fin 512) (c : Fin 1024) :
    out0_8 (F := Ideal) x0 x1 x2 x3 x4 x5 x6 (ix2 r c) = merged (cur x0) (cur x1) (cur x2) (cur x3) (cur x4) r c := by
  unfold out0_8
  rw [View.canon_unit_zero hz, View.ld_unit_zero (S := S512x512) hz _ x0, View.ld_unit_zero (S := S512x512) hz _ x1,
    View.ld_unit_zero (S := S512x1024) hz _ x3, View.ld_unit_zero (S := S512x1024) hz _ x4, pay1_apply]

theorem out7_apply (r : Fin 512) (c : Fin 1024) :
    out0_7 (F := Ideal) x0 x1 x2 x3 x4 x5 x6 (ix2 r c) = hout (cur x0) (cur x1) (cur x2) (cur x3) (cur x4) (cur x5) (cur x6) r c := by
  unfold out0_7
  rw [View.canon_unit_zero hz, View.ld_unit_zero (S := S512x512) hz _ x0, View.ld_unit_zero (S := S512x512) hz _ x1,
    View.ld_unit_zero (S := S512x1024) hz _ x3, View.ld_unit_zero (S := S512x1024) hz _ x4,
    View.ld_unit_zero (S := S512x1024) hz _ x6, View.ld_unit_zero (S := S1024x1024) hz _ x5, pay2_apply]

end Pay

variable (m : (ℓ : Loc nD τ sig) → Buf (Elt Ideal) ℓ) (ρ : Dev nD → PrngReg)

/-! ### The windows' blocks at an index -/

theorem idx_facts : ∀ t : Fin cfg0.N,
    (win0_0.index t = ![t.val, 0] ∧ win0_1.index t = ![t.val, 0] ∧ win0_2.index t = ![t.val, 0] ∧ win0_6.index t = ![t.val, 0]
      ∧ win0_7.index t = ![t.val, 0] ∧ win0_8.index t = ![t.val, 0])
    ∧ (win0_3.index t = ![0, 0] ∧ win0_4.index t = ![0, 0] ∧ win0_5.index t = ![0, 0]) :=
  (by decide +kernel : ∀ t : Fin grid0.N, _)

/-- Row `r` of point `t`'s blocks is row `512 t + r` of the arrays. -/
abbrev row (t : Fin cfg0.N) (r : Fin 512) : Fin 8192 := ⟨t.val * 512 + r.val, by have h : t.val < 16 := t.isLt; omega⟩

/-! Where an element of a point's block lies in its array: `512 t` rows below, or, for the weights, at the same place. -/

theorem emb0 (t : Fin cfg0.N) (r : Fin 512) (k : Fin 512) : (win0_0.rect t).emb (ix2 r k) = ix2 (row t r) k := by
  refine Shape.idx_ext₂ ?_ ?_
  · rw [Pipeline.Window.rect_emb_val win0_0, (idx_facts t).1.1]; rfl
  · rw [Pipeline.Window.rect_emb_val win0_0, (idx_facts t).1.1]; show 0 * _ + k.val = k.val; omega
theorem emb1 (t : Fin cfg0.N) (r : Fin 512) (k : Fin 512) : (win0_1.rect t).emb (ix2 r k) = ix2 (row t r) k := by
  refine Shape.idx_ext₂ ?_ ?_
  · rw [Pipeline.Window.rect_emb_val win0_1, (idx_facts t).1.2.1]; rfl
  · rw [Pipeline.Window.rect_emb_val win0_1, (idx_facts t).1.2.1]; show 0 * _ + k.val = k.val; omega
theorem emb2 (t : Fin cfg0.N) (r : Fin 512) (k : Fin 2048) : (win0_2.rect t).emb (ix2 r k) = ix2 (row t r) k := by
  refine Shape.idx_ext₂ ?_ ?_
  · rw [Pipeline.Window.rect_emb_val win0_2, (idx_facts t).1.2.2.1]; rfl
  · rw [Pipeline.Window.rect_emb_val win0_2, (idx_facts t).1.2.2.1]; show 0 * _ + k.val = k.val; omega
theorem emb3 (t : Fin cfg0.N) (r : Fin 512) (k : Fin 1024) : (win0_3.rect t).emb (ix2 r k) = ix2 r k := by
  refine Shape.idx_ext₂ ?_ ?_
  · rw [Pipeline.Window.rect_emb_val win0_3, (idx_facts t).2.1]; show 0 * _ + r.val = r.val; omega
  · rw [Pipeline.Window.rect_emb_val win0_3, (idx_facts t).2.1]; show 0 * _ + k.val = k.val; omega
theorem emb4 (t : Fin cfg0.N) (r : Fin 512) (k : Fin 1024) : (win0_4.rect t).emb (ix2 r k) = ix2 r k := by
  refine Shape.idx_ext₂ ?_ ?_
  · rw [Pipeline.Window.rect_emb_val win0_4, (idx_facts t).2.2.1]; show 0 * _ + r.val = r.val; omega
  · rw [Pipeline.Window.rect_emb_val win0_4, (idx_facts t).2.2.1]; show 0 * _ + k.val = k.val; omega
theorem emb5 (t : Fin cfg0.N) (r : Fin 1024) (k : Fin 1024) : (win0_5.rect t).emb (ix2 r k) = ix2 r k := by
  refine Shape.idx_ext₂ ?_ ?_
  · rw [Pipeline.Window.rect_emb_val win0_5, (idx_facts t).2.2.2]; show 0 * _ + r.val = r.val; omega
  · rw [Pipeline.Window.rect_emb_val win0_5, (idx_facts t).2.2.2]; show 0 * _ + k.val = k.val; omega
theorem emb6 (t : Fin cfg0.N) (r : Fin 512) (k : Fin 1024) : (win0_6.rect t).emb (ix2 r k) = ix2 (row t r) k := by
  refine Shape.idx_ext₂ ?_ ?_
  · rw [Pipeline.Window.rect_emb_val win0_6, (idx_facts t).1.2.2.2.1]; rfl
  · rw [Pipeline.Window.rect_emb_val win0_6, (idx_facts t).1.2.2.2.1]; show 0 * _ + k.val = k.val; omega
theorem emb7 (t : Fin cfg0.N) (r : Fin 512) (k : Fin 1024) : (win0_7.rect t).emb (ix2 r k) = ix2 (row t r) k := by
  refine Shape.idx_ext₂ ?_ ?_
  · rw [Pipeline.Window.rect_emb_val win0_7, (idx_facts t).1.2.2.2.2.1]; rfl
  · rw [Pipeline.Window.rect_emb_val win0_7, (idx_facts t).1.2.2.2.2.1]; show 0 * _ + k.val = k.val; omega
theorem emb8 (t : Fin cfg0.N) (r : Fin 512) (k : Fin 1024) : (win0_8.rect t).emb (ix2 r k) = ix2 (row t r) k := by
  refine Shape.idx_ext₂ ?_ ?_
  · rw [Pipeline.Window.rect_emb_val win0_8, (idx_facts t).1.2.2.2.2.2]; rfl
  · rw [Pipeline.Window.rect_emb_val win0_8, (idx_facts t).1.2.2.2.2.2]; show 0 * _ + k.val = k.val; omega

/-- The host's narrowed copy of a weight is the weight; branch b's has its rows in pair order. -/
theorem V_v0 (c : Dev nD) : V m c main_v0 = (m ((c : Thread nD τ).loc main_arg3) : S512x1024.Idx → EReal) := by
  unfold V hostOps0; after_results; rfl
theorem V_v4 (c : Dev nD) (k : Fin 512) (d : Fin 1024) :
    V m c main_v4 (ix2 k d) = (m ((c : Thread nD τ).loc main_arg4) : S512x1024.Idx → EReal) (ix2 (Cert.Heads.nat k) d) := by
  unfold V hostOps0; after_results
  exact Cert.Heads.pair_rows _ _ _ _ k d
theorem V_v5 (c : Dev nD) : V m c main_v5 = (m ((c : Thread nD τ).loc main_arg5) : S1024x1024.Idx → EReal) := by
  unfold V hostOps0; after_results; rfl

/-! ### The arguments by their coordinates, and a point's blocks as rows of them -/

abbrev ya (c : Dev nD) : Fin 8192 → Fin 512 → EReal := cur (m ((c : Thread nD τ).loc main_arg0) : S8192x512.Idx → EReal)
abbrev yb (c : Dev nD) : Fin 8192 → Fin 512 → EReal := cur (m ((c : Thread nD τ).loc main_arg1) : S8192x512.Idx → EReal)
abbrev gates (c : Dev nD) : Fin 8192 → Fin 2048 → EReal := cur (m ((c : Thread nD τ).loc main_arg2) : S8192x2048.Idx → EReal)
abbrev wa (c : Dev nD) : Fin 512 → Fin 1024 → EReal := cur (m ((c : Thread nD τ).loc main_arg3) : S512x1024.Idx → EReal)
abbrev wb (c : Dev nD) : Fin 512 → Fin 1024 → EReal := cur (m ((c : Thread nD τ).loc main_arg4) : S512x1024.Idx → EReal)
abbrev wout (c : Dev nD) : Fin 1024 → Fin 1024 → EReal := cur (m ((c : Thread nD τ).loc main_arg5) : S1024x1024.Idx → EReal)
abbrev h (c : Dev nD) : Fin 8192 → Fin 1024 → EReal := cur (m ((c : Thread nD τ).loc main_arg6) : S8192x1024.Idx → EReal)

theorem blk0 (c : Dev nD) (t : Fin cfg0.N) : cur (iblk m c 0 t : Vec Ideal S512x512 .bf16) = fun r => ya m c (row t r) := by
  funext r k
  exact (congrArg (V m c main_arg0) (emb0 t r k)).trans (congrFun (V_main_arg0 m c) _)
theorem blk1 (c : Dev nD) (t : Fin cfg0.N) : cur (iblk m c 1 t : Vec Ideal S512x512 .bf16) = fun r => yb m c (row t r) := by
  funext r k
  exact (congrArg (V m c main_arg1) (emb1 t r k)).trans (congrFun (V_main_arg1 m c) _)
theorem blk2 (c : Dev nD) (t : Fin cfg0.N) : cur (iblk m c 2 t : Vec Ideal S512x2048 .f32) = fun r => gates m c (row t r) := by
  funext r k
  exact (congrArg (V m c main_arg2) (emb2 t r k)).trans (congrFun (V_main_arg2 m c) _)
theorem blk3 (c : Dev nD) (t : Fin cfg0.N) : cur (iblk m c 3 t : Vec Ideal S512x1024 .bf16) = wa m c := by
  funext r k
  exact (congrArg (V m c main_v0) (emb3 t r k)).trans (congrFun (V_v0 m c) _)
theorem blk4 (c : Dev nD) (t : Fin cfg0.N) : cur (iblk m c 4 t : Vec Ideal S512x1024 .bf16) = paired (wb m c) := by
  funext r k
  exact (congrArg (V m c main_v4) (emb4 t r k)).trans (V_v4 m c r k)
theorem blk5 (c : Dev nD) (t : Fin cfg0.N) : cur (iblk m c 5 t : Vec Ideal S1024x1024 .bf16) = wout m c := by
  funext r k
  exact (congrArg (V m c main_v5) (emb5 t r k)).trans (congrFun (V_v5 m c) _)
theorem blk6 (c : Dev nD) (t : Fin cfg0.N) : cur (iblk m c 6 t : Vec Ideal S512x1024 .f32) = fun r => h m c (row t r) := by
  funext r k
  exact (congrArg (V m c main_arg6) (emb6 t r k)).trans (congrFun (V_main_arg6 m c) _)

/-! ### The output arrays after the run -/

/-- The first result: the residual stream after the merge. -/
abbrev G7 (c : Dev nD) : S8192x1024.Idx → EReal := fun i =>
  hout (ya m c) (yb m c) (gates m c) (wa m c) (paired (wb m c)) (wout m c) (h m c) (i 0) (i 1)
/-- The second result: the merged rows. -/
abbrev G8 (c : Dev nD) : S8192x1024.Idx → EReal := fun i =>
  merged (ya m c) (yb m c) (gates m c) (wa m c) (paired (wb m c)) (i 0) (i 1)

theorem flushed7 (c : Dev nD) (t : Fin cfg0.N) :
    (dats m 0 c).flushed 7 t = ((cfg0.win 7).blk t).view.read (Elt Ideal) (G7 m c) := by
  rw [Value.flushed7]
  funext y
  obtain ⟨r, k, rfl⟩ : ∃ (r : Fin 512) (k : Fin 1024), y = ix2 r k := ⟨y 0, y 1, eq_ix2 y⟩
  refine (out7_apply _ _ _ _ _ _ _ r k).trans ?_
  rw [blk0, blk1, blk2, blk3, blk4, blk5, blk6]
  exact (congrArg (G7 m c) (emb7 t r k)).symm

theorem flushed8 (c : Dev nD) (t : Fin cfg0.N) :
    (dats m 0 c).flushed 8 t = ((cfg0.win 8).blk t).view.read (Elt Ideal) (G8 m c) := by
  rw [Value.flushed8]
  funext y
  obtain ⟨r, k, rfl⟩ : ∃ (r : Fin 512) (k : Fin 1024), y = ix2 r k := ⟨y 0, y 1, eq_ix2 y⟩
  refine (out8_apply _ _ _ _ _ _ _ r k).trans ?_
  rw [blk0, blk1, blk2, blk3, blk4]
  exact (congrArg (G8 m c) (emb8 t r k)).symm

/-- The point whose blocks hold row `a`. -/
abbrev pt (a : Fin 8192) : Fin cfg0.N := ⟨a.val / 512, by have := a.isLt; show a.val / 512 < 16; omega⟩
/-- Row `a`'s place in them. -/
abbrev sub (a : Fin 8192) : Fin 512 := ⟨a.val % 512, Nat.mod_lt _ (by omega)⟩
theorem row_pt (a : Fin 8192) : row (pt a) (sub a) = a := Fin.ext (by show a.val / 512 * 512 + a.val % 512 = a.val; omega)

theorem final7 (c : Dev nD) : (dats m 0 c).arrAt 7 cfg0.N = G7 m c :=
  (dats m 0 c).arrAt_eq_of_cover 7 (G7 m c) (fun t _ => flushed7 m c t) fun i => by
    obtain ⟨a, b, rfl⟩ : ∃ (a : Fin 8192) (b : Fin 1024), i = ix2 a b := ⟨i 0, i 1, eq_ix2 i⟩
    have h : ((cfg0.win 7).blk (pt a)).view.emb (ix2 (sub a) b) = ix2 a b := (emb7 (pt a) (sub a) b).trans (by rw [row_pt])
    exact ⟨pt a, flush0_7 _, h ▸ ((cfg0.win 7).blk (pt a)).view.emb_mem_set (ix2 (sub a) b)⟩

theorem final8 (c : Dev nD) : (dats m 0 c).arrAt 8 cfg0.N = G8 m c :=
  (dats m 0 c).arrAt_eq_of_cover 8 (G8 m c) (fun t _ => flushed8 m c t) fun i => by
    obtain ⟨a, b, rfl⟩ : ∃ (a : Fin 8192) (b : Fin 1024), i = ix2 a b := ⟨i 0, i 1, eq_ix2 i⟩
    have h : ((cfg0.win 8).blk (pt a)).view.emb (ix2 (sub a) b) = ix2 a b := (emb8 (pt a) (sub a) b).trans (by rw [row_pt])
    exact ⟨pt a, flush0_8 _, h ▸ ((cfg0.win 8).blk (pt a)).view.emb_mem_set (ix2 (sub a) b)⟩

/-- The kernel's run: its two results are `G7` and `G8`, and the arguments hold what they held. -/
theorem run_eq : θ_run (defs (F := Ideal)) (onTc (τ := τ) (main (F := Ideal))) ⟨m, fun _ => 0, ρ⟩ fun r => ∀ c : Dev nD,
    r.2.mem ((c.tc : Thread nD τ).loc main_v6_0) = G7 m c
    ∧ r.2.mem ((c.tc : Thread nD τ).loc main_v6_1) = G8 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun r h c => by
    obtain ⟨h0, h1, hargs⟩ := h c
    exact ⟨h0.trans (final7 m c), h1.trans (final8 m c), hargs⟩)
    (Value.run_blocks (F := Ideal) m ρ)

end Cert.Kernel9Ideal.MergeFwd

/-! ## The reference -/

namespace Cert.Reference9Ideal.MergeFwd

open Cert.Reference9Ideal Cert.Reference9Ideal.Read Cert.MergeFwdSpec Cert.Basics

variable (x0 x1 : Vec Ideal S8192x512 .bf16) (x2 : Vec Ideal S8192x2048 .f32) (x3 x4 : Vec Ideal S512x1024 .f32)
  (x5 : Vec Ideal S1024x1024 .f32) (x6 : Vec Ideal S8192x1024 .f32)

theorem sigmoidA (r : Fin 8192) (c : Fin 1024) :
    val_main_v10 (F := Ideal) x2 (ix2 r c) = Ideal.logistic (cur x2 r ⟨c.val, by omega⟩) := by
  have e : val_main_v3 (F := Ideal) x2 (ix2 r c) = cur x2 r ⟨c.val, by omega⟩ := by
    rw [val_main_v3_apply]
    exact congrArg x2 (Shape.idx_ext₂ (by simp [idx_main_v3]) (by simp [idx_main_v3]))
  show Ideal.div (Ideal.ofBits .f32 0x3F800000#32) (Ideal.ofBits .f32 0x3F800000#32 + Ideal.exp (-(val_main_v3 (F := Ideal) x2 (ix2 r c)))) = _
  rw [e, ofBits_one]
  rfl

theorem sigmoidB (r : Fin 8192) (c : Fin 1024) :
    val_main_v19 (F := Ideal) x2 (ix2 r c) = Ideal.logistic (cur x2 r ⟨1024 + c.val, by omega⟩) := by
  have e : val_main_v4 (F := Ideal) x2 (ix2 r c) = cur x2 r ⟨1024 + c.val, by omega⟩ := by
    rw [val_main_v4_apply]
    exact congrArg x2 (Shape.idx_ext₂ (by simp [idx_main_v4]) (by simp [idx_main_v4]))
  show Ideal.div (Ideal.ofBits .f32 0x3F800000#32) (Ideal.ofBits .f32 0x3F800000#32 + Ideal.exp (-(val_main_v4 (F := Ideal) x2 (ix2 r c)))) = _
  rw [e, ofBits_one]
  rfl

/-- `yb` with its heads in their own order. -/
theorem heads (r : Fin 8192) (k : Fin 512) : val_main_v20 (F := Ideal) x1 (ix2 r k) = x1 (ix2 r (Cert.Heads.pos k)) := by
  show val_main_v2 (F := Ideal) x1 (ix2 r k) = _
  rw [val_main_v2_apply, val_main_v1_apply, val_main_v0_apply]
  have hk := k.isLt
  refine congrArg x1 (Shape.idx_ext₂ ?_ ?_)
  · show ((((r.val * 512 + k.val) / 512 * 4 + (r.val * 512 + k.val) / 64 % 4) * 2 + (r.val * 512 + k.val) / 256 % 2) * 64 + (r.val * 512 + k.val) % 64) / 512 = r.val
    omega
  · show ((((r.val * 512 + k.val) / 512 * 4 + (r.val * 512 + k.val) / 64 % 4) * 2 + (r.val * 512 + k.val) / 256 % 2) * 64 + (r.val * 512 + k.val) % 64) % 512
      = k.val / 64 % 4 * 128 + k.val / 256 * 64 + k.val % 64
    have e1 : (r.val * 512 + k.val) / 512 = r.val := by omega
    have e2 : (r.val * 512 + k.val) / 64 % 4 = k.val / 64 % 4 := by omega
    have e3 : (r.val * 512 + k.val) / 256 % 2 = k.val / 256 := by omega
    have e4 : (r.val * 512 + k.val) % 64 = k.val % 64 := by omega
    rw [e1, e2, e3, e4]
    omega

theorem v23_eq (r : Fin 8192) (c : Fin 1024) :
    val_main_v23 (F := Ideal) x0 x1 x2 x3 x4 (ix2 r c) = merged (cur x0) (cur x1) (cur x2) (cur x3) (paired (cur x4)) r c := by
  have ea : val_main_v12 (F := Ideal) x0 x3 (ix2 r c) = proj (cur x0) (cur x3) r c := by
    rw [val_main_v12_apply]
    exact Finset.sum_congr rfl fun k _ => congrArg₂ (· * ·) (congrArg x0 (Shape.idx_ext₂ rfl rfl)) (congrArg x3 (Shape.idx_ext₂ rfl rfl))
  have eb : val_main_v21 (F := Ideal) x1 x4 (ix2 r c) = proj (cur x1) (paired (cur x4)) r c := by
    rw [val_main_v21_apply]
    refine Cert.Heads.sum_pairs _ _ fun k => congrArg₂ (· * ·) ?_ (congrArg x4 (Shape.idx_ext₂ rfl rfl))
    refine (congrArg (val_main_v20 (F := Ideal) x1) (show lidx_main_v21 (ix2 r c) (Cert.Heads.nat k) = ix2 r (Cert.Heads.nat k) from
      Shape.idx_ext₂ rfl rfl)).trans ((heads x1 r _).trans ?_)
    rw [Cert.Heads.pos_nat]
  show val_main_v10 (F := Ideal) x2 (ix2 r c) * val_main_v12 (F := Ideal) x0 x3 (ix2 r c)
    + val_main_v19 (F := Ideal) x2 (ix2 r c) * val_main_v21 (F := Ideal) x1 x4 (ix2 r c) = _
  rw [ea, eb, sigmoidA, sigmoidB]
  rfl

theorem v25_eq (r : Fin 8192) (c : Fin 1024) :
    val_main_v25 (F := Ideal) x0 x1 x2 x3 x4 x5 x6 (ix2 r c)
      = hout (cur x0) (cur x1) (cur x2) (cur x3) (paired (cur x4)) (cur x5) (cur x6) r c := by
  refine congrArg (fun v : EReal => x6 (ix2 r c) + v) ?_
  rw [val_main_v24_apply]
  exact Finset.sum_congr rfl fun k _ => congrArg₂ (· * ·)
    ((congrArg (val_main_v23 (F := Ideal) x0 x1 x2 x3 x4) (show lidx_main_v24 (ix2 r c) k = ix2 r k from Shape.idx_ext₂ rfl rfl)).trans
      (v23_eq x0 x1 x2 x3 x4 r k)) (congrArg x5 (Shape.idx_ext₂ rfl rfl))

end Cert.Reference9Ideal.MergeFwd

/-! ## The claims -/

namespace Cert.MergeFwdClaims

open Cert.Kernel9Ideal.MergeFwd

theorem frame_kernel : Cert.quiescent_Kernel9 := fun m ρ _ => Cert.Kernel9.Gen.frame m ρ
theorem frame_ideal : Cert.quiescent_Kernel9Ideal := fun m ρ _ => Cert.Kernel9Ideal.Gen.frame m ρ
/-- The reference's run read at the arguments; it declares no semaphore. -/
theorem frame_reference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The kernel's two results and the reference's are equal as extended reals, on every memory. -/
theorem algebraic : Cert.algebraic_Kernel9Ideal_Reference9Ideal := fun m g m' g' _ hm =>
  ⟨fun c => G7 m c, fun c => G8 m c, run_eq m g,
    (θ_run Cert.Reference9Ideal.defs _ _).mono (fun r h c => by
      obtain ⟨h0, h1, hargs⟩ := h c
      obtain ⟨e0, e1, e2, e3, e4, e5, e6⟩ := hm c
      refine ⟨h0.trans ((Cert.Reference9Ideal.Read.val_main_v25_eq _ _ _ _ _ _ _).trans (funext fun i => ?_)),
        h1.trans ((Cert.Reference9Ideal.Read.val_main_v26_eq _ _ _ _ _).trans (funext fun i => ?_)), hargs⟩
      · rw [e0, e1, e2, e3, e4, e5, e6, ValueIdx.eq_ix2 i]
        exact Cert.Reference9Ideal.MergeFwd.v25_eq _ _ _ _ _ _ _ (i 0) (i 1)
      · rw [e0, e1, e2, e3, e4, ValueIdx.eq_ix2 i]
        exact Cert.Reference9Ideal.MergeFwd.v23_eq _ _ _ _ _ (i 0) (i 1))
      (Cert.Reference9Ideal.Value.run (F := Ideal) m' g')⟩

end Cert.MergeFwdClaims

end
-- ==== Proof.Turn.lean ====
/-
  The rotation of a head's two halves, as the kernels write it over a block of 128 lanes.

  Lane `d < 32` of a head becomes `y d * cos d - y (d + 32) * sin d`, lane `d + 32` becomes `y (d + 32) * cos d + y d * sin d`.
  The kernels hold two heads side by side and take each lane's partner from the block shifted by 96 and by 32 lanes; a table
  holds zero where a shift brings the wrong partner.
-/
module

public import proofs.«01_k».proof.Proof.Basics
public import proofs.«01_k».proof.Proof.Heads

@[expose] public section

noncomputable section

open Idealize.ShloMosaic Idealize.ShloMosaic.ValueIdx
open scoped BigOperators

namespace Cert.Turn

/-- A head turned by the angles of cosine `c` and sine `s`. -/
def turn (y : Fin 64 → EReal) (c s : Fin 32 → EReal) (d : Fin 64) : EReal :=
  if h : d.val < 32 then y d * c ⟨d.val, h⟩ - y ⟨d.val + 32, by omega⟩ * s ⟨d.val, h⟩
  else y d * c ⟨d.val - 32, by omega⟩ + y ⟨d.val - 32, by omega⟩ * s ⟨d.val - 32, by omega⟩

/-- A head turned the other way. -/
def turnBack (y : Fin 64 → EReal) (c s : Fin 32 → EReal) (d : Fin 64) : EReal :=
  if h : d.val < 32 then y d * c ⟨d.val, h⟩ + y ⟨d.val + 32, by omega⟩ * s ⟨d.val, h⟩
  else y d * c ⟨d.val - 32, by omega⟩ - y ⟨d.val - 32, by omega⟩ * s ⟨d.val - 32, by omega⟩

/-- The three tables of the kernels hold what the rotation needs of the cosines `c` and the sines `s`. -/
structure Tables {M : ℕ} (C A B : Fin M → Fin 128 → EReal) (c s : Fin M → Fin 32 → EReal) : Prop where
  cos : ∀ r j, C r j = c r ⟨j.val % 32, Nat.mod_lt _ (by omega)⟩
  fst : ∀ r j, j.val % 64 < 32 → A r j = -(s r ⟨j.val % 32, Nat.mod_lt _ (by omega)⟩)
  fst_zero : ∀ r j, ¬j.val % 64 < 32 → A r j = 0
  snd_zero : ∀ r j, j.val % 64 < 32 → B r j = 0
  snd : ∀ r j, ¬j.val % 64 < 32 → B r j = s r ⟨j.val % 32, Nat.mod_lt _ (by omega)⟩

/-- The same of some of the rows. -/
theorem Tables.rows {M K : ℕ} {C A B : Fin M → Fin 128 → EReal} {c s : Fin M → Fin 32 → EReal} (h : Tables C A B c s) (f : Fin K → Fin M) :
    Tables (fun r => C (f r)) (fun r => A (f r)) (fun r => B (f r)) (fun r => c (f r)) (fun r => s (f r)) :=
  ⟨fun r => h.cos (f r), fun r => h.fst (f r), fun r => h.fst_zero (f r), fun r => h.snd_zero (f r), fun r => h.snd (f r)⟩

section Block

variable {M : ℕ} (x : (⟨2, ![M, 128]⟩ : Shape).Idx → EReal) (h : (⟨2, ![M, 128]⟩ : Shape).Rotates 1 none)

theorem shift96 (r : Fin M) (j : Fin 128) :
    dynamicRotate 1 96#32 none x h (ix2 r j) = x (ix2 r ⟨(j.val + 32) % 128, Nat.mod_lt _ (by omega)⟩) :=
  congrArg x (Shape.idx_ext₂ rfl (by show (j.val + 128 - 96 % 128) % 128 = (j.val + 32) % 128; omega))
theorem shift32 (r : Fin M) (j : Fin 128) :
    dynamicRotate 1 32#32 none x h (ix2 r j) = x (ix2 r ⟨(j.val + 96) % 128, Nat.mod_lt _ (by omega)⟩) :=
  congrArg x (Shape.idx_ext₂ rfl (by show (j.val + 128 - 32 % 128) % 128 = (j.val + 96) % 128; omega))

variable {C A B : Fin M → Fin 128 → EReal} {c s : Fin M → Fin 32 → EReal} (tb : Tables C A B c s) (r : Fin M) (j : Fin 128)

/-- Row `r` of the head that lane `j` belongs to. -/
abbrev head (j : Fin 128) (d : Fin 64) : EReal := x (ix2 r ⟨j.val / 64 * 64 + d.val, by omega⟩)

include tb

/-- The kernels' expression turns both heads of the block. -/
theorem turn_block {one : EReal} (ho : one = 1) :
    x (ix2 r j) * C r j + one * (dynamicRotate 1 96#32 none x h (ix2 r j) * A r j + dynamicRotate 1 32#32 none x h (ix2 r j) * B r j)
      = turn (head x r j) (c r) (s r) ⟨j.val % 64, Nat.mod_lt _ (by omega)⟩ := by
  have hj := j.isLt
  rw [shift96, shift32, tb.cos, ho, one_mul]
  unfold turn
  have e0 : x (ix2 r j) = head x r j ⟨j.val % 64, Nat.mod_lt _ (by omega)⟩ :=
    congrArg x (Shape.idx_ext₂ rfl (by show j.val = j.val / 64 * 64 + j.val % 64; omega))
  by_cases hd : j.val % 64 < 32
  · have ej : (⟨j.val % 32, Nat.mod_lt _ (by omega)⟩ : Fin 32) = ⟨j.val % 64, hd⟩ := Fin.ext (by show j.val % 32 = j.val % 64; omega)
    have e1 : x (ix2 r ⟨(j.val + 32) % 128, Nat.mod_lt _ (by omega)⟩) = head x r j ⟨j.val % 64 + 32, by omega⟩ :=
      congrArg x (Shape.idx_ext₂ rfl (by show (j.val + 32) % 128 = j.val / 64 * 64 + (j.val % 64 + 32); omega))
    rw [dif_pos hd, tb.fst r j hd, tb.snd_zero r j hd, mul_zero, add_zero, mul_neg, ← sub_eq_add_neg, e1, ej, e0]
  · have ej : (⟨j.val % 32, Nat.mod_lt _ (by omega)⟩ : Fin 32) = ⟨j.val % 64 - 32, by omega⟩ :=
      Fin.ext (by show j.val % 32 = j.val % 64 - 32; omega)
    have e1 : x (ix2 r ⟨(j.val + 96) % 128, Nat.mod_lt _ (by omega)⟩) = head x r j ⟨j.val % 64 - 32, by omega⟩ :=
      congrArg x (Shape.idx_ext₂ rfl (by show (j.val + 96) % 128 = j.val / 64 * 64 + (j.val % 64 - 32); omega))
    rw [dif_neg hd, tb.fst_zero r j hd, tb.snd r j hd, mul_zero, zero_add, e1, ej, e0]

/-- With the sign turned round it turns them back. -/
theorem turnBack_block {minus : EReal} (ho : minus = -1) :
    x (ix2 r j) * C r j + minus * (dynamicRotate 1 96#32 none x h (ix2 r j) * A r j + dynamicRotate 1 32#32 none x h (ix2 r j) * B r j)
      = turnBack (head x r j) (c r) (s r) ⟨j.val % 64, Nat.mod_lt _ (by omega)⟩ := by
  have hj := j.isLt
  rw [shift96, shift32, tb.cos, ho, neg_mul, one_mul]
  unfold turnBack
  have e0 : x (ix2 r j) = head x r j ⟨j.val % 64, Nat.mod_lt _ (by omega)⟩ :=
    congrArg x (Shape.idx_ext₂ rfl (by show j.val = j.val / 64 * 64 + j.val % 64; omega))
  by_cases hd : j.val % 64 < 32
  · have ej : (⟨j.val % 32, Nat.mod_lt _ (by omega)⟩ : Fin 32) = ⟨j.val % 64, hd⟩ := Fin.ext (by show j.val % 32 = j.val % 64; omega)
    have e1 : x (ix2 r ⟨(j.val + 32) % 128, Nat.mod_lt _ (by omega)⟩) = head x r j ⟨j.val % 64 + 32, by omega⟩ :=
      congrArg x (Shape.idx_ext₂ rfl (by show (j.val + 32) % 128 = j.val / 64 * 64 + (j.val % 64 + 32); omega))
    rw [dif_pos hd, tb.fst r j hd, tb.snd_zero r j hd, mul_zero, add_zero, mul_neg, neg_neg, e1, ej, e0]
  · have ej : (⟨j.val % 32, Nat.mod_lt _ (by omega)⟩ : Fin 32) = ⟨j.val % 64 - 32, by omega⟩ :=
      Fin.ext (by show j.val % 32 = j.val % 64 - 32; omega)
    have e1 : x (ix2 r ⟨(j.val + 96) % 128, Nat.mod_lt _ (by omega)⟩) = head x r j ⟨j.val % 64 - 32, by omega⟩ :=
      congrArg x (Shape.idx_ext₂ rfl (by show (j.val + 96) % 128 = j.val / 64 * 64 + (j.val % 64 - 32); omega))
    rw [dif_neg hd, tb.fst_zero r j hd, tb.snd r j hd, mul_zero, zero_add, ← sub_eq_add_neg, e1, ej, e0]

end Block

/-! ### The host's tables -/

section Host

variable {M : ℕ}

/-- Two halves of 32 columns side by side, at a column of the first. -/
theorem halves_fst (a b : (⟨2, ![M, 32]⟩ : Shape).Idx → EReal) (h : Shape.Concatenates [⟨2, ![M, 32]⟩, ⟨2, ![M, 32]⟩] ⟨2, ![M, 64]⟩ 1)
    (r : Fin M) (d : Fin 64) (e : Fin 32) (hd : d.val = e.val) :
    concatenate ⟨2, ![M, 64]⟩ 1 [⟨⟨2, ![M, 32]⟩, a⟩, ⟨⟨2, ![M, 32]⟩, b⟩] h (ix2 r d) = a (ix2 r e) :=
  concatenate_pair_apply_left 1 a b h _ rfl (ix2 r e) (fun ax => match ax with
    | ⟨0, _⟩ => rfl
    | ⟨1, _⟩ => hd.symm)
/-- The same at a column of the second. -/
theorem halves_snd (a b : (⟨2, ![M, 32]⟩ : Shape).Idx → EReal) (h : Shape.Concatenates [⟨2, ![M, 32]⟩, ⟨2, ![M, 32]⟩] ⟨2, ![M, 64]⟩ 1)
    (r : Fin M) (d : Fin 64) (e : Fin 32) (hd : d.val = e.val + 32) :
    concatenate ⟨2, ![M, 64]⟩ 1 [⟨⟨2, ![M, 32]⟩, a⟩, ⟨⟨2, ![M, 32]⟩, b⟩] h (ix2 r d) = b (ix2 r e) :=
  concatenate_pair_apply_right 1 a b h _ rfl rfl (ix2 r e) (fun ax hne => match ax with
    | ⟨0, _⟩ => rfl
    | ⟨1, _⟩ => absurd rfl hne) hd.symm

/-- 64 columns twice over. -/
theorem twice (y : (⟨2, ![M, 64]⟩ : Shape).Idx → EReal) (h₁ : (⟨2, ![M, 64]⟩ : Shape).ShapeCasts ⟨4, ![1, M, 1, 64]⟩)
    (hb : (⟨4, ![1, M, 1, 64]⟩ : Shape).BroadcastsInDim ⟨4, ![1, M, 2, 64]⟩ (![0, 1, 2, 3] : Fin 4 → Fin 4))
    (h₂ : (⟨4, ![1, M, 2, 64]⟩ : Shape).ShapeCasts ⟨2, ![M, 128]⟩) (r : Fin M) (j : Fin 128) :
    shapeCast ⟨2, ![M, 128]⟩ (broadcastInDim ⟨4, ![1, M, 2, 64]⟩ (![0, 1, 2, 3] : Fin 4 → Fin 4) hb (shapeCast ⟨4, ![1, M, 1, 64]⟩ y h₁)) h₂ (ix2 r j)
      = y (ix2 r ⟨j.val % 64, Nat.mod_lt _ (by omega)⟩) := by
  have hj := j.isLt
  refine (shapeCast_apply _ h₂ (ix2 r j) (ix4 (0 : Fin 1) r ⟨j.val / 64, by omega⟩ ⟨j.val % 64, Nat.mod_lt _ (by omega)⟩) (by
    rewrite [Shape.rowMajor_val_two, Shape.rowMajor_val_four]
    show ((0 * M + r.val) * 2 + j.val / 64) * 64 + j.val % 64 = r.val * 128 + j.val
    omega)).trans ?_
  refine (broadcastInDim_apply _ hb _ _ (ix4 (0 : Fin 1) r (0 : Fin 1) ⟨j.val % 64, Nat.mod_lt _ (by omega)⟩) (fun ax => ?_)).trans ?_
  · match ax with
    | ⟨0, _⟩ => rfl
    | ⟨1, _⟩ =>
      show r.val = if M = 1 then 0 else r.val
      split
      · have := r.isLt; omega
      · rfl
    | ⟨2, _⟩ => rfl
    | ⟨3, _⟩ => rfl
  · exact shapeCast_apply y h₁ _ (ix2 r ⟨j.val % 64, Nat.mod_lt _ (by omega)⟩) (by
      rewrite [Shape.rowMajor_val_two, Shape.rowMajor_val_four]
      show r.val * 64 + j.val % 64 = ((0 * M + r.val) * 1 + 0) * 64 + j.val % 64
      omega)

/-- Tables that hold, twice over, the cosines twice, the negated sines beside zeros and zeros beside the sines. -/
theorem tables_of {C A B : Fin M → Fin 128 → EReal} {c s n z : (⟨2, ![M, 32]⟩ : Shape).Idx → EReal}
    (h : Shape.Concatenates [⟨2, ![M, 32]⟩, ⟨2, ![M, 32]⟩] ⟨2, ![M, 64]⟩ 1)
    (eC : ∀ r j, C r j = concatenate ⟨2, ![M, 64]⟩ 1 [⟨⟨2, ![M, 32]⟩, c⟩, ⟨⟨2, ![M, 32]⟩, c⟩] h (ix2 r ⟨j.val % 64, Nat.mod_lt _ (by omega)⟩))
    (eA : ∀ r j, A r j = concatenate ⟨2, ![M, 64]⟩ 1 [⟨⟨2, ![M, 32]⟩, n⟩, ⟨⟨2, ![M, 32]⟩, z⟩] h (ix2 r ⟨j.val % 64, Nat.mod_lt _ (by omega)⟩))
    (eB : ∀ r j, B r j = concatenate ⟨2, ![M, 64]⟩ 1 [⟨⟨2, ![M, 32]⟩, z⟩, ⟨⟨2, ![M, 32]⟩, s⟩] h (ix2 r ⟨j.val % 64, Nat.mod_lt _ (by omega)⟩))
    (hn : ∀ i, n i = -(s i)) (hz : ∀ i, z i = 0) : Tables C A B (fun r d => c (ix2 r d)) (fun r d => s (ix2 r d)) where
  cos r j := by
    rw [eC]
    by_cases hd : j.val % 64 < 32
    · exact halves_fst c c h r _ _ (by show j.val % 64 = j.val % 32; omega)
    · exact halves_snd c c h r _ _ (by show j.val % 64 = j.val % 32 + 32; omega)
  fst r j hd := by rw [eA]; exact (halves_fst n z h r _ _ (by show j.val % 64 = j.val % 32; omega)).trans (hn _)
  fst_zero r j hd := by rw [eA]; exact (halves_snd n z h r _ ⟨j.val % 32, by omega⟩ (by show j.val % 64 = j.val % 32 + 32; omega)).trans (hz _)
  snd_zero r j hd := by rw [eB]; exact (halves_fst z s h r _ ⟨j.val % 32, by omega⟩ (by show j.val % 64 = j.val % 32; omega)).trans (hz _)
  snd r j hd := by rw [eB]; exact halves_snd z s h r _ _ (by show j.val % 64 = j.val % 32 + 32; omega)

end Host

/-! ### The combined input weight -/

/-- Mixer A's rows, mixer B's queries in pair order and the rest, one above the other. -/
theorem stacked (x : (⟨2, ![1536, 1024]⟩ : Shape).Idx → EReal) (y : (⟨2, ![512, 1024]⟩ : Shape).Idx → EReal)
    (z : (⟨2, ![2304, 1024]⟩ : Shape).Idx → EReal)
    (h : Shape.Concatenates [⟨2, ![1536, 1024]⟩, ⟨2, ![512, 1024]⟩, ⟨2, ![2304, 1024]⟩] ⟨2, ![4352, 1024]⟩ 0) (w : Fin 4352 → Fin 1024 → EReal)
    (hx : ∀ (k : Fin 1536) c, x (ix2 k c) = w ⟨k.val, by omega⟩ c)
    (hy : ∀ (k : Fin 512) c, y (ix2 k c) = w ⟨1536 + (Cert.Heads.nat k).val, by omega⟩ c)
    (hz : ∀ (k : Fin 2304) c, z (ix2 k c) = w ⟨2048 + k.val, by omega⟩ c) (k : Fin 4352) (c : Fin 1024) :
    concatenate ⟨2, ![4352, 1024]⟩ 0 [⟨⟨2, ![1536, 1024]⟩, x⟩, ⟨⟨2, ![512, 1024]⟩, y⟩, ⟨⟨2, ![2304, 1024]⟩, z⟩] h (ix2 k c)
      = w (Cert.Heads.col k) c := by
  have hk := k.isLt
  by_cases h1 : k.val < 1536
  · rw [Cert.Heads.col_of_out (by omega)]
    exact (concatenate_apply_piece 0 [⟨⟨2, ![1536, 1024]⟩, x⟩, ⟨⟨2, ![512, 1024]⟩, y⟩, ⟨⟨2, ![2304, 1024]⟩, z⟩] h (ix2 k c) 0 (by simp) _ x rfl rfl 0 rfl
      (ix2 ⟨k.val, h1⟩ c) (fun b hb => match b with
        | ⟨0, _⟩ => absurd rfl hb
        | ⟨1, _⟩ => rfl) (by show 0 + k.val = k.val; omega)).trans (hx _ _)
  · by_cases h2 : k.val < 2048
    · rw [Cert.Heads.col_of_in (k := k) ⟨k.val - 1536, by omega⟩ (by show k.val = 1536 + (k.val - 1536); omega)]
      exact (concatenate_apply_piece 0 [⟨⟨2, ![1536, 1024]⟩, x⟩, ⟨⟨2, ![512, 1024]⟩, y⟩, ⟨⟨2, ![2304, 1024]⟩, z⟩] h (ix2 k c) 1 (by simp) _ y rfl rfl 1536 rfl
        (ix2 ⟨k.val - 1536, by omega⟩ c) (fun b hb => match b with
          | ⟨0, _⟩ => absurd rfl hb
          | ⟨1, _⟩ => rfl) (by show 1536 + (k.val - 1536) = k.val; omega)).trans (hy _ _)
    · rw [Cert.Heads.col_of_out (by omega)]
      refine (concatenate_apply_piece 0 [⟨⟨2, ![1536, 1024]⟩, x⟩, ⟨⟨2, ![512, 1024]⟩, y⟩, ⟨⟨2, ![2304, 1024]⟩, z⟩] h (ix2 k c) 2 (by simp) _ z rfl rfl 2048 rfl
        (ix2 ⟨k.val - 2048, by omega⟩ c) (fun b hb => match b with
          | ⟨0, _⟩ => absurd rfl hb
          | ⟨1, _⟩ => rfl) (by show 2048 + (k.val - 2048) = k.val; omega)).trans ((hz _ _).trans ?_)
      exact congrArg (fun i => w i c) (Fin.ext (by show 2048 + (k.val - 2048) = k.val; omega))

/-- Rows of the transposed weight. -/
theorem rows_of {K : ℕ} (w : (⟨2, ![1024, 4352]⟩ : Shape).Idx → EReal) (o : ℕ) (ht : (⟨2, ![1024, 4352]⟩ : Shape).Transposes [1, 0] ⟨2, ![4352, 1024]⟩)
    (hs : (⟨2, ![4352, 1024]⟩ : Shape).Slices ![o, 0] ⟨2, ![K, 1024]⟩) (k : Fin K) (c : Fin 1024) (j : Fin 4352) (hj : j.val = o + k.val) :
    extractStridedSlice ⟨2, ![K, 1024]⟩ ![o, 0] (transpose ⟨2, ![4352, 1024]⟩ [1, 0] w ht) hs (ix2 k c) = w (ix2 c j) :=
  (extractStridedSlice_apply ![o, 0] _ hs (ix2 k c) (ix2 j c) (fun a => match a with
    | ⟨0, _⟩ => hj
    | ⟨1, _⟩ => by show c.val = 0 + c.val; omega)).trans
  (transpose_apply [1, 0] w ht (ix2 j c) (ix2 c j) (fun b => match b with
    | ⟨0, _⟩ => rfl
    | ⟨1, _⟩ => rfl))

/-- Two halves of every head set side by side, at a lane of the first. -/
theorem heads_fst {M H : ℕ} (a b : (⟨3, ![M, H, 32]⟩ : Shape).Idx → EReal)
    (h : Shape.Concatenates [⟨3, ![M, H, 32]⟩, ⟨3, ![M, H, 32]⟩] ⟨3, ![M, H, 64]⟩ 2) (r : Fin M) (q : Fin H) (d : Fin 64) (e : Fin 32) (hd : d.val = e.val) :
    concatenate ⟨3, ![M, H, 64]⟩ 2 [⟨⟨3, ![M, H, 32]⟩, a⟩, ⟨⟨3, ![M, H, 32]⟩, b⟩] h (ix3 r q d) = a (ix3 r q e) :=
  concatenate_pair_apply_left 2 a b h _ rfl (ix3 r q e) (fun ax => match ax with
    | ⟨0, _⟩ => rfl
    | ⟨1, _⟩ => rfl
    | ⟨2, _⟩ => hd.symm)
/-- The same at a lane of the second. -/
theorem heads_snd {M H : ℕ} (a b : (⟨3, ![M, H, 32]⟩ : Shape).Idx → EReal)
    (h : Shape.Concatenates [⟨3, ![M, H, 32]⟩, ⟨3, ![M, H, 32]⟩] ⟨3, ![M, H, 64]⟩ 2) (r : Fin M) (q : Fin H) (d : Fin 64) (e : Fin 32)
    (hd : d.val = e.val + 32) :
    concatenate ⟨3, ![M, H, 64]⟩ 2 [⟨⟨3, ![M, H, 32]⟩, a⟩, ⟨⟨3, ![M, H, 32]⟩, b⟩] h (ix3 r q d) = b (ix3 r q e) :=
  concatenate_pair_apply_right 2 a b h _ rfl rfl (ix3 r q e) (fun ax hne => match ax with
    | ⟨0, _⟩ => rfl
    | ⟨1, _⟩ => rfl
    | ⟨2, _⟩ => absurd rfl hne) hd.symm

/-- Two arrays of 128 columns side by side, at a column of the first. -/
theorem beside_fst {M : ℕ} (a b : (⟨2, ![M, 128]⟩ : Shape).Idx → EReal)
    (h : Shape.Concatenates [⟨2, ![M, 128]⟩, ⟨2, ![M, 128]⟩] ⟨2, ![M, 256]⟩ 1) (r : Fin M) (k : Fin 256) (e : Fin 128) (hk : k.val = e.val) :
    concatenate ⟨2, ![M, 256]⟩ 1 [⟨⟨2, ![M, 128]⟩, a⟩, ⟨⟨2, ![M, 128]⟩, b⟩] h (ix2 r k) = a (ix2 r e) :=
  concatenate_pair_apply_left 1 a b h _ rfl (ix2 r e) (fun ax => match ax with
    | ⟨0, _⟩ => rfl
    | ⟨1, _⟩ => hk.symm)
/-- The same at a column of the second. -/
theorem beside_snd {M : ℕ} (a b : (⟨2, ![M, 128]⟩ : Shape).Idx → EReal)
    (h : Shape.Concatenates [⟨2, ![M, 128]⟩, ⟨2, ![M, 128]⟩] ⟨2, ![M, 256]⟩ 1) (r : Fin M) (k : Fin 256) (e : Fin 128) (hk : k.val = e.val + 128) :
    concatenate ⟨2, ![M, 256]⟩ 1 [⟨⟨2, ![M, 128]⟩, a⟩, ⟨⟨2, ![M, 128]⟩, b⟩] h (ix2 r k) = b (ix2 r e) :=
  concatenate_pair_apply_right 1 a b h _ rfl rfl (ix2 r e) (fun ax hne => match ax with
    | ⟨0, _⟩ => rfl
    | ⟨1, _⟩ => absurd rfl hne) hk.symm

end Cert.Turn

end
-- ==== Proof.MixInFwd.lean ====
/-
  The entry of the two mixers, index by index.

  The forward lines are `u = h * rsqrt(mean(h²) + eps) * g`, the combined projection `u @ w_in`, and the rotation of mixer B's
  queries and keys. This module states the five results over one row (`Cert.MixInSpec`) and shows that the kernel's output arrays
  and the reference's results hold them. The kernel holds the rows of the transposed weight with mixer B's queries in pair order.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Basics
public import proofs.«01_k».proof.Proof.Products
public import proofs.«01_k».proof.Proof.Turn
public import Idealize.ShloMosaic.Lib.ValueLayoutCasts
public import Idealize.ShloMosaic.Lib.Quiescent

@[expose] public section

noncomputable section

open Idealize.ShloMosaic hiding ix1 ix2 ix3 eq_ix2 eq_ix3
open Idealize.ShloMosaic.TcCoe Idealize.SL.Sem Idealize.ShloMosaic.ValueIdx
open Idealize.ShloMosaic.Pipeline (Dat)
open scoped BigOperators

/-! ## The five results over one row -/

namespace Cert.MixInSpec

open Cert.Turn

variable {M : ℕ}

/-- The normalised row times the gain. -/
def norm (h : Fin M → Fin 1024 → EReal) (g : Fin 1024 → EReal) (r : Fin M) (c : Fin 1024) : EReal :=
  h r c * Ideal.rsqrt (Ideal.div (∑ k, h r k * h r k) (Ideal.ofBits .f32 0x44800000#32) + Ideal.ofBits .f32 0x358637BD#32) * g c

/-- The combined projection of the normalised row; the weight's rows are its outputs. -/
def proj (h : Fin M → Fin 1024 → EReal) (g : Fin 1024 → EReal) (W : Fin 4352 → Fin 1024 → EReal) (r : Fin M) (k : Fin 4352) : EReal :=
  ∑ c, norm h g r c * W k c

/-- Mixer A's queries, keys and values. -/
def qkva (h : Fin M → Fin 1024 → EReal) (g : Fin 1024 → EReal) (W : Fin 4352 → Fin 1024 → EReal) (r : Fin M) (k : Fin 1536) : EReal :=
  proj h g W r ⟨k.val, by omega⟩

/-- Mixer B's queries, each head turned. -/
def qb (h : Fin M → Fin 1024 → EReal) (g : Fin 1024 → EReal) (W : Fin 4352 → Fin 1024 → EReal) (cos sin : Fin M → Fin 32 → EReal)
    (r : Fin M) (k : Fin 512) : EReal :=
  turn (fun d => proj h g W r ⟨1536 + (k.val / 64 * 64 + d.val), by omega⟩) (cos r) (sin r) ⟨k.val % 64, Nat.mod_lt _ (by omega)⟩

/-- Mixer B's keys, each head turned, and its values beside them. -/
def kvb (h : Fin M → Fin 1024 → EReal) (g : Fin 1024 → EReal) (W : Fin 4352 → Fin 1024 → EReal) (cos sin : Fin M → Fin 32 → EReal)
    (r : Fin M) (k : Fin 256) : EReal :=
  if k.val < 128 then
    turn (fun d => proj h g W r ⟨2048 + (k.val / 64 * 64 + d.val), by omega⟩) (cos r) (sin r) ⟨k.val % 64, Nat.mod_lt _ (by omega)⟩
  else proj h g W r ⟨2048 + k.val, by omega⟩

/-- The gates of both mixers. -/
def gates (h : Fin M → Fin 1024 → EReal) (g : Fin 1024 → EReal) (W : Fin 4352 → Fin 1024 → EReal) (r : Fin M) (k : Fin 2048) : EReal :=
  proj h g W r ⟨2304 + k.val, by omega⟩

/-- An array of rank two read by its two coordinates. -/
abbrev cur {R N : ℕ} (x : (⟨2, ![R, N]⟩ : Shape).Idx → EReal) (r : Fin R) (c : Fin N) : EReal := x (ix2 r c)

/-- The outputs of a weight in the kernel's order. -/
abbrev paired (w : Fin 1024 → Fin 4352 → EReal) (k : Fin 4352) (c : Fin 1024) : EReal := w c (Cert.Heads.col k)

end Cert.MixInSpec

/-! ## The kernel -/

namespace Cert.Kernel10Ideal.MixIn

open Cert.Kernel10Ideal Cert.Kernel10Ideal.Gen Cert.MixInSpec Cert.Basics Cert.Turn

section Pay

variable (x0 : Vec Ideal S512x1024 .f32) (x1 : Vec Ideal S1x1024 .f32) (x2 : Vec Ideal S4352x1024 .bf16) (x3 x4 x5 : Vec Ideal S512x128 .f32)

/-- The normalised block. -/
theorem pay5_apply (r : Fin 512) (c : Fin 1024) : k0_pay5 (F := Ideal) x0 x1 (ix2 r c) = norm (cur x0) (cur x1 0) r c := by
  have e : multiReduction (F := Ideal) .add [1] S512 (mulf x0 x0) 0x00000000#32 reduces_S512x1024_S512 (.inl rfl) rfl (ix1 r)
      = ∑ k, cur x0 r k * cur x0 r k := sum_cols _ _ _ _ _ r
  unfold k0_pay5
  refine congrArg₂ (fun a b : EReal => x0 (ix2 r c) * a * b) ((bcast_col _ _ r c).trans ?_) (broadcastTo_1b_ab_apply x1 _ r c)
  exact congrArg (fun q => Ideal.rsqrt (Ideal.div q (Ideal.ofBits .f32 0x44800000#32) + Ideal.ofBits .f32 0x358637BD#32))
    ((shapeCast_a_a1_apply _ _ r 0).trans e)

/-- Rows of the weight. -/
theorem ld_rows {K : ℕ} (o : ℕ) (inb) (k : Fin K) (c : Fin 1024) (j : Fin 4352) (hj : j.val = o + k.val) :
    View.ld x2 (Rect.unit (s := S4352x1024) ![o, 0] ![K, 1024] inb) (ix2 k c) = x2 (ix2 j c) :=
  congrArg x2 (Shape.idx_ext₂ (by show o + 1 * k.val = j.val; omega) (by show 0 + 1 * c.val = c.val; omega))

/-- Columns of the combined projection: `K` of them from column `o`. -/
theorem proj_block {K : ℕ} (o : ℕ) (w : Vec Ideal ⟨2, ![K, 1024]⟩ .bf16) (hw : ∀ (k : Fin K) c (j : Fin 4352), j.val = o + k.val → w (ix2 k c) = x2 (ix2 j c))
    (r : Fin 512) (k : Fin K) (j : Fin 4352) (hj : j.val = o + k.val) :
    FloatOps.matmul (F := Ideal) (φ₁ := .bf16) (φ₂ := .bf16) (DotDims.transposedRhs 512 1024 K) none (k0_pay5 (F := Ideal) x0 x1) w
        (constant ⟨2, ![512, K]⟩ .f32 0x00000000#32) (ix2 r k)
      = proj (cur x0) (cur x1 0) (cur x2) r j := by
  refine (dot_transposed (φ₁ := .bf16) (φ₂ := .bf16) none _ w r k).trans ?_
  exact Finset.sum_congr rfl fun c _ => congrArg₂ (fun a b : EReal => a * b) (pay5_apply x0 x1 r c) (hw k c j hj)

theorem pay6_apply (r : Fin 512) (k : Fin 1536) :
    k0_pay6 (F := Ideal) x0 x1 (View.ld x2 r0_2) (ix2 r k) = qkva (cur x0) (cur x1 0) (cur x2) r k := by
  unfold k0_pay6
  rw [shapeCast_self]
  exact proj_block x0 x1 x2 0 _ (fun k c j hj => ld_rows x2 0 _ k c j hj) r k ⟨k.val, by omega⟩ (by show k.val = 0 + k.val; omega)

theorem pay7_apply (r : Fin 512) (k : Fin 640) :
    k0_pay7 (F := Ideal) x0 x1 (View.ld x2 r0_4) (ix2 r k) = proj (cur x0) (cur x1 0) (cur x2) r ⟨1536 + k.val, by omega⟩ := by
  unfold k0_pay7
  rw [shapeCast_self]
  exact proj_block x0 x1 x2 1536 _ (fun k c j hj => ld_rows x2 1536 _ k c j hj) r k _ rfl

theorem pay3_apply (r : Fin 512) (k : Fin 128) :
    k0_pay3 (F := Ideal) (k0_pay5 (F := Ideal) x0 x1) (View.ld x2 r0_11) (ix2 r k) = proj (cur x0) (cur x1 0) (cur x2) r ⟨2176 + k.val, by omega⟩ := by
  unfold k0_pay3
  rw [shapeCast_self]
  exact proj_block x0 x1 x2 2176 _ (fun k c j hj => ld_rows x2 2176 _ k c j hj) r k _ rfl

theorem pay4_apply (r : Fin 512) (k : Fin 2048) :
    k0_pay4 (F := Ideal) (k0_pay5 (F := Ideal) x0 x1) (View.ld x2 r0_13) (ix2 r k) = gates (cur x0) (cur x1 0) (cur x2) r k := by
  unfold k0_pay4
  rw [shapeCast_self]
  exact proj_block x0 x1 x2 2304 _ (fun k c j hj => ld_rows x2 2304 _ k c j hj) r k _ rfl

theorem out6_apply (r : Fin 512) (c : Fin 1024) : out0_6 (F := Ideal) x0 x1 x2 x3 x4 x5 (ix2 r c) = norm (cur x0) (cur x1 0) r c := by
  unfold_out out0_6
  rw [View.canon_unit_zero hz, View.ld_unit_zero (S := S512x1024) hz _ x0, View.ld_unit_zero (S := S1x1024) hz _ x1, pay5_apply]

theorem out7_apply (r : Fin 512) (k : Fin 1536) : out0_7 (F := Ideal) x0 x1 x2 x3 x4 x5 (ix2 r k) = qkva (cur x0) (cur x1 0) (cur x2) r k := by
  unfold_out out0_7
  rw [View.canon_unit_zero hz, View.ld_unit_zero (S := S512x1024) hz _ x0, View.ld_unit_zero (S := S1x1024) hz _ x1, pay6_apply]

theorem out10_apply (r : Fin 512) (k : Fin 2048) : out0_10 (F := Ideal) x0 x1 x2 x3 x4 x5 (ix2 r k) = gates (cur x0) (cur x1 0) (cur x2) r k := by
  unfold_out out0_10
  rw [View.canon_unit_zero hz, View.ld_unit_zero (S := S512x1024) hz _ x0, View.ld_unit_zero (S := S1x1024) hz _ x1, pay4_apply]

variable {x3 x4 x5} {cos sin : Fin 512 → Fin 32 → EReal} (tb : Tables (cur x3) (cur x4) (cur x5) cos sin)

include tb in
/-- Two heads of the projection from column `1536 + o`, turned. -/
theorem turned (o : ℕ) (ho : o + 128 ≤ 640) (hs : S512x640.Slices ![0, o] S512x128) (r : Fin 512) (j : Fin 128) :
    extractStridedSlice S512x128 ![0, o] (k0_pay7 (F := Ideal) x0 x1 (View.ld x2 r0_4)) hs (ix2 r j) * cur x3 r j
        + Ideal.ofBits .f32 0x3F800000#32 * (dynamicRotate 1 96#32 none (extractStridedSlice S512x128 ![0, o] (k0_pay7 (F := Ideal) x0 x1 (View.ld x2 r0_4)) hs)
            rotates_S512x128_d1 (ix2 r j) * cur x4 r j
          + dynamicRotate 1 32#32 none (extractStridedSlice S512x128 ![0, o] (k0_pay7 (F := Ideal) x0 x1 (View.ld x2 r0_4)) hs) rotates_S512x128_d1 (ix2 r j)
            * cur x5 r j)
      = turn (fun d => proj (cur x0) (cur x1 0) (cur x2) r ⟨1536 + (o + (j.val / 64 * 64 + d.val)), by omega⟩) (cos r) (sin r)
          ⟨j.val % 64, Nat.mod_lt _ (by omega)⟩ := by
  refine (turn_block _ rotates_S512x128_d1 tb r j ofBits_one).trans (congrArg (fun y => turn y (cos r) (sin r) _) (funext fun d => ?_))
  refine (extractStridedSlice_apply ![0, o] _ hs _ (ix2 r (⟨o + (j.val / 64 * 64 + d.val), by omega⟩ : Fin 640)) (fun a => match a with
    | ⟨0, _⟩ => by show r.val = 0 + r.val; omega
    | ⟨1, _⟩ => rfl)).trans ?_
  exact pay7_apply x0 x1 x2 r _

include tb in
/-- One store of two turned heads holds its part of the queries. -/
theorem piece8 (o : ℕ) (ho : o + 128 ≤ 512) (hs : S512x640.Slices ![0, o] S512x128) (inb) (w : Vec Ideal S512x128 .bf16)
    (hw : ∀ (r : Fin 512) (j : Fin 128), w (ix2 r j) = turn (fun d => proj (cur x0) (cur x1 0) (cur x2) r ⟨1536 + (o + (j.val / 64 * 64 + d.val)), by omega⟩)
      (cos r) (sin r) ⟨j.val % 64, Nat.mod_lt _ (by omega)⟩) (h64 : o % 64 = 0) (x : S512x128.Idx) :
    w x = (fun y : S512x512.Idx => qb (cur x0) (cur x1 0) (cur x2) cos sin (y 0) (y 1)) ((Rect.unit (s := S512x512) ![0, o] S512x128.size inb).emb x) := by
  obtain ⟨r, j, rfl⟩ : ∃ (r : Fin 512) (j : Fin 128), x = ix2 r j := ⟨x 0, x 1, eq_ix2 x⟩
  have hj := j.isLt
  rw [show ((Rect.unit (s := S512x512) ![0, o] S512x128.size inb).emb (ix2 r j) : S512x512.Idx) = ix2 r ⟨o + j.val, by omega⟩ from
    Shape.idx_ext₂ (by show 0 + 1 * r.val = r.val; omega) (by show o + 1 * j.val = o + j.val; omega), hw]
  show _ = turn (fun d => proj (cur x0) (cur x1 0) (cur x2) r ⟨1536 + ((o + j.val) / 64 * 64 + d.val), by omega⟩) (cos r) (sin r)
    ⟨(o + j.val) % 64, Nat.mod_lt _ (by omega)⟩
  have e1 : (⟨(o + j.val) % 64, Nat.mod_lt _ (by omega)⟩ : Fin 64) = ⟨j.val % 64, Nat.mod_lt _ (by omega)⟩ :=
    Fin.ext (by show (o + j.val) % 64 = j.val % 64; omega)
  rw [e1]
  exact congrArg (fun y => turn y (cos r) (sin r) _) (funext fun d => congrArg (proj _ _ _ r)
    (Fin.ext (by show 1536 + (o + (j.val / 64 * 64 + d.val)) = 1536 + ((o + j.val) / 64 * 64 + d.val); omega)))

include tb in
theorem out8_apply (r : Fin 512) (k : Fin 512) : out0_8 (F := Ideal) x0 x1 x2 x3 x4 x5 (ix2 r k) = qb (cur x0) (cur x1 0) (cur x2) cos sin r k := by
  unfold_out out0_8
  rw [View.ld_unit_zero (S := S512x1024) hz _ x0, View.ld_unit_zero (S := S1x1024) hz _ x1, View.ld_unit_zero (S := S512x128) hz _ x3,
    View.ld_unit_zero (S := S512x128) hz _ x4, View.ld_unit_zero (S := S512x128) hz _ x5]
  have e8 : k0_pay8 (F := Ideal) x3 = x3 := shapeCast_self _ _
  have e9 : k0_pay9 (F := Ideal) x4 = x4 := shapeCast_self _ _
  have e10 : k0_pay10 (F := Ideal) x5 = x5 := shapeCast_self _ _
  refine View.canon_apply_of_pieces (Val := Elt Ideal) (e := .bf16)
    (fun y : S512x512.Idx => qb (cur x0) (cur x1 0) (cur x2) cos sin (y 0) (y 1)) _ ?_ (ix2 r k) (cover0_8 _ _ _ _ _)
  intro p hp x
  rcases List.mem_cons.mp hp with rfl | hp
  · exact piece8 x0 x1 x2 tb 384 (by omega) slices_S512x640_o0_384_S512x128 inb_S512x512_S512x128_0_384 _ (fun r j => by
      rw [e8, e9, e10]; exact turned x0 x1 x2 tb 384 (by omega) slices_S512x640_o0_384_S512x128 r j) rfl x
  rcases List.mem_cons.mp hp with rfl | hp
  · exact piece8 x0 x1 x2 tb 256 (by omega) slices_S512x640_o0_256_S512x128 inb_S512x512_S512x128_0_256 _ (fun r j => by
      rw [e8, e9, e10]; exact turned x0 x1 x2 tb 256 (by omega) slices_S512x640_o0_256_S512x128 r j) rfl x
  rcases List.mem_cons.mp hp with rfl | hp
  · exact piece8 x0 x1 x2 tb 128 (by omega) slices_S512x640_o0_128_S512x128 inb_S512x512_S512x128_0_128 _ (fun r j => by
      rw [e8, e9, e10]; exact turned x0 x1 x2 tb 128 (by omega) slices_S512x640_o0_128_S512x128 r j) rfl x
  · rcases List.mem_singleton.mp hp with rfl
    exact piece8 x0 x1 x2 tb 0 (by omega) slices_S512x640_o0_0_S512x128 inb_S512x512_S512x128_0_0 _ (fun r j => by
      unfold k0_pay12; rw [e8, e9, e10]; exact turned x0 x1 x2 tb 0 (by omega) slices_S512x640_o0_0_S512x128 r j) rfl x

include tb in
theorem out9_apply (r : Fin 512) (k : Fin 256) : out0_9 (F := Ideal) x0 x1 x2 x3 x4 x5 (ix2 r k) = kvb (cur x0) (cur x1 0) (cur x2) cos sin r k := by
  unfold_out out0_9
  rw [View.ld_unit_zero (S := S512x1024) hz _ x0, View.ld_unit_zero (S := S1x1024) hz _ x1, View.ld_unit_zero (S := S512x128) hz _ x3,
    View.ld_unit_zero (S := S512x128) hz _ x4, View.ld_unit_zero (S := S512x128) hz _ x5]
  have e8 : k0_pay8 (F := Ideal) x3 = x3 := shapeCast_self _ _
  have e9 : k0_pay9 (F := Ideal) x4 = x4 := shapeCast_self _ _
  have e10 : k0_pay10 (F := Ideal) x5 = x5 := shapeCast_self _ _
  refine View.canon_apply_of_pieces (Val := Elt Ideal) (e := .bf16)
    (fun y : S512x256.Idx => kvb (cur x0) (cur x1 0) (cur x2) cos sin (y 0) (y 1)) _ ?_ (ix2 r k) (cover0_9 _ _ _)
  intro p hp x
  rcases List.mem_cons.mp hp with rfl | hp
  · obtain ⟨r, j, rfl⟩ : ∃ (r : Fin 512) (j : Fin 128), x = ix2 r j := ⟨x 0, x 1, eq_ix2 x⟩
    rw [show (r0_12.emb (ix2 r j) : S512x256.Idx) = ix2 r ⟨128 + j.val, by omega⟩ from
      Shape.idx_ext₂ (by show 0 + 1 * r.val = r.val; omega) (by show 128 + 1 * j.val = 128 + j.val; omega)]
    refine (pay3_apply x0 x1 x2 r j).trans ?_
    show _ = kvb _ _ _ _ _ r ⟨128 + j.val, by omega⟩
    rw [kvb, if_neg (by show ¬(128 + j.val < 128); omega)]
    exact congrArg (proj _ _ _ r) (Fin.ext (by show 2176 + j.val = 2048 + (128 + j.val); omega))
  · rcases List.mem_singleton.mp hp with rfl
    obtain ⟨r, j, rfl⟩ : ∃ (r : Fin 512) (j : Fin 128), x = ix2 r j := ⟨x 0, x 1, eq_ix2 x⟩
    have hj := j.isLt
    rw [show (r0_10.emb (ix2 r j) : S512x256.Idx) = ix2 r ⟨j.val, by omega⟩ from
      Shape.idx_ext₂ (by show 0 + 1 * r.val = r.val; omega) (by show 0 + 1 * j.val = j.val; omega)]
    show _ = kvb _ _ _ _ _ r ⟨j.val, by omega⟩
    rw [kvb, if_pos (by show j.val < 128; omega), e8, e9, e10]
    refine (turned x0 x1 x2 tb 512 (by omega) slices_S512x640_o0_512_S512x128 r j).trans ?_
    exact congrArg (fun y => turn y (cos r) (sin r) _) (funext fun d => congrArg (proj _ _ _ r)
      (Fin.ext (by show 1536 + (512 + (j.val / 64 * 64 + d.val)) = 2048 + (j.val / 64 * 64 + d.val); omega)))

end Pay

variable (m : (ℓ : Loc nD τ sig) → Buf (Elt Ideal) ℓ) (ρ : Dev nD → PrngReg)

/-! ### The windows' blocks at an index -/

theorem idx_facts : ∀ t : Fin cfg0.N,
    (win0_0.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0])
    ∧ (win0_1.index t = ![0, 0] ∧ win0_2.index t = ![0, 0]) :=
  (by decide +kernel : ∀ t : Fin grid0.N, _)

/-- Row `r` of point `t`'s blocks is row `512 t + r` of the arrays. -/
abbrev row (t : Fin cfg0.N) (r : Fin 512) : Fin 8192 := ⟨t.val * 512 + r.val, by have h : t.val < 16 := t.isLt; omega⟩

/-! Where an element of a point's block lies in its array: `512 t` rows below, or, for the gain and the weight, at the same
    place. -/

theorem emb0 (t : Fin cfg0.N) (r : Fin 512) (k : Fin 1024) : (win0_0.rect t).emb (ix2 r k) = ix2 (row t r) k := by
  refine Shape.idx_ext₂ ?_ ?_
  · rw [Pipeline.Window.rect_emb_val win0_0, (idx_facts t).1.1]; rfl
  · rw [Pipeline.Window.rect_emb_val win0_0, (idx_facts t).1.1]; show 0 * _ + k.val = k.val; omega
theorem emb1 (t : Fin cfg0.N) (r : Fin 1) (k : Fin 1024) : (win0_1.rect t).emb (ix2 r k) = ix2 r k := by
  refine Shape.idx_ext₂ ?_ ?_
  · rw [Pipeline.Window.rect_emb_val win0_1, (idx_facts t).2.1]; show 0 * _ + r.val = r.val; omega
  · rw [Pipeline.Window.rect_emb_val win0_1, (idx_facts t).2.1]; show 0 * _ + k.val = k.val; omega
theorem emb2 (t : Fin cfg0.N) (r : Fin 4352) (k : Fin 1024) : (win0_2.rect t).emb (ix2 r k) = ix2 r k := by
  refine Shape.idx_ext₂ ?_ ?_
  · rw [Pipeline.Window.rect_emb_val win0_2, (idx_facts t).2.2]; show 0 * _ + r.val = r.val; omega
  · rw [Pipeline.Window.rect_emb_val win0_2, (idx_facts t).2.2]; show 0 * _ + k.val = k.val; omega
theorem emb3 (t : Fin cfg0.N) (r : Fin 512) (k : Fin 128) : (win0_3.rect t).emb (ix2 r k) = ix2 (row t r) k := by
  refine Shape.idx_ext₂ ?_ ?_
  · rw [Pipeline.Window.rect_emb_val win0_3, (idx_facts t).1.2.1]; rfl
  · rw [Pipeline.Window.rect_emb_val win0_3, (idx_facts t).1.2.1]; show 0 * _ + k.val = k.val; omega
theorem emb4 (t : Fin cfg0.N) (r : Fin 512) (k : Fin 128) : (win0_4.rect t).emb (ix2 r k) = ix2 (row t r) k := by
  refine Shape.idx_ext₂ ?_ ?_
  · rw [Pipeline.Window.rect_emb_val win0_4, (idx_facts t).1.2.2.1]; rfl
  · rw [Pipeline.Window.rect_emb_val win0_4, (idx_facts t).1.2.2.1]; show 0 * _ + k.val = k.val; omega
theorem emb5 (t : Fin cfg0.N) (r : Fin 512) (k : Fin 128) : (win0_5.rect t).emb (ix2 r k) = ix2 (row t r) k := by
  refine Shape.idx_ext₂ ?_ ?_
  · rw [Pipeline.Window.rect_emb_val win0_5, (idx_facts t).1.2.2.2.1]; rfl
  · rw [Pipeline.Window.rect_emb_val win0_5, (idx_facts t).1.2.2.2.1]; show 0 * _ + k.val = k.val; omega
theorem emb6 (t : Fin cfg0.N) (r : Fin 512) (k : Fin 1024) : (win0_6.rect t).emb (ix2 r k) = ix2 (row t r) k := by
  refine Shape.idx_ext₂ ?_ ?_
  · rw [Pipeline.Window.rect_emb_val win0_6, (idx_facts t).1.2.2.2.2.1]; rfl
  · rw [Pipeline.Window.rect_emb_val win0_6, (idx_facts t).1.2.2.2.2.1]; show 0 * _ + k.val = k.val; omega
theorem emb7 (t : Fin cfg0.N) (r : Fin 512) (k : Fin 1536) : (win0_7.rect t).emb (ix2 r k) = ix2 (row t r) k := by
  refine Shape.idx_ext₂ ?_ ?_
  · rw [Pipeline.Window.rect_emb_val win0_7, (idx_facts t).1.2.2.2.2.2.1]; rfl
  · rw [Pipeline.Window.rect_emb_val win0_7, (idx_facts t).1.2.2.2.2.2.1]; show 0 * _ + k.val = k.val; omega
theorem emb8 (t : Fin cfg0.N) (r : Fin 512) (k : Fin 512) : (win0_8.rect t).emb (ix2 r k) = ix2 (row t r) k := by
  refine Shape.idx_ext₂ ?_ ?_
  · rw [Pipeline.Window.rect_emb_val win0_8, (idx_facts t).1.2.2.2.2.2.2.1]; rfl
  · rw [Pipeline.Window.rect_emb_val win0_8, (idx_facts t).1.2.2.2.2.2.2.1]; show 0 * _ + k.val = k.val; omega
theorem emb9 (t : Fin cfg0.N) (r : Fin 512) (k : Fin 256) : (win0_9.rect t).emb (ix2 r k) = ix2 (row t r) k := by
  refine Shape.idx_ext₂ ?_ ?_
  · rw [Pipeline.Window.rect_emb_val win0_9, (idx_facts t).1.2.2.2.2.2.2.2.1]; rfl
  · rw [Pipeline.Window.rect_emb_val win0_9, (idx_facts t).1.2.2.2.2.2.2.2.1]; show 0 * _ + k.val = k.val; omega
theorem emb10 (t : Fin cfg0.N) (r : Fin 512) (k : Fin 2048) : (win0_10.rect t).emb (ix2 r k) = ix2 (row t r) k := by
  refine Shape.idx_ext₂ ?_ ?_
  · rw [Pipeline.Window.rect_emb_val win0_10, (idx_facts t).1.2.2.2.2.2.2.2.2]; rfl
  · rw [Pipeline.Window.rect_emb_val win0_10, (idx_facts t).1.2.2.2.2.2.2.2.2]; show 0 * _ + k.val = k.val; omega

/-! ### The arguments by their coordinates, and a point's blocks as rows of them -/

abbrev h (c : Dev nD) : Fin 8192 → Fin 1024 → EReal := cur (m ((c : Thread nD τ).loc main_arg0) : S8192x1024.Idx → EReal)
abbrev g (c : Dev nD) : Fin 1024 → EReal := cur (m ((c : Thread nD τ).loc main_arg1) : S1x1024.Idx → EReal) 0
/-- The rows of the transposed weight in the kernel's order. -/
abbrev wt (c : Dev nD) : Fin 4352 → Fin 1024 → EReal := paired (cur (m ((c : Thread nD τ).loc main_arg2) : S1024x4352.Idx → EReal))
abbrev cosines (c : Dev nD) : Fin 8192 → Fin 32 → EReal := cur (m ((c : Thread nD τ).loc main_arg3) : S8192x32.Idx → EReal)
abbrev sines (c : Dev nD) : Fin 8192 → Fin 32 → EReal := cur (m ((c : Thread nD τ).loc main_arg4) : S8192x32.Idx → EReal)

theorem V_v8 (c : Dev nD) (k : Fin 4352) (d : Fin 1024) : V m c main_v8 (ix2 k d) = wt m c k d := by
  unfold V hostOps0; after_results
  refine stacked _ _ _ _ (fun k d => (m ((c : Thread nD τ).loc main_arg2) : S1024x4352.Idx → EReal) (ix2 d k)) (fun k d => ?_) (fun k d => ?_) (fun k d => ?_) k d
  · exact rows_of _ 0 _ slices_S4352x1024_S1536x1024_0_0 k d _ (by show k.val = 0 + k.val; omega)
  · exact (Cert.Heads.pair_rows _ _ _ _ k d).trans (rows_of _ 1536 _ slices_S4352x1024_S512x1024_1536_0 _ d _ rfl)
  · exact rows_of _ 2048 _ slices_S4352x1024_S2304x1024_2048_0 k d _ rfl

theorem V_v13 (c : Dev nD) (r : Fin 8192) (j : Fin 128) : V m c main_v13 (ix2 r j) = concatenate S8192x64 1
    [⟨S8192x32, (m ((c : Thread nD τ).loc main_arg3) : S8192x32.Idx → EReal)⟩, ⟨S8192x32, (m ((c : Thread nD τ).loc main_arg3) : S8192x32.Idx → EReal)⟩]
    concatenates_S8192x32_S8192x32_S8192x64_d1 (ix2 r ⟨j.val % 64, Nat.mod_lt _ (by omega)⟩) := by
  unfold V hostOps0; after_results; exact twice _ _ _ _ r j
theorem V_v18 (c : Dev nD) (r : Fin 8192) (j : Fin 128) : V m c main_v18 (ix2 r j) = concatenate S8192x64 1
    [⟨S8192x32, Host.negf (F := Ideal) (s := S8192x32) (φ := .f32) (m ((c : Thread nD τ).loc main_arg4))⟩,
      ⟨S8192x32, (broadcastInDim S8192x32 ![] bcast_S_S8192x32 (constant (F := Ideal) S_ .f32 0x00000000#32) : S8192x32.Idx → EReal)⟩]
    concatenates_S8192x32_S8192x32_S8192x64_d1 (ix2 r ⟨j.val % 64, Nat.mod_lt _ (by omega)⟩) := by
  unfold V hostOps0; after_results; exact twice _ _ _ _ r j
theorem V_v22 (c : Dev nD) (r : Fin 8192) (j : Fin 128) : V m c main_v22 (ix2 r j) = concatenate S8192x64 1
    [⟨S8192x32, (broadcastInDim S8192x32 ![] bcast_S_S8192x32 (constant (F := Ideal) S_ .f32 0x00000000#32) : S8192x32.Idx → EReal)⟩,
      ⟨S8192x32, (m ((c : Thread nD τ).loc main_arg4) : S8192x32.Idx → EReal)⟩]
    concatenates_S8192x32_S8192x32_S8192x64_d1 (ix2 r ⟨j.val % 64, Nat.mod_lt _ (by omega)⟩) := by
  unfold V hostOps0; after_results; exact twice _ _ _ _ r j

/-- The host's three tables are tables of the two arguments. -/
theorem V_tables (c : Dev nD) : Tables (cur (V m c main_v13 : S8192x128.Idx → EReal)) (cur (V m c main_v18 : S8192x128.Idx → EReal))
    (cur (V m c main_v22 : S8192x128.Idx → EReal)) (cosines m c) (sines m c) :=
  tables_of concatenates_S8192x32_S8192x32_S8192x64_d1 (V_v13 m c) (V_v18 m c) (V_v22 m c) (fun _ => rfl) (fun _ => ofBits_zero)

theorem blk0 (c : Dev nD) (t : Fin cfg0.N) : cur (iblk m c 0 t : Vec Ideal S512x1024 .f32) = fun r => h m c (row t r) := by
  funext r k
  exact (congrArg (V m c main_arg0) (emb0 t r k)).trans (congrFun (V_main_arg0 m c) _)
theorem blk1 (c : Dev nD) (t : Fin cfg0.N) : cur (iblk m c 1 t : Vec Ideal S1x1024 .f32) 0 = g m c := by
  funext k
  exact (congrArg (V m c main_arg1) (emb1 t 0 k)).trans (congrFun (V_main_arg1 m c) _)
theorem blk2 (c : Dev nD) (t : Fin cfg0.N) : cur (iblk m c 2 t : Vec Ideal S4352x1024 .bf16) = wt m c := by
  funext k d
  exact (congrArg (V m c main_v8) (emb2 t k d)).trans (V_v8 m c k d)
theorem blk3 (c : Dev nD) (t : Fin cfg0.N) : cur (iblk m c 3 t : Vec Ideal S512x128 .f32) = fun r => cur (V m c main_v13 : S8192x128.Idx → EReal) (row t r) := by
  funext r k
  exact congrArg (V m c main_v13) (emb3 t r k)
theorem blk4 (c : Dev nD) (t : Fin cfg0.N) : cur (iblk m c 4 t : Vec Ideal S512x128 .f32) = fun r => cur (V m c main_v18 : S8192x128.Idx → EReal) (row t r) := by
  funext r k
  exact congrArg (V m c main_v18) (emb4 t r k)
theorem blk5 (c : Dev nD) (t : Fin cfg0.N) : cur (iblk m c 5 t : Vec Ideal S512x128 .f32) = fun r => cur (V m c main_v22 : S8192x128.Idx → EReal) (row t r) := by
  funext r k
  exact congrArg (V m c main_v22) (emb5 t r k)

/-- A point's three table blocks are tables of its rows. -/
theorem tables (c : Dev nD) (t : Fin cfg0.N) : Tables (cur (iblk m c 3 t : Vec Ideal S512x128 .f32)) (cur (iblk m c 4 t : Vec Ideal S512x128 .f32))
    (cur (iblk m c 5 t : Vec Ideal S512x128 .f32)) (fun r => cosines m c (row t r)) (fun r => sines m c (row t r)) := by
  rw [blk3, blk4, blk5]
  exact (V_tables m c).rows (row t)

/-! ### The output arrays after the run -/

/-- Result 1: the normalised rows. -/
abbrev G6 (c : Dev nD) : S8192x1024.Idx → EReal := fun i => norm (h m c) (g m c) (i 0) (i 1)
/-- Result 2: mixer A's queries, keys and values. -/
abbrev G7 (c : Dev nD) : S8192x1536.Idx → EReal := fun i => qkva (h m c) (g m c) (wt m c) (i 0) (i 1)
/-- Result 3: mixer B's turned queries in pair order. -/
abbrev G8 (c : Dev nD) : S8192x512.Idx → EReal := fun i => qb (h m c) (g m c) (wt m c) (cosines m c) (sines m c) (i 0) (i 1)
/-- Result 4: mixer B's turned keys and its values. -/
abbrev G9 (c : Dev nD) : S8192x256.Idx → EReal := fun i => kvb (h m c) (g m c) (wt m c) (cosines m c) (sines m c) (i 0) (i 1)
/-- Result 5: the gates. -/
abbrev G10 (c : Dev nD) : S8192x2048.Idx → EReal := fun i => gates (h m c) (g m c) (wt m c) (i 0) (i 1)

theorem flushed6 (c : Dev nD) (t : Fin cfg0.N) :
    (dats m 0 c).flushed 6 t = ((cfg0.win 6).blk t).view.read (Elt Ideal) (G6 m c) := by
  rw [Value.flushed6]
  funext y
  obtain ⟨r, k, rfl⟩ : ∃ (r : Fin 512) (k : Fin 1024), y = ix2 r k := ⟨y 0, y 1, eq_ix2 y⟩
  refine (out6_apply _ _ _ _ _ _ r k).trans ?_
  rw [blk0, blk1]
  exact (congrArg (G6 m c) (emb6 t r k)).symm

theorem flushed7 (c : Dev nD) (t : Fin cfg0.N) :
    (dats m 0 c).flushed 7 t = ((cfg0.win 7).blk t).view.read (Elt Ideal) (G7 m c) := by
  rw [Value.flushed7]
  funext y
  obtain ⟨r, k, rfl⟩ : ∃ (r : Fin 512) (k : Fin 1536), y = ix2 r k := ⟨y 0, y 1, eq_ix2 y⟩
  refine (out7_apply _ _ _ _ _ _ r k).trans ?_
  rw [blk0, blk1, blk2]
  exact (congrArg (G7 m c) (emb7 t r k)).symm

theorem flushed8 (c : Dev nD) (t : Fin cfg0.N) :
    (dats m 0 c).flushed 8 t = ((cfg0.win 8).blk t).view.read (Elt Ideal) (G8 m c) := by
  rw [Value.flushed8]
  funext y
  obtain ⟨r, k, rfl⟩ : ∃ (r : Fin 512) (k : Fin 512), y = ix2 r k := ⟨y 0, y 1, eq_ix2 y⟩
  refine (out8_apply _ _ _ (tables m c t) r k).trans ?_
  rw [blk0, blk1, blk2]
  exact (congrArg (G8 m c) (emb8 t r k)).symm

theorem flushed9 (c : Dev nD) (t : Fin cfg0.N) :
    (dats m 0 c).flushed 9 t = ((cfg0.win 9).blk t).view.read (Elt Ideal) (G9 m c) := by
  rw [Value.flushed9]
  funext y
  obtain ⟨r, k, rfl⟩ : ∃ (r : Fin 512) (k : Fin 256), y = ix2 r k := ⟨y 0, y 1, eq_ix2 y⟩
  refine (out9_apply _ _ _ (tables m c t) r k).trans ?_
  rw [blk0, blk1, blk2]
  exact (congrArg (G9 m c) (emb9 t r k)).symm

theorem flushed10 (c : Dev nD) (t : Fin cfg0.N) :
    (dats m 0 c).flushed 10 t = ((cfg0.win 10).blk t).view.read (Elt Ideal) (G10 m c) := by
  rw [Value.flushed10]
  funext y
  obtain ⟨r, k, rfl⟩ : ∃ (r : Fin 512) (k : Fin 2048), y = ix2 r k := ⟨y 0, y 1, eq_ix2 y⟩
  refine (out10_apply _ _ _ _ _ _ r k).trans ?_
  rw [blk0, blk1, blk2]
  exact (congrArg (G10 m c) (emb10 t r k)).symm

/-- The point whose blocks hold row `a`. -/
abbrev pt (a : Fin 8192) : Fin cfg0.N := ⟨a.val / 512, by have := a.isLt; show a.val / 512 < 16; omega⟩
/-- Row `a`'s place in them. -/
abbrev sub (a : Fin 8192) : Fin 512 := ⟨a.val % 512, Nat.mod_lt _ (by omega)⟩
theorem row_pt (a : Fin 8192) : row (pt a) (sub a) = a := Fin.ext (by show a.val / 512 * 512 + a.val % 512 = a.val; omega)

theorem final6 (c : Dev nD) : (dats m 0 c).arrAt 6 cfg0.N = G6 m c :=
  (dats m 0 c).arrAt_eq_of_cover 6 (G6 m c) (fun t _ => flushed6 m c t) fun i => by
    obtain ⟨a, b, rfl⟩ : ∃ (a : Fin 8192) (b : Fin 1024), i = ix2 a b := ⟨i 0, i 1, eq_ix2 i⟩
    have h : ((cfg0.win 6).blk (pt a)).view.emb (ix2 (sub a) b) = ix2 a b := (emb6 (pt a) (sub a) b).trans (by rw [row_pt])
    exact ⟨pt a, flush0_6 _, h ▸ ((cfg0.win 6).blk (pt a)).view.emb_mem_set (ix2 (sub a) b)⟩

theorem final7 (c : Dev nD) : (dats m 0 c).arrAt 7 cfg0.N = G7 m c :=
  (dats m 0 c).arrAt_eq_of_cover 7 (G7 m c) (fun t _ => flushed7 m c t) fun i => by
    obtain ⟨a, b, rfl⟩ : ∃ (a : Fin 8192) (b : Fin 1536), i = ix2 a b := ⟨i 0, i 1, eq_ix2 i⟩
    have h : ((cfg0.win 7).blk (pt a)).view.emb (ix2 (sub a) b) = ix2 a b := (emb7 (pt a) (sub a) b).trans (by rw [row_pt])
    exact ⟨pt a, flush0_7 _, h ▸ ((cfg0.win 7).blk (pt a)).view.emb_mem_set (ix2 (sub a) b)⟩

theorem final8 (c : Dev nD) : (dats m 0 c).arrAt 8 cfg0.N = G8 m c :=
  (dats m 0 c).arrAt_eq_of_cover 8 (G8 m c) (fun t _ => flushed8 m c t) fun i => by
    obtain ⟨a, b, rfl⟩ : ∃ (a : Fin 8192) (b : Fin 512), i = ix2 a b := ⟨i 0, i 1, eq_ix2 i⟩
    have h : ((cfg0.win 8).blk (pt a)).view.emb (ix2 (sub a) b) = ix2 a b := (emb8 (pt a) (sub a) b).trans (by rw [row_pt])
    exact ⟨pt a, flush0_8 _, h ▸ ((cfg0.win 8).blk (pt a)).view.emb_mem_set (ix2 (sub a) b)⟩

theorem final9 (c : Dev nD) : (dats m 0 c).arrAt 9 cfg0.N = G9 m c :=
  (dats m 0 c).arrAt_eq_of_cover 9 (G9 m c) (fun t _ => flushed9 m c t) fun i => by
    obtain ⟨a, b, rfl⟩ : ∃ (a : Fin 8192) (b : Fin 256), i = ix2 a b := ⟨i 0, i 1, eq_ix2 i⟩
    have h : ((cfg0.win 9).blk (pt a)).view.emb (ix2 (sub a) b) = ix2 a b := (emb9 (pt a) (sub a) b).trans (by rw [row_pt])
    exact ⟨pt a, flush0_9 _, h ▸ ((cfg0.win 9).blk (pt a)).view.emb_mem_set (ix2 (sub a) b)⟩

theorem final10 (c : Dev nD) : (dats m 0 c).arrAt 10 cfg0.N = G10 m c :=
  (dats m 0 c).arrAt_eq_of_cover 10 (G10 m c) (fun t _ => flushed10 m c t) fun i => by
    obtain ⟨a, b, rfl⟩ : ∃ (a : Fin 8192) (b : Fin 2048), i = ix2 a b := ⟨i 0, i 1, eq_ix2 i⟩
    have h : ((cfg0.win 10).blk (pt a)).view.emb (ix2 (sub a) b) = ix2 a b := (emb10 (pt a) (sub a) b).trans (by rw [row_pt])
    exact ⟨pt a, flush0_10 _, h ▸ ((cfg0.win 10).blk (pt a)).view.emb_mem_set (ix2 (sub a) b)⟩

/-- The kernel's run: its five results are `G6` to `G10`, and the arguments hold what they held. -/
theorem run_eq : θ_run (defs (F := Ideal)) (onTc (τ := τ) (main (F := Ideal))) ⟨m, fun _ => 0, ρ⟩ fun r => ∀ c : Dev nD,
    r.2.mem ((c.tc : Thread nD τ).loc main_v23_0) = G6 m c
    ∧ r.2.mem ((c.tc : Thread nD τ).loc main_v23_1) = G7 m c
    ∧ r.2.mem ((c.tc : Thread nD τ).loc main_v23_2) = G8 m c
    ∧ r.2.mem ((c.tc : Thread nD τ).loc main_v23_3) = G9 m c
    ∧ r.2.mem ((c.tc : Thread nD τ).loc main_v23_4) = G10 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => by
    obtain ⟨h0, h1, h2, h3, h4, hargs⟩ := h c
    exact ⟨h0.trans (final6 m c), h1.trans (final7 m c), h2.trans (final8 m c), h3.trans (final9 m c), h4.trans (final10 m c), hargs⟩)
    (Value.run_blocks (F := Ideal) m ρ)

end Cert.Kernel10Ideal.MixIn

/-! ## The reference -/

namespace Cert.Reference10Ideal.MixIn

open Cert.Reference10Ideal Cert.Reference10Ideal.Read Cert.MixInSpec Cert.Basics Cert.Turn Cert.Products

variable (x0 : Vec Ideal S8192x1024 .f32) (x1 : Vec Ideal S1x1024 .f32) (x2 : Vec Ideal S1024x4352 .f32) (x3 x4 : Vec Ideal S8192x32 .f32)

/-- The outputs of the weight in their own order. -/
abbrev columns (k : Fin 4352) (c : Fin 1024) : EReal := x2 (ix2 c k)

theorem proj_paired (r : Fin 8192) (k : Fin 4352) :
    proj (cur x0) (cur x1 0) (paired (cur x2)) r k = proj (cur x0) (cur x1 0) (columns x2) r (Cert.Heads.col k) := rfl

theorem v11_apply (r : Fin 8192) (c : Fin 1024) : val_main_v11 (F := Ideal) x0 x1 (ix2 r c) = norm (cur x0) (cur x1 0) r c := by
  have eq : val_main_v1 (F := Ideal) x0 (ix1 r) = ∑ k, cur x0 r k * cur x0 r k := by
    rw [val_main_v1_apply]
    refine (congrArg (· + _) ofBits_zero).trans ((zero_add _).trans (Finset.sum_congr rfl fun k _ => ?_))
    show x0 (idx_main_v1 (ix1 r) k) * x0 (idx_main_v1 (ix1 r) k) = _
    rw [show (idx_main_v1 (ix1 r) k : S8192x1024.Idx) = ix2 r k from Shape.idx_ext₂ rfl rfl]
  have es : val_main_v8 (F := Ideal) x0 (ix2 r c)
      = Ideal.rsqrt (Ideal.div (∑ k, cur x0 r k * cur x0 r k) (Ideal.ofBits .f32 0x44800000#32) + Ideal.ofBits .f32 0x358637BD#32) := by
    rw [val_main_v8_apply]
    refine congrArg (fun q => Ideal.rsqrt (Ideal.div q (Ideal.ofBits .f32 0x44800000#32) + Ideal.ofBits .f32 0x358637BD#32)) ?_
    rw [val_main_v2_apply]
    exact (congrArg (val_main_v1 (F := Ideal) x0) (funext fun a => Subsingleton.elim a 0 ▸ rfl)).trans eq
  have eg : val_main_v10 (F := Ideal) x1 (ix2 r c) = cur x1 0 c := by
    rw [val_main_v10_apply]
    exact congrArg x1 (Shape.idx_ext₂ rfl rfl)
  show x0 (ix2 r c) * val_main_v8 (F := Ideal) x0 (ix2 r c) * val_main_v10 (F := Ideal) x1 (ix2 r c) = _
  rw [es, eg]
  rfl

theorem v12_apply (r : Fin 8192) (k : Fin 4352) : val_main_v12 (F := Ideal) x0 x1 x2 (ix2 r k) = proj (cur x0) (cur x1 0) (columns x2) r k := by
  rw [val_main_v12_apply]
  exact Finset.sum_congr rfl fun c _ => congrArg₂ (· * ·)
    ((congrArg (val_main_v11 (F := Ideal) x0 x1) (show lidx_main_v12 (ix2 r k) c = ix2 r c from Shape.idx_ext₂ rfl rfl)).trans (v11_apply x0 x1 r c)) (congrArg x2 (Shape.idx_ext₂ rfl rfl))

theorem v13_apply (r : Fin 8192) (k : Fin 1536) : val_main_v13 (F := Ideal) x0 x1 x2 (ix2 r k) = qkva (cur x0) (cur x1 0) (paired (cur x2)) r k := by
  rw [val_main_v13_apply, qkva, proj_paired, Cert.Heads.col_of_out (by show ¬(1536 ≤ k.val ∧ k.val < 2048); omega)]
  exact (congrArg (val_main_v12 (F := Ideal) x0 x1 x2) (Shape.idx_ext₂ (by simp [idx_main_v13]) (by simp [idx_main_v13]))).trans (v12_apply x0 x1 x2 r _)

theorem v16_apply (r : Fin 8192) (k : Fin 128) :
    val_main_v16 (F := Ideal) x0 x1 x2 (ix2 r k) = proj (cur x0) (cur x1 0) (columns x2) r ⟨2176 + k.val, by omega⟩ := by
  rw [val_main_v16_apply]
  exact (congrArg (val_main_v12 (F := Ideal) x0 x1 x2) (Shape.idx_ext₂ (by simp [idx_main_v16]) (by simp [idx_main_v16]))).trans (v12_apply x0 x1 x2 r _)

theorem v17_apply (r : Fin 8192) (k : Fin 2048) : val_main_v17 (F := Ideal) x0 x1 x2 (ix2 r k) = gates (cur x0) (cur x1 0) (paired (cur x2)) r k := by
  rw [val_main_v17_apply, gates, proj_paired, Cert.Heads.col_of_out (by show ¬(1536 ≤ 2304 + k.val ∧ 2304 + k.val < 2048); omega)]
  exact (congrArg (val_main_v12 (F := Ideal) x0 x1 x2) (Shape.idx_ext₂ (by simp [idx_main_v17]) (by simp [idx_main_v17]))).trans (v12_apply x0 x1 x2 r _)

/-- Queries: an element of head `q` before the rotation. -/
theorem head8_apply (r : Fin 8192) (q : Fin 8) (d : Fin 64) :
    val_main_v18 (F := Ideal) x0 x1 x2 (ix3 r q d) = proj (cur x0) (cur x1 0) (columns x2) r ⟨1536 + (q.val * 64 + d.val), by omega⟩ := by
  rw [val_main_v18_apply, val_main_v14_apply]
  refine (congrArg (val_main_v12 (F := Ideal) x0 x1 x2) (Shape.idx_ext₂ ?_ ?_)).trans (v12_apply x0 x1 x2 r _)
  · show ((r.val * 8 + q.val) * 64 + d.val) / 512 = r.val
    omega
  · show 1536 + ((r.val * 8 + q.val) * 64 + d.val) % 512 = 1536 + (q.val * 64 + d.val)
    omega

theorem fst8_apply (r : Fin 8192) (q : Fin 8) (e : Fin 32) :
    val_main_v19 (F := Ideal) x0 x1 x2 (ix3 r q e) = proj (cur x0) (cur x1 0) (columns x2) r ⟨1536 + (q.val * 64 + e.val), by omega⟩ := by
  rw [val_main_v19_apply, show (idx_main_v19 (ix3 r q e) : S8192x8x64.Idx) = ix3 r q (⟨e.val, by omega⟩ : Fin 64) from idx_ext3 rfl rfl rfl]
  exact head8_apply x0 x1 x2 r q _

theorem snd8_apply (r : Fin 8192) (q : Fin 8) (e : Fin 32) :
    val_main_v20 (F := Ideal) x0 x1 x2 (ix3 r q e) = proj (cur x0) (cur x1 0) (columns x2) r ⟨1536 + (q.val * 64 + (e.val + 32)), by omega⟩ := by
  rw [val_main_v20_apply, show (idx_main_v20 (ix3 r q e) : S8192x8x64.Idx) = ix3 r q (⟨e.val + 32, by omega⟩ : Fin 64) from
    idx_ext3 rfl rfl (Nat.add_comm 32 e.val)]
  exact head8_apply x0 x1 x2 r q _

theorem cos8_apply (r : Fin 8192) (q : Fin 8) (e : Fin 32) : val_main_v23 (F := Ideal) x3 (ix3 r q e) = cur x3 r e := by
  rw [val_main_v23_apply, val_main_v21_apply]
  exact congrArg x3 (Shape.idx_ext₂ rfl rfl)

theorem sin8_apply (r : Fin 8192) (q : Fin 8) (e : Fin 32) : val_main_v25 (F := Ideal) x4 (ix3 r q e) = cur x4 r e := by
  rw [val_main_v25_apply, val_main_v22_apply]
  exact congrArg x4 (Shape.idx_ext₂ rfl rfl)

/-- Queries: an element of head `q` after it. -/
theorem turned8_apply (r : Fin 8192) (q : Fin 8) (d : Fin 64) :
    val_main_v33 (F := Ideal) x0 x1 x2 x3 x4 (ix3 r q d)
      = turn (fun e => proj (cur x0) (cur x1 0) (columns x2) r ⟨1536 + (q.val * 64 + e.val), by omega⟩) (cur x3 r) (cur x4 r) d := by
  unfold turn val_main_v33
  by_cases hd : d.val < 32
  · rw [dif_pos hd]
    refine (heads_fst _ _ _ r q d ⟨d.val, hd⟩ rfl).trans ?_
    exact congrArg₂ (fun a b : EReal => a - b) (congrArg₂ (fun a b : EReal => a * b) (fst8_apply x0 x1 x2 r q _) (cos8_apply x3 r q _))
      (congrArg₂ (fun a b : EReal => a * b) (snd8_apply x0 x1 x2 r q _) (sin8_apply x4 r q _))
  · rw [dif_neg hd]
    refine (heads_snd _ _ _ r q d ⟨d.val - 32, by omega⟩ (by show d.val = d.val - 32 + 32; omega)).trans ?_
    refine (congrArg₂ (fun a b : EReal => a + b) (congrArg₂ (fun a b : EReal => a * b) (snd8_apply x0 x1 x2 r q _) (cos8_apply x3 r q _))
      (congrArg₂ (fun a b : EReal => a * b) (fst8_apply x0 x1 x2 r q _) (sin8_apply x4 r q _))).trans ?_
    have e : (⟨1536 + (q.val * 64 + (d.val - 32 + 32)), by omega⟩ : Fin 4352) = ⟨1536 + (q.val * 64 + d.val), by omega⟩ :=
      Fin.ext (by show 1536 + (q.val * 64 + (d.val - 32 + 32)) = 1536 + (q.val * 64 + d.val); omega)
    exact congrArg (fun k => proj (cur x0) (cur x1 0) (columns x2) r k * _ + _) e

/-- Keys: an element of head `q` before the rotation. -/
theorem head2_apply (r : Fin 8192) (q : Fin 2) (d : Fin 64) :
    val_main_v34 (F := Ideal) x0 x1 x2 (ix3 r q d) = proj (cur x0) (cur x1 0) (columns x2) r ⟨2048 + (q.val * 64 + d.val), by omega⟩ := by
  rw [val_main_v34_apply, val_main_v15_apply]
  refine (congrArg (val_main_v12 (F := Ideal) x0 x1 x2) (Shape.idx_ext₂ ?_ ?_)).trans (v12_apply x0 x1 x2 r _)
  · show ((r.val * 2 + q.val) * 64 + d.val) / 128 = r.val
    omega
  · show 2048 + ((r.val * 2 + q.val) * 64 + d.val) % 128 = 2048 + (q.val * 64 + d.val)
    omega

theorem fst2_apply (r : Fin 8192) (q : Fin 2) (e : Fin 32) :
    val_main_v35 (F := Ideal) x0 x1 x2 (ix3 r q e) = proj (cur x0) (cur x1 0) (columns x2) r ⟨2048 + (q.val * 64 + e.val), by omega⟩ := by
  rw [val_main_v35_apply, show (idx_main_v35 (ix3 r q e) : S8192x2x64.Idx) = ix3 r q (⟨e.val, by omega⟩ : Fin 64) from idx_ext3 rfl rfl rfl]
  exact head2_apply x0 x1 x2 r q _

theorem snd2_apply (r : Fin 8192) (q : Fin 2) (e : Fin 32) :
    val_main_v36 (F := Ideal) x0 x1 x2 (ix3 r q e) = proj (cur x0) (cur x1 0) (columns x2) r ⟨2048 + (q.val * 64 + (e.val + 32)), by omega⟩ := by
  rw [val_main_v36_apply, show (idx_main_v36 (ix3 r q e) : S8192x2x64.Idx) = ix3 r q (⟨e.val + 32, by omega⟩ : Fin 64) from
    idx_ext3 rfl rfl (Nat.add_comm 32 e.val)]
  exact head2_apply x0 x1 x2 r q _

theorem cos2_apply (r : Fin 8192) (q : Fin 2) (e : Fin 32) : val_main_v39 (F := Ideal) x3 (ix3 r q e) = cur x3 r e := by
  rw [val_main_v39_apply, val_main_v37_apply]
  exact congrArg x3 (Shape.idx_ext₂ rfl rfl)

theorem sin2_apply (r : Fin 8192) (q : Fin 2) (e : Fin 32) : val_main_v41 (F := Ideal) x4 (ix3 r q e) = cur x4 r e := by
  rw [val_main_v41_apply, val_main_v38_apply]
  exact congrArg x4 (Shape.idx_ext₂ rfl rfl)

/-- Keys: an element of head `q` after it. -/
theorem turned2_apply (r : Fin 8192) (q : Fin 2) (d : Fin 64) :
    val_main_v49 (F := Ideal) x0 x1 x2 x3 x4 (ix3 r q d)
      = turn (fun e => proj (cur x0) (cur x1 0) (columns x2) r ⟨2048 + (q.val * 64 + e.val), by omega⟩) (cur x3 r) (cur x4 r) d := by
  unfold turn val_main_v49
  by_cases hd : d.val < 32
  · rw [dif_pos hd]
    refine (heads_fst _ _ _ r q d ⟨d.val, hd⟩ rfl).trans ?_
    exact congrArg₂ (fun a b : EReal => a - b) (congrArg₂ (fun a b : EReal => a * b) (fst2_apply x0 x1 x2 r q _) (cos2_apply x3 r q _))
      (congrArg₂ (fun a b : EReal => a * b) (snd2_apply x0 x1 x2 r q _) (sin2_apply x4 r q _))
  · rw [dif_neg hd]
    refine (heads_snd _ _ _ r q d ⟨d.val - 32, by omega⟩ (by show d.val = d.val - 32 + 32; omega)).trans ?_
    refine (congrArg₂ (fun a b : EReal => a + b) (congrArg₂ (fun a b : EReal => a * b) (snd2_apply x0 x1 x2 r q _) (cos2_apply x3 r q _))
      (congrArg₂ (fun a b : EReal => a * b) (fst2_apply x0 x1 x2 r q _) (sin2_apply x4 r q _))).trans ?_
    have e : (⟨2048 + (q.val * 64 + (d.val - 32 + 32)), by omega⟩ : Fin 4352) = ⟨2048 + (q.val * 64 + d.val), by omega⟩ :=
      Fin.ext (by show 2048 + (q.val * 64 + (d.val - 32 + 32)) = 2048 + (q.val * 64 + d.val); omega)
    exact congrArg (fun k => proj (cur x0) (cur x1 0) (columns x2) r k * _ + _) e

theorem v53_apply (r : Fin 8192) (k : Fin 512) :
    val_main_v53 (F := Ideal) x0 x1 x2 x3 x4 (ix2 r k) = qb (cur x0) (cur x1 0) (paired (cur x2)) (cur x3) (cur x4) r k := by
  have hk := k.isLt
  rw [val_main_v53_apply, val_main_v52_apply, val_main_v51_apply]
  refine (congrArg (val_main_v33 (F := Ideal) x0 x1 x2 x3 x4) (idx_ext3 (j := ix3 r (⟨k.val / 64 % 2 * 4 + k.val / 128, by omega⟩ : Fin 8)
      (⟨k.val % 64, by omega⟩ : Fin 64)) ?_ ?_ ?_)).trans ((turned8_apply x0 x1 x2 x3 x4 r _ _).trans ?_)
  all_goals
    have e1 : (r.val * 512 + k.val) / 512 = r.val := by omega
    have e2 : (r.val * 512 + k.val) / 128 % 4 = k.val / 128 := by omega
    have e3 : (r.val * 512 + k.val) / 64 % 2 = k.val / 64 % 2 := by omega
    have e4 : (r.val * 512 + k.val) % 64 = k.val % 64 := by omega
  · show ((((r.val * 512 + k.val) / 512 * 2 + (r.val * 512 + k.val) / 64 % 2) * 4 + (r.val * 512 + k.val) / 128 % 4) * 64 + (r.val * 512 + k.val) % 64) / 512 = r.val
    rw [e1, e2, e3, e4]; omega
  · show ((((r.val * 512 + k.val) / 512 * 2 + (r.val * 512 + k.val) / 64 % 2) * 4 + (r.val * 512 + k.val) / 128 % 4) * 64 + (r.val * 512 + k.val) % 64) / 64 % 8
      = k.val / 64 % 2 * 4 + k.val / 128
    rw [e1, e2, e3, e4]; omega
  · show ((((r.val * 512 + k.val) / 512 * 2 + (r.val * 512 + k.val) / 64 % 2) * 4 + (r.val * 512 + k.val) / 128 % 4) * 64 + (r.val * 512 + k.val) % 64) % 64 = k.val % 64
    rw [e1, e2, e3, e4]; omega
  refine congrArg (fun y => turn y (cur x3 r) (cur x4 r) _) (funext fun d => ?_)
  rw [proj_paired, Cert.Heads.col_of_in (⟨k.val / 64 * 64 + d.val, by omega⟩ : Fin 512) rfl]
  refine congrArg (proj _ _ _ r) (Fin.ext ?_)
  show 1536 + ((k.val / 64 % 2 * 4 + k.val / 128) * 64 + d.val)
    = 1536 + ((k.val / 64 * 64 + d.val) / 64 % 2 * 256 + (k.val / 64 * 64 + d.val) / 128 * 64 + (k.val / 64 * 64 + d.val) % 64)
  omega

theorem v54_apply (r : Fin 8192) (k : Fin 256) :
    val_main_v54 (F := Ideal) x0 x1 x2 x3 x4 (ix2 r k) = kvb (cur x0) (cur x1 0) (paired (cur x2)) (cur x3) (cur x4) r k := by
  unfold val_main_v54 kvb
  by_cases hk : k.val < 128
  · rw [if_pos hk]
    refine (beside_fst _ _ _ r k ⟨k.val, hk⟩ rfl).trans ?_
    rw [val_main_v50_apply]
    refine (congrArg (val_main_v49 (F := Ideal) x0 x1 x2 x3 x4) (idx_ext3 (j := ix3 r (⟨k.val / 64, by omega⟩ : Fin 2)
      (⟨k.val % 64, by omega⟩ : Fin 64)) ?_ ?_ ?_)).trans ((turned2_apply x0 x1 x2 x3 x4 r _ _).trans ?_)
    · show (r.val * 128 + k.val) / 128 = r.val
      omega
    · show (r.val * 128 + k.val) / 64 % 2 = k.val / 64
      omega
    · show (r.val * 128 + k.val) % 64 = k.val % 64
      omega
    refine congrArg (fun y => turn y (cur x3 r) (cur x4 r) _) (funext fun d => ?_)
    rw [proj_paired, Cert.Heads.col_of_out (by show ¬(1536 ≤ 2048 + (k.val / 64 * 64 + d.val) ∧ 2048 + (k.val / 64 * 64 + d.val) < 2048); omega)]
  · rw [if_neg hk]
    refine (beside_snd _ _ _ r k ⟨k.val - 128, by omega⟩ (by show k.val = k.val - 128 + 128; omega)).trans ((v16_apply x0 x1 x2 r _).trans ?_)
    rw [proj_paired, Cert.Heads.col_of_out (by show ¬(1536 ≤ 2048 + k.val ∧ 2048 + k.val < 2048); omega)]
    exact congrArg (proj _ _ _ r) (Fin.ext (by show 2176 + (k.val - 128) = 2048 + k.val; omega))

end Cert.Reference10Ideal.MixIn

/-! ## The claims -/

namespace Cert.MixInFwdClaims

open Cert.Kernel10Ideal.MixIn

theorem frame_kernel : Cert.quiescent_Kernel10 := fun m ρ _ => Cert.Kernel10.Gen.frame m ρ
theorem frame_ideal : Cert.quiescent_Kernel10Ideal := fun m ρ _ => Cert.Kernel10Ideal.Gen.frame m ρ
/-- The reference's run read at the arguments; it declares no semaphore. -/
theorem frame_reference : Cert.quiescent_Reference10Ideal := fun m ρ _ =>
  (θ_run Cert.Reference10Ideal.defs _ _).mono (fun r h => ⟨fun c => (h c).2.2.2.2.2, sem_eq_zero_of_no_sems (by decide) r.2⟩)
    (Cert.Reference10Ideal.Value.run (F := Ideal) m ρ)

/-- The kernel's five results and the reference's are equal as extended reals, on every memory. -/
theorem algebraic : Cert.algebraic_Kernel10Ideal_Reference10Ideal := fun m g m' g' _ hm =>
  ⟨fun c => G6 m c, fun c => G7 m c, fun c => G8 m c, fun c => G9 m c, fun c => G10 m c, run_eq m g,
    (θ_run Cert.Reference10Ideal.defs _ _).mono (fun r h c => by
      obtain ⟨h0, h1, h2, h3, h4, hargs⟩ := h c
      obtain ⟨e0, e1, e2, e3, e4⟩ := hm c
      refine ⟨h0.trans ((Cert.Reference10Ideal.Read.val_main_v55_eq _ _).trans (funext fun i => ?_)),
        h1.trans ((Cert.Reference10Ideal.Read.val_main_v56_eq _ _ _).trans (funext fun i => ?_)),
        h2.trans ((Cert.Reference10Ideal.Read.val_main_v57_eq m' c).trans (funext fun i => ?_)),
        h3.trans ((Cert.Reference10Ideal.Read.val_main_v58_eq m' c).trans (funext fun i => ?_)),
        h4.trans ((Cert.Reference10Ideal.Read.val_main_v17_eq _ _ _).trans (funext fun i => ?_)), hargs⟩
      · rw [e0, e1, ValueIdx.eq_ix2 i]
        exact Cert.Reference10Ideal.MixIn.v11_apply _ _ (i 0) (i 1)
      · rw [e0, e1, e2, ValueIdx.eq_ix2 i]
        exact Cert.Reference10Ideal.MixIn.v13_apply _ _ _ (i 0) (i 1)
      · rw [e0, e1, e2, e3, e4, ValueIdx.eq_ix2 i]
        exact Cert.Reference10Ideal.MixIn.v53_apply _ _ _ _ _ (i 0) (i 1)
      · rw [e0, e1, e2, e3, e4, ValueIdx.eq_ix2 i]
        exact Cert.Reference10Ideal.MixIn.v54_apply _ _ _ _ _ (i 0) (i 1)
      · rw [e0, e1, e2, ValueIdx.eq_ix2 i]
        exact Cert.Reference10Ideal.MixIn.v17_apply _ _ _ (i 0) (i 1))
      (Cert.Reference10Ideal.Value.run (F := Ideal) m' g')⟩

end Cert.MixInFwdClaims

end
-- ==== Proof.MixInBwdReference.lean ====
/-
  The reference of the two mixers' entry backwards, read step by step.

  A row of the combined projection's cotangent holds mixer A's queries, keys and values, mixer B's queries and keys turned back,
  its values, and the gates. `Cert.MixInBwdSpec.dz` states it in the order in which the kernels hold the columns; the reference
  computes it with the queries in head order. The gradients of the row and of the gain come from its product with the weight; the
  reference differentiates the scale, and `Cert.MixInBwdSpec.through_eq` says that this is the projection of the gradient off the
  scaled row, whatever the arguments are.
-/
module

public import proofs.«01_k».proof.Proof.FfnSpec
public import proofs.«01_k».proof.Proof.Turn
public import proofs.«01_k».proof.Proof.Gen.Reference8Ideal.Read
public import Idealize.ShloMosaic.Lib.KernelVsHost

@[expose] public section

noncomputable section

open Idealize.ShloMosaic Idealize.ShloMosaic.TcCoe Idealize.SL.Sem Idealize.ShloMosaic.ValueIdx
open scoped BigOperators

/-! ## The cotangent of the combined projection -/

namespace Cert.MixInBwdSpec

open Cert.Turn Cert.Heads Cert.FfnSpec

/-- What the rows of the cotangent are made of. -/
structure Cots (M : ℕ) where
  qa : Fin M → Fin 512 → EReal
  ka : Fin M → Fin 512 → EReal
  va : Fin M → Fin 512 → EReal
  qb : Fin M → Fin 512 → EReal
  kb : Fin M → Fin 128 → EReal
  vb : Fin M → Fin 128 → EReal
  gates : Fin M → Fin 2048 → EReal
  cos : Fin M → Fin 32 → EReal
  sin : Fin M → Fin 32 → EReal

/-- The same of some of the rows. -/
def Cots.rows {M K : ℕ} (X : Cots M) (f : Fin K → Fin M) : Cots K :=
  ⟨fun r => X.qa (f r), fun r => X.ka (f r), fun r => X.va (f r), fun r => X.qb (f r), fun r => X.kb (f r), fun r => X.vb (f r),
    fun r => X.gates (f r), fun r => X.cos (f r), fun r => X.sin (f r)⟩

variable {M : ℕ} (X : Cots M)

/-- Mixer B's queries, each head turned back. -/
def qback (r : Fin M) (k : Fin 512) : EReal :=
  turnBack (fun d => X.qb r ⟨k.val / 64 * 64 + d.val, by omega⟩) (X.cos r) (X.sin r) ⟨k.val % 64, Nat.mod_lt _ (by omega)⟩
/-- Mixer B's keys, each head turned back. -/
def kback (r : Fin M) (k : Fin 128) : EReal :=
  turnBack (fun d => X.kb r ⟨k.val / 64 * 64 + d.val, by omega⟩) (X.cos r) (X.sin r) ⟨k.val % 64, Nat.mod_lt _ (by omega)⟩

/-- A row of the cotangent, mixer B's queries in pair order. -/
def dz (r : Fin M) (k : Fin 4352) : EReal :=
  if h : k.val < 512 then X.qa r ⟨k.val, h⟩
  else if h : k.val < 1024 then X.ka r ⟨k.val - 512, by omega⟩
  else if h : k.val < 1536 then X.va r ⟨k.val - 1024, by omega⟩
  else if h : k.val < 2048 then qback X r ⟨k.val - 1536, by omega⟩
  else if h : k.val < 2176 then kback X r ⟨k.val - 2048, by omega⟩
  else if h : k.val < 2304 then X.vb r ⟨k.val - 2176, by omega⟩
  else X.gates r ⟨k.val - 2304, by omega⟩

/-! The cotangent on each of its parts. -/

theorem dz_qa (r : Fin M) (k : Fin 4352) (j : Fin 512) (h : k.val = j.val) : dz X r k = X.qa r j := by
  have hj := j.isLt
  unfold dz
  rw [dif_pos (by omega)]
  exact congrArg _ (Fin.ext h)
theorem dz_ka (r : Fin M) (k : Fin 4352) (j : Fin 512) (h : k.val = 512 + j.val) : dz X r k = X.ka r j := by
  have hj := j.isLt
  unfold dz
  rw [dif_neg (by omega), dif_pos (by omega)]
  exact congrArg _ (Fin.ext (by dsimp only; omega))
theorem dz_va (r : Fin M) (k : Fin 4352) (j : Fin 512) (h : k.val = 1024 + j.val) : dz X r k = X.va r j := by
  have hj := j.isLt
  unfold dz
  rw [dif_neg (by omega), dif_neg (by omega), dif_pos (by omega)]
  exact congrArg _ (Fin.ext (by dsimp only; omega))
theorem dz_qb (r : Fin M) (k : Fin 4352) (j : Fin 512) (h : k.val = 1536 + j.val) : dz X r k = qback X r j := by
  have hj := j.isLt
  unfold dz
  rw [dif_neg (by omega), dif_neg (by omega), dif_neg (by omega), dif_pos (by omega)]
  exact congrArg _ (Fin.ext (by dsimp only; omega))
theorem dz_kb (r : Fin M) (k : Fin 4352) (j : Fin 128) (h : k.val = 2048 + j.val) : dz X r k = kback X r j := by
  have hj := j.isLt
  unfold dz
  rw [dif_neg (by omega), dif_neg (by omega), dif_neg (by omega), dif_neg (by omega), dif_pos (by omega)]
  exact congrArg _ (Fin.ext (by dsimp only; omega))
theorem dz_vb (r : Fin M) (k : Fin 4352) (j : Fin 128) (h : k.val = 2176 + j.val) : dz X r k = X.vb r j := by
  have hj := j.isLt
  unfold dz
  rw [dif_neg (by omega), dif_neg (by omega), dif_neg (by omega), dif_neg (by omega), dif_neg (by omega), dif_pos (by omega)]
  exact congrArg _ (Fin.ext (by dsimp only; omega))
theorem dz_gates (r : Fin M) (k : Fin 4352) (j : Fin 2048) (h : k.val = 2304 + j.val) : dz X r k = X.gates r j := by
  have hj := j.isLt
  unfold dz
  rw [dif_neg (by omega), dif_neg (by omega), dif_neg (by omega), dif_neg (by omega), dif_neg (by omega), dif_neg (by omega)]
  exact congrArg _ (Fin.ext (by dsimp only; omega))

/-! ### The gradients -/

/-- The product of the cotangent, in the kernels' order, with the weight: the gradient with respect to the normalised row. -/
def dn (w : Fin 1024 → Fin 4352 → EReal) (r : Fin M) (c : Fin 1024) : EReal := ∑ k, dz X r k * w c (col k)

/-- The mean of a row's squares with the small constant added. -/
def rowMean (h : Fin 1024 → EReal) : EReal := Ideal.div (∑ k, h k * h k) ((1024 : ℝ) : EReal) + (eps : EReal)
/-- The row's scale, the reciprocal root of that mean. -/
def rowScale (h : Fin 1024 → EReal) : EReal := Ideal.rsqrt (rowMean h)
/-- The scaled row. -/
def rowHat (h : Fin 1024 → EReal) (c : Fin 1024) : EReal := h c * rowScale h
/-- The gradient through the scaling, from the gradient `A` with respect to the scaled row. -/
def through (A h : Fin 1024 → EReal) (c : Fin 1024) : EReal :=
  rowScale h * (A c - rowHat h c * Ideal.div (∑ k, A k * rowHat h k) ((1024 : ℝ) : EReal))
/-- The gradient with respect to the row, from the gradient `D` with respect to the normalised row; `d` is the cotangent that goes
    past. -/
def dRow (D h d : Fin M → Fin 1024 → EReal) (g : Fin 1024 → EReal) (r : Fin M) (c : Fin 1024) : EReal :=
  d r c + through (fun k => D r k * g k) (h r) c
/-- The gradient with respect to the gain, from the gradient with respect to the normalised row. -/
def dGain (D h : Fin M → Fin 1024 → EReal) (c : Fin 1024) : EReal := ∑ r, D r c * rowHat (h r) c

/-- A nonnegative real distributes over a sum of extended reals. -/
theorem coe_mul_sum {ι : Type*} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- Two like terms make twice one of them. -/
theorem mul_add_self (S : EReal) (q : ℝ) : S * (q : EReal) + S * (q : EReal) = S * ((q + q : ℝ) : EReal) := by
  have two : ∀ x : EReal, x + x = x * ((2 : ℝ) : EReal) := fun x => by
    induction x with
    | bot => rw [EReal.bot_mul_coe_of_pos (by norm_num)]; rfl
    | top => rw [EReal.top_mul_coe_of_pos (by norm_num)]; rfl
    | coe x => rw [← EReal.coe_add, ← EReal.coe_mul, mul_two]
  rw [two, mul_assoc, ← EReal.coe_mul, mul_two]

theorem square_nonneg (x : EReal) : 0 ≤ x * x := by
  induction x with
  | bot => rw [EReal.bot_mul_bot]; exact le_top
  | top => rw [EReal.top_mul_top]; exact le_top
  | coe x => rw [← EReal.coe_mul]; exact_mod_cast mul_self_nonneg x

/-- The mean of a row of reals is a positive real. -/
theorem rowMean_coe (x : Fin 1024 → ℝ) : rowMean (fun k => (x k : EReal)) = ((meanSq (M := 1) (fun _ => x) 0 : ℝ) : EReal) := by
  unfold rowMean
  rw [sum_eq_coe (f := fun k => x k * x k) fun k => (EReal.coe_mul _ _).symm, div_real _ _ (by norm_num), ← EReal.coe_add]
  rfl

/-- The scale of a row with an infinite value is zero. -/
theorem rowMean_top {h : Fin 1024 → EReal} (i : Fin 1024) (hi : h i * h i = ⊤) : rowMean h = ⊤ := by
  have e : ∑ k, h k * h k = ⊤ := top_le_iff.mp (hi ▸ Finset.single_le_sum (f := fun k => h k * h k) (fun k _ => square_nonneg _) (Finset.mem_univ i))
  unfold rowMean
  rw [e, Ideal.div_coe (by norm_num), EReal.top_mul_coe_of_pos (by norm_num), EReal.top_add_coe]

/-- The gradient through the scaling as the derivative of the scale has it: the row's own term, and twice the term through the mean
    of squares. -/
theorem through_eq (A h : Fin 1024 → EReal) (c : Fin 1024) :
    through A h c = A c * rowScale h
      + h c * Ideal.div ((∑ k, h k * A k) * (((-(1 / 2) : ℝ) : EReal) * Ideal.div (rowScale h) (rowMean h))) ((1024 : ℝ) : EReal)
      + Ideal.div ((∑ k, h k * A k) * (((-(1 / 2) : ℝ) : EReal) * Ideal.div (rowScale h) (rowMean h))) ((1024 : ℝ) : EReal) * h c := by
  by_cases H : ∃ i, h i * h i = ⊤
  · obtain ⟨i, hi⟩ := H
    have hm := rowMean_top i hi
    have hs : rowScale h = 0 := by unfold rowScale; rw [hm]; rfl
    have hd : Ideal.div (0 : EReal) ⊤ = 0 := by rw [Ideal.div, if_neg EReal.top_ne_zero, zero_mul]
    unfold through
    rw [hs, hm, hd]
    simp only [Ideal.div_coe (show (1024 : ℝ) ≠ 0 by norm_num), mul_zero, zero_mul, add_zero]
  · have hr : ∀ k, ∃ x : ℝ, h k = (x : EReal) := fun k => by
      rcases hk : h k with _ | _ | x
      · exact absurd ⟨k, by rw [hk]; exact EReal.bot_mul_bot⟩ H
      · exact absurd ⟨k, by rw [hk]; exact EReal.top_mul_top⟩ H
      · exact ⟨x, rfl⟩
    choose x hx using hr
    obtain rfl : h = fun k => (x k : EReal) := funext hx
    have hmp : 0 < meanSq (M := 1) (fun _ => x) 0 := meanSq_pos _ _
    have hsq := scale_sq (M := 1) (fun _ => x) 0
    have hs : rowScale (fun k => (x k : EReal)) = ((scale (M := 1) (fun _ => x) 0 : ℝ) : EReal) := by
      unfold rowScale; rw [rowMean_coe]; exact rsqrt_real _ hmp
    have hs0 : 0 ≤ scale (M := 1) (fun _ => x) 0 := inv_nonneg.mpr (Real.sqrt_nonneg _)
    unfold through rowHat
    rw [hs, rowMean_coe]
    beta_reduce
    generalize meanSq (M := 1) (fun _ => x) 0 = m at *
    generalize scale (M := 1) (fun _ => x) 0 = s at *
    have hsm : s / m = s * (s * s) := by rw [div_eq_iff hmp.ne', mul_assoc, hsq, mul_one]
    have hsum : ∑ k, A k * ((x k : EReal) * (s : EReal)) = (s : EReal) * ∑ k, (x k : EReal) * A k := by
      rw [coe_mul_sum _ s hs0]
      exact Finset.sum_congr rfl fun k _ => by rw [mul_comm (s : EReal), mul_comm (x k : EReal) (A k), mul_assoc]
    rw [hsum, div_real _ _ hmp.ne', Ideal.div_coe (by norm_num), Ideal.div_coe (by norm_num), hsm]
    generalize (∑ k, (x k : EReal) * A k) = S
    generalize hκ : (1 / 1024 : ℝ) = κ
    rw [sub_eq_add_neg, EReal.left_distrib_of_nonneg_of_ne_top (by exact_mod_cast hs0) (EReal.coe_ne_top s), mul_comm (s : EReal) (A c), add_assoc]
    refine congrArg (A c * (s : EReal) + ·) ?_
    have e1 : (s : EReal) * -((x c : EReal) * (s : EReal) * ((s : EReal) * S * (κ : EReal))) = S * ((-(s * x c * s * s * κ) : ℝ) : EReal) := by
      rw [EReal.coe_neg, mul_neg, mul_neg]
      simp only [EReal.coe_mul]
      ac_rfl
    have e2 : S * (((-(1 / 2) : ℝ) : EReal) * ((s * (s * s) : ℝ) : EReal)) * (κ : EReal) = S * ((-(1 / 2) * (s * (s * s)) * κ : ℝ) : EReal) := by
      rw [← EReal.coe_mul, mul_assoc, ← EReal.coe_mul]
    have e3 : ∀ a : ℝ, S * (a : EReal) * (x c : EReal) = S * ((a * x c : ℝ) : EReal) := fun a => by rw [mul_assoc, ← EReal.coe_mul]
    rw [e1, e2, mul_comm (x c : EReal), e3, mul_add_self]
    congr 2
    ring

end Cert.MixInBwdSpec

/-! ## The reference -/

namespace Cert.Reference8Ideal.MixInBwd

open Cert.Reference8Ideal Cert.Reference8Ideal.Gen Cert.Reference8Ideal.Read Cert.FfnSpec Cert.Basics Cert.MixInBwdSpec Cert.Turn Cert.Heads

/-- Two halves of every head padded to whole heads and added. -/
theorem padded {M H : ℕ} {S : Shape} (u w : (⟨3, ![M, H, 32]⟩ : Shape).Idx → EReal) (v v' : S.Idx → EReal) (hv : ∀ i, v i = 0) (hv' : ∀ i, v' i = 0)
    (h₁ : (⟨3, ![M, H, 32]⟩ : Shape).Pads ![0, 0, 32] ![0, 0, 0] ![0, 0, 0] ⟨3, ![M, H, 64]⟩)
    (h₂ : (⟨3, ![M, H, 32]⟩ : Shape).Pads ![0, 0, 0] ![0, 0, 32] ![0, 0, 0] ⟨3, ![M, H, 64]⟩) (hu hu' : 0 < S.numel)
    (r : Fin M) (q : Fin H) (d : Fin 64) :
    pad ⟨3, ![M, H, 64]⟩ ![0, 0, 32] ![0, 0, 0] ![0, 0, 0] u v h₁ hu (ix3 r q d) + pad ⟨3, ![M, H, 64]⟩ ![0, 0, 0] ![0, 0, 32] ![0, 0, 0] w v' h₂ hu' (ix3 r q d)
      = if h : d.val < 32 then w (ix3 r q ⟨d.val, h⟩) else u (ix3 r q ⟨d.val - 32, by omega⟩) := by
  have hd := d.isLt
  by_cases h : d.val < 32
  · rw [dif_pos h]
    refine (congrArg₂ (· + ·) ((pad_apply_of_not_inside _ _ _ u v h₁ hu (ix3 r q d) 2 (fun hh => ?_)).trans (hv _))
      (pad_apply_of_inside _ _ _ w v' h₂ hu' (ix3 r q d) (ix3 r q ⟨d.val, h⟩) (fun a => match a with
        | ⟨0, _⟩ => by show r.val = 0 + r.val * (0 + 1); omega
        | ⟨1, _⟩ => by show q.val = 0 + q.val * (0 + 1); omega
        | ⟨2, _⟩ => by show d.val = 0 + d.val * (0 + 1); omega))).trans (zero_add _)
    have h32 : 32 ≤ d.val := hh.1
    omega
  · rw [dif_neg h]
    refine (congrArg₂ (· + ·) (pad_apply_of_inside _ _ _ u v h₁ hu (ix3 r q d) (ix3 r q ⟨d.val - 32, by omega⟩) (fun a => match a with
        | ⟨0, _⟩ => by show r.val = 0 + r.val * (0 + 1); omega
        | ⟨1, _⟩ => by show q.val = 0 + q.val * (0 + 1); omega
        | ⟨2, _⟩ => by show d.val = 32 + (d.val - 32) * (0 + 1); omega))
      ((pad_apply_of_not_inside _ _ _ w v' h₂ hu' (ix3 r q d) 2 (fun hh => ?_)).trans (hv' _))).trans (add_zero _)
    have h32 : (d.val - 0) / (0 + 1) < 32 := hh.2.2
    omega

variable (x0 : Vec Ideal S8192x512 .bf16) (x1 x2 x3 : Vec Ideal S8192x512 .f32) (x4 x5 : Vec Ideal S8192x128 .f32) (x6 : Vec Ideal S8192x2048 .bf16)
  (x7 : Vec Ideal S8192x1024 .f32) (x8 : Vec Ideal S1x1024 .f32) (x9 : Vec Ideal S8192x1024 .f32) (x10 : Vec Ideal S1024x4352 .f32)
  (x11 x12 : Vec Ideal S8192x32 .f32)

/-- The cotangents by their coordinates. -/
abbrev cots : Cots 8192 := ⟨fun r k => x0 (ix2 r k), fun r k => x1 (ix2 r k), fun r k => x2 (ix2 r k), fun r k => x3 (ix2 r k),
  fun r k => x4 (ix2 r k), fun r k => x5 (ix2 r k), fun r k => x6 (ix2 r k), fun r k => x11 (ix2 r k), fun r k => x12 (ix2 r k)⟩

/-! ### The keys -/

theorem keys_apply (r : Fin 8192) (q : Fin 2) (d : Fin 64) :
    val_main_v58 (F := Ideal) x4 (ix3 r q d) = x4 (ix2 r ⟨q.val * 64 + d.val, by omega⟩) :=
  shapeCast_apply x4 _ (ix3 r q d) (ix2 r ⟨q.val * 64 + d.val, by omega⟩) (by
    rewrite [Shape.rowMajor_val_two, Shape.rowMajor_val_three]
    show r.val * 128 + (q.val * 64 + d.val) = (r.val * 2 + q.val) * 64 + d.val
    omega)
theorem keysFst_apply (r : Fin 8192) (q : Fin 2) (e : Fin 32) :
    val_main_v60 (F := Ideal) x4 (ix3 r q e) = x4 (ix2 r ⟨q.val * 64 + e.val, by omega⟩) :=
  (extractStridedSlice_apply ![0, 0, 0] _ slices_S8192x2x64_S8192x2x32_0_0_0 (ix3 r q e) (ix3 r q (⟨e.val, by omega⟩ : Fin 64)) (fun a => match a with
    | ⟨0, _⟩ => by show r.val = 0 + r.val; omega
    | ⟨1, _⟩ => by show q.val = 0 + q.val; omega
    | ⟨2, _⟩ => by show e.val = 0 + e.val; omega)).trans (keys_apply x4 r q _)
theorem keysSnd_apply (r : Fin 8192) (q : Fin 2) (e : Fin 32) :
    val_main_v61 (F := Ideal) x4 (ix3 r q e) = x4 (ix2 r ⟨q.val * 64 + (32 + e.val), by omega⟩) :=
  (extractStridedSlice_apply ![0, 0, 32] _ slices_S8192x2x64_S8192x2x32_0_0_32 (ix3 r q e) (ix3 r q (⟨32 + e.val, by omega⟩ : Fin 64)) (fun a => match a with
    | ⟨0, _⟩ => by show r.val = 0 + r.val; omega
    | ⟨1, _⟩ => by show q.val = 0 + q.val; omega
    | ⟨2, _⟩ => by show 32 + e.val = 32 + e.val; omega)).trans (keys_apply x4 r q _)

/-- An angle's cosine or sine, given to every head. -/
theorem spread {H : ℕ} (y : S8192x32.Idx → EReal) (h₁ : S8192x32.BroadcastsInDim S8192x1x32 (![0, 2] : Fin 2 → Fin 3))
    (h₂ : S8192x1x32.BroadcastsInDim ⟨3, ![8192, H, 32]⟩ (![0, 1, 2] : Fin 3 → Fin 3)) (r : Fin 8192) (q : Fin H) (e : Fin 32) :
    broadcastInDim ⟨3, ![8192, H, 32]⟩ ![0, 1, 2] h₂ (broadcastInDim S8192x1x32 ![0, 2] h₁ y) (ix3 r q e) = y (ix2 r e) := by
  refine (broadcastInDim_apply _ h₂ _ _ (ix3 r (0 : Fin 1) e) (fun a => match a with
    | ⟨0, _⟩ => rfl
    | ⟨1, _⟩ => rfl
    | ⟨2, _⟩ => rfl)).trans ?_
  exact broadcastInDim_apply _ h₁ y _ (ix2 r e) (fun a => match a with
    | ⟨0, _⟩ => rfl
    | ⟨1, _⟩ => rfl)

/-- The keys turned back. -/
theorem keysBack_apply (r : Fin 8192) (k : Fin 128) :
    val_main_v76 (F := Ideal) x4 x11 x12 (ix2 r k) = kback (cots x0 x1 x2 x3 x4 x5 x6 x11 x12) r k := by
  have hk := k.isLt
  refine (shapeCast_apply (val_main_v75 (F := Ideal) x4 x11 x12) _ (ix2 r k) (ix3 r (⟨k.val / 64, by omega⟩ : Fin 2) (⟨k.val % 64, Nat.mod_lt _ (by omega)⟩ : Fin 64)) (by
    rewrite [Shape.rowMajor_val_two, Shape.rowMajor_val_three]
    show (r.val * 2 + k.val / 64) * 64 + k.val % 64 = r.val * 128 + k.val
    omega)).trans ?_
  refine (padded (val_main_v69 (F := Ideal) x4 x11 x12) (val_main_v72 (F := Ideal) x4 x11 x12) _ _ (fun _ => ofBits_zero) (fun _ => ofBits_zero) _ _ _ _ r _ _).trans ?_
  unfold kback turnBack
  by_cases h : k.val % 64 < 32
  · rw [dif_pos h, dif_pos h]
    show val_main_v61 (F := Ideal) x4 _ * val_main_v62 (F := Ideal) x12 _ + val_main_v60 (F := Ideal) x4 _ * val_main_v70 (F := Ideal) x11 _ = _
    rw [keysFst_apply, keysSnd_apply, show val_main_v62 (F := Ideal) x12 _ = _ from spread x12 _ _ r _ _,
      show val_main_v70 (F := Ideal) x11 _ = _ from spread x11 _ _ r _ _, add_comm]
    refine congrArg₂ (· + ·) rfl (congrArg (· * _) (congrArg x4 (Shape.idx_ext₂ rfl ?_)))
    show k.val / 64 * 64 + (32 + k.val % 64) = k.val / 64 * 64 + (k.val % 64 + 32)
    omega
  · rw [dif_neg h, dif_neg h]
    show val_main_v61 (F := Ideal) x4 _ * val_main_v64 (F := Ideal) x11 _ + -(val_main_v60 (F := Ideal) x4 _) * val_main_v67 (F := Ideal) x12 _ = _
    rw [keysFst_apply, keysSnd_apply, show val_main_v67 (F := Ideal) x12 _ = _ from spread x12 _ _ r _ _,
      show val_main_v64 (F := Ideal) x11 _ = _ from spread x11 _ _ r _ _, neg_mul, ← sub_eq_add_neg]
    refine congrArg₂ (fun a b : EReal => a - b) (congrArg (· * _) (congrArg x4 (Shape.idx_ext₂ rfl ?_))) rfl
    show k.val / 64 * 64 + (32 + (k.val % 64 - 32)) = k.val / 64 * 64 + k.val % 64
    omega

/-! ### The queries -/

theorem queries_apply (r : Fin 8192) (q : Fin 8) (d : Fin 64) :
    val_main_v20 (F := Ideal) x3 (ix3 r q d) = x3 (ix2 r ⟨q.val % 4 * 128 + q.val / 4 * 64 + d.val, by omega⟩) := by
  have hq := q.isLt
  refine (shapeCast_apply (val_main_v19 (F := Ideal) x3) _ (ix3 r q d) (ix4 r (⟨q.val / 4, by omega⟩ : Fin 2) (⟨q.val % 4, Nat.mod_lt _ (by omega)⟩ : Fin 4) d) (by
    rewrite [Shape.rowMajor_val_three, Shape.rowMajor_val_four]
    show ((r.val * 2 + q.val / 4) * 4 + q.val % 4) * 64 + d.val = (r.val * 8 + q.val) * 64 + d.val
    omega)).trans ?_
  refine (transpose_apply [0, 2, 1, 3] (val_main_v18 (F := Ideal) x3) transposes_S8192x4x2x64_S8192x2x4x64_0_2_1_3 _
    (ix4 r (⟨q.val % 4, Nat.mod_lt _ (by omega)⟩ : Fin 4) (⟨q.val / 4, by omega⟩ : Fin 2) d) (fun b => match b with
    | ⟨0, _⟩ => rfl
    | ⟨1, _⟩ => rfl
    | ⟨2, _⟩ => rfl
    | ⟨3, _⟩ => rfl)).trans ?_
  exact shapeCast_apply x3 _ _ (ix2 r ⟨q.val % 4 * 128 + q.val / 4 * 64 + d.val, by omega⟩) (by
    rewrite [Shape.rowMajor_val_two, Shape.rowMajor_val_four]
    show r.val * 512 + (q.val % 4 * 128 + q.val / 4 * 64 + d.val) = ((r.val * 4 + q.val % 4) * 2 + q.val / 4) * 64 + d.val
    omega)
theorem queriesFst_apply (r : Fin 8192) (q : Fin 8) (e : Fin 32) :
    val_main_v77 (F := Ideal) x3 (ix3 r q e) = x3 (ix2 r ⟨q.val % 4 * 128 + q.val / 4 * 64 + e.val, by omega⟩) :=
  (extractStridedSlice_apply ![0, 0, 0] _ slices_S8192x8x64_S8192x8x32_0_0_0 (ix3 r q e) (ix3 r q (⟨e.val, by omega⟩ : Fin 64)) (fun a => match a with
    | ⟨0, _⟩ => by show r.val = 0 + r.val; omega
    | ⟨1, _⟩ => by show q.val = 0 + q.val; omega
    | ⟨2, _⟩ => by show e.val = 0 + e.val; omega)).trans (queries_apply x3 r q _)
theorem queriesSnd_apply (r : Fin 8192) (q : Fin 8) (e : Fin 32) :
    val_main_v78 (F := Ideal) x3 (ix3 r q e) = x3 (ix2 r ⟨q.val % 4 * 128 + q.val / 4 * 64 + (32 + e.val), by omega⟩) :=
  (extractStridedSlice_apply ![0, 0, 32] _ slices_S8192x8x64_S8192x8x32_0_0_32 (ix3 r q e) (ix3 r q (⟨32 + e.val, by omega⟩ : Fin 64)) (fun a => match a with
    | ⟨0, _⟩ => by show r.val = 0 + r.val; omega
    | ⟨1, _⟩ => by show q.val = 0 + q.val; omega
    | ⟨2, _⟩ => by show 32 + e.val = 32 + e.val; omega)).trans (queries_apply x3 r q _)

/-- The queries turned back, in head order. -/
theorem queriesBack_apply (r : Fin 8192) (k : Fin 512) :
    val_main_v93 (F := Ideal) x3 x11 x12 (ix2 r k) = qback (cots x0 x1 x2 x3 x4 x5 x6 x11 x12) r (pos k) := by
  have hk := k.isLt
  have e1 : (pos k).val % 64 = k.val % 64 := by show (k.val / 64 % 4 * 128 + k.val / 256 * 64 + k.val % 64) % 64 = k.val % 64; omega
  have e2 : (pos k).val / 64 * 64 = k.val / 64 % 4 * 128 + k.val / 64 / 4 * 64 := by
    show (k.val / 64 % 4 * 128 + k.val / 256 * 64 + k.val % 64) / 64 * 64 = _; omega
  have e3 : (⟨(pos k).val % 64, Nat.mod_lt _ (by omega)⟩ : Fin 64) = ⟨k.val % 64, Nat.mod_lt _ (by omega)⟩ := Fin.ext e1
  refine (shapeCast_apply (val_main_v92 (F := Ideal) x3 x11 x12) _ (ix2 r k) (ix3 r (⟨k.val / 64, by omega⟩ : Fin 8) (⟨k.val % 64, Nat.mod_lt _ (by omega)⟩ : Fin 64)) (by
    rewrite [Shape.rowMajor_val_two, Shape.rowMajor_val_three]
    show (r.val * 8 + k.val / 64) * 64 + k.val % 64 = r.val * 512 + k.val
    omega)).trans ?_
  refine (padded (val_main_v86 (F := Ideal) x3 x11 x12) (val_main_v89 (F := Ideal) x3 x11 x12) _ _ (fun _ => ofBits_zero) (fun _ => ofBits_zero) _ _ _ _ r _ _).trans ?_
  unfold qback turnBack
  rw [e3]
  by_cases h : k.val % 64 < 32
  · rw [dif_pos h, dif_pos h]
    show val_main_v78 (F := Ideal) x3 _ * val_main_v79 (F := Ideal) x12 _ + val_main_v77 (F := Ideal) x3 _ * val_main_v87 (F := Ideal) x11 _ = _
    rw [queriesFst_apply, queriesSnd_apply, show val_main_v79 (F := Ideal) x12 _ = _ from spread x12 _ _ r _ _,
      show val_main_v87 (F := Ideal) x11 _ = _ from spread x11 _ _ r _ _, add_comm]
    refine congrArg₂ (· + ·) (congrArg (· * _) (congrArg x3 (Shape.idx_ext₂ rfl ?_))) (congrArg (· * _) (congrArg x3 (Shape.idx_ext₂ rfl ?_)))
    · show k.val / 64 % 4 * 128 + k.val / 64 / 4 * 64 + k.val % 64 = (pos k).val / 64 * 64 + k.val % 64
      rw [e2]
    · show k.val / 64 % 4 * 128 + k.val / 64 / 4 * 64 + (32 + k.val % 64) = (pos k).val / 64 * 64 + (k.val % 64 + 32)
      rw [e2]; omega
  · rw [dif_neg h, dif_neg h]
    show val_main_v78 (F := Ideal) x3 _ * val_main_v81 (F := Ideal) x11 _ + -(val_main_v77 (F := Ideal) x3 _) * val_main_v84 (F := Ideal) x12 _ = _
    rw [queriesFst_apply, queriesSnd_apply, show val_main_v84 (F := Ideal) x12 _ = _ from spread x12 _ _ r _ _,
      show val_main_v81 (F := Ideal) x11 _ = _ from spread x11 _ _ r _ _, neg_mul, ← sub_eq_add_neg]
    refine congrArg₂ (fun a b : EReal => a - b) (congrArg (· * _) (congrArg x3 (Shape.idx_ext₂ rfl ?_))) (congrArg (· * _) (congrArg x3 (Shape.idx_ext₂ rfl ?_)))
    · show k.val / 64 % 4 * 128 + k.val / 64 / 4 * 64 + (32 + (k.val % 64 - 32)) = (pos k).val / 64 * 64 + k.val % 64
      rw [e2]; omega
    · show k.val / 64 % 4 * 128 + k.val / 64 / 4 * 64 + (k.val % 64 - 32) = (pos k).val / 64 * 64 + (k.val % 64 - 32)
      rw [e2]

/-! ### The cotangent in both orders -/

/-- Mixer A's part. -/
theorem firsts_apply (r : Fin 8192) (k : Fin 1536) (k' : Fin 4352) (hk' : k'.val = k.val) :
    val_main_v17 (F := Ideal) x0 x1 x2 (ix2 r k) = dz (cots x0 x1 x2 x3 x4 x5 x6 x11 x12) r k' := by
  have hk := k.isLt
  unfold val_main_v17
  by_cases h1 : k.val < 512
  · refine (concatenate_apply_piece 1 _ _ (ix2 r k) 0 (by simp) S8192x512 (val_main_v16 (F := Ideal) x0) rfl rfl 0 rfl (ix2 r ⟨k.val, h1⟩) (fun b hb => match b with
      | ⟨0, _⟩ => rfl
      | ⟨1, _⟩ => absurd rfl hb) (by show 0 + k.val = k.val; omega)).trans ?_
    exact (dz_qa (cots x0 x1 x2 x3 x4 x5 x6 x11 x12) r k' ⟨k.val, h1⟩ hk').symm
  by_cases h2 : k.val < 1024
  · refine (concatenate_apply_piece 1 _ _ (ix2 r k) 1 (by simp) S8192x512 x1 rfl rfl 512 rfl (ix2 r ⟨k.val - 512, by omega⟩) (fun b hb => match b with
      | ⟨0, _⟩ => rfl
      | ⟨1, _⟩ => absurd rfl hb) (by show 512 + (k.val - 512) = k.val; omega)).trans ?_
    exact (dz_ka (cots x0 x1 x2 x3 x4 x5 x6 x11 x12) r k' ⟨k.val - 512, by omega⟩ (by show k'.val = 512 + (k.val - 512); omega)).symm
  · refine (concatenate_apply_piece 1 _ _ (ix2 r k) 2 (by simp) S8192x512 x2 rfl rfl 1024 rfl (ix2 r ⟨k.val - 1024, by omega⟩) (fun b hb => match b with
      | ⟨0, _⟩ => rfl
      | ⟨1, _⟩ => absurd rfl hb) (by show 1024 + (k.val - 1024) = k.val; omega)).trans ?_
    exact (dz_va (cots x0 x1 x2 x3 x4 x5 x6 x11 x12) r k' ⟨k.val - 1024, by omega⟩ (by show k'.val = 1024 + (k.val - 1024); omega)).symm

/-- The cotangent with the queries in head order. -/
theorem whole_apply (r : Fin 8192) (k : Fin 4352) :
    val_main_v94 (F := Ideal) x0 x1 x2 x3 x4 x5 x6 x11 x12 (ix2 r k) = dz (cots x0 x1 x2 x3 x4 x5 x6 x11 x12) r (row k) := by
  have hk := k.isLt
  unfold val_main_v94
  by_cases h1 : k.val < 1536
  · rw [row_of_out (by omega)]
    refine (concatenate_apply_piece 1 _ _ (ix2 r k) 0 (by simp) S8192x1536 (val_main_v17 (F := Ideal) x0 x1 x2) rfl rfl 0 rfl (ix2 r ⟨k.val, h1⟩) (fun b hb => match b with
      | ⟨0, _⟩ => rfl
      | ⟨1, _⟩ => absurd rfl hb) (by show 0 + k.val = k.val; omega)).trans ?_
    exact firsts_apply x0 x1 x2 x3 x4 x5 x6 x11 x12 r ⟨k.val, h1⟩ k rfl
  by_cases h2 : k.val < 2048
  · rw [row_of_in (k := k) ⟨k.val - 1536, by omega⟩ (by show k.val = 1536 + (k.val - 1536); omega)]
    refine (concatenate_apply_piece 1 _ _ (ix2 r k) 1 (by simp) S8192x512 (val_main_v93 (F := Ideal) x3 x11 x12) rfl rfl 1536 rfl (ix2 r ⟨k.val - 1536, by omega⟩) (fun b hb => match b with
      | ⟨0, _⟩ => rfl
      | ⟨1, _⟩ => absurd rfl hb) (by show 1536 + (k.val - 1536) = k.val; omega)).trans ?_
    exact (queriesBack_apply x0 x1 x2 x3 x4 x5 x6 x11 x12 r _).trans (dz_qb _ r _ _ rfl).symm
  rw [row_of_out (by omega)]
  by_cases h3 : k.val < 2176
  · refine (concatenate_apply_piece 1 _ _ (ix2 r k) 2 (by simp) S8192x128 (val_main_v76 (F := Ideal) x4 x11 x12) rfl rfl 2048 rfl (ix2 r ⟨k.val - 2048, by omega⟩) (fun b hb => match b with
      | ⟨0, _⟩ => rfl
      | ⟨1, _⟩ => absurd rfl hb) (by show 2048 + (k.val - 2048) = k.val; omega)).trans ?_
    exact (keysBack_apply x0 x1 x2 x3 x4 x5 x6 x11 x12 r _).trans (dz_kb _ r k ⟨k.val - 2048, by omega⟩ (by show k.val = 2048 + (k.val - 2048); omega)).symm
  by_cases h4 : k.val < 2304
  · refine (concatenate_apply_piece 1 _ _ (ix2 r k) 3 (by simp) S8192x128 x5 rfl rfl 2176 rfl (ix2 r ⟨k.val - 2176, by omega⟩) (fun b hb => match b with
      | ⟨0, _⟩ => rfl
      | ⟨1, _⟩ => absurd rfl hb) (by show 2176 + (k.val - 2176) = k.val; omega)).trans ?_
    exact (dz_vb (cots x0 x1 x2 x3 x4 x5 x6 x11 x12) r k ⟨k.val - 2176, by omega⟩ (by show k.val = 2176 + (k.val - 2176); omega)).symm
  · refine (concatenate_apply_piece 1 _ _ (ix2 r k) 4 (by simp) S8192x2048 (val_main_v59 (F := Ideal) x6) rfl rfl 2304 rfl (ix2 r ⟨k.val - 2304, by omega⟩) (fun b hb => match b with
      | ⟨0, _⟩ => rfl
      | ⟨1, _⟩ => absurd rfl hb) (by show 2304 + (k.val - 2304) = k.val; omega)).trans ?_
    exact (dz_gates (cots x0 x1 x2 x3 x4 x5 x6 x11 x12) r k ⟨k.val - 2304, by omega⟩ (by show k.val = 2304 + (k.val - 2304); omega)).symm

/-- The queries' part put back in pair order. -/
theorem paired_apply (r : Fin 8192) (k : Fin 512) :
    val_main_v119 (F := Ideal) x0 x1 x2 x3 x4 x5 x6 x11 x12 (ix2 r k) = val_main_v94 (F := Ideal) x0 x1 x2 x3 x4 x5 x6 x11 x12 (ix2 r ⟨1536 + (nat k).val, by omega⟩) := by
  have hk := k.isLt
  refine (shapeCast_apply (val_main_v118 (F := Ideal) x0 x1 x2 x3 x4 x5 x6 x11 x12) _ (ix2 r k)
    (ix4 r (⟨k.val / 128, by omega⟩ : Fin 4) (⟨k.val / 64 % 2, by omega⟩ : Fin 2) (⟨k.val % 64, by omega⟩ : Fin 64)) (by
    rewrite [Shape.rowMajor_val_two, Shape.rowMajor_val_four]
    show ((r.val * 4 + k.val / 128) * 2 + k.val / 64 % 2) * 64 + k.val % 64 = r.val * 512 + k.val
    omega)).trans ?_
  refine (transpose_apply [0, 2, 1, 3] (val_main_v117 (F := Ideal) x0 x1 x2 x3 x4 x5 x6 x11 x12) transposes_S8192x2x4x64_S8192x4x2x64_0_2_1_3 _
    (ix4 r (⟨k.val / 64 % 2, by omega⟩ : Fin 2) (⟨k.val / 128, by omega⟩ : Fin 4) (⟨k.val % 64, by omega⟩ : Fin 64)) (fun b => match b with
    | ⟨0, _⟩ => rfl
    | ⟨1, _⟩ => rfl
    | ⟨2, _⟩ => rfl
    | ⟨3, _⟩ => rfl)).trans ?_
  refine (shapeCast_apply (val_main_v116 (F := Ideal) x0 x1 x2 x3 x4 x5 x6 x11 x12) _ _ (ix2 r (nat k)) (by
    rewrite [Shape.rowMajor_val_two, Shape.rowMajor_val_four]
    show r.val * 512 + (k.val / 64 % 2 * 256 + k.val / 128 * 64 + k.val % 64) = ((r.val * 2 + k.val / 64 % 2) * 4 + k.val / 128) * 64 + k.val % 64
    omega)).trans ?_
  exact extractStridedSlice_apply ![0, 1536] (val_main_v94 (F := Ideal) x0 x1 x2 x3 x4 x5 x6 x11 x12) slices_S8192x4352_S8192x512_0_1536 _ _ (fun a => match a with
    | ⟨0, _⟩ => by show r.val = 0 + r.val; omega
    | ⟨1, _⟩ => rfl)

/-- The first result: the cotangent in the kernels' order. -/
theorem result_apply (r : Fin 8192) (k : Fin 4352) :
    val_main_v122 (F := Ideal) x0 x1 x2 x3 x4 x5 x6 x11 x12 (ix2 r k) = dz (cots x0 x1 x2 x3 x4 x5 x6 x11 x12) r k := by
  have hk := k.isLt
  show val_main_v121 (F := Ideal) x0 x1 x2 x3 x4 x5 x6 x11 x12 (ix2 r k) = _
  unfold val_main_v121
  by_cases h1 : k.val < 1536
  · refine (concatenate_apply_piece 1 _ _ (ix2 r k) 0 (by simp) S8192x1536 (val_main_v115 (F := Ideal) x0 x1 x2 x3 x4 x5 x6 x11 x12) rfl rfl 0 rfl (ix2 r ⟨k.val, h1⟩) (fun b hb => match b with
      | ⟨0, _⟩ => rfl
      | ⟨1, _⟩ => absurd rfl hb) (by show 0 + k.val = k.val; omega)).trans ?_
    refine (extractStridedSlice_apply ![0, 0] (val_main_v94 (F := Ideal) x0 x1 x2 x3 x4 x5 x6 x11 x12) slices_S8192x4352_S8192x1536_0_0 _ (ix2 r k) (fun a => match a with
      | ⟨0, _⟩ => by show r.val = 0 + r.val; omega
      | ⟨1, _⟩ => by show k.val = 0 + k.val; omega)).trans ?_
    rw [whole_apply, row_of_out (by omega)]
  by_cases h2 : k.val < 2048
  · refine (concatenate_apply_piece 1 _ _ (ix2 r k) 1 (by simp) S8192x512 (val_main_v119 (F := Ideal) x0 x1 x2 x3 x4 x5 x6 x11 x12) rfl rfl 1536 rfl (ix2 r ⟨k.val - 1536, by omega⟩) (fun b hb => match b with
      | ⟨0, _⟩ => rfl
      | ⟨1, _⟩ => absurd rfl hb) (by show 1536 + (k.val - 1536) = k.val; omega)).trans ?_
    rw [paired_apply, whole_apply, ← col_of_in (k := k) ⟨k.val - 1536, by omega⟩ (by show k.val = 1536 + (k.val - 1536); omega), row_col]
  · refine (concatenate_apply_piece 1 _ _ (ix2 r k) 2 (by simp) S8192x2304 (val_main_v120 (F := Ideal) x0 x1 x2 x3 x4 x5 x6 x11 x12) rfl rfl 2048 rfl (ix2 r ⟨k.val - 2048, by omega⟩) (fun b hb => match b with
      | ⟨0, _⟩ => rfl
      | ⟨1, _⟩ => absurd rfl hb) (by show 2048 + (k.val - 2048) = k.val; omega)).trans ?_
    refine (extractStridedSlice_apply ![0, 2048] (val_main_v94 (F := Ideal) x0 x1 x2 x3 x4 x5 x6 x11 x12) slices_S8192x4352_S8192x2304_0_2048 _ (ix2 r k) (fun a => match a with
      | ⟨0, _⟩ => by show r.val = 0 + r.val; omega
      | ⟨1, _⟩ => by show k.val = 2048 + (k.val - 2048); omega)).trans ?_
    rw [whole_apply, row_of_out (by omega)]

/-! ### The gradients -/

/-- The row's sum of squares. -/
theorem squares_at (r : Fin 8192) : val_main_v1 (F := Ideal) x7 (ix1 r) = ∑ k, x7 (ix2 r k) * x7 (ix2 r k) := by
  rw [val_main_v1_apply]
  refine (congrArg₂ (· + ·) ofBits_zero (Finset.sum_congr rfl fun k _ => ?_)).trans (zero_add _)
  exact (congrArg (val_main_v0 (F := Ideal) x7) (show idx_main_v1 (ix1 r) k = ix2 r k from Shape.idx_ext₂ rfl rfl))

/-- The row's mean of squares, with the epsilon. -/
theorem mean_at (r : Fin 8192) (u : Fin 1) : val_main_v6 (F := Ideal) x7 (ix2 r u) = rowMean (fun k => x7 (ix2 r k)) := by
  show Ideal.div (val_main_v2 (F := Ideal) x7 (ix2 r u)) (Ideal.ofBits .f32 0x44800000#32) + Ideal.ofBits .f32 0x358637BD#32 = _
  rw [val_main_v2_apply, show idx_main_v2 (ix2 r u) = ix1 r from funext fun a => by fin_cases a; rfl, squares_at, ofBits_1024, ofBits_eps]
  rfl

/-- The row's scale. -/
theorem scale_at (r : Fin 8192) (u : Fin 1) : val_main_v7 (F := Ideal) x7 (ix2 r u) = rowScale (fun k => x7 (ix2 r k)) := by
  show Ideal.rsqrt (val_main_v6 (F := Ideal) x7 (ix2 r u)) = _
  rw [mean_at]
  rfl

/-- The derivative of the row's scale. -/
theorem slope_at (r : Fin 8192) (u : Fin 1) : val_main_v10 (F := Ideal) x7 (ix2 r u)
    = ((-(1 / 2) : ℝ) : EReal) * Ideal.div (rowScale fun k => x7 (ix2 r k)) (rowMean fun k => x7 (ix2 r k)) := by
  show Ideal.ofBits .f32 0xBF000000#32 * Ideal.div (val_main_v7 (F := Ideal) x7 (ix2 r u)) (val_main_v6 (F := Ideal) x7 (ix2 r u)) = _
  rw [mean_at, scale_at, ofBits_neg_half]

/-- The normalised row without the gain. -/
theorem hat_at (r : Fin 8192) (c : Fin 1024) : val_main_v12 (F := Ideal) x7 (ix2 r c) = rowHat (fun k => x7 (ix2 r k)) c := by
  show x7 (ix2 r c) * val_main_v11 (F := Ideal) x7 (ix2 r c) = _
  rw [val_main_v11_apply, show idx_main_v11 (ix2 r c) = ix2 r 0 from Shape.idx_ext₂ rfl rfl, scale_at]
  rfl

/-- The gradient of the normalised row, of the arguments. -/
def normGrad (r : Fin 8192) (c : Fin 1024) : EReal := dn (cots x0 x1 x2 x3 x4 x5 x6 x11 x12) (fun c k => x10 (ix2 c k)) r c

theorem normGrad_at (r : Fin 8192) (c : Fin 1024) :
    val_main_v95 (F := Ideal) x0 x1 x2 x3 x4 x5 x6 x10 x11 x12 (ix2 r c) = normGrad x0 x1 x2 x3 x4 x5 x6 x10 x11 x12 r c := by
  rw [val_main_v95_apply]
  refine sum_columns _ (fun k => dz (cots x0 x1 x2 x3 x4 x5 x6 x11 x12) r k * x10 (ix2 c (col k))) (fun k => ?_)
  dsimp only
  rw [show lidx_main_v95 (ix2 r c) (col k) = ix2 r (col k) from Shape.idx_ext₂ rfl rfl, show ridx_main_v95 (ix2 r c) (col k) = ix2 c (col k) from Shape.idx_ext₂ rfl rfl,
    whole_apply, row_col]

/-- The gradient of the gain. -/
theorem gain_at (u : Fin 1) (c : Fin 1024) : val_main_v98 (F := Ideal) x0 x1 x2 x3 x4 x5 x6 x7 x10 x11 x12 (ix2 u c)
    = dGain (normGrad x0 x1 x2 x3 x4 x5 x6 x10 x11 x12) (fun r k => x7 (ix2 r k)) c := by
  rw [val_main_v98_apply, show idx_main_v98 (ix2 u c) = ix1 c from funext fun a => by
      fin_cases a; exact Fin.ext (show u.val * 1024 + c.val = c.val by have := u.isLt; omega), val_main_v97_apply]
  refine (congrArg₂ (· + ·) ofBits_zero (Finset.sum_congr rfl fun k _ => ?_)).trans (zero_add _)
  rw [show idx_main_v97 (ix1 c) k = ix2 k c from Shape.idx_ext₂ rfl rfl]
  show val_main_v12 (F := Ideal) x7 (ix2 k c) * val_main_v95 (F := Ideal) x0 x1 x2 x3 x4 x5 x6 x10 x11 x12 (ix2 k c) = _
  rw [hat_at, normGrad_at, mul_comm]

/-- The gradient of the normalised row, times the gain. -/
theorem gained_at (r : Fin 8192) (c : Fin 1024) : val_main_v100 (F := Ideal) x0 x1 x2 x3 x4 x5 x6 x8 x10 x11 x12 (ix2 r c)
    = normGrad x0 x1 x2 x3 x4 x5 x6 x10 x11 x12 r c * x8 (ix2 0 c) := by
  show val_main_v95 (F := Ideal) x0 x1 x2 x3 x4 x5 x6 x10 x11 x12 (ix2 r c) * val_main_v99 (F := Ideal) x8 (ix2 r c) = _
  rw [val_main_v99_apply, show idx_main_v99 (ix2 r c) = ix2 0 c from Shape.idx_ext₂ rfl rfl, normGrad_at]

/-- The row's inner product with its gradient. -/
theorem inner_at (r : Fin 8192) : val_main_v102 (F := Ideal) x0 x1 x2 x3 x4 x5 x6 x7 x8 x10 x11 x12 (ix1 r)
    = ∑ k, x7 (ix2 r k) * (normGrad x0 x1 x2 x3 x4 x5 x6 x10 x11 x12 r k * x8 (ix2 0 k)) := by
  rw [val_main_v102_apply]
  refine (congrArg₂ (· + ·) ofBits_zero (Finset.sum_congr rfl fun k _ => ?_)).trans (zero_add _)
  rw [show idx_main_v102 (ix1 r) k = ix2 r k from Shape.idx_ext₂ rfl rfl]
  show x7 (ix2 r k) * val_main_v100 (F := Ideal) x0 x1 x2 x3 x4 x5 x6 x8 x10 x11 x12 (ix2 r k) = _
  rw [gained_at]

/-- The gradient through the mean of squares, of one row. -/
theorem meanGrad_at (r : Fin 8192) : val_main_v109 (F := Ideal) x0 x1 x2 x3 x4 x5 x6 x7 x8 x10 x11 x12 (ix1 r)
    = Ideal.div ((∑ k, x7 (ix2 r k) * (normGrad x0 x1 x2 x3 x4 x5 x6 x10 x11 x12 r k * x8 (ix2 0 k)))
      * (((-(1 / 2) : ℝ) : EReal) * Ideal.div (rowScale fun k => x7 (ix2 r k)) (rowMean fun k => x7 (ix2 r k)))) ((1024 : ℝ) : EReal) := by
  rw [val_main_v109_apply]
  refine (congrArg₂ (· + ·) ofBits_zero (Fin.sum_univ_one _)).trans ((zero_add _).trans ?_)
  rw [show idx_main_v109 (ix1 r) 0 = ix2 r 0 from Shape.idx_ext₂ rfl rfl]
  show Ideal.div (val_main_v103 (F := Ideal) x0 x1 x2 x3 x4 x5 x6 x7 x8 x10 x11 x12 (ix2 r 0) * val_main_v10 (F := Ideal) x7 (ix2 r 0)) (Ideal.ofBits .f32 0x44800000#32) = _
  rw [val_main_v103_apply, show idx_main_v103 (ix2 r 0) = ix1 r from funext fun a => by
      fin_cases a; exact Fin.ext (show r.val * 1 + 0 = r.val by omega), inner_at, slope_at, ofBits_1024]

/-- The gradient of the row. -/
theorem rowGrad_at (r : Fin 8192) (c : Fin 1024) : val_main_v123 (F := Ideal) x0 x1 x2 x3 x4 x5 x6 x7 x8 x9 x10 x11 x12 (ix2 r c)
    = dRow (normGrad x0 x1 x2 x3 x4 x5 x6 x10 x11 x12) (fun r k => x7 (ix2 r k)) (fun r k => x9 (ix2 r k)) (fun k => x8 (ix2 0 k)) r c := by
  show x9 (ix2 r c) + (val_main_v100 (F := Ideal) x0 x1 x2 x3 x4 x5 x6 x8 x10 x11 x12 (ix2 r c) * val_main_v104 (F := Ideal) x7 (ix2 r c)
    + x7 (ix2 r c) * val_main_v110 (F := Ideal) x0 x1 x2 x3 x4 x5 x6 x7 x8 x10 x11 x12 (ix2 r c)
    + val_main_v110 (F := Ideal) x0 x1 x2 x3 x4 x5 x6 x7 x8 x10 x11 x12 (ix2 r c) * x7 (ix2 r c)) = _
  rw [val_main_v104_apply, show idx_main_v104 (ix2 r c) = ix2 r 0 from Shape.idx_ext₂ rfl rfl, val_main_v110_apply,
    show idx_main_v110 (ix2 r c) = ix1 r from funext fun a => by fin_cases a; rfl, gained_at, scale_at, meanGrad_at]
  exact congrArg (x9 (ix2 r c) + ·)
    (through_eq (fun k => normGrad x0 x1 x2 x3 x4 x5 x6 x10 x11 x12 r k * x8 (ix2 0 k)) (fun k => x7 (ix2 r k)) c).symm

end Cert.Reference8Ideal.MixInBwd

end
-- ==== Proof.MixInBwdPay.lean ====
/-
  What one point of the kernel of the two mixers' entry backwards computes from its blocks, index by index.
-/
module

public import proofs.«01_k».proof.Defs
public import proofs.«01_k».proof.Proof.Gen.Kernel8Ideal.Value
public import proofs.«01_k».proof.Proof.MixInBwdReference
public import Idealize.ShloMosaic.Lib.Pipeline.ValueKit
public import Idealize.ShloMosaic.Lib.Pipeline.ReadBack
public import Idealize.ShloMosaic.Lib.ValueLayoutCasts

@[expose] public section

noncomputable section

open Idealize.ShloMosaic hiding ix1 ix2 ix3 eq_ix2 eq_ix3
open Idealize.ShloMosaic.TcCoe Idealize.SL.Sem Idealize.ShloMosaic.ValueIdx
open Idealize.ShloMosaic.Pipeline (Dat)
open scoped BigOperators

namespace Cert.Kernel8Ideal.MixInBwd

open Cert.Kernel8Ideal Cert.Kernel8Ideal.Gen Cert.FfnSpec Cert.Basics Cert.MixInBwdSpec Cert.Turn Cert.Heads

/-- The word of minus one. -/
theorem ofBits_minus : Ideal.ofBits .f32 0xBF800000#32 = (-1 : EReal) := by
  have e : Ideal.ofBits .f32 0xBF800000#32 = ((-1 : ℝ) : EReal) := by
    simp [Ideal.ofBits, Ideal.ieee, -EReal.coe_mul, -EReal.coe_neg]
    norm_num
  rw [e, EReal.coe_neg, EReal.coe_one]

/-- An array by its coordinates. -/
abbrev cur {R N : ℕ} (x : (⟨2, ![R, N]⟩ : Shape).Idx → EReal) (r : Fin R) (c : Fin N) : EReal := x (ix2 r c)

/-! ## The cotangent's block -/

section Cotangent

variable (x0 : Vec Ideal S512x512 .bf16) (x1 x2 x3 : Vec Ideal S512x512 .f32) (x4 x5 : Vec Ideal S512x128 .f32) (x6 : Vec Ideal S512x2048 .bf16)
  (x11 x12 x13 : Vec Ideal S512x128 .f32)

/-- The ten stores that fill the block, the last first. -/
abbrev stores : List (View.Piece (Elt Ideal) S512x4352 .bf16) :=
  [⟨Rect.unit ![0, 2304] ![512, 2048] inb_S512x4352_S512x2048_0_2304, x6⟩,
    ⟨Rect.unit ![0, 2176] ![512, 128] inb_S512x4352_S512x128_0_2176, k0_pay16 (F := Ideal) x5⟩,
    ⟨Rect.unit ![0, 2048] ![512, 128] inb_S512x4352_S512x128_0_2048, k0_pay15 (F := Ideal) (k0_pay8 x11) (k0_pay9 x12) (k0_pay10 x13) x4⟩,
    ⟨Rect.unit ![0, 1920] ![512, 128] inb_S512x4352_S512x128_0_1920, k0_pay14 (F := Ideal) (k0_pay8 x11) (k0_pay9 x12) (k0_pay10 x13)
      (View.ld x3 (Rect.unit ![0, 384] ![512, 128] inb_S512x512_S512x128_0_384))⟩,
    ⟨Rect.unit ![0, 1792] ![512, 128] inb_S512x4352_S512x128_0_1792, k0_pay13 (F := Ideal) (k0_pay8 x11) (k0_pay9 x12) (k0_pay10 x13)
      (View.ld x3 (Rect.unit ![0, 256] ![512, 128] inb_S512x512_S512x128_0_256))⟩,
    ⟨Rect.unit ![0, 1664] ![512, 128] inb_S512x4352_S512x128_0_1664, k0_pay12 (F := Ideal) (k0_pay8 x11) (k0_pay9 x12) (k0_pay10 x13)
      (View.ld x3 (Rect.unit ![0, 128] ![512, 128] inb_S512x512_S512x128_0_128))⟩,
    ⟨Rect.unit ![0, 1536] ![512, 128] inb_S512x4352_S512x128_0_1536, k0_pay11 (F := Ideal) x11 x12 x13
      (View.ld x3 (Rect.unit ![0, 0] ![512, 128] inb_S512x512_S512x128_0_0))⟩,
    ⟨Rect.unit ![0, 1024] ![512, 512] inb_S512x4352_S512x512_0_1024, k0_pay7 (F := Ideal) x2⟩,
    ⟨Rect.unit ![0, 512] ![512, 512] inb_S512x4352_S512x512_0_512, k0_pay6 (F := Ideal) x1⟩,
    ⟨Rect.unit ![0, 0] ![512, 512] inb_S512x4352_S512x512_0_0, x0⟩]

variable {x11 x12 x13} {cos sin : Fin 512 → Fin 32 → EReal}

/-- The blocks as the parts of the cotangent. -/
abbrev parts (cos sin : Fin 512 → Fin 32 → EReal) : Cots 512 := ⟨cur x0, cur x1, cur x2, cur x3, cur x4, cur x5, cur x6, cos, sin⟩

variable (tb : Tables (cur x11) (cur x12) (cur x13) cos sin)

/-- A store of `K` columns from column `o` holds its part of the cotangent. -/
theorem piece (X : Cots 512) {K : ℕ} (o : ℕ) (inb) (w : Vec Ideal ⟨2, ![512, K]⟩ .bf16) (ho : o + K ≤ 4352)
    (hw : ∀ (r : Fin 512) (j : Fin K) (k : Fin 4352), k.val = o + j.val → w (ix2 r j) = dz X r k) (x : (⟨2, ![512, K]⟩ : Shape).Idx) :
    w x = (fun y : S512x4352.Idx => dz X (y 0) (y 1)) ((Rect.unit (s := S512x4352) ![0, o] ![512, K] inb).emb x) := by
  obtain ⟨r, j, rfl⟩ : ∃ (r : Fin 512) (j : Fin K), x = ix2 r j := ⟨x 0, x 1, eq_ix2 x⟩
  have hj := j.isLt
  rw [show ((Rect.unit (s := S512x4352) ![0, o] ![512, K] inb).emb (ix2 r j) : S512x4352.Idx) = ix2 r ⟨o + j.val, by omega⟩ from
    Shape.idx_ext₂ (by show 0 + 1 * r.val = r.val; omega) (by show o + 1 * j.val = o + j.val; omega)]
  exact hw r j ⟨o + j.val, by omega⟩ rfl

/-- A column lies under the store that holds it. -/
theorem under {K : ℕ} (o : ℕ) (inb) (r : Fin 512) (k : Fin 4352) (h1 : o ≤ k.val) (h2 : k.val < o + K) :
    ix2 r k ∈ (Rect.unit (s := S512x4352) ![0, o] ![512, K] inb).set := by
  have hr := r.isLt
  refine Rect.mem_set_unit.mpr fun a => ?_
  match a with
  | 0 => exact ⟨Nat.zero_le _, by show r.val < 0 + 512; omega⟩
  | 1 => exact ⟨h1, h2⟩

theorem covered (r : Fin 512) (k : Fin 4352) : ∃ p ∈ stores x0 x1 x2 x3 x4 x5 x6 x11 x12 x13, ix2 r k ∈ p.1.set := by
  have hk := k.isLt
  by_cases h0 : k.val < 512
  · exact ⟨_, .tail _ (.tail _ (.tail _ (.tail _ (.tail _ (.tail _ (.tail _ (.tail _ (.tail _ (.head _))))))))), under (K := 512) 0 inb_S512x4352_S512x512_0_0 r k (by omega) (by omega)⟩
  by_cases h1 : k.val < 1024
  · exact ⟨_, .tail _ (.tail _ (.tail _ (.tail _ (.tail _ (.tail _ (.tail _ (.tail _ (.head _)))))))), under (K := 512) 512 inb_S512x4352_S512x512_0_512 r k (by omega) (by omega)⟩
  by_cases h2 : k.val < 1536
  · exact ⟨_, .tail _ (.tail _ (.tail _ (.tail _ (.tail _ (.tail _ (.tail _ (.head _))))))), under (K := 512) 1024 inb_S512x4352_S512x512_0_1024 r k (by omega) (by omega)⟩
  by_cases h3 : k.val < 1664
  · exact ⟨_, .tail _ (.tail _ (.tail _ (.tail _ (.tail _ (.tail _ (.head _)))))), under (K := 128) 1536 inb_S512x4352_S512x128_0_1536 r k (by omega) (by omega)⟩
  by_cases h4 : k.val < 1792
  · exact ⟨_, .tail _ (.tail _ (.tail _ (.tail _ (.tail _ (.head _))))), under (K := 128) 1664 inb_S512x4352_S512x128_0_1664 r k (by omega) (by omega)⟩
  by_cases h5 : k.val < 1920
  · exact ⟨_, .tail _ (.tail _ (.tail _ (.tail _ (.head _)))), under (K := 128) 1792 inb_S512x4352_S512x128_0_1792 r k (by omega) (by omega)⟩
  by_cases h6 : k.val < 2048
  · exact ⟨_, .tail _ (.tail _ (.tail _ (.head _))), under (K := 128) 1920 inb_S512x4352_S512x128_0_1920 r k (by omega) (by omega)⟩
  by_cases h7 : k.val < 2176
  · exact ⟨_, .tail _ (.tail _ (.head _)), under (K := 128) 2048 inb_S512x4352_S512x128_0_2048 r k (by omega) (by omega)⟩
  by_cases h8 : k.val < 2304
  · exact ⟨_, .tail _ (.head _), under (K := 128) 2176 inb_S512x4352_S512x128_0_2176 r k (by omega) (by omega)⟩
  · exact ⟨_, .head _, under (K := 2048) 2304 inb_S512x4352_S512x2048_0_2304 r k (by omega) (by omega)⟩

include tb in
/-- Two heads turned back. -/
theorem turned (y : Vec Ideal S512x128 .f32) (r : Fin 512) (j : Fin 128) :
    k0_pay15 (F := Ideal) (k0_pay8 x11) (k0_pay9 x12) (k0_pay10 x13) y (ix2 r j) = turnBack (head y r j) (cos r) (sin r) ⟨j.val % 64, Nat.mod_lt _ (by omega)⟩ := by
  have e8 : k0_pay8 (F := Ideal) x11 = x11 := shapeCast_self _ _
  have e9 : k0_pay9 (F := Ideal) x12 = x12 := shapeCast_self _ _
  have e10 : k0_pay10 (F := Ideal) x13 = x13 := shapeCast_self _ _
  rw [e8, e9, e10]
  exact turnBack_block y rotates_S512x128_d1 tb r j ofBits_minus
theorem pay14_eq (a b d y : Vec Ideal S512x128 .f32) : k0_pay14 (F := Ideal) a b d y = k0_pay15 (F := Ideal) a b d y := rfl
theorem pay13_eq (a b d y : Vec Ideal S512x128 .f32) : k0_pay13 (F := Ideal) a b d y = k0_pay15 (F := Ideal) a b d y := rfl
theorem pay12_eq (a b d y : Vec Ideal S512x128 .f32) : k0_pay12 (F := Ideal) a b d y = k0_pay15 (F := Ideal) a b d y := rfl
theorem pay11_eq (a b d y : Vec Ideal S512x128 .f32) :
    k0_pay11 (F := Ideal) a b d y = k0_pay15 (F := Ideal) (k0_pay8 a) (k0_pay9 b) (k0_pay10 d) y := rfl

include tb in
/-- Two heads of the queries turned back. -/
theorem turnedQueries (o : ℕ) (ho : o + 128 ≤ 512) (h64 : o % 64 = 0) (inb) (r : Fin 512) (j : Fin 128) (k : Fin 4352) (hk : k.val = 1536 + o + j.val) :
    k0_pay15 (F := Ideal) (k0_pay8 x11) (k0_pay9 x12) (k0_pay10 x13) (View.ld x3 (Rect.unit (s := S512x512) ![0, o] ![512, 128] inb)) (ix2 r j)
      = dz (parts x0 x1 x2 x3 x4 x5 x6 cos sin) r k := by
  have hj := j.isLt
  refine (turned tb _ r j).trans ?_
  rw [dz_qb (parts x0 x1 x2 x3 x4 x5 x6 cos sin) r k ⟨o + j.val, by omega⟩ (by show k.val = 1536 + (o + j.val); omega)]
  unfold qback
  have e1 : (⟨(o + j.val) % 64, Nat.mod_lt _ (by omega)⟩ : Fin 64) = ⟨j.val % 64, Nat.mod_lt _ (by omega)⟩ :=
    Fin.ext (by show (o + j.val) % 64 = j.val % 64; omega)
  rw [e1]
  refine congrArg (fun y => turnBack y (cos r) (sin r) _) (funext fun d => ?_)
  exact congrArg x3 (Shape.idx_ext₂ (by show 0 + 1 * r.val = r.val; omega)
    (by show o + 1 * (j.val / 64 * 64 + d.val) = (o + j.val) / 64 * 64 + d.val; omega))

include tb in
/-- The block after the ten stores is the cotangent of its rows. -/
theorem stores_apply (r : Fin 512) (k : Fin 4352) :
    View.canon (stores x0 x1 x2 x3 x4 x5 x6 x11 x12 x13) (ix2 r k) = dz (parts x0 x1 x2 x3 x4 x5 x6 cos sin) r k := by
  refine View.canon_apply_of_pieces (Val := Elt Ideal) (e := .bf16) (fun y : S512x4352.Idx => dz (parts x0 x1 x2 x3 x4 x5 x6 cos sin) (y 0) (y 1)) _ ?_
    (ix2 r k) (covered x0 x1 x2 x3 x4 x5 x6 r k)
  intro p hp x
  rcases List.mem_cons.mp hp with rfl | hp
  · exact piece _ 2304 inb_S512x4352_S512x2048_0_2304 _ (by omega) (fun r j k hk => (dz_gates (parts x0 x1 x2 x3 x4 x5 x6 cos sin) r k j hk).symm) x
  rcases List.mem_cons.mp hp with rfl | hp
  · exact piece _ 2176 inb_S512x4352_S512x128_0_2176 _ (by omega) (fun r j k hk => (dz_vb (parts x0 x1 x2 x3 x4 x5 x6 cos sin) r k j hk).symm) x
  rcases List.mem_cons.mp hp with rfl | hp
  · exact piece _ 2048 inb_S512x4352_S512x128_0_2048 _ (by omega) (fun r j k hk => (turned tb _ r j).trans (dz_kb (parts x0 x1 x2 x3 x4 x5 x6 cos sin) r k j hk).symm) x
  rcases List.mem_cons.mp hp with rfl | hp
  · exact piece _ 1920 inb_S512x4352_S512x128_0_1920 _ (by omega)
      (fun r j k hk => turnedQueries x0 x1 x2 x3 x4 x5 x6 tb 384 (by omega) rfl inb_S512x512_S512x128_0_384 r j k hk) x
  rcases List.mem_cons.mp hp with rfl | hp
  · exact piece _ 1792 inb_S512x4352_S512x128_0_1792 _ (by omega)
      (fun r j k hk => turnedQueries x0 x1 x2 x3 x4 x5 x6 tb 256 (by omega) rfl inb_S512x512_S512x128_0_256 r j k hk) x
  rcases List.mem_cons.mp hp with rfl | hp
  · exact piece _ 1664 inb_S512x4352_S512x128_0_1664 _ (by omega)
      (fun r j k hk => turnedQueries x0 x1 x2 x3 x4 x5 x6 tb 128 (by omega) rfl inb_S512x512_S512x128_0_128 r j k hk) x
  rcases List.mem_cons.mp hp with rfl | hp
  · exact piece _ 1536 inb_S512x4352_S512x128_0_1536 _ (by omega)
      (fun r j k hk => turnedQueries x0 x1 x2 x3 x4 x5 x6 tb 0 (by omega) rfl inb_S512x512_S512x128_0_0 r j k hk) x
  rcases List.mem_cons.mp hp with rfl | hp
  · exact piece _ 1024 inb_S512x4352_S512x512_0_1024 _ (by omega) (fun r j k hk => (dz_va (parts x0 x1 x2 x3 x4 x5 x6 cos sin) r k j hk).symm) x
  rcases List.mem_cons.mp hp with rfl | hp
  · exact piece _ 512 inb_S512x4352_S512x512_0_512 _ (by omega) (fun r j k hk => (dz_ka (parts x0 x1 x2 x3 x4 x5 x6 cos sin) r k j hk).symm) x
  · rcases List.mem_singleton.mp hp with rfl
    exact piece _ 0 inb_S512x4352_S512x512_0_0 _ (by omega) (fun r j k hk => (dz_qa (parts x0 x1 x2 x3 x4 x5 x6 cos sin) r k j (by omega)).symm) x

end Cotangent

/-! ## The gradients of a block's rows -/

section Gradients

variable {z : Vec Ideal S512x4352 .bf16} {w : Vec Ideal S4352x1024 .bf16} {d x7 x9 : Vec Ideal S512x1024 .f32} {x8 : Vec Ideal S1x1024 .f32}
  {X : Cots 512} {W : Fin 1024 → Fin 4352 → EReal}

/-- The cotangent times the weight. -/
theorem pay17_apply (hz : ∀ r k, z (ix2 r k) = dz X r k) (hw : ∀ k c, w (ix2 k c) = W c (col k)) (r : Fin 512) (c : Fin 1024) :
    k0_pay17 (F := Ideal) z w (ix2 r c) = dn X W r c := by
  unfold k0_pay17
  rw [shapeCast_self, shapeCast_self]
  refine (dot_plain (M := 512) (K := 4352) (N := 1024) (φ₁ := .bf16) (φ₂ := .bf16) none _ _ r c).trans (Finset.sum_congr rfl fun k _ => ?_)
  rw [hz, hw]

theorem pay1_apply (r : Fin 512) (u : Fin 1) : k0_pay1 (F := Ideal) (k0_pay18 x7) (ix2 r u) = rowScale (fun k => x7 (ix2 r k)) := by
  have e : multiReduction (F := Ideal) .add [1] S512 (mulf x7 x7) 0x00000000#32 reduces_S512x1024_S512 (.inl rfl) rfl (ix1 r)
      = ∑ k, x7 (ix2 r k) * x7 (ix2 r k) :=
    (sum_cols _ _ _ _ _ r).trans (Finset.sum_congr rfl fun k _ => rfl)
  unfold k0_pay1 k0_pay18
  refine (congrArg (fun q => Ideal.rsqrt (Ideal.div q (Ideal.ofBits .f32 0x44800000#32) + Ideal.ofBits .f32 0x358637BD#32))
    ((shapeCast_a_a1_apply _ _ r u).trans e)).trans ?_
  rw [ofBits_1024, ofBits_eps]
  rfl

theorem pay2_apply (r : Fin 512) (c : Fin 1024) : k0_pay2 (F := Ideal) x7 (k0_pay18 x7) (ix2 r c) = rowHat (fun k => x7 (ix2 r k)) c := by
  unfold k0_pay2
  show x7 (ix2 r c) * (broadcastTo S512x1024 (k0_pay1 (F := Ideal) (k0_pay18 x7)) _ (ix2 r c) : EReal) = _
  rw [bcast_col, pay1_apply]
  rfl

/-- The gain's gradient grows by this point's rows. -/
theorem pay3_apply (acc : Vec Ideal S1x1024 .f32) (u : Fin 1) (c : Fin 1024) :
    k0_pay3 (F := Ideal) d x7 (k0_pay18 x7) acc (ix2 u c) = acc (ix2 u c) + dGain (fun r k => d (ix2 r k)) (fun r k => x7 (ix2 r k)) c := by
  unfold k0_pay3
  rw [shapeCast_self]
  refine congrArg (acc (ix2 u c) + ·) ((shapeCast_a_1a_apply _ _ u c).trans ((sum_rows _ _ _ _ _ c).trans (Finset.sum_congr rfl fun r _ => ?_)))
  exact congrArg (d (ix2 r c) * ·) (pay2_apply r c)

/-- The rows' gradient. -/
theorem pay4_apply (r : Fin 512) (c : Fin 1024) :
    k0_pay4 (F := Ideal) d x7 x8 (k0_pay18 x7) x9 (ix2 r c)
      = dRow (fun r k => d (ix2 r k)) (fun r k => x7 (ix2 r k)) (fun r k => x9 (ix2 r k)) (fun k => x8 (ix2 0 k)) r c := by
  have e : ∀ (r : Fin 512) (c : Fin 1024), mulf (F := Ideal) (φ := .f32) d (broadcastTo S512x1024 x8 broadcasts_S1x1024_S512x1024) (ix2 r c)
      = d (ix2 r c) * x8 (ix2 0 c) := fun r c => by
    show d (ix2 r c) * (broadcastTo S512x1024 x8 _ (ix2 r c) : EReal) = _
    rw [broadcastTo_1b_ab_apply]
  unfold k0_pay4
  show x9 (ix2 r c) + (broadcastTo S512x1024 (k0_pay1 (F := Ideal) (k0_pay18 x7)) _ (ix2 r c)) *
    (mulf (F := Ideal) (φ := .f32) d (broadcastTo S512x1024 x8 broadcasts_S1x1024_S512x1024) (ix2 r c)
      - k0_pay2 (F := Ideal) x7 (k0_pay18 x7) (ix2 r c) * (broadcastTo S512x1024 (divf (F := Ideal) (φ := .f32) (shapeCast S512x1
          (multiReduction (F := Ideal) .add [1] S512 (mulf (F := Ideal) (φ := .f32) (mulf (F := Ideal) (φ := .f32) d (broadcastTo S512x1024 x8 broadcasts_S1x1024_S512x1024)) (k0_pay2 (F := Ideal) x7 (k0_pay18 x7)))
            0x00000000#32 reduces_S512x1024_S512 (.inl rfl) rfl) shapeCasts_S512_S512x1)
          (broadcast S512x1 (Scalar.ofBits (F := Ideal) .f32 0x44800000#32))) broadcasts_S512x1_S512x1024 (ix2 r c))) = _
  rw [bcast_col, bcast_col, e, pay2_apply]
  have e4 : k0_pay1 (F := Ideal) (k0_pay18 x7) (ix2 r 0) = rowScale (fun k => x7 (ix2 r k)) := pay1_apply r 0
  have e5 : divf (F := Ideal) (φ := .f32) (shapeCast S512x1
          (multiReduction (F := Ideal) .add [1] S512 (mulf (F := Ideal) (φ := .f32) (mulf (F := Ideal) (φ := .f32) d (broadcastTo S512x1024 x8 broadcasts_S1x1024_S512x1024)) (k0_pay2 (F := Ideal) x7 (k0_pay18 x7)))
            0x00000000#32 reduces_S512x1024_S512 (.inl rfl) rfl) shapeCasts_S512_S512x1)
          (broadcast S512x1 (Scalar.ofBits (F := Ideal) .f32 0x44800000#32)) (ix2 r 0)
      = Ideal.div (∑ k, d (ix2 r k) * x8 (ix2 0 k) * rowHat (fun k => x7 (ix2 r k)) k) ((1024 : ℝ) : EReal) := by
    refine (congrArg (fun q => Ideal.div q (Ideal.ofBits .f32 0x44800000#32)) ((shapeCast_a_a1_apply _ _ r 0).trans
      ((sum_cols _ _ _ _ _ r).trans (Finset.sum_congr rfl fun k _ => congrArg₂ (fun a b : EReal => a * b) (e r k) (pay2_apply r k))))).trans ?_
    rw [ofBits_1024]
  exact congrArg₂ (fun p q : EReal => (x9 (ix2 r c) : EReal) + p * (d (ix2 r c) * x8 (ix2 0 c) - rowHat (fun k => x7 (ix2 r k)) c * q)) e4 e5

end Gradients

end Cert.Kernel8Ideal.MixInBwd

end
-- ==== Proof.MixInBwdArrays.lean ====
/-
  The kernel of the two mixers' entry backwards from its blocks to its arrays: which rows a point reads and writes, what its
  outputs hold after it, and the three result arrays after the run.
-/
module

public import proofs.«01_k».proof.Proof.MixInBwdPay

@[expose] public section

noncomputable section

open Idealize.ShloMosaic hiding ix1 ix2 ix3 eq_ix2 eq_ix3
open Idealize.ShloMosaic.TcCoe Idealize.SL.Sem Idealize.ShloMosaic.ValueIdx
open Idealize.ShloMosaic.Pipeline (Dat)
open scoped BigOperators

namespace Cert.Kernel8Ideal.MixInBwd

open Cert.Kernel8Ideal Cert.Kernel8Ideal.Gen Cert.FfnSpec Cert.Basics Cert.MixInBwdSpec Cert.Turn Cert.Heads
open Cert.Reference8Ideal.MixInBwd (cots)

variable (m : (ℓ : Loc nD τ sig) → Buf (Elt Ideal) ℓ) (ρ : Dev nD → PrngReg)

/-! ## The windows' blocks at an index -/

theorem idx_facts : ∀ t : Fin cfg0.N,
    (win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_9.index t = ![t.val, 0] ∧ win0_11.index t = ![t.val, 0] ∧ win0_12.index t = ![t.val, 0] ∧ win0_13.index t = ![t.val, 0] ∧ win0_14.index t = ![t.val, 0] ∧ win0_15.index t = ![t.val, 0])
    ∧ (win0_8.index t = ![0, 0] ∧ win0_10.index t = ![0, 0] ∧ win0_16.index t = ![0, 0]) :=
  (by decide +kernel : ∀ t : Fin grid0.N, _)

/-- Row `r` of point `t`'s blocks is row `512 t + r` of the arrays. -/
abbrev row (t : Fin cfg0.N) (r : Fin 512) : Fin 8192 := ⟨t.val * 512 + r.val, by have h : t.val < 16 := t.isLt; omega⟩

/-! Where an element of a point's block lies in its array: `512 t` rows below, or, for the gain, the weight and the gain's
    gradient, at the same place. -/

theorem emb0 (t : Fin cfg0.N) (r : Fin 512) (k : Fin 512) : (win0_0.rect t).emb (ix2 r k) = ix2 (row t r) k := by
  refine Shape.idx_ext₂ ?_ ?_
  · rw [Pipeline.Window.rect_emb_val win0_0, (idx_facts t).1.1]; rfl
  · rw [Pipeline.Window.rect_emb_val win0_0, (idx_facts t).1.1]; show 0 * _ + k.val = k.val; omega
theorem emb1 (t : Fin cfg0.N) (r : Fin 512) (k : Fin 512) : (win0_1.rect t).emb (ix2 r k) = ix2 (row t r) k := by
  refine Shape.idx_ext₂ ?_ ?_
  · rw [Pipeline.Window.rect_emb_val win0_1, (idx_facts t).1.2.1]; rfl
  · rw [Pipeline.Window.rect_emb_val win0_1, (idx_facts t).1.2.1]; show 0 * _ + k.val = k.val; omega
theorem emb2 (t : Fin cfg0.N) (r : Fin 512) (k : Fin 512) : (win0_2.rect t).emb (ix2 r k) = ix2 (row t r) k := by
  refine Shape.idx_ext₂ ?_ ?_
  · rw [Pipeline.Window.rect_emb_val win0_2, (idx_facts t).1.2.2.1]; rfl
  · rw [Pipeline.Window.rect_emb_val win0_2, (idx_facts t).1.2.2.1]; show 0 * _ + k.val = k.val; omega
theorem emb3 (t : Fin cfg0.N) (r : Fin 512) (k : Fin 512) : (win0_3.rect t).emb (ix2 r k) = ix2 (row t r) k := by
  refine Shape.idx_ext₂ ?_ ?_
  · rw [Pipeline.Window.rect_emb_val win0_3, (idx_facts t).1.2.2.2.1]; rfl
  · rw [Pipeline.Window.rect_emb_val win0_3, (idx_facts t).1.2.2.2.1]; show 0 * _ + k.val = k.val; omega
theorem emb4 (t : Fin cfg0.N) (r : Fin 512) (k : Fin 128) : (win0_4.rect t).emb (ix2 r k) = ix2 (row t r) k := by
  refine Shape.idx_ext₂ ?_ ?_
  · rw [Pipeline.Window.rect_emb_val win0_4, (idx_facts t).1.2.2.2.2.1]; rfl
  · rw [Pipeline.Window.rect_emb_val win0_4, (idx_facts t).1.2.2.2.2.1]; show 0 * _ + k.val = k.val; omega
theorem emb5 (t : Fin cfg0.N) (r : Fin 512) (k : Fin 128) : (win0_5.rect t).emb (ix2 r k) = ix2 (row t r) k := by
  refine Shape.idx_ext₂ ?_ ?_
  · rw [Pipeline.Window.rect_emb_val win0_5, (idx_facts t).1.2.2.2.2.2.1]; rfl
  · rw [Pipeline.Window.rect_emb_val win0_5, (idx_facts t).1.2.2.2.2.2.1]; show 0 * _ + k.val = k.val; omega
theorem emb6 (t : Fin cfg0.N) (r : Fin 512) (k : Fin 2048) : (win0_6.rect t).emb (ix2 r k) = ix2 (row t r) k := by
  refine Shape.idx_ext₂ ?_ ?_
  · rw [Pipeline.Window.rect_emb_val win0_6, (idx_facts t).1.2.2.2.2.2.2.1]; rfl
  · rw [Pipeline.Window.rect_emb_val win0_6, (idx_facts t).1.2.2.2.2.2.2.1]; show 0 * _ + k.val = k.val; omega
theorem emb7 (t : Fin cfg0.N) (r : Fin 512) (k : Fin 1024) : (win0_7.rect t).emb (ix2 r k) = ix2 (row t r) k := by
  refine Shape.idx_ext₂ ?_ ?_
  · rw [Pipeline.Window.rect_emb_val win0_7, (idx_facts t).1.2.2.2.2.2.2.2.1]; rfl
  · rw [Pipeline.Window.rect_emb_val win0_7, (idx_facts t).1.2.2.2.2.2.2.2.1]; show 0 * _ + k.val = k.val; omega
theorem emb9 (t : Fin cfg0.N) (r : Fin 512) (k : Fin 1024) : (win0_9.rect t).emb (ix2 r k) = ix2 (row t r) k := by
  refine Shape.idx_ext₂ ?_ ?_
  · rw [Pipeline.Window.rect_emb_val win0_9, (idx_facts t).1.2.2.2.2.2.2.2.2.1]; rfl
  · rw [Pipeline.Window.rect_emb_val win0_9, (idx_facts t).1.2.2.2.2.2.2.2.2.1]; show 0 * _ + k.val = k.val; omega
theorem emb11 (t : Fin cfg0.N) (r : Fin 512) (k : Fin 128) : (win0_11.rect t).emb (ix2 r k) = ix2 (row t r) k := by
  refine Shape.idx_ext₂ ?_ ?_
  · rw [Pipeline.Window.rect_emb_val win0_11, (idx_facts t).1.2.2.2.2.2.2.2.2.2.1]; rfl
  · rw [Pipeline.Window.rect_emb_val win0_11, (idx_facts t).1.2.2.2.2.2.2.2.2.2.1]; show 0 * _ + k.val = k.val; omega
theorem emb12 (t : Fin cfg0.N) (r : Fin 512) (k : Fin 128) : (win0_12.rect t).emb (ix2 r k) = ix2 (row t r) k := by
  refine Shape.idx_ext₂ ?_ ?_
  · rw [Pipeline.Window.rect_emb_val win0_12, (idx_facts t).1.2.2.2.2.2.2.2.2.2.2.1]; rfl
  · rw [Pipeline.Window.rect_emb_val win0_12, (idx_facts t).1.2.2.2.2.2.2.2.2.2.2.1]; show 0 * _ + k.val = k.val; omega
theorem emb13 (t : Fin cfg0.N) (r : Fin 512) (k : Fin 128) : (win0_13.rect t).emb (ix2 r k) = ix2 (row t r) k := by
  refine Shape.idx_ext₂ ?_ ?_
  · rw [Pipeline.Window.rect_emb_val win0_13, (idx_facts t).1.2.2.2.2.2.2.2.2.2.2.2.1]; rfl
  · rw [Pipeline.Window.rect_emb_val win0_13, (idx_facts t).1.2.2.2.2.2.2.2.2.2.2.2.1]; show 0 * _ + k.val = k.val; omega
theorem emb14 (t : Fin cfg0.N) (r : Fin 512) (k : Fin 4352) : (win0_14.rect t).emb (ix2 r k) = ix2 (row t r) k := by
  refine Shape.idx_ext₂ ?_ ?_
  · rw [Pipeline.Window.rect_emb_val win0_14, (idx_facts t).1.2.2.2.2.2.2.2.2.2.2.2.2.1]; rfl
  · rw [Pipeline.Window.rect_emb_val win0_14, (idx_facts t).1.2.2.2.2.2.2.2.2.2.2.2.2.1]; show 0 * _ + k.val = k.val; omega
theorem emb15 (t : Fin cfg0.N) (r : Fin 512) (k : Fin 1024) : (win0_15.rect t).emb (ix2 r k) = ix2 (row t r) k := by
  refine Shape.idx_ext₂ ?_ ?_
  · rw [Pipeline.Window.rect_emb_val win0_15, (idx_facts t).1.2.2.2.2.2.2.2.2.2.2.2.2.2]; rfl
  · rw [Pipeline.Window.rect_emb_val win0_15, (idx_facts t).1.2.2.2.2.2.2.2.2.2.2.2.2.2]; show 0 * _ + k.val = k.val; omega
theorem emb8 (t : Fin cfg0.N) (r : Fin 1) (k : Fin 1024) : (win0_8.rect t).emb (ix2 r k) = ix2 r k := by
  refine Shape.idx_ext₂ ?_ ?_
  · rw [Pipeline.Window.rect_emb_val win0_8, (idx_facts t).2.1]; show 0 * _ + r.val = r.val; omega
  · rw [Pipeline.Window.rect_emb_val win0_8, (idx_facts t).2.1]; show 0 * _ + k.val = k.val; omega
theorem emb10 (t : Fin cfg0.N) (r : Fin 4352) (k : Fin 1024) : (win0_10.rect t).emb (ix2 r k) = ix2 r k := by
  refine Shape.idx_ext₂ ?_ ?_
  · rw [Pipeline.Window.rect_emb_val win0_10, (idx_facts t).2.2.1]; show 0 * _ + r.val = r.val; omega
  · rw [Pipeline.Window.rect_emb_val win0_10, (idx_facts t).2.2.1]; show 0 * _ + k.val = k.val; omega
theorem emb16 (t : Fin cfg0.N) (r : Fin 1) (k : Fin 1024) : (win0_16.rect t).emb (ix2 r k) = ix2 r k := by
  refine Shape.idx_ext₂ ?_ ?_
  · rw [Pipeline.Window.rect_emb_val win0_16, (idx_facts t).2.2.2]; show 0 * _ + r.val = r.val; omega
  · rw [Pipeline.Window.rect_emb_val win0_16, (idx_facts t).2.2.2]; show 0 * _ + k.val = k.val; omega

/-! ## The arguments, and a point's blocks as rows of them -/

abbrev a0 (c : Dev nD) : Vec Ideal Cert.Reference8Ideal.S8192x512 .bf16 := m ((c : Thread nD τ).loc main_arg0)
abbrev a1 (c : Dev nD) : Vec Ideal Cert.Reference8Ideal.S8192x512 .f32 := m ((c : Thread nD τ).loc main_arg1)
abbrev a2 (c : Dev nD) : Vec Ideal Cert.Reference8Ideal.S8192x512 .f32 := m ((c : Thread nD τ).loc main_arg2)
abbrev a3 (c : Dev nD) : Vec Ideal Cert.Reference8Ideal.S8192x512 .f32 := m ((c : Thread nD τ).loc main_arg3)
abbrev a4 (c : Dev nD) : Vec Ideal Cert.Reference8Ideal.S8192x128 .f32 := m ((c : Thread nD τ).loc main_arg4)
abbrev a5 (c : Dev nD) : Vec Ideal Cert.Reference8Ideal.S8192x128 .f32 := m ((c : Thread nD τ).loc main_arg5)
abbrev a6 (c : Dev nD) : Vec Ideal Cert.Reference8Ideal.S8192x2048 .bf16 := m ((c : Thread nD τ).loc main_arg6)
abbrev a7 (c : Dev nD) : Vec Ideal Cert.Reference8Ideal.S8192x1024 .f32 := m ((c : Thread nD τ).loc main_arg7)
abbrev a8 (c : Dev nD) : Vec Ideal Cert.Reference8Ideal.S1x1024 .f32 := m ((c : Thread nD τ).loc main_arg8)
abbrev a9 (c : Dev nD) : Vec Ideal Cert.Reference8Ideal.S8192x1024 .f32 := m ((c : Thread nD τ).loc main_arg9)
abbrev a10 (c : Dev nD) : Vec Ideal Cert.Reference8Ideal.S1024x4352 .f32 := m ((c : Thread nD τ).loc main_arg10)
abbrev a11 (c : Dev nD) : Vec Ideal Cert.Reference8Ideal.S8192x32 .f32 := m ((c : Thread nD τ).loc main_arg11)
abbrev a12 (c : Dev nD) : Vec Ideal Cert.Reference8Ideal.S8192x32 .f32 := m ((c : Thread nD τ).loc main_arg12)
/-- The cotangents by their coordinates. -/
abbrev X (c : Dev nD) : Cots 8192 := cots (a0 m c) (a1 m c) (a2 m c) (a3 m c) (a4 m c) (a5 m c) (a6 m c) (a11 m c) (a12 m c)

theorem V_v8 (c : Dev nD) (k : Fin 4352) (d : Fin 1024) : V m c main_v8 (ix2 k d) = a10 m c (ix2 d (col k)) := by
  unfold V hostOps0; after_results
  refine stacked _ _ _ _ (fun k d => (m ((c : Thread nD τ).loc main_arg10) : S1024x4352.Idx → EReal) (ix2 d k)) (fun k d => ?_) (fun k d => ?_) (fun k d => ?_) k d
  · exact rows_of _ 0 _ slices_S4352x1024_S1536x1024_0_0 k d _ (by show k.val = 0 + k.val; omega)
  · exact (Cert.Heads.pair_rows _ _ _ _ k d).trans (rows_of _ 1536 _ slices_S4352x1024_S512x1024_1536_0 _ d _ rfl)
  · exact rows_of _ 2048 _ slices_S4352x1024_S2304x1024_2048_0 k d _ rfl

theorem V_v13 (c : Dev nD) (r : Fin 8192) (j : Fin 128) : V m c main_v13 (ix2 r j) = concatenate S8192x64 1
    [⟨S8192x32, (m ((c : Thread nD τ).loc main_arg11) : S8192x32.Idx → EReal)⟩, ⟨S8192x32, (m ((c : Thread nD τ).loc main_arg11) : S8192x32.Idx → EReal)⟩]
    concatenates_S8192x32_S8192x32_S8192x64_d1 (ix2 r ⟨j.val % 64, Nat.mod_lt _ (by omega)⟩) := by
  unfold V hostOps0; after_results; exact twice _ _ _ _ r j
theorem V_v18 (c : Dev nD) (r : Fin 8192) (j : Fin 128) : V m c main_v18 (ix2 r j) = concatenate S8192x64 1
    [⟨S8192x32, Host.negf (F := Ideal) (s := S8192x32) (φ := .f32) (m ((c : Thread nD τ).loc main_arg12))⟩,
      ⟨S8192x32, (broadcastInDim S8192x32 ![] bcast_S_S8192x32 (constant (F := Ideal) S_ .f32 0x00000000#32) : S8192x32.Idx → EReal)⟩]
    concatenates_S8192x32_S8192x32_S8192x64_d1 (ix2 r ⟨j.val % 64, Nat.mod_lt _ (by omega)⟩) := by
  unfold V hostOps0; after_results; exact twice _ _ _ _ r j
theorem V_v22 (c : Dev nD) (r : Fin 8192) (j : Fin 128) : V m c main_v22 (ix2 r j) = concatenate S8192x64 1
    [⟨S8192x32, (broadcastInDim S8192x32 ![] bcast_S_S8192x32 (constant (F := Ideal) S_ .f32 0x00000000#32) : S8192x32.Idx → EReal)⟩,
      ⟨S8192x32, (m ((c : Thread nD τ).loc main_arg12) : S8192x32.Idx → EReal)⟩]
    concatenates_S8192x32_S8192x32_S8192x64_d1 (ix2 r ⟨j.val % 64, Nat.mod_lt _ (by omega)⟩) := by
  unfold V hostOps0; after_results; exact twice _ _ _ _ r j

/-- The host's three tables are tables of the two arguments. -/
theorem V_tables (c : Dev nD) : Tables (cur (V m c main_v13 : S8192x128.Idx → EReal)) (cur (V m c main_v18 : S8192x128.Idx → EReal))
    (cur (V m c main_v22 : S8192x128.Idx → EReal)) (X m c).cos (X m c).sin :=
  tables_of concatenates_S8192x32_S8192x32_S8192x64_d1 (V_v13 m c) (V_v18 m c) (V_v22 m c) (fun _ => rfl) (fun _ => ofBits_zero)

theorem blk0 (c : Dev nD) (t : Fin cfg0.N) (r : Fin 512) (k : Fin 512) : (iblk m c 0 t : Vec Ideal S512x512 .bf16) (ix2 r k) = a0 m c (ix2 (row t r) k) :=
  (congrArg (V m c main_arg0) (emb0 t r k)).trans (congrFun (V_main_arg0 m c) _)
theorem blk1 (c : Dev nD) (t : Fin cfg0.N) (r : Fin 512) (k : Fin 512) : (iblk m c 1 t : Vec Ideal S512x512 .f32) (ix2 r k) = a1 m c (ix2 (row t r) k) :=
  (congrArg (V m c main_arg1) (emb1 t r k)).trans (congrFun (V_main_arg1 m c) _)
theorem blk2 (c : Dev nD) (t : Fin cfg0.N) (r : Fin 512) (k : Fin 512) : (iblk m c 2 t : Vec Ideal S512x512 .f32) (ix2 r k) = a2 m c (ix2 (row t r) k) :=
  (congrArg (V m c main_arg2) (emb2 t r k)).trans (congrFun (V_main_arg2 m c) _)
theorem blk3 (c : Dev nD) (t : Fin cfg0.N) (r : Fin 512) (k : Fin 512) : (iblk m c 3 t : Vec Ideal S512x512 .f32) (ix2 r k) = a3 m c (ix2 (row t r) k) :=
  (congrArg (V m c main_arg3) (emb3 t r k)).trans (congrFun (V_main_arg3 m c) _)
theorem blk4 (c : Dev nD) (t : Fin cfg0.N) (r : Fin 512) (k : Fin 128) : (iblk m c 4 t : Vec Ideal S512x128 .f32) (ix2 r k) = a4 m c (ix2 (row t r) k) :=
  (congrArg (V m c main_arg4) (emb4 t r k)).trans (congrFun (V_main_arg4 m c) _)
theorem blk5 (c : Dev nD) (t : Fin cfg0.N) (r : Fin 512) (k : Fin 128) : (iblk m c 5 t : Vec Ideal S512x128 .f32) (ix2 r k) = a5 m c (ix2 (row t r) k) :=
  (congrArg (V m c main_arg5) (emb5 t r k)).trans (congrFun (V_main_arg5 m c) _)
theorem blk6 (c : Dev nD) (t : Fin cfg0.N) (r : Fin 512) (k : Fin 2048) : (iblk m c 6 t : Vec Ideal S512x2048 .bf16) (ix2 r k) = a6 m c (ix2 (row t r) k) :=
  (congrArg (V m c main_arg6) (emb6 t r k)).trans (congrFun (V_main_arg6 m c) _)
theorem blk7 (c : Dev nD) (t : Fin cfg0.N) (r : Fin 512) (k : Fin 1024) : (iblk m c 7 t : Vec Ideal S512x1024 .f32) (ix2 r k) = a7 m c (ix2 (row t r) k) :=
  (congrArg (V m c main_arg7) (emb7 t r k)).trans (congrFun (V_main_arg7 m c) _)
theorem blk9 (c : Dev nD) (t : Fin cfg0.N) (r : Fin 512) (k : Fin 1024) : (iblk m c 9 t : Vec Ideal S512x1024 .f32) (ix2 r k) = a9 m c (ix2 (row t r) k) :=
  (congrArg (V m c main_arg9) (emb9 t r k)).trans (congrFun (V_main_arg9 m c) _)
theorem blk8 (c : Dev nD) (t : Fin cfg0.N) (k : Fin 1024) : (iblk m c 8 t : Vec Ideal S1x1024 .f32) (ix2 0 k) = a8 m c (ix2 0 k) :=
  (congrArg (V m c main_arg8) (emb8 t 0 k)).trans (congrFun (V_main_arg8 m c) _)
theorem blk10 (c : Dev nD) (t : Fin cfg0.N) (k : Fin 4352) (d : Fin 1024) : (iblk m c 10 t : Vec Ideal S4352x1024 .bf16) (ix2 k d) = a10 m c (ix2 d (col k)) :=
  (congrArg (V m c main_v8) (emb10 t k d)).trans (V_v8 m c k d)
theorem blk11 (c : Dev nD) (t : Fin cfg0.N) : cur (iblk m c 11 t : Vec Ideal S512x128 .f32) = fun r => cur (V m c main_v13 : S8192x128.Idx → EReal) (row t r) := by
  funext r k
  exact congrArg (V m c main_v13) (emb11 t r k)
theorem blk12 (c : Dev nD) (t : Fin cfg0.N) : cur (iblk m c 12 t : Vec Ideal S512x128 .f32) = fun r => cur (V m c main_v18 : S8192x128.Idx → EReal) (row t r) := by
  funext r k
  exact congrArg (V m c main_v18) (emb12 t r k)
theorem blk13 (c : Dev nD) (t : Fin cfg0.N) : cur (iblk m c 13 t : Vec Ideal S512x128 .f32) = fun r => cur (V m c main_v22 : S8192x128.Idx → EReal) (row t r) := by
  funext r k
  exact congrArg (V m c main_v22) (emb13 t r k)

/-- A point's three table blocks are tables of its rows. -/
theorem tables (c : Dev nD) (t : Fin cfg0.N) : Tables (cur (iblk m c 11 t : Vec Ideal S512x128 .f32)) (cur (iblk m c 12 t : Vec Ideal S512x128 .f32))
    (cur (iblk m c 13 t : Vec Ideal S512x128 .f32)) (fun r => (X m c).cos (row t r)) (fun r => (X m c).sin (row t r)) := by
  rw [blk11, blk12, blk13]
  exact (V_tables m c).rows (row t)

/-- A point's blocks of the cotangents are its rows of them. -/
theorem parts_at (c : Dev nD) (t : Fin cfg0.N) :
    parts (iblk m c 0 t) (iblk m c 1 t) (iblk m c 2 t) (iblk m c 3 t) (iblk m c 4 t) (iblk m c 5 t) (iblk m c 6 t)
      (fun r => (X m c).cos (row t r)) (fun r => (X m c).sin (row t r)) = (X m c).rows (row t) := by
  have e0 : cur (iblk m c 0 t : Vec Ideal S512x512 .bf16) = fun r => (X m c).qa (row t r) := funext fun r => funext fun k => blk0 m c t r k
  have e1 : cur (iblk m c 1 t : Vec Ideal S512x512 .f32) = fun r => (X m c).ka (row t r) := funext fun r => funext fun k => blk1 m c t r k
  have e2 : cur (iblk m c 2 t : Vec Ideal S512x512 .f32) = fun r => (X m c).va (row t r) := funext fun r => funext fun k => blk2 m c t r k
  have e3 : cur (iblk m c 3 t : Vec Ideal S512x512 .f32) = fun r => (X m c).qb (row t r) := funext fun r => funext fun k => blk3 m c t r k
  have e4 : cur (iblk m c 4 t : Vec Ideal S512x128 .f32) = fun r => (X m c).kb (row t r) := funext fun r => funext fun k => blk4 m c t r k
  have e5 : cur (iblk m c 5 t : Vec Ideal S512x128 .f32) = fun r => (X m c).vb (row t r) := funext fun r => funext fun k => blk5 m c t r k
  have e6 : cur (iblk m c 6 t : Vec Ideal S512x2048 .bf16) = fun r => (X m c).gates (row t r) := funext fun r => funext fun k => blk6 m c t r k
  unfold parts
  rw [e0, e1, e2, e3, e4, e5, e6]
  rfl

/-! ## The outputs after a point -/

/-- The ten stores of a point. -/
abbrev filled (c : Dev nD) (t : Fin cfg0.N) : List (View.Piece (Elt Ideal) S512x4352 .bf16) :=
  stores (iblk m c 0 t) (iblk m c 1 t) (iblk m c 2 t) (iblk m c 3 t) (iblk m c 4 t) (iblk m c 5 t) (iblk m c 6 t) (iblk m c 11 t) (iblk m c 12 t) (iblk m c 13 t)

theorem filled_apply (c : Dev nD) (t : Fin cfg0.N) (r : Fin 512) (k : Fin 4352) : View.canon (filled m c t) (ix2 r k) = dz (X m c) (row t r) k := by
  refine (stores_apply _ _ _ _ _ _ _ (tables m c t) r k).trans ?_
  rw [parts_at]
  rfl

/-- The cotangent's buffer after a point. -/
theorem cotangent (c : Dev nD) (t : Fin cfg0.N) (r : Fin 512) (k : Fin 4352) :
    (outsAt0 m c t.val t.isLt).1 (ix2 r k) = dz (X m c) (row t r) k := by
  by_cases h0 : t.val % 16 = 0
  · rw [outsAt0_A m c t h0]
    frame_out
    exact filled_apply m c t r k
  · rw [outsAt0_B m c t h0]
    frame_out
    exact filled_apply m c t r k

theorem idx_whole (inb) (r : Fin 512) (k : Fin 4352) :
    (Rect.unit (s := S512x4352) ![0, 0] ![512, 4352] inb).toLoadRect.idx (ix2 r k) = ix2 r k :=
  Shape.idx_ext₂ (by show 0 + 1 * r.val = r.val; omega) (by show 0 + 1 * k.val = k.val; omega)

/-- The weight as the run's memory holds it. -/
abbrev W (c : Dev nD) : Fin 1024 → Fin 4352 → EReal := fun d k => a10 m c (ix2 d k)
/-- The rows. -/
abbrev rows (c : Dev nD) : Fin 8192 → Fin 1024 → EReal := fun r k => a7 m c (ix2 r k)

/-- The product of the point's cotangent, read back from its buffer, and the weight. -/
theorem product (c : Dev nD) (t : Fin cfg0.N) (inb) (r : Fin 512) (k : Fin 1024) :
    k0_pay17 (F := Ideal) ((ms0_14 t).view.readCov (filled m c t) (Rect.unit (s := S512x4352) ![0, 0] ![512, 4352] inb).toLoadRect) (iblk m c 10 t) (ix2 r k)
      = dn (X m c) (W m c) (row t r) k := by
  refine (pay17_apply (X := (X m c).rows (row t)) (W := W m c) (fun r k => ?_) (fun k d => blk10 m c t k d) r k).trans rfl
  exact (congrFun (View.readCov_eq_canon' _ _ _) _).trans ((congrArg _ (idx_whole _ r k)).trans (filled_apply m c t r k))

/-- The gradient of a block's rows, from what the block holds of the whole arrays. -/
theorem dRow_block {D x d : Fin 512 → Fin 1024 → EReal} {D' x' d' : Fin 8192 → Fin 1024 → EReal} {g g' : Fin 1024 → EReal} (R : Fin 512 → Fin 8192)
    (hD : ∀ r k, D r k = D' (R r) k) (hx : ∀ r k, x r k = x' (R r) k) (hd : ∀ r k, d r k = d' (R r) k) (hg : ∀ k, g k = g' k) (r : Fin 512)
    (k : Fin 1024) : dRow D x d g r k = dRow D' x' d' g' (R r) k := by
  obtain rfl : D = fun r k => D' (R r) k := funext fun r => funext fun k => hD r k
  obtain rfl : x = fun r k => x' (R r) k := funext fun r => funext fun k => hx r k
  obtain rfl : d = fun r k => d' (R r) k := funext fun r => funext fun k => hd r k
  obtain rfl : g = g' := funext hg
  rfl

/-- The share of the gain's gradient a block's rows make, likewise. -/
theorem dGain_block {D x : Fin 512 → Fin 1024 → EReal} {D' x' : Fin 8192 → Fin 1024 → EReal} (R : Fin 512 → Fin 8192)
    (hD : ∀ r k, D r k = D' (R r) k) (hx : ∀ r k, x r k = x' (R r) k) (k : Fin 1024) :
    dGain D x k = ∑ r, D' (R r) k * rowHat (x' (R r)) k := by
  obtain rfl : D = fun r k => D' (R r) k := funext fun r => funext fun k => hD r k
  obtain rfl : x = fun r k => x' (R r) k := funext fun r => funext fun k => hx r k
  rfl

/-- The rows' gradient after a point. -/
theorem rows_at (c : Dev nD) (t : Fin cfg0.N) (r : Fin 512) (k : Fin 1024) :
    (outsAt0 m c t.val t.isLt).2.1 (ix2 r k)
      = dRow (dn (X m c) (W m c)) (rows m c) (fun r k => a9 m c (ix2 r k)) (fun k => a8 m c (ix2 0 k)) (row t r) k := by
  by_cases h0 : t.val % 16 = 0
  · rw [outsAt0_A m c t h0]
    frame_out
    exact (pay4_apply r k).trans (dRow_block (row t) (fun r k => product m c t _ r k) (fun r k => blk7 m c t r k) (fun r k => blk9 m c t r k)
      (fun k => blk8 m c t k) r k)
  · rw [outsAt0_B m c t h0]
    frame_out
    exact (pay4_apply r k).trans (dRow_block (row t) (fun r k => product m c t _ r k) (fun r k => blk7 m c t r k) (fun r k => blk9 m c t r k)
      (fun k => blk8 m c t k) r k)

/-- What point `n` adds to the gain's gradient. -/
def gainShare (c : Dev nD) (k : Fin 1024) (n : ℕ) : EReal :=
  if h : n < 16 then ∑ r, dn (X m c) (W m c) (row ⟨n, h⟩ r) k * rowHat (rows m c (row ⟨n, h⟩ r)) k else 0

theorem gain_A (c : Dev nD) (t : Fin cfg0.N) (h0 : t.val % 16 = 0) (k : Fin 1024) :
    (outsAt0 m c t.val t.isLt).2.2 (ix2 0 k) = gainShare m c k t.val := by
  have ht : t.val < 16 := t.isLt
  rw [outsAt0_A m c t h0]
  frame_out
  refine (pay3_apply _ 0 k).trans ?_
  refine (congrArg (· + _) ofBits_zero).trans ((zero_add _).trans ?_)
  rw [gainShare, dif_pos ht]
  exact dGain_block (row t) (fun r k => product m c t _ r k) (fun r k => blk7 m c t r k) k

theorem gain_B (c : Dev nD) (t : Fin cfg0.N) (h0 : ¬t.val % 16 = 0) (k : Fin 1024) :
    (outsAt0 m c t.val t.isLt).2.2 (ix2 0 k)
      = (outsAt0 m c (t.val - 1) (Nat.lt_of_le_of_lt (Nat.sub_le _ _) t.isLt)).2.2 (ix2 0 k) + gainShare m c k t.val := by
  have ht : t.val < 16 := t.isLt
  rw [outsAt0_B m c t h0]
  frame_out
  refine (pay3_apply _ 0 k).trans ?_
  refine congrArg (_ + ·) ?_
  rw [gainShare, dif_pos ht]
  exact dGain_block (row t) (fun r k => product m c t _ r k) (fun r k => blk7 m c t r k) k

/-- After point `n` the gain's buffer holds the shares of the points so far. -/
theorem gains (c : Dev nD) (k : Fin 1024) (n : ℕ) : ∀ hn : n < cfg0.N,
    (outsAt0 m c n hn).2.2 (ix2 0 k) = ∑ l ∈ Finset.range (n + 1), gainShare m c k l := by
  induction n with
  | zero =>
    intro hn
    rw [Finset.sum_range_one]
    exact gain_A m c ⟨0, hn⟩ rfl k
  | succ n ih =>
    intro hn
    have h16 : n + 1 < 16 := hn
    rw [Finset.sum_range_succ _ (n + 1), ← ih (by omega)]
    exact gain_B m c ⟨n + 1, hn⟩ (by show ¬(n + 1) % 16 = 0; omega) k

/-- After the last point it holds the gradient of the gain. -/
theorem gain_last (c : Dev nD) (k : Fin 1024) (hn : 15 < cfg0.N) :
    (outsAt0 m c 15 hn).2.2 (ix2 0 k) = dGain (dn (X m c) (W m c)) (rows m c) k := by
  refine (gains m c k 15 hn).trans ?_
  rw [Finset.sum_range]
  refine (Finset.sum_congr rfl fun i _ => ?_).trans
    (Fin.sum_mul_add_fin 16 512 (fun R : Fin 8192 => dn (X m c) (W m c) R k * rowHat (rows m c R) k) rfl)
  exact dif_pos i.isLt

/-! ## The result arrays after the run -/

/-- The point whose blocks hold row `a`. -/
abbrev pt (a : Fin 8192) : Fin cfg0.N := ⟨a.val / 512, by have := a.isLt; show a.val / 512 < 16; omega⟩
/-- Row `a`'s place in them. -/
abbrev sub (a : Fin 8192) : Fin 512 := ⟨a.val % 512, Nat.mod_lt _ (by omega)⟩
theorem row_pt (a : Fin 8192) : row (pt a) (sub a) = a := Fin.ext (by show a.val / 512 * 512 + a.val % 512 = a.val; omega)
/-- The last point. -/
abbrev last : Fin cfg0.N := ⟨15, by show 15 < 16; omega⟩

/-- The cotangent of the projection. -/
abbrev G14 (X : Cots 8192) : S8192x4352.Idx → EReal := fun i => dz X (i 0) (i 1)
/-- The rows' gradient. -/
abbrev G15 (X : Cots 8192) (w : Fin 1024 → Fin 4352 → EReal) (h d : Fin 8192 → Fin 1024 → EReal) (g : Fin 1024 → EReal) :
    S8192x1024.Idx → EReal := fun i => dRow (dn X w) h d g (i 0) (i 1)
/-- The gain's gradient. -/
abbrev G16 (X : Cots 8192) (w : Fin 1024 → Fin 4352 → EReal) (h : Fin 8192 → Fin 1024 → EReal) : S1x1024.Idx → EReal :=
  fun i => dGain (dn X w) h (i 1)

theorem final14 (c : Dev nD) : (dats m 0 c).arrAt 14 cfg0.N = G14 (X m c) := by
  refine (dats m 0 c).arrAt_eq_of_cover 14 (G14 (X m c)) (fun t _ => ?_) fun i => ?_
  · rw [Value.flushed14]
    funext y
    obtain ⟨r, k, rfl⟩ : ∃ (r : Fin 512) (k : Fin 4352), y = ix2 r k := ⟨y 0, y 1, eq_ix2 y⟩
    exact (cotangent m c t r k).trans (congrArg (G14 (X m c)) (emb14 t r k)).symm
  · obtain ⟨a, b, rfl⟩ : ∃ (a : Fin 8192) (b : Fin 4352), i = ix2 a b := ⟨i 0, i 1, eq_ix2 i⟩
    have h : ((cfg0.win 14).blk (pt a)).view.emb (ix2 (sub a) b) = ix2 a b := (emb14 (pt a) (sub a) b).trans (by rw [row_pt])
    exact ⟨pt a, flush0_14 _, h ▸ ((cfg0.win 14).blk (pt a)).view.emb_mem_set (ix2 (sub a) b)⟩

theorem final15 (c : Dev nD) : (dats m 0 c).arrAt 15 cfg0.N = G15 (X m c) (W m c) (rows m c) (fun r k => a9 m c (ix2 r k)) (fun k => a8 m c (ix2 0 k)) := by
  refine (dats m 0 c).arrAt_eq_of_cover 15 (G15 (X m c) (W m c) (rows m c) (fun r k => a9 m c (ix2 r k)) (fun k => a8 m c (ix2 0 k))) (fun t _ => ?_) fun i => ?_
  · rw [Value.flushed15]
    funext y
    obtain ⟨r, k, rfl⟩ : ∃ (r : Fin 512) (k : Fin 1024), y = ix2 r k := ⟨y 0, y 1, eq_ix2 y⟩
    exact (rows_at m c t r k).trans (congrArg (G15 (X m c) (W m c) (rows m c) (fun r k => a9 m c (ix2 r k)) (fun k => a8 m c (ix2 0 k))) (emb15 t r k)).symm
  · obtain ⟨a, b, rfl⟩ : ∃ (a : Fin 8192) (b : Fin 1024), i = ix2 a b := ⟨i 0, i 1, eq_ix2 i⟩
    have h : ((cfg0.win 15).blk (pt a)).view.emb (ix2 (sub a) b) = ix2 a b := (emb15 (pt a) (sub a) b).trans (by rw [row_pt])
    exact ⟨pt a, flush0_15 _, h ▸ ((cfg0.win 15).blk (pt a)).view.emb_mem_set (ix2 (sub a) b)⟩

theorem final16 (c : Dev nD) : (dats m 0 c).arrAt 16 cfg0.N = G16 (X m c) (W m c) (rows m c) := by
  refine (dats m 0 c).arrAt_eq_of_cover 16 (G16 (X m c) (W m c) (rows m c)) (fun t ht => ?_) fun i => ?_
  · have hv : t.val % 16 = 15 := (flush0_16 _).mp ht
    have h16 : t.val < 16 := t.isLt
    obtain rfl : t = last := Fin.ext (by show t.val = 15; omega)
    rw [Value.flushed16]
    funext y
    obtain ⟨u, k, rfl⟩ : ∃ (u : Fin 1) (k : Fin 1024), y = ix2 u k := ⟨y 0, y 1, eq_ix2 y⟩
    obtain rfl : u = 0 := Subsingleton.elim _ _
    refine (gain_last m c k _).trans (Eq.symm ?_)
    have e : ∀ G : S1x1024.Idx → EReal, View.read (Elt Ideal) ((cfg0.win 16).blk last).view G (ix2 0 k) = G (ix2 0 k) :=
      fun G => congrArg G (emb16 last 0 k)
    exact e (G16 (X m c) (W m c) (rows m c))
  · obtain ⟨a, b, rfl⟩ : ∃ (a : Fin 1) (b : Fin 1024), i = ix2 a b := ⟨i 0, i 1, eq_ix2 i⟩
    have h : ((cfg0.win 16).blk last).view.emb (ix2 a b) = ix2 a b := emb16 last a b
    exact ⟨last, (flush0_16 _).mpr rfl, h ▸ ((cfg0.win 16).blk last).view.emb_mem_set (ix2 a b)⟩

end Cert.Kernel8Ideal.MixInBwd

end
-- ==== Proof.MixInBwdClaims.lean ====
/-
  The claims of the two mixers' entry backwards: the frames, and the equality of the kernel's three results with the
  reference's.
-/
module

public import proofs.«01_k».proof.Proof.MixInBwdArrays
public import proofs.«01_k».proof.Proof.Gen.Kernel8.Frame
public import proofs.«01_k».proof.Proof.Gen.Reference8Ideal.Run
public import Idealize.ShloMosaic.Lib.Quiescent

@[expose] public section

noncomputable section

open Idealize.ShloMosaic hiding ix1 ix2 ix3 eq_ix2 eq_ix3
open Idealize.ShloMosaic.TcCoe Idealize.SL.Sem Idealize.ShloMosaic.ValueIdx
open scoped BigOperators

namespace Cert.MixInBwdClaims

open Cert.Kernel8Ideal.MixInBwd Cert.Reference8Ideal.MixInBwd Cert.MixInBwdSpec Cert.FfnSpec

/-! ## The kernel's run and the reference's arrays -/

section Runs

open Cert.Kernel8Ideal Cert.Kernel8Ideal.Gen

variable (m : (ℓ : Loc nD τ sig) → Buf (Elt Ideal) ℓ) (ρ : Dev nD → PrngReg)

/-- The kernel's run: the cotangent of the projection, the gradients of the rows and of the gain, and the arguments hold what they
    held. -/
theorem kernel_run :
    θ_run (defs (F := Ideal)) (onTc (τ := τ) (main (F := Ideal))) ⟨m, fun _ => 0, ρ⟩ fun r => ∀ c : Dev nD,
      r.2.mem ((c.tc : Thread nD τ).loc main_v23_0) = G14 (X m c)
      ∧ r.2.mem ((c.tc : Thread nD τ).loc main_v23_1) = G15 (X m c) (W m c) (rows m c) (fun r k => a9 m c (ix2 r k)) (fun k => a8 m c (ix2 0 k))
      ∧ r.2.mem ((c.tc : Thread nD τ).loc main_v23_2) = G16 (X m c) (W m c) (rows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => by
    obtain ⟨h0, h1, h2, hargs⟩ := h c
    exact ⟨h0.trans (final14 m c), h1.trans (final15 m c), h2.trans (final16 m c), hargs⟩)
    (Value.run_blocks (F := Ideal) m ρ)

end Runs

section Arrays

open Cert.Reference8Ideal Cert.Reference8Ideal.Read

variable {x0 : Vec Ideal S8192x512 .bf16} {x1 x2 x3 : Vec Ideal S8192x512 .f32} {x4 x5 : Vec Ideal S8192x128 .f32} {x6 : Vec Ideal S8192x2048 .bf16}
  {x7 : Vec Ideal S8192x1024 .f32} {x8 : Vec Ideal S1x1024 .f32} {x9 : Vec Ideal S8192x1024 .f32} {x10 : Vec Ideal S1024x4352 .f32}
  {x11 x12 : Vec Ideal S8192x32 .f32}

theorem reference14 : val_main_v122 (F := Ideal) x0 x1 x2 x3 x4 x5 x6 x11 x12 = G14 (cots x0 x1 x2 x3 x4 x5 x6 x11 x12) := by
  funext i
  obtain ⟨a, b, rfl⟩ : ∃ (a : Fin 8192) (b : Fin 4352), i = ix2 a b := ⟨i 0, i 1, eq_ix2 i⟩
  exact result_apply x0 x1 x2 x3 x4 x5 x6 x11 x12 a b

theorem reference15 : val_main_v123 (F := Ideal) x0 x1 x2 x3 x4 x5 x6 x7 x8 x9 x10 x11 x12
    = G15 (cots x0 x1 x2 x3 x4 x5 x6 x11 x12) (fun c k => x10 (ix2 c k)) (fun r k => x7 (ix2 r k)) (fun r k => x9 (ix2 r k)) (fun k => x8 (ix2 0 k)) := by
  funext i
  obtain ⟨a, b, rfl⟩ : ∃ (a : Fin 8192) (b : Fin 1024), i = ix2 a b := ⟨i 0, i 1, eq_ix2 i⟩
  exact rowGrad_at x0 x1 x2 x3 x4 x5 x6 x7 x8 x9 x10 x11 x12 a b
theorem reference16 : val_main_v98 (F := Ideal) x0 x1 x2 x3 x4 x5 x6 x7 x10 x11 x12
    = G16 (cots x0 x1 x2 x3 x4 x5 x6 x11 x12) (fun c k => x10 (ix2 c k)) (fun r k => x7 (ix2 r k)) := by
  funext i
  obtain ⟨u, b, rfl⟩ : ∃ (u : Fin 1) (b : Fin 1024), i = ix2 u b := ⟨i 0, i 1, eq_ix2 i⟩
  exact gain_at x0 x1 x2 x3 x4 x5 x6 x7 x10 x11 x12 u b

end Arrays

/-! ## The claims -/

theorem frame_kernel : Cert.quiescent_Kernel8 := fun m ρ _ => Cert.Kernel8.Gen.frame m ρ
theorem frame_ideal : Cert.quiescent_Kernel8Ideal := fun m ρ _ => Cert.Kernel8Ideal.Gen.frame m ρ
/-- The reference's run read at the arguments; it declares no semaphore. -/
theorem frame_reference : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- The kernel's three results and the reference's are equal as extended reals, on every memory. -/
theorem algebraic : Cert.algebraic_Kernel8Ideal_Reference8Ideal := fun m g m' g' _ hm =>
  ⟨_, _, _, kernel_run m g,
    (θ_run Cert.Reference8Ideal.defs _ _).mono (fun r h c => by
      obtain ⟨h0, h1, h2, hargs⟩ := h c
      obtain ⟨e0, e1, e2, e3, e4, e5, e6, e7, e8, e9, e10, e11, e12⟩ := hm c
      refine ⟨h0.trans ((Cert.Reference8Ideal.Read.val_main_v122_eq m' c).trans ?_), h1.trans ((Cert.Reference8Ideal.Read.val_main_v123_eq m' c).trans ?_),
        h2.trans ((Cert.Reference8Ideal.Read.val_main_v98_eq m' c).trans ?_), hargs⟩
      · rw [e0, e1, e2, e3, e4, e5, e6, e11, e12]; exact reference14
      · rw [e0, e1, e2, e3, e4, e5, e6, e7, e8, e9, e10, e11, e12]; exact reference15
      · rw [e0, e1, e2, e3, e4, e5, e6, e7, e10, e11, e12]; exact reference16)
      (Cert.Reference8Ideal.Value.run (F := Ideal) m' g')⟩

end Cert.MixInBwdClaims

end
-- ==== Proof.FfnFwdPay.lean ====
/-
  What one point of the forward feed-forward kernel computes from its blocks, index by index, where the blocks are finite: the
  point goes over its 1024 rows in two halves and over its 704 hidden features in slices of 256, 256 and 192.
-/
module

public import proofs.«01_k».proof.Defs
public import proofs.«01_k».proof.Proof.Gen.Kernel11Ideal.Skeleton
public import proofs.«01_k».proof.Proof.FfnSpec
public import Idealize.ShloMosaic.Lib.Pipeline.ValueKit
public import Idealize.ShloMosaic.Lib.ValueLayoutCasts

@[expose] public section

noncomputable section

open Idealize.ShloMosaic hiding ix1 ix2 ix3 eq_ix2 eq_ix3
open Idealize.ShloMosaic.TcCoe Idealize.SL.Sem Idealize.ShloMosaic.ValueIdx
open scoped BigOperators

namespace Cert.Kernel11Ideal.FfnFwd

open Cert.Kernel11Ideal Cert.Kernel11Ideal.Gen Cert.FfnSpec Cert.Basics

/-! ## The logistic function through the hyperbolic tangent -/

theorem half_tanh (a : ℝ) : 1 / 2 * Real.tanh (1 / 2 * a) + 1 / 2 = Cert.FfnSpec.sig a := by
  have h : Real.exp (-a) = (Real.exp (1 / 2 * a))⁻¹ * (Real.exp (1 / 2 * a))⁻¹ := by
    rw [← Real.exp_neg, ← Real.exp_add]
    congr 1
    ring
  have hp := Real.exp_pos (1 / 2 * a)
  rw [Real.tanh_eq_sinh_div_cosh, Real.sinh_eq, Real.cosh_eq, Real.exp_neg, Cert.FfnSpec.sig, h]
  generalize Real.exp (1 / 2 * a) = e at hp
  have h2 : e * e + 1 ≠ 0 := by positivity
  field_simp
  ring

/-- The same as the kernel writes it. -/
theorem sig_kernel (a : EReal) (A : ℝ) (h : a = (A : EReal)) :
    Ideal.ofBits .f32 0x3F000000#32 * Ideal.tanh (Ideal.ofBits .f32 0x3F000000#32 * a) + Ideal.ofBits .f32 0x3F000000#32
      = (Cert.FfnSpec.sig A : EReal) := by
  rw [h, ofBits_half, ← EReal.coe_mul]
  show ((1 / 2 : ℝ) : EReal) * ((Real.tanh (1 / 2 * A) : ℝ) : EReal) + ((1 / 2 : ℝ) : EReal) = _
  rw [← EReal.coe_mul, ← EReal.coe_add, half_tanh]

/-- The derivative along the gate's projection as the kernel writes it. -/
theorem slope_kernel (b s a : EReal) (A B : ℝ) (hb : b = (B : EReal)) (hs : s = (Cert.FfnSpec.sig A : EReal)) (ha : a = (upFactor A : EReal)) :
    b * (s + a * (Ideal.ofBits .f32 0x3F800000#32 - s)) = (gateFactor A B : EReal) := by
  rw [hb, hs, ha, ofBits_one, ← EReal.coe_one, ← EReal.coe_sub, ← EReal.coe_mul, ← EReal.coe_add, ← EReal.coe_mul]
  rfl

/-! ## Projections of a half of the rows -/

section Products

variable {v : Vec Ideal S512x1024 .bf16} {R : Fin 512 → Fin 1024 → ℝ} (hv : ∀ r k, v (ix2 r k) = (R r k : EReal))

include hv

theorem wide {w : Vec Ideal S1x256x1024 .bf16} {W : Fin 256 → Fin 1024 → ℝ} (hw : ∀ j k, w (ix3 0 j k) = (W j k : EReal))
    (r : Fin 512) (j : Fin 256) : k0_pay4 (F := Ideal) v w (ix2 r j) = ((∑ k, R r k * W j k : ℝ) : EReal) := by
  unfold k0_pay4
  rw [shapeCast_self]
  refine (dot_transposed (M := 512) (K := 1024) (N := 256) (φ₁ := .bf16) (φ₂ := .bf16) none _ _ r j).trans (sum_eq_coe fun k => ?_)
  rw [shapeCast_1ab_ab_apply, hv, hw, ← EReal.coe_mul]

theorem narrow {w : Vec Ideal S1x192x1024 .bf16} {W : Fin 192 → Fin 1024 → ℝ} (hw : ∀ j k, w (ix3 0 j k) = (W j k : EReal))
    (r : Fin 512) (j : Fin 192) : k0_pay10 (F := Ideal) v w (ix2 r j) = ((∑ k, R r k * W j k : ℝ) : EReal) := by
  unfold k0_pay10
  rw [shapeCast_self]
  refine (dot_transposed (M := 512) (K := 1024) (N := 192) (φ₁ := .bf16) (φ₂ := .bf16) none _ _ r j).trans (sum_eq_coe fun k => ?_)
  rw [shapeCast_1ab_ab_apply, hv, hw, ← EReal.coe_mul]

end Products

/-! ## The gated features and their derivatives -/

section Wide

variable {a b : FVec Ideal S512x256 .f32} {A B : Fin 512 → Fin 256 → ℝ} (ha : ∀ r j, a (ix2 r j) = (A r j : EReal))
  (hb : ∀ r j, b (ix2 r j) = (B r j : EReal))

include ha

theorem sig_wide (r : Fin 512) (j : Fin 256) : k0_pay17 (F := Ideal) a (ix2 r j) = (Cert.FfnSpec.sig (A r j) : EReal) :=
  sig_kernel _ _ (ha r j)
theorem silu_wide (r : Fin 512) (j : Fin 256) : k0_pay18 (F := Ideal) a (ix2 r j) = (upFactor (A r j) : EReal) := by
  show a (ix2 r j) * k0_pay17 (F := Ideal) a (ix2 r j) = _
  rw [ha, sig_wide ha, ← EReal.coe_mul]
  rfl
theorem q_wide (r : Fin 512) (j : Fin 256) : k0_pay29 (F := Ideal) a (ix3 0 r j) = (upFactor (A r j) : EReal) := by
  unfold k0_pay29
  rw [shapeCast_ab_1ab_apply]
  exact silu_wide ha r j

include hb

theorem hidden_wide (r : Fin 512) (j : Fin 256) : k0_pay19 (F := Ideal) a b (ix2 r j) = ((upFactor (A r j) * B r j : ℝ) : EReal) := by
  show k0_pay18 (F := Ideal) a (ix2 r j) * b (ix2 r j) = _
  rw [silu_wide ha, hb, ← EReal.coe_mul]
theorem mid_wide (r : Fin 512) (j : Fin 256) : k0_pay20 (F := Ideal) a b (ix3 0 r j) = ((upFactor (A r j) * B r j : ℝ) : EReal) := by
  unfold k0_pay20
  rw [shapeCast_ab_1ab_apply]
  exact hidden_wide ha hb r j
theorem p_wide (r : Fin 512) (j : Fin 256) : k0_pay21 (F := Ideal) a b (ix3 0 r j) = (gateFactor (A r j) (B r j) : EReal) := by
  unfold k0_pay21
  rw [shapeCast_ab_1ab_apply]
  exact slope_kernel _ _ _ _ _ (hb r j) (sig_wide ha r j) (silu_wide ha r j)

end Wide

section Narrow

variable {a b : FVec Ideal S512x192 .f32} {A B : Fin 512 → Fin 192 → ℝ} (ha : ∀ r j, a (ix2 r j) = (A r j : EReal))
  (hb : ∀ r j, b (ix2 r j) = (B r j : EReal))

include ha

theorem sig_narrow (r : Fin 512) (j : Fin 192) : k0_pay48 (F := Ideal) a (ix2 r j) = (Cert.FfnSpec.sig (A r j) : EReal) :=
  sig_kernel _ _ (ha r j)
theorem silu_narrow (r : Fin 512) (j : Fin 192) : k0_pay49 (F := Ideal) a (k0_pay48 (F := Ideal) a) (ix2 r j) = (upFactor (A r j) : EReal) := by
  show a (ix2 r j) * k0_pay48 (F := Ideal) a (ix2 r j) = _
  rw [ha, sig_narrow ha, ← EReal.coe_mul]
  rfl
theorem q_narrow (r : Fin 512) (j : Fin 192) : k0_pay53 (F := Ideal) a (k0_pay48 (F := Ideal) a) (ix3 0 r j) = (upFactor (A r j) : EReal) := by
  unfold k0_pay53
  rw [shapeCast_ab_1ab_apply]
  exact silu_narrow ha r j

include hb

theorem hidden_narrow (r : Fin 512) (j : Fin 192) :
    k0_pay50 (F := Ideal) a b (k0_pay48 (F := Ideal) a) (ix2 r j) = ((upFactor (A r j) * B r j : ℝ) : EReal) := by
  show k0_pay49 (F := Ideal) a (k0_pay48 (F := Ideal) a) (ix2 r j) * b (ix2 r j) = _
  rw [silu_narrow ha, hb, ← EReal.coe_mul]
theorem mid_narrow (r : Fin 512) (j : Fin 192) :
    k0_pay51 (F := Ideal) a b (k0_pay48 (F := Ideal) a) (ix3 0 r j) = ((upFactor (A r j) * B r j : ℝ) : EReal) := by
  unfold k0_pay51
  rw [shapeCast_ab_1ab_apply]
  exact hidden_narrow ha hb r j
theorem p_narrow (r : Fin 512) (j : Fin 192) :
    k0_pay52 (F := Ideal) a b (k0_pay48 (F := Ideal) a) (ix3 0 r j) = (gateFactor (A r j) (B r j) : EReal) := by
  unfold k0_pay52
  rw [shapeCast_ab_1ab_apply]
  exact slope_kernel _ _ _ _ _ (hb r j) (sig_narrow ha r j) (silu_narrow ha r j)

end Narrow

/-! ## The half's rows after the feed-forward -/

theorem down {m0 m1 : FVec Ideal S512x256 .bf16} {m2 : FVec Ideal S512x192 .bf16} {d0 d1 : Vec Ideal S1x256x1024 .bf16}
    {d2 : Vec Ideal S1x192x1024 .bf16} {h : Vec Ideal S512x1024 .f32} {M0 M1 : Fin 512 → Fin 256 → ℝ} {M2 : Fin 512 → Fin 192 → ℝ}
    {D0 D1 : Fin 256 → Fin 1024 → ℝ} {D2 : Fin 192 → Fin 1024 → ℝ} {X : Fin 512 → Fin 1024 → ℝ}
    (e0 : ∀ r j, m0 (ix2 r j) = (M0 r j : EReal)) (e1 : ∀ r j, m1 (ix2 r j) = (M1 r j : EReal)) (e2 : ∀ r j, m2 (ix2 r j) = (M2 r j : EReal))
    (f0 : ∀ j k, d0 (ix3 0 j k) = (D0 j k : EReal)) (f1 : ∀ j k, d1 (ix3 0 j k) = (D1 j k : EReal)) (f2 : ∀ j k, d2 (ix3 0 j k) = (D2 j k : EReal))
    (eh : ∀ r k, h (ix2 r k) = (X r k : EReal)) (r : Fin 512) (c : Fin 1024) :
    k0_pay2 (F := Ideal) m0 m1 m2 d0 d1 d2 h (ix2 r c)
      = ((X r c + 1 / 2 * ((∑ j, M0 r j * D0 j c) + (∑ j, M1 r j * D1 j c) + ∑ j, M2 r j * D2 j c) : ℝ) : EReal) := by
  unfold k0_pay2
  rw [shapeCast_self, EReal.coe_add, EReal.coe_mul, EReal.coe_add, EReal.coe_add]
  refine congrArg₂ (· + ·) (eh r c) (congrArg₂ (· * ·) ofBits_half (congrArg₂ (· + ·) (congrArg₂ (· + ·) ?_ ?_) ?_))
  · refine (dot_plain (M := 512) (K := 256) (N := 1024) (φ₁ := .bf16) (φ₂ := .bf16) none _ _ r c).trans (sum_eq_coe fun k => ?_)
    rw [shapeCast_1ab_ab_apply, e0, f0, ← EReal.coe_mul]
  · refine (dot_plain (M := 512) (K := 256) (N := 1024) (φ₁ := .bf16) (φ₂ := .bf16) none _ _ r c).trans (sum_eq_coe fun k => ?_)
    rw [shapeCast_1ab_ab_apply, e1, f1, ← EReal.coe_mul]
  · refine (dot_plain (M := 512) (K := 192) (N := 1024) (φ₁ := .bf16) (φ₂ := .bf16) none _ _ r c).trans (sum_eq_coe fun k => ?_)
    rw [shapeCast_1ab_ab_apply, e2, f2, ← EReal.coe_mul]

/-- The first half is stored by the same expression, written in three parts. -/
theorem down_first (m0 m1 : FVec Ideal S512x256 .bf16) (m2 : FVec Ideal S512x192 .bf16) (d0 d1 : Vec Ideal S1x256x1024 .bf16)
    (d2 : Vec Ideal S1x192x1024 .bf16) (h : Vec Ideal S512x1024 .f32) :
    k0_pay1 (F := Ideal) (k0_pay54 (F := Ideal) h) (k0_pay55 (F := Ideal) m0 m1 m2 d0 d1 d2) (FloatOps.ofBits FTy.f32 1056964608#32)
      = k0_pay2 (F := Ideal) m0 m1 m2 d0 d1 d2 h := rfl

/-! ## The normalised rows -/

theorem norm_rows {x : Vec Ideal S1024x1024 .f32} {g : Vec Ideal S1x1024 .f32} {X : Fin 1024 → Fin 1024 → ℝ} {G : Fin 1024 → ℝ}
    (hx : ∀ r c, x (ix2 r c) = (X r c : EReal)) (hg : ∀ c, g (ix2 0 c) = (G c : EReal)) (r c : Fin 1024) :
    k0_pay3 (F := Ideal) x g (ix2 r c) = (norm X G r c : EReal) := by
  have e : multiReduction (F := Ideal) .add [1] S1024 (mulf x x) 0x00000000#32 reduces_S1024x1024_S1024 (.inl rfl) rfl (ix1 r)
      = ((∑ k, X r k * X r k : ℝ) : EReal) :=
    (sum_cols _ _ _ _ _ r).trans (sum_eq_coe fun k => by
      show x _ * x _ = _
      rw [EReal.coe_mul, ← hx])
  unfold k0_pay3
  refine (congrArg₂ (· * ·) (congrArg (x (ix2 r c) * ·) (bcast_col _ _ r c)) (broadcastTo_1b_ab_apply _ _ r c)).trans ?_
  refine (congrArg (fun q => x (ix2 r c) * Ideal.rsqrt (Ideal.div q (Ideal.ofBits .f32 0x44800000#32) + Ideal.ofBits .f32 0x358637BD#32) * g (ix2 0 c))
    ((shapeCast_a_a1_apply _ _ r 0).trans e)).trans ?_
  rw [ofBits_1024, ofBits_eps, div_real _ _ (by norm_num), ← EReal.coe_add, hg, hx,
    show Ideal.rsqrt (((∑ k, X r k * X r k) / 1024 + eps : ℝ) : EReal) = (scale X r : EReal) from rsqrt_real _ (meanSq_pos X r),
    ← EReal.coe_mul, ← EReal.coe_mul]
  rfl

end Cert.Kernel11Ideal.FfnFwd

end
-- ==== Proof.FfnFwdRun.lean ====
/-
  The forward feed-forward kernel at one grid point. A point where the block of rows begins normalises the rows, keeps them in
  the buffer of the normalised rows and copies the rows into the accumulator; the other points find the normalised rows and the
  accumulator as the point before left them. Both kinds then add their shard of the hidden features.

  For each kind: from the input buffers at named contents the body ends with the input buffers as they were and the output
  buffers with lists of stores written into them.
-/
module

public import proofs.«01_k».proof.Proof.Gen.Kernel11Ideal.Frame
public import proofs.«01_k».proof.Proof.Gen.Kernel11Ideal.Skeleton
public import Idealize.ShloMosaic.Lib.Pipeline.TableIdle

@[expose] public section

set_option maxRecDepth 16384

noncomputable section

namespace Cert.Kernel11Ideal.FfnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel11Ideal Cert.Kernel11Ideal.Gen

variable {F : FTy → Type} [FloatOps F]

/-- The resources the rules of the proof speak of. -/
abbrev Res (F : FTy → Type) : Type := MT nD τ sig Unit (Elt F) ℕ (UR sig nD τ) ℕ

/-- The point begins a block of rows. -/
abbrev Begins (i : grid0.Coords) : Prop := k0_cond1 i = 1#1

/-- The rows' blocks begin at every fourth point. -/
theorem begins_iff (t : Fin cfg0.N) : Begins (grid0.coords t) ↔ t.val % 4 = 0 := by
  have ht : t.val < 32 := Nat.lt_of_lt_of_eq t.isLt N_0
  have e1 : (grid0.coords t 1).val = t.val / 1 % 4 := Pipeline.Grid.coords_val t 1 (by decide) rfl
  simp only [Begins, k0_cond1, e1]
  word_cmp

section Runs

variable (c : Dev nD) (i : grid0.Coords)
  (bx : Memref sig .tc .vmem S1024x1024 .f32) (wx : bx.IsWhole) (bg : Memref sig .tc .vmem S1x1024 .f32) (wg : bg.IsWhole)
  (b2 : Memref sig .tc .vmem S1x704x1024 .bf16) (w2 : b2.IsWhole) (b3 : Memref sig .tc .vmem S1x704x1024 .bf16) (w3 : b3.IsWhole)
  (b4 : Memref sig .tc .vmem S1x704x1024 .bf16) (w4 : b4.IsWhole)
  (bh : Memref sig .tc .vmem S1024x1024 .f32) (wh : bh.IsWhole) (bn : Memref sig .tc .vmem S1024x1024 .bf16) (wn : bn.IsWhole)
  (bm : Memref sig .tc .vmem S1x1024x704 .bf16) (wm : bm.IsWhole) (bp : Memref sig .tc .vmem S1x1024x704 .bf16) (wp' : bp.IsWhole)
  (bq : Memref sig .tc .vmem S1x1024x704 .bf16) (wq : bq.IsWhole)
  (x : Vec F S1024x1024 .f32) (g : Vec F S1x1024 .f32) (sg su sd : Vec F S1x704x1024 .bf16)

/-- A buffer with the stores `L` written into it. -/
abbrev Stored {S : Shape} {e : EltTy} (b : Memref sig .tc .vmem S e) (L : List (View.Piece (Elt F) S e)) : sProp (Res F) :=
  iprop(∃ f, b.view.loc (c : Thread nD τ) ↦[b.view.set]{fullShare} b.view.writes (Elt F) f L)

set_option maxHeartbeats 1000000 in
/-- A point that begins a block of rows: the five output buffers may hold anything before. -/
def runFirst (hc : Begins i) :
    Σ' (Lh : List (View.Piece (Elt F) S1024x1024 .f32)), Σ' (Ln : List (View.Piece (Elt F) S1024x1024 .bf16)),
    Σ' (Lm : List (View.Piece (Elt F) S1x1024x704 .bf16)), Σ' (Lp : List (View.Piece (Elt F) S1x1024x704 .bf16)),
    { Lq : List (View.Piece (Elt F) S1x1024x704 .bf16) // ∀ (E : Set ℕ) (K : PUnit → sProp (Res F)),
      iprop(owns (c : Thread nD τ) bx fullShare x ∗ owns (c : Thread nD τ) bg fullShare g ∗ owns (c : Thread nD τ) b2 fullShare sg
          ∗ owns (c : Thread nD τ) b3 fullShare su ∗ owns (c : Thread nD τ) b4 fullShare sd
          ∗ (∃ d, owns (c : Thread nD τ) bh fullShare d) ∗ (∃ d, owns (c : Thread nD τ) bn fullShare d)
          ∗ (∃ d, owns (c : Thread nD τ) bm fullShare d) ∗ (∃ d, owns (c : Thread nD τ) bp fullShare d) ∗ (∃ d, owns (c : Thread nD τ) bq fullShare d)
          ∗ (iprop(owns (c : Thread nD τ) bx fullShare x ∗ owns (c : Thread nD τ) bg fullShare g ∗ owns (c : Thread nD τ) b2 fullShare sg
              ∗ owns (c : Thread nD τ) b3 fullShare su ∗ owns (c : Thread nD τ) b4 fullShare sd
              ∗ Stored c bh Lh ∗ Stored c bn Ln ∗ Stored c bm Lm ∗ Stored c bp Lp ∗ Stored c bq Lq) -∗ K ⟨⟩))
        ⊢ wp frame (wpE (defs₀ (F := F)) Variants.none c none) E
            (cc0_ffn1_fwd i bx wx bg wg b2 w2 b3 w3 b4 w4 bh wh bn wn bm wm bp wp' bq wq) K } := by
  refine ⟨?_, ?_, ?_, ?_, ?_, fun E K => ?run⟩
  case run =>
    simp only [cc0_ffn1_fwd_eq_skeleton]; unfold cc0_ffn1_fwd_skel
    simp only [k0_part1_eq_skeleton, k0_part2_eq_skeleton, k0_part3_eq_skeleton, k0_part4_eq_skeleton, k0_part5_eq_skeleton,
      k0_part6_eq_skeleton, k0_part7_eq_skeleton]
    unfold owns
    iintro ⟨⟨%fx, %ex, Hx⟩, ⟨%fg, %eg, Hg⟩, ⟨%f2, %e2, H2⟩, ⟨%f3, %e3, H3⟩, ⟨%f4, %e4, H4⟩, ⟨%dh, %fh, -, Hh⟩, ⟨%dn, %fn, -, Hn⟩,
      ⟨%dm, %fm, -, Hm⟩, ⟨%dp, %fp, -, Hp⟩, ⟨%dq, %fq, -, Hq⟩, Hk⟩
    obtain rfl := wx.eq_unread ex; obtain rfl := wg.eq_unread eg; obtain rfl := w2.eq_unread e2
    obtain rfl := w3.eq_unread e3; obtain rfl := w4.eq_unread e4
    sl_exec (disch := first | sl_exact hc)
    sl_step
    iapply Hk
    isplitl [Hx]
    · iexists _; isplitr; · ipureintro; exact wx.read_unread _
      iexact Hx
    isplitl [Hg]
    · iexists _; isplitr; · ipureintro; exact wg.read_unread _
      iexact Hg
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [Hh]; · iexists _; iexact Hh
    isplitl [Hn]; · iexists _; iexact Hn
    isplitl [Hm]; · iexists _; iexact Hm
    isplitl [Hp]; · iexists _; iexact Hp
    iexists _; iexact Hq

end Runs

end Cert.Kernel11Ideal.FfnFwd

end
-- ==== Proof.FfnFwdRunNext.lean ====
/-
  The forward feed-forward kernel at a grid point inside a block of rows: the buffer of the normalised rows is read and left as it
  was, the accumulator grows.
-/
module

public import proofs.«01_k».proof.Proof.FfnFwdRun

@[expose] public section

set_option maxRecDepth 16384

noncomputable section

namespace Cert.Kernel11Ideal.FfnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel11Ideal Cert.Kernel11Ideal.Gen

variable {F : FTy → Type} [FloatOps F]

variable (c : Dev nD) (i : grid0.Coords)
  (bx : Memref sig .tc .vmem S1024x1024 .f32) (wx : bx.IsWhole) (bg : Memref sig .tc .vmem S1x1024 .f32) (wg : bg.IsWhole)
  (b2 : Memref sig .tc .vmem S1x704x1024 .bf16) (w2 : b2.IsWhole) (b3 : Memref sig .tc .vmem S1x704x1024 .bf16) (w3 : b3.IsWhole)
  (b4 : Memref sig .tc .vmem S1x704x1024 .bf16) (w4 : b4.IsWhole)
  (bh : Memref sig .tc .vmem S1024x1024 .f32) (wh : bh.IsWhole) (bn : Memref sig .tc .vmem S1024x1024 .bf16) (wn : bn.IsWhole)
  (bm : Memref sig .tc .vmem S1x1024x704 .bf16) (wm : bm.IsWhole) (bp : Memref sig .tc .vmem S1x1024x704 .bf16) (wp' : bp.IsWhole)
  (bq : Memref sig .tc .vmem S1x1024x704 .bf16) (wq : bq.IsWhole)
  (x acc : Vec F S1024x1024 .f32) (n : Vec F S1024x1024 .bf16) (g : Vec F S1x1024 .f32) (sg su sd : Vec F S1x704x1024 .bf16)

set_option maxHeartbeats 1000000 in
/-- A point inside a block of rows, from the accumulator at `acc` and the normalised rows at `n`. -/
def runNext (hc : ¬Begins i) :
    Σ' (Lh : List (View.Piece (Elt F) S1024x1024 .f32)),
    Σ' (Lm : List (View.Piece (Elt F) S1x1024x704 .bf16)), Σ' (Lp : List (View.Piece (Elt F) S1x1024x704 .bf16)),
    { Lq : List (View.Piece (Elt F) S1x1024x704 .bf16) // ∀ (E : Set ℕ) (K : PUnit → sProp (Res F)),
      iprop(owns (c : Thread nD τ) bx fullShare x ∗ owns (c : Thread nD τ) bg fullShare g ∗ owns (c : Thread nD τ) b2 fullShare sg
          ∗ owns (c : Thread nD τ) b3 fullShare su ∗ owns (c : Thread nD τ) b4 fullShare sd
          ∗ owns (c : Thread nD τ) bh fullShare acc ∗ owns (c : Thread nD τ) bn fullShare n
          ∗ (∃ d, owns (c : Thread nD τ) bm fullShare d) ∗ (∃ d, owns (c : Thread nD τ) bp fullShare d) ∗ (∃ d, owns (c : Thread nD τ) bq fullShare d)
          ∗ (iprop(owns (c : Thread nD τ) bx fullShare x ∗ owns (c : Thread nD τ) bg fullShare g ∗ owns (c : Thread nD τ) b2 fullShare sg
              ∗ owns (c : Thread nD τ) b3 fullShare su ∗ owns (c : Thread nD τ) b4 fullShare sd
              ∗ Stored c bh Lh ∗ owns (c : Thread nD τ) bn fullShare n ∗ Stored c bm Lm ∗ Stored c bp Lp ∗ Stored c bq Lq) -∗ K ⟨⟩))
        ⊢ wp frame (wpE (defs₀ (F := F)) Variants.none c none) E
            (cc0_ffn1_fwd i bx wx bg wg b2 w2 b3 w3 b4 w4 bh wh bn wn bm wm bp wp' bq wq) K } := by
  refine ⟨?_, ?_, ?_, ?_, fun E K => ?run⟩
  case run =>
    simp only [cc0_ffn1_fwd_eq_skeleton]; unfold cc0_ffn1_fwd_skel
    simp only [k0_part1_eq_skeleton, k0_part2_eq_skeleton, k0_part3_eq_skeleton, k0_part4_eq_skeleton, k0_part5_eq_skeleton,
      k0_part6_eq_skeleton, k0_part7_eq_skeleton]
    unfold owns
    iintro ⟨⟨%fx, %ex, Hx⟩, ⟨%fg, %eg, Hg⟩, ⟨%f2, %e2, H2⟩, ⟨%f3, %e3, H3⟩, ⟨%f4, %e4, H4⟩, ⟨%fh, %eh, Hh⟩, ⟨%fn, %en, Hn⟩,
      ⟨%dm, %fm, -, Hm⟩, ⟨%dp, %fp, -, Hp⟩, ⟨%dq, %fq, -, Hq⟩, Hk⟩
    obtain rfl := wx.eq_unread ex; obtain rfl := wg.eq_unread eg; obtain rfl := w2.eq_unread e2
    obtain rfl := w3.eq_unread e3; obtain rfl := w4.eq_unread e4; obtain rfl := wh.eq_unread eh; obtain rfl := wn.eq_unread en
    sl_exec (disch := first | sl_exact hc)
    sl_step
    iapply Hk
    isplitl [Hx]
    · iexists _; isplitr; · ipureintro; exact wx.read_unread _
      iexact Hx
    isplitl [Hg]
    · iexists _; isplitr; · ipureintro; exact wg.read_unread _
      iexact Hg
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [Hh]; · iexists _; iexact Hh
    isplitl [Hn]
    · iexists _; isplitr; · ipureintro; exact wn.read_unread _
      iexact Hn
    isplitl [Hm]; · iexists _; iexact Hm
    isplitl [Hp]; · iexists _; iexact Hp
    iexists _; iexact Hq

end Cert.Kernel11Ideal.FfnFwd

end
-- ==== Proof.FfnFwdFrame.lean ====
/-
  The forward feed-forward kernel point by point: what each output buffer holds after every point of the grid, and from it the
  run of the whole program.

  The buffer of the normalised rows is stored only where a block of rows begins. At the other points it stays as it is, so what
  it holds is carried along, up to the last point of the block, where it is written back.
-/
module

public import proofs.«01_k».proof.Proof.FfnFwdRunNext
public import Idealize.ShloMosaic.Lib.Claim

@[expose] public section

set_option maxRecDepth 16384

noncomputable section

namespace Cert.Kernel11Ideal.FfnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel11Ideal Cert.Kernel11Ideal.Gen

variable {F : FTy → Type} [FloatOps F]

variable (m : (ℓ : Loc nD τ sig) → Buf (Elt F) ℓ) (ρ : Dev nD → PrngReg)

/-! ## What the buffers hold -/

/-- The run at a point that begins a block of rows, on the buffers and blocks of that point. -/
abbrev firstAt (c : Dev nD) (t : Fin cfg0.N) (hb : Begins (grid0.coords t)) :=
  runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9))
    (iblk m c 0 t) (iblk m c 1 t) (iblk m c 2 t) (iblk m c 3 t) (iblk m c 4 t) hb

/-- The run at another point, from an accumulator and normalised rows. -/
abbrev nextAt (c : Dev nD) (t : Fin cfg0.N) (acc : Vec F S1024x1024 .f32) (n : Vec F S1024x1024 .bf16) (hb : ¬Begins (grid0.coords t)) :=
  runNext c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9))
    (iblk m c 0 t) acc n (iblk m c 1 t) (iblk m c 2 t) (iblk m c 3 t) (iblk m c 4 t) hb

/-- The accumulator and the normalised rows after the point at position `k`. -/
def held (c : Dev nD) : (k : ℕ) → k < cfg0.N → Vec F S1024x1024 .f32 × Vec F S1024x1024 .bf16
  | 0, hk => if hb : Begins (grid0.coords ⟨0, hk⟩) then (View.canon (firstAt m c ⟨0, hk⟩ hb).1, View.canon (firstAt m c ⟨0, hk⟩ hb).2.1)
      else (View.canon [], View.canon [])
  | k + 1, hk => if hb : Begins (grid0.coords ⟨k + 1, hk⟩) then
        (View.canon (firstAt m c ⟨k + 1, hk⟩ hb).1, View.canon (firstAt m c ⟨k + 1, hk⟩ hb).2.1)
      else (View.canon (nextAt m c ⟨k + 1, hk⟩ (held c k (Nat.lt_of_succ_lt hk)).1 (held c k (Nat.lt_of_succ_lt hk)).2 hb).1,
        (held c k (Nat.lt_of_succ_lt hk)).2)

/-- What they are before the point `t`, where it does not begin a block of rows. -/
abbrev prior (c : Dev nD) (t : Fin cfg0.N) : Vec F S1024x1024 .f32 × Vec F S1024x1024 .bf16 :=
  held m c (t.val - 1) (Nat.lt_of_le_of_lt (Nat.sub_le _ _) t.isLt)

theorem held_first (c : Dev nD) (t : Fin cfg0.N) (hb : Begins (grid0.coords t)) :
    held m c t.val t.isLt = (View.canon (firstAt m c t hb).1, View.canon (firstAt m c t hb).2.1) := by
  obtain ⟨k, hk⟩ := t
  cases k with
  | zero => unfold held; exact dif_pos hb
  | succ k => unfold held; exact dif_pos hb

theorem held_next (c : Dev nD) (t : Fin cfg0.N) (hb : ¬Begins (grid0.coords t)) :
    held m c t.val t.isLt = (View.canon (nextAt m c t (prior m c t).1 (prior m c t).2 hb).1, (prior m c t).2) := by
  obtain ⟨k, hk⟩ := t
  cases k with
  | zero => exact absurd ((begins_iff ⟨0, hk⟩).mpr (Nat.zero_mod _)) hb
  | succ k => rw [held]; exact dif_neg hb

/-- The shards of the gated product and of its two derivatives after the point `t`. -/
def shards (c : Dev nD) (t : Fin cfg0.N) : Vec F S1x1024x704 .bf16 × Vec F S1x1024x704 .bf16 × Vec F S1x1024x704 .bf16 :=
  if hb : Begins (grid0.coords t) then
    (View.canon (firstAt m c t hb).2.2.1, View.canon (firstAt m c t hb).2.2.2.1, View.canon (firstAt m c t hb).2.2.2.2.1)
  else
    (View.canon (nextAt m c t (prior m c t).1 (prior m c t).2 hb).2.1, View.canon (nextAt m c t (prior m c t).1 (prior m c t).2 hb).2.2.1,
      View.canon (nextAt m c t (prior m c t).1 (prior m c t).2 hb).2.2.2.1)

/-! ## The stores cover their buffers -/

section Covers

variable (c : Dev nD) (i : grid0.Coords)
  (bx : Memref sig .tc .vmem S1024x1024 .f32) (wx : bx.IsWhole) (bg : Memref sig .tc .vmem S1x1024 .f32) (wg : bg.IsWhole)
  (b2 : Memref sig .tc .vmem S1x704x1024 .bf16) (w2 : b2.IsWhole) (b3 : Memref sig .tc .vmem S1x704x1024 .bf16) (w3 : b3.IsWhole)
  (b4 : Memref sig .tc .vmem S1x704x1024 .bf16) (w4 : b4.IsWhole)
  (bh : Memref sig .tc .vmem S1024x1024 .f32) (wh : bh.IsWhole) (bn : Memref sig .tc .vmem S1024x1024 .bf16) (wn : bn.IsWhole)
  (bm : Memref sig .tc .vmem S1x1024x704 .bf16) (wm : bm.IsWhole) (bp : Memref sig .tc .vmem S1x1024x704 .bf16) (wp' : bp.IsWhole)
  (bq : Memref sig .tc .vmem S1x1024x704 .bf16) (wq : bq.IsWhole)
  (x acc : Vec F S1024x1024 .f32) (n : Vec F S1024x1024 .bf16) (g : Vec F S1x1024 .f32) (sg su sd : Vec F S1x704x1024 .bf16)

theorem first_h (hc : Begins i) (y : S1024x1024.Idx) : ∃ pc ∈ (runFirst c i bx wx bg wg b2 w2 b3 w3 b4 w4 bh wh bn wn bm wm bp wp' bq wq x g sg su sd hc).1, y ∈ pc.1.set :=
  View.cover_of_tiledBy (runFirst c i bx wx bg wg b2 w2 b3 w3 b4 w4 bh wh bn wn bm wm bp wp' bq wq x g sg su sd hc).1 ![512, 1024] (by sl_kernel_rfl) y

theorem first_n (hc : Begins i) (y : S1024x1024.Idx) : ∃ pc ∈ (runFirst c i bx wx bg wg b2 w2 b3 w3 b4 w4 bh wh bn wn bm wm bp wp' bq wq x g sg su sd hc).2.1, y ∈ pc.1.set :=
  View.cover_of_tiledL (runFirst c i bx wx bg wg b2 w2 b3 w3 b4 w4 bh wh bn wn bm wm bp wp' bq wq x g sg su sd hc).2.1 S1024x1024.size (by sl_kernel_rfl) y

theorem first_m (hc : Begins i) (y : S1x1024x704.Idx) : ∃ pc ∈ (runFirst c i bx wx bg wg b2 w2 b3 w3 b4 w4 bh wh bn wn bm wm bp wp' bq wq x g sg su sd hc).2.2.1, y ∈ pc.1.set :=
  View.cover_of_tiledBy (runFirst c i bx wx bg wg b2 w2 b3 w3 b4 w4 bh wh bn wn bm wm bp wp' bq wq x g sg su sd hc).2.2.1 ![1, 512, 64] (by sl_kernel_rfl) y

theorem first_p (hc : Begins i) (y : S1x1024x704.Idx) : ∃ pc ∈ (runFirst c i bx wx bg wg b2 w2 b3 w3 b4 w4 bh wh bn wn bm wm bp wp' bq wq x g sg su sd hc).2.2.2.1, y ∈ pc.1.set :=
  View.cover_of_tiledBy (runFirst c i bx wx bg wg b2 w2 b3 w3 b4 w4 bh wh bn wn bm wm bp wp' bq wq x g sg su sd hc).2.2.2.1 ![1, 512, 64] (by sl_kernel_rfl) y

theorem first_q (hc : Begins i) (y : S1x1024x704.Idx) : ∃ pc ∈ (runFirst c i bx wx bg wg b2 w2 b3 w3 b4 w4 bh wh bn wn bm wm bp wp' bq wq x g sg su sd hc).2.2.2.2.1, y ∈ pc.1.set :=
  View.cover_of_tiledBy (runFirst c i bx wx bg wg b2 w2 b3 w3 b4 w4 bh wh bn wn bm wm bp wp' bq wq x g sg su sd hc).2.2.2.2.1 ![1, 512, 64] (by sl_kernel_rfl) y

theorem next_h (hc : ¬Begins i) (y : S1024x1024.Idx) : ∃ pc ∈ (runNext c i bx wx bg wg b2 w2 b3 w3 b4 w4 bh wh bn wn bm wm bp wp' bq wq x acc n g sg su sd hc).1, y ∈ pc.1.set :=
  View.cover_of_tiledL (runNext c i bx wx bg wg b2 w2 b3 w3 b4 w4 bh wh bn wn bm wm bp wp' bq wq x acc n g sg su sd hc).1 S512x1024.size (by sl_kernel_rfl) y

theorem next_m (hc : ¬Begins i) (y : S1x1024x704.Idx) : ∃ pc ∈ (runNext c i bx wx bg wg b2 w2 b3 w3 b4 w4 bh wh bn wn bm wm bp wp' bq wq x acc n g sg su sd hc).2.1, y ∈ pc.1.set :=
  View.cover_of_tiledBy (runNext c i bx wx bg wg b2 w2 b3 w3 b4 w4 bh wh bn wn bm wm bp wp' bq wq x acc n g sg su sd hc).2.1 ![1, 512, 64] (by sl_kernel_rfl) y

theorem next_p (hc : ¬Begins i) (y : S1x1024x704.Idx) : ∃ pc ∈ (runNext c i bx wx bg wg b2 w2 b3 w3 b4 w4 bh wh bn wn bm wm bp wp' bq wq x acc n g sg su sd hc).2.2.1, y ∈ pc.1.set :=
  View.cover_of_tiledBy (runNext c i bx wx bg wg b2 w2 b3 w3 b4 w4 bh wh bn wn bm wm bp wp' bq wq x acc n g sg su sd hc).2.2.1 ![1, 512, 64] (by sl_kernel_rfl) y

theorem next_q (hc : ¬Begins i) (y : S1x1024x704.Idx) : ∃ pc ∈ (runNext c i bx wx bg wg b2 w2 b3 w3 b4 w4 bh wh bn wn bm wm bp wp' bq wq x acc n g sg su sd hc).2.2.2.1, y ∈ pc.1.set :=
  View.cover_of_tiledBy (runNext c i bx wx bg wg b2 w2 b3 w3 b4 w4 bh wh bn wn bm wm bp wp' bq wq x acc n g sg su sd hc).2.2.2.1 ![1, 512, 64] (by sl_kernel_rfl) y

end Covers

/-! ## The pipeline's data -/

/-- The arrays as the pipeline finds them, and what every buffer holds after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (held m c t.val t.isLt).1
    | ⟨6, _⟩ => (held m c t.val t.isLt).2
    | ⟨7, _⟩ => (shards m c t).1
    | ⟨8, _⟩ => (shards m c t).2.1
    | ⟨9, _⟩ => (shards m c t).2.2
  Φ _ := Pipeline.ΦA spec0 c
  q _ := fullShare
  owed _ := 0

theorem arrays_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (held m c t.val t.isLt).1 := by dsimp only [dats]
theorem after_6 (c : Dev nD) (t : Fin cfg0.N) : (dats m 0 c).after 6 t = (held m c t.val t.isLt).2 := by dsimp only [dats]
theorem after_7 (c : Dev nD) (t : Fin cfg0.N) : (dats m 0 c).after 7 t = (shards m c t).1 := by dsimp only [dats]
theorem after_8 (c : Dev nD) (t : Fin cfg0.N) : (dats m 0 c).after 8 t = (shards m c t).2.1 := by dsimp only [dats]
theorem after_9 (c : Dev nD) (t : Fin cfg0.N) : (dats m 0 c).after 9 t = (shards m c t).2.2 := by dsimp only [dats]

theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = iblk m c 1 t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d

/-- The buffer of the normalised rows is stored exactly where a block of rows begins. -/
theorem live_of_begins (t : Fin cfg0.N) (h : t.val % 4 = 0) : cfg0.idle 6 (grid0.coords t) = false := by
  revert h; revert t; decide +kernel

theorem idle_of_not_begins (t : Fin cfg0.N) (h : ¬t.val % 4 = 0) : cfg0.idle 6 (grid0.coords t) = true := by
  revert h; revert t; decide +kernel

/-- At which positions nothing has been stored there since the last write-back. -/
def unstored : ℕ → Bool
  | 0 => true
  | k + 1 => k % 4 == 3

theorem unstored_step : ∀ t : Fin cfg0.N,
    unstored (t.val + 1) = ((cfg0.win 6).flush t || (cfg0.idle 6 (cfg0.grid.coords t) && unstored t.val)) := by decide +kernel

theorem stored_of_not_begins (t : Fin cfg0.N) (h : ¬t.val % 4 = 0) : cfg0.fresh 6 t.val = false := by
  rw [Pipeline.Cfg.fresh_tab cfg0 6 unstored rfl unstored_step t.val (Nat.le_of_lt t.isLt)]
  obtain ⟨k, hk⟩ := t
  cases k with
  | zero => exact absurd (Nat.zero_mod _) h
  | succ k =>
    show (k % 4 == 3) = false
    have h' : ¬(k + 1) % 4 = 0 := h
    exact beq_false_of_ne (by omega)

/-- The normalised rows are carried through the points that do not store them. -/
theorem carried (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hb : ¬Begins (grid0.coords t) := fun h => by
    rw [live_of_begins t ((begins_iff t).mp h)] at hi; exact Bool.false_ne_true hi
  rw [after_6, after_6, held_next m c t hb]

theorem before_h (c : Dev nD) (t : Fin cfg0.N) (h : ¬t.val % 4 = 0) (d) : (dats m 0 c).before 5 t d = (prior m c t).1 := by
  have hN : t.val < 32 := Nat.lt_of_lt_of_eq t.isLt N_0
  rw [Dat.before_out_kept _ 5 rfl t (by omega) (Bool.eq_false_iff.mpr fun h' => by have := (flush0_5 _).mp h'; dsimp only at this; omega)
    (fun _ => rfl) (fun _ _ => rfl)]
  dsimp only [dats]

theorem before_n (c : Dev nD) (t : Fin cfg0.N) (h : ¬t.val % 4 = 0) (d) : (dats m 0 c).before 6 t d = (prior m c t).2 := by
  rw [Dat.before_out_traj _ 6 rfl (fun _ _ => rfl) (carried m c) t.val t rfl d,
    if_neg (by rw [stored_of_not_begins t h]; exact Bool.false_ne_true)]
  dsimp only [dats]

/-! ## The body at every point -/

theorem leaves_0 (c : Dev nD) (t : Fin cfg0.N) :
    (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) :
    (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) :
    (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) :
    (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t : Fin cfg0.N) :
    (dats m 0 c).leavesExact 5 t = owns (c : Thread nD τ) (st0_5 t) fullShare ((held m c t.val t.isLt).1) := by
  unfold Dat.leavesExact; rw [show cfg0.idle 5 (cfg0.grid.coords t) = false from rfl, after_5]
theorem leaves_7 (c : Dev nD) (t : Fin cfg0.N) :
    (dats m 0 c).leavesExact 7 t = owns (c : Thread nD τ) (st0_7 t) fullShare ((shards m c t).1) := by
  unfold Dat.leavesExact; rw [show cfg0.idle 7 (cfg0.grid.coords t) = false from rfl, after_7]
theorem leaves_8 (c : Dev nD) (t : Fin cfg0.N) :
    (dats m 0 c).leavesExact 8 t = owns (c : Thread nD τ) (st0_8 t) fullShare ((shards m c t).2.1) := by
  unfold Dat.leavesExact; rw [show cfg0.idle 8 (cfg0.grid.coords t) = false from rfl, after_8]
theorem leaves_9 (c : Dev nD) (t : Fin cfg0.N) :
    (dats m 0 c).leavesExact 9 t = owns (c : Thread nD τ) (st0_9 t) fullShare ((shards m c t).2.2) := by
  unfold Dat.leavesExact; rw [show cfg0.idle 9 (cfg0.grid.coords t) = false from rfl, after_9]
theorem leaves_6_first (c : Dev nD) (t : Fin cfg0.N) (h : t.val % 4 = 0) :
    (dats m 0 c).leavesExact 6 t = owns (c : Thread nD τ) (st0_6 t) fullShare ((held m c t.val t.isLt).2) := by
  unfold Dat.leavesExact; rw [live_of_begins t h, after_6]

/-- Where the normalised rows are not stored, leaving them as they were is what is asked, written back there or not. -/
theorem leaves_6_next (c : Dev nD) (t : Fin cfg0.N) (h : ¬t.val % 4 = 0) :
    owns (c : Thread nD τ) (st0_6 t) fullShare ((prior m c t).2) ⊢ ((dats m 0 c).leavesExact 6 t : sProp (Res F)) := by
  have hb : ¬Begins (grid0.coords t) := fun hb => h ((begins_iff t).mp hb)
  cases hf : (cfg0.win 6).flush t with
  | true =>
    unfold Dat.leavesExact
    rw [idle_of_not_begins t h, hf, after_6, held_next m c t hb]
  | false =>
    rw [Dat.leavesExact_idle _ _ _ (idle_of_not_begins t h) hf]
    iintro H
    iexists (fun _ => Classical.arbitrary _)
    rw [before_n m c t h]
    iexact H

/-- What the body starts from at the point `t`, -/
def enters (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it ends with. -/
def leaves (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at a point that begins a block of rows. -/
theorem body_first (c : Dev nD) (t : Fin cfg0.N) (h : t.val % 4 = 0) :
    enters m c t ⊢ wp frame (wpE (defs₀ (F := F)) Variants.none c none) Set.univ (bodyAt0 t) (fun _ => leaves m c t) := by
  have hb : Begins (grid0.coords t) := (begins_iff t).mpr h
  unfold enters leaves bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  rw [leaves_0, leaves_1, leaves_2, leaves_3, leaves_4, leaves_5, leaves_7, leaves_8, leaves_9, leaves_6_first m c t h]
  rw [held_first m c t hb, show shards m c t = _ from dif_pos hb]
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((firstAt m c t hb).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, ⟨%e5, H5⟩, ⟨%e6, H6⟩, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (first_h _ _ _ _ _ _ _ _ _ _ _ _ _ _ _ _ _ _ _ _ _ _ _ _ _ _ _ hb)
  isplitl [H6]
  · unfold owns; iexists _; isplitr
    swap; · iexact H6
    ipureintro; exact View.read_writes_eq_canon _ _ _ (first_n _ _ _ _ _ _ _ _ _ _ _ _ _ _ _ _ _ _ _ _ _ _ _ _ _ _ _ hb)
  isplitl [H7]
  · unfold owns; iexists _; isplitr
    swap; · iexact H7
    ipureintro; exact View.read_writes_eq_canon _ _ _ (first_m _ _ _ _ _ _ _ _ _ _ _ _ _ _ _ _ _ _ _ _ _ _ _ _ _ _ _ hb)
  isplitl [H8]
  · unfold owns; iexists _; isplitr
    swap; · iexact H8
    ipureintro; exact View.read_writes_eq_canon _ _ _ (first_p _ _ _ _ _ _ _ _ _ _ _ _ _ _ _ _ _ _ _ _ _ _ _ _ _ _ _ hb)
  unfold owns; iexists _; isplitr
  swap; · iexact H9
  ipureintro; exact View.read_writes_eq_canon _ _ _ (first_q _ _ _ _ _ _ _ _ _ _ _ _ _ _ _ _ _ _ _ _ _ _ _ _ _ _ _ hb)

set_option maxHeartbeats 1600000 in
/-- The body at a point that does not begin a block of rows. -/
theorem body_next (c : Dev nD) (t : Fin cfg0.N) (h : ¬t.val % 4 = 0) :
    enters m c t ⊢ wp frame (wpE (defs₀ (F := F)) Variants.none c none) Set.univ (bodyAt0 t) (fun _ => leaves m c t) := by
  have hb : ¬Begins (grid0.coords t) := fun hb => h ((begins_iff t).mp hb)
  unfold enters leaves bodyAt0
  simp only [before_0, before_1, before_2, before_3, before_4, before_h m c t h, before_n m c t h]
  rw [show (dats m 0 c).Φ t.succ = (dats m 0 c).Φ t.castSucc from rfl,
    show (dats m 0 c).owesAt () t.succ = (dats m 0 c).owesAt () t.castSucc from rfl]
  rw [leaves_0, leaves_1, leaves_2, leaves_3, leaves_4, leaves_5, leaves_7, leaves_8, leaves_9]
  rw [held_next m c t hb, show shards m c t = _ from dif_neg hb]
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((nextAt m c t (prior m c t).1 (prior m c t).2 hb).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, ⟨%e5, H5⟩, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (next_h _ _ _ _ _ _ _ _ _ _ _ _ _ _ _ _ _ _ _ _ _ _ _ _ _ _ _ _ _ hb)
  isplitl [H6]; · iapply (leaves_6_next m c t h); iexact H6
  isplitl [H7]
  · unfold owns; iexists _; isplitr
    swap; · iexact H7
    ipureintro; exact View.read_writes_eq_canon _ _ _ (next_m _ _ _ _ _ _ _ _ _ _ _ _ _ _ _ _ _ _ _ _ _ _ _ _ _ _ _ _ _ hb)
  isplitl [H8]
  · unfold owns; iexists _; isplitr
    swap; · iexact H8
    ipureintro; exact View.read_writes_eq_canon _ _ _ (next_p _ _ _ _ _ _ _ _ _ _ _ _ _ _ _ _ _ _ _ _ _ _ _ _ _ _ _ _ _ hb)
  unfold owns; iexists _; isplitr
  swap; · iexact H9
  ipureintro; exact View.read_writes_eq_canon _ _ _ (next_q _ _ _ _ _ _ _ _ _ _ _ _ _ _ _ _ _ _ _ _ _ _ _ _ _ _ _ _ _ hb)

/-- The obligation of the pipeline, at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (show enters m c t ⊢ wp frame (wpE (defs₀ (F := F)) Variants.none c none) Set.univ (bodyAt0 t) (fun _ => leaves m c t) from by
    by_cases h : t.val % 4 = 0
    · exact body_first m c t h
    · exact body_next m c t h) rfl .rfl fun _ => .rfl

/-! ## The run -/

set_option backward.isDefEq.respectTransparency.types false in
/-- Every run ends, with the arrays as the pipeline's data say and all counters at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The argument arrays end as they began, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arrays_eq m) (run_main m ρ)) ((θ_run defs _ _).mono (fun _ h => h.2) (run_quiescent m ρ))

end Cert.Kernel11Ideal.FfnFwd

end
-- ==== Proof.FfnFwdPoint.lean ====
/-
  What one point of the forward feed-forward kernel leaves in its output buffers, for finite blocks.
-/
module

public import proofs.«01_k».proof.Proof.FfnFwdPay
public import proofs.«01_k».proof.Proof.FfnFwdFrame
public import Idealize.ShloMosaic.Lib.Pipeline.ReadBack

@[expose] public section

noncomputable section

open Idealize.ShloMosaic hiding ix1 ix2 ix3 eq_ix2 eq_ix3
open Idealize.ShloMosaic.TcCoe Idealize.SL.Sem Idealize.ShloMosaic.ValueIdx
open Idealize.ShloMosaic.Pipeline (Dat)
open scoped BigOperators

namespace Cert.Kernel11Ideal.FfnFwd

open Cert.Kernel11Ideal Cert.Kernel11Ideal.Gen Cert.FfnSpec Cert.Basics

/-! ## Halves of the rows and slices of the hidden features -/

/-- Row `r` of the half that begins at row `o`. -/
abbrev half (o : ℕ) (ho : o + 512 ≤ 1024) (r : Fin 512) : Fin 1024 := ⟨o + r.val, by have := r.isLt; omega⟩
/-- Feature `j` of the slice of `K` features that begins at `o`. -/
abbrev slice (o K : ℕ) (ho : o + K ≤ 704) (j : Fin K) : Fin 704 := ⟨o + j.val, by have := j.isLt; omega⟩

/-- A sum over the hidden features, slice by slice. -/
theorem sum_slices (f : Fin 704 → ℝ) : (∑ j : Fin 256, f (slice 0 256 (by omega) j)) + (∑ j : Fin 256, f (slice 256 256 (by omega) j))
    + ∑ j : Fin 192, f (slice 512 192 (by omega) j) = ∑ j, f j := by
  refine Eq.symm ((Fin.sum_univ_add (a := 512) (b := 192) f).trans (congrArg₂ (· + ·)
    ((Fin.sum_univ_add (a := 256) (b := 256) fun j => f (Fin.castAdd 192 j)).trans (congrArg₂ (· + ·) ?_ ?_)) ?_))
  · exact Finset.sum_congr rfl fun j _ => congrArg f (Fin.ext (by show j.val = 0 + j.val; omega))
  · exact Finset.sum_congr rfl fun j _ => congrArg f (Fin.ext (by show 256 + j.val = 256 + j.val; rfl))
  · exact Finset.sum_congr rfl fun j _ => congrArg f (Fin.ext (by show 512 + j.val = 512 + j.val; rfl))

theorem ld_half {e : EltTy} (x : Vec Ideal S1024x1024 e) (o : ℕ) (ho : o + 512 ≤ 1024) (inb) (r : Fin 512) (c : Fin 1024) :
    View.ld x (Rect.unit (s := S1024x1024) ![o, 0] ![512, 1024] inb) (ix2 r c) = x (ix2 (half o ho r) c) :=
  congrArg x (Shape.idx_ext₂ (by show o + 1 * r.val = o + r.val; omega) (by show 0 + 1 * c.val = c.val; omega))

theorem ld_slice {e : EltTy} (x : Vec Ideal S1x704x1024 e) (o K : ℕ) (ho : o + K ≤ 704) (inb) (j : Fin K) (c : Fin 1024) :
    View.ld x (Rect.unit (s := S1x704x1024) ![0, o, 0] ![1, K, 1024] inb) (ix3 0 j c) = x (ix3 0 (slice o K ho j) c) :=
  congrArg x (funext fun a => Fin.ext (match a with
    | 0 => rfl
    | 1 => by show o + 1 * j.val = o + j.val; omega
    | 2 => by show 0 + 1 * c.val = c.val; omega))

/-- A half of the rows stored over `L` leaves `G` if the half is one of `G`'s and `L` leaves `G` at the other rows. -/
theorem canon_half (G : S1024x1024.Idx → EReal) (o : ℕ) (ho : o + 512 ≤ 1024) (inb) (w : Vec Ideal S512x1024 .f32)
    (L : List (View.Piece (Elt Ideal) S1024x1024 .f32)) (h : ∀ r c, w (ix2 r c) = G (ix2 (half o ho r) c)) (a b : Fin 1024)
    (hL : a.val < o ∨ o + 512 ≤ a.val → View.canon (Val := Elt Ideal) L (ix2 a b) = G (ix2 a b)) :
    View.canon (Val := Elt Ideal) (⟨Rect.unit ![o, 0] ![512, 1024] inb, w⟩ :: L) (ix2 a b) = G (ix2 a b) := by
  by_cases hy : o ≤ a.val ∧ a.val < o + 512
  · obtain ⟨r, rfl⟩ : ∃ r : Fin 512, a = half o ho r := ⟨⟨a.val - o, by omega⟩, Fin.ext (by show a.val = o + (a.val - o); omega)⟩
    have e := View.canon_cons_emb (Val := Elt Ideal) (e := .f32) (Rect.unit (s := S1024x1024) ![o, 0] ![512, 1024] inb) w L (ix2 r b)
    rw [show (Rect.unit (s := S1024x1024) ![o, 0] ![512, 1024] inb).emb (ix2 r b) = ix2 (half o ho r) b from
      Shape.idx_ext₂ (by show o + 1 * r.val = o + r.val; omega) (by show 0 + 1 * b.val = b.val; omega)] at e
    exact e.trans (h r b)
  · refine (View.canon_cons_of_not_mem (Val := Elt Ideal) (e := .f32) ⟨Rect.unit (s := S1024x1024) ![o, 0] ![512, 1024] inb, w⟩ L fun hm => hy ?_).trans (hL (by omega))
    obtain ⟨k, hk, e⟩ := (LoadRect.mem_set _).mp hm 0
    have hk : k < 512 := hk
    have e : a.val = o + 1 * k := e
    omega

/-- Both halves stored over anything leave the buffer they are halves of. -/
theorem canon_halves (G : S1024x1024.Idx → EReal) (w1 w0 : Vec Ideal S512x1024 .f32) (L : List (View.Piece (Elt Ideal) S1024x1024 .f32))
    (h1 : ∀ r c, w1 (ix2 r c) = G (ix2 (half 512 (by omega) r) c)) (h0 : ∀ r c, w0 (ix2 r c) = G (ix2 (half 0 (by omega) r) c)) :
    View.canon (Val := Elt Ideal) (⟨Rect.unit ![512, 0] ![512, 1024] inb_S1024x1024_S512x1024_512_0, w1⟩
      :: ⟨Rect.unit ![0, 0] ![512, 1024] inb_S1024x1024_S512x1024_0_0, w0⟩ :: L) = G := by
  funext y
  obtain ⟨a, b, rfl⟩ : ∃ (a b : Fin 1024), y = ix2 a b := ⟨y 0, y 1, eq_ix2 y⟩
  exact canon_half G 512 _ _ w1 _ h1 a b fun c1 => canon_half G 0 _ _ w0 _ h0 a b fun c0 => absurd c0 (by omega)

/-- Where an element of a half's slice lies in the buffer. -/
theorem emb_tile (o : ℕ) (ho : o + 512 ≤ 1024) (k K : ℕ) (hk : k + K ≤ 704) (inb) (i : (⟨3, ![1, 512, K]⟩ : Shape).Idx) :
    (Rect.unit (s := S1x1024x704) ![0, o, k] ![1, 512, K] inb).emb i = ix3 0 (half o ho (i 1)) (slice k K hk (i 2)) :=
  funext fun a => Fin.ext (match a with
    | 0 => by show 0 + 1 * (i 0).val = 0; have : (i 0).val < 1 := (i 0).isLt; omega
    | 1 => by show o + 1 * (i 1).val = o + (i 1).val; omega
    | 2 => by show k + 1 * (i 2).val = k + (i 2).val; omega)

/-- A payload that is `G`'s tile, at every index of the tile. -/
theorem tile_of (G : S1x1024x704.Idx → EReal) (o : ℕ) (ho : o + 512 ≤ 1024) (k K : ℕ) (hk : k + K ≤ 704) (inb)
    (w : Vec Ideal ⟨3, ![1, 512, K]⟩ .bf16) (h : ∀ r j, w (ix3 0 r j) = G (ix3 0 (half o ho r) (slice k K hk j)))
    (i : (⟨3, ![1, 512, K]⟩ : Shape).Idx) : w i = G ((Rect.unit (s := S1x1024x704) ![0, o, k] ![1, 512, K] inb).emb i) := by
  rw [emb_tile o ho k K hk inb i, ← h (i 1) (i 2)]
  exact congrArg w ((eq_ix3 i).trans (congrArg (fun u : Fin 1 => ix3 u (i 1) (i 2)) (Subsingleton.elim (α := Fin 1) _ _)))

/-- The six tiles leave the buffer they are tiles of. -/
theorem canon_tiles (G : S1x1024x704.Idx → EReal) (w12 w02 : Vec Ideal S1x512x192 .bf16) (w11 w10 w01 w00 : Vec Ideal S1x512x256 .bf16)
    (h12 : ∀ r j, w12 (ix3 0 r j) = G (ix3 0 (half 512 (by omega) r) (slice 512 192 (by omega) j)))
    (h11 : ∀ r j, w11 (ix3 0 r j) = G (ix3 0 (half 512 (by omega) r) (slice 256 256 (by omega) j)))
    (h10 : ∀ r j, w10 (ix3 0 r j) = G (ix3 0 (half 512 (by omega) r) (slice 0 256 (by omega) j)))
    (h02 : ∀ r j, w02 (ix3 0 r j) = G (ix3 0 (half 0 (by omega) r) (slice 512 192 (by omega) j)))
    (h01 : ∀ r j, w01 (ix3 0 r j) = G (ix3 0 (half 0 (by omega) r) (slice 256 256 (by omega) j)))
    (h00 : ∀ r j, w00 (ix3 0 r j) = G (ix3 0 (half 0 (by omega) r) (slice 0 256 (by omega) j))) :
    View.canon (Val := Elt Ideal) (e := .bf16) [⟨Rect.unit ![0, 512, 512] ![1, 512, 192] inb_S1x1024x704_S1x512x192_0_512_512, w12⟩,
      ⟨Rect.unit ![0, 512, 256] ![1, 512, 256] inb_S1x1024x704_S1x512x256_0_512_256, w11⟩,
      ⟨Rect.unit ![0, 512, 0] ![1, 512, 256] inb_S1x1024x704_S1x512x256_0_512_0, w10⟩,
      ⟨Rect.unit ![0, 0, 512] ![1, 512, 192] inb_S1x1024x704_S1x512x192_0_0_512, w02⟩,
      ⟨Rect.unit ![0, 0, 256] ![1, 512, 256] inb_S1x1024x704_S1x512x256_0_0_256, w01⟩,
      ⟨Rect.unit ![0, 0, 0] ![1, 512, 256] inb_S1x1024x704_S1x512x256_0_0_0, w00⟩] = G := by
  funext y
  refine View.canon_apply_of_pieces (Val := Elt Ideal) (e := .bf16) G _ ?_ y (View.cover_of_tiledBy _ ![1, 512, 64] (by sl_kernel_rfl) y)
  simp only [List.mem_cons, List.not_mem_nil, or_false, forall_eq_or_imp, forall_eq]
  exact ⟨tile_of G 512 _ 512 192 _ _ w12 h12, tile_of G 512 _ 256 256 _ _ w11 h11, tile_of G 512 _ 0 256 _ _ w10 h10,
    tile_of G 0 _ 512 192 _ _ w02 h02, tile_of G 0 _ 256 256 _ _ w01 h01, tile_of G 0 _ 0 256 _ _ w00 h00⟩

/-! ## Finite blocks -/

/-- A projection of the normalised rows on the point's hidden features. -/
def onto (N : Fin 1024 → Fin 1024 → ℝ) (w : Fin 704 → Fin 1024 → ℝ) (r : Fin 1024) (j : Fin 704) : ℝ := ∑ k, N r k * w j k
/-- The point's gated features. -/
def gatedOn (N : Fin 1024 → Fin 1024 → ℝ) (wg wu : Fin 704 → Fin 1024 → ℝ) (r : Fin 1024) (j : Fin 704) : ℝ :=
  upFactor (onto N wg r j) * onto N wu r j

/-- The three weights' blocks are read as real arrays. -/
structure Weights (b2 b3 b4 : Vec Ideal S1x704x1024 .bf16) (wg wu wd : Fin 704 → Fin 1024 → ℝ) : Prop where
  gate : ∀ j c, b2 (ix3 0 j c) = (wg j c : EReal)
  up : ∀ j c, b3 (ix3 0 j c) = (wu j c : EReal)
  down : ∀ j c, b4 (ix3 0 j c) = (wd j c : EReal)

section Halves

variable {b2 b3 b4 : Vec Ideal S1x704x1024 .bf16} {wg wu wd : Fin 704 → Fin 1024 → ℝ} (H : Weights b2 b3 b4 wg wu wd)
  {N : Fin 1024 → Fin 1024 → ℝ} (o : ℕ) (ho : o + 512 ≤ 1024) {v : Vec Ideal S512x1024 .bf16}
  (hv : ∀ r k, v (ix2 r k) = (N (half o ho r) k : EReal))

include H hv

theorem gate_wide (k : ℕ) (hk : k + 256 ≤ 704) (inb) (r : Fin 512) (j : Fin 256) :
    k0_pay4 (F := Ideal) v (View.ld b2 (Rect.unit (s := S1x704x1024) ![0, k, 0] ![1, 256, 1024] inb)) (ix2 r j)
      = (onto N wg (half o ho r) (slice k 256 hk j) : EReal) :=
  wide hv (W := fun j c => wg (slice k 256 hk j) c) (fun j c => (ld_slice b2 k 256 hk inb j c).trans (H.gate _ _)) r j
theorem up_wide (k : ℕ) (hk : k + 256 ≤ 704) (inb) (r : Fin 512) (j : Fin 256) :
    k0_pay4 (F := Ideal) v (View.ld b3 (Rect.unit (s := S1x704x1024) ![0, k, 0] ![1, 256, 1024] inb)) (ix2 r j)
      = (onto N wu (half o ho r) (slice k 256 hk j) : EReal) :=
  wide hv (W := fun j c => wu (slice k 256 hk j) c) (fun j c => (ld_slice b3 k 256 hk inb j c).trans (H.up _ _)) r j
theorem gate_narrow (inb) (r : Fin 512) (j : Fin 192) :
    k0_pay10 (F := Ideal) v (View.ld b2 (Rect.unit (s := S1x704x1024) ![0, 512, 0] ![1, 192, 1024] inb)) (ix2 r j)
      = (onto N wg (half o ho r) (slice 512 192 (by omega) j) : EReal) :=
  narrow hv (W := fun j c => wg (slice 512 192 (by omega) j) c) (fun j c => (ld_slice b2 512 192 (by omega) inb j c).trans (H.gate _ _)) r j
theorem up_narrow (inb) (r : Fin 512) (j : Fin 192) :
    k0_pay10 (F := Ideal) v (View.ld b3 (Rect.unit (s := S1x704x1024) ![0, 512, 0] ![1, 192, 1024] inb)) (ix2 r j)
      = (onto N wu (half o ho r) (slice 512 192 (by omega) j) : EReal) :=
  narrow hv (W := fun j c => wu (slice 512 192 (by omega) j) c) (fun j c => (ld_slice b3 512 192 (by omega) inb j c).trans (H.up _ _)) r j

/-- A half's rows after the point. -/
theorem rows_half (i0 i1 i2 i0' i1' i2' i0'' i1'' i2'') {h : Vec Ideal S512x1024 .f32} {X : Fin 1024 → Fin 1024 → ℝ}
    (eh : ∀ r k, h (ix2 r k) = (X (half o ho r) k : EReal)) (r : Fin 512) (c : Fin 1024) :
    k0_pay2 (F := Ideal)
      (k0_pay19 (F := Ideal) (k0_pay4 (F := Ideal) v (View.ld b2 (Rect.unit (s := S1x704x1024) ![0, 0, 0] ![1, 256, 1024] i0)))
        (k0_pay4 (F := Ideal) v (View.ld b3 (Rect.unit (s := S1x704x1024) ![0, 0, 0] ![1, 256, 1024] i0'))))
      (k0_pay19 (F := Ideal) (k0_pay4 (F := Ideal) v (View.ld b2 (Rect.unit (s := S1x704x1024) ![0, 256, 0] ![1, 256, 1024] i1)))
        (k0_pay4 (F := Ideal) v (View.ld b3 (Rect.unit (s := S1x704x1024) ![0, 256, 0] ![1, 256, 1024] i1'))))
      (k0_pay50 (F := Ideal) (k0_pay10 (F := Ideal) v (View.ld b2 (Rect.unit (s := S1x704x1024) ![0, 512, 0] ![1, 192, 1024] i2)))
        (k0_pay10 (F := Ideal) v (View.ld b3 (Rect.unit (s := S1x704x1024) ![0, 512, 0] ![1, 192, 1024] i2')))
        (k0_pay48 (F := Ideal) (k0_pay10 (F := Ideal) v (View.ld b2 (Rect.unit (s := S1x704x1024) ![0, 512, 0] ![1, 192, 1024] i2)))))
      (View.ld b4 (Rect.unit (s := S1x704x1024) ![0, 0, 0] ![1, 256, 1024] i0''))
      (View.ld b4 (Rect.unit (s := S1x704x1024) ![0, 256, 0] ![1, 256, 1024] i1''))
      (View.ld b4 (Rect.unit (s := S1x704x1024) ![0, 512, 0] ![1, 192, 1024] i2'')) h (ix2 r c)
      = ((X (half o ho r) c + 1 / 2 * ∑ j, gatedOn N wg wu (half o ho r) j * wd j c : ℝ) : EReal) := by
  refine (down (hidden_wide (gate_wide H o ho hv 0 (by omega) i0) (up_wide H o ho hv 0 (by omega) i0'))
    (hidden_wide (gate_wide H o ho hv 256 (by omega) i1) (up_wide H o ho hv 256 (by omega) i1'))
    (hidden_narrow (gate_narrow H o ho hv i2) (up_narrow H o ho hv i2'))
    (fun j k => (ld_slice b4 0 256 (by omega) i0'' j k).trans (H.down _ _)) (fun j k => (ld_slice b4 256 256 (by omega) i1'' j k).trans (H.down _ _))
    (fun j k => (ld_slice b4 512 192 (by omega) i2'' j k).trans (H.down _ _)) eh r c).trans (congrArg _ ?_)
  exact congrArg (fun q => X (half o ho r) c + 1 / 2 * q) (sum_slices fun j => gatedOn N wg wu (half o ho r) j * wd j c)

end Halves

/-! ## The buffers after a point -/

/-- The accumulator after the point. -/
abbrev accOf (X N : Fin 1024 → Fin 1024 → ℝ) (wg wu wd : Fin 704 → Fin 1024 → ℝ) : S1024x1024.Idx → EReal :=
  fun i => ((X (i 0) (i 1) + 1 / 2 * ∑ j, gatedOn N wg wu (i 0) j * wd j (i 1) : ℝ) : EReal)
/-- The shard of the gated features. -/
abbrev midOf (N : Fin 1024 → Fin 1024 → ℝ) (wg wu : Fin 704 → Fin 1024 → ℝ) : S1x1024x704.Idx → EReal :=
  fun i => (gatedOn N wg wu (i 1) (i 2) : EReal)
/-- The shard of the derivative along the gate's projection. -/
abbrev pOf (N : Fin 1024 → Fin 1024 → ℝ) (wg wu : Fin 704 → Fin 1024 → ℝ) : S1x1024x704.Idx → EReal :=
  fun i => (gateFactor (onto N wg (i 1) (i 2)) (onto N wu (i 1) (i 2)) : EReal)
/-- The shard of the derivative along the other projection. -/
abbrev qOf (N : Fin 1024 → Fin 1024 → ℝ) (wg : Fin 704 → Fin 1024 → ℝ) : S1x1024x704.Idx → EReal :=
  fun i => (upFactor (onto N wg (i 1) (i 2)) : EReal)

/-- A load of a half after a store of the whole buffer. -/
theorem read_whole {e : EltTy} (b : Memref sig .tc .vmem S1024x1024 e) (inb) (w : Vec Ideal S1024x1024 e)
    (L : List (View.Piece (Elt Ideal) S1024x1024 e)) (r : Rect S1024x1024) :
    b.view.readCov (⟨Rect.unit ![0, 0] ![1024, 1024] inb, w⟩ :: L) r.toLoadRect = View.ld w r :=
  View.readCov_fill b.view (s := S1024x1024) inb w L r (fun a => by fin_cases a <;> rfl)

variable {m : (ℓ : Loc nD τ sig) → Buf (Elt Ideal) ℓ} {c : Dev nD} {t : Fin cfg0.N}

/-- The blocks a point reads are read as real arrays. -/
structure Blocks (m : (ℓ : Loc nD τ sig) → Buf (Elt Ideal) ℓ) (c : Dev nD) (t : Fin cfg0.N) (X : Fin 1024 → Fin 1024 → ℝ) (G : Fin 1024 → ℝ)
    (wg wu wd : Fin 704 → Fin 1024 → ℝ) : Prop where
  rows : ∀ r k, iblk m c 0 t (ix2 r k) = (X r k : EReal)
  gain : ∀ k, iblk m c 1 t (ix2 0 k) = (G k : EReal)
  weights : Weights (iblk m c 2 t) (iblk m c 3 t) (iblk m c 4 t) wg wu wd

variable {X : Fin 1024 → Fin 1024 → ℝ} {G : Fin 1024 → ℝ} {wg wu wd : Fin 704 → Fin 1024 → ℝ} (B : Blocks m c t X G wg wu wd)

include B

section Next

variable (hb : ¬Begins (grid0.coords t)) {acc : Vec Ideal S1024x1024 .f32} {n : Vec Ideal S1024x1024 .bf16}
  {A N : Fin 1024 → Fin 1024 → ℝ} (hn : ∀ r k, n (ix2 r k) = (N r k : EReal))

include hn

theorem next_rows (ha : ∀ r k, acc (ix2 r k) = (A r k : EReal)) : View.canon (nextAt m c t acc n hb).1 = accOf A N wg wu wd := by
  have v0 : ∀ r k, View.ld n (Rect.unit (s := S1024x1024) ![0, 0] ![512, 1024] inb_S1024x1024_S512x1024_0_0) (ix2 r k) = (N (half 0 (by omega) r) k : EReal) :=
    fun r k => (ld_half n 0 (by omega) _ r k).trans (hn _ _)
  have v1 : ∀ r k, View.ld n (Rect.unit (s := S1024x1024) ![512, 0] ![512, 1024] inb_S1024x1024_S512x1024_512_0) (ix2 r k) = (N (half 512 (by omega) r) k : EReal) :=
    fun r k => (ld_half n 512 (by omega) _ r k).trans (hn _ _)
  unfold nextAt runNext
  dsimp only
  frame_out
  exact canon_halves (accOf A N wg wu wd) _ _ []
    (rows_half B.weights 512 (by omega) v1 _ _ _ _ _ _ _ _ _ fun r k => (ld_half acc 512 (by omega) _ r k).trans (ha _ _))
    (rows_half B.weights 0 (by omega) v0 _ _ _ _ _ _ _ _ _ fun r k => (ld_half acc 0 (by omega) _ r k).trans (ha _ _))

theorem next_mid : View.canon (nextAt m c t acc n hb).2.1 = midOf N wg wu := by
  have v0 : ∀ r k, View.ld n (Rect.unit (s := S1024x1024) ![0, 0] ![512, 1024] inb_S1024x1024_S512x1024_0_0) (ix2 r k) = (N (half 0 (by omega) r) k : EReal) :=
    fun r k => (ld_half n 0 (by omega) _ r k).trans (hn _ _)
  have v1 : ∀ r k, View.ld n (Rect.unit (s := S1024x1024) ![512, 0] ![512, 1024] inb_S1024x1024_S512x1024_512_0) (ix2 r k) = (N (half 512 (by omega) r) k : EReal) :=
    fun r k => (ld_half n 512 (by omega) _ r k).trans (hn _ _)
  unfold nextAt runNext
  dsimp only
  frame_out
  exact canon_tiles (midOf N wg wu) _ _ _ _ _ _
    (mid_narrow (gate_narrow B.weights 512 (by omega) v1 _) (up_narrow B.weights 512 (by omega) v1 _))
    (mid_wide (gate_wide B.weights 512 (by omega) v1 256 (by omega) _) (up_wide B.weights 512 (by omega) v1 256 (by omega) _))
    (mid_wide (gate_wide B.weights 512 (by omega) v1 0 (by omega) _) (up_wide B.weights 512 (by omega) v1 0 (by omega) _))
    (mid_narrow (gate_narrow B.weights 0 (by omega) v0 _) (up_narrow B.weights 0 (by omega) v0 _))
    (mid_wide (gate_wide B.weights 0 (by omega) v0 256 (by omega) _) (up_wide B.weights 0 (by omega) v0 256 (by omega) _))
    (mid_wide (gate_wide B.weights 0 (by omega) v0 0 (by omega) _) (up_wide B.weights 0 (by omega) v0 0 (by omega) _))

theorem next_p_at : View.canon (nextAt m c t acc n hb).2.2.1 = pOf N wg wu := by
  have v0 : ∀ r k, View.ld n (Rect.unit (s := S1024x1024) ![0, 0] ![512, 1024] inb_S1024x1024_S512x1024_0_0) (ix2 r k) = (N (half 0 (by omega) r) k : EReal) :=
    fun r k => (ld_half n 0 (by omega) _ r k).trans (hn _ _)
  have v1 : ∀ r k, View.ld n (Rect.unit (s := S1024x1024) ![512, 0] ![512, 1024] inb_S1024x1024_S512x1024_512_0) (ix2 r k) = (N (half 512 (by omega) r) k : EReal) :=
    fun r k => (ld_half n 512 (by omega) _ r k).trans (hn _ _)
  unfold nextAt runNext
  dsimp only
  frame_out
  exact canon_tiles (pOf N wg wu) _ _ _ _ _ _
    (p_narrow (gate_narrow B.weights 512 (by omega) v1 _) (up_narrow B.weights 512 (by omega) v1 _))
    (p_wide (gate_wide B.weights 512 (by omega) v1 256 (by omega) _) (up_wide B.weights 512 (by omega) v1 256 (by omega) _))
    (p_wide (gate_wide B.weights 512 (by omega) v1 0 (by omega) _) (up_wide B.weights 512 (by omega) v1 0 (by omega) _))
    (p_narrow (gate_narrow B.weights 0 (by omega) v0 _) (up_narrow B.weights 0 (by omega) v0 _))
    (p_wide (gate_wide B.weights 0 (by omega) v0 256 (by omega) _) (up_wide B.weights 0 (by omega) v0 256 (by omega) _))
    (p_wide (gate_wide B.weights 0 (by omega) v0 0 (by omega) _) (up_wide B.weights 0 (by omega) v0 0 (by omega) _))

theorem next_q_at : View.canon (nextAt m c t acc n hb).2.2.2.1 = qOf N wg := by
  have v0 : ∀ r k, View.ld n (Rect.unit (s := S1024x1024) ![0, 0] ![512, 1024] inb_S1024x1024_S512x1024_0_0) (ix2 r k) = (N (half 0 (by omega) r) k : EReal) :=
    fun r k => (ld_half n 0 (by omega) _ r k).trans (hn _ _)
  have v1 : ∀ r k, View.ld n (Rect.unit (s := S1024x1024) ![512, 0] ![512, 1024] inb_S1024x1024_S512x1024_512_0) (ix2 r k) = (N (half 512 (by omega) r) k : EReal) :=
    fun r k => (ld_half n 512 (by omega) _ r k).trans (hn _ _)
  unfold nextAt runNext
  dsimp only
  frame_out
  exact canon_tiles (qOf N wg) _ _ _ _ _ _
    (q_narrow (gate_narrow B.weights 512 (by omega) v1 _))
    (q_wide (gate_wide B.weights 512 (by omega) v1 256 (by omega) _))
    (q_wide (gate_wide B.weights 512 (by omega) v1 0 (by omega) _))
    (q_narrow (gate_narrow B.weights 0 (by omega) v0 _))
    (q_wide (gate_wide B.weights 0 (by omega) v0 256 (by omega) _))
    (q_wide (gate_wide B.weights 0 (by omega) v0 0 (by omega) _))

end Next

section First

variable (hb : Begins (grid0.coords t))

theorem first_norm : View.canon (firstAt m c t hb).2.1 = fun i : S1024x1024.Idx => (norm X G (i 0) (i 1) : EReal) := by
  unfold firstAt runFirst
  dsimp only
  frame_out
  funext y
  obtain ⟨a, b, rfl⟩ : ∃ (a b : Fin 1024), y = ix2 a b := ⟨y 0, y 1, eq_ix2 y⟩
  exact norm_rows B.rows B.gain a b

/-- The halves of the normalised rows as the point reads them back. -/
theorem first_half (b : Memref sig .tc .vmem S1024x1024 .bf16) (o : ℕ) (ho : o + 512 ≤ 1024) (inb inb') (r : Fin 512) (k : Fin 1024) :
    b.view.readCov ([⟨Rect.unit ![0, 0] ![1024, 1024] inb, k0_pay3 (F := Ideal) (iblk m c 0 t) (iblk m c 1 t)⟩] : List (View.Piece (Elt Ideal) S1024x1024 .bf16))
      (Rect.unit (s := S1024x1024) ![o, 0] ![512, 1024] inb').toLoadRect (ix2 r k) = (norm X G (half o ho r) k : EReal) :=
  (congrFun (read_whole b inb _ [] _) _).trans ((ld_half _ o ho inb' r k).trans (norm_rows B.rows B.gain _ _))

theorem first_rows : View.canon (firstAt m c t hb).1 = accOf X (norm X G) wg wu wd := by
  have v0 := first_half B (st0_6 t) 0 (by omega) inb_S1024x1024_S1024x1024_0_0 inb_S1024x1024_S512x1024_0_0
  have v1 := first_half B (st0_6 t) 512 (by omega) inb_S1024x1024_S1024x1024_0_0 inb_S1024x1024_S512x1024_512_0
  unfold firstAt runFirst
  dsimp only
  frame_out
  exact canon_halves (accOf X (norm X G) wg wu wd) _ _ _
    (rows_half B.weights 512 (by omega) v1 _ _ _ _ _ _ _ _ _ fun r k =>
      (congrFun ((View.readCov_skip (st0_5 t).view _ _ _ _ (by rfl)).trans (read_whole (st0_5 t) _ _ [] _)) _).trans
        ((ld_half _ 512 (by omega) _ r k).trans (B.rows _ _)))
    (rows_half B.weights 0 (by omega) v0 _ _ _ _ _ _ _ _ _ fun r k =>
      (congrFun (read_whole (st0_5 t) _ _ [] _) _).trans ((ld_half _ 0 (by omega) _ r k).trans (B.rows _ _)))

theorem first_mid : View.canon (firstAt m c t hb).2.2.1 = midOf (norm X G) wg wu := by
  have v0 := first_half B (st0_6 t) 0 (by omega) inb_S1024x1024_S1024x1024_0_0 inb_S1024x1024_S512x1024_0_0
  have v1 := first_half B (st0_6 t) 512 (by omega) inb_S1024x1024_S1024x1024_0_0 inb_S1024x1024_S512x1024_512_0
  unfold firstAt runFirst
  dsimp only
  frame_out
  exact canon_tiles (midOf (norm X G) wg wu) _ _ _ _ _ _
    (mid_narrow (gate_narrow B.weights 512 (by omega) v1 _) (up_narrow B.weights 512 (by omega) v1 _))
    (mid_wide (gate_wide B.weights 512 (by omega) v1 256 (by omega) _) (up_wide B.weights 512 (by omega) v1 256 (by omega) _))
    (mid_wide (gate_wide B.weights 512 (by omega) v1 0 (by omega) _) (up_wide B.weights 512 (by omega) v1 0 (by omega) _))
    (mid_narrow (gate_narrow B.weights 0 (by omega) v0 _) (up_narrow B.weights 0 (by omega) v0 _))
    (mid_wide (gate_wide B.weights 0 (by omega) v0 256 (by omega) _) (up_wide B.weights 0 (by omega) v0 256 (by omega) _))
    (mid_wide (gate_wide B.weights 0 (by omega) v0 0 (by omega) _) (up_wide B.weights 0 (by omega) v0 0 (by omega) _))

theorem first_p_at : View.canon (firstAt m c t hb).2.2.2.1 = pOf (norm X G) wg wu := by
  have v0 := first_half B (st0_6 t) 0 (by omega) inb_S1024x1024_S1024x1024_0_0 inb_S1024x1024_S512x1024_0_0
  have v1 := first_half B (st0_6 t) 512 (by omega) inb_S1024x1024_S1024x1024_0_0 inb_S1024x1024_S512x1024_512_0
  unfold firstAt runFirst
  dsimp only
  frame_out
  exact canon_tiles (pOf (norm X G) wg wu) _ _ _ _ _ _
    (p_narrow (gate_narrow B.weights 512 (by omega) v1 _) (up_narrow B.weights 512 (by omega) v1 _))
    (p_wide (gate_wide B.weights 512 (by omega) v1 256 (by omega) _) (up_wide B.weights 512 (by omega) v1 256 (by omega) _))
    (p_wide (gate_wide B.weights 512 (by omega) v1 0 (by omega) _) (up_wide B.weights 512 (by omega) v1 0 (by omega) _))
    (p_narrow (gate_narrow B.weights 0 (by omega) v0 _) (up_narrow B.weights 0 (by omega) v0 _))
    (p_wide (gate_wide B.weights 0 (by omega) v0 256 (by omega) _) (up_wide B.weights 0 (by omega) v0 256 (by omega) _))
    (p_wide (gate_wide B.weights 0 (by omega) v0 0 (by omega) _) (up_wide B.weights 0 (by omega) v0 0 (by omega) _))

theorem first_q_at : View.canon (firstAt m c t hb).2.2.2.2.1 = qOf (norm X G) wg := by
  have v0 := first_half B (st0_6 t) 0 (by omega) inb_S1024x1024_S1024x1024_0_0 inb_S1024x1024_S512x1024_0_0
  have v1 := first_half B (st0_6 t) 512 (by omega) inb_S1024x1024_S1024x1024_0_0 inb_S1024x1024_S512x1024_512_0
  unfold firstAt runFirst
  dsimp only
  frame_out
  exact canon_tiles (qOf (norm X G) wg) _ _ _ _ _ _
    (q_narrow (gate_narrow B.weights 512 (by omega) v1 _))
    (q_wide (gate_wide B.weights 512 (by omega) v1 256 (by omega) _))
    (q_wide (gate_wide B.weights 512 (by omega) v1 0 (by omega) _))
    (q_narrow (gate_narrow B.weights 0 (by omega) v0 _))
    (q_wide (gate_wide B.weights 0 (by omega) v0 256 (by omega) _))
    (q_wide (gate_wide B.weights 0 (by omega) v0 0 (by omega) _))

end First

/-! What is held after the point, and the shards it writes. -/

theorem held_of_first (hb : Begins (grid0.coords t)) :
    held m c t.val t.isLt = (accOf X (norm X G) wg wu wd, fun i : S1024x1024.Idx => (norm X G (i 0) (i 1) : EReal)) := by
  rw [held_first m c t hb, first_rows B hb, first_norm B hb]

theorem held_of_next (hb : ¬Begins (grid0.coords t)) {A N : Fin 1024 → Fin 1024 → ℝ} (ha : ∀ r k, (prior m c t).1 (ix2 r k) = (A r k : EReal))
    (hn : ∀ r k, (prior m c t).2 (ix2 r k) = (N r k : EReal)) :
    held m c t.val t.isLt = (accOf A N wg wu wd, (prior m c t).2) := by
  rw [held_next m c t hb, next_rows B hb hn ha]

theorem shards_of_first (hb : Begins (grid0.coords t)) :
    shards m c t = (midOf (norm X G) wg wu, pOf (norm X G) wg wu, qOf (norm X G) wg) := by
  rw [show shards m c t = _ from dif_pos hb, first_mid B hb, first_p_at B hb, first_q_at B hb]

theorem shards_of_next (hb : ¬Begins (grid0.coords t)) {N : Fin 1024 → Fin 1024 → ℝ}
    (hn : ∀ r k, (prior m c t).2 (ix2 r k) = (N r k : EReal)) :
    shards m c t = (midOf N wg wu, pOf N wg wu, qOf N wg) := by
  rw [show shards m c t = _ from dif_neg hb, next_mid B hb hn, next_p_at B hb hn, next_q_at B hb hn]

end Cert.Kernel11Ideal.FfnFwd

end
-- ==== Proof.FfnFwdReference.lean ====
/-
  The reference of the forward feed-forward, read step by step at finite arguments: every step is a finite value, the one of the
  real expressions of `FfnSpec`.
-/
module

public import proofs.«01_k».proof.Proof.FfnSpec
public import proofs.«01_k».proof.Proof.Gen.Reference11Ideal.Read

@[expose] public section

noncomputable section

open Idealize.ShloMosaic Idealize.ShloMosaic.TcCoe Idealize.SL.Sem Idealize.ShloMosaic.ValueIdx
open scoped BigOperators

namespace Cert.Reference11Ideal.FfnFwd

open Cert.Reference11Ideal Cert.Reference11Ideal.Gen Cert.Reference11Ideal.Read Cert.FfnSpec Cert.Basics

/-- The hidden feature `j` of the shard `s`. -/
abbrev hidden (s : Fin 4) (j : Fin 704) : Fin 2816 := ⟨s.val * 704 + j.val, by have := s.isLt; have := j.isLt; omega⟩

/-- The five arguments are read as five real arrays. -/
structure Reads (x0 : Vec Ideal S8192x1024 .f32) (x1 : Vec Ideal S1x1024 .f32) (x2 x3 : Vec Ideal S1024x2816 .f32)
    (x4 : Vec Ideal S2816x1024 .f32) (x : Fin 8192 → Fin 1024 → ℝ) (g : Fin 1024 → ℝ) (wg wu : Fin 1024 → Fin 2816 → ℝ)
    (wd : Fin 2816 → Fin 1024 → ℝ) : Prop where
  rows : ∀ r c, x0 (ix2 r c) = (x r c : EReal)
  gain : ∀ c, x1 (ix2 0 c) = (g c : EReal)
  gate : ∀ c j, x2 (ix2 c j) = (wg c j : EReal)
  up : ∀ c j, x3 (ix2 c j) = (wu c j : EReal)
  down : ∀ j c, x4 (ix2 j c) = (wd j c : EReal)

/-- The gated hidden features. -/
def gated (x : Fin 8192 → Fin 1024 → ℝ) (g : Fin 1024 → ℝ) (wg wu : Fin 1024 → Fin 2816 → ℝ) (r : Fin 8192) (j : Fin 2816) : ℝ :=
  upFactor (proj x g wg r j) * proj x g wu r j

variable {x0 : Vec Ideal S8192x1024 .f32} {x1 : Vec Ideal S1x1024 .f32} {x2 x3 : Vec Ideal S1024x2816 .f32}
  {x4 : Vec Ideal S2816x1024 .f32} {x : Fin 8192 → Fin 1024 → ℝ} {g : Fin 1024 → ℝ} {wg wu : Fin 1024 → Fin 2816 → ℝ}
  {wd : Fin 2816 → Fin 1024 → ℝ} (H : Reads x0 x1 x2 x3 x4 x g wg wu wd)

include H

/-! ## The normalised rows -/

theorem squares_at (r : Fin 8192) : val_main_v1 (F := Ideal) x0 (ix1 r) = ((∑ k, x r k * x r k : ℝ) : EReal) := by
  rw [val_main_v1_apply]
  refine (congrArg₂ (· + ·) ofBits_zero (sum_eq_coe fun k => ?_)).trans (zero_add _)
  refine (congrArg (val_main_v0 (F := Ideal) x0) (show idx_main_v1 (ix1 r) k = ix2 r k from Shape.idx_ext₂ rfl rfl)).trans ?_
  show x0 (ix2 r k) * x0 (ix2 r k) = _
  rw [H.rows, ← EReal.coe_mul]

theorem scale_at (r : Fin 8192) (u : Fin 1) : val_main_v7 (F := Ideal) x0 (ix2 r u) = (scale x r : EReal) := by
  have e : val_main_v6 (F := Ideal) x0 (ix2 r u) = (meanSq x r : EReal) := by
    show Ideal.div (val_main_v2 (F := Ideal) x0 (ix2 r u)) (Ideal.ofBits .f32 0x44800000#32) + Ideal.ofBits .f32 0x358637BD#32 = _
    rw [val_main_v2_apply, show idx_main_v2 (ix2 r u) = ix1 r from funext fun a => by fin_cases a; rfl, squares_at H, ofBits_1024, ofBits_eps,
      div_real _ _ (by norm_num), ← EReal.coe_add]
    rfl
  show Ideal.rsqrt (val_main_v6 (F := Ideal) x0 (ix2 r u)) = _
  rw [e]
  exact rsqrt_real _ (meanSq_pos x r)

/-- The normalised row. -/
theorem norm_at (r : Fin 8192) (c : Fin 1024) : val_main_v11 (F := Ideal) x0 x1 (ix2 r c) = (norm x g r c : EReal) := by
  show x0 (ix2 r c) * val_main_v8 (F := Ideal) x0 (ix2 r c) * val_main_v10 (F := Ideal) x1 (ix2 r c) = _
  rw [val_main_v8_apply, show idx_main_v8 (ix2 r c) = ix2 r 0 from Shape.idx_ext₂ rfl rfl, scale_at H,
    val_main_v10_apply, show idx_main_v10 (ix2 r c) = ix2 0 c from Shape.idx_ext₂ rfl rfl, H.gain, H.rows, ← EReal.coe_mul, ← EReal.coe_mul]
  rfl

/-! ## The hidden features -/

theorem gateProj_at (r : Fin 8192) (j : Fin 2816) : val_main_v12 (F := Ideal) x0 x1 x2 (ix2 r j) = (proj x g wg r j : EReal) := by
  rw [val_main_v12_apply]
  refine sum_eq_coe fun k => ?_
  rw [show lidx_main_v12 (ix2 r j) k = ix2 r k from Shape.idx_ext₂ rfl rfl, show ridx_main_v12 (ix2 r j) k = ix2 k j from Shape.idx_ext₂ rfl rfl,
    norm_at H, H.gate, ← EReal.coe_mul]

theorem upProj_at (r : Fin 8192) (j : Fin 2816) : val_main_v13 (F := Ideal) x0 x1 x3 (ix2 r j) = (proj x g wu r j : EReal) := by
  rw [val_main_v13_apply]
  refine sum_eq_coe fun k => ?_
  rw [show lidx_main_v13 (ix2 r j) k = ix2 r k from Shape.idx_ext₂ rfl rfl, show ridx_main_v13 (ix2 r j) k = ix2 k j from Shape.idx_ext₂ rfl rfl,
    norm_at H, H.up, ← EReal.coe_mul]

theorem sig_at (r : Fin 8192) (j : Fin 2816) : val_main_v14_2 (F := Ideal) x0 x1 x2 (ix2 r j) = (Cert.FfnSpec.sig (proj x g wg r j) : EReal) := by
  show Ideal.div (Ideal.ofBits .f32 0x3F800000#32) (Ideal.ofBits .f32 0x3F800000#32 + Ideal.exp (-(val_main_v12 (F := Ideal) x0 x1 x2 (ix2 r j)))) = _
  rw [gateProj_at H, ofBits_one, ← EReal.coe_neg, Ideal.exp_coe, ← EReal.coe_one, ← EReal.coe_add, div_real _ _ (by positivity)]
  rfl

theorem gated_at (r : Fin 8192) (j : Fin 2816) : val_main_v15 (F := Ideal) x0 x1 x2 x3 (ix2 r j) = (gated x g wg wu r j : EReal) := by
  show val_main_v12 (F := Ideal) x0 x1 x2 (ix2 r j) * val_main_v14_2 (F := Ideal) x0 x1 x2 (ix2 r j) * val_main_v13 (F := Ideal) x0 x1 x3 (ix2 r j) = _
  rw [gateProj_at H, sig_at H, upProj_at H, ← EReal.coe_mul, ← EReal.coe_mul]
  rfl

/-- The derivative of the gated features along the gate's projection. -/
theorem gateSlope_at (r : Fin 8192) (j : Fin 2816) :
    val_main_v19 (F := Ideal) x0 x1 x2 x3 (ix2 r j) = (gateFactor (proj x g wg r j) (proj x g wu r j) : EReal) := by
  show Ideal.ofBits .f32 0x3F800000#32 * val_main_v13 (F := Ideal) x0 x1 x3 (ix2 r j) * val_main_v14_2 (F := Ideal) x0 x1 x2 (ix2 r j)
    + val_main_v12 (F := Ideal) x0 x1 x2 (ix2 r j) * (Ideal.ofBits .f32 0x3F800000#32 * val_main_v13 (F := Ideal) x0 x1 x3 (ix2 r j))
      * (val_main_v14_2 (F := Ideal) x0 x1 x2 (ix2 r j) * (Ideal.ofBits .f32 0x3F800000#32 - val_main_v14_2 (F := Ideal) x0 x1 x2 (ix2 r j))) = _
  rw [gateProj_at H, upProj_at H, sig_at H, ofBits_one, ← EReal.coe_one]
  simp only [← EReal.coe_mul, ← EReal.coe_sub, ← EReal.coe_add]
  refine congrArg _ ?_
  unfold gateFactor
  ring

/-- The derivative of the gated features along the other projection. -/
theorem upSlope_at (r : Fin 8192) (j : Fin 2816) :
    val_main_v17 (F := Ideal) x0 x1 x2 (ix2 r j) = (upFactor (proj x g wg r j) : EReal) := by
  show val_main_v12 (F := Ideal) x0 x1 x2 (ix2 r j) * val_main_v14_2 (F := Ideal) x0 x1 x2 (ix2 r j) * Ideal.ofBits .f32 0x3F800000#32 = _
  rw [gateProj_at H, sig_at H, ofBits_one, ← EReal.coe_mul, mul_one]
  rfl

/-! ## The five results -/

/-- The rows after the feed-forward. -/
theorem result_at (r : Fin 8192) (c : Fin 1024) :
    val_main_v32 (F := Ideal) x0 x1 x2 x3 x4 (ix2 r c) = ((x r c + 1 / 2 * ∑ j, gated x g wg wu r j * wd j c : ℝ) : EReal) := by
  have e : val_main_v29 (F := Ideal) x0 x1 x2 x3 x4 (ix2 r c) = ((∑ j, gated x g wg wu r j * wd j c : ℝ) : EReal) := by
    rw [val_main_v29_apply]
    refine sum_eq_coe fun k => ?_
    rw [show lidx_main_v29 (ix2 r c) k = ix2 r k from Shape.idx_ext₂ rfl rfl, show ridx_main_v29 (ix2 r c) k = ix2 k c from Shape.idx_ext₂ rfl rfl,
      gated_at H, H.down, ← EReal.coe_mul]
  show x0 (ix2 r c) + Ideal.ofBits .f32 0x3F000000#32 * val_main_v29 (F := Ideal) x0 x1 x2 x3 x4 (ix2 r c) = _
  rw [e, H.rows, ofBits_half, ← EReal.coe_mul, ← EReal.coe_add]

theorem gatedShard_at (s : Fin 4) (r : Fin 8192) (j : Fin 704) :
    val_main_v22 (F := Ideal) x0 x1 x2 x3 (ix3 s r j) = (gated x g wg wu r (hidden s j) : EReal) := by
  show val_main_v21 (F := Ideal) x0 x1 x2 x3 (ix3 s r j) = _
  rw [val_main_v21_apply, val_main_v20_apply, ← gated_at H]
  refine congrArg _ (Shape.idx_ext₂ ?_ ?_)
  · show ((r.val * 4 + s.val) * 704 + j.val) / 2816 = r.val
    have := s.isLt; have := j.isLt; omega
  · show ((r.val * 4 + s.val) * 704 + j.val) % 2816 = s.val * 704 + j.val
    have := s.isLt; have := j.isLt; omega

theorem gateSlopeShard_at (s : Fin 4) (r : Fin 8192) (j : Fin 704) :
    val_main_v25 (F := Ideal) x0 x1 x2 x3 (ix3 s r j) = (gateFactor (proj x g wg r (hidden s j)) (proj x g wu r (hidden s j)) : EReal) := by
  show val_main_v24 (F := Ideal) x0 x1 x2 x3 (ix3 s r j) = _
  rw [val_main_v24_apply, val_main_v23_apply, ← gateSlope_at H]
  refine congrArg _ (Shape.idx_ext₂ ?_ ?_)
  · show ((r.val * 4 + s.val) * 704 + j.val) / 2816 = r.val
    have := s.isLt; have := j.isLt; omega
  · show ((r.val * 4 + s.val) * 704 + j.val) % 2816 = s.val * 704 + j.val
    have := s.isLt; have := j.isLt; omega

theorem upSlopeShard_at (s : Fin 4) (r : Fin 8192) (j : Fin 704) :
    val_main_v28 (F := Ideal) x0 x1 x2 (ix3 s r j) = (upFactor (proj x g wg r (hidden s j)) : EReal) := by
  show val_main_v27 (F := Ideal) x0 x1 x2 (ix3 s r j) = _
  rw [val_main_v27_apply, val_main_v26_apply, ← upSlope_at H]
  refine congrArg _ (Shape.idx_ext₂ ?_ ?_)
  · show ((r.val * 4 + s.val) * 704 + j.val) / 2816 = r.val
    have := s.isLt; have := j.isLt; omega
  · show ((r.val * 4 + s.val) * 704 + j.val) % 2816 = s.val * 704 + j.val
    have := s.isLt; have := j.isLt; omega

end Cert.Reference11Ideal.FfnFwd

end
-- ==== Proof.FfnFwdArrays.lean ====
/-
  The five results of the forward feed-forward's kernel as whole arrays, for finite arguments: the weights the host prepares,
  where a point's blocks lie, what the four points of one block of rows leave one after another, and the arrays in the end.
-/
module

public import proofs.«01_k».proof.Proof.FfnFwdPoint
public import proofs.«01_k».proof.Proof.FfnFwdReference

@[expose] public section

noncomputable section

open Idealize.ShloMosaic hiding ix1 ix2 ix3 eq_ix2 eq_ix3
open Idealize.ShloMosaic.TcCoe Idealize.SL.Sem Idealize.ShloMosaic.ValueIdx
open Idealize.ShloMosaic.Pipeline (Dat)
open scoped BigOperators

namespace Cert.Kernel11Ideal.FfnFwd

open Cert.Kernel11Ideal Cert.Kernel11Ideal.Gen Cert.FfnSpec Cert.Basics
open Cert.Reference11Ideal.FfnFwd (hidden Reads gated)

seal held shards runFirst runNext

variable (m : (ℓ : Loc nD τ sig) → Buf (Elt Ideal) ℓ)

/-- Indices of rank three with the same coordinates. -/
theorem coords_ext {a b d : ℕ} {i j : (⟨3, ![a, b, d]⟩ : Shape).Idx} (h0 : (i 0).val = (j 0).val) (h1 : (i 1).val = (j 1).val)
    (h2 : (i 2).val = (j 2).val) : i = j := by
  funext k
  fin_cases k
  · exact Fin.ext h0
  · exact Fin.ext h1
  · exact Fin.ext h2

/-! ## The points and where their blocks lie -/

/-- The point of the block of rows `i` and the shard `s`. -/
abbrev pt (i : Fin 8) (s : Fin 4) : Fin cfg0.N := ⟨4 * i.val + s.val, by have := i.isLt; have := s.isLt; show _ < 32; omega⟩

theorem exists_pt (t : Fin cfg0.N) : ∃ i s, t = pt i s := by
  have h : t.val < 32 := t.isLt
  exact ⟨⟨t.val / 4, by omega⟩, ⟨t.val % 4, by omega⟩, Fin.ext (by show t.val = 4 * (t.val / 4) + t.val % 4; omega)⟩

theorem where_in : ∀ (i : Fin 8) (s : Fin 4), win0_0.index (pt i s) = ![i.val, 0] ∧ win0_1.index (pt i s) = ![0, 0] ∧ win0_2.index (pt i s) = ![s.val, 0, 0] ∧ win0_3.index (pt i s) = ![s.val, 0, 0] ∧ win0_4.index (pt i s) = ![s.val, 0, 0] :=
  (by decide +kernel)
theorem where_out : ∀ (i : Fin 8) (s : Fin 4), win0_5.index (pt i s) = ![i.val, 0] ∧ win0_6.index (pt i s) = ![i.val, 0] ∧ win0_7.index (pt i s) = ![s.val, i.val, 0] ∧ win0_8.index (pt i s) = ![s.val, i.val, 0] ∧ win0_9.index (pt i s) = ![s.val, i.val, 0] :=
  (by decide +kernel)

/-- Row `r` of the block of rows `i`. -/
abbrev row (i : Fin 8) (r : Fin 1024) : Fin 8192 := ⟨i.val * 1024 + r.val, by have := i.isLt; have := r.isLt; omega⟩

theorem exists_row (a : Fin 8192) : ∃ i r, a = row i r := by
  have h := a.isLt
  exact ⟨⟨a.val / 1024, by omega⟩, ⟨a.val % 1024, by omega⟩, Fin.ext (by show a.val = a.val / 1024 * 1024 + a.val % 1024; omega)⟩

/-! Where an element of a point's block lies in its array. -/

theorem emb0 (i : Fin 8) (s : Fin 4) (r k : Fin 1024) : (win0_0.rect (pt i s)).emb (ix2 r k) = ix2 (row i r) k := by
  refine Shape.idx_ext₂ ?_ ?_
  · rw [Pipeline.Window.rect_emb_val win0_0, (where_in i s).1]; rfl
  · rw [Pipeline.Window.rect_emb_val win0_0, (where_in i s).1]; show 0 * _ + k.val = k.val; omega
theorem emb1 (i : Fin 8) (s : Fin 4) (u : Fin 1) (k : Fin 1024) : (win0_1.rect (pt i s)).emb (ix2 u k) = ix2 u k := by
  refine Shape.idx_ext₂ ?_ ?_
  · rw [Pipeline.Window.rect_emb_val win0_1, (where_in i s).2.1]; show 0 * _ + u.val = u.val; omega
  · rw [Pipeline.Window.rect_emb_val win0_1, (where_in i s).2.1]; show 0 * _ + k.val = k.val; omega
theorem emb2 (i : Fin 8) (s : Fin 4) (j : Fin 704) (k : Fin 1024) : (win0_2.rect (pt i s)).emb (ix3 0 j k) = ix3 s j k := by
  refine coords_ext ?_ ?_ ?_
  · rw [Pipeline.Window.rect_emb_val win0_2, (where_in i s).2.2.1]; show s.val * 1 + 0 = s.val; omega
  · rw [Pipeline.Window.rect_emb_val win0_2, (where_in i s).2.2.1]; show 0 * _ + j.val = j.val; omega
  · rw [Pipeline.Window.rect_emb_val win0_2, (where_in i s).2.2.1]; show 0 * _ + k.val = k.val; omega
theorem emb3 (i : Fin 8) (s : Fin 4) (j : Fin 704) (k : Fin 1024) : (win0_3.rect (pt i s)).emb (ix3 0 j k) = ix3 s j k := by
  refine coords_ext ?_ ?_ ?_
  · rw [Pipeline.Window.rect_emb_val win0_3, (where_in i s).2.2.2.1]; show s.val * 1 + 0 = s.val; omega
  · rw [Pipeline.Window.rect_emb_val win0_3, (where_in i s).2.2.2.1]; show 0 * _ + j.val = j.val; omega
  · rw [Pipeline.Window.rect_emb_val win0_3, (where_in i s).2.2.2.1]; show 0 * _ + k.val = k.val; omega
theorem emb4 (i : Fin 8) (s : Fin 4) (j : Fin 704) (k : Fin 1024) : (win0_4.rect (pt i s)).emb (ix3 0 j k) = ix3 s j k := by
  refine coords_ext ?_ ?_ ?_
  · rw [Pipeline.Window.rect_emb_val win0_4, (where_in i s).2.2.2.2]; show s.val * 1 + 0 = s.val; omega
  · rw [Pipeline.Window.rect_emb_val win0_4, (where_in i s).2.2.2.2]; show 0 * _ + j.val = j.val; omega
  · rw [Pipeline.Window.rect_emb_val win0_4, (where_in i s).2.2.2.2]; show 0 * _ + k.val = k.val; omega
theorem emb5 (i : Fin 8) (s : Fin 4) (r k : Fin 1024) : (win0_5.rect (pt i s)).emb (ix2 r k) = ix2 (row i r) k := by
  refine Shape.idx_ext₂ ?_ ?_
  · rw [Pipeline.Window.rect_emb_val win0_5, (where_out i s).1]; rfl
  · rw [Pipeline.Window.rect_emb_val win0_5, (where_out i s).1]; show 0 * _ + k.val = k.val; omega
theorem emb6 (i : Fin 8) (s : Fin 4) (r k : Fin 1024) : (win0_6.rect (pt i s)).emb (ix2 r k) = ix2 (row i r) k := by
  refine Shape.idx_ext₂ ?_ ?_
  · rw [Pipeline.Window.rect_emb_val win0_6, (where_out i s).2.1]; rfl
  · rw [Pipeline.Window.rect_emb_val win0_6, (where_out i s).2.1]; show 0 * _ + k.val = k.val; omega
theorem emb7 (i : Fin 8) (s : Fin 4) (r : Fin 1024) (j : Fin 704) : (win0_7.rect (pt i s)).emb (ix3 0 r j) = ix3 s (row i r) j := by
  refine coords_ext ?_ ?_ ?_
  · rw [Pipeline.Window.rect_emb_val win0_7, (where_out i s).2.2.1]; show s.val * 1 + 0 = s.val; omega
  · rw [Pipeline.Window.rect_emb_val win0_7, (where_out i s).2.2.1]; rfl
  · rw [Pipeline.Window.rect_emb_val win0_7, (where_out i s).2.2.1]; show 0 * _ + j.val = j.val; omega
theorem emb8 (i : Fin 8) (s : Fin 4) (r : Fin 1024) (j : Fin 704) : (win0_8.rect (pt i s)).emb (ix3 0 r j) = ix3 s (row i r) j := by
  refine coords_ext ?_ ?_ ?_
  · rw [Pipeline.Window.rect_emb_val win0_8, (where_out i s).2.2.2.1]; show s.val * 1 + 0 = s.val; omega
  · rw [Pipeline.Window.rect_emb_val win0_8, (where_out i s).2.2.2.1]; rfl
  · rw [Pipeline.Window.rect_emb_val win0_8, (where_out i s).2.2.2.1]; show 0 * _ + j.val = j.val; omega
theorem emb9 (i : Fin 8) (s : Fin 4) (r : Fin 1024) (j : Fin 704) : (win0_9.rect (pt i s)).emb (ix3 0 r j) = ix3 s (row i r) j := by
  refine coords_ext ?_ ?_ ?_
  · rw [Pipeline.Window.rect_emb_val win0_9, (where_out i s).2.2.2.2]; show s.val * 1 + 0 = s.val; omega
  · rw [Pipeline.Window.rect_emb_val win0_9, (where_out i s).2.2.2.2]; rfl
  · rw [Pipeline.Window.rect_emb_val win0_9, (where_out i s).2.2.2.2]; show 0 * _ + j.val = j.val; omega

/-- The first point of a block of rows begins it, and the others do not. -/
theorem begins0 (i : Fin 8) : Begins (grid0.coords (pt i 0)) := (begins_iff _).mpr (by show (4 * i.val + 0) % 4 = 0; omega)
theorem not_begins (i : Fin 8) (s : Fin 4) (h : s.val ≠ 0) : ¬Begins (grid0.coords (pt i s)) := fun hb => by
  have h' : (4 * i.val + s.val) % 4 = 0 := (begins_iff _).mp hb
  have := s.isLt
  omega

/-! ## What the host prepares -/

/-- Rows of the hidden features laid out by shards. -/
theorem byShards {α : Type} (y : S2816x1024.Idx → α) (s : Fin 4) (j : Fin 704) (k : Fin 1024) :
    shapeCast S4x704x1024 y shapeCasts_S2816x1024_S4x704x1024 (ix3 s j k) = y (ix2 (hidden s j) k) := by
  refine shapeCast_apply y shapeCasts_S2816x1024_S4x704x1024 (ix3 s j k) (ix2 (hidden s j) k) ?_
  rewrite [Shape.rowMajor_val_two, Shape.rowMajor_val_three]
  rfl

/-- A transposed weight. -/
theorem flipped {α : Type} (y : S1024x2816.Idx → α) (j : Fin 2816) (k : Fin 1024) :
    transpose S2816x1024 [1, 0] y transposes_S1024x2816_S2816x1024_1_0 (ix2 j k) = y (ix2 k j) :=
  transpose_apply [1, 0] y transposes_S1024x2816_S2816x1024_1_0 (ix2 j k) (ix2 k j) (fun b => match b with
    | ⟨0, _⟩ => rfl
    | ⟨1, _⟩ => rfl)

section Args

abbrev a0 (c : Dev nD) : Vec Ideal S8192x1024 .f32 := m ((c : Thread nD τ).loc main_arg0)
abbrev a1 (c : Dev nD) : Vec Ideal S1x1024 .f32 := m ((c : Thread nD τ).loc main_arg1)
abbrev a2 (c : Dev nD) : Vec Ideal S1024x2816 .f32 := m ((c : Thread nD τ).loc main_arg2)
abbrev a3 (c : Dev nD) : Vec Ideal S1024x2816 .f32 := m ((c : Thread nD τ).loc main_arg3)
abbrev a4 (c : Dev nD) : Vec Ideal S2816x1024 .f32 := m ((c : Thread nD τ).loc main_arg4)

theorem V_v2 (c : Dev nD) : V m c main_v2
    = shapeCast S4x704x1024 (transpose S2816x1024 [1, 0] (a2 m c) transposes_S1024x2816_S2816x1024_1_0) shapeCasts_S2816x1024_S4x704x1024 := by
  unfold V hostOps0; after_results; rfl
theorem V_v5 (c : Dev nD) : V m c main_v5
    = shapeCast S4x704x1024 (transpose S2816x1024 [1, 0] (a3 m c) transposes_S1024x2816_S2816x1024_1_0) shapeCasts_S2816x1024_S4x704x1024 := by
  unfold V hostOps0; after_results; rfl
theorem V_v7 (c : Dev nD) : V m c main_v7 = shapeCast S4x704x1024 (a4 m c) shapeCasts_S2816x1024_S4x704x1024 := by
  unfold V hostOps0; after_results; rfl

end Args

/-! ## The points at finite arguments -/

section Finite

variable {m} {c : Dev nD} {x : Fin 8192 → Fin 1024 → ℝ} {g : Fin 1024 → ℝ} {wg wu : Fin 1024 → Fin 2816 → ℝ}
  {wd : Fin 2816 → Fin 1024 → ℝ} (H : Reads (a0 m c) (a1 m c) (a2 m c) (a3 m c) (a4 m c) x g wg wu wd)

include H

theorem blocks (i : Fin 8) (s : Fin 4) : Blocks m c (pt i s) (fun r => x (row i r)) g
    (fun j k => wg k (hidden s j)) (fun j k => wu k (hidden s j)) (fun j k => wd (hidden s j) k) where
  rows r k := ((congrArg (V m c main_arg0) (emb0 i s r k)).trans (congrFun (V_main_arg0 m c) _)).trans (H.rows _ _)
  gain k := ((congrArg (V m c main_arg1) (emb1 i s 0 k)).trans (congrFun (V_main_arg1 m c) _)).trans (H.gain _)
  weights :=
    { gate := fun j k => ((congrArg (V m c main_v2) (emb2 i s j k)).trans (congrFun (V_v2 m c) _)).trans
        ((byShards _ _ _ _).trans ((flipped _ _ _).trans (H.gate _ _)))
      up := fun j k => ((congrArg (V m c main_v5) (emb3 i s j k)).trans (congrFun (V_v5 m c) _)).trans
        ((byShards _ _ _ _).trans ((flipped _ _ _).trans (H.up _ _)))
      down := fun j k => ((congrArg (V m c main_v7) (emb4 i s j k)).trans (congrFun (V_v7 m c) _)).trans
        ((byShards _ _ _ _).trans (H.down _ _)) }

omit H in
/-- What the shard `s` contributes to the down projection. -/
def part (x : Fin 8192 → Fin 1024 → ℝ) (g : Fin 1024 → ℝ) (wg wu : Fin 1024 → Fin 2816 → ℝ) (wd : Fin 2816 → Fin 1024 → ℝ)
    (s : Fin 4) (r : Fin 8192) (k : Fin 1024) : ℝ := ∑ j : Fin 704, gated x g wg wu r (hidden s j) * wd (hidden s j) k

omit H in
theorem part_sum (r : Fin 8192) (k : Fin 1024) :
    part x g wg wu wd 0 r k + part x g wg wu wd 1 r k + part x g wg wu wd 2 r k + part x g wg wu wd 3 r k = ∑ J, gated x g wg wu r J * wd J k := by
  rw [← Fin.sum_univ_four (fun s => part x g wg wu wd s r k)]
  exact Fin.sum_mul_add_fin 4 704 (fun J : Fin 2816 => gated x g wg wu r J * wd J k) rfl

/-! Before a later point of a block of rows the buffers hold what the point before left. -/

omit H in
theorem held_congr {k k' : ℕ} (h : k = k') (hk : k < cfg0.N) (hk' : k' < cfg0.N) : held m c k hk = held m c k' hk' := by
  subst h; rfl
omit H in
theorem prior_eq (i : Fin 8) (s s' : Fin 4) (h : s.val = s'.val + 1) : prior m c (pt i s) = held m c (pt i s').val (pt i s').isLt :=
  held_congr (by show 4 * i.val + s.val - 1 = 4 * i.val + s'.val; omega) _ _

/-! A block's normalised rows and what becomes of them are those of its rows in the whole array. -/

omit H in
/-- The normalised rows of the block `i`. -/
def Nb (x : Fin 8192 → Fin 1024 → ℝ) (g : Fin 1024 → ℝ) (i : Fin 8) : Fin 1024 → Fin 1024 → ℝ := FfnSpec.norm (fun r => x (row i r)) g
omit H in
theorem Nb_eq (i : Fin 8) (r k : Fin 1024) : Nb x g i r k = norm x g (row i r) k := by
  unfold Nb FfnSpec.norm FfnSpec.hat scale meanSq; rfl
omit H in
theorem onto_eq (w : Fin 1024 → Fin 2816 → ℝ) (i : Fin 8) (s : Fin 4) (r : Fin 1024) (j : Fin 704) :
    onto (Nb x g i) (fun j k => w k (hidden s j)) r j = proj x g w (row i r) (hidden s j) := by
  unfold onto proj
  exact Finset.sum_congr rfl fun k _ => by rw [Nb_eq]
omit H in
theorem gatedOn_eq (i : Fin 8) (s : Fin 4) (r : Fin 1024) (j : Fin 704) :
    gatedOn (Nb x g i) (fun j k => wg k (hidden s j)) (fun j k => wu k (hidden s j)) r j = gated x g wg wu (row i r) (hidden s j) := by
  unfold gatedOn gated
  rw [onto_eq, onto_eq]

omit H in
/-- The accumulator of the block `i` after the shard `s`, from what it was. -/
abbrev step (x : Fin 8192 → Fin 1024 → ℝ) (g : Fin 1024 → ℝ) (wg wu : Fin 1024 → Fin 2816 → ℝ) (wd : Fin 2816 → Fin 1024 → ℝ)
    (i : Fin 8) (A : Fin 1024 → Fin 1024 → ℝ) (s : Fin 4) : S1024x1024.Idx → EReal :=
  accOf A (Nb x g i) (fun j k => wg k (hidden s j)) (fun j k => wu k (hidden s j)) (fun j k => wd (hidden s j) k)

omit H in
theorem step_apply (i : Fin 8) (A : Fin 1024 → Fin 1024 → ℝ) (s : Fin 4) (r k : Fin 1024) :
    step x g wg wu wd i A s (ix2 r k) = ((A r k + 1 / 2 * part x g wg wu wd s (row i r) k : ℝ) : EReal) := by
  refine congrArg (fun q : ℝ => ((A r k + 1 / 2 * q : ℝ) : EReal)) ?_
  unfold part
  exact Finset.sum_congr rfl fun j _ => congrArg (· * _) (gatedOn_eq i s r j)

/-- After the first point the normalised rows are held, -/
theorem norm0 (i : Fin 8) (r k : Fin 1024) : (held m c (pt i 0).val (pt i 0).isLt).2 (ix2 r k) = (Nb x g i r k : EReal) :=
  congrFun (congrArg Prod.snd (held_of_first (blocks H i 0) (begins0 i))) (ix2 r k)
/-- and a later point leaves them. -/
theorem norm_kept (i : Fin 8) (s s' : Fin 4) (h : s.val = s'.val + 1) (A : Fin 1024 → Fin 1024 → ℝ)
    (hA : ∀ r k, (held m c (pt i s').val (pt i s').isLt).1 (ix2 r k) = (A r k : EReal))
    (hn : ∀ r k, (held m c (pt i s').val (pt i s').isLt).2 (ix2 r k) = (Nb x g i r k : EReal)) :
    held m c (pt i s).val (pt i s).isLt = (step x g wg wu wd i A s, (held m c (pt i s').val (pt i s').isLt).2) := by
  rw [← prior_eq i s s' h] at hA hn ⊢
  exact held_of_next (blocks H i s) (not_begins i s (by omega)) hA hn

/-- What the accumulator of the block `i` holds after its shard `s`. -/
def accAfter (x : Fin 8192 → Fin 1024 → ℝ) (g : Fin 1024 → ℝ) (wg wu : Fin 1024 → Fin 2816 → ℝ) (wd : Fin 2816 → Fin 1024 → ℝ)
    (i : Fin 8) (r k : Fin 1024) : ℕ → ℝ
  | 0 => x (row i r) k + 1 / 2 * part x g wg wu wd 0 (row i r) k
  | 1 => x (row i r) k + 1 / 2 * part x g wg wu wd 0 (row i r) k + 1 / 2 * part x g wg wu wd 1 (row i r) k
  | 2 => x (row i r) k + 1 / 2 * part x g wg wu wd 0 (row i r) k + 1 / 2 * part x g wg wu wd 1 (row i r) k
      + 1 / 2 * part x g wg wu wd 2 (row i r) k
  | _ => x (row i r) k + 1 / 2 * part x g wg wu wd 0 (row i r) k + 1 / 2 * part x g wg wu wd 1 (row i r) k
      + 1 / 2 * part x g wg wu wd 2 (row i r) k + 1 / 2 * part x g wg wu wd 3 (row i r) k

theorem rows0 (i : Fin 8) (r k : Fin 1024) :
    (held m c (pt i 0).val (pt i 0).isLt).1 (ix2 r k) = (accAfter x g wg wu wd i r k 0 : EReal) := by
  have e : (held m c (pt i 0).val (pt i 0).isLt).1 = step x g wg wu wd i (fun r k => x (row i r) k) 0 :=
    congrArg Prod.fst (held_of_first (blocks H i 0) (begins0 i))
  exact (congrFun e (ix2 r k)).trans (step_apply i _ 0 r k)

/-- A later point adds half its shard's part to the accumulator, and leaves the normalised rows. -/
theorem later (i : Fin 8) (s s' : Fin 4) (h : s.val = s'.val + 1)
    (hA : ∀ r k, (held m c (pt i s').val (pt i s').isLt).1 (ix2 r k) = (accAfter x g wg wu wd i r k s'.val : EReal))
    (hn : ∀ r k, (held m c (pt i s').val (pt i s').isLt).2 (ix2 r k) = (Nb x g i r k : EReal)) (r k : Fin 1024) :
    (held m c (pt i s).val (pt i s).isLt).1 (ix2 r k) = ((accAfter x g wg wu wd i r k s'.val + 1 / 2 * part x g wg wu wd s (row i r) k : ℝ) : EReal)
      ∧ (held m c (pt i s).val (pt i s).isLt).2 (ix2 r k) = (Nb x g i r k : EReal) := by
  rw [norm_kept H i s s' h _ hA hn]
  exact ⟨step_apply (x := x) (g := g) (wg := wg) (wu := wu) (wd := wd) i (fun r k => accAfter x g wg wu wd i r k s'.val) s r k, hn r k⟩

theorem held1 (i : Fin 8) (r k : Fin 1024) : (held m c (pt i 1).val (pt i 1).isLt).1 (ix2 r k) = (accAfter x g wg wu wd i r k 1 : EReal)
    ∧ (held m c (pt i 1).val (pt i 1).isLt).2 (ix2 r k) = (Nb x g i r k : EReal) :=
  later H i 1 0 rfl (rows0 H i) (norm0 H i) r k
theorem held2 (i : Fin 8) (r k : Fin 1024) : (held m c (pt i 2).val (pt i 2).isLt).1 (ix2 r k) = (accAfter x g wg wu wd i r k 2 : EReal)
    ∧ (held m c (pt i 2).val (pt i 2).isLt).2 (ix2 r k) = (Nb x g i r k : EReal) :=
  later H i 2 1 rfl (fun r k => (held1 H i r k).1) (fun r k => (held1 H i r k).2) r k
theorem held3 (i : Fin 8) (r k : Fin 1024) : (held m c (pt i 3).val (pt i 3).isLt).1 (ix2 r k) = (accAfter x g wg wu wd i r k 3 : EReal)
    ∧ (held m c (pt i 3).val (pt i 3).isLt).2 (ix2 r k) = (Nb x g i r k : EReal) :=
  later H i 3 2 rfl (fun r k => (held2 H i r k).1) (fun r k => (held2 H i r k).2) r k

/-- After every point of the block its normalised rows are held. -/
theorem norm_held (i : Fin 8) (s : Fin 4) (r k : Fin 1024) : (held m c (pt i s).val (pt i s).isLt).2 (ix2 r k) = (Nb x g i r k : EReal) := by
  match s with
  | ⟨0, _⟩ => exact norm0 H i r k
  | ⟨1, _⟩ => exact (held1 H i r k).2
  | ⟨2, _⟩ => exact (held2 H i r k).2
  | ⟨3, _⟩ => exact (held3 H i r k).2
theorem norm3 (i : Fin 8) (r k : Fin 1024) : (held m c (pt i 3).val (pt i 3).isLt).2 (ix2 r k) = (norm x g (row i r) k : EReal) :=
  (held3 H i r k).2.trans (congrArg _ (Nb_eq i r k))

/-- Before a later point of a block of rows its normalised rows are held. -/
theorem prior_norm (i : Fin 8) (s : Fin 4) (h : s.val ≠ 0) (r k : Fin 1024) : (prior m c (pt i s)).2 (ix2 r k) = (Nb x g i r k : EReal) := by
  obtain ⟨s', h'⟩ : ∃ s' : Fin 4, s.val = s'.val + 1 := ⟨⟨s.val - 1, by have := s.isLt; omega⟩, by show s.val = s.val - 1 + 1; omega⟩
  rw [prior_eq i s s' h']
  exact norm_held H i s' r k

/-- After the last point of a block its rows are finished. -/
theorem rows3 (i : Fin 8) (r k : Fin 1024) :
    (held m c (pt i 3).val (pt i 3).isLt).1 (ix2 r k)
      = ((x (row i r) k + 1 / 2 * ∑ J, gated x g wg wu (row i r) J * wd J k : ℝ) : EReal) := by
  refine (held3 H i r k).1.trans (congrArg _ ?_)
  show x (row i r) k + 1 / 2 * part x g wg wu wd 0 (row i r) k + 1 / 2 * part x g wg wu wd 1 (row i r) k
      + 1 / 2 * part x g wg wu wd 2 (row i r) k + 1 / 2 * part x g wg wu wd 3 (row i r) k = _
  rw [← part_sum (x := x) (g := g) (wg := wg) (wu := wu) (wd := wd) (row i r) k]
  ring

/-- The three shards a point writes. -/
theorem shards_at (i : Fin 8) (s : Fin 4) : shards m c (pt i s)
    = (midOf (Nb x g i) (fun j k => wg k (hidden s j)) (fun j k => wu k (hidden s j)),
      pOf (Nb x g i) (fun j k => wg k (hidden s j)) (fun j k => wu k (hidden s j)),
      qOf (Nb x g i) (fun j k => wg k (hidden s j))) := by
  by_cases hb : Begins (grid0.coords (pt i s))
  · exact shards_of_first (blocks H i s) hb
  · have h : s.val ≠ 0 := fun e => hb ((begins_iff _).mpr (by show (4 * i.val + s.val) % 4 = 0; omega))
    exact shards_of_next (blocks H i s) hb (prior_norm H i s h)

theorem mid_at (i : Fin 8) (s : Fin 4) (r : Fin 1024) (j : Fin 704) :
    (shards m c (pt i s)).1 (ix3 0 r j) = (gated x g wg wu (row i r) (hidden s j) : EReal) := by
  rw [shards_at H i s]
  exact congrArg (fun q : ℝ => (q : EReal)) (gatedOn_eq i s r j)
theorem p_at (i : Fin 8) (s : Fin 4) (r : Fin 1024) (j : Fin 704) :
    (shards m c (pt i s)).2.1 (ix3 0 r j) = (gateFactor (proj x g wg (row i r) (hidden s j)) (proj x g wu (row i r) (hidden s j)) : EReal) := by
  rw [shards_at H i s]
  exact congrArg (fun q : ℝ => (q : EReal)) (congrArg₂ gateFactor (onto_eq wg i s r j) (onto_eq wu i s r j))
theorem q_at (i : Fin 8) (s : Fin 4) (r : Fin 1024) (j : Fin 704) :
    (shards m c (pt i s)).2.2 (ix3 0 r j) = (upFactor (proj x g wg (row i r) (hidden s j)) : EReal) := by
  rw [shards_at H i s]
  exact congrArg (fun q : ℝ => (q : EReal)) (congrArg upFactor (onto_eq wg i s r j))

/-! ## The output arrays -/

omit H

/-! What is written back at a point. -/

theorem written5 (t : Fin cfg0.N) : (dats m 0 c).flushed 5 t = (cfg0.win 5).cut (grid0.coords t) ((held m c t.val t.isLt).1) := by
  show (cfg0.win 5).cut (grid0.coords t) ((dats m 0 c).after 5 t) = _
  rw [after_5]
theorem written6 (t : Fin cfg0.N) : (dats m 0 c).flushed 6 t = (cfg0.win 6).cut (grid0.coords t) ((held m c t.val t.isLt).2) := by
  show (cfg0.win 6).cut (grid0.coords t) ((dats m 0 c).after 6 t) = _
  rw [after_6]
theorem written7 (t : Fin cfg0.N) : (dats m 0 c).flushed 7 t = (cfg0.win 7).cut (grid0.coords t) ((shards m c t).1) := by
  show (cfg0.win 7).cut (grid0.coords t) ((dats m 0 c).after 7 t) = _
  rw [after_7]
theorem written8 (t : Fin cfg0.N) : (dats m 0 c).flushed 8 t = (cfg0.win 8).cut (grid0.coords t) ((shards m c t).2.1) := by
  show (cfg0.win 8).cut (grid0.coords t) ((dats m 0 c).after 8 t) = _
  rw [after_8]
theorem written9 (t : Fin cfg0.N) : (dats m 0 c).flushed 9 t = (cfg0.win 9).cut (grid0.coords t) ((shards m c t).2.2) := by
  show (cfg0.win 9).cut (grid0.coords t) ((dats m 0 c).after 9 t) = _
  rw [after_9]

abbrev G5 (x : Fin 8192 → Fin 1024 → ℝ) (g : Fin 1024 → ℝ) (wg wu : Fin 1024 → Fin 2816 → ℝ) (wd : Fin 2816 → Fin 1024 → ℝ) :
    S8192x1024.Idx → EReal := fun i => ((x (i 0) (i 1) + 1 / 2 * ∑ J, gated x g wg wu (i 0) J * wd J (i 1) : ℝ) : EReal)
abbrev G6 (x : Fin 8192 → Fin 1024 → ℝ) (g : Fin 1024 → ℝ) : S8192x1024.Idx → EReal := fun i => (norm x g (i 0) (i 1) : EReal)
abbrev G7 (x : Fin 8192 → Fin 1024 → ℝ) (g : Fin 1024 → ℝ) (wg wu : Fin 1024 → Fin 2816 → ℝ) : S4x8192x704.Idx → EReal :=
  fun i => (gated x g wg wu (i 1) (hidden (i 0) (i 2)) : EReal)
abbrev G8 (x : Fin 8192 → Fin 1024 → ℝ) (g : Fin 1024 → ℝ) (wg wu : Fin 1024 → Fin 2816 → ℝ) : S4x8192x704.Idx → EReal :=
  fun i => (gateFactor (proj x g wg (i 1) (hidden (i 0) (i 2))) (proj x g wu (i 1) (hidden (i 0) (i 2))) : EReal)
abbrev G9 (x : Fin 8192 → Fin 1024 → ℝ) (g : Fin 1024 → ℝ) (wg : Fin 1024 → Fin 2816 → ℝ) : S4x8192x704.Idx → EReal :=
  fun i => (upFactor (proj x g wg (i 1) (hidden (i 0) (i 2))) : EReal)

include H

/-- The rows after the feed-forward. -/
theorem final5 : (dats m 0 c).arrAt 5 cfg0.N = G5 x g wg wu wd := by
  refine (dats m 0 c).arrAt_eq_of_cover 5 (G5 x g wg wu wd) (fun t ht => ?_) fun i => ?_
  · obtain ⟨i, s, rfl⟩ := exists_pt t
    obtain rfl : s = 3 := Fin.ext (by have h : (4 * i.val + s.val) % 4 = 3 := (flush0_5 _).mp ht; have := s.isLt; show s.val = 3; omega)
    rw [written5]
    funext y
    obtain ⟨r, k, rfl⟩ : ∃ (r k : Fin 1024), y = ix2 r k := ⟨y 0, y 1, eq_ix2 y⟩
    exact (rows3 H i r k).trans (congrArg (G5 x g wg wu wd) (emb5 i 3 r k)).symm
  · obtain ⟨a, b, rfl⟩ : ∃ (a : Fin 8192) (b : Fin 1024), i = ix2 a b := ⟨i 0, i 1, eq_ix2 i⟩
    obtain ⟨i, r, rfl⟩ := exists_row a
    have h : ((cfg0.win 5).blk (pt i 3)).view.emb (ix2 r b) = ix2 (row i r) b := emb5 i 3 r b
    exact ⟨pt i 3, (flush0_5 _).mpr (by show (4 * i.val + 3) % 4 = 3; omega), h ▸ ((cfg0.win 5).blk (pt i 3)).view.emb_mem_set (ix2 r b)⟩

/-- The normalised rows. -/
theorem final6 : (dats m 0 c).arrAt 6 cfg0.N = G6 x g := by
  refine (dats m 0 c).arrAt_eq_of_cover 6 (G6 x g) (fun t ht => ?_) fun i => ?_
  · obtain ⟨i, s, rfl⟩ := exists_pt t
    obtain rfl : s = 3 := Fin.ext (by have h : (4 * i.val + s.val) % 4 = 3 := (flush0_6 _).mp ht; have := s.isLt; show s.val = 3; omega)
    rw [written6]
    funext y
    obtain ⟨r, k, rfl⟩ : ∃ (r k : Fin 1024), y = ix2 r k := ⟨y 0, y 1, eq_ix2 y⟩
    exact (norm3 H i r k).trans (congrArg (G6 x g) (emb6 i 3 r k)).symm
  · obtain ⟨a, b, rfl⟩ : ∃ (a : Fin 8192) (b : Fin 1024), i = ix2 a b := ⟨i 0, i 1, eq_ix2 i⟩
    obtain ⟨i, r, rfl⟩ := exists_row a
    have h : ((cfg0.win 6).blk (pt i 3)).view.emb (ix2 r b) = ix2 (row i r) b := emb6 i 3 r b
    exact ⟨pt i 3, (flush0_6 _).mpr (by show (4 * i.val + 3) % 4 = 3; omega), h ▸ ((cfg0.win 6).blk (pt i 3)).view.emb_mem_set (ix2 r b)⟩

/-- The gated features. -/
theorem final7 : (dats m 0 c).arrAt 7 cfg0.N = G7 x g wg wu := by
  refine (dats m 0 c).arrAt_eq_of_cover 7 (G7 x g wg wu) (fun t ht => ?_) fun i => ?_
  · obtain ⟨i, s, rfl⟩ := exists_pt t
    rw [written7]
    funext y
    obtain ⟨u, r, k, rfl⟩ : ∃ (u : Fin 1) (r : Fin 1024) (k : Fin 704), y = ix3 u r k := ⟨y 0, y 1, y 2, eq_ix3 y⟩
    obtain rfl : u = 0 := Subsingleton.elim _ _
    exact (mid_at H i s r k).trans (congrArg (G7 x g wg wu) (emb7 i s r k)).symm
  · obtain ⟨s, a, b, rfl⟩ : ∃ (s : Fin 4) (a : Fin 8192) (b : Fin 704), i = ix3 s a b := ⟨i 0, i 1, i 2, eq_ix3 i⟩
    obtain ⟨i, r, rfl⟩ := exists_row a
    have h : ((cfg0.win 7).blk (pt i s)).view.emb (ix3 0 r b) = ix3 s (row i r) b := emb7 i s r b
    exact ⟨pt i s, flush0_7 _, h ▸ ((cfg0.win 7).blk (pt i s)).view.emb_mem_set (ix3 0 r b)⟩

/-- Their derivative along the gate's projection. -/
theorem final8 : (dats m 0 c).arrAt 8 cfg0.N = G8 x g wg wu := by
  refine (dats m 0 c).arrAt_eq_of_cover 8 (G8 x g wg wu) (fun t ht => ?_) fun i => ?_
  · obtain ⟨i, s, rfl⟩ := exists_pt t
    rw [written8]
    funext y
    obtain ⟨u, r, k, rfl⟩ : ∃ (u : Fin 1) (r : Fin 1024) (k : Fin 704), y = ix3 u r k := ⟨y 0, y 1, y 2, eq_ix3 y⟩
    obtain rfl : u = 0 := Subsingleton.elim _ _
    exact (p_at H i s r k).trans (congrArg (G8 x g wg wu) (emb8 i s r k)).symm
  · obtain ⟨s, a, b, rfl⟩ : ∃ (s : Fin 4) (a : Fin 8192) (b : Fin 704), i = ix3 s a b := ⟨i 0, i 1, i 2, eq_ix3 i⟩
    obtain ⟨i, r, rfl⟩ := exists_row a
    have h : ((cfg0.win 8).blk (pt i s)).view.emb (ix3 0 r b) = ix3 s (row i r) b := emb8 i s r b
    exact ⟨pt i s, flush0_8 _, h ▸ ((cfg0.win 8).blk (pt i s)).view.emb_mem_set (ix3 0 r b)⟩

/-- Their derivative along the other projection. -/
theorem final9 : (dats m 0 c).arrAt 9 cfg0.N = G9 x g wg := by
  refine (dats m 0 c).arrAt_eq_of_cover 9 (G9 x g wg) (fun t ht => ?_) fun i => ?_
  · obtain ⟨i, s, rfl⟩ := exists_pt t
    rw [written9]
    funext y
    obtain ⟨u, r, k, rfl⟩ : ∃ (u : Fin 1) (r : Fin 1024) (k : Fin 704), y = ix3 u r k := ⟨y 0, y 1, y 2, eq_ix3 y⟩
    obtain rfl : u = 0 := Subsingleton.elim _ _
    exact (q_at H i s r k).trans (congrArg (G9 x g wg) (emb9 i s r k)).symm
  · obtain ⟨s, a, b, rfl⟩ : ∃ (s : Fin 4) (a : Fin 8192) (b : Fin 704), i = ix3 s a b := ⟨i 0, i 1, i 2, eq_ix3 i⟩
    obtain ⟨i, r, rfl⟩ := exists_row a
    have h : ((cfg0.win 9).blk (pt i s)).view.emb (ix3 0 r b) = ix3 s (row i r) b := emb9 i s r b
    exact ⟨pt i s, flush0_9 _, h ▸ ((cfg0.win 9).blk (pt i s)).view.emb_mem_set (ix3 0 r b)⟩

end Finite

end Cert.Kernel11Ideal.FfnFwd

end
-- ==== Proof.FfnFwdClaims.lean ====
/-
  The claims of the forward feed-forward: the frames, and the equality of the kernel's five results with the reference's on
  finite arguments.
-/
module

public import proofs.«01_k».proof.Proof.FfnClaims
public import proofs.«01_k».proof.Proof.FfnFwdArrays
public import proofs.«01_k».proof.Proof.FfnFwdWordsFrame
public import proofs.«01_k».proof.Proof.Gen.Pre_finite11

@[expose] public section

noncomputable section

open Idealize.ShloMosaic hiding ix1 ix2 ix3 eq_ix2 eq_ix3
open Idealize.ShloMosaic.TcCoe Idealize.SL.Sem Idealize.ShloMosaic.ValueIdx
open Idealize.ShloMosaic.Pipeline (Dat)
open scoped BigOperators

namespace Cert.FfnFwdClaims

open Cert.Kernel11Ideal.FfnFwd Cert.Reference11Ideal.FfnFwd Cert.FfnSpec

section Runs

open Cert.Kernel11Ideal Cert.Kernel11Ideal.Gen

variable (m : (ℓ : Loc nD τ sig) → Buf (Elt Ideal) ℓ) (ρ : Dev nD → PrngReg)

/-- The kernel's run on finite arguments: the five results are the real ones, and the arguments hold what they held. -/
theorem kernel_run (x : Dev nD → Fin 8192 → Fin 1024 → ℝ) (g : Dev nD → Fin 1024 → ℝ) (wg wu : Dev nD → Fin 1024 → Fin 2816 → ℝ)
    (wd : Dev nD → Fin 2816 → Fin 1024 → ℝ)
    (H : ∀ c, Reads (a0 m c) (a1 m c) (a2 m c) (a3 m c) (a4 m c) (x c) (g c) (wg c) (wu c) (wd c)) :
    θ_run (defs (F := Ideal)) (onTc (τ := τ) (main (F := Ideal))) ⟨m, fun _ => 0, ρ⟩ fun r => ∀ c : Dev nD,
      r.2.mem ((c.tc : Thread nD τ).loc main_v8_0) = G5 (x c) (g c) (wg c) (wu c) (wd c)
      ∧ r.2.mem ((c.tc : Thread nD τ).loc main_v8_1) = G6 (x c) (g c)
      ∧ r.2.mem ((c.tc : Thread nD τ).loc main_v8_2) = G7 (x c) (g c) (wg c) (wu c)
      ∧ r.2.mem ((c.tc : Thread nD τ).loc main_v8_3) = G8 (x c) (g c) (wg c) (wu c)
      ∧ r.2.mem ((c.tc : Thread nD τ).loc main_v8_4) = G9 (x c) (g c) (wg c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).1 5).trans (final5 (H c)), ((h c).1 6).trans (final6 (H c)), ((h c).1 7).trans (final7 (H c)),
      ((h c).1 8).trans (final8 (H c)), ((h c).1 9).trans (final9 (H c)),
      ((h c).1 0).trans (((dats m 0 c).arrAt_in 0 rfl _).trans ((arrays_eq m c 0).trans (V_main_arg0 m c))),
      ((h c).1 1).trans (((dats m 0 c).arrAt_in 1 rfl _).trans ((arrays_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Runs

section Arrays

open Cert.Reference11Ideal Cert.Reference11Ideal.Read

variable {x0 : Vec Ideal S8192x1024 .f32} {x1 : Vec Ideal S1x1024 .f32} {x2 x3 : Vec Ideal S1024x2816 .f32}
  {x4 : Vec Ideal S2816x1024 .f32} {x : Fin 8192 → Fin 1024 → ℝ} {g : Fin 1024 → ℝ} {wg wu : Fin 1024 → Fin 2816 → ℝ}
  {wd : Fin 2816 → Fin 1024 → ℝ} (H : Reads x0 x1 x2 x3 x4 x g wg wu wd)

include H

theorem reference5 : val_main_v32 (F := Ideal) x0 x1 x2 x3 x4 = G5 x g wg wu wd := by
  funext i
  obtain ⟨a, b, rfl⟩ : ∃ (a : Fin 8192) (b : Fin 1024), i = ix2 a b := ⟨i 0, i 1, eq_ix2 i⟩
  exact result_at H a b
theorem reference6 : val_main_v33 (F := Ideal) x0 x1 = G6 x g := by
  funext i
  obtain ⟨a, b, rfl⟩ : ∃ (a : Fin 8192) (b : Fin 1024), i = ix2 a b := ⟨i 0, i 1, eq_ix2 i⟩
  exact norm_at H a b
theorem reference7 : val_main_v22 (F := Ideal) x0 x1 x2 x3 = G7 x g wg wu := by
  funext i
  obtain ⟨s, a, b, rfl⟩ : ∃ (s : Fin 4) (a : Fin 8192) (b : Fin 704), i = ix3 s a b := ⟨i 0, i 1, i 2, eq_ix3 i⟩
  exact gatedShard_at H s a b
theorem reference8 : val_main_v25 (F := Ideal) x0 x1 x2 x3 = G8 x g wg wu := by
  funext i
  obtain ⟨s, a, b, rfl⟩ : ∃ (s : Fin 4) (a : Fin 8192) (b : Fin 704), i = ix3 s a b := ⟨i 0, i 1, i 2, eq_ix3 i⟩
  exact gateSlopeShard_at H s a b
theorem reference9 : val_main_v28 (F := Ideal) x0 x1 x2 = G9 x g wg := by
  funext i
  obtain ⟨s, a, b, rfl⟩ : ∃ (s : Fin 4) (a : Fin 8192) (b : Fin 704), i = ix3 s a b := ⟨i 0, i 1, i 2, eq_ix3 i⟩
  exact upSlopeShard_at H s a b

end Arrays

/-! ## The precondition -/

/-- The precondition gives finite arguments: each holds the reals it is read as. -/
theorem reads_of (x0 : Vec Ideal Cert.Reference11Ideal.S8192x1024 .f32) (x1 : Vec Ideal Cert.Reference11Ideal.S1x1024 .f32)
    (x2 x3 : Vec Ideal Cert.Reference11Ideal.S1024x2816 .f32) (x4 : Vec Ideal Cert.Reference11Ideal.S2816x1024 .f32)
    (h : (Cert.Pre_finite11.fn (F := Ideal) x0 x1 x2 x3 x4).1 = (fun _ => 1#1)
      ∧ (Cert.Pre_finite11.fn (F := Ideal) x0 x1 x2 x3 x4).2.1 = (fun _ => 1#1)
      ∧ (Cert.Pre_finite11.fn (F := Ideal) x0 x1 x2 x3 x4).2.2.1 = (fun _ => 1#1)
      ∧ (Cert.Pre_finite11.fn (F := Ideal) x0 x1 x2 x3 x4).2.2.2.1 = (fun _ => 1#1)
      ∧ (Cert.Pre_finite11.fn (F := Ideal) x0 x1 x2 x3 x4).2.2.2.2 = (fun _ => 1#1)) :
    Reads x0 x1 x2 x3 x4 (fun r c => (x0 (ix2 r c)).toReal) (fun c => (x1 (ix2 0 c)).toReal)
      (fun c j => (x2 (ix2 c j)).toReal) (fun c j => (x3 (ix2 c j)).toReal) (fun j c => (x4 (ix2 j c)).toReal) := by
  obtain ⟨h0, h1, h2, h3, h4⟩ := h
  exact ⟨fun r c => Cert.FfnClaims.real_of_lt x0 _ (fun _ => Cert.FfnClaims.ofBits_top) h0 (ix2 r c), fun c => Cert.FfnClaims.real_of_lt x1 _ (fun _ => Cert.FfnClaims.ofBits_top) h1 (ix2 0 c),
    fun c j => Cert.FfnClaims.real_of_lt x2 _ (fun _ => Cert.FfnClaims.ofBits_top) h2 (ix2 c j), fun c j => Cert.FfnClaims.real_of_lt x3 _ (fun _ => Cert.FfnClaims.ofBits_top) h3 (ix2 c j),
    fun j c => Cert.FfnClaims.real_of_lt x4 _ (fun _ => Cert.FfnClaims.ofBits_top) h4 (ix2 j c)⟩

/-! ## The claims -/

theorem frame_kernel : Cert.quiescent_Kernel11 := fun m ρ _ => Cert.Kernel11.FfnFwd.frame m ρ
theorem frame_ideal : Cert.quiescent_Kernel11Ideal := fun m ρ _ => Cert.Kernel11Ideal.FfnFwd.frame m ρ
theorem frame_ideal_pre : Cert.quiescent_Kernel11Ideal_pre_finite11 := fun m ρ _ => Cert.Kernel11Ideal.FfnFwd.frame m ρ
/-- The reference's run read at the arguments; it declares no semaphore. -/
theorem frame_reference : Cert.quiescent_Reference11Ideal := fun m ρ _ =>
  (θ_run Cert.Reference11Ideal.defs _ _).mono (fun r h => ⟨fun c => (h c).2.2.2.2.2, sem_eq_zero_of_no_sems (by decide) r.2⟩)
    (Cert.Reference11Ideal.Value.run (F := Ideal) m ρ)
theorem frame_reference_pre : Cert.quiescent_Reference11Ideal_pre_finite11 := fun m ρ _ => frame_reference m ρ trivial

/-- The kernel's five results and the reference's are equal as extended reals, on every memory of finite arguments. -/
theorem algebraic : Cert.algebraic_Kernel11Ideal_Reference11Ideal_pre_finite11 := fun m g m' g' hpre hm =>
  have H := fun c => reads_of (a0 m c) (a1 m c) (a2 m c) (a3 m c) (a4 m c) (hpre c)
  ⟨_, _, _, _, _, kernel_run m g _ _ _ _ _ H,
    (θ_run Cert.Reference11Ideal.defs _ _).mono (fun r h c => by
      obtain ⟨h0, h1, h2, h3, h4, hargs⟩ := h c
      obtain ⟨e0, e1, e2, e3, e4⟩ := hm c
      refine ⟨h0.trans ((Cert.Reference11Ideal.Read.val_main_v32_eq _ _ _ _ _).trans ?_), h1.trans ((Cert.Reference11Ideal.Read.val_main_v33_eq _ _).trans ?_),
        h2.trans ((Cert.Reference11Ideal.Read.val_main_v22_eq _ _ _ _).trans ?_), h3.trans ((Cert.Reference11Ideal.Read.val_main_v25_eq m' c).trans ?_),
        h4.trans ((Cert.Reference11Ideal.Read.val_main_v28_eq _ _ _).trans ?_), hargs⟩
      · rw [e0, e1, e2, e3, e4]; exact reference5 (H c)
      · rw [e0, e1]; exact reference6 (H c)
      · rw [e0, e1, e2, e3]; exact reference7 (H c)
      · rw [e0, e1, e2, e3]; exact reference8 (H c)
      · rw [e0, e1, e2]; exact reference9 (H c))
      (Cert.Reference11Ideal.Value.run (F := Ideal) m' g')⟩

end Cert.FfnFwdClaims

end
-- ==== Proof.AdamFrame.lean ====
/-
  The run of the optimiser's kernel on the six small weights, at any values of the floating-point operations.

  The region has no grid: its 42 windows are whole arrays, 24 read and 18 written. The body's triple says what each of the 18
  holds afterwards, as a function of the weight, the gradient and the moments it is computed from; the run leaves the arguments
  as they were and every array at what the proof data says.
-/
module

public import proofs.«01_k».proof.Proof.Gen.Kernel12Ideal.Launch
public import proofs.«01_k».proof.Proof.Gen.Kernel12Ideal.Skeleton
public import proofs.«01_k».proof.Proof.Gen.Kernel12Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel12Ideal.Adam

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The host's operations before the region -/

/-- The buffers as the region finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the eight the host writes is found as launched. -/
theorem V_arg (c : Dev nD) (b : Ref sig .tc) (h0 : b ≠ main_v0 := by decide) (h1 : b ≠ main_v1 := by decide)
    (h2 : b ≠ main_v2 := by decide) (h3 : b ≠ main_v3 := by decide) (h4 : b ≠ main_v4 := by decide) (h5 : b ≠ main_v5 := by decide)
    (h6 : b ≠ main_v6 := by decide) (h7 : b ≠ main_v7 := by decide) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by assumption)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in each output window's buffer -/

abbrev r0_0 : Rect S1x1024 := Rect.unit (s := S1x1024) ![0, 0] S1x1024.size inb_S1x1024_S1x1024_0_0
abbrev r0_1 : Rect S8x465 := Rect.unit (s := S8x465) ![0, 0] S8x465.size inb_S8x465_S8x465_0_0
abbrev r0_2 : Rect S1x8 := Rect.unit (s := S1x8) ![0, 0] S1x8.size inb_S1x8_S1x8_0_0

theorem cover0 (p : Vec F S1x1024 .f32) (y : S1x1024.Idx) : ∃ pc ∈ ([⟨r0_0, p⟩] : List (View.Piece (Elt F) S1x1024 .f32)), y ∈ pc.1.set :=
  View.cover_of_tiled [⟨r0_0, p⟩] S1x1024.size (by rfl) y
theorem cover1 (p : Vec F S8x465 .f32) (y : S8x465.Idx) : ∃ pc ∈ ([⟨r0_1, p⟩] : List (View.Piece (Elt F) S8x465 .f32)), y ∈ pc.1.set :=
  View.cover_of_tiled [⟨r0_1, p⟩] S8x465.size (by rfl) y
theorem cover2 (p : Vec F S1x8 .f32) (y : S1x8.Idx) : ∃ pc ∈ ([⟨r0_2, p⟩] : List (View.Piece (Elt F) S1x8 .f32)), y ∈ pc.1.set :=
  View.cover_of_tiled [⟨r0_2, p⟩] S1x8.size (by rfl) y
def change0 (w g m v : Vec F S1x1024 .f32) : Vec F S1x1024 .f32 := View.canon [⟨r0_0, k0_pay6 (View.ld w r0_0) (View.ld g r0_0) (View.ld m r0_0) (View.ld v r0_0)⟩]
def change1 (w g m v : Vec F S1x1024 .f32) : Vec F S1x1024 .f32 := View.canon [⟨r0_0, k0_pay9 (View.ld w r0_0) (View.ld g r0_0) (View.ld m r0_0) (View.ld v r0_0)⟩]
def change2 (w g m v : Vec F S8x465 .f32) : Vec F S8x465 .f32 := View.canon [⟨r0_1, k0_pay14 (k0_pay10 (View.ld w r0_1)) (View.ld g r0_1) (View.ld m r0_1) (View.ld v r0_1)⟩]
def change3 (w g m v : Vec F S1x8 .f32) : Vec F S1x8 .f32 := View.canon [⟨r0_2, k0_pay17 (View.ld w r0_2) (View.ld g r0_2) (View.ld m r0_2) (View.ld v r0_2)⟩]
def change4 (w g m v : Vec F S1x1024 .f32) : Vec F S1x1024 .f32 := View.canon [⟨r0_0, k0_pay20 (View.ld w r0_0) (View.ld g r0_0) (View.ld m r0_0) (View.ld v r0_0)⟩]
def change5 (w g m v : Vec F S1x1024 .f32) : Vec F S1x1024 .f32 := View.canon [⟨r0_0, k0_pay3 (k0_pay21 (View.ld w r0_0)) (k0_pay22 (View.ld g r0_0)) (View.ld m r0_0) (View.ld v r0_0)⟩]
def mean0 (g m : Vec F S1x1024 .f32) : Vec F S1x1024 .f32 := View.canon [⟨r0_0, k0_pay4 (View.ld g r0_0) (View.ld m r0_0)⟩]
def mean1 (g m : Vec F S1x1024 .f32) : Vec F S1x1024 .f32 := View.canon [⟨r0_0, k0_pay7 (View.ld g r0_0) (View.ld m r0_0)⟩]
def mean2 (g m : Vec F S8x465 .f32) : Vec F S8x465 .f32 := View.canon [⟨r0_1, k0_pay12 (View.ld g r0_1) (View.ld m r0_1)⟩]
def mean3 (g m : Vec F S1x8 .f32) : Vec F S1x8 .f32 := View.canon [⟨r0_2, k0_pay15 (View.ld g r0_2) (View.ld m r0_2)⟩]
def mean4 (g m : Vec F S1x1024 .f32) : Vec F S1x1024 .f32 := View.canon [⟨r0_0, k0_pay18 (View.ld g r0_0) (View.ld m r0_0)⟩]
def mean5 (g m : Vec F S1x1024 .f32) : Vec F S1x1024 .f32 := View.canon [⟨r0_0, k0_pay1 (k0_pay22 (View.ld g r0_0)) (View.ld m r0_0)⟩]
def square0 (g v : Vec F S1x1024 .f32) : Vec F S1x1024 .f32 := View.canon [⟨r0_0, k0_pay5 (View.ld g r0_0) (View.ld v r0_0)⟩]
def square1 (g v : Vec F S1x1024 .f32) : Vec F S1x1024 .f32 := View.canon [⟨r0_0, k0_pay8 (View.ld g r0_0) (View.ld v r0_0)⟩]
def square2 (g v : Vec F S8x465 .f32) : Vec F S8x465 .f32 := View.canon [⟨r0_1, k0_pay13 (View.ld g r0_1) (View.ld v r0_1)⟩]
def square3 (g v : Vec F S1x8 .f32) : Vec F S1x8 .f32 := View.canon [⟨r0_2, k0_pay16 (View.ld g r0_2) (View.ld v r0_2)⟩]
def square4 (g v : Vec F S1x1024 .f32) : Vec F S1x1024 .f32 := View.canon [⟨r0_0, k0_pay19 (View.ld g r0_0) (View.ld v r0_0)⟩]
def square5 (g v : Vec F S1x1024 .f32) : Vec F S1x1024 .f32 := View.canon [⟨r0_0, k0_pay2 (k0_pay22 (View.ld g r0_0)) (View.ld v r0_0)⟩]

/-! ## The body's triple -/

/-- A staging buffer of a core, owned whole. -/
abbrev own (c : Dev nD) {S : Shape} {e : EltTy} (b : Memref sig .tc .vmem S e) (x : S.Idx → Elt F e) :
    sProp (MT nD τ sig Unit (Elt F) ℕ (UR sig nD τ) ℕ) := owns (c : Thread nD τ) b fullShare x

set_option maxHeartbeats 1000000 in
theorem sound_kernel (c : Dev nD) (E : Set ℕ) (arg0 : Memref sig .tc .vmem S1x1024 .f32) (harg0 : arg0.IsWhole)
    (arg1 : Memref sig .tc .vmem S1x1024 .f32) (harg1 : arg1.IsWhole) (arg2 : Memref sig .tc .vmem S8x465 .f32) (harg2 : arg2.IsWhole)
    (arg3 : Memref sig .tc .vmem S1x8 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S8x465 .f32) (harg8 : arg8.IsWhole)
    (arg9 : Memref sig .tc .vmem S1x8 .f32) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S1x1024 .f32) (harg13 : arg13.IsWhole) (arg14 : Memref sig .tc .vmem S8x465 .f32) (harg14 : arg14.IsWhole)
    (arg15 : Memref sig .tc .vmem S1x8 .f32) (harg15 : arg15.IsWhole) (arg16 : Memref sig .tc .vmem S1x1024 .f32) (harg16 : arg16.IsWhole)
    (arg17 : Memref sig .tc .vmem S1x1024 .f32) (harg17 : arg17.IsWhole) (arg18 : Memref sig .tc .vmem S1x1024 .f32) (harg18 : arg18.IsWhole)
    (arg19 : Memref sig .tc .vmem S1x1024 .f32) (harg19 : arg19.IsWhole) (arg20 : Memref sig .tc .vmem S8x465 .f32) (harg20 : arg20.IsWhole)
    (arg21 : Memref sig .tc .vmem S1x8 .f32) (harg21 : arg21.IsWhole) (arg22 : Memref sig .tc .vmem S1x1024 .f32) (harg22 : arg22.IsWhole)
    (arg23 : Memref sig .tc .vmem S1x1024 .f32) (harg23 : arg23.IsWhole) (arg24 : Memref sig .tc .vmem S1x1024 .f32) (harg24 : arg24.IsWhole)
    (arg25 : Memref sig .tc .vmem S1x1024 .f32) (harg25 : arg25.IsWhole) (arg26 : Memref sig .tc .vmem S8x465 .f32) (harg26 : arg26.IsWhole)
    (arg27 : Memref sig .tc .vmem S1x8 .f32) (harg27 : arg27.IsWhole) (arg28 : Memref sig .tc .vmem S1x1024 .f32) (harg28 : arg28.IsWhole)
    (arg29 : Memref sig .tc .vmem S1x1024 .f32) (harg29 : arg29.IsWhole) (arg30 : Memref sig .tc .vmem S1x1024 .f32) (harg30 : arg30.IsWhole)
    (arg31 : Memref sig .tc .vmem S1x1024 .f32) (harg31 : arg31.IsWhole) (arg32 : Memref sig .tc .vmem S8x465 .f32) (harg32 : arg32.IsWhole)
    (arg33 : Memref sig .tc .vmem S1x8 .f32) (harg33 : arg33.IsWhole) (arg34 : Memref sig .tc .vmem S1x1024 .f32) (harg34 : arg34.IsWhole)
    (arg35 : Memref sig .tc .vmem S1x1024 .f32) (harg35 : arg35.IsWhole) (arg36 : Memref sig .tc .vmem S1x1024 .f32) (harg36 : arg36.IsWhole)
    (arg37 : Memref sig .tc .vmem S1x1024 .f32) (harg37 : arg37.IsWhole) (arg38 : Memref sig .tc .vmem S8x465 .f32) (harg38 : arg38.IsWhole)
    (arg39 : Memref sig .tc .vmem S1x8 .f32) (harg39 : arg39.IsWhole) (arg40 : Memref sig .tc .vmem S1x1024 .f32) (harg40 : arg40.IsWhole)
    (arg41 : Memref sig .tc .vmem S1x1024 .f32) (harg41 : arg41.IsWhole)
    (x0 x1 x4 x5 x6 x7 x10 x11 x12 x13 x16 x17 x18 x19 x22 x23 : Vec F S1x1024 .f32) (x2 x8 x14 x20 : Vec F S8x465 .f32) (x3 x9 x15 x21 : Vec F S1x8 .f32) (K : PUnit → sProp (MT nD τ sig Unit (Elt F) ℕ (UR sig nD τ) ℕ)) :
    iprop(own c arg0 x0 ∗ own c arg1 x1 ∗ own c arg2 x2 ∗ own c arg3 x3 ∗ own c arg4 x4 ∗ own c arg5 x5 ∗ own c arg6 x6 ∗ own c arg7 x7
      ∗ own c arg8 x8 ∗ own c arg9 x9 ∗ own c arg10 x10 ∗ own c arg11 x11 ∗ own c arg12 x12 ∗ own c arg13 x13 ∗ own c arg14 x14 ∗ own c arg15 x15
      ∗ own c arg16 x16 ∗ own c arg17 x17 ∗ own c arg18 x18 ∗ own c arg19 x19 ∗ own c arg20 x20 ∗ own c arg21 x21 ∗ own c arg22 x22 ∗ own c arg23 x23
      ∗ (∃ d, own c arg24 d) ∗ (∃ d, own c arg25 d) ∗ (∃ d, own c arg26 d) ∗ (∃ d, own c arg27 d) ∗ (∃ d, own c arg28 d) ∗ (∃ d, own c arg29 d)
      ∗ (∃ d, own c arg30 d) ∗ (∃ d, own c arg31 d) ∗ (∃ d, own c arg32 d) ∗ (∃ d, own c arg33 d) ∗ (∃ d, own c arg34 d) ∗ (∃ d, own c arg35 d)
      ∗ (∃ d, own c arg36 d) ∗ (∃ d, own c arg37 d) ∗ (∃ d, own c arg38 d) ∗ (∃ d, own c arg39 d) ∗ (∃ d, own c arg40 d) ∗ (∃ d, own c arg41 d)
        ∗ (iprop(own c arg0 x0 ∗ own c arg1 x1 ∗ own c arg2 x2 ∗ own c arg3 x3 ∗ own c arg4 x4 ∗ own c arg5 x5 ∗ own c arg6 x6 ∗ own c arg7 x7
        ∗ own c arg8 x8 ∗ own c arg9 x9 ∗ own c arg10 x10 ∗ own c arg11 x11 ∗ own c arg12 x12 ∗ own c arg13 x13 ∗ own c arg14 x14 ∗ own c arg15 x15
        ∗ own c arg16 x16 ∗ own c arg17 x17 ∗ own c arg18 x18 ∗ own c arg19 x19 ∗ own c arg20 x20 ∗ own c arg21 x21 ∗ own c arg22 x22
        ∗ own c arg23 x23 ∗ own c arg24 (change0 x0 x6 x12 x18) ∗ own c arg25 (change1 x1 x7 x13 x19) ∗ own c arg26 (change2 x2 x8 x14 x20)
        ∗ own c arg27 (change3 x3 x9 x15 x21) ∗ own c arg28 (change4 x4 x10 x16 x22) ∗ own c arg29 (change5 x5 x11 x17 x23)
        ∗ own c arg30 (mean0 x6 x12) ∗ own c arg31 (mean1 x7 x13) ∗ own c arg32 (mean2 x8 x14) ∗ own c arg33 (mean3 x9 x15)
        ∗ own c arg34 (mean4 x10 x16) ∗ own c arg35 (mean5 x11 x17) ∗ own c arg36 (square0 x6 x18) ∗ own c arg37 (square1 x7 x19)
        ∗ own c arg38 (square2 x8 x20) ∗ own c arg39 (square3 x9 x21) ∗ own c arg40 (square4 x10 x22) ∗ own c arg41 (square5 x11 x23)) -∗ K ⟨⟩))
      ⊢ wp frame (wpE (defs₀ (F := F)) Variants.none c none) E (cc0_adamw_small arg0 harg0 arg1 harg1 arg2 harg2 arg3 harg3 arg4 harg4
        arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 harg21 arg22 harg22 arg23 harg23 arg24 harg24 arg25 harg25 arg26 harg26
        arg27 harg27 arg28 harg28 arg29 harg29 arg30 harg30 arg31 harg31 arg32 harg32 arg33 harg33 arg34 harg34 arg35 harg35 arg36 harg36 arg37 harg37
        arg38 harg38 arg39 harg39 arg40 harg40 arg41 harg41) K := by
  simp only [cc0_adamw_small_eq_skeleton]; unfold cc0_adamw_small_skel
  simp only [k0_part1_eq_skeleton, k0_part2_eq_skeleton, k0_part3_eq_skeleton, k0_part4_eq_skeleton, k0_part5_eq_skeleton]
  simp only [own]; unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15,
    H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩,
    ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -,
    H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36,
    %f36, -, H36⟩, ⟨%d37, %f37, -, H37⟩, ⟨%d38, %f38, -, H38⟩, ⟨%d39, %f39, -, H39⟩, ⟨%d40, %f40, -, H40⟩, ⟨%d41, %f41, -, H41⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr; swap; · iexact H24
    ipureintro; refine (View.read_writes_eq_canon _ _ _ (cover0 _)).trans ?_; rfl
  isplitl [H25]
  · iexists _; isplitr; swap; · iexact H25
    ipureintro; refine (View.read_writes_eq_canon _ _ _ (cover0 _)).trans ?_; rfl
  isplitl [H26]
  · iexists _; isplitr; swap; · iexact H26
    ipureintro; refine (View.read_writes_eq_canon _ _ _ (cover1 _)).trans ?_; rfl
  isplitl [H27]
  · iexists _; isplitr; swap; · iexact H27
    ipureintro; refine (View.read_writes_eq_canon _ _ _ (cover2 _)).trans ?_; rfl
  isplitl [H28]
  · iexists _; isplitr; swap; · iexact H28
    ipureintro; refine (View.read_writes_eq_canon _ _ _ (cover0 _)).trans ?_; rfl
  isplitl [H29]
  · iexists _; isplitr; swap; · iexact H29
    ipureintro; refine (View.read_writes_eq_canon _ _ _ (cover0 _)).trans ?_; rfl
  isplitl [H30]
  · iexists _; isplitr; swap; · iexact H30
    ipureintro; refine (View.read_writes_eq_canon _ _ _ (cover0 _)).trans ?_; rfl
  isplitl [H31]
  · iexists _; isplitr; swap; · iexact H31
    ipureintro; refine (View.read_writes_eq_canon _ _ _ (cover0 _)).trans ?_; rfl
  isplitl [H32]
  · iexists _; isplitr; swap; · iexact H32
    ipureintro; refine (View.read_writes_eq_canon _ _ _ (cover1 _)).trans ?_; rfl
  isplitl [H33]
  · iexists _; isplitr; swap; · iexact H33
    ipureintro; refine (View.read_writes_eq_canon _ _ _ (cover2 _)).trans ?_; rfl
  isplitl [H34]
  · iexists _; isplitr; swap; · iexact H34
    ipureintro; refine (View.read_writes_eq_canon _ _ _ (cover0 _)).trans ?_; rfl
  isplitl [H35]
  · iexists _; isplitr; swap; · iexact H35
    ipureintro; refine (View.read_writes_eq_canon _ _ _ (cover0 _)).trans ?_; rfl
  isplitl [H36]
  · iexists _; isplitr; swap; · iexact H36
    ipureintro; refine (View.read_writes_eq_canon _ _ _ (cover0 _)).trans ?_; rfl
  isplitl [H37]
  · iexists _; isplitr; swap; · iexact H37
    ipureintro; refine (View.read_writes_eq_canon _ _ _ (cover0 _)).trans ?_; rfl
  isplitl [H38]
  · iexists _; isplitr; swap; · iexact H38
    ipureintro; refine (View.read_writes_eq_canon _ _ _ (cover1 _)).trans ?_; rfl
  isplitl [H39]
  · iexists _; isplitr; swap; · iexact H39
    ipureintro; refine (View.read_writes_eq_canon _ _ _ (cover2 _)).trans ?_; rfl
  isplitl [H40]
  · iexists _; isplitr; swap; · iexact H40
    ipureintro; refine (View.read_writes_eq_canon _ _ _ (cover0 _)).trans ?_; rfl
  iexists _; isplitr
  swap; · iexact H41
  ipureintro
  refine (View.read_writes_eq_canon _ _ _ (cover0 _)).trans ?_
  rfl

/-! ## The pipeline's proof data -/

/-- The arrays as the region finds them; after the body each input's buffer at its block and each output's at its value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => change0 (iblk m c 0 t) (iblk m c 6 t) (iblk m c 12 t) (iblk m c 18 t)
    | ⟨25, _⟩ => change1 (iblk m c 1 t) (iblk m c 7 t) (iblk m c 13 t) (iblk m c 19 t)
    | ⟨26, _⟩ => change2 (iblk m c 2 t) (iblk m c 8 t) (iblk m c 14 t) (iblk m c 20 t)
    | ⟨27, _⟩ => change3 (iblk m c 3 t) (iblk m c 9 t) (iblk m c 15 t) (iblk m c 21 t)
    | ⟨28, _⟩ => change4 (iblk m c 4 t) (iblk m c 10 t) (iblk m c 16 t) (iblk m c 22 t)
    | ⟨29, _⟩ => change5 (iblk m c 5 t) (iblk m c 11 t) (iblk m c 17 t) (iblk m c 23 t)
    | ⟨30, _⟩ => mean0 (iblk m c 6 t) (iblk m c 12 t)
    | ⟨31, _⟩ => mean1 (iblk m c 7 t) (iblk m c 13 t)
    | ⟨32, _⟩ => mean2 (iblk m c 8 t) (iblk m c 14 t)
    | ⟨33, _⟩ => mean3 (iblk m c 9 t) (iblk m c 15 t)
    | ⟨34, _⟩ => mean4 (iblk m c 10 t) (iblk m c 16 t)
    | ⟨35, _⟩ => mean5 (iblk m c 11 t) (iblk m c 17 t)
    | ⟨36, _⟩ => square0 (iblk m c 6 t) (iblk m c 18 t)
    | ⟨37, _⟩ => square1 (iblk m c 7 t) (iblk m c 19 t)
    | ⟨38, _⟩ => square2 (iblk m c 8 t) (iblk m c 20 t)
    | ⟨39, _⟩ => square3 (iblk m c 9 t) (iblk m c 21 t)
    | ⟨40, _⟩ => square4 (iblk m c 10 t) (iblk m c 22 t)
    | ⟨41, _⟩ => square5 (iblk m c 11 t) (iblk m c 23 t)
    | ⟨_ + 42, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = iblk m c 12 t := by dsimp only [dats]
theorem after13 : (dats m 0 c).after 13 t = iblk m c 13 t := by dsimp only [dats]
theorem after14 : (dats m 0 c).after 14 t = iblk m c 14 t := by dsimp only [dats]
theorem after15 : (dats m 0 c).after 15 t = iblk m c 15 t := by dsimp only [dats]
theorem after16 : (dats m 0 c).after 16 t = iblk m c 16 t := by dsimp only [dats]
theorem after17 : (dats m 0 c).after 17 t = iblk m c 17 t := by dsimp only [dats]
theorem after18 : (dats m 0 c).after 18 t = iblk m c 18 t := by dsimp only [dats]
theorem after19 : (dats m 0 c).after 19 t = iblk m c 19 t := by dsimp only [dats]
theorem after20 : (dats m 0 c).after 20 t = iblk m c 20 t := by dsimp only [dats]
theorem after21 : (dats m 0 c).after 21 t = iblk m c 21 t := by dsimp only [dats]
theorem after22 : (dats m 0 c).after 22 t = iblk m c 22 t := by dsimp only [dats]
theorem after23 : (dats m 0 c).after 23 t = iblk m c 23 t := by dsimp only [dats]
theorem after24 : (dats m 0 c).after 24 t = change0 (iblk m c 0 t) (iblk m c 6 t) (iblk m c 12 t) (iblk m c 18 t) := by dsimp only [dats]
theorem after25 : (dats m 0 c).after 25 t = change1 (iblk m c 1 t) (iblk m c 7 t) (iblk m c 13 t) (iblk m c 19 t) := by dsimp only [dats]
theorem after26 : (dats m 0 c).after 26 t = change2 (iblk m c 2 t) (iblk m c 8 t) (iblk m c 14 t) (iblk m c 20 t) := by dsimp only [dats]
theorem after27 : (dats m 0 c).after 27 t = change3 (iblk m c 3 t) (iblk m c 9 t) (iblk m c 15 t) (iblk m c 21 t) := by dsimp only [dats]
theorem after28 : (dats m 0 c).after 28 t = change4 (iblk m c 4 t) (iblk m c 10 t) (iblk m c 16 t) (iblk m c 22 t) := by dsimp only [dats]
theorem after29 : (dats m 0 c).after 29 t = change5 (iblk m c 5 t) (iblk m c 11 t) (iblk m c 17 t) (iblk m c 23 t) := by dsimp only [dats]
theorem after30 : (dats m 0 c).after 30 t = mean0 (iblk m c 6 t) (iblk m c 12 t) := by dsimp only [dats]
theorem after31 : (dats m 0 c).after 31 t = mean1 (iblk m c 7 t) (iblk m c 13 t) := by dsimp only [dats]
theorem after32 : (dats m 0 c).after 32 t = mean2 (iblk m c 8 t) (iblk m c 14 t) := by dsimp only [dats]
theorem after33 : (dats m 0 c).after 33 t = mean3 (iblk m c 9 t) (iblk m c 15 t) := by dsimp only [dats]
theorem after34 : (dats m 0 c).after 34 t = mean4 (iblk m c 10 t) (iblk m c 16 t) := by dsimp only [dats]
theorem after35 : (dats m 0 c).after 35 t = mean5 (iblk m c 11 t) (iblk m c 17 t) := by dsimp only [dats]
theorem after36 : (dats m 0 c).after 36 t = square0 (iblk m c 6 t) (iblk m c 18 t) := by dsimp only [dats]
theorem after37 : (dats m 0 c).after 37 t = square1 (iblk m c 7 t) (iblk m c 19 t) := by dsimp only [dats]
theorem after38 : (dats m 0 c).after 38 t = square2 (iblk m c 8 t) (iblk m c 20 t) := by dsimp only [dats]
theorem after39 : (dats m 0 c).after 39 t = square3 (iblk m c 9 t) (iblk m c 21 t) := by dsimp only [dats]
theorem after40 : (dats m 0 c).after 40 t = square4 (iblk m c 10 t) (iblk m c 22 t) := by dsimp only [dats]
theorem after41 : (dats m 0 c).after 41 t = square5 (iblk m c 11 t) (iblk m c 23 t) := by dsimp only [dats]

/-- An input window that the body leaves in place holds its block, fetched there or not. -/
theorem fetched_of (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = iblk m c w t) (d) :
    (dats m 0 c).before w t d = (dats m 0 c).fetched w t d :=
  (dats m 0 c).before_in_eq_fetched w hw hlive hclip (fun t => by rw [hkeep]; unfold Dat.blockOf iblk; rw [A_eq]; try rfl) t d
theorem before0 (d) : (dats m 0 c).before 0 t d = iblk m c 0 t :=
  (fetched_of m c t 0 rfl (fun _ => rfl) (fun _ _ _ => rfl) (after0 m c) d).trans (by unfold Dat.fetched Dat.blockOf iblk; rw [A_eq]; try rfl)
theorem before1 (d) : (dats m 0 c).before 1 t d = iblk m c 1 t :=
  (fetched_of m c t 1 rfl (fun _ => rfl) (fun _ _ _ => rfl) (after1 m c) d).trans (by unfold Dat.fetched Dat.blockOf iblk; rw [A_eq]; try rfl)
theorem before2 (d) : (dats m 0 c).before 2 t d = iblk m c 2 t :=
  (fetched_of m c t 2 rfl (fun _ => rfl) (fun _ _ _ => rfl) (after2 m c) d).trans (by unfold Dat.fetched Dat.blockOf iblk; rw [A_eq]; try rfl)
theorem before3 (d) : (dats m 0 c).before 3 t d = iblk m c 3 t :=
  (fetched_of m c t 3 rfl (fun _ => rfl) (fun _ _ _ => rfl) (after3 m c) d).trans (by unfold Dat.fetched Dat.blockOf iblk; rw [A_eq]; try rfl)
theorem before4 (d) : (dats m 0 c).before 4 t d = iblk m c 4 t :=
  (fetched_of m c t 4 rfl (fun _ => rfl) (fun _ _ _ => rfl) (after4 m c) d).trans (by unfold Dat.fetched Dat.blockOf iblk; rw [A_eq]; try rfl)
theorem before5 (d) : (dats m 0 c).before 5 t d = iblk m c 5 t :=
  (fetched_of m c t 5 rfl (fun _ => rfl) (fun _ _ _ => rfl) (after5 m c) d).trans (by unfold Dat.fetched Dat.blockOf iblk; rw [A_eq]; try rfl)
theorem before6 (d) : (dats m 0 c).before 6 t d = iblk m c 6 t :=
  (fetched_of m c t 6 rfl (fun _ => rfl) (fun _ _ _ => rfl) (after6 m c) d).trans (by unfold Dat.fetched Dat.blockOf iblk; rw [A_eq]; try rfl)
theorem before7 (d) : (dats m 0 c).before 7 t d = iblk m c 7 t :=
  (fetched_of m c t 7 rfl (fun _ => rfl) (fun _ _ _ => rfl) (after7 m c) d).trans (by unfold Dat.fetched Dat.blockOf iblk; rw [A_eq]; try rfl)
theorem before8 (d) : (dats m 0 c).before 8 t d = iblk m c 8 t :=
  (fetched_of m c t 8 rfl (fun _ => rfl) (fun _ _ _ => rfl) (after8 m c) d).trans (by unfold Dat.fetched Dat.blockOf iblk; rw [A_eq]; try rfl)
theorem before9 (d) : (dats m 0 c).before 9 t d = iblk m c 9 t :=
  (fetched_of m c t 9 rfl (fun _ => rfl) (fun _ _ _ => rfl) (after9 m c) d).trans (by unfold Dat.fetched Dat.blockOf iblk; rw [A_eq]; try rfl)
theorem before10 (d) : (dats m 0 c).before 10 t d = iblk m c 10 t :=
  (fetched_of m c t 10 rfl (fun _ => rfl) (fun _ _ _ => rfl) (after10 m c) d).trans (by unfold Dat.fetched Dat.blockOf iblk; rw [A_eq]; try rfl)
theorem before11 (d) : (dats m 0 c).before 11 t d = iblk m c 11 t :=
  (fetched_of m c t 11 rfl (fun _ => rfl) (fun _ _ _ => rfl) (after11 m c) d).trans (by unfold Dat.fetched Dat.blockOf iblk; rw [A_eq]; try rfl)
theorem before12 (d) : (dats m 0 c).before 12 t d = iblk m c 12 t :=
  (fetched_of m c t 12 rfl (fun _ => rfl) (fun _ _ _ => rfl) (after12 m c) d).trans (by unfold Dat.fetched Dat.blockOf iblk; rw [A_eq]; try rfl)
theorem before13 (d) : (dats m 0 c).before 13 t d = iblk m c 13 t :=
  (fetched_of m c t 13 rfl (fun _ => rfl) (fun _ _ _ => rfl) (after13 m c) d).trans (by unfold Dat.fetched Dat.blockOf iblk; rw [A_eq]; try rfl)
theorem before14 (d) : (dats m 0 c).before 14 t d = iblk m c 14 t :=
  (fetched_of m c t 14 rfl (fun _ => rfl) (fun _ _ _ => rfl) (after14 m c) d).trans (by unfold Dat.fetched Dat.blockOf iblk; rw [A_eq]; try rfl)
theorem before15 (d) : (dats m 0 c).before 15 t d = iblk m c 15 t :=
  (fetched_of m c t 15 rfl (fun _ => rfl) (fun _ _ _ => rfl) (after15 m c) d).trans (by unfold Dat.fetched Dat.blockOf iblk; rw [A_eq]; try rfl)
theorem before16 (d) : (dats m 0 c).before 16 t d = iblk m c 16 t :=
  (fetched_of m c t 16 rfl (fun _ => rfl) (fun _ _ _ => rfl) (after16 m c) d).trans (by unfold Dat.fetched Dat.blockOf iblk; rw [A_eq]; try rfl)
theorem before17 (d) : (dats m 0 c).before 17 t d = iblk m c 17 t :=
  (fetched_of m c t 17 rfl (fun _ => rfl) (fun _ _ _ => rfl) (after17 m c) d).trans (by unfold Dat.fetched Dat.blockOf iblk; rw [A_eq]; try rfl)
theorem before18 (d) : (dats m 0 c).before 18 t d = iblk m c 18 t :=
  (fetched_of m c t 18 rfl (fun _ => rfl) (fun _ _ _ => rfl) (after18 m c) d).trans (by unfold Dat.fetched Dat.blockOf iblk; rw [A_eq]; try rfl)
theorem before19 (d) : (dats m 0 c).before 19 t d = iblk m c 19 t :=
  (fetched_of m c t 19 rfl (fun _ => rfl) (fun _ _ _ => rfl) (after19 m c) d).trans (by unfold Dat.fetched Dat.blockOf iblk; rw [A_eq]; try rfl)
theorem before20 (d) : (dats m 0 c).before 20 t d = iblk m c 20 t :=
  (fetched_of m c t 20 rfl (fun _ => rfl) (fun _ _ _ => rfl) (after20 m c) d).trans (by unfold Dat.fetched Dat.blockOf iblk; rw [A_eq]; try rfl)
theorem before21 (d) : (dats m 0 c).before 21 t d = iblk m c 21 t :=
  (fetched_of m c t 21 rfl (fun _ => rfl) (fun _ _ _ => rfl) (after21 m c) d).trans (by unfold Dat.fetched Dat.blockOf iblk; rw [A_eq]; try rfl)
theorem before22 (d) : (dats m 0 c).before 22 t d = iblk m c 22 t :=
  (fetched_of m c t 22 rfl (fun _ => rfl) (fun _ _ _ => rfl) (after22 m c) d).trans (by unfold Dat.fetched Dat.blockOf iblk; rw [A_eq]; try rfl)
theorem before23 (d) : (dats m 0 c).before 23 t d = iblk m c 23 t :=
  (fetched_of m c t 23 rfl (fun _ => rfl) (fun _ _ _ => rfl) (after23 m c) d).trans (by unfold Dat.fetched Dat.blockOf iblk; rw [A_eq]; try rfl)

end

/-! ## The body obligation -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, own c (st0_0 t) ((dats m 0 c).before 0 t d)) ∗ (∃ d, own c (st0_1 t) ((dats m 0 c).before 1 t d))
    ∗ (∃ d, own c (st0_2 t) ((dats m 0 c).before 2 t d)) ∗ (∃ d, own c (st0_3 t) ((dats m 0 c).before 3 t d))
    ∗ (∃ d, own c (st0_4 t) ((dats m 0 c).before 4 t d)) ∗ (∃ d, own c (st0_5 t) ((dats m 0 c).before 5 t d))
    ∗ (∃ d, own c (st0_6 t) ((dats m 0 c).before 6 t d)) ∗ (∃ d, own c (st0_7 t) ((dats m 0 c).before 7 t d))
    ∗ (∃ d, own c (st0_8 t) ((dats m 0 c).before 8 t d)) ∗ (∃ d, own c (st0_9 t) ((dats m 0 c).before 9 t d))
    ∗ (∃ d, own c (st0_10 t) ((dats m 0 c).before 10 t d)) ∗ (∃ d, own c (st0_11 t) ((dats m 0 c).before 11 t d))
    ∗ (∃ d, own c (st0_12 t) ((dats m 0 c).before 12 t d)) ∗ (∃ d, own c (st0_13 t) ((dats m 0 c).before 13 t d))
    ∗ (∃ d, own c (st0_14 t) ((dats m 0 c).before 14 t d)) ∗ (∃ d, own c (st0_15 t) ((dats m 0 c).before 15 t d))
    ∗ (∃ d, own c (st0_16 t) ((dats m 0 c).before 16 t d)) ∗ (∃ d, own c (st0_17 t) ((dats m 0 c).before 17 t d))
    ∗ (∃ d, own c (st0_18 t) ((dats m 0 c).before 18 t d)) ∗ (∃ d, own c (st0_19 t) ((dats m 0 c).before 19 t d))
    ∗ (∃ d, own c (st0_20 t) ((dats m 0 c).before 20 t d)) ∗ (∃ d, own c (st0_21 t) ((dats m 0 c).before 21 t d))
    ∗ (∃ d, own c (st0_22 t) ((dats m 0 c).before 22 t d)) ∗ (∃ d, own c (st0_23 t) ((dats m 0 c).before 23 t d))
    ∗ (∃ d, own c (st0_24 t) ((dats m 0 c).before 24 t d)) ∗ (∃ d, own c (st0_25 t) ((dats m 0 c).before 25 t d))
    ∗ (∃ d, own c (st0_26 t) ((dats m 0 c).before 26 t d)) ∗ (∃ d, own c (st0_27 t) ((dats m 0 c).before 27 t d))
    ∗ (∃ d, own c (st0_28 t) ((dats m 0 c).before 28 t d)) ∗ (∃ d, own c (st0_29 t) ((dats m 0 c).before 29 t d))
    ∗ (∃ d, own c (st0_30 t) ((dats m 0 c).before 30 t d)) ∗ (∃ d, own c (st0_31 t) ((dats m 0 c).before 31 t d))
    ∗ (∃ d, own c (st0_32 t) ((dats m 0 c).before 32 t d)) ∗ (∃ d, own c (st0_33 t) ((dats m 0 c).before 33 t d))
    ∗ (∃ d, own c (st0_34 t) ((dats m 0 c).before 34 t d)) ∗ (∃ d, own c (st0_35 t) ((dats m 0 c).before 35 t d))
    ∗ (∃ d, own c (st0_36 t) ((dats m 0 c).before 36 t d)) ∗ (∃ d, own c (st0_37 t) ((dats m 0 c).before 37 t d))
    ∗ (∃ d, own c (st0_38 t) ((dats m 0 c).before 38 t d)) ∗ (∃ d, own c (st0_39 t) ((dats m 0 c).before 39 t d))
    ∗ (∃ d, own c (st0_40 t) ((dats m 0 c).before 40 t d)) ∗ (∃ d, own c (st0_41 t) ((dats m 0 c).before 41 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ own c (st0_0 t) ((dats m 0 c).after 0 t) ∗ own c (st0_1 t) ((dats m 0 c).after 1 t) ∗ own c (st0_2 t) ((dats m 0 c).after 2 t)
    ∗ own c (st0_3 t) ((dats m 0 c).after 3 t) ∗ own c (st0_4 t) ((dats m 0 c).after 4 t) ∗ own c (st0_5 t) ((dats m 0 c).after 5 t)
    ∗ own c (st0_6 t) ((dats m 0 c).after 6 t) ∗ own c (st0_7 t) ((dats m 0 c).after 7 t) ∗ own c (st0_8 t) ((dats m 0 c).after 8 t)
    ∗ own c (st0_9 t) ((dats m 0 c).after 9 t) ∗ own c (st0_10 t) ((dats m 0 c).after 10 t) ∗ own c (st0_11 t) ((dats m 0 c).after 11 t)
    ∗ own c (st0_12 t) ((dats m 0 c).after 12 t) ∗ own c (st0_13 t) ((dats m 0 c).after 13 t) ∗ own c (st0_14 t) ((dats m 0 c).after 14 t)
    ∗ own c (st0_15 t) ((dats m 0 c).after 15 t) ∗ own c (st0_16 t) ((dats m 0 c).after 16 t) ∗ own c (st0_17 t) ((dats m 0 c).after 17 t)
    ∗ own c (st0_18 t) ((dats m 0 c).after 18 t) ∗ own c (st0_19 t) ((dats m 0 c).after 19 t) ∗ own c (st0_20 t) ((dats m 0 c).after 20 t)
    ∗ own c (st0_21 t) ((dats m 0 c).after 21 t) ∗ own c (st0_22 t) ((dats m 0 c).after 22 t) ∗ own c (st0_23 t) ((dats m 0 c).after 23 t)
    ∗ own c (st0_24 t) ((dats m 0 c).after 24 t) ∗ own c (st0_25 t) ((dats m 0 c).after 25 t) ∗ own c (st0_26 t) ((dats m 0 c).after 26 t)
    ∗ own c (st0_27 t) ((dats m 0 c).after 27 t) ∗ own c (st0_28 t) ((dats m 0 c).after 28 t) ∗ own c (st0_29 t) ((dats m 0 c).after 29 t)
    ∗ own c (st0_30 t) ((dats m 0 c).after 30 t) ∗ own c (st0_31 t) ((dats m 0 c).after 31 t) ∗ own c (st0_32 t) ((dats m 0 c).after 32 t)
    ∗ own c (st0_33 t) ((dats m 0 c).after 33 t) ∗ own c (st0_34 t) ((dats m 0 c).after 34 t) ∗ own c (st0_35 t) ((dats m 0 c).after 35 t)
    ∗ own c (st0_36 t) ((dats m 0 c).after 36 t) ∗ own c (st0_37 t) ((dats m 0 c).after 37 t) ∗ own c (st0_38 t) ((dats m 0 c).after 38 t)
    ∗ own c (st0_39 t) ((dats m 0 c).after 39 t) ∗ own c (st0_40 t) ((dats m 0 c).after 40 t) ∗ own c (st0_41 t) ((dats m 0 c).after 41 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13,
    before14, before15, before16, before17, before18, before19, before20, before21, before22, before23]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16,
    after17, after18, after19, after20, after21, after22, after23, after24, after25, after26, after27, after28, after29, after30, after31, after32,
    after33, after34, after35, after36, after37, after38, after39, after40, after41]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11,
    H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22,
    H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33,
    H33⟩, ⟨%d34, H34⟩, ⟨%d35, H35⟩, ⟨%d36, H36⟩, ⟨%d37, H37⟩, ⟨%d38, H38⟩, ⟨%d39, H39⟩, ⟨%d40, H40⟩, ⟨%d41, H41⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      (iblk m c 0 t) (iblk m c 1 t) (iblk m c 4 t) (iblk m c 5 t) (iblk m c 6 t) (iblk m c 7 t) (iblk m c 10 t) (iblk m c 11 t) (iblk m c 12 t)
      (iblk m c 13 t) (iblk m c 16 t) (iblk m c 17 t) (iblk m c 18 t) (iblk m c 19 t) (iblk m c 22 t) (iblk m c 23 t) (iblk m c 2 t) (iblk m c 8 t)
      (iblk m c 14 t) (iblk m c 20 t) (iblk m c 3 t) (iblk m c 9 t) (iblk m c 15 t) (iblk m c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  iintro ⟨H0, H1, H2, H3, H4, H5, H6, H7, H8, H9, H10, H11, H12, H13, H14, H15, H16, H17, H18, H19, H20, H21, H22, H23, H24, H25, H26, H27, H28,
    H29, H30, H31, H32, H33, H34, H35, H36, H37, H38, H39, H40, H41⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  iexact H41

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run ends with every array of the pipeline at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- In a final state the arguments are as they were. -/
abbrev Kept (r : PUnit × MemSt nD τ sig (Elt F)) (c : Dev nD) : Prop :=
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)

set_option maxHeartbeats 2520000 in
theorem kept (r : PUnit × MemSt nD τ sig (Elt F)) (h : Pipeline.FramePost cfgs (dats m) 0 (V m) r) (c : Dev nD) : Kept m r c :=
  ⟨((h c).1 0).trans (((dats m 0 c).arrAt_in 0 rfl _).trans ((A_eq m c 0).trans (V_arg m c main_arg0))),
    ((h c).1 1).trans (((dats m 0 c).arrAt_in 1 rfl _).trans ((A_eq m c 1).trans (V_arg m c main_arg1))),
    ((h c).2 main_arg2 (Pipeline.mem_restRefs_of main_arg2 (by decide) (by decide))).trans (V_arg m c main_arg2),
    ((h c).1 3).trans (((dats m 0 c).arrAt_in 3 rfl _).trans ((A_eq m c 3).trans (V_arg m c main_arg3))),
    ((h c).1 4).trans (((dats m 0 c).arrAt_in 4 rfl _).trans ((A_eq m c 4).trans (V_arg m c main_arg4))),
    ((h c).2 main_arg5 (Pipeline.mem_restRefs_of main_arg5 (by decide) (by decide))).trans (V_arg m c main_arg5),
    ((h c).1 6).trans (((dats m 0 c).arrAt_in 6 rfl _).trans ((A_eq m c 6).trans (V_arg m c main_arg6))),
    ((h c).1 7).trans (((dats m 0 c).arrAt_in 7 rfl _).trans ((A_eq m c 7).trans (V_arg m c main_arg7))),
    ((h c).2 main_arg8 (Pipeline.mem_restRefs_of main_arg8 (by decide) (by decide))).trans (V_arg m c main_arg8),
    ((h c).1 9).trans (((dats m 0 c).arrAt_in 9 rfl _).trans ((A_eq m c 9).trans (V_arg m c main_arg9))),
    ((h c).1 10).trans (((dats m 0 c).arrAt_in 10 rfl _).trans ((A_eq m c 10).trans (V_arg m c main_arg10))),
    ((h c).2 main_arg11 (Pipeline.mem_restRefs_of main_arg11 (by decide) (by decide))).trans (V_arg m c main_arg11),
    ((h c).1 12).trans (((dats m 0 c).arrAt_in 12 rfl _).trans ((A_eq m c 12).trans (V_arg m c main_arg12))),
    ((h c).1 13).trans (((dats m 0 c).arrAt_in 13 rfl _).trans ((A_eq m c 13).trans (V_arg m c main_arg13))),
    ((h c).2 main_arg14 (Pipeline.mem_restRefs_of main_arg14 (by decide) (by decide))).trans (V_arg m c main_arg14),
    ((h c).1 15).trans (((dats m 0 c).arrAt_in 15 rfl _).trans ((A_eq m c 15).trans (V_arg m c main_arg15))),
    ((h c).1 16).trans (((dats m 0 c).arrAt_in 16 rfl _).trans ((A_eq m c 16).trans (V_arg m c main_arg16))),
    ((h c).2 main_arg17 (Pipeline.mem_restRefs_of main_arg17 (by decide) (by decide))).trans (V_arg m c main_arg17),
    ((h c).1 18).trans (((dats m 0 c).arrAt_in 18 rfl _).trans ((A_eq m c 18).trans (V_arg m c main_arg18))),
    ((h c).1 19).trans (((dats m 0 c).arrAt_in 19 rfl _).trans ((A_eq m c 19).trans (V_arg m c main_arg19))),
    ((h c).2 main_arg20 (Pipeline.mem_restRefs_of main_arg20 (by decide) (by decide))).trans (V_arg m c main_arg20),
    ((h c).1 21).trans (((dats m 0 c).arrAt_in 21 rfl _).trans ((A_eq m c 21).trans (V_arg m c main_arg21))),
    ((h c).1 22).trans (((dats m 0 c).arrAt_in 22 rfl _).trans ((A_eq m c 22).trans (V_arg m c main_arg22))),
    ((h c).2 main_arg23 (Pipeline.mem_restRefs_of main_arg23 (by decide) (by decide))).trans (V_arg m c main_arg23)⟩

/-- The frame: every run ends with the arguments as they were and every counter at zero. -/
theorem quiescent : θ_run (defs (F := F)) (onTc (τ := τ) (main (F := F))) ⟨m, fun _ => 0, ρ⟩ (fun r => (∀ c, Kept m r c) ∧ r.2.sem = fun _ => 0) :=
  (θ_run defs _ _).mono (fun r h => ⟨fun c => kept m r h.1 c, h.2⟩) (run_main_quiescent m ρ)

end Cert.Kernel12Ideal.Adam

end
-- ==== Proof.AdamSpec.lean ====
/-
  The AdamW step of one element, as a function of extended reals.

  The constants are the rational numbers that the programs' single-precision words stand for: the two decay rates and what they
  leave, the two bias corrections after ten steps, the term that keeps the quotient finite, the weight decay and the step size.
-/
module

public import Idealize.ShloMosaic.PureOps.Ideal

@[expose] public section

noncomputable section

namespace Cert.AdamSpec

open Idealize.ShloMosaic

variable {I : Type}

/-- The new first moment: `0.9 m + 0.1 g`. -/
def first (g m : I → EReal) (i : I) : EReal :=
  Ideal.ofBits .f32 0x3F666666#32 * m i + Ideal.ofBits .f32 0x3DCCCCCD#32 * g i

/-- The new second moment: `0.999 v + 0.001 g²`. -/
def second (g v : I → EReal) (i : I) : EReal :=
  Ideal.ofBits .f32 0x3F7FBE77#32 * v i + Ideal.ofBits .f32 0x3A83126F#32 * (g i * g i)

/-- The change of the weight: `−0.001 (m̂ / (√v̂ + 1e−8) + 0.01 w)`, with `m̂` and `v̂` the new moments over their bias corrections. -/
def delta (w g m v : I → EReal) (i : I) : EReal :=
  Ideal.ofBits .f32 0xBA83126F#32 *
    (Ideal.div (Ideal.div (first g m i) (Ideal.ofBits .f32 0x3F26BD02#32))
        (Ideal.sqrt (Ideal.div (second g v i) (Ideal.ofBits .f32 0x3C231ACC#32)) + Ideal.ofBits .f32 0x322BCC77#32)
      + Ideal.ofBits .f32 0x3C23D70A#32 * w i)

theorem first_congr {g g' m m' : I → EReal} (hg : g = g') (hm : m = m') : first g m = first g' m' := by subst hg hm; rfl
theorem second_congr {g g' v v' : I → EReal} (hg : g = g') (hv : v = v') : second g v = second g' v' := by subst hg hv; rfl
theorem delta_congr {w w' g g' m m' v v' : I → EReal} (hw : w = w') (hg : g = g') (hm : m = m') (hv : v = v') :
    delta w g m v = delta w' g' m' v' := by subst hw hg hm hv; rfl

end Cert.AdamSpec

end
-- ==== Proof.AdamSmall.lean ====
/-
  The optimiser's step of the six small weights (the four gains, the position biases, the sink logits).

  `Cert.AdamSpec` states the AdamW step of one element as a function of the weight, the gradient and the two moments. This module
  shows that the kernel's eighteen output arrays and the reference's eighteen results are that function of the arguments, element
  by element; two of the weights are laid out anew by the host before the call.
-/
module

public import proofs.«01_k».proof.Defs
public import proofs.«01_k».proof.Proof.AdamFrame
public import proofs.«01_k».proof.Proof.Gen.Kernel12
public import proofs.«01_k».proof.Proof.Gen.Kernel12Ideal
public import proofs.«01_k».proof.Proof.Gen.Reference12Ideal.Run
public import proofs.«01_k».proof.Proof.Gen.Reference12Ideal.Read
public import proofs.«01_k».proof.Proof.Basics
public import proofs.«01_k».proof.Proof.AdamSpec
public import Idealize.ShloMosaic.Lib.Pipeline.Value
public import Idealize.ShloMosaic.Lib.Quiescent

@[expose] public section

noncomputable section

open Idealize.ShloMosaic Idealize.ShloMosaic.TcCoe Idealize.SL.Sem Idealize.ShloMosaic.ValueIdx
open Idealize.ShloMosaic.Pipeline (Dat)

/-! ## The kernel -/

namespace Cert.Kernel12Ideal.Adam

open Cert.Kernel12Ideal Cert.Kernel12Ideal.Gen Cert.AdamSpec Cert.Basics

/-! ### What the body leaves is the step -/

theorem ldA (x : Vec Ideal S1x1024 .f32) : View.ld x r0_0 = x := View.ld_unit_zero (S := S1x1024) hz _ x
theorem canonA (x : Vec Ideal S1x1024 .f32) : View.canon [(⟨r0_0, x⟩ : View.Piece (Elt Ideal) S1x1024 .f32)] = x := View.canon_unit_zero (S := S1x1024) hz _ x
theorem ldB (x : Vec Ideal S8x465 .f32) : View.ld x r0_1 = x := View.ld_unit_zero (S := S8x465) hz _ x
theorem canonB (x : Vec Ideal S8x465 .f32) : View.canon [(⟨r0_1, x⟩ : View.Piece (Elt Ideal) S8x465 .f32)] = x := View.canon_unit_zero (S := S8x465) hz _ x
theorem ldC (x : Vec Ideal S1x8 .f32) : View.ld x r0_2 = x := View.ld_unit_zero (S := S1x8) hz _ x
theorem canonC (x : Vec Ideal S1x8 .f32) : View.canon [(⟨r0_2, x⟩ : View.Piece (Elt Ideal) S1x8 .f32)] = x := View.canon_unit_zero (S := S1x8) hz _ x
theorem change0_eq (w g m v : Vec Ideal S1x1024 .f32) : change0 w g m v = delta w g m v := by
  unfold change0; rw [canonA]; simp only [ldA]; rfl
theorem change1_eq (w g m v : Vec Ideal S1x1024 .f32) : change1 w g m v = delta w g m v := by
  unfold change1; rw [canonA]; simp only [ldA]; rfl
theorem change2_eq (w g m v : Vec Ideal S8x465 .f32) : change2 w g m v = delta w g m v := by
  unfold change2; rw [canonB]; simp only [ldB]; unfold k0_pay14 k0_pay10 k0_pay12 k0_pay13 k0_pay11; simp only [shapeCast_self]; rfl
theorem change3_eq (w g m v : Vec Ideal S1x8 .f32) : change3 w g m v = delta w g m v := by
  unfold change3; rw [canonC]; simp only [ldC]; rfl
theorem change4_eq (w g m v : Vec Ideal S1x1024 .f32) : change4 w g m v = delta w g m v := by
  unfold change4; rw [canonA]; simp only [ldA]; rfl
theorem change5_eq (w g m v : Vec Ideal S1x1024 .f32) : change5 w g m v = delta w g m v := by
  unfold change5; rw [canonA]; simp only [ldA]; unfold k0_pay3 k0_pay21 k0_pay1 k0_pay2 k0_pay22; simp only [shapeCast_self]; rfl
theorem mean0_eq (g m : Vec Ideal S1x1024 .f32) : mean0 g m = first g m := by
  unfold mean0; rw [canonA]; simp only [ldA]; rfl
theorem mean1_eq (g m : Vec Ideal S1x1024 .f32) : mean1 g m = first g m := by
  unfold mean1; rw [canonA]; simp only [ldA]; rfl
theorem mean2_eq (g m : Vec Ideal S8x465 .f32) : mean2 g m = first g m := by
  unfold mean2; rw [canonB]; simp only [ldB]; unfold k0_pay12 k0_pay11; simp only [shapeCast_self]; rfl
theorem mean3_eq (g m : Vec Ideal S1x8 .f32) : mean3 g m = first g m := by
  unfold mean3; rw [canonC]; simp only [ldC]; rfl
theorem mean4_eq (g m : Vec Ideal S1x1024 .f32) : mean4 g m = first g m := by
  unfold mean4; rw [canonA]; simp only [ldA]; rfl
theorem mean5_eq (g m : Vec Ideal S1x1024 .f32) : mean5 g m = first g m := by
  unfold mean5; rw [canonA]; simp only [ldA]; unfold k0_pay1 k0_pay22; simp only [shapeCast_self]; rfl
theorem square0_eq (g v : Vec Ideal S1x1024 .f32) : square0 g v = second g v := by
  unfold square0; rw [canonA]; simp only [ldA]; rfl
theorem square1_eq (g v : Vec Ideal S1x1024 .f32) : square1 g v = second g v := by
  unfold square1; rw [canonA]; simp only [ldA]; rfl
theorem square2_eq (g v : Vec Ideal S8x465 .f32) : square2 g v = second g v := by
  unfold square2; rw [canonB]; simp only [ldB]; unfold k0_pay13 k0_pay11; simp only [shapeCast_self]; rfl
theorem square3_eq (g v : Vec Ideal S1x8 .f32) : square3 g v = second g v := by
  unfold square3; rw [canonC]; simp only [ldC]; rfl
theorem square4_eq (g v : Vec Ideal S1x1024 .f32) : square4 g v = second g v := by
  unfold square4; rw [canonA]; simp only [ldA]; rfl
theorem square5_eq (g v : Vec Ideal S1x1024 .f32) : square5 g v = second g v := by
  unfold square5; rw [canonA]; simp only [ldA]; unfold k0_pay2 k0_pay22; simp only [shapeCast_self]; rfl

variable (m : (ℓ : Loc nD τ sig) → Buf (Elt Ideal) ℓ) (ρ : Dev nD → PrngReg)

/-! ### The windows: each is a whole array -/

theorem emb_whole {S : Shape} {cs : CoreSpace} (arr : Memref sig .tc .hbm S .f32) (o s : Bool)
    (stage : Memref sig .tc (.core cs) ⟨S.rank, S.size⟩ .f32) (sem : DmaSem sig) (harr : arr.IsWhole) (hstage : stage.IsWhole)
    (t : Fin grid0.N) (y : S.Idx) : ((Pipeline.Window.whole arr o s stage sem harr hstage).rect t).emb y = y :=
  funext fun a => Fin.ext (Pipeline.Window.rect_emb_val_of_index_zero _ t a rfl y)

theorem emb0 (t : Fin cfg0.N) (y : S1x1024.Idx) : (win0_0.rect t).emb y = y := emb_whole ..
theorem emb1 (t : Fin cfg0.N) (y : S1x1024.Idx) : (win0_1.rect t).emb y = y := emb_whole ..
theorem emb2 (t : Fin cfg0.N) (y : S8x465.Idx) : (win0_2.rect t).emb y = y := emb_whole ..
theorem emb3 (t : Fin cfg0.N) (y : S1x8.Idx) : (win0_3.rect t).emb y = y := emb_whole ..
theorem emb4 (t : Fin cfg0.N) (y : S1x1024.Idx) : (win0_4.rect t).emb y = y := emb_whole ..
theorem emb5 (t : Fin cfg0.N) (y : S1x1024.Idx) : (win0_5.rect t).emb y = y := emb_whole ..
theorem emb6 (t : Fin cfg0.N) (y : S1x1024.Idx) : (win0_6.rect t).emb y = y := emb_whole ..
theorem emb7 (t : Fin cfg0.N) (y : S1x1024.Idx) : (win0_7.rect t).emb y = y := emb_whole ..
theorem emb8 (t : Fin cfg0.N) (y : S8x465.Idx) : (win0_8.rect t).emb y = y := emb_whole ..
theorem emb9 (t : Fin cfg0.N) (y : S1x8.Idx) : (win0_9.rect t).emb y = y := emb_whole ..
theorem emb10 (t : Fin cfg0.N) (y : S1x1024.Idx) : (win0_10.rect t).emb y = y := emb_whole ..
theorem emb11 (t : Fin cfg0.N) (y : S1x1024.Idx) : (win0_11.rect t).emb y = y := emb_whole ..
theorem emb12 (t : Fin cfg0.N) (y : S1x1024.Idx) : (win0_12.rect t).emb y = y := emb_whole ..
theorem emb13 (t : Fin cfg0.N) (y : S1x1024.Idx) : (win0_13.rect t).emb y = y := emb_whole ..
theorem emb14 (t : Fin cfg0.N) (y : S8x465.Idx) : (win0_14.rect t).emb y = y := emb_whole ..
theorem emb15 (t : Fin cfg0.N) (y : S1x8.Idx) : (win0_15.rect t).emb y = y := emb_whole ..
theorem emb16 (t : Fin cfg0.N) (y : S1x1024.Idx) : (win0_16.rect t).emb y = y := emb_whole ..
theorem emb17 (t : Fin cfg0.N) (y : S1x1024.Idx) : (win0_17.rect t).emb y = y := emb_whole ..
theorem emb18 (t : Fin cfg0.N) (y : S1x1024.Idx) : (win0_18.rect t).emb y = y := emb_whole ..
theorem emb19 (t : Fin cfg0.N) (y : S1x1024.Idx) : (win0_19.rect t).emb y = y := emb_whole ..
theorem emb20 (t : Fin cfg0.N) (y : S8x465.Idx) : (win0_20.rect t).emb y = y := emb_whole ..
theorem emb21 (t : Fin cfg0.N) (y : S1x8.Idx) : (win0_21.rect t).emb y = y := emb_whole ..
theorem emb22 (t : Fin cfg0.N) (y : S1x1024.Idx) : (win0_22.rect t).emb y = y := emb_whole ..
theorem emb23 (t : Fin cfg0.N) (y : S1x1024.Idx) : (win0_23.rect t).emb y = y := emb_whole ..
theorem emb24 (t : Fin cfg0.N) (y : S1x1024.Idx) : (win0_24.rect t).emb y = y := emb_whole ..
theorem emb25 (t : Fin cfg0.N) (y : S1x1024.Idx) : (win0_25.rect t).emb y = y := emb_whole ..
theorem emb26 (t : Fin cfg0.N) (y : S8x465.Idx) : (win0_26.rect t).emb y = y := emb_whole ..
theorem emb27 (t : Fin cfg0.N) (y : S1x8.Idx) : (win0_27.rect t).emb y = y := emb_whole ..
theorem emb28 (t : Fin cfg0.N) (y : S1x1024.Idx) : (win0_28.rect t).emb y = y := emb_whole ..
theorem emb29 (t : Fin cfg0.N) (y : S1x1024.Idx) : (win0_29.rect t).emb y = y := emb_whole ..
theorem emb30 (t : Fin cfg0.N) (y : S1x1024.Idx) : (win0_30.rect t).emb y = y := emb_whole ..
theorem emb31 (t : Fin cfg0.N) (y : S1x1024.Idx) : (win0_31.rect t).emb y = y := emb_whole ..
theorem emb32 (t : Fin cfg0.N) (y : S8x465.Idx) : (win0_32.rect t).emb y = y := emb_whole ..
theorem emb33 (t : Fin cfg0.N) (y : S1x8.Idx) : (win0_33.rect t).emb y = y := emb_whole ..
theorem emb34 (t : Fin cfg0.N) (y : S1x1024.Idx) : (win0_34.rect t).emb y = y := emb_whole ..
theorem emb35 (t : Fin cfg0.N) (y : S1x1024.Idx) : (win0_35.rect t).emb y = y := emb_whole ..
theorem emb36 (t : Fin cfg0.N) (y : S1x1024.Idx) : (win0_36.rect t).emb y = y := emb_whole ..
theorem emb37 (t : Fin cfg0.N) (y : S1x1024.Idx) : (win0_37.rect t).emb y = y := emb_whole ..
theorem emb38 (t : Fin cfg0.N) (y : S8x465.Idx) : (win0_38.rect t).emb y = y := emb_whole ..
theorem emb39 (t : Fin cfg0.N) (y : S1x8.Idx) : (win0_39.rect t).emb y = y := emb_whole ..
theorem emb40 (t : Fin cfg0.N) (y : S1x1024.Idx) : (win0_40.rect t).emb y = y := emb_whole ..
theorem emb41 (t : Fin cfg0.N) (y : S1x1024.Idx) : (win0_41.rect t).emb y = y := emb_whole ..

/-! ### The blocks of the inputs -/

theorem blk0 (c : Dev nD) (t : Fin cfg0.N) : (iblk m c 0 t : Vec Ideal S1x1024 .f32) = V m c main_arg0 :=
  funext fun y => congrArg (V m c main_arg0) (emb0 t y)
theorem blk1 (c : Dev nD) (t : Fin cfg0.N) : (iblk m c 1 t : Vec Ideal S1x1024 .f32) = V m c main_arg1 :=
  funext fun y => congrArg (V m c main_arg1) (emb1 t y)
theorem blk2 (c : Dev nD) (t : Fin cfg0.N) : (iblk m c 2 t : Vec Ideal S8x465 .f32) = V m c main_v0 :=
  funext fun y => congrArg (V m c main_v0) (emb2 t y)
theorem blk3 (c : Dev nD) (t : Fin cfg0.N) : (iblk m c 3 t : Vec Ideal S1x8 .f32) = V m c main_arg3 :=
  funext fun y => congrArg (V m c main_arg3) (emb3 t y)
theorem blk4 (c : Dev nD) (t : Fin cfg0.N) : (iblk m c 4 t : Vec Ideal S1x1024 .f32) = V m c main_arg4 :=
  funext fun y => congrArg (V m c main_arg4) (emb4 t y)
theorem blk5 (c : Dev nD) (t : Fin cfg0.N) : (iblk m c 5 t : Vec Ideal S1x1024 .f32) = V m c main_v1 :=
  funext fun y => congrArg (V m c main_v1) (emb5 t y)
theorem blk6 (c : Dev nD) (t : Fin cfg0.N) : (iblk m c 6 t : Vec Ideal S1x1024 .f32) = V m c main_arg6 :=
  funext fun y => congrArg (V m c main_arg6) (emb6 t y)
theorem blk7 (c : Dev nD) (t : Fin cfg0.N) : (iblk m c 7 t : Vec Ideal S1x1024 .f32) = V m c main_arg7 :=
  funext fun y => congrArg (V m c main_arg7) (emb7 t y)
theorem blk8 (c : Dev nD) (t : Fin cfg0.N) : (iblk m c 8 t : Vec Ideal S8x465 .f32) = V m c main_v2 :=
  funext fun y => congrArg (V m c main_v2) (emb8 t y)
theorem blk9 (c : Dev nD) (t : Fin cfg0.N) : (iblk m c 9 t : Vec Ideal S1x8 .f32) = V m c main_arg9 :=
  funext fun y => congrArg (V m c main_arg9) (emb9 t y)
theorem blk10 (c : Dev nD) (t : Fin cfg0.N) : (iblk m c 10 t : Vec Ideal S1x1024 .f32) = V m c main_arg10 :=
  funext fun y => congrArg (V m c main_arg10) (emb10 t y)
theorem blk11 (c : Dev nD) (t : Fin cfg0.N) : (iblk m c 11 t : Vec Ideal S1x1024 .f32) = V m c main_v3 :=
  funext fun y => congrArg (V m c main_v3) (emb11 t y)
theorem blk12 (c : Dev nD) (t : Fin cfg0.N) : (iblk m c 12 t : Vec Ideal S1x1024 .f32) = V m c main_arg12 :=
  funext fun y => congrArg (V m c main_arg12) (emb12 t y)
theorem blk13 (c : Dev nD) (t : Fin cfg0.N) : (iblk m c 13 t : Vec Ideal S1x1024 .f32) = V m c main_arg13 :=
  funext fun y => congrArg (V m c main_arg13) (emb13 t y)
theorem blk14 (c : Dev nD) (t : Fin cfg0.N) : (iblk m c 14 t : Vec Ideal S8x465 .f32) = V m c main_v4 :=
  funext fun y => congrArg (V m c main_v4) (emb14 t y)
theorem blk15 (c : Dev nD) (t : Fin cfg0.N) : (iblk m c 15 t : Vec Ideal S1x8 .f32) = V m c main_arg15 :=
  funext fun y => congrArg (V m c main_arg15) (emb15 t y)
theorem blk16 (c : Dev nD) (t : Fin cfg0.N) : (iblk m c 16 t : Vec Ideal S1x1024 .f32) = V m c main_arg16 :=
  funext fun y => congrArg (V m c main_arg16) (emb16 t y)
theorem blk17 (c : Dev nD) (t : Fin cfg0.N) : (iblk m c 17 t : Vec Ideal S1x1024 .f32) = V m c main_v5 :=
  funext fun y => congrArg (V m c main_v5) (emb17 t y)
theorem blk18 (c : Dev nD) (t : Fin cfg0.N) : (iblk m c 18 t : Vec Ideal S1x1024 .f32) = V m c main_arg18 :=
  funext fun y => congrArg (V m c main_arg18) (emb18 t y)
theorem blk19 (c : Dev nD) (t : Fin cfg0.N) : (iblk m c 19 t : Vec Ideal S1x1024 .f32) = V m c main_arg19 :=
  funext fun y => congrArg (V m c main_arg19) (emb19 t y)
theorem blk20 (c : Dev nD) (t : Fin cfg0.N) : (iblk m c 20 t : Vec Ideal S8x465 .f32) = V m c main_v6 :=
  funext fun y => congrArg (V m c main_v6) (emb20 t y)
theorem blk21 (c : Dev nD) (t : Fin cfg0.N) : (iblk m c 21 t : Vec Ideal S1x8 .f32) = V m c main_arg21 :=
  funext fun y => congrArg (V m c main_arg21) (emb21 t y)
theorem blk22 (c : Dev nD) (t : Fin cfg0.N) : (iblk m c 22 t : Vec Ideal S1x1024 .f32) = V m c main_arg22 :=
  funext fun y => congrArg (V m c main_arg22) (emb22 t y)
theorem blk23 (c : Dev nD) (t : Fin cfg0.N) : (iblk m c 23 t : Vec Ideal S1x1024 .f32) = V m c main_v7 :=
  funext fun y => congrArg (V m c main_v7) (emb23 t y)

/-! ### The host's layout of the position biases and of the last gain; the other arguments as launched -/

theorem host0 (c : Dev nD) {x : S1x8x15x31.Idx → EReal} (e : x = m ((c : Thread nD τ).loc main_arg2)) :
    shapeCast S8x465 x shapeCasts_S1x8x15x31_S8x465 = (V m c main_v0 : S8x465.Idx → EReal) := by
  subst e; unfold V hostOps0; after_results; rfl
theorem host1 (c : Dev nD) {x : S1024.Idx → EReal} (e : x = m ((c : Thread nD τ).loc main_arg5)) :
    shapeCast S1x1024 x shapeCasts_S1024_S1x1024 = (V m c main_v1 : S1x1024.Idx → EReal) := by
  subst e; unfold V hostOps0; after_results; rfl
theorem host2 (c : Dev nD) {x : S1x8x15x31.Idx → EReal} (e : x = m ((c : Thread nD τ).loc main_arg8)) :
    shapeCast S8x465 x shapeCasts_S1x8x15x31_S8x465 = (V m c main_v2 : S8x465.Idx → EReal) := by
  subst e; unfold V hostOps0; after_results; rfl
theorem host3 (c : Dev nD) {x : S1024.Idx → EReal} (e : x = m ((c : Thread nD τ).loc main_arg11)) :
    shapeCast S1x1024 x shapeCasts_S1024_S1x1024 = (V m c main_v3 : S1x1024.Idx → EReal) := by
  subst e; unfold V hostOps0; after_results; rfl
theorem host4 (c : Dev nD) {x : S1x8x15x31.Idx → EReal} (e : x = m ((c : Thread nD τ).loc main_arg14)) :
    shapeCast S8x465 x shapeCasts_S1x8x15x31_S8x465 = (V m c main_v4 : S8x465.Idx → EReal) := by
  subst e; unfold V hostOps0; after_results; rfl
theorem host5 (c : Dev nD) {x : S1024.Idx → EReal} (e : x = m ((c : Thread nD τ).loc main_arg17)) :
    shapeCast S1x1024 x shapeCasts_S1024_S1x1024 = (V m c main_v5 : S1x1024.Idx → EReal) := by
  subst e; unfold V hostOps0; after_results; rfl
theorem host6 (c : Dev nD) {x : S1x8x15x31.Idx → EReal} (e : x = m ((c : Thread nD τ).loc main_arg20)) :
    shapeCast S8x465 x shapeCasts_S1x8x15x31_S8x465 = (V m c main_v6 : S8x465.Idx → EReal) := by
  subst e; unfold V hostOps0; after_results; rfl
theorem host7 (c : Dev nD) {x : S1024.Idx → EReal} (e : x = m ((c : Thread nD τ).loc main_arg23)) :
    shapeCast S1x1024 x shapeCasts_S1024_S1x1024 = (V m c main_v7 : S1x1024.Idx → EReal) := by
  subst e; unfold V hostOps0; after_results; rfl
theorem given (c : Dev nD) (b : Ref sig .tc) {x : Buf (Elt Ideal) ((c : Thread nD τ).loc b)} (e : x = m ((c : Thread nD τ).loc b))
    (h0 : b ≠ main_v0 := by decide) (h1 : b ≠ main_v1 := by decide) (h2 : b ≠ main_v2 := by decide) (h3 : b ≠ main_v3 := by decide)
    (h4 : b ≠ main_v4 := by decide) (h5 : b ≠ main_v5 := by decide) (h6 : b ≠ main_v6 := by decide) (h7 : b ≠ main_v7 := by decide) :
    x = V m c b := e.trans (V_arg m c b h0 h1 h2 h3 h4 h5 h6 h7).symm

/-! ### The output arrays after the run -/

/-- The one point. -/
abbrev t₀ : Fin cfg0.N := ⟨0, by decide⟩

abbrev out24 (c : Dev nD) : S1x1024.Idx → EReal := delta (V m c main_arg0) (V m c main_arg6) (V m c main_arg12) (V m c main_arg18)
theorem final24 (c : Dev nD) : (dats m 0 c).arrAt 24 cfg0.N = out24 m c :=
  (dats m 0 c).arrAt_eq_of_cover 24 _ (fun t _ => by
    show (cfg0.win 24).cut (grid0.coords t) ((dats m 0 c).after 24 t) = _
    rw [after24, change0_eq, blk0, blk6, blk12, blk18]
    exact funext fun y => (congrArg (out24 m c) (emb24 t y)).symm)
    fun i => ⟨t₀, flush0_24 t₀, (emb24 t₀ i) ▸ ((cfg0.win 24).blk t₀).view.emb_mem_set (i : S1x1024.Idx)⟩
abbrev out25 (c : Dev nD) : S1x1024.Idx → EReal := delta (V m c main_arg1) (V m c main_arg7) (V m c main_arg13) (V m c main_arg19)
theorem final25 (c : Dev nD) : (dats m 0 c).arrAt 25 cfg0.N = out25 m c :=
  (dats m 0 c).arrAt_eq_of_cover 25 _ (fun t _ => by
    show (cfg0.win 25).cut (grid0.coords t) ((dats m 0 c).after 25 t) = _
    rw [after25, change1_eq, blk1, blk7, blk13, blk19]
    exact funext fun y => (congrArg (out25 m c) (emb25 t y)).symm)
    fun i => ⟨t₀, flush0_25 t₀, (emb25 t₀ i) ▸ ((cfg0.win 25).blk t₀).view.emb_mem_set (i : S1x1024.Idx)⟩
abbrev out26 (c : Dev nD) : S8x465.Idx → EReal := delta (V m c main_v0) (V m c main_v2) (V m c main_v4) (V m c main_v6)
theorem final26 (c : Dev nD) : (dats m 0 c).arrAt 26 cfg0.N = out26 m c :=
  (dats m 0 c).arrAt_eq_of_cover 26 _ (fun t _ => by
    show (cfg0.win 26).cut (grid0.coords t) ((dats m 0 c).after 26 t) = _
    rw [after26, change2_eq, blk2, blk8, blk14, blk20]
    exact funext fun y => (congrArg (out26 m c) (emb26 t y)).symm)
    fun i => ⟨t₀, flush0_26 t₀, (emb26 t₀ i) ▸ ((cfg0.win 26).blk t₀).view.emb_mem_set (i : S8x465.Idx)⟩
abbrev out27 (c : Dev nD) : S1x8.Idx → EReal := delta (V m c main_arg3) (V m c main_arg9) (V m c main_arg15) (V m c main_arg21)
theorem final27 (c : Dev nD) : (dats m 0 c).arrAt 27 cfg0.N = out27 m c :=
  (dats m 0 c).arrAt_eq_of_cover 27 _ (fun t _ => by
    show (cfg0.win 27).cut (grid0.coords t) ((dats m 0 c).after 27 t) = _
    rw [after27, change3_eq, blk3, blk9, blk15, blk21]
    exact funext fun y => (congrArg (out27 m c) (emb27 t y)).symm)
    fun i => ⟨t₀, flush0_27 t₀, (emb27 t₀ i) ▸ ((cfg0.win 27).blk t₀).view.emb_mem_set (i : S1x8.Idx)⟩
abbrev out28 (c : Dev nD) : S1x1024.Idx → EReal := delta (V m c main_arg4) (V m c main_arg10) (V m c main_arg16) (V m c main_arg22)
theorem final28 (c : Dev nD) : (dats m 0 c).arrAt 28 cfg0.N = out28 m c :=
  (dats m 0 c).arrAt_eq_of_cover 28 _ (fun t _ => by
    show (cfg0.win 28).cut (grid0.coords t) ((dats m 0 c).after 28 t) = _
    rw [after28, change4_eq, blk4, blk10, blk16, blk22]
    exact funext fun y => (congrArg (out28 m c) (emb28 t y)).symm)
    fun i => ⟨t₀, flush0_28 t₀, (emb28 t₀ i) ▸ ((cfg0.win 28).blk t₀).view.emb_mem_set (i : S1x1024.Idx)⟩
abbrev out29 (c : Dev nD) : S1x1024.Idx → EReal := delta (V m c main_v1) (V m c main_v3) (V m c main_v5) (V m c main_v7)
theorem final29 (c : Dev nD) : (dats m 0 c).arrAt 29 cfg0.N = out29 m c :=
  (dats m 0 c).arrAt_eq_of_cover 29 _ (fun t _ => by
    show (cfg0.win 29).cut (grid0.coords t) ((dats m 0 c).after 29 t) = _
    rw [after29, change5_eq, blk5, blk11, blk17, blk23]
    exact funext fun y => (congrArg (out29 m c) (emb29 t y)).symm)
    fun i => ⟨t₀, flush0_29 t₀, (emb29 t₀ i) ▸ ((cfg0.win 29).blk t₀).view.emb_mem_set (i : S1x1024.Idx)⟩
abbrev out30 (c : Dev nD) : S1x1024.Idx → EReal := first (V m c main_arg6) (V m c main_arg12)
theorem final30 (c : Dev nD) : (dats m 0 c).arrAt 30 cfg0.N = out30 m c :=
  (dats m 0 c).arrAt_eq_of_cover 30 _ (fun t _ => by
    show (cfg0.win 30).cut (grid0.coords t) ((dats m 0 c).after 30 t) = _
    rw [after30, mean0_eq, blk6, blk12]
    exact funext fun y => (congrArg (out30 m c) (emb30 t y)).symm)
    fun i => ⟨t₀, flush0_30 t₀, (emb30 t₀ i) ▸ ((cfg0.win 30).blk t₀).view.emb_mem_set (i : S1x1024.Idx)⟩
abbrev out31 (c : Dev nD) : S1x1024.Idx → EReal := first (V m c main_arg7) (V m c main_arg13)
theorem final31 (c : Dev nD) : (dats m 0 c).arrAt 31 cfg0.N = out31 m c :=
  (dats m 0 c).arrAt_eq_of_cover 31 _ (fun t _ => by
    show (cfg0.win 31).cut (grid0.coords t) ((dats m 0 c).after 31 t) = _
    rw [after31, mean1_eq, blk7, blk13]
    exact funext fun y => (congrArg (out31 m c) (emb31 t y)).symm)
    fun i => ⟨t₀, flush0_31 t₀, (emb31 t₀ i) ▸ ((cfg0.win 31).blk t₀).view.emb_mem_set (i : S1x1024.Idx)⟩
abbrev out32 (c : Dev nD) : S8x465.Idx → EReal := first (V m c main_v2) (V m c main_v4)
theorem final32 (c : Dev nD) : (dats m 0 c).arrAt 32 cfg0.N = out32 m c :=
  (dats m 0 c).arrAt_eq_of_cover 32 _ (fun t _ => by
    show (cfg0.win 32).cut (grid0.coords t) ((dats m 0 c).after 32 t) = _
    rw [after32, mean2_eq, blk8, blk14]
    exact funext fun y => (congrArg (out32 m c) (emb32 t y)).symm)
    fun i => ⟨t₀, flush0_32 t₀, (emb32 t₀ i) ▸ ((cfg0.win 32).blk t₀).view.emb_mem_set (i : S8x465.Idx)⟩
abbrev out33 (c : Dev nD) : S1x8.Idx → EReal := first (V m c main_arg9) (V m c main_arg15)
theorem final33 (c : Dev nD) : (dats m 0 c).arrAt 33 cfg0.N = out33 m c :=
  (dats m 0 c).arrAt_eq_of_cover 33 _ (fun t _ => by
    show (cfg0.win 33).cut (grid0.coords t) ((dats m 0 c).after 33 t) = _
    rw [after33, mean3_eq, blk9, blk15]
    exact funext fun y => (congrArg (out33 m c) (emb33 t y)).symm)
    fun i => ⟨t₀, flush0_33 t₀, (emb33 t₀ i) ▸ ((cfg0.win 33).blk t₀).view.emb_mem_set (i : S1x8.Idx)⟩
abbrev out34 (c : Dev nD) : S1x1024.Idx → EReal := first (V m c main_arg10) (V m c main_arg16)
theorem final34 (c : Dev nD) : (dats m 0 c).arrAt 34 cfg0.N = out34 m c :=
  (dats m 0 c).arrAt_eq_of_cover 34 _ (fun t _ => by
    show (cfg0.win 34).cut (grid0.coords t) ((dats m 0 c).after 34 t) = _
    rw [after34, mean4_eq, blk10, blk16]
    exact funext fun y => (congrArg (out34 m c) (emb34 t y)).symm)
    fun i => ⟨t₀, flush0_34 t₀, (emb34 t₀ i) ▸ ((cfg0.win 34).blk t₀).view.emb_mem_set (i : S1x1024.Idx)⟩
abbrev out35 (c : Dev nD) : S1x1024.Idx → EReal := first (V m c main_v3) (V m c main_v5)
theorem final35 (c : Dev nD) : (dats m 0 c).arrAt 35 cfg0.N = out35 m c :=
  (dats m 0 c).arrAt_eq_of_cover 35 _ (fun t _ => by
    show (cfg0.win 35).cut (grid0.coords t) ((dats m 0 c).after 35 t) = _
    rw [after35, mean5_eq, blk11, blk17]
    exact funext fun y => (congrArg (out35 m c) (emb35 t y)).symm)
    fun i => ⟨t₀, flush0_35 t₀, (emb35 t₀ i) ▸ ((cfg0.win 35).blk t₀).view.emb_mem_set (i : S1x1024.Idx)⟩
abbrev out36 (c : Dev nD) : S1x1024.Idx → EReal := second (V m c main_arg6) (V m c main_arg18)
theorem final36 (c : Dev nD) : (dats m 0 c).arrAt 36 cfg0.N = out36 m c :=
  (dats m 0 c).arrAt_eq_of_cover 36 _ (fun t _ => by
    show (cfg0.win 36).cut (grid0.coords t) ((dats m 0 c).after 36 t) = _
    rw [after36, square0_eq, blk6, blk18]
    exact funext fun y => (congrArg (out36 m c) (emb36 t y)).symm)
    fun i => ⟨t₀, flush0_36 t₀, (emb36 t₀ i) ▸ ((cfg0.win 36).blk t₀).view.emb_mem_set (i : S1x1024.Idx)⟩
abbrev out37 (c : Dev nD) : S1x1024.Idx → EReal := second (V m c main_arg7) (V m c main_arg19)
theorem final37 (c : Dev nD) : (dats m 0 c).arrAt 37 cfg0.N = out37 m c :=
  (dats m 0 c).arrAt_eq_of_cover 37 _ (fun t _ => by
    show (cfg0.win 37).cut (grid0.coords t) ((dats m 0 c).after 37 t) = _
    rw [after37, square1_eq, blk7, blk19]
    exact funext fun y => (congrArg (out37 m c) (emb37 t y)).symm)
    fun i => ⟨t₀, flush0_37 t₀, (emb37 t₀ i) ▸ ((cfg0.win 37).blk t₀).view.emb_mem_set (i : S1x1024.Idx)⟩
abbrev out38 (c : Dev nD) : S8x465.Idx → EReal := second (V m c main_v2) (V m c main_v6)
theorem final38 (c : Dev nD) : (dats m 0 c).arrAt 38 cfg0.N = out38 m c :=
  (dats m 0 c).arrAt_eq_of_cover 38 _ (fun t _ => by
    show (cfg0.win 38).cut (grid0.coords t) ((dats m 0 c).after 38 t) = _
    rw [after38, square2_eq, blk8, blk20]
    exact funext fun y => (congrArg (out38 m c) (emb38 t y)).symm)
    fun i => ⟨t₀, flush0_38 t₀, (emb38 t₀ i) ▸ ((cfg0.win 38).blk t₀).view.emb_mem_set (i : S8x465.Idx)⟩
abbrev out39 (c : Dev nD) : S1x8.Idx → EReal := second (V m c main_arg9) (V m c main_arg21)
theorem final39 (c : Dev nD) : (dats m 0 c).arrAt 39 cfg0.N = out39 m c :=
  (dats m 0 c).arrAt_eq_of_cover 39 _ (fun t _ => by
    show (cfg0.win 39).cut (grid0.coords t) ((dats m 0 c).after 39 t) = _
    rw [after39, square3_eq, blk9, blk21]
    exact funext fun y => (congrArg (out39 m c) (emb39 t y)).symm)
    fun i => ⟨t₀, flush0_39 t₀, (emb39 t₀ i) ▸ ((cfg0.win 39).blk t₀).view.emb_mem_set (i : S1x8.Idx)⟩
abbrev out40 (c : Dev nD) : S1x1024.Idx → EReal := second (V m c main_arg10) (V m c main_arg22)
theorem final40 (c : Dev nD) : (dats m 0 c).arrAt 40 cfg0.N = out40 m c :=
  (dats m 0 c).arrAt_eq_of_cover 40 _ (fun t _ => by
    show (cfg0.win 40).cut (grid0.coords t) ((dats m 0 c).after 40 t) = _
    rw [after40, square4_eq, blk10, blk22]
    exact funext fun y => (congrArg (out40 m c) (emb40 t y)).symm)
    fun i => ⟨t₀, flush0_40 t₀, (emb40 t₀ i) ▸ ((cfg0.win 40).blk t₀).view.emb_mem_set (i : S1x1024.Idx)⟩
abbrev out41 (c : Dev nD) : S1x1024.Idx → EReal := second (V m c main_v3) (V m c main_v7)
theorem final41 (c : Dev nD) : (dats m 0 c).arrAt 41 cfg0.N = out41 m c :=
  (dats m 0 c).arrAt_eq_of_cover 41 _ (fun t _ => by
    show (cfg0.win 41).cut (grid0.coords t) ((dats m 0 c).after 41 t) = _
    rw [after41, square5_eq, blk11, blk23]
    exact funext fun y => (congrArg (out41 m c) (emb41 t y)).symm)
    fun i => ⟨t₀, flush0_41 t₀, (emb41 t₀ i) ▸ ((cfg0.win 41).blk t₀).view.emb_mem_set (i : S1x1024.Idx)⟩

end Cert.Kernel12Ideal.Adam

/-! ## The reference -/

namespace Cert.Reference12Ideal.Adam

open Cert.Reference12Ideal Cert.Reference12Ideal.Gen Cert.Reference12Ideal.Read Cert.AdamSpec

theorem res0 (w g m v : Vec Ideal S1x1024 .f32) : val_main_v23 (F := Ideal) w g m v = delta w g m v := rfl
theorem res1 (w g m v : Vec Ideal S1x1024 .f32) : val_main_v47 (F := Ideal) w g m v = delta w g m v := rfl
theorem res2 (w g m v : Vec Ideal S1x8x15x31 .f32) : val_main_v144 (F := Ideal) w g m v = delta (shapeCast S8x465 w shapeCasts_S1x8x15x31_S8x465) (shapeCast S8x465 g shapeCasts_S1x8x15x31_S8x465) (shapeCast S8x465 m shapeCasts_S1x8x15x31_S8x465) (shapeCast S8x465 v shapeCasts_S1x8x15x31_S8x465) := rfl
theorem res3 (w g m v : Vec Ideal S1x8 .f32) : val_main_v95 (F := Ideal) w g m v = delta w g m v := rfl
theorem res4 (w g m v : Vec Ideal S1x1024 .f32) : val_main_v119 (F := Ideal) w g m v = delta w g m v := rfl
theorem res5 (w g m v : Vec Ideal S1024 .f32) : val_main_v145 (F := Ideal) w g m v = delta (shapeCast S1x1024 w shapeCasts_S1024_S1x1024) (shapeCast S1x1024 g shapeCasts_S1024_S1x1024) (shapeCast S1x1024 m shapeCasts_S1024_S1x1024) (shapeCast S1x1024 v shapeCasts_S1024_S1x1024) := rfl
theorem res6 (g m : Vec Ideal S1x1024 .f32) : val_main_v4 (F := Ideal) g m = first g m := rfl
theorem res7 (g m : Vec Ideal S1x1024 .f32) : val_main_v28 (F := Ideal) g m = first g m := rfl
theorem res8 (g m : Vec Ideal S1x8x15x31 .f32) : val_main_v146 (F := Ideal) g m = first (shapeCast S8x465 g shapeCasts_S1x8x15x31_S8x465) (shapeCast S8x465 m shapeCasts_S1x8x15x31_S8x465) := rfl
theorem res9 (g m : Vec Ideal S1x8 .f32) : val_main_v76 (F := Ideal) g m = first g m := rfl
theorem res10 (g m : Vec Ideal S1x1024 .f32) : val_main_v100 (F := Ideal) g m = first g m := rfl
theorem res11 (g m : Vec Ideal S1024 .f32) : val_main_v147 (F := Ideal) g m = first (shapeCast S1x1024 g shapeCasts_S1024_S1x1024) (shapeCast S1x1024 m shapeCasts_S1024_S1x1024) := rfl
theorem res12 (g v : Vec Ideal S1x1024 .f32) : val_main_v10 (F := Ideal) g v = second g v := rfl
theorem res13 (g v : Vec Ideal S1x1024 .f32) : val_main_v34 (F := Ideal) g v = second g v := rfl
theorem res14 (g v : Vec Ideal S1x8x15x31 .f32) : val_main_v148 (F := Ideal) g v = second (shapeCast S8x465 g shapeCasts_S1x8x15x31_S8x465) (shapeCast S8x465 v shapeCasts_S1x8x15x31_S8x465) := rfl
theorem res15 (g v : Vec Ideal S1x8 .f32) : val_main_v82 (F := Ideal) g v = second g v := rfl
theorem res16 (g v : Vec Ideal S1x1024 .f32) : val_main_v106 (F := Ideal) g v = second g v := rfl
theorem res17 (g v : Vec Ideal S1024 .f32) : val_main_v149 (F := Ideal) g v = second (shapeCast S1x1024 g shapeCasts_S1024_S1x1024) (shapeCast S1x1024 v shapeCasts_S1024_S1x1024) := rfl

end Cert.Reference12Ideal.Adam

/-! ## The claims -/

namespace Cert.AdamClaims

open Cert.Kernel12Ideal.Adam Cert.Reference12Ideal.Read Cert.Reference12Ideal.Adam Cert.AdamSpec

set_option maxHeartbeats 8000000 in
/-- The two programs have the same text: their body tables are one. -/
theorem tables : Cert.Kernel12.defs₀ (F := Bits) = Cert.Kernel12Ideal.defs₀ (F := Bits) := by
  unfold Cert.Kernel12.defs₀ Cert.Kernel12Ideal.defs₀
  refine congrArg Defs.onTc (funext fun l => ?_)
  match l with
  | (0 : Fin 1) => exact funext fun a => match a with | ⟨t, s⟩ => rfl

set_option maxHeartbeats 8000000 in
/-- The run at any values is that of both. -/
theorem frame_kernel : Cert.quiescent_Kernel12 := fun m ρ _ => by
  unfold Cert.Kernel12.defs
  rw [tables]
  exact quiescent (F := Bits) m ρ
theorem frame_ideal : Cert.quiescent_Kernel12Ideal := fun m ρ _ => quiescent m ρ
/-- The reference's run read at the arguments; it declares no semaphore. -/
theorem frame_reference : Cert.quiescent_Reference12Ideal := fun m ρ _ =>
  (θ_run Cert.Reference12Ideal.defs _ _).mono (fun r h => ⟨fun c => (h c).2.2.2.2.2.2.2.2.2.2.2.2.2.2.2.2.2.2, sem_eq_zero_of_no_sems (by decide) r.2⟩)
    (Cert.Reference12Ideal.Value.run (F := Ideal) m ρ)

set_option maxHeartbeats 8000000 in
/-- The kernel's eighteen results and the reference's are equal as extended reals, on every memory. -/
theorem algebraic : Cert.algebraic_Kernel12Ideal_Reference12Ideal := fun m g m' g' _ hm =>
  ⟨out24 m, out25 m, out26 m, out27 m, out28 m, out29 m, out30 m, out31 m, out32 m, out33 m, out34 m, out35 m, out36 m, out37 m, out38 m, out39 m, out40 m, out41 m,
    (θ_run Cert.Kernel12Ideal.defs _ _).mono (fun r h c => ⟨((h.1 c).1 24).trans (final24 m c), ((h.1 c).1 25).trans (final25 m c), ((h.1 c).1 26).trans (final26 m c),
      ((h.1 c).1 27).trans (final27 m c), ((h.1 c).1 28).trans (final28 m c), ((h.1 c).1 29).trans (final29 m c),
      ((h.1 c).1 30).trans (final30 m c), ((h.1 c).1 31).trans (final31 m c), ((h.1 c).1 32).trans (final32 m c),
      ((h.1 c).1 33).trans (final33 m c), ((h.1 c).1 34).trans (final34 m c), ((h.1 c).1 35).trans (final35 m c),
      ((h.1 c).1 36).trans (final36 m c), ((h.1 c).1 37).trans (final37 m c), ((h.1 c).1 38).trans (final38 m c),
      ((h.1 c).1 39).trans (final39 m c), ((h.1 c).1 40).trans (final40 m c), ((h.1 c).1 41).trans (final41 m c), kept m r h.1 c⟩)
      (run_main_quiescent m g),
    (θ_run Cert.Reference12Ideal.defs _ _).mono (fun r h c => by
      obtain ⟨h0, h1, h2, h3, h4, h5, h6, h7, h8, h9, h10, h11, h12, h13, h14, h15, h16, h17, hargs⟩ := h c
      obtain ⟨e0, e1, e2, e3, e4, e5, e6, e7, e8, e9, e10, e11, e12, e13, e14, e15, e16, e17, e18, e19, e20, e21, e22, e23⟩ := hm c
      refine ⟨?_, ?_, ?_, ?_, ?_, ?_, ?_, ?_, ?_, ?_, ?_, ?_, ?_, ?_, ?_, ?_, ?_, ?_, hargs⟩
      · exact h0.trans ((val_main_v23_eq _).trans ((res0 _ _ _ _).trans (delta_congr (given m c Cert.Kernel12Ideal.main_arg0 e0) (given m c Cert.Kernel12Ideal.main_arg6 e6) (given m c Cert.Kernel12Ideal.main_arg12 e12) (given m c Cert.Kernel12Ideal.main_arg18 e18))))
      · exact h1.trans ((val_main_v47_eq _).trans ((res1 _ _ _ _).trans (delta_congr (given m c Cert.Kernel12Ideal.main_arg1 e1) (given m c Cert.Kernel12Ideal.main_arg7 e7) (given m c Cert.Kernel12Ideal.main_arg13 e13) (given m c Cert.Kernel12Ideal.main_arg19 e19))))
      · exact h2.trans ((val_main_v144_eq _).trans ((res2 _ _ _ _).trans (delta_congr (host0 m c e2) (host2 m c e8) (host4 m c e14) (host6 m c e20))))
      · exact h3.trans ((val_main_v95_eq _).trans ((res3 _ _ _ _).trans (delta_congr (given m c Cert.Kernel12Ideal.main_arg3 e3) (given m c Cert.Kernel12Ideal.main_arg9 e9) (given m c Cert.Kernel12Ideal.main_arg15 e15) (given m c Cert.Kernel12Ideal.main_arg21 e21))))
      · exact h4.trans ((val_main_v119_eq _).trans ((res4 _ _ _ _).trans (delta_congr (given m c Cert.Kernel12Ideal.main_arg4 e4) (given m c Cert.Kernel12Ideal.main_arg10 e10) (given m c Cert.Kernel12Ideal.main_arg16 e16) (given m c Cert.Kernel12Ideal.main_arg22 e22))))
      · exact h5.trans ((val_main_v145_eq _).trans ((res5 _ _ _ _).trans (delta_congr (host1 m c e5) (host3 m c e11) (host5 m c e17) (host7 m c e23))))
      · exact h6.trans ((val_main_v4_eq _).trans ((res6 _ _).trans (first_congr (given m c Cert.Kernel12Ideal.main_arg6 e6) (given m c Cert.Kernel12Ideal.main_arg12 e12))))
      · exact h7.trans ((val_main_v28_eq _).trans ((res7 _ _).trans (first_congr (given m c Cert.Kernel12Ideal.main_arg7 e7) (given m c Cert.Kernel12Ideal.main_arg13 e13))))
      · exact h8.trans ((val_main_v146_eq _).trans ((res8 _ _).trans (first_congr (host2 m c e8) (host4 m c e14))))
      · exact h9.trans ((val_main_v76_eq _).trans ((res9 _ _).trans (first_congr (given m c Cert.Kernel12Ideal.main_arg9 e9) (given m c Cert.Kernel12Ideal.main_arg15 e15))))
      · exact h10.trans ((val_main_v100_eq _).trans ((res10 _ _).trans (first_congr (given m c Cert.Kernel12Ideal.main_arg10 e10) (given m c Cert.Kernel12Ideal.main_arg16 e16))))
      · exact h11.trans ((val_main_v147_eq _).trans ((res11 _ _).trans (first_congr (host3 m c e11) (host5 m c e17))))
      · exact h12.trans ((val_main_v10_eq _).trans ((res12 _ _).trans (second_congr (given m c Cert.Kernel12Ideal.main_arg6 e6) (given m c Cert.Kernel12Ideal.main_arg18 e18))))
      · exact h13.trans ((val_main_v34_eq _).trans ((res13 _ _).trans (second_congr (given m c Cert.Kernel12Ideal.main_arg7 e7) (given m c Cert.Kernel12Ideal.main_arg19 e19))))
      · exact h14.trans ((val_main_v148_eq _).trans ((res14 _ _).trans (second_congr (host2 m c e8) (host6 m c e20))))
      · exact h15.trans ((val_main_v82_eq _).trans ((res15 _ _).trans (second_congr (given m c Cert.Kernel12Ideal.main_arg9 e9) (given m c Cert.Kernel12Ideal.main_arg21 e21))))
      · exact h16.trans ((val_main_v106_eq _).trans ((res16 _ _).trans (second_congr (given m c Cert.Kernel12Ideal.main_arg10 e10) (given m c Cert.Kernel12Ideal.main_arg22 e22))))
      · exact h17.trans ((val_main_v149_eq _).trans ((res17 _ _).trans (second_congr (host3 m c e11) (host7 m c e23))))
      )
      (Cert.Reference12Ideal.Value.run (F := Ideal) m' g')⟩

end Cert.AdamClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Merge
public import proofs.«01_k».proof.Proof.FfnClaims
public import proofs.«01_k».proof.Proof.WgradGate
public import proofs.«01_k».proof.Proof.WgradDown
public import proofs.«01_k».proof.Proof.WgradIn
public import proofs.«01_k».proof.Proof.WgradOut
public import proofs.«01_k».proof.Proof.WgradBranch
public import proofs.«01_k».proof.Proof.MergeFwd
public import proofs.«01_k».proof.Proof.MixInFwd
public import proofs.«01_k».proof.Proof.MixInBwdClaims
public import proofs.«01_k».proof.Proof.FfnFwdClaims
public import proofs.«01_k».proof.Proof.AdamSmall
public import Idealize.ShloMosaic.Adequacy
public import Idealize.ShloMosaic.Init

@[expose] public section

noncomputable section

namespace Cert.Proof

open Idealize.ShloMosaic Idealize.SL.Sem Cert.Kernel

/-- The claim, for the gated merge's gradient (`proof/Proof/Merge.lean`), for the feed-forward gradient
    (`proof/Proof/FfnClaims.lean`) and for the weights' gradients (the feed-forward half's gate and up, its down, the mixer's input
    weight, its output weight and a branch's: `proof/Proof/WgradGate.lean`, `WgradDown`, `WgradIn`, `WgradOut`, `WgradBranch`), for the gated merge (`MergeFwd`),
    for the mixers' entry (`MixInFwd`) and its gradient (`MixInBwdClaims`), for the feed-forward half (`FfnFwdClaims`)
    and for the optimiser's step of the six small weights (`AdamSmall`):
    the frames of the kernel, of its idealization and of the reference, the (empty) list of rewrites, and the equality of the
    kernel's and the reference's results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite2.Gen.facts, Cert.Pre_finite11.Gen.facts,
  Cert.MergeClaims.frame_kernel, Cert.MergeClaims.frame_ideal, Cert.MergeClaims.frame_reference,
  Cert.FfnClaims.frame_kernel, Cert.FfnClaims.frame_ideal, Cert.FfnClaims.frame_ideal_pre,
  Cert.FfnClaims.frame_reference, Cert.FfnClaims.frame_reference_pre,
  Cert.WgradGate.frame_kernel, Cert.WgradGate.frame_ideal, Cert.WgradGate.frame_reference,
  Cert.WgradDown.frame_kernel, Cert.WgradDown.frame_ideal, Cert.WgradDown.frame_reference,
  Cert.WgradIn.frame_kernel, Cert.WgradIn.frame_ideal, Cert.WgradIn.frame_reference,
  Cert.WgradOut.frame_kernel, Cert.WgradOut.frame_ideal, Cert.WgradOut.frame_reference,
  Cert.WgradBranch.frame_kernel, Cert.WgradBranch.frame_ideal, Cert.WgradBranch.frame_reference,
  Cert.MixInBwdClaims.frame_kernel, Cert.MixInBwdClaims.frame_ideal, Cert.MixInBwdClaims.frame_reference,
  Cert.MergeFwdClaims.frame_kernel, Cert.MergeFwdClaims.frame_ideal, Cert.MergeFwdClaims.frame_reference,
  Cert.MixInFwdClaims.frame_kernel, Cert.MixInFwdClaims.frame_ideal, Cert.MixInFwdClaims.frame_reference,
  Cert.FfnFwdClaims.frame_kernel, Cert.FfnFwdClaims.frame_ideal, Cert.FfnFwdClaims.frame_ideal_pre,
  Cert.FfnFwdClaims.frame_reference, Cert.FfnFwdClaims.frame_reference_pre,
  Cert.AdamClaims.frame_kernel, Cert.AdamClaims.frame_ideal, Cert.AdamClaims.frame_reference,
  trivial, Cert.MergeClaims.algebraic, trivial, Cert.FfnClaims.algebraic,
  trivial, Cert.WgradGate.algebraic,
  trivial, Cert.WgradDown.algebraic,
  trivial, Cert.WgradIn.algebraic,
  trivial, Cert.WgradOut.algebraic,
  trivial, Cert.WgradBranch.algebraic,
  trivial, Cert.MixInBwdClaims.algebraic,
  trivial, Cert.MergeFwdClaims.algebraic,
  trivial, Cert.MixInFwdClaims.algebraic,
  trivial, Cert.FfnFwdClaims.algebraic,
  trivial, Cert.AdamClaims.algebraic⟩

end Cert.Proof

end
